-- ==== Defs.lean ====
def Pre_Kernel [hPre_bins_in_order : Cert.Pre_bins_in_order.Facts] (m : (ℓ : Loc Cert.Kernel.nD Cert.Kernel.τ Cert.Kernel.sig) → Buf (Elt Bits) ℓ) : Prop :=
  ∀ c : Dev Cert.Kernel.nD,
    (Cert.Pre_bins_in_order.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_bins_in_order [hPre_bins_in_order : Cert.Pre_bins_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_bins_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_bins_in_order : Cert.Pre_bins_in_order.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bins_in_order [hKernelIdeal : Cert.KernelIdeal.Facts] [hPre_bins_in_order : Cert.Pre_bins_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bins_in_order m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bins_in_order : Cert.Pre_bins_in_order.Facts) (hPre_in_range : Cert.Pre_in_range.Facts),
    quiescent_Kernel (hKernel := hKernel) (hPre_bins_in_order := hPre_bins_in_order)
    ∧ quiescent_KernelIdeal (hKernelIdeal := hKernelIdeal) (hPre_in_range := hPre_in_range)
    ∧ quiescent_KernelIdeal_pre_bins_in_order (hKernelIdeal := hKernelIdeal) (hPre_bins_in_order := hPre_bins_in_order)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_bins_in_order.lean ====
abbrev S4x256x50x50 : Shape := ⟨4, ![4, 256, 50, 50]⟩
abbrev S4 : Shape := ⟨1, ![4]⟩
abbrev S4x256x4 : Shape := ⟨3, ![4, 256, 4]⟩
abbrev S1024x4 : Shape := ⟨2, ![1024, 4]⟩
abbrev S1024x1 : Shape := ⟨2, ![1024, 1]⟩
abbrev S1024 : Shape := ⟨1, ![1024]⟩
abbrev S_ : Shape := ⟨0, ![]⟩
abbrev S7 : Shape := ⟨1, ![7]⟩
abbrev S1x7 : Shape := ⟨2, ![1, 7]⟩
abbrev S1024x7 : Shape := ⟨2, ![1024, 7]⟩
abbrev S4x256 : Shape := ⟨2, ![4, 256]⟩
abbrev S1024x32 : Shape := ⟨2, ![1024, 32]⟩

class Facts : Prop where
  shapeCasts_S4x256x4_S1024x4 : S4x256x4.ShapeCasts S1024x4
  slices_S1024x4_S1024x1_0_0 : S1024x4.Slices ![0, 0] S1024x1
  shapeCasts_S1024x1_S1024 : S1024x1.ShapeCasts S1024
  bcast_S_S1024 : S_.BroadcastsInDim S1024 (![] : Fin 0 → Fin S1024.rank)
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  bcast_S7_S1x7_1 : S7.BroadcastsInDim S1x7 (![1] : Fin 1 → Fin S1x7.rank)
  bcast_S1024_S1024x1_0 : S1024.BroadcastsInDim S1024x1 (![0] : Fin 1 → Fin S1024x1.rank)
  bcast_S1x7_S1024x7_0_1 : S1x7.BroadcastsInDim S1024x7 (![0, 1] : Fin 2 → Fin S1024x7.rank)
  bcast_S1024x1_S1024x7_0_1 : S1024x1.BroadcastsInDim S1024x7 (![0, 1] : Fin 2 → Fin S1024x7.rank)
  bcast_S_S1024x7 : S_.BroadcastsInDim S1024x7 (![] : Fin 0 → Fin S1024x7.rank)
  bcast_S_S1x7 : S_.BroadcastsInDim S1x7 (![] : Fin 0 → Fin S1x7.rank)
  bcast_S4_S4x256_0 : S4.BroadcastsInDim S4x256 (![0] : Fin 1 → Fin S4x256.rank)
  shapeCasts_S4x256_S1024 : S4x256.ShapeCasts S1024
  bcast_S_S1024x1 : S_.BroadcastsInDim S1024x1 (![] : Fin 0 → Fin S1024x1.rank)
  concatenates_S1024x7_S1024x1_S1024x7_S1024x1_S1024x7_S1024x1_S1024x7_S1024x1_S1024x32_d1 : Shape.Concatenates [S1024x7, S1024x1, S1024x7, S1024x1, S1024x7, S1024x1, S1024x7, S1024x1] S1024x32 1
  slices_S1024x32_S1024x7_0_16 : S1024x32.Slices ![0, 16] S1024x7
  reducesTo_S4_S_d0 : S4.ReducesTo [0] S_
  h_S_ : 0 < S_.numel
  bcast_S_S4 : S_.BroadcastsInDim S4 (![] : Fin 0 → Fin S4.rank)
  slices_S1024x7_S1024x1_0_0 : S1024x7.Slices ![0, 0] S1024x1
  reducesTo_S1024x7_S_d0_1 : S1024x7.ReducesTo [0, 1] S_

variable [Facts]

noncomputable abbrev lit0 : Fin 4 → BitVec 32 := fun
  | 0 => 0#32 | 1 => 0#32 | 2 => 2#32 | 3 => 2#32
  | _ => 0#32

def fn_round {F : FTy → Type} [FloatOps F] (arg0 : FVec F S1024 .f32) : FVec F S1024 .f32 :=
  let v0 : FVec F S1024 .f32 := Host.roundeven arg0
  v0

def fn_clip {F : FTy → Type} [FloatOps F] (arg0 : IVec S1024x7 32) (arg1 : IVec S_ 32) (arg2 : IVec S_ 32) : IVec S1024x7 32 :=
  let v0 : IVec S_ 32 := id arg1
  let v1 : IVec S1024x7 32 := broadcastInDim S1024x7 ![] bcast_S_S1024x7 v0
  let v2 : IVec S1024x7 32 := maxsi v1 arg0
  let v3 : IVec S_ 32 := id arg2
  let v4 : IVec S1024x7 32 := broadcastInDim S1024x7 ![] bcast_S_S1024x7 v3
  let v5 : IVec S1024x7 32 := minsi v4 v2
  v5

def fn_part5 {F : FTy → Type} [FloatOps F] (main_arg1 : FVec F S4 .f32) (main_c : IVec S4 32) (main_v97 : IVec S1024x32 32) : IVec S_ 1 :=
  let main_v98 : IVec S1024x7 32 := (extractStridedSlice S1024x7 ![0, 16] · slices_S1024x32_S1024x7_0_16) main_v97
  let main_v99 : IVec S4 32 := fptosi 32 main_arg1
  let main_v100 : IVec S4 1 := cmpi .sge main_v99 main_c
  let main_c_20 : IVec S_ 1 := constantI S_ 1 1#1
  let main_v101 : IVec S_ 1 := (fun x v => Host.reduce IntOp.andi x v reducesTo_S4_S_d0 h_S_) main_v100 main_c_20
  let main_c_21 : IVec S_ 32 := constantI S_ 32 1#32
  let main_v102 : IVec S4 32 := broadcastInDim S4 ![] bcast_S_S4 main_c_21
  let main_v103 : IVec S4 32 := addi main_c main_v102
  let main_v104 : IVec S4 1 := cmpi .sle main_v99 main_v103
  let main_c_22 : IVec S_ 1 := constantI S_ 1 1#1
  let main_v105 : IVec S_ 1 := (fun x v => Host.reduce IntOp.andi x v reducesTo_S4_S_d0 h_S_) main_v104 main_c_22
  let main_v106 : IVec S_ 1 := andi main_v101 main_v105
  let main_v107 : IVec S1024x1 32 := (extractStridedSlice S1024x1 ![0, 0] · slices_S1024x7_S1024x1_0_0) main_v98
  let main_v108 : IVec S1024x7 32 := broadcastInDim S1024x7 ![0, 1] bcast_S1024x1_S1024x7_0_1 main_v107
  let main_v109 : IVec S1024x7 1 := cmpi .sge main_v98 main_v108
  let main_c_23 : IVec S_ 1 := constantI S_ 1 1#1
  let main_v110 : IVec S_ 1 := (fun x v => Host.reduce IntOp.andi x v reducesTo_S1024x7_S_d0_1 h_S_) main_v109 main_c_23
  let main_v111 : IVec S_ 1 := andi main_v106 main_v110
  main_v111

def fn_part4 {F : FTy → Type} [FloatOps F] (main_arg1 : FVec F S4 .f32) (main_c : IVec S4 32) (main_v6 : IVec S1024 32) (main_v40 : FVec F S1024 .f32) (main_v52 : IVec S1024x7 32) (main_v65 : IVec S1024x7 32) (main_v76 : IVec S1024x7 32) (main_v77 : FVec F S1x7 .f32) : IVec S_ 1 :=
  let main_cst_16 : FVec F S_ .f32 := constant S_ .f32 0x3F800000#32
  let main_v78 : FVec F S1x7 .f32 := broadcastInDim S1x7 ![] bcast_S_S1x7 main_cst_16
  let main_v79 : FVec F S1x7 .f32 := addf main_v77 main_v78
  let main_v80 : FVec F S1024x1 .f32 := broadcastInDim S1024x1 ![0] bcast_S1024_S1024x1_0 main_v40
  let main_v81 : FVec F S1024x7 .f32 := broadcastInDim S1024x7 ![0, 1] bcast_S1x7_S1024x7_0_1 main_v79
  let main_v82 : FVec F S1024x7 .f32 := broadcastInDim S1024x7 ![0, 1] bcast_S1024x1_S1024x7_0_1 main_v80
  let main_v83 : FVec F S1024x7 .f32 := mulf main_v81 main_v82
  let main_v84 : FVec F S1024x7 .f32 := Host.ceil main_v83
  let main_v85 : IVec S1024x7 32 := fptosi 32 main_v84
  let main_v86 : IVec S1024x1 32 := broadcastInDim S1024x1 ![0] bcast_S1024_S1024x1_0 main_v6
  let main_v87 : IVec S1024x7 32 := broadcastInDim S1024x7 ![0, 1] bcast_S1024x1_S1024x7_0_1 main_v86
  let main_v88 : IVec S1024x7 32 := addi main_v85 main_v87
  let main_c_17 : IVec S_ 32 := constantI S_ 32 0#32
  let main_c_18 : IVec S_ 32 := constantI S_ 32 50#32
  let main_v89 : IVec S1024x7 32 := fn_clip (F := F) main_v88 main_c_17 main_c_18
  let main_v90 : IVec S1024x7 32 := subi main_v65 main_v52
  let main_v91 : IVec S1024x7 32 := subi main_v89 main_v76
  let main_v92 : IVec S4 32 := fptosi 32 main_arg1
  let main_v93 : IVec S4x256 32 := broadcastInDim S4x256 ![0] bcast_S4_S4x256_0 main_v92
  let main_v94 : IVec S1024 32 := shapeCast S1024 main_v93 shapeCasts_S4x256_S1024
  let main_c_19 : IVec S_ 32 := constantI S_ 32 0#32
  let main_v95 : IVec S1024x1 32 := broadcastInDim S1024x1 ![] bcast_S_S1024x1 main_c_19
  let main_v96 : IVec S1024x1 32 := broadcastInDim S1024x1 ![0] bcast_S1024_S1024x1_0 main_v94
  let main_v97 : IVec S1024x32 32 := concatenate S1024x32 1 [⟨S1024x7, main_v52⟩, ⟨S1024x1, main_v95⟩, ⟨S1024x7, main_v90⟩, ⟨S1024x1, main_v95⟩, ⟨S1024x7, main_v76⟩, ⟨S1024x1, main_v95⟩, ⟨S1024x7, main_v91⟩, ⟨S1024x1, main_v96⟩] concatenates_S1024x7_S1024x1_S1024x7_S1024x1_S1024x7_S1024x1_S1024x7_S1024x1_S1024x32_d1
  fn_part5 (F := F) main_arg1 main_c main_v97

def fn_part3 {F : FTy → Type} [FloatOps F] (main_arg1 : FVec F S4 .f32) (main_c : IVec S4 32) (main_v6 : IVec S1024 32) (main_v12 : IVec S1024 32) (main_v40 : FVec F S1024 .f32) (main_v41 : FVec F S7 .f32) (main_v52 : IVec S1024x7 32) (main_v56 : FVec F S1024x1 .f32) (main_v57 : FVec F S1024x7 .f32) : IVec S_ 1 :=
  let main_v58 : FVec F S1024x7 .f32 := broadcastInDim S1024x7 ![0, 1] bcast_S1024x1_S1024x7_0_1 main_v56
  let main_v59 : FVec F S1024x7 .f32 := mulf main_v57 main_v58
  let main_v60 : FVec F S1024x7 .f32 := Host.ceil main_v59
  let main_v61 : IVec S1024x7 32 := fptosi 32 main_v60
  let main_v62 : IVec S1024x1 32 := broadcastInDim S1024x1 ![0] bcast_S1024_S1024x1_0 main_v12
  let main_v63 : IVec S1024x7 32 := broadcastInDim S1024x7 ![0, 1] bcast_S1024x1_S1024x7_0_1 main_v62
  let main_v64 : IVec S1024x7 32 := addi main_v61 main_v63
  let main_c_12 : IVec S_ 32 := constantI S_ 32 0#32
  let main_c_13 : IVec S_ 32 := constantI S_ 32 50#32
  let main_v65 : IVec S1024x7 32 := fn_clip (F := F) main_v64 main_c_12 main_c_13
  let main_v66 : FVec F S1x7 .f32 := broadcastInDim S1x7 ![1] bcast_S7_S1x7_1 main_v41
  let main_v67 : FVec F S1024x1 .f32 := broadcastInDim S1024x1 ![0] bcast_S1024_S1024x1_0 main_v40
  let main_v68 : FVec F S1024x7 .f32 := broadcastInDim S1024x7 ![0, 1] bcast_S1x7_S1024x7_0_1 main_v66
  let main_v69 : FVec F S1024x7 .f32 := broadcastInDim S1024x7 ![0, 1] bcast_S1024x1_S1024x7_0_1 main_v67
  let main_v70 : FVec F S1024x7 .f32 := mulf main_v68 main_v69
  let main_v71 : FVec F S1024x7 .f32 := Host.floor main_v70
  let main_v72 : IVec S1024x7 32 := fptosi 32 main_v71
  let main_v73 : IVec S1024x1 32 := broadcastInDim S1024x1 ![0] bcast_S1024_S1024x1_0 main_v6
  let main_v74 : IVec S1024x7 32 := broadcastInDim S1024x7 ![0, 1] bcast_S1024x1_S1024x7_0_1 main_v73
  let main_v75 : IVec S1024x7 32 := addi main_v72 main_v74
  let main_c_14 : IVec S_ 32 := constantI S_ 32 0#32
  let main_c_15 : IVec S_ 32 := constantI S_ 32 50#32
  let main_v76 : IVec S1024x7 32 := fn_clip (F := F) main_v75 main_c_14 main_c_15
  let main_v77 : FVec F S1x7 .f32 := broadcastInDim S1x7 ![1] bcast_S7_S1x7_1 main_v41
  fn_part4 (F := F) main_arg1 main_c main_v6 main_v40 main_v52 main_v65 main_v76 main_v77

def fn_part2 {F : FTy → Type} [FloatOps F] (main_arg1 : FVec F S4 .f32) (main_c : IVec S4 32) (main_v6 : IVec S1024 32) (main_v12 : IVec S1024 32) (main_v30 : FVec F S1024 .f32) (main_v36 : FVec F S1024 .f32) (main_v37 : FVec F S1024 .f32) : IVec S_ 1 :=
  let main_v38 : FVec F S1024 .f32 := Host.divf main_v36 main_v37
  let main_cst_8 : FVec F S_ .f32 := constant S_ .f32 0x40E00000#32
  let main_v39 : FVec F S1024 .f32 := broadcastInDim S1024 ![] bcast_S_S1024 main_cst_8
  let main_v40 : FVec F S1024 .f32 := Host.divf main_v30 main_v39
  let main_v41 : FVec F S7 .f32 := sitofp .f32 (iotaInDim S7 32 0)
  let main_v42 : FVec F S1x7 .f32 := broadcastInDim S1x7 ![1] bcast_S7_S1x7_1 main_v41
  let main_v43 : FVec F S1024x1 .f32 := broadcastInDim S1024x1 ![0] bcast_S1024_S1024x1_0 main_v38
  let main_v44 : FVec F S1024x7 .f32 := broadcastInDim S1024x7 ![0, 1] bcast_S1x7_S1024x7_0_1 main_v42
  let main_v45 : FVec F S1024x7 .f32 := broadcastInDim S1024x7 ![0, 1] bcast_S1024x1_S1024x7_0_1 main_v43
  let main_v46 : FVec F S1024x7 .f32 := mulf main_v44 main_v45
  let main_v47 : FVec F S1024x7 .f32 := Host.floor main_v46
  let main_v48 : IVec S1024x7 32 := fptosi 32 main_v47
  let main_v49 : IVec S1024x1 32 := broadcastInDim S1024x1 ![0] bcast_S1024_S1024x1_0 main_v12
  let main_v50 : IVec S1024x7 32 := broadcastInDim S1024x7 ![0, 1] bcast_S1024x1_S1024x7_0_1 main_v49
  let main_v51 : IVec S1024x7 32 := addi main_v48 main_v50
  let main_c_9 : IVec S_ 32 := constantI S_ 32 0#32
  let main_c_10 : IVec S_ 32 := constantI S_ 32 50#32
  let main_v52 : IVec S1024x7 32 := fn_clip (F := F) main_v51 main_c_9 main_c_10
  let main_v53 : FVec F S1x7 .f32 := broadcastInDim S1x7 ![1] bcast_S7_S1x7_1 main_v41
  let main_cst_11 : FVec F S_ .f32 := constant S_ .f32 0x3F800000#32
  let main_v54 : FVec F S1x7 .f32 := broadcastInDim S1x7 ![] bcast_S_S1x7 main_cst_11
  let main_v55 : FVec F S1x7 .f32 := addf main_v53 main_v54
  let main_v56 : FVec F S1024x1 .f32 := broadcastInDim S1024x1 ![0] bcast_S1024_S1024x1_0 main_v38
  let main_v57 : FVec F S1024x7 .f32 := broadcastInDim S1024x7 ![0, 1] bcast_S1x7_S1024x7_0_1 main_v55
  fn_part3 (F := F) main_arg1 main_c main_v6 main_v12 main_v40 main_v41 main_v52 main_v56 main_v57

def fn_part1 {F : FTy → Type} [FloatOps F] (main_arg1 : FVec F S4 .f32) (main_c : IVec S4 32) (main_v6 : IVec S1024 32) (main_v12 : IVec S1024 32) (main_v18 : IVec S1024 32) (main_v19 : FVec F S1024x1 .f32) : IVec S_ 1 :=
  let main_v20 : FVec F S1024 .f32 := shapeCast S1024 main_v19 shapeCasts_S1024x1_S1024
  let main_cst_2 : FVec F S_ .f32 := constant S_ .f32 0x3D800000#32
  let main_v21 : FVec F S1024 .f32 := broadcastInDim S1024 ![] bcast_S_S1024 main_cst_2
  let main_v22 : FVec F S1024 .f32 := mulf main_v20 main_v21
  let main_v23 : FVec F S1024 .f32 := fn_round (F := F) main_v22
  let main_v24 : IVec S1024 32 := fptosi 32 main_v23
  let main_v25 : IVec S1024 32 := subi main_v18 main_v6
  let main_c_3 : IVec S_ 32 := constantI S_ 32 1#32
  let main_v26 : IVec S1024 32 := broadcastInDim S1024 ![] bcast_S_S1024 main_c_3
  let main_v27 : IVec S1024 32 := addi main_v25 main_v26
  let main_c_4 : IVec S_ 32 := constantI S_ 32 1#32
  let main_v28 : IVec S1024 32 := broadcastInDim S1024 ![] bcast_S_S1024 main_c_4
  let main_v29 : IVec S1024 32 := maxsi main_v27 main_v28
  let main_v30 : FVec F S1024 .f32 := sitofp .f32 main_v29
  let main_v31 : IVec S1024 32 := subi main_v24 main_v12
  let main_c_5 : IVec S_ 32 := constantI S_ 32 1#32
  let main_v32 : IVec S1024 32 := broadcastInDim S1024 ![] bcast_S_S1024 main_c_5
  let main_v33 : IVec S1024 32 := addi main_v31 main_v32
  let main_c_6 : IVec S_ 32 := constantI S_ 32 1#32
  let main_v34 : IVec S1024 32 := broadcastInDim S1024 ![] bcast_S_S1024 main_c_6
  let main_v35 : IVec S1024 32 := maxsi main_v33 main_v34
  let main_v36 : FVec F S1024 .f32 := sitofp .f32 main_v35
  let main_cst_7 : FVec F S_ .f32 := constant S_ .f32 0x40E00000#32
  let main_v37 : FVec F S1024 .f32 := broadcastInDim S1024 ![] bcast_S_S1024 main_cst_7
  fn_part2 (F := F) main_arg1 main_c main_v6 main_v12 main_v30 main_v36 main_v37

def fn {F : FTy → Type} [FloatOps F] (main_arg0 : FVec F S4x256x50x50 .f32) (main_arg1 : FVec F S4 .f32) (main_arg2 : FVec F S4x256x4 .f32) : IVec S_ 1 :=
  let main_c : IVec S4 32 := fun i => lit0 (S4.rowMajor i)
  let main_v0 : FVec F S1024x4 .f32 := shapeCast S1024x4 main_arg2 shapeCasts_S4x256x4_S1024x4
  let main_v1 : FVec F S1024x1 .f32 := (extractStridedSlice S1024x1 ![0, 0] · slices_S1024x4_S1024x1_0_0) main_v0
  let main_v2 : FVec F S1024 .f32 := shapeCast S1024 main_v1 shapeCasts_S1024x1_S1024
  let main_cst : FVec F S_ .f32 := constant S_ .f32 0x3D800000#32
  let main_v3 : FVec F S1024 .f32 := broadcastInDim S1024 ![] bcast_S_S1024 main_cst
  let main_v4 : FVec F S1024 .f32 := mulf main_v2 main_v3
  let main_v5 : FVec F S1024 .f32 := fn_round (F := F) main_v4
  let main_v6 : IVec S1024 32 := fptosi 32 main_v5
  let main_v7 : FVec F S1024x1 .f32 := (extractStridedSlice S1024x1 ![0, 1] · slices_S1024x4_S1024x1_0_1) main_v0
  let main_v8 : FVec F S1024 .f32 := shapeCast S1024 main_v7 shapeCasts_S1024x1_S1024
  let main_cst_0 : FVec F S_ .f32 := constant S_ .f32 0x3D800000#32
  let main_v9 : FVec F S1024 .f32 := broadcastInDim S1024 ![] bcast_S_S1024 main_cst_0
  let main_v10 : FVec F S1024 .f32 := mulf main_v8 main_v9
  let main_v11 : FVec F S1024 .f32 := fn_round (F := F) main_v10
  let main_v12 : IVec S1024 32 := fptosi 32 main_v11
  let main_v13 : FVec F S1024x1 .f32 := (extractStridedSlice S1024x1 ![0, 2] · slices_S1024x4_S1024x1_0_2) main_v0
  let main_v14 : FVec F S1024 .f32 := shapeCast S1024 main_v13 shapeCasts_S1024x1_S1024
  let main_cst_1 : FVec F S_ .f32 := constant S_ .f32 0x3D800000#32
  let main_v15 : FVec F S1024 .f32 := broadcastInDim S1024 ![] bcast_S_S1024 main_cst_1
  let main_v16 : FVec F S1024 .f32 := mulf main_v14 main_v15
  let main_v17 : FVec F S1024 .f32 := fn_round (F := F) main_v16
  let main_v18 : IVec S1024 32 := fptosi 32 main_v17
  let main_v19 : FVec F S1024x1 .f32 := (extractStridedSlice S1024x1 ![0, 3] · slices_S1024x4_S1024x1_0_3) main_v0
  fn_part1 (F := F) main_arg1 main_c main_v6 main_v12 main_v18 main_v19
-- ==== Pre_in_range.lean ====
abbrev S4x256x50x50 : Shape := ⟨4, ![4, 256, 50, 50]⟩
abbrev S4 : Shape := ⟨1, ![4]⟩
abbrev S4x256x4 : Shape := ⟨3, ![4, 256, 4]⟩
abbrev S_ : Shape := ⟨0, ![]⟩

class Facts : Prop where
  reducesTo_S4_S_d0 : S4.ReducesTo [0] S_
  h_S_ : 0 < S_.numel
  bcast_S_S4 : S_.BroadcastsInDim S4 (![] : Fin 0 → Fin S4.rank)
  bcast_S_S4x256x4 : S_.BroadcastsInDim S4x256x4 (![] : Fin 0 → Fin S4x256x4.rank)
  reducesTo_S4x256x4_S_d0_1_2 : S4x256x4.ReducesTo [0, 1, 2] S_

variable [Facts]

noncomputable abbrev lit0 : Fin 4 → BitVec 32 := fun
  | 0 => 0#32 | 1 => 0#32 | 2 => 2#32 | 3 => 2#32
  | _ => 0#32

def fn {F : FTy → Type} [FloatOps F] (main_arg0 : FVec F S4x256x50x50 .f32) (main_arg1 : FVec F S4 .f32) (main_arg2 : FVec F S4x256x4 .f32) : IVec S_ 1 :=
  let main_c : IVec S4 32 := fun i => lit0 (S4.rowMajor i)
  let main_v0 : IVec S4 32 := fptosi 32 main_arg1
  let main_v1 : IVec S4 1 := cmpi .sge main_v0 main_c
  let main_c_0 : IVec S_ 1 := constantI S_ 1 1#1
  let main_v2 : IVec S_ 1 := (fun x v => Host.reduce IntOp.andi x v reducesTo_S4_S_d0 h_S_) main_v1 main_c_0
  let main_c_1 : IVec S_ 32 := constantI S_ 32 1#32
  let main_v3 : IVec S4 32 := broadcastInDim S4 ![] bcast_S_S4 main_c_1
  let main_v4 : IVec S4 32 := addi main_c main_v3
  let main_v5 : IVec S4 1 := cmpi .sle main_v0 main_v4
  let main_c_2 : IVec S_ 1 := constantI S_ 1 1#1
  let main_v6 : IVec S_ 1 := (fun x v => Host.reduce IntOp.andi x v reducesTo_S4_S_d0 h_S_) main_v5 main_c_2
  let main_v7 : IVec S_ 1 := andi main_v2 main_v6
  let main_cst : FVec F S_ .f32 := constant S_ .f32 0x00000000#32
  let main_v8 : FVec F S4x256x4 .f32 := broadcastInDim S4x256x4 ![] bcast_S_S4x256x4 main_cst
  let main_v9 : IVec S4x256x4 1 := cmpf .oge main_arg2 main_v8
  let main_c_3 : IVec S_ 1 := constantI S_ 1 1#1
  let main_v10 : IVec S_ 1 := (fun x v => Host.reduce IntOp.andi x v reducesTo_S4x256x4_S_d0_1_2 h_S_) main_v9 main_c_3
  let main_v11 : IVec S_ 1 := andi main_v7 main_v10
  let main_cst_4 : FVec F S_ .f32 := constant S_ .f32 0x44480000#32
  let main_v12 : FVec F S4x256x4 .f32 := broadcastInDim S4x256x4 ![] bcast_S_S4x256x4 main_cst_4
  let main_v13 : IVec S4x256x4 1 := cmpf .ole main_arg2 main_v12
  let main_c_5 : IVec S_ 1 := constantI S_ 1 1#1
  let main_v14 : IVec S_ 1 := (fun x v => Host.reduce IntOp.andi x v reducesTo_S4x256x4_S_d0_1_2 h_S_) main_v13 main_c_5
  let main_v15 : IVec S_ 1 := andi main_v11 main_v14
  main_v15
-- ==== Kernel.lean ====
abbrev S4x256x50x50 : Shape := ⟨4, ![4, 256, 50, 50]⟩
abbrev S4 : Shape := ⟨1, ![4]⟩
abbrev S4x256x4 : Shape := ⟨3, ![4, 256, 4]⟩
abbrev S256x4x50x50 : Shape := ⟨4, ![256, 4, 50, 50]⟩
abbrev S16x16x4x50x50 : Shape := ⟨5, ![16, 16, 4, 50, 50]⟩
abbrev S16x4x50x50x16 : Shape := ⟨5, ![16, 4, 50, 50, 16]⟩
abbrev S16x160000 : Shape := ⟨2, ![16, 160000]⟩
abbrev S1024x4 : Shape := ⟨2, ![1024, 4]⟩
abbrev S1024x1 : Shape := ⟨2, ![1024, 1]⟩
abbrev S1024 : Shape := ⟨1, ![1024]⟩
abbrev S_ : Shape := ⟨0, ![]⟩
abbrev S7 : Shape := ⟨1, ![7]⟩
abbrev S1x7 : Shape := ⟨2, ![1, 7]⟩
abbrev S1024x7 : Shape := ⟨2, ![1024, 7]⟩
abbrev S4x256 : Shape := ⟨2, ![4, 256]⟩
abbrev S1024x32 : Shape := ⟨2, ![1024, 32]⟩
abbrev S32768 : Shape := ⟨1, ![32768]⟩
abbrev S1024x16x896 : Shape := ⟨3, ![1024, 16, 896]⟩
abbrev S80896 : Shape := ⟨1, ![80896]⟩
abbrev S16384 : Shape := ⟨1, ![16384]⟩
abbrev S7x880 : Shape := ⟨2, ![7, 880]⟩
abbrev S1792 : Shape := ⟨1, ![1792]⟩
abbrev S80000 : Shape := ⟨1, ![80000]⟩
abbrev S1x80000 : Shape := ⟨2, ![1, 80000]⟩
abbrev S16 : Shape := ⟨1, ![16]⟩
abbrev S1x16 : Shape := ⟨2, ![1, 16]⟩
abbrev S896 : Shape := ⟨1, ![896]⟩
abbrev S1x1x896 : Shape := ⟨3, ![1, 1, 896]⟩
abbrev S1 : Shape := ⟨1, ![1]⟩
abbrev S1024x16x784 : Shape := ⟨3, ![1024, 16, 784]⟩
abbrev S1024x16x49x16 : Shape := ⟨4, ![1024, 16, 49, 16]⟩
abbrev S1024x16x16x49 : Shape := ⟨4, ![1024, 16, 16, 49]⟩
abbrev S1024x256x7x7 : Shape := ⟨4, ![1024, 256, 7, 7]⟩

abbrev nBuf : Table → Nat
  | .hbm => 152
  | .local .scVector .vmem => 4
  | _ => 0

abbrev hbmTy0_0 (i : Nat) : BufTy := match i % 128 with
  | 0 => ⟨S4x256x50x50, .f32⟩
  | 1 => ⟨S4, .f32⟩
  | 2 => ⟨S4x256x4, .f32⟩
  | 3 => ⟨S256x4x50x50, .f32⟩
  | 4 => ⟨S16x16x4x50x50, .f32⟩
  | 5 => ⟨S16x4x50x50x16, .f32⟩
  | 6 => ⟨S16x160000, .f32⟩
  | 7 => ⟨S1024x4, .f32⟩
  | 8 => ⟨S1024x1, .f32⟩
  | 9 => ⟨S1024, .f32⟩
  | 10 => ⟨S_, .f32⟩
  | 11 => ⟨S1024, .f32⟩
  | 12 => ⟨S1024, .f32⟩
  | 13 => ⟨S1024, .f32⟩
  | 14 => ⟨S1024, .i32⟩
  | 15 => ⟨S1024x1, .f32⟩
  | 16 => ⟨S1024, .f32⟩
  | 17 => ⟨S_, .f32⟩
  | 18 => ⟨S1024, .f32⟩
  | 19 => ⟨S1024, .f32⟩
  | 20 => ⟨S1024, .f32⟩
  | 21 => ⟨S1024, .i32⟩
  | 22 => ⟨S1024x1, .f32⟩
  | 23 => ⟨S1024, .f32⟩
  | 24 => ⟨S_, .f32⟩
  | 25 => ⟨S1024, .f32⟩
  | 26 => ⟨S1024, .f32⟩
  | 27 => ⟨S1024, .f32⟩
  | 28 => ⟨S1024, .i32⟩
  | 29 => ⟨S1024x1, .f32⟩
  | 30 => ⟨S1024, .f32⟩
  | 31 => ⟨S_, .f32⟩
  | 32 => ⟨S1024, .f32⟩
  | 33 => ⟨S1024, .f32⟩
  | 34 => ⟨S1024, .f32⟩
  | 35 => ⟨S1024, .i32⟩
  | 36 => ⟨S1024, .i32⟩
  | 37 => ⟨S_, .i32⟩
  | 38 => ⟨S1024, .i32⟩
  | 39 => ⟨S1024, .i32⟩
  | 40 => ⟨S_, .i32⟩
  | 41 => ⟨S1024, .i32⟩
  | 42 => ⟨S1024, .i32⟩
  | 43 => ⟨S1024, .f32⟩
  | 44 => ⟨S1024, .i32⟩
  | 45 => ⟨S_, .i32⟩
  | 46 => ⟨S1024, .i32⟩
  | 47 => ⟨S1024, .i32⟩
  | 48 => ⟨S_, .i32⟩
  | 49 => ⟨S1024, .i32⟩
  | 50 => ⟨S1024, .i32⟩
  | 51 => ⟨S1024, .f32⟩
  | 52 => ⟨S_, .f32⟩
  | 53 => ⟨S1024, .f32⟩
  | 54 => ⟨S1024, .f32⟩
  | 55 => ⟨S_, .f32⟩
  | 56 => ⟨S1024, .f32⟩
  | 57 => ⟨S1024, .f32⟩
  | 58 => ⟨S7, .f32⟩
  | 59 => ⟨S1x7, .f32⟩
  | 60 => ⟨S1024x1, .f32⟩
  | 61 => ⟨S1024x7, .f32⟩
  | 62 => ⟨S1024x7, .f32⟩
  | 63 => ⟨S1024x7, .f32⟩
  | 64 => ⟨S1024x7, .f32⟩
  | 65 => ⟨S1024x7, .i32⟩
  | 66 => ⟨S1024x1, .i32⟩
  | 67 => ⟨S1024x7, .i32⟩
  | 68 => ⟨S1024x7, .i32⟩
  | 69 => ⟨S_, .i32⟩
  | 70 => ⟨S_, .i32⟩
  | 71 => ⟨S_, .i32⟩
  | 72 => ⟨S1024x7, .i32⟩
  | 73 => ⟨S1024x7, .i32⟩
  | 74 => ⟨S_, .i32⟩
  | 75 => ⟨S1024x7, .i32⟩
  | 76 => ⟨S1024x7, .i32⟩
  | 77 => ⟨S1x7, .f32⟩
  | 78 => ⟨S_, .f32⟩
  | 79 => ⟨S1x7, .f32⟩
  | 80 => ⟨S1x7, .f32⟩
  | 81 => ⟨S1024x1, .f32⟩
  | 82 => ⟨S1024x7, .f32⟩
  | 83 => ⟨S1024x7, .f32⟩
  | 84 => ⟨S1024x7, .f32⟩
  | 85 => ⟨S1024x7, .f32⟩
  | 86 => ⟨S1024x7, .i32⟩
  | 87 => ⟨S1024x1, .i32⟩
  | 88 => ⟨S1024x7, .i32⟩
  | 89 => ⟨S1024x7, .i32⟩
  | 90 => ⟨S_, .i32⟩
  | 91 => ⟨S_, .i32⟩
  | 92 => ⟨S_, .i32⟩
  | 93 => ⟨S1024x7, .i32⟩
  | 94 => ⟨S1024x7, .i32⟩
  | 95 => ⟨S_, .i32⟩
  | 96 => ⟨S1024x7, .i32⟩
  | 97 => ⟨S1024x7, .i32⟩
  | 98 => ⟨S1x7, .f32⟩
  | 99 => ⟨S1024x1, .f32⟩
  | 100 => ⟨S1024x7, .f32⟩
  | 101 => ⟨S1024x7, .f32⟩
  | 102 => ⟨S1024x7, .f32⟩
  | 103 => ⟨S1024x7, .f32⟩
  | 104 => ⟨S1024x7, .i32⟩
  | 105 => ⟨S1024x1, .i32⟩
  | 106 => ⟨S1024x7, .i32⟩
  | 107 => ⟨S1024x7, .i32⟩
  | 108 => ⟨S_, .i32⟩
  | 109 => ⟨S_, .i32⟩
  | 110 => ⟨S_, .i32⟩
  | 111 => ⟨S1024x7, .i32⟩
  | 112 => ⟨S1024x7, .i32⟩
  | 113 => ⟨S_, .i32⟩
  | 114 => ⟨S1024x7, .i32⟩
  | 115 => ⟨S1024x7, .i32⟩
  | 116 => ⟨S1x7, .f32⟩
  | 117 => ⟨S_, .f32⟩
  | 118 => ⟨S1x7, .f32⟩
  | 119 => ⟨S1x7, .f32⟩
  | 120 => ⟨S1024x1, .f32⟩
  | 121 => ⟨S1024x7, .f32⟩
  | 122 => ⟨S1024x7, .f32⟩
  | 123 => ⟨S1024x7, .f32⟩
  | 124 => ⟨S1024x7, .f32⟩
  | 125 => ⟨S1024x7, .i32⟩
  | 126 => ⟨S1024x1, .i32⟩
  | 127 => ⟨S1024x7, .i32⟩
  | _ => ⟨S4x256x50x50, .f32⟩

abbrev hbmTy0_1 (i : Nat) : BufTy := match i % 128 with
  | 0 => ⟨S1024x7, .i32⟩
  | 1 => ⟨S_, .i32⟩
  | 2 => ⟨S_, .i32⟩
  | 3 => ⟨S_, .i32⟩
  | 4 => ⟨S1024x7, .i32⟩
  | 5 => ⟨S1024x7, .i32⟩
  | 6 => ⟨S_, .i32⟩
  | 7 => ⟨S1024x7, .i32⟩
  | 8 => ⟨S1024x7, .i32⟩
  | 9 => ⟨S1024x7, .i32⟩
  | 10 => ⟨S1024x7, .i32⟩
  | 11 => ⟨S4, .i32⟩
  | 12 => ⟨S4x256, .i32⟩
  | 13 => ⟨S1024, .i32⟩
  | 14 => ⟨S_, .i32⟩
  | 15 => ⟨S1024x1, .i32⟩
  | 16 => ⟨S1024x1, .i32⟩
  | 17 => ⟨S1024x32, .i32⟩
  | 18 => ⟨S32768, .i32⟩
  | 19 => ⟨S1024x16x896, .f32⟩
  | 20 => ⟨S1024x16x784, .f32⟩
  | 21 => ⟨S1024x16x49x16, .f32⟩
  | 22 => ⟨S1024x16x16x49, .f32⟩
  | 23 => ⟨S1024x256x7x7, .f32⟩
  | _ => ⟨S4x256x50x50, .f32⟩

abbrev hbmTy (i : Nat) : BufTy := match i / 128 with
  | 0 => hbmTy0_0 i
  | 1 => hbmTy0_1 i
  | _ => ⟨S4x256x50x50, .f32⟩

abbrev bufTy : (tb : Table) → Fin (nBuf tb) → BufTy
  | .hbm, ⟨i, _⟩ => hbmTy i
  | .local .scVector .vmem, ⟨0, _⟩ => ⟨S80896, .f32⟩
  | .local .scVector .vmem, ⟨1, _⟩ => ⟨S16384, .i32⟩
  | .local .scVector .vmem, ⟨2, _⟩ => ⟨S7x880, .f32⟩
  | .local .scVector .vmem, ⟨3, _⟩ => ⟨S1792, .f32⟩
  | _, _ => ⟨S4x256x50x50, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_c_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_8 : Ref sig .tc := ⟨.hbm, 69, rfl⟩
abbrev main_c_9 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_11 : Ref sig .tc := ⟨.hbm, 90, rfl⟩
abbrev main_c_12 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_13 : Ref sig .tc := ⟨.hbm, 108, rfl⟩
abbrev main_c_14 : Ref sig .tc := ⟨.hbm, 109, rfl⟩
abbrev main_call6_v0 : Ref sig .tc := ⟨.hbm, 110, rfl⟩
abbrev main_call6_v1 : Ref sig .tc := ⟨.hbm, 111, rfl⟩
abbrev main_call6_v2 : Ref sig .tc := ⟨.hbm, 112, rfl⟩
abbrev main_call6_v3 : Ref sig .tc := ⟨.hbm, 113, rfl⟩
abbrev main_call6_v4 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_16 : Ref sig .tc := ⟨.hbm, 129, rfl⟩
abbrev main_c_17 : Ref sig .tc := ⟨.hbm, 130, rfl⟩
abbrev main_call7_v0 : Ref sig .tc := ⟨.hbm, 131, rfl⟩
abbrev main_call7_v1 : Ref sig .tc := ⟨.hbm, 132, rfl⟩
abbrev main_call7_v2 : Ref sig .tc := ⟨.hbm, 133, rfl⟩
abbrev main_call7_v3 : Ref sig .tc := ⟨.hbm, 134, rfl⟩
abbrev main_call7_v4 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_18 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v3_scv : Ref sig .scVector := ⟨.hbm, 6, rfl⟩
abbrev main_v102_scv : Ref sig .scVector := ⟨.hbm, 146, rfl⟩
abbrev main_v103_scv : Ref sig .scVector := ⟨.hbm, 147, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let arg0 : BitVec 32 := BitVec.ofNat 32 (i 0).val
  let c80000_i32 : BitVec 32 := 80000#32
  let v0 : BitVec 32 := Scalar.muli arg0 c80000_i32
  ![arg1.toNat, v0.toNat]
def k0_off2 (i : grid0.Coords) : Fin 1 → Nat :=
  let arg0 : BitVec 32 := BitVec.ofNat 32 (i 0).val
  let c16384_i32 : BitVec 32 := 16384#32
  let v1 : BitVec 32 := Scalar.muli arg0 c16384_i32
  ![v1.toNat]
@[reducible] def k0_t1_loop : Scf.Loop 32 :=
  let c0_i32_8 : BitVec 32 := 0#32
  let c256_i32 : BitVec 32 := 256#32
  let v32 : BitVec 32 := Scalar.addi c0_i32_8 c256_i32
  let c1_i32_9 : BitVec 32 := 1#32
  ⟨c0_i32_8, v32, c1_i32_9⟩
def k0_cond1 (k0_t1 : Fin k0_t1_loop.trips) : BitVec 1 :=
  let c0_i32_8 : BitVec 32 := 0#32
  let c1_i32_9 : BitVec 32 := 1#32
  let arg11 : BitVec 32 := Scf.iv c0_i32_8 c1_i32_9 k0_t1
  let c1_i32_27 : BitVec 32 := 1#32
  let v56 : BitVec 1 := Scalar.cmpi .sge arg11 c1_i32_27
  let v57 : BitVec 32 := Scalar.extui v56
  let c0_i32_28 : BitVec 32 := 0#32
  let v58 : BitVec 1 := Scalar.cmpi .ne v57 c0_i32_28
  v58

def k0_off3 (i : grid0.Coords) (k0_t1 : Fin k0_t1_loop.trips) : Fin 3 → Nat :=
  let arg0 : BitVec 32 := BitVec.ofNat 32 (i 0).val
  let c512_i32_1528 : BitVec 32 := 512#32
  let v6162 : BitVec 32 := Scalar.muli arg0 c512_i32_1528
  let c0_i32_8 : BitVec 32 := 0#32
  let c1_i32_9 : BitVec 32 := 1#32
  let arg11 : BitVec 32 := Scf.iv c0_i32_8 c1_i32_9 k0_t1
  let c1_i32_1529 : BitVec 32 := 1#32
  let v6163 : BitVec 32 := Scalar.subi arg11 c1_i32_1529
  let c2_i32_1530 : BitVec 32 := 2#32
  let v6164 : BitVec 32 := Scalar.muli v6163 c2_i32_1530
  let v6165 : BitVec 32 := Scalar.addi v6162 v6164
  let c0_i32_1531 : BitVec 32 := 0#32
  let v6166 : BitVec 32 := Scalar.addi v6165 c0_i32_1531
  let arg1 : BitVec 32 := BitVec.ofNat 32 (i 1).val
  let c0_i32_1533 : BitVec 32 := 0#32
  ![v6166.toNat, arg1.toNat, 0]
def k0_off4 (k0_t1 : Fin k0_t1_loop.trips) : Fin 1 → Nat :=
  let c0_i32_8 : BitVec 32 := 0#32
  let c1_i32_9 : BitVec 32 := 1#32
  let arg11 : BitVec 32 := Scf.iv c0_i32_8 c1_i32_9 k0_t1
  let c2_i32_25 : BitVec 32 := 2#32
  let v54 : BitVec 32 := Scalar.muli arg11 c2_i32_25
  let c0_i32_26 : BitVec 32 := 0#32
  let v55 : BitVec 32 := Scalar.addi v54 c0_i32_26
  let c32_i32 : BitVec 32 := 32#32
  let v59 : BitVec 32 := Scalar.muli v55 c32_i32
  let v60 : Index := Scalar.indexCast v59
  ![v60.toNat]
def k0_off5 (k0_t1 : Fin k0_t1_loop.trips) : Fin 1 → Nat :=
  let c0_i32_8 : BitVec 32 := 0#32
  let c1_i32_9 : BitVec 32 := 1#32
  let arg11 : BitVec 32 := Scf.iv c0_i32_8 c1_i32_9 k0_t1
  let c2_i32_25 : BitVec 32 := 2#32
  let v54 : BitVec 32 := Scalar.muli arg11 c2_i32_25
  let c0_i32_26 : BitVec 32 := 0#32
  let v55 : BitVec 32 := Scalar.addi v54 c0_i32_26
  let c32_i32 : BitVec 32 := 32#32
  let v59 : BitVec 32 := Scalar.muli v55 c32_i32
  let c16_i32 : BitVec 32 := 16#32
  let v63 : BitVec 32 := Scalar.addi v59 c16_i32
  let v64 : Index := Scalar.indexCast v63
  ![v64.toNat]
@[reducible] def k0_t2_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond2 (v100 : BitVec 32) : BitVec 1 :=
  let c0_i32_39 : BitVec 32 := 0#32
  let v106 : BitVec 1 := Scalar.cmpi .sgt v100 c0_i32_39
  let v107 : BitVec 32 := Scalar.extui v106
  let c0_i32_40 : BitVec 32 := 0#32
  let v108 : BitVec 1 := Scalar.cmpi .ne v107 c0_i32_40
  v108

def k0_off6 (i : grid0.Coords) (v68 : BitVec 32) (v72 : BitVec 32) (v74 : BitVec 32) (v76 : BitVec 32) (v98 : BitVec 32) (k0_t2 : Fin (k0_t2_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32 : BitVec 32 := 2500#32
  let v101 : BitVec 32 := Scalar.muli v70 c2500_i32
  let c50_i32 : BitVec 32 := 50#32
  let v102 : BitVec 32 := Scalar.muli v98 c50_i32
  let v103 : BitVec 32 := Scalar.addi v101 v102
  let v104 : BitVec 32 := Scalar.addi v103 v72
  let c16_i32_38 : BitVec 32 := 16#32
  let v105 : BitVec 32 := Scalar.muli v104 c16_i32_38
  let c0_i32_1528 : BitVec 32 := 0#32
  let c1_i32_1531 : BitVec 32 := 1#32
  let arg13 : BitVec 32 := Scf.iv c0_i32_1528 c1_i32_1531 k0_t2
  let c64_i32 : BitVec 32 := 64#32
  let v6169 : BitVec 32 := Scalar.muli arg13 c64_i32
  let v6170 : BitVec 32 := Scalar.addi v105 v6169
  let v6171 : BitVec 32 := Scalar.addi v6170 c0_i32_1533
  let v6172 : Index := Scalar.indexCast v6171
  ![v6172.toNat]
@[reducible] def k0_t3_loop (v100 : BitVec 32) : Scf.Loop 32 :=
  let c1_i32_1536 : BitVec 32 := 1#32
  let v6187 : BitVec 32 := Scalar.subi v100 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off7 (i : grid0.Coords) (v68 : BitVec 32) (v72 : BitVec 32) (v74 : BitVec 32) (v76 : BitVec 32) (v98 : BitVec 32) (v100 : BitVec 32) (k0_t2 : Fin (k0_t2_loop v72 v74 v76).trips) (k0_t3 : Fin (k0_t3_loop v100).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32 : BitVec 32 := 2500#32
  let v101 : BitVec 32 := Scalar.muli v70 c2500_i32
  let c50_i32 : BitVec 32 := 50#32
  let v102 : BitVec 32 := Scalar.muli v98 c50_i32
  let v103 : BitVec 32 := Scalar.addi v101 v102
  let v104 : BitVec 32 := Scalar.addi v103 v72
  let c16_i32_38 : BitVec 32 := 16#32
  let v105 : BitVec 32 := Scalar.muli v104 c16_i32_38
  let c0_i32_1528 : BitVec 32 := 0#32
  let c1_i32_1531 : BitVec 32 := 1#32
  let arg13 : BitVec 32 := Scf.iv c0_i32_1528 c1_i32_1531 k0_t2
  let c64_i32 : BitVec 32 := 64#32
  let v6169 : BitVec 32 := Scalar.muli arg13 c64_i32
  let v6170 : BitVec 32 := Scalar.addi v105 v6169
  let c1_i32_1536 : BitVec 32 := 1#32
  let c1_i32_1538 : BitVec 32 := 1#32
  let arg15 : BitVec 32 := Scf.iv c1_i32_1536 c1_i32_1538 k0_t3
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t4_loop (v100 : BitVec 32) : Scf.Loop 32 :=
  let c1_i32_1536 : BitVec 32 := 1#32
  let v6187 : BitVec 32 := Scalar.subi v100 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off8 (i : grid0.Coords) (v68 : BitVec 32) (v72 : BitVec 32) (v74 : BitVec 32) (v76 : BitVec 32) (v98 : BitVec 32) (v100 : BitVec 32) (k0_t2 : Fin (k0_t2_loop v72 v74 v76).trips) (k0_t4 : Fin (k0_t4_loop v100).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32 : BitVec 32 := 2500#32
  let v101 : BitVec 32 := Scalar.muli v70 c2500_i32
  let c50_i32 : BitVec 32 := 50#32
  let v102 : BitVec 32 := Scalar.muli v98 c50_i32
  let v103 : BitVec 32 := Scalar.addi v101 v102
  let v104 : BitVec 32 := Scalar.addi v103 v72
  let c16_i32_38 : BitVec 32 := 16#32
  let v105 : BitVec 32 := Scalar.muli v104 c16_i32_38
  let c0_i32_1528 : BitVec 32 := 0#32
  let c1_i32_1531 : BitVec 32 := 1#32
  let arg13 : BitVec 32 := Scf.iv c0_i32_1528 c1_i32_1531 k0_t2
  let c64_i32 : BitVec 32 := 64#32
  let v6169 : BitVec 32 := Scalar.muli arg13 c64_i32
  let v6170 : BitVec 32 := Scalar.addi v105 v6169
  let c1_i32_1536 : BitVec 32 := 1#32
  let v6187 : BitVec 32 := Scalar.subi v100 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t4
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off9 (v72 : BitVec 32) (v74 : BitVec 32) (v76 : BitVec 32) (k0_t2 : Fin (k0_t2_loop v72 v74 v76).trips) (c0_i32_1541 : BitVec 32) : Fin 2 → Nat :=
  let c0_i32_1542 : BitVec 32 := 0#32
  let v6196 : Index := Scalar.indexCast c0_i32_1542
  let c0_i32_1528 : BitVec 32 := 0#32
  let c1_i32_1531 : BitVec 32 := 1#32
  let arg13 : BitVec 32 := Scf.iv c0_i32_1528 c1_i32_1531 k0_t2
  let c64_i32_1540 : BitVec 32 := 64#32
  let v6194 : BitVec 32 := Scalar.muli arg13 c64_i32_1540
  let v6195 : BitVec 32 := Scalar.addi v6194 c0_i32_1541
  let v6197 : Index := Scalar.indexCast v6195
  ![0, v6197.toNat]
@[reducible] def k0_t5_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off10 (i : grid0.Coords) (v68 : BitVec 32) (v72 : BitVec 32) (v74 : BitVec 32) (v76 : BitVec 32) (v98 : BitVec 32) (k0_t5 : Fin (k0_t5_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32 : BitVec 32 := 2500#32
  let v101 : BitVec 32 := Scalar.muli v70 c2500_i32
  let c50_i32 : BitVec 32 := 50#32
  let v102 : BitVec 32 := Scalar.muli v98 c50_i32
  let v103 : BitVec 32 := Scalar.addi v101 v102
  let v104 : BitVec 32 := Scalar.addi v103 v72
  let c16_i32_38 : BitVec 32 := 16#32
  let v105 : BitVec 32 := Scalar.muli v104 c16_i32_38
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t5
  let c64_i32 : BitVec 32 := 64#32
  let v6169 : BitVec 32 := Scalar.muli arg13 c64_i32
  let v6170 : BitVec 32 := Scalar.addi v105 v6169
  let v6171 : BitVec 32 := Scalar.addi v6170 c0_i32_1533
  let v6172 : Index := Scalar.indexCast v6171
  ![v6172.toNat]
@[reducible] def k0_t6_loop (v100 : BitVec 32) : Scf.Loop 32 :=
  let c1_i32_1536 : BitVec 32 := 1#32
  let v6187 : BitVec 32 := Scalar.subi v100 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off11 (i : grid0.Coords) (v68 : BitVec 32) (v72 : BitVec 32) (v74 : BitVec 32) (v76 : BitVec 32) (v98 : BitVec 32) (v100 : BitVec 32) (k0_t5 : Fin (k0_t5_loop v72 v74 v76).trips) (k0_t6 : Fin (k0_t6_loop v100).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32 : BitVec 32 := 2500#32
  let v101 : BitVec 32 := Scalar.muli v70 c2500_i32
  let c50_i32 : BitVec 32 := 50#32
  let v102 : BitVec 32 := Scalar.muli v98 c50_i32
  let v103 : BitVec 32 := Scalar.addi v101 v102
  let v104 : BitVec 32 := Scalar.addi v103 v72
  let c16_i32_38 : BitVec 32 := 16#32
  let v105 : BitVec 32 := Scalar.muli v104 c16_i32_38
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t5
  let c64_i32 : BitVec 32 := 64#32
  let v6169 : BitVec 32 := Scalar.muli arg13 c64_i32
  let v6170 : BitVec 32 := Scalar.addi v105 v6169
  let c1_i32_1536 : BitVec 32 := 1#32
  let c1_i32_1538 : BitVec 32 := 1#32
  let arg15 : BitVec 32 := Scf.iv c1_i32_1536 c1_i32_1538 k0_t6
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t7_loop (v100 : BitVec 32) : Scf.Loop 32 :=
  let c1_i32_1536 : BitVec 32 := 1#32
  let v6187 : BitVec 32 := Scalar.subi v100 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off12 (i : grid0.Coords) (v68 : BitVec 32) (v72 : BitVec 32) (v74 : BitVec 32) (v76 : BitVec 32) (v98 : BitVec 32) (v100 : BitVec 32) (k0_t5 : Fin (k0_t5_loop v72 v74 v76).trips) (k0_t7 : Fin (k0_t7_loop v100).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32 : BitVec 32 := 2500#32
  let v101 : BitVec 32 := Scalar.muli v70 c2500_i32
  let c50_i32 : BitVec 32 := 50#32
  let v102 : BitVec 32 := Scalar.muli v98 c50_i32
  let v103 : BitVec 32 := Scalar.addi v101 v102
  let v104 : BitVec 32 := Scalar.addi v103 v72
  let c16_i32_38 : BitVec 32 := 16#32
  let v105 : BitVec 32 := Scalar.muli v104 c16_i32_38
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t5
  let c64_i32 : BitVec 32 := 64#32
  let v6169 : BitVec 32 := Scalar.muli arg13 c64_i32
  let v6170 : BitVec 32 := Scalar.addi v105 v6169
  let c1_i32_1536 : BitVec 32 := 1#32
  let v6187 : BitVec 32 := Scalar.subi v100 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t7
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off13 (v72 : BitVec 32) (v74 : BitVec 32) (v76 : BitVec 32) (k0_t5 : Fin (k0_t5_loop v72 v74 v76).trips) (c0_i32_1541 : BitVec 32) : Fin 2 → Nat :=
  let c0_i32_1542 : BitVec 32 := 0#32
  let v6196 : Index := Scalar.indexCast c0_i32_1542
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t5
  let c64_i32_1540 : BitVec 32 := 64#32
  let v6194 : BitVec 32 := Scalar.muli arg13 c64_i32_1540
  let v6195 : BitVec 32 := Scalar.addi v6194 c0_i32_1541
  let v6197 : Index := Scalar.indexCast v6195
  ![0, v6197.toNat]
@[reducible] def k0_t8_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond3 (v100 : BitVec 32) : BitVec 1 :=
  let c0_i32_41 : BitVec 32 := 0#32
  let v109 : BitVec 1 := Scalar.cmpi .eq v100 c0_i32_41
  let v110 : BitVec 32 := Scalar.extui v109
  let c0_i32_42 : BitVec 32 := 0#32
  let v111 : BitVec 1 := Scalar.cmpi .ne v110 c0_i32_42
  v111

def k0_off14 (v72 : BitVec 32) (v74 : BitVec 32) (v76 : BitVec 32) (k0_t8 : Fin (k0_t8_loop v72 v74 v76).trips) (c0_i32_1533 : BitVec 32) : Fin 2 → Nat :=
  let c0_i32_1534 : BitVec 32 := 0#32
  let v6171 : Index := Scalar.indexCast c0_i32_1534
  let c0_i32_1528 : BitVec 32 := 0#32
  let c1_i32_1531 : BitVec 32 := 1#32
  let arg13 : BitVec 32 := Scf.iv c0_i32_1528 c1_i32_1531 k0_t8
  let c64_i32 : BitVec 32 := 64#32
  let v6169 : BitVec 32 := Scalar.muli arg13 c64_i32
  let v6170 : BitVec 32 := Scalar.addi v6169 c0_i32_1533
  let v6172 : Index := Scalar.indexCast v6170
  ![0, v6172.toNat]
@[reducible] def k0_t9_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off15 (v72 : BitVec 32) (v74 : BitVec 32) (v76 : BitVec 32) (k0_t9 : Fin (k0_t9_loop v72 v74 v76).trips) (c0_i32_1533 : BitVec 32) : Fin 2 → Nat :=
  let c0_i32_1534 : BitVec 32 := 0#32
  let v6171 : Index := Scalar.indexCast c0_i32_1534
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t9
  let c64_i32 : BitVec 32 := 64#32
  let v6169 : BitVec 32 := Scalar.muli arg13 c64_i32
  let v6170 : BitVec 32 := Scalar.addi v6169 c0_i32_1533
  let v6172 : Index := Scalar.indexCast v6170
  ![0, v6172.toNat]

def k0_chk1 (i : grid0.Coords) (v68 : BitVec 32) (v72 : BitVec 32) (v74 : BitVec 32) (v76 : BitVec 32) (v98 : BitVec 32) (v100 : BitVec 32) : Prop :=
  (∀ (k0_h2 : k0_cond2 v100 = 1#1), (k0_t2_loop v72 v74 v76).OK) ∧
  (∀ k0_t2 : Fin (k0_t2_loop v72 v74 v76).trips, ∀ (k0_h2 : k0_cond2 v100 = 1#1), ∀ (r : Fin 4), ∀ a, (k0_off6 i v68 v72 v74 v76 v98 k0_t2 (BitVec.ofNat 32 (16 * r.val))) a + S16.size a ≤ S80896.size a) ∧
  (∀ k0_t2 : Fin (k0_t2_loop v72 v74 v76).trips, ∀ (k0_h2 : k0_cond2 v100 = 1#1), (k0_t3_loop v100).OK) ∧
  (∀ (k0_t2 : Fin (k0_t2_loop v72 v74 v76).trips) (k0_t3 : Fin (k0_t3_loop v100).trips), ∀ (k0_h2 : k0_cond2 v100 = 1#1), ∀ (r : Fin 4), ∀ a, (k0_off7 i v68 v72 v74 v76 v98 v100 k0_t2 k0_t3 (BitVec.ofNat 32 (16 * r.val))) a + S16.size a ≤ S80896.size a) ∧
  (∀ k0_t2 : Fin (k0_t2_loop v72 v74 v76).trips, ∀ (k0_h2 : k0_cond2 v100 = 1#1), (k0_t4_loop v100).OK) ∧
  (∀ (k0_t2 : Fin (k0_t2_loop v72 v74 v76).trips) (k0_t4 : Fin (k0_t4_loop v100).trips), ∀ (k0_h2 : k0_cond2 v100 = 1#1), ∀ (r : Fin 4), ∀ a, (k0_off8 i v68 v72 v74 v76 v98 v100 k0_t2 k0_t4 (BitVec.ofNat 32 (16 * r.val))) a + S16.size a ≤ S80896.size a) ∧
  (∀ k0_t2 : Fin (k0_t2_loop v72 v74 v76).trips, ∀ (k0_h2 : k0_cond2 v100 = 1#1), ∀ (r : Fin 4), ∀ a, (k0_off9 v72 v74 v76 k0_t2 (BitVec.ofNat 32 (16 * r.val))) a + S1x16.size a ≤ S7x880.size a) ∧
  (∀ (k0_h2 : k0_cond2 v100 = 1#1), (k0_t5_loop v72 v74 v76).OK) ∧
  (∀ k0_t5 : Fin (k0_t5_loop v72 v74 v76).trips, ∀ (k0_h2 : k0_cond2 v100 = 1#1), ∀ (r : Fin 4), ∀ a, (k0_off10 i v68 v72 v74 v76 v98 k0_t5 (BitVec.ofNat 32 (16 * r.val))) a + S16.size a ≤ S80896.size a) ∧
  (∀ k0_t5 : Fin (k0_t5_loop v72 v74 v76).trips, ∀ (k0_h2 : k0_cond2 v100 = 1#1), (k0_t6_loop v100).OK) ∧
  (∀ (k0_t5 : Fin (k0_t5_loop v72 v74 v76).trips) (k0_t6 : Fin (k0_t6_loop v100).trips), ∀ (k0_h2 : k0_cond2 v100 = 1#1), ∀ (r : Fin 4), ∀ a, (k0_off11 i v68 v72 v74 v76 v98 v100 k0_t5 k0_t6 (BitVec.ofNat 32 (16 * r.val))) a + S16.size a ≤ S80896.size a) ∧
  (∀ k0_t5 : Fin (k0_t5_loop v72 v74 v76).trips, ∀ (k0_h2 : k0_cond2 v100 = 1#1), (k0_t7_loop v100).OK) ∧
  (∀ (k0_t5 : Fin (k0_t5_loop v72 v74 v76).trips) (k0_t7 : Fin (k0_t7_loop v100).trips), ∀ (k0_h2 : k0_cond2 v100 = 1#1), ∀ (r : Fin 4), ∀ a, (k0_off12 i v68 v72 v74 v76 v98 v100 k0_t5 k0_t7 (BitVec.ofNat 32 (16 * r.val))) a + S16.size a ≤ S80896.size a) ∧
  (∀ k0_t5 : Fin (k0_t5_loop v72 v74 v76).trips, ∀ (k0_h2 : k0_cond2 v100 = 1#1), ∀ (r : Fin 4), ∀ a, (k0_off13 v72 v74 v76 k0_t5 (BitVec.ofNat 32 (16 * r.val))) a + S1x16.size a ≤ S7x880.size a) ∧
  (∀ (k0_h3 : k0_cond3 v100 = 1#1), (k0_t8_loop v72 v74 v76).OK) ∧
  (∀ k0_t8 : Fin (k0_t8_loop v72 v74 v76).trips, ∀ (k0_h3 : k0_cond3 v100 = 1#1), ∀ (r : Fin 4), ∀ a, (k0_off14 v72 v74 v76 k0_t8 (BitVec.ofNat 32 (16 * r.val))) a + S1x16.size a ≤ S7x880.size a) ∧
  (∀ (k0_h3 : k0_cond3 v100 = 1#1), (k0_t9_loop v72 v74 v76).OK) ∧
  (∀ k0_t9 : Fin (k0_t9_loop v72 v74 v76).trips, ∀ (k0_h3 : k0_cond3 v100 = 1#1), ∀ (r : Fin 4), ∀ a, (k0_off15 v72 v74 v76 k0_t9 (BitVec.ofNat 32 (16 * r.val))) a + S1x16.size a ≤ S7x880.size a)
theorem k0_t2_ok : ∀ (i : grid0.Coords) (v68 : BitVec 32) (v72 : BitVec 32) (v74 : BitVec 32) (v76 : BitVec 32) (v98 : BitVec 32) (v100 : BitVec 32) (k0_hw1 : k0_chk1 i v68 v72 v74 v76 v98 v100), ∀ (k0_h2 : k0_cond2 v100 = 1#1), (k0_t2_loop v72 v74 v76).OK := fun i v68 v72 v74 v76 v98 v100 k0_hw1 k0_h2 => k0_hw1.1 k0_h2
theorem k0_off6_inb : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t2 : Fin (k0_t2_loop v72 v74 v76).trips), ∀ (k0_h2 : k0_cond2 v100 = 1#1), ∀ (r : Fin 4), ∀ a, (k0_off6 i v68 v72 v74 v76 v98 k0_t2 (BitVec.ofNat 32 (16 * r.val))) a + S16.size a ≤ S80896.size a := fun i v68 v72 v74 v76 v98 v100 k0_hw1 k0_t2 k0_h2 r => k0_hw1.2.1 k0_t2 k0_h2 r
theorem k0_t3_ok : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t2 : Fin (k0_t2_loop v72 v74 v76).trips), ∀ (k0_h2 : k0_cond2 v100 = 1#1), (k0_t3_loop v100).OK := fun i v68 v72 v74 v76 v98 v100 k0_hw1 k0_t2 k0_h2 => k0_hw1.2.2.1 k0_t2 k0_h2
theorem k0_off7_inb : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t2 : Fin (k0_t2_loop v72 v74 v76).trips) (k0_t3 : Fin (k0_t3_loop v100).trips), ∀ (k0_h2 : k0_cond2 v100 = 1#1), ∀ (r : Fin 4), ∀ a, (k0_off7 i v68 v72 v74 v76 v98 v100 k0_t2 k0_t3 (BitVec.ofNat 32 (16 * r.val))) a + S16.size a ≤ S80896.size a := fun i v68 v72 v74 v76 v98 v100 k0_hw1 k0_t2 k0_t3 k0_h2 r => k0_hw1.2.2.2.1 k0_t2 k0_t3 k0_h2 r
theorem k0_t4_ok : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t2 : Fin (k0_t2_loop v72 v74 v76).trips), ∀ (k0_h2 : k0_cond2 v100 = 1#1), (k0_t4_loop v100).OK := fun i v68 v72 v74 v76 v98 v100 k0_hw1 k0_t2 k0_h2 => k0_hw1.2.2.2.2.1 k0_t2 k0_h2
theorem k0_off8_inb : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t2 : Fin (k0_t2_loop v72 v74 v76).trips) (k0_t4 : Fin (k0_t4_loop v100).trips), ∀ (k0_h2 : k0_cond2 v100 = 1#1), ∀ (r : Fin 4), ∀ a, (k0_off8 i v68 v72 v74 v76 v98 v100 k0_t2 k0_t4 (BitVec.ofNat 32 (16 * r.val))) a + S16.size a ≤ S80896.size a := fun i v68 v72 v74 v76 v98 v100 k0_hw1 k0_t2 k0_t4 k0_h2 r => k0_hw1.2.2.2.2.2.1 k0_t2 k0_t4 k0_h2 r
theorem k0_off9_inb : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t2 : Fin (k0_t2_loop v72 v74 v76).trips), ∀ (k0_h2 : k0_cond2 v100 = 1#1), ∀ (r : Fin 4), ∀ a, (k0_off9 v72 v74 v76 k0_t2 (BitVec.ofNat 32 (16 * r.val))) a + S1x16.size a ≤ S7x880.size a := fun i v68 v72 v74 v76 v98 v100 k0_hw1 k0_t2 k0_h2 r => k0_hw1.2.2.2.2.2.2.1 k0_t2 k0_h2 r
theorem k0_t5_ok : ∀ (i : grid0.Coords) (v68 : BitVec 32) (v72 : BitVec 32) (v74 : BitVec 32) (v76 : BitVec 32) (v98 : BitVec 32) (v100 : BitVec 32) (k0_hw1 : k0_chk1 i v68 v72 v74 v76 v98 v100), ∀ (k0_h2 : k0_cond2 v100 = 1#1), (k0_t5_loop v72 v74 v76).OK := fun i v68 v72 v74 v76 v98 v100 k0_hw1 k0_h2 => k0_hw1.2.2.2.2.2.2.2.1 k0_h2
theorem k0_off10_inb : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t5 : Fin (k0_t5_loop v72 v74 v76).trips), ∀ (k0_h2 : k0_cond2 v100 = 1#1), ∀ (r : Fin 4), ∀ a, (k0_off10 i v68 v72 v74 v76 v98 k0_t5 (BitVec.ofNat 32 (16 * r.val))) a + S16.size a ≤ S80896.size a := fun i v68 v72 v74 v76 v98 v100 k0_hw1 k0_t5 k0_h2 r => k0_hw1.2.2.2.2.2.2.2.2.1 k0_t5 k0_h2 r
theorem k0_t6_ok : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t5 : Fin (k0_t5_loop v72 v74 v76).trips), ∀ (k0_h2 : k0_cond2 v100 = 1#1), (k0_t6_loop v100).OK := fun i v68 v72 v74 v76 v98 v100 k0_hw1 k0_t5 k0_h2 => k0_hw1.2.2.2.2.2.2.2.2.2.1 k0_t5 k0_h2
theorem k0_off11_inb : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t5 : Fin (k0_t5_loop v72 v74 v76).trips) (k0_t6 : Fin (k0_t6_loop v100).trips), ∀ (k0_h2 : k0_cond2 v100 = 1#1), ∀ (r : Fin 4), ∀ a, (k0_off11 i v68 v72 v74 v76 v98 v100 k0_t5 k0_t6 (BitVec.ofNat 32 (16 * r.val))) a + S16.size a ≤ S80896.size a := fun i v68 v72 v74 v76 v98 v100 k0_hw1 k0_t5 k0_t6 k0_h2 r => k0_hw1.2.2.2.2.2.2.2.2.2.2.1 k0_t5 k0_t6 k0_h2 r
theorem k0_t7_ok : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t5 : Fin (k0_t5_loop v72 v74 v76).trips), ∀ (k0_h2 : k0_cond2 v100 = 1#1), (k0_t7_loop v100).OK := fun i v68 v72 v74 v76 v98 v100 k0_hw1 k0_t5 k0_h2 => k0_hw1.2.2.2.2.2.2.2.2.2.2.2.1 k0_t5 k0_h2
theorem k0_off12_inb : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t5 : Fin (k0_t5_loop v72 v74 v76).trips) (k0_t7 : Fin (k0_t7_loop v100).trips), ∀ (k0_h2 : k0_cond2 v100 = 1#1), ∀ (r : Fin 4), ∀ a, (k0_off12 i v68 v72 v74 v76 v98 v100 k0_t5 k0_t7 (BitVec.ofNat 32 (16 * r.val))) a + S16.size a ≤ S80896.size a := fun i v68 v72 v74 v76 v98 v100 k0_hw1 k0_t5 k0_t7 k0_h2 r => k0_hw1.2.2.2.2.2.2.2.2.2.2.2.2.1 k0_t5 k0_t7 k0_h2 r
theorem k0_off13_inb : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t5 : Fin (k0_t5_loop v72 v74 v76).trips), ∀ (k0_h2 : k0_cond2 v100 = 1#1), ∀ (r : Fin 4), ∀ a, (k0_off13 v72 v74 v76 k0_t5 (BitVec.ofNat 32 (16 * r.val))) a + S1x16.size a ≤ S7x880.size a := fun i v68 v72 v74 v76 v98 v100 k0_hw1 k0_t5 k0_h2 r => k0_hw1.2.2.2.2.2.2.2.2.2.2.2.2.2.1 k0_t5 k0_h2 r
theorem k0_t8_ok : ∀ (i : grid0.Coords) (v68 : BitVec 32) (v72 : BitVec 32) (v74 : BitVec 32) (v76 : BitVec 32) (v98 : BitVec 32) (v100 : BitVec 32) (k0_hw1 : k0_chk1 i v68 v72 v74 v76 v98 v100), ∀ (k0_h3 : k0_cond3 v100 = 1#1), (k0_t8_loop v72 v74 v76).OK := fun i v68 v72 v74 v76 v98 v100 k0_hw1 k0_h3 => k0_hw1.2.2.2.2.2.2.2.2.2.2.2.2.2.2.1 k0_h3
theorem k0_off14_inb : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t8 : Fin (k0_t8_loop v72 v74 v76).trips), ∀ (k0_h3 : k0_cond3 v100 = 1#1), ∀ (r : Fin 4), ∀ a, (k0_off14 v72 v74 v76 k0_t8 (BitVec.ofNat 32 (16 * r.val))) a + S1x16.size a ≤ S7x880.size a := fun i v68 v72 v74 v76 v98 v100 k0_hw1 k0_t8 k0_h3 r => k0_hw1.2.2.2.2.2.2.2.2.2.2.2.2.2.2.2.1 k0_t8 k0_h3 r
theorem k0_t9_ok : ∀ (i : grid0.Coords) (v68 : BitVec 32) (v72 : BitVec 32) (v74 : BitVec 32) (v76 : BitVec 32) (v98 : BitVec 32) (v100 : BitVec 32) (k0_hw1 : k0_chk1 i v68 v72 v74 v76 v98 v100), ∀ (k0_h3 : k0_cond3 v100 = 1#1), (k0_t9_loop v72 v74 v76).OK := fun i v68 v72 v74 v76 v98 v100 k0_hw1 k0_h3 => k0_hw1.2.2.2.2.2.2.2.2.2.2.2.2.2.2.2.2.1 k0_h3
theorem k0_off15_inb : ∀ (i : grid0.Coords) (v68 : BitVec 32) (v72 : BitVec 32) (v74 : BitVec 32) (v76 : BitVec 32) (v98 : BitVec 32) (v100 : BitVec 32) (k0_hw1 : k0_chk1 i v68 v72 v74 v76 v98 v100) (k0_t9 : Fin (k0_t9_loop v72 v74 v76).trips), ∀ (k0_h3 : k0_cond3 v100 = 1#1), ∀ (r : Fin 4), ∀ a, (k0_off15 v72 v74 v76 k0_t9 (BitVec.ofNat 32 (16 * r.val))) a + S1x16.size a ≤ S7x880.size a := fun i v68 v72 v74 v76 v98 v100 k0_hw1 k0_t9 k0_h3 r => k0_hw1.2.2.2.2.2.2.2.2.2.2.2.2.2.2.2.2.2 k0_t9 k0_h3 r

@[reducible] def k0_t10_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond4 (v115 : BitVec 32) : BitVec 1 :=
  let c0_i32_46 : BitVec 32 := 0#32
  let v121 : BitVec 1 := Scalar.cmpi .sgt v115 c0_i32_46
  let v122 : BitVec 32 := Scalar.extui v121
  let c0_i32_47 : BitVec 32 := 0#32
  let v123 : BitVec 1 := Scalar.cmpi .ne v122 c0_i32_47
  v123

def k0_off16 (i : grid0.Coords) (v68 : BitVec 32) (v72 : BitVec 32) (v74 : BitVec 32) (v76 : BitVec 32) (v113 : BitVec 32) (k0_t10 : Fin (k0_t10_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_43 : BitVec 32 := 2500#32
  let v116 : BitVec 32 := Scalar.muli v70 c2500_i32_43
  let c50_i32_44 : BitVec 32 := 50#32
  let v117 : BitVec 32 := Scalar.muli v113 c50_i32_44
  let v118 : BitVec 32 := Scalar.addi v116 v117
  let v119 : BitVec 32 := Scalar.addi v118 v72
  let c16_i32_45 : BitVec 32 := 16#32
  let v120 : BitVec 32 := Scalar.muli v119 c16_i32_45
  let c0_i32_1528 : BitVec 32 := 0#32
  let c1_i32_1531 : BitVec 32 := 1#32
  let arg13 : BitVec 32 := Scf.iv c0_i32_1528 c1_i32_1531 k0_t10
  let c64_i32 : BitVec 32 := 64#32
  let v6169 : BitVec 32 := Scalar.muli arg13 c64_i32
  let v6170 : BitVec 32 := Scalar.addi v120 v6169
  let v6171 : BitVec 32 := Scalar.addi v6170 c0_i32_1533
  let v6172 : Index := Scalar.indexCast v6171
  ![v6172.toNat]
@[reducible] def k0_t11_loop (v115 : BitVec 32) : Scf.Loop 32 :=
  let c1_i32_1536 : BitVec 32 := 1#32
  let v6187 : BitVec 32 := Scalar.subi v115 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off17 (i : grid0.Coords) (v68 : BitVec 32) (v72 : BitVec 32) (v74 : BitVec 32) (v76 : BitVec 32) (v113 : BitVec 32) (v115 : BitVec 32) (k0_t10 : Fin (k0_t10_loop v72 v74 v76).trips) (k0_t11 : Fin (k0_t11_loop v115).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_43 : BitVec 32 := 2500#32
  let v116 : BitVec 32 := Scalar.muli v70 c2500_i32_43
  let c50_i32_44 : BitVec 32 := 50#32
  let v117 : BitVec 32 := Scalar.muli v113 c50_i32_44
  let v118 : BitVec 32 := Scalar.addi v116 v117
  let v119 : BitVec 32 := Scalar.addi v118 v72
  let c16_i32_45 : BitVec 32 := 16#32
  let v120 : BitVec 32 := Scalar.muli v119 c16_i32_45
  let c0_i32_1528 : BitVec 32 := 0#32
  let c1_i32_1531 : BitVec 32 := 1#32
  let arg13 : BitVec 32 := Scf.iv c0_i32_1528 c1_i32_1531 k0_t10
  let c64_i32 : BitVec 32 := 64#32
  let v6169 : BitVec 32 := Scalar.muli arg13 c64_i32
  let v6170 : BitVec 32 := Scalar.addi v120 v6169
  let c1_i32_1536 : BitVec 32 := 1#32
  let c1_i32_1538 : BitVec 32 := 1#32
  let arg15 : BitVec 32 := Scf.iv c1_i32_1536 c1_i32_1538 k0_t11
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t12_loop (v115 : BitVec 32) : Scf.Loop 32 :=
  let c1_i32_1536 : BitVec 32 := 1#32
  let v6187 : BitVec 32 := Scalar.subi v115 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off18 (i : grid0.Coords) (v68 : BitVec 32) (v72 : BitVec 32) (v74 : BitVec 32) (v76 : BitVec 32) (v113 : BitVec 32) (v115 : BitVec 32) (k0_t10 : Fin (k0_t10_loop v72 v74 v76).trips) (k0_t12 : Fin (k0_t12_loop v115).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_43 : BitVec 32 := 2500#32
  let v116 : BitVec 32 := Scalar.muli v70 c2500_i32_43
  let c50_i32_44 : BitVec 32 := 50#32
  let v117 : BitVec 32 := Scalar.muli v113 c50_i32_44
  let v118 : BitVec 32 := Scalar.addi v116 v117
  let v119 : BitVec 32 := Scalar.addi v118 v72
  let c16_i32_45 : BitVec 32 := 16#32
  let v120 : BitVec 32 := Scalar.muli v119 c16_i32_45
  let c0_i32_1528 : BitVec 32 := 0#32
  let c1_i32_1531 : BitVec 32 := 1#32
  let arg13 : BitVec 32 := Scf.iv c0_i32_1528 c1_i32_1531 k0_t10
  let c64_i32 : BitVec 32 := 64#32
  let v6169 : BitVec 32 := Scalar.muli arg13 c64_i32
  let v6170 : BitVec 32 := Scalar.addi v120 v6169
  let c1_i32_1536 : BitVec 32 := 1#32
  let v6187 : BitVec 32 := Scalar.subi v115 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t12
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off19 (v72 : BitVec 32) (v74 : BitVec 32) (v76 : BitVec 32) (k0_t10 : Fin (k0_t10_loop v72 v74 v76).trips) (c0_i32_1541 : BitVec 32) : Fin 2 → Nat :=
  let c1_i32_1542 : BitVec 32 := 1#32
  let v6196 : Index := Scalar.indexCast c1_i32_1542
  let c0_i32_1528 : BitVec 32 := 0#32
  let c1_i32_1531 : BitVec 32 := 1#32
  let arg13 : BitVec 32 := Scf.iv c0_i32_1528 c1_i32_1531 k0_t10
  let c64_i32_1540 : BitVec 32 := 64#32
  let v6194 : BitVec 32 := Scalar.muli arg13 c64_i32_1540
  let v6195 : BitVec 32 := Scalar.addi v6194 c0_i32_1541
  let v6197 : Index := Scalar.indexCast v6195
  ![1, v6197.toNat]
@[reducible] def k0_t13_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off20 (i : grid0.Coords) (v68 : BitVec 32) (v72 : BitVec 32) (v74 : BitVec 32) (v76 : BitVec 32) (v113 : BitVec 32) (k0_t13 : Fin (k0_t13_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_43 : BitVec 32 := 2500#32
  let v116 : BitVec 32 := Scalar.muli v70 c2500_i32_43
  let c50_i32_44 : BitVec 32 := 50#32
  let v117 : BitVec 32 := Scalar.muli v113 c50_i32_44
  let v118 : BitVec 32 := Scalar.addi v116 v117
  let v119 : BitVec 32 := Scalar.addi v118 v72
  let c16_i32_45 : BitVec 32 := 16#32
  let v120 : BitVec 32 := Scalar.muli v119 c16_i32_45
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t13
  let c64_i32 : BitVec 32 := 64#32
  let v6169 : BitVec 32 := Scalar.muli arg13 c64_i32
  let v6170 : BitVec 32 := Scalar.addi v120 v6169
  let v6171 : BitVec 32 := Scalar.addi v6170 c0_i32_1533
  let v6172 : Index := Scalar.indexCast v6171
  ![v6172.toNat]
@[reducible] def k0_t14_loop (v115 : BitVec 32) : Scf.Loop 32 :=
  let c1_i32_1536 : BitVec 32 := 1#32
  let v6187 : BitVec 32 := Scalar.subi v115 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off21 (i : grid0.Coords) (v68 : BitVec 32) (v72 : BitVec 32) (v74 : BitVec 32) (v76 : BitVec 32) (v113 : BitVec 32) (v115 : BitVec 32) (k0_t13 : Fin (k0_t13_loop v72 v74 v76).trips) (k0_t14 : Fin (k0_t14_loop v115).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_43 : BitVec 32 := 2500#32
  let v116 : BitVec 32 := Scalar.muli v70 c2500_i32_43
  let c50_i32_44 : BitVec 32 := 50#32
  let v117 : BitVec 32 := Scalar.muli v113 c50_i32_44
  let v118 : BitVec 32 := Scalar.addi v116 v117
  let v119 : BitVec 32 := Scalar.addi v118 v72
  let c16_i32_45 : BitVec 32 := 16#32
  let v120 : BitVec 32 := Scalar.muli v119 c16_i32_45
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t13
  let c64_i32 : BitVec 32 := 64#32
  let v6169 : BitVec 32 := Scalar.muli arg13 c64_i32
  let v6170 : BitVec 32 := Scalar.addi v120 v6169
  let c1_i32_1536 : BitVec 32 := 1#32
  let c1_i32_1538 : BitVec 32 := 1#32
  let arg15 : BitVec 32 := Scf.iv c1_i32_1536 c1_i32_1538 k0_t14
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t15_loop (v115 : BitVec 32) : Scf.Loop 32 :=
  let c1_i32_1536 : BitVec 32 := 1#32
  let v6187 : BitVec 32 := Scalar.subi v115 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off22 (i : grid0.Coords) (v68 : BitVec 32) (v72 : BitVec 32) (v74 : BitVec 32) (v76 : BitVec 32) (v113 : BitVec 32) (v115 : BitVec 32) (k0_t13 : Fin (k0_t13_loop v72 v74 v76).trips) (k0_t15 : Fin (k0_t15_loop v115).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_43 : BitVec 32 := 2500#32
  let v116 : BitVec 32 := Scalar.muli v70 c2500_i32_43
  let c50_i32_44 : BitVec 32 := 50#32
  let v117 : BitVec 32 := Scalar.muli v113 c50_i32_44
  let v118 : BitVec 32 := Scalar.addi v116 v117
  let v119 : BitVec 32 := Scalar.addi v118 v72
  let c16_i32_45 : BitVec 32 := 16#32
  let v120 : BitVec 32 := Scalar.muli v119 c16_i32_45
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t13
  let c64_i32 : BitVec 32 := 64#32
  let v6169 : BitVec 32 := Scalar.muli arg13 c64_i32
  let v6170 : BitVec 32 := Scalar.addi v120 v6169
  let c1_i32_1536 : BitVec 32 := 1#32
  let v6187 : BitVec 32 := Scalar.subi v115 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t15
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off23 (v72 : BitVec 32) (v74 : BitVec 32) (v76 : BitVec 32) (k0_t13 : Fin (k0_t13_loop v72 v74 v76).trips) (c0_i32_1541 : BitVec 32) : Fin 2 → Nat :=
  let c1_i32_1542 : BitVec 32 := 1#32
  let v6196 : Index := Scalar.indexCast c1_i32_1542
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t13
  let c64_i32_1540 : BitVec 32 := 64#32
  let v6194 : BitVec 32 := Scalar.muli arg13 c64_i32_1540
  let v6195 : BitVec 32 := Scalar.addi v6194 c0_i32_1541
  let v6197 : Index := Scalar.indexCast v6195
  ![1, v6197.toNat]
@[reducible] def k0_t16_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond5 (v115 : BitVec 32) : BitVec 1 :=
  let c0_i32_48 : BitVec 32 := 0#32
  let v124 : BitVec 1 := Scalar.cmpi .eq v115 c0_i32_48
  let v125 : BitVec 32 := Scalar.extui v124
  let c0_i32_49 : BitVec 32 := 0#32
  let v126 : BitVec 1 := Scalar.cmpi .ne v125 c0_i32_49
  v126

def k0_off24 (v72 : BitVec 32) (v74 : BitVec 32) (v76 : BitVec 32) (k0_t16 : Fin (k0_t16_loop v72 v74 v76).trips) (c0_i32_1533 : BitVec 32) : Fin 2 → Nat :=
  let c1_i32_1534 : BitVec 32 := 1#32
  let v6171 : Index := Scalar.indexCast c1_i32_1534
  let c0_i32_1528 : BitVec 32 := 0#32
  let c1_i32_1531 : BitVec 32 := 1#32
  let arg13 : BitVec 32 := Scf.iv c0_i32_1528 c1_i32_1531 k0_t16
  let c64_i32 : BitVec 32 := 64#32
  let v6169 : BitVec 32 := Scalar.muli arg13 c64_i32
  let v6170 : BitVec 32 := Scalar.addi v6169 c0_i32_1533
  let v6172 : Index := Scalar.indexCast v6170
  ![1, v6172.toNat]
@[reducible] def k0_t17_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off25 (v72 : BitVec 32) (v74 : BitVec 32) (v76 : BitVec 32) (k0_t17 : Fin (k0_t17_loop v72 v74 v76).trips) (c0_i32_1533 : BitVec 32) : Fin 2 → Nat :=
  let c1_i32_1534 : BitVec 32 := 1#32
  let v6171 : Index := Scalar.indexCast c1_i32_1534
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t17
  let c64_i32 : BitVec 32 := 64#32
  let v6169 : BitVec 32 := Scalar.muli arg13 c64_i32
  let v6170 : BitVec 32 := Scalar.addi v6169 c0_i32_1533
  let v6172 : Index := Scalar.indexCast v6170
  ![1, v6172.toNat]

def k0_chk2 (i : grid0.Coords) (v68 : BitVec 32) (v72 : BitVec 32) (v74 : BitVec 32) (v76 : BitVec 32) (v113 : BitVec 32) (v115 : BitVec 32) : Prop :=
  (∀ (k0_h4 : k0_cond4 v115 = 1#1), (k0_t10_loop v72 v74 v76).OK) ∧
  (∀ k0_t10 : Fin (k0_t10_loop v72 v74 v76).trips, ∀ (k0_h4 : k0_cond4 v115 = 1#1), ∀ (r : Fin 4), ∀ a, (k0_off16 i v68 v72 v74 v76 v113 k0_t10 (BitVec.ofNat 32 (16 * r.val))) a + S16.size a ≤ S80896.size a) ∧
  (∀ k0_t10 : Fin (k0_t10_loop v72 v74 v76).trips, ∀ (k0_h4 : k0_cond4 v115 = 1#1), (k0_t11_loop v115).OK) ∧
  (∀ (k0_t10 : Fin (k0_t10_loop v72 v74 v76).trips) (k0_t11 : Fin (k0_t11_loop v115).trips), ∀ (k0_h4 : k0_cond4 v115 = 1#1), ∀ (r : Fin 4), ∀ a, (k0_off17 i v68 v72 v74 v76 v113 v115 k0_t10 k0_t11 (BitVec.ofNat 32 (16 * r.val))) a + S16.size a ≤ S80896.size a) ∧
  (∀ k0_t10 : Fin (k0_t10_loop v72 v74 v76).trips, ∀ (k0_h4 : k0_cond4 v115 = 1#1), (k0_t12_loop v115).OK) ∧
  (∀ (k0_t10 : Fin (k0_t10_loop v72 v74 v76).trips) (k0_t12 : Fin (k0_t12_loop v115).trips), ∀ (k0_h4 : k0_cond4 v115 = 1#1), ∀ (r : Fin 4), ∀ a, (k0_off18 i v68 v72 v74 v76 v113 v115 k0_t10 k0_t12 (BitVec.ofNat 32 (16 * r.val))) a + S16.size a ≤ S80896.size a) ∧
  (∀ k0_t10 : Fin (k0_t10_loop v72 v74 v76).trips, ∀ (k0_h4 : k0_cond4 v115 = 1#1), ∀ (r : Fin 4), ∀ a, (k0_off19 v72 v74 v76 k0_t10 (BitVec.ofNat 32 (16 * r.val))) a + S1x16.size a ≤ S7x880.size a) ∧
  (∀ (k0_h4 : k0_cond4 v115 = 1#1), (k0_t13_loop v72 v74 v76).OK) ∧
  (∀ k0_t13 : Fin (k0_t13_loop v72 v74 v76).trips, ∀ (k0_h4 : k0_cond4 v115 = 1#1), ∀ (r : Fin 4), ∀ a, (k0_off20 i v68 v72 v74 v76 v113 k0_t13 (BitVec.ofNat 32 (16 * r.val))) a + S16.size a ≤ S80896.size a) ∧
  (∀ k0_t13 : Fin (k0_t13_loop v72 v74 v76).trips, ∀ (k0_h4 : k0_cond4 v115 = 1#1), (k0_t14_loop v115).OK) ∧
  (∀ (k0_t13 : Fin (k0_t13_loop v72 v74 v76).trips) (k0_t14 : Fin (k0_t14_loop v115).trips), ∀ (k0_h4 : k0_cond4 v115 = 1#1), ∀ (r : Fin 4), ∀ a, (k0_off21 i v68 v72 v74 v76 v113 v115 k0_t13 k0_t14 (BitVec.ofNat 32 (16 * r.val))) a + S16.size a ≤ S80896.size a) ∧
  (∀ k0_t13 : Fin (k0_t13_loop v72 v74 v76).trips, ∀ (k0_h4 : k0_cond4 v115 = 1#1), (k0_t15_loop v115).OK) ∧
  (∀ (k0_t13 : Fin (k0_t13_loop v72 v74 v76).trips) (k0_t15 : Fin (k0_t15_loop v115).trips), ∀ (k0_h4 : k0_cond4 v115 = 1#1), ∀ (r : Fin 4), ∀ a, (k0_off22 i v68 v72 v74 v76 v113 v115 k0_t13 k0_t15 (BitVec.ofNat 32 (16 * r.val))) a + S16.size a ≤ S80896.size a) ∧
  (∀ k0_t13 : Fin (k0_t13_loop v72 v74 v76).trips, ∀ (k0_h4 : k0_cond4 v115 = 1#1), ∀ (r : Fin 4), ∀ a, (k0_off23 v72 v74 v76 k0_t13 (BitVec.ofNat 32 (16 * r.val))) a + S1x16.size a ≤ S7x880.size a) ∧
  (∀ (k0_h5 : k0_cond5 v115 = 1#1), (k0_t16_loop v72 v74 v76).OK) ∧
  (∀ k0_t16 : Fin (k0_t16_loop v72 v74 v76).trips, ∀ (k0_h5 : k0_cond5 v115 = 1#1), ∀ (r : Fin 4), ∀ a, (k0_off24 v72 v74 v76 k0_t16 (BitVec.ofNat 32 (16 * r.val))) a + S1x16.size a ≤ S7x880.size a) ∧
  (∀ (k0_h5 : k0_cond5 v115 = 1#1), (k0_t17_loop v72 v74 v76).OK) ∧
  (∀ k0_t17 : Fin (k0_t17_loop v72 v74 v76).trips, ∀ (k0_h5 : k0_cond5 v115 = 1#1), ∀ (r : Fin 4), ∀ a, (k0_off25 v72 v74 v76 k0_t17 (BitVec.ofNat 32 (16 * r.val))) a + S1x16.size a ≤ S7x880.size a)
theorem k0_t10_ok : ∀ (i : grid0.Coords) (v68 : BitVec 32) (v72 : BitVec 32) (v74 : BitVec 32) (v76 : BitVec 32) (v113 : BitVec 32) (v115 : BitVec 32) (k0_hw2 : k0_chk2 i v68 v72 v74 v76 v113 v115), ∀ (k0_h4 : k0_cond4 v115 = 1#1), (k0_t10_loop v72 v74 v76).OK := fun i v68 v72 v74 v76 v113 v115 k0_hw2 k0_h4 => k0_hw2.1 k0_h4
theorem k0_off16_inb : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t10 : Fin (k0_t10_loop v72 v74 v76).trips), ∀ (k0_h4 : k0_cond4 v115 = 1#1), ∀ (r : Fin 4), ∀ a, (k0_off16 i v68 v72 v74 v76 v113 k0_t10 (BitVec.ofNat 32 (16 * r.val))) a + S16.size a ≤ S80896.size a := fun i v68 v72 v74 v76 v113 v115 k0_hw2 k0_t10 k0_h4 r => k0_hw2.2.1 k0_t10 k0_h4 r
theorem k0_t11_ok : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t10 : Fin (k0_t10_loop v72 v74 v76).trips), ∀ (k0_h4 : k0_cond4 v115 = 1#1), (k0_t11_loop v115).OK := fun i v68 v72 v74 v76 v113 v115 k0_hw2 k0_t10 k0_h4 => k0_hw2.2.2.1 k0_t10 k0_h4
theorem k0_off17_inb : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t10 : Fin (k0_t10_loop v72 v74 v76).trips) (k0_t11 : Fin (k0_t11_loop v115).trips), ∀ (k0_h4 : k0_cond4 v115 = 1#1), ∀ (r : Fin 4), ∀ a, (k0_off17 i v68 v72 v74 v76 v113 v115 k0_t10 k0_t11 (BitVec.ofNat 32 (16 * r.val))) a + S16.size a ≤ S80896.size a := fun i v68 v72 v74 v76 v113 v115 k0_hw2 k0_t10 k0_t11 k0_h4 r => k0_hw2.2.2.2.1 k0_t10 k0_t11 k0_h4 r
theorem k0_t12_ok : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t10 : Fin (k0_t10_loop v72 v74 v76).trips), ∀ (k0_h4 : k0_cond4 v115 = 1#1), (k0_t12_loop v115).OK := fun i v68 v72 v74 v76 v113 v115 k0_hw2 k0_t10 k0_h4 => k0_hw2.2.2.2.2.1 k0_t10 k0_h4
theorem k0_off18_inb : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t10 : Fin (k0_t10_loop v72 v74 v76).trips) (k0_t12 : Fin (k0_t12_loop v115).trips), ∀ (k0_h4 : k0_cond4 v115 = 1#1), ∀ (r : Fin 4), ∀ a, (k0_off18 i v68 v72 v74 v76 v113 v115 k0_t10 k0_t12 (BitVec.ofNat 32 (16 * r.val))) a + S16.size a ≤ S80896.size a := fun i v68 v72 v74 v76 v113 v115 k0_hw2 k0_t10 k0_t12 k0_h4 r => k0_hw2.2.2.2.2.2.1 k0_t10 k0_t12 k0_h4 r
theorem k0_off19_inb : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t10 : Fin (k0_t10_loop v72 v74 v76).trips), ∀ (k0_h4 : k0_cond4 v115 = 1#1), ∀ (r : Fin 4), ∀ a, (k0_off19 v72 v74 v76 k0_t10 (BitVec.ofNat 32 (16 * r.val))) a + S1x16.size a ≤ S7x880.size a := fun i v68 v72 v74 v76 v113 v115 k0_hw2 k0_t10 k0_h4 r => k0_hw2.2.2.2.2.2.2.1 k0_t10 k0_h4 r
theorem k0_t13_ok : ∀ (i : grid0.Coords) (v68 : BitVec 32) (v72 : BitVec 32) (v74 : BitVec 32) (v76 : BitVec 32) (v113 : BitVec 32) (v115 : BitVec 32) (k0_hw2 : k0_chk2 i v68 v72 v74 v76 v113 v115), ∀ (k0_h4 : k0_cond4 v115 = 1#1), (k0_t13_loop v72 v74 v76).OK := fun i v68 v72 v74 v76 v113 v115 k0_hw2 k0_h4 => k0_hw2.2.2.2.2.2.2.2.1 k0_h4
theorem k0_off20_inb : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t13 : Fin (k0_t13_loop v72 v74 v76).trips), ∀ (k0_h4 : k0_cond4 v115 = 1#1), ∀ (r : Fin 4), ∀ a, (k0_off20 i v68 v72 v74 v76 v113 k0_t13 (BitVec.ofNat 32 (16 * r.val))) a + S16.size a ≤ S80896.size a := fun i v68 v72 v74 v76 v113 v115 k0_hw2 k0_t13 k0_h4 r => k0_hw2.2.2.2.2.2.2.2.2.1 k0_t13 k0_h4 r
theorem k0_t14_ok : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t13 : Fin (k0_t13_loop v72 v74 v76).trips), ∀ (k0_h4 : k0_cond4 v115 = 1#1), (k0_t14_loop v115).OK := fun i v68 v72 v74 v76 v113 v115 k0_hw2 k0_t13 k0_h4 => k0_hw2.2.2.2.2.2.2.2.2.2.1 k0_t13 k0_h4
theorem k0_off21_inb : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t13 : Fin (k0_t13_loop v72 v74 v76).trips) (k0_t14 : Fin (k0_t14_loop v115).trips), ∀ (k0_h4 : k0_cond4 v115 = 1#1), ∀ (r : Fin 4), ∀ a, (k0_off21 i v68 v72 v74 v76 v113 v115 k0_t13 k0_t14 (BitVec.ofNat 32 (16 * r.val))) a + S16.size a ≤ S80896.size a := fun i v68 v72 v74 v76 v113 v115 k0_hw2 k0_t13 k0_t14 k0_h4 r => k0_hw2.2.2.2.2.2.2.2.2.2.2.1 k0_t13 k0_t14 k0_h4 r
theorem k0_t15_ok : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t13 : Fin (k0_t13_loop v72 v74 v76).trips), ∀ (k0_h4 : k0_cond4 v115 = 1#1), (k0_t15_loop v115).OK := fun i v68 v72 v74 v76 v113 v115 k0_hw2 k0_t13 k0_h4 => k0_hw2.2.2.2.2.2.2.2.2.2.2.2.1 k0_t13 k0_h4
theorem k0_off22_inb : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t13 : Fin (k0_t13_loop v72 v74 v76).trips) (k0_t15 : Fin (k0_t15_loop v115).trips), ∀ (k0_h4 : k0_cond4 v115 = 1#1), ∀ (r : Fin 4), ∀ a, (k0_off22 i v68 v72 v74 v76 v113 v115 k0_t13 k0_t15 (BitVec.ofNat 32 (16 * r.val))) a + S16.size a ≤ S80896.size a := fun i v68 v72 v74 v76 v113 v115 k0_hw2 k0_t13 k0_t15 k0_h4 r => k0_hw2.2.2.2.2.2.2.2.2.2.2.2.2.1 k0_t13 k0_t15 k0_h4 r
theorem k0_off23_inb : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t13 : Fin (k0_t13_loop v72 v74 v76).trips), ∀ (k0_h4 : k0_cond4 v115 = 1#1), ∀ (r : Fin 4), ∀ a, (k0_off23 v72 v74 v76 k0_t13 (BitVec.ofNat 32 (16 * r.val))) a + S1x16.size a ≤ S7x880.size a := fun i v68 v72 v74 v76 v113 v115 k0_hw2 k0_t13 k0_h4 r => k0_hw2.2.2.2.2.2.2.2.2.2.2.2.2.2.1 k0_t13 k0_h4 r
theorem k0_t16_ok : ∀ (i : grid0.Coords) (v68 : BitVec 32) (v72 : BitVec 32) (v74 : BitVec 32) (v76 : BitVec 32) (v113 : BitVec 32) (v115 : BitVec 32) (k0_hw2 : k0_chk2 i v68 v72 v74 v76 v113 v115), ∀ (k0_h5 : k0_cond5 v115 = 1#1), (k0_t16_loop v72 v74 v76).OK := fun i v68 v72 v74 v76 v113 v115 k0_hw2 k0_h5 => k0_hw2.2.2.2.2.2.2.2.2.2.2.2.2.2.2.1 k0_h5
theorem k0_off24_inb : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t16 : Fin (k0_t16_loop v72 v74 v76).trips), ∀ (k0_h5 : k0_cond5 v115 = 1#1), ∀ (r : Fin 4), ∀ a, (k0_off24 v72 v74 v76 k0_t16 (BitVec.ofNat 32 (16 * r.val))) a + S1x16.size a ≤ S7x880.size a := fun i v68 v72 v74 v76 v113 v115 k0_hw2 k0_t16 k0_h5 r => k0_hw2.2.2.2.2.2.2.2.2.2.2.2.2.2.2.2.1 k0_t16 k0_h5 r
theorem k0_t17_ok : ∀ (i : grid0.Coords) (v68 : BitVec 32) (v72 : BitVec 32) (v74 : BitVec 32) (v76 : BitVec 32) (v113 : BitVec 32) (v115 : BitVec 32) (k0_hw2 : k0_chk2 i v68 v72 v74 v76 v113 v115), ∀ (k0_h5 : k0_cond5 v115 = 1#1), (k0_t17_loop v72 v74 v76).OK := fun i v68 v72 v74 v76 v113 v115 k0_hw2 k0_h5 => k0_hw2.2.2.2.2.2.2.2.2.2.2.2.2.2.2.2.2.1 k0_h5
theorem k0_off25_inb : ∀ (i : grid0.Coords) (v68 : BitVec 32) (v72 : BitVec 32) (v74 : BitVec 32) (v76 : BitVec 32) (v113 : BitVec 32) (v115 : BitVec 32) (k0_hw2 : k0_chk2 i v68 v72 v74 v76 v113 v115) (k0_t17 : Fin (k0_t17_loop v72 v74 v76).trips), ∀ (k0_h5 : k0_cond5 v115 = 1#1), ∀ (r : Fin 4), ∀ a, (k0_off25 v72 v74 v76 k0_t17 (BitVec.ofNat 32 (16 * r.val))) a + S1x16.size a ≤ S7x880.size a := fun i v68 v72 v74 v76 v113 v115 k0_hw2 k0_t17 k0_h5 r => k0_hw2.2.2.2.2.2.2.2.2.2.2.2.2.2.2.2.2.2 k0_t17 k0_h5 r

@[reducible] def k0_t18_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond6 (v130 : BitVec 32) : BitVec 1 :=
  let c0_i32_53 : BitVec 32 := 0#32
  let v136 : BitVec 1 := Scalar.cmpi .sgt v130 c0_i32_53
  let v137 : BitVec 32 := Scalar.extui v136
  let c0_i32_54 : BitVec 32 := 0#32
  let v138 : BitVec 1 := Scalar.cmpi .ne v137 c0_i32_54
  v138

def k0_off26 (i : grid0.Coords) (v68 : BitVec 32) (v72 : BitVec 32) (v74 : BitVec 32) (v76 : BitVec 32) (v128 : BitVec 32) (k0_t18 : Fin (k0_t18_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_50 : BitVec 32 := 2500#32
  let v131 : BitVec 32 := Scalar.muli v70 c2500_i32_50
  let c50_i32_51 : BitVec 32 := 50#32
  let v132 : BitVec 32 := Scalar.muli v128 c50_i32_51
  let v133 : BitVec 32 := Scalar.addi v131 v132
  let v134 : BitVec 32 := Scalar.addi v133 v72
  let c16_i32_52 : BitVec 32 := 16#32
  let v135 : BitVec 32 := Scalar.muli v134 c16_i32_52
  let c0_i32_1528 : BitVec 32 := 0#32
  let c1_i32_1531 : BitVec 32 := 1#32
  let arg13 : BitVec 32 := Scf.iv c0_i32_1528 c1_i32_1531 k0_t18
  let c64_i32 : BitVec 32 := 64#32
  let v6169 : BitVec 32 := Scalar.muli arg13 c64_i32
  let v6170 : BitVec 32 := Scalar.addi v135 v6169
  let v6171 : BitVec 32 := Scalar.addi v6170 c0_i32_1533
  let v6172 : Index := Scalar.indexCast v6171
  ![v6172.toNat]
@[reducible] def k0_t19_loop (v130 : BitVec 32) : Scf.Loop 32 :=
  let c1_i32_1536 : BitVec 32 := 1#32
  let v6187 : BitVec 32 := Scalar.subi v130 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off27 (i : grid0.Coords) (v68 : BitVec 32) (v72 : BitVec 32) (v74 : BitVec 32) (v76 : BitVec 32) (v128 : BitVec 32) (v130 : BitVec 32) (k0_t18 : Fin (k0_t18_loop v72 v74 v76).trips) (k0_t19 : Fin (k0_t19_loop v130).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_50 : BitVec 32 := 2500#32
  let v131 : BitVec 32 := Scalar.muli v70 c2500_i32_50
  let c50_i32_51 : BitVec 32 := 50#32
  let v132 : BitVec 32 := Scalar.muli v128 c50_i32_51
  let v133 : BitVec 32 := Scalar.addi v131 v132
  let v134 : BitVec 32 := Scalar.addi v133 v72
  let c16_i32_52 : BitVec 32 := 16#32
  let v135 : BitVec 32 := Scalar.muli v134 c16_i32_52
  let c0_i32_1528 : BitVec 32 := 0#32
  let c1_i32_1531 : BitVec 32 := 1#32
  let arg13 : BitVec 32 := Scf.iv c0_i32_1528 c1_i32_1531 k0_t18
  let c64_i32 : BitVec 32 := 64#32
  let v6169 : BitVec 32 := Scalar.muli arg13 c64_i32
  let v6170 : BitVec 32 := Scalar.addi v135 v6169
  let c1_i32_1536 : BitVec 32 := 1#32
  let c1_i32_1538 : BitVec 32 := 1#32
  let arg15 : BitVec 32 := Scf.iv c1_i32_1536 c1_i32_1538 k0_t19
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t20_loop (v130 : BitVec 32) : Scf.Loop 32 :=
  let c1_i32_1536 : BitVec 32 := 1#32
  let v6187 : BitVec 32 := Scalar.subi v130 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off28 (i : grid0.Coords) (v68 : BitVec 32) (v72 : BitVec 32) (v74 : BitVec 32) (v76 : BitVec 32) (v128 : BitVec 32) (v130 : BitVec 32) (k0_t18 : Fin (k0_t18_loop v72 v74 v76).trips) (k0_t20 : Fin (k0_t20_loop v130).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_50 : BitVec 32 := 2500#32
  let v131 : BitVec 32 := Scalar.muli v70 c2500_i32_50
  let c50_i32_51 : BitVec 32 := 50#32
  let v132 : BitVec 32 := Scalar.muli v128 c50_i32_51
  let v133 : BitVec 32 := Scalar.addi v131 v132
  let v134 : BitVec 32 := Scalar.addi v133 v72
  let c16_i32_52 : BitVec 32 := 16#32
  let v135 : BitVec 32 := Scalar.muli v134 c16_i32_52
  let c0_i32_1528 : BitVec 32 := 0#32
  let c1_i32_1531 : BitVec 32 := 1#32
  let arg13 : BitVec 32 := Scf.iv c0_i32_1528 c1_i32_1531 k0_t18
  let c64_i32 : BitVec 32 := 64#32
  let v6169 : BitVec 32 := Scalar.muli arg13 c64_i32
  let v6170 : BitVec 32 := Scalar.addi v135 v6169
  let c1_i32_1536 : BitVec 32 := 1#32
  let v6187 : BitVec 32 := Scalar.subi v130 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t20
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off29 (v72 : BitVec 32) (v74 : BitVec 32) (v76 : BitVec 32) (k0_t18 : Fin (k0_t18_loop v72 v74 v76).trips) (c0_i32_1541 : BitVec 32) : Fin 2 → Nat :=
  let c2_i32_1542 : BitVec 32 := 2#32
  let v6196 : Index := Scalar.indexCast c2_i32_1542
  let c0_i32_1528 : BitVec 32 := 0#32
  let c1_i32_1531 : BitVec 32 := 1#32
  let arg13 : BitVec 32 := Scf.iv c0_i32_1528 c1_i32_1531 k0_t18
  let c64_i32_1540 : BitVec 32 := 64#32
  let v6194 : BitVec 32 := Scalar.muli arg13 c64_i32_1540
  let v6195 : BitVec 32 := Scalar.addi v6194 c0_i32_1541
  let v6197 : Index := Scalar.indexCast v6195
  ![2, v6197.toNat]
@[reducible] def k0_t21_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off30 (i : grid0.Coords) (v68 : BitVec 32) (v72 : BitVec 32) (v74 : BitVec 32) (v76 : BitVec 32) (v128 : BitVec 32) (k0_t21 : Fin (k0_t21_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_50 : BitVec 32 := 2500#32
  let v131 : BitVec 32 := Scalar.muli v70 c2500_i32_50
  let c50_i32_51 : BitVec 32 := 50#32
  let v132 : BitVec 32 := Scalar.muli v128 c50_i32_51
  let v133 : BitVec 32 := Scalar.addi v131 v132
  let v134 : BitVec 32 := Scalar.addi v133 v72
  let c16_i32_52 : BitVec 32 := 16#32
  let v135 : BitVec 32 := Scalar.muli v134 c16_i32_52
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t21
  let c64_i32 : BitVec 32 := 64#32
  let v6169 : BitVec 32 := Scalar.muli arg13 c64_i32
  let v6170 : BitVec 32 := Scalar.addi v135 v6169
  let v6171 : BitVec 32 := Scalar.addi v6170 c0_i32_1533
  let v6172 : Index := Scalar.indexCast v6171
  ![v6172.toNat]
@[reducible] def k0_t22_loop (v130 : BitVec 32) : Scf.Loop 32 :=
  let c1_i32_1536 : BitVec 32 := 1#32
  let v6187 : BitVec 32 := Scalar.subi v130 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off31 (i : grid0.Coords) (v68 : BitVec 32) (v72 : BitVec 32) (v74 : BitVec 32) (v76 : BitVec 32) (v128 : BitVec 32) (v130 : BitVec 32) (k0_t21 : Fin (k0_t21_loop v72 v74 v76).trips) (k0_t22 : Fin (k0_t22_loop v130).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_50 : BitVec 32 := 2500#32
  let v131 : BitVec 32 := Scalar.muli v70 c2500_i32_50
  let c50_i32_51 : BitVec 32 := 50#32
  let v132 : BitVec 32 := Scalar.muli v128 c50_i32_51
  let v133 : BitVec 32 := Scalar.addi v131 v132
  let v134 : BitVec 32 := Scalar.addi v133 v72
  let c16_i32_52 : BitVec 32 := 16#32
  let v135 : BitVec 32 := Scalar.muli v134 c16_i32_52
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t21
  let c64_i32 : BitVec 32 := 64#32
  let v6169 : BitVec 32 := Scalar.muli arg13 c64_i32
  let v6170 : BitVec 32 := Scalar.addi v135 v6169
  let c1_i32_1536 : BitVec 32 := 1#32
  let c1_i32_1538 : BitVec 32 := 1#32
  let arg15 : BitVec 32 := Scf.iv c1_i32_1536 c1_i32_1538 k0_t22
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t23_loop (v130 : BitVec 32) : Scf.Loop 32 :=
  let c1_i32_1536 : BitVec 32 := 1#32
  let v6187 : BitVec 32 := Scalar.subi v130 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off32 (i : grid0.Coords) (v68 : BitVec 32) (v72 : BitVec 32) (v74 : BitVec 32) (v76 : BitVec 32) (v128 : BitVec 32) (v130 : BitVec 32) (k0_t21 : Fin (k0_t21_loop v72 v74 v76).trips) (k0_t23 : Fin (k0_t23_loop v130).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_50 : BitVec 32 := 2500#32
  let v131 : BitVec 32 := Scalar.muli v70 c2500_i32_50
  let c50_i32_51 : BitVec 32 := 50#32
  let v132 : BitVec 32 := Scalar.muli v128 c50_i32_51
  let v133 : BitVec 32 := Scalar.addi v131 v132
  let v134 : BitVec 32 := Scalar.addi v133 v72
  let c16_i32_52 : BitVec 32 := 16#32
  let v135 : BitVec 32 := Scalar.muli v134 c16_i32_52
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t21
  let c64_i32 : BitVec 32 := 64#32
  let v6169 : BitVec 32 := Scalar.muli arg13 c64_i32
  let v6170 : BitVec 32 := Scalar.addi v135 v6169
  let c1_i32_1536 : BitVec 32 := 1#32
  let v6187 : BitVec 32 := Scalar.subi v130 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t23
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off33 (v72 : BitVec 32) (v74 : BitVec 32) (v76 : BitVec 32) (k0_t21 : Fin (k0_t21_loop v72 v74 v76).trips) (c0_i32_1541 : BitVec 32) : Fin 2 → Nat :=
  let c2_i32_1542 : BitVec 32 := 2#32
  let v6196 : Index := Scalar.indexCast c2_i32_1542
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t21
  let c64_i32_1540 : BitVec 32 := 64#32
  let v6194 : BitVec 32 := Scalar.muli arg13 c64_i32_1540
  let v6195 : BitVec 32 := Scalar.addi v6194 c0_i32_1541
  let v6197 : Index := Scalar.indexCast v6195
  ![2, v6197.toNat]
@[reducible] def k0_t24_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond7 (v130 : BitVec 32) : BitVec 1 :=
  let c0_i32_55 : BitVec 32 := 0#32
  let v139 : BitVec 1 := Scalar.cmpi .eq v130 c0_i32_55
  let v140 : BitVec 32 := Scalar.extui v139
  let c0_i32_56 : BitVec 32 := 0#32
  let v141 : BitVec 1 := Scalar.cmpi .ne v140 c0_i32_56
  v141

def k0_off34 (v72 : BitVec 32) (v74 : BitVec 32) (v76 : BitVec 32) (k0_t24 : Fin (k0_t24_loop v72 v74 v76).trips) (c0_i32_1533 : BitVec 32) : Fin 2 → Nat :=
  let c2_i32_1534 : BitVec 32 := 2#32
  let v6171 : Index := Scalar.indexCast c2_i32_1534
  let c0_i32_1528 : BitVec 32 := 0#32
  let c1_i32_1531 : BitVec 32 := 1#32
  let arg13 : BitVec 32 := Scf.iv c0_i32_1528 c1_i32_1531 k0_t24
  let c64_i32 : BitVec 32 := 64#32
  let v6169 : BitVec 32 := Scalar.muli arg13 c64_i32
  let v6170 : BitVec 32 := Scalar.addi v6169 c0_i32_1533
  let v6172 : Index := Scalar.indexCast v6170
  ![2, v6172.toNat]
@[reducible] def k0_t25_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off35 (v72 : BitVec 32) (v74 : BitVec 32) (v76 : BitVec 32) (k0_t25 : Fin (k0_t25_loop v72 v74 v76).trips) (c0_i32_1533 : BitVec 32) : Fin 2 → Nat :=
  let c2_i32_1534 : BitVec 32 := 2#32
  let v6171 : Index := Scalar.indexCast c2_i32_1534
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t25
  let c64_i32 : BitVec 32 := 64#32
  let v6169 : BitVec 32 := Scalar.muli arg13 c64_i32
  let v6170 : BitVec 32 := Scalar.addi v6169 c0_i32_1533
  let v6172 : Index := Scalar.indexCast v6170
  ![2, v6172.toNat]

def k0_chk3 (i : grid0.Coords) (v68 : BitVec 32) (v72 : BitVec 32) (v74 : BitVec 32) (v76 : BitVec 32) (v128 : BitVec 32) (v130 : BitVec 32) : Prop :=
  (∀ (k0_h6 : k0_cond6 v130 = 1#1), (k0_t18_loop v72 v74 v76).OK) ∧
  (∀ k0_t18 : Fin (k0_t18_loop v72 v74 v76).trips, ∀ (k0_h6 : k0_cond6 v130 = 1#1), ∀ (r : Fin 4), ∀ a, (k0_off26 i v68 v72 v74 v76 v128 k0_t18 (BitVec.ofNat 32 (16 * r.val))) a + S16.size a ≤ S80896.size a) ∧
  (∀ k0_t18 : Fin (k0_t18_loop v72 v74 v76).trips, ∀ (k0_h6 : k0_cond6 v130 = 1#1), (k0_t19_loop v130).OK) ∧
  (∀ (k0_t18 : Fin (k0_t18_loop v72 v74 v76).trips) (k0_t19 : Fin (k0_t19_loop v130).trips), ∀ (k0_h6 : k0_cond6 v130 = 1#1), ∀ (r : Fin 4), ∀ a, (k0_off27 i v68 v72 v74 v76 v128 v130 k0_t18 k0_t19 (BitVec.ofNat 32 (16 * r.val))) a + S16.size a ≤ S80896.size a) ∧
  (∀ k0_t18 : Fin (k0_t18_loop v72 v74 v76).trips, ∀ (k0_h6 : k0_cond6 v130 = 1#1), (k0_t20_loop v130).OK) ∧
  (∀ (k0_t18 : Fin (k0_t18_loop v72 v74 v76).trips) (k0_t20 : Fin (k0_t20_loop v130).trips), ∀ (k0_h6 : k0_cond6 v130 = 1#1), ∀ (r : Fin 4), ∀ a, (k0_off28 i v68 v72 v74 v76 v128 v130 k0_t18 k0_t20 (BitVec.ofNat 32 (16 * r.val))) a + S16.size a ≤ S80896.size a) ∧
  (∀ k0_t18 : Fin (k0_t18_loop v72 v74 v76).trips, ∀ (k0_h6 : k0_cond6 v130 = 1#1), ∀ (r : Fin 4), ∀ a, (k0_off29 v72 v74 v76 k0_t18 (BitVec.ofNat 32 (16 * r.val))) a + S1x16.size a ≤ S7x880.size a) ∧
  (∀ (k0_h6 : k0_cond6 v130 = 1#1), (k0_t21_loop v72 v74 v76).OK) ∧
  (∀ k0_t21 : Fin (k0_t21_loop v72 v74 v76).trips, ∀ (k0_h6 : k0_cond6 v130 = 1#1), ∀ (r : Fin 4), ∀ a, (k0_off30 i v68 v72 v74 v76 v128 k0_t21 (BitVec.ofNat 32 (16 * r.val))) a + S16.size a ≤ S80896.size a) ∧
  (∀ k0_t21 : Fin (k0_t21_loop v72 v74 v76).trips, ∀ (k0_h6 : k0_cond6 v130 = 1#1), (k0_t22_loop v130).OK) ∧
  (∀ (k0_t21 : Fin (k0_t21_loop v72 v74 v76).trips) (k0_t22 : Fin (k0_t22_loop v130).trips), ∀ (k0_h6 : k0_cond6 v130 = 1#1), ∀ (r : Fin 4), ∀ a, (k0_off31 i v68 v72 v74 v76 v128 v130 k0_t21 k0_t22 (BitVec.ofNat 32 (16 * r.val))) a + S16.size a ≤ S80896.size a) ∧
  (∀ k0_t21 : Fin (k0_t21_loop v72 v74 v76).trips, ∀ (k0_h6 : k0_cond6 v130 = 1#1), (k0_t23_loop v130).OK) ∧
  (∀ (k0_t21 : Fin (k0_t21_loop v72 v74 v76).trips) (k0_t23 : Fin (k0_t23_loop v130).trips), ∀ (k0_h6 : k0_cond6 v130 = 1#1), ∀ (r : Fin 4), ∀ a, (k0_off32 i v68 v72 v74 v76 v128 v130 k0_t21 k0_t23 (BitVec.ofNat 32 (16 * r.val))) a + S16.size a ≤ S80896.size a) ∧
  (∀ k0_t21 : Fin (k0_t21_loop v72 v74 v76).trips, ∀ (k0_h6 : k0_cond6 v130 = 1#1), ∀ (r : Fin 4), ∀ a, (k0_off33 v72 v74 v76 k0_t21 (BitVec.ofNat 32 (16 * r.val))) a + S1x16.size a ≤ S7x880.size a) ∧
  (∀ (k0_h7 : k0_cond7 v130 = 1#1), (k0_t24_loop v72 v74 v76).OK) ∧
  (∀ k0_t24 : Fin (k0_t24_loop v72 v74 v76).trips, ∀ (k0_h7 : k0_cond7 v130 = 1#1), ∀ (r : Fin 4), ∀ a, (k0_off34 v72 v74 v76 k0_t24 (BitVec.ofNat 32 (16 * r.val))) a + S1x16.size a ≤ S7x880.size a) ∧
  (∀ (k0_h7 : k0_cond7 v130 = 1#1), (k0_t25_loop v72 v74 v76).OK) ∧
  (∀ k0_t25 : Fin (k0_t25_loop v72 v74 v76).trips, ∀ (k0_h7 : k0_cond7 v130 = 1#1), ∀ (r : Fin 4), ∀ a, (k0_off35 v72 v74 v76 k0_t25 (BitVec.ofNat 32 (16 * r.val))) a + S1x16.size a ≤ S7x880.size a)
theorem k0_t18_ok : ∀ (i : grid0.Coords) (v68 : BitVec 32) (v72 : BitVec 32) (v74 : BitVec 32) (v76 : BitVec 32) (v128 : BitVec 32) (v130 : BitVec 32) (k0_hw3 : k0_chk3 i v68 v72 v74 v76 v128 v130), ∀ (k0_h6 : k0_cond6 v130 = 1#1), (k0_t18_loop v72 v74 v76).OK := fun i v68 v72 v74 v76 v128 v130 k0_hw3 k0_h6 => k0_hw3.1 k0_h6
theorem k0_off26_inb : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t18 : Fin (k0_t18_loop v72 v74 v76).trips), ∀ (k0_h6 : k0_cond6 v130 = 1#1), ∀ (r : Fin 4), ∀ a, (k0_off26 i v68 v72 v74 v76 v128 k0_t18 (BitVec.ofNat 32 (16 * r.val))) a + S16.size a ≤ S80896.size a := fun i v68 v72 v74 v76 v128 v130 k0_hw3 k0_t18 k0_h6 r => k0_hw3.2.1 k0_t18 k0_h6 r
theorem k0_t19_ok : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t18 : Fin (k0_t18_loop v72 v74 v76).trips), ∀ (k0_h6 : k0_cond6 v130 = 1#1), (k0_t19_loop v130).OK := fun i v68 v72 v74 v76 v128 v130 k0_hw3 k0_t18 k0_h6 => k0_hw3.2.2.1 k0_t18 k0_h6
theorem k0_off27_inb : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t18 : Fin (k0_t18_loop v72 v74 v76).trips) (k0_t19 : Fin (k0_t19_loop v130).trips), ∀ (k0_h6 : k0_cond6 v130 = 1#1), ∀ (r : Fin 4), ∀ a, (k0_off27 i v68 v72 v74 v76 v128 v130 k0_t18 k0_t19 (BitVec.ofNat 32 (16 * r.val))) a + S16.size a ≤ S80896.size a := fun i v68 v72 v74 v76 v128 v130 k0_hw3 k0_t18 k0_t19 k0_h6 r => k0_hw3.2.2.2.1 k0_t18 k0_t19 k0_h6 r
theorem k0_t20_ok : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t18 : Fin (k0_t18_loop v72 v74 v76).trips), ∀ (k0_h6 : k0_cond6 v130 = 1#1), (k0_t20_loop v130).OK := fun i v68 v72 v74 v76 v128 v130 k0_hw3 k0_t18 k0_h6 => k0_hw3.2.2.2.2.1 k0_t18 k0_h6
theorem k0_off28_inb : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t18 : Fin (k0_t18_loop v72 v74 v76).trips) (k0_t20 : Fin (k0_t20_loop v130).trips), ∀ (k0_h6 : k0_cond6 v130 = 1#1), ∀ (r : Fin 4), ∀ a, (k0_off28 i v68 v72 v74 v76 v128 v130 k0_t18 k0_t20 (BitVec.ofNat 32 (16 * r.val))) a + S16.size a ≤ S80896.size a := fun i v68 v72 v74 v76 v128 v130 k0_hw3 k0_t18 k0_t20 k0_h6 r => k0_hw3.2.2.2.2.2.1 k0_t18 k0_t20 k0_h6 r
theorem k0_off29_inb : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t18 : Fin (k0_t18_loop v72 v74 v76).trips), ∀ (k0_h6 : k0_cond6 v130 = 1#1), ∀ (r : Fin 4), ∀ a, (k0_off29 v72 v74 v76 k0_t18 (BitVec.ofNat 32 (16 * r.val))) a + S1x16.size a ≤ S7x880.size a := fun i v68 v72 v74 v76 v128 v130 k0_hw3 k0_t18 k0_h6 r => k0_hw3.2.2.2.2.2.2.1 k0_t18 k0_h6 r
theorem k0_t21_ok : ∀ (i : grid0.Coords) (v68 : BitVec 32) (v72 : BitVec 32) (v74 : BitVec 32) (v76 : BitVec 32) (v128 : BitVec 32) (v130 : BitVec 32) (k0_hw3 : k0_chk3 i v68 v72 v74 v76 v128 v130), ∀ (k0_h6 : k0_cond6 v130 = 1#1), (k0_t21_loop v72 v74 v76).OK := fun i v68 v72 v74 v76 v128 v130 k0_hw3 k0_h6 => k0_hw3.2.2.2.2.2.2.2.1 k0_h6
theorem k0_off30_inb : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t21 : Fin (k0_t21_loop v72 v74 v76).trips), ∀ (k0_h6 : k0_cond6 v130 = 1#1), ∀ (r : Fin 4), ∀ a, (k0_off30 i v68 v72 v74 v76 v128 k0_t21 (BitVec.ofNat 32 (16 * r.val))) a + S16.size a ≤ S80896.size a := fun i v68 v72 v74 v76 v128 v130 k0_hw3 k0_t21 k0_h6 r => k0_hw3.2.2.2.2.2.2.2.2.1 k0_t21 k0_h6 r
theorem k0_t22_ok : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t21 : Fin (k0_t21_loop v72 v74 v76).trips), ∀ (k0_h6 : k0_cond6 v130 = 1#1), (k0_t22_loop v130).OK := fun i v68 v72 v74 v76 v128 v130 k0_hw3 k0_t21 k0_h6 => k0_hw3.2.2.2.2.2.2.2.2.2.1 k0_t21 k0_h6
theorem k0_off31_inb : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t21 : Fin (k0_t21_loop v72 v74 v76).trips) (k0_t22 : Fin (k0_t22_loop v130).trips), ∀ (k0_h6 : k0_cond6 v130 = 1#1), ∀ (r : Fin 4), ∀ a, (k0_off31 i v68 v72 v74 v76 v128 v130 k0_t21 k0_t22 (BitVec.ofNat 32 (16 * r.val))) a + S16.size a ≤ S80896.size a := fun i v68 v72 v74 v76 v128 v130 k0_hw3 k0_t21 k0_t22 k0_h6 r => k0_hw3.2.2.2.2.2.2.2.2.2.2.1 k0_t21 k0_t22 k0_h6 r
theorem k0_t23_ok : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t21 : Fin (k0_t21_loop v72 v74 v76).trips), ∀ (k0_h6 : k0_cond6 v130 = 1#1), (k0_t23_loop v130).OK := fun i v68 v72 v74 v76 v128 v130 k0_hw3 k0_t21 k0_h6 => k0_hw3.2.2.2.2.2.2.2.2.2.2.2.1 k0_t21 k0_h6
theorem k0_off32_inb : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t21 : Fin (k0_t21_loop v72 v74 v76).trips) (k0_t23 : Fin (k0_t23_loop v130).trips), ∀ (k0_h6 : k0_cond6 v130 = 1#1), ∀ (r : Fin 4), ∀ a, (k0_off32 i v68 v72 v74 v76 v128 v130 k0_t21 k0_t23 (BitVec.ofNat 32 (16 * r.val))) a + S16.size a ≤ S80896.size a := fun i v68 v72 v74 v76 v128 v130 k0_hw3 k0_t21 k0_t23 k0_h6 r => k0_hw3.2.2.2.2.2.2.2.2.2.2.2.2.1 k0_t21 k0_t23 k0_h6 r
theorem k0_off33_inb : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t21 : Fin (k0_t21_loop v72 v74 v76).trips), ∀ (k0_h6 : k0_cond6 v130 = 1#1), ∀ (r : Fin 4), ∀ a, (k0_off33 v72 v74 v76 k0_t21 (BitVec.ofNat 32 (16 * r.val))) a + S1x16.size a ≤ S7x880.size a := fun i v68 v72 v74 v76 v128 v130 k0_hw3 k0_t21 k0_h6 r => k0_hw3.2.2.2.2.2.2.2.2.2.2.2.2.2.1 k0_t21 k0_h6 r
theorem k0_t24_ok : ∀ (i : grid0.Coords) (v68 : BitVec 32) (v72 : BitVec 32) (v74 : BitVec 32) (v76 : BitVec 32) (v128 : BitVec 32) (v130 : BitVec 32) (k0_hw3 : k0_chk3 i v68 v72 v74 v76 v128 v130), ∀ (k0_h7 : k0_cond7 v130 = 1#1), (k0_t24_loop v72 v74 v76).OK := fun i v68 v72 v74 v76 v128 v130 k0_hw3 k0_h7 => k0_hw3.2.2.2.2.2.2.2.2.2.2.2.2.2.2.1 k0_h7
theorem k0_off34_inb : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t24 : Fin (k0_t24_loop v72 v74 v76).trips), ∀ (k0_h7 : k0_cond7 v130 = 1#1), ∀ (r : Fin 4), ∀ a, (k0_off34 v72 v74 v76 k0_t24 (BitVec.ofNat 32 (16 * r.val))) a + S1x16.size a ≤ S7x880.size a := fun i v68 v72 v74 v76 v128 v130 k0_hw3 k0_t24 k0_h7 r => k0_hw3.2.2.2.2.2.2.2.2.2.2.2.2.2.2.2.1 k0_t24 k0_h7 r
theorem k0_t25_ok : ∀ (i : grid0.Coords) (v68 : BitVec 32) (v72 : BitVec 32) (v74 : BitVec 32) (v76 : BitVec 32) (v128 : BitVec 32) (v130 : BitVec 32) (k0_hw3 : k0_chk3 i v68 v72 v74 v76 v128 v130), ∀ (k0_h7 : k0_cond7 v130 = 1#1), (k0_t25_loop v72 v74 v76).OK := fun i v68 v72 v74 v76 v128 v130 k0_hw3 k0_h7 => k0_hw3.2.2.2.2.2.2.2.2.2.2.2.2.2.2.2.2.1 k0_h7
theorem k0_off35_inb : ∀ (i : grid0.Coords) (v68 : BitVec 32) (v72 : BitVec 32) (v74 : BitVec 32) (v76 : BitVec 32) (v128 : BitVec 32) (v130 : BitVec 32) (k0_hw3 : k0_chk3 i v68 v72 v74 v76 v128 v130) (k0_t25 : Fin (k0_t25_loop v72 v74 v76).trips), ∀ (k0_h7 : k0_cond7 v130 = 1#1), ∀ (r : Fin 4), ∀ a, (k0_off35 v72 v74 v76 k0_t25 (BitVec.ofNat 32 (16 * r.val))) a + S1x16.size a ≤ S7x880.size a := fun i v68 v72 v74 v76 v128 v130 k0_hw3 k0_t25 k0_h7 r => k0_hw3.2.2.2.2.2.2.2.2.2.2.2.2.2.2.2.2.2 k0_t25 k0_h7 r

@[reducible] def k0_t26_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond8 (v145 : BitVec 32) : BitVec 1 :=
  let c0_i32_60 : BitVec 32 := 0#32
  let v151 : BitVec 1 := Scalar.cmpi .sgt v145 c0_i32_60
  let v152 : BitVec 32 := Scalar.extui v151
  let c0_i32_61 : BitVec 32 := 0#32
  let v153 : BitVec 1 := Scalar.cmpi .ne v152 c0_i32_61
  v153

def k0_off36 (i : grid0.Coords) (v68 : BitVec 32) (v72 : BitVec 32) (v74 : BitVec 32) (v76 : BitVec 32) (v143 : BitVec 32) (k0_t26 : Fin (k0_t26_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_57 : BitVec 32 := 2500#32
  let v146 : BitVec 32 := Scalar.muli v70 c2500_i32_57
  let c50_i32_58 : BitVec 32 := 50#32
  let v147 : BitVec 32 := Scalar.muli v143 c50_i32_58
  let v148 : BitVec 32 := Scalar.addi v146 v147
  let v149 : BitVec 32 := Scalar.addi v148 v72
  let c16_i32_59 : BitVec 32 := 16#32
  let v150 : BitVec 32 := Scalar.muli v149 c16_i32_59
  let c0_i32_1528 : BitVec 32 := 0#32
  let c1_i32_1531 : BitVec 32 := 1#32
  let arg13 : BitVec 32 := Scf.iv c0_i32_1528 c1_i32_1531 k0_t26
  let c64_i32 : BitVec 32 := 64#32
  let v6169 : BitVec 32 := Scalar.muli arg13 c64_i32
  let v6170 : BitVec 32 := Scalar.addi v150 v6169
  let v6171 : BitVec 32 := Scalar.addi v6170 c0_i32_1533
  let v6172 : Index := Scalar.indexCast v6171
  ![v6172.toNat]
@[reducible] def k0_t27_loop (v145 : BitVec 32) : Scf.Loop 32 :=
  let c1_i32_1536 : BitVec 32 := 1#32
  let v6187 : BitVec 32 := Scalar.subi v145 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off37 (i : grid0.Coords) (v68 : BitVec 32) (v72 : BitVec 32) (v74 : BitVec 32) (v76 : BitVec 32) (v143 : BitVec 32) (v145 : BitVec 32) (k0_t26 : Fin (k0_t26_loop v72 v74 v76).trips) (k0_t27 : Fin (k0_t27_loop v145).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_57 : BitVec 32 := 2500#32
  let v146 : BitVec 32 := Scalar.muli v70 c2500_i32_57
  let c50_i32_58 : BitVec 32 := 50#32
  let v147 : BitVec 32 := Scalar.muli v143 c50_i32_58
  let v148 : BitVec 32 := Scalar.addi v146 v147
  let v149 : BitVec 32 := Scalar.addi v148 v72
  let c16_i32_59 : BitVec 32 := 16#32
  let v150 : BitVec 32 := Scalar.muli v149 c16_i32_59
  let c0_i32_1528 : BitVec 32 := 0#32
  let c1_i32_1531 : BitVec 32 := 1#32
  let arg13 : BitVec 32 := Scf.iv c0_i32_1528 c1_i32_1531 k0_t26
  let c64_i32 : BitVec 32 := 64#32
  let v6169 : BitVec 32 := Scalar.muli arg13 c64_i32
  let v6170 : BitVec 32 := Scalar.addi v150 v6169
  let c1_i32_1536 : BitVec 32 := 1#32
  let c1_i32_1538 : BitVec 32 := 1#32
  let arg15 : BitVec 32 := Scf.iv c1_i32_1536 c1_i32_1538 k0_t27
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t28_loop (v145 : BitVec 32) : Scf.Loop 32 :=
  let c1_i32_1536 : BitVec 32 := 1#32
  let v6187 : BitVec 32 := Scalar.subi v145 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off38 (i : grid0.Coords) (v68 : BitVec 32) (v72 : BitVec 32) (v74 : BitVec 32) (v76 : BitVec 32) (v143 : BitVec 32) (v145 : BitVec 32) (k0_t26 : Fin (k0_t26_loop v72 v74 v76).trips) (k0_t28 : Fin (k0_t28_loop v145).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_57 : BitVec 32 := 2500#32
  let v146 : BitVec 32 := Scalar.muli v70 c2500_i32_57
  let c50_i32_58 : BitVec 32 := 50#32
  let v147 : BitVec 32 := Scalar.muli v143 c50_i32_58
  let v148 : BitVec 32 := Scalar.addi v146 v147
  let v149 : BitVec 32 := Scalar.addi v148 v72
  let c16_i32_59 : BitVec 32 := 16#32
  let v150 : BitVec 32 := Scalar.muli v149 c16_i32_59
  let c0_i32_1528 : BitVec 32 := 0#32
  let c1_i32_1531 : BitVec 32 := 1#32
  let arg13 : BitVec 32 := Scf.iv c0_i32_1528 c1_i32_1531 k0_t26
  let c64_i32 : BitVec 32 := 64#32
  let v6169 : BitVec 32 := Scalar.muli arg13 c64_i32
  let v6170 : BitVec 32 := Scalar.addi v150 v6169
  let c1_i32_1536 : BitVec 32 := 1#32
  let v6187 : BitVec 32 := Scalar.subi v145 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t28
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off39 (v72 : BitVec 32) (v74 : BitVec 32) (v76 : BitVec 32) (k0_t26 : Fin (k0_t26_loop v72 v74 v76).trips) (c0_i32_1541 : BitVec 32) : Fin 2 → Nat :=
  let c3_i32_1542 : BitVec 32 := 3#32
  let v6196 : Index := Scalar.indexCast c3_i32_1542
  let c0_i32_1528 : BitVec 32 := 0#32
  let c1_i32_1531 : BitVec 32 := 1#32
  let arg13 : BitVec 32 := Scf.iv c0_i32_1528 c1_i32_1531 k0_t26
  let c64_i32_1540 : BitVec 32 := 64#32
  let v6194 : BitVec 32 := Scalar.muli arg13 c64_i32_1540
  let v6195 : BitVec 32 := Scalar.addi v6194 c0_i32_1541
  let v6197 : Index := Scalar.indexCast v6195
  ![3, v6197.toNat]
@[reducible] def k0_t29_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off40 (i : grid0.Coords) (v68 : BitVec 32) (v72 : BitVec 32) (v74 : BitVec 32) (v76 : BitVec 32) (v143 : BitVec 32) (k0_t29 : Fin (k0_t29_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_57 : BitVec 32 := 2500#32
  let v146 : BitVec 32 := Scalar.muli v70 c2500_i32_57
  let c50_i32_58 : BitVec 32 := 50#32
  let v147 : BitVec 32 := Scalar.muli v143 c50_i32_58
  let v148 : BitVec 32 := Scalar.addi v146 v147
  let v149 : BitVec 32 := Scalar.addi v148 v72
  let c16_i32_59 : BitVec 32 := 16#32
  let v150 : BitVec 32 := Scalar.muli v149 c16_i32_59
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t29
  let c64_i32 : BitVec 32 := 64#32
  let v6169 : BitVec 32 := Scalar.muli arg13 c64_i32
  let v6170 : BitVec 32 := Scalar.addi v150 v6169
  let v6171 : BitVec 32 := Scalar.addi v6170 c0_i32_1533
  let v6172 : Index := Scalar.indexCast v6171
  ![v6172.toNat]
@[reducible] def k0_t30_loop (v145 : BitVec 32) : Scf.Loop 32 :=
  let c1_i32_1536 : BitVec 32 := 1#32
  let v6187 : BitVec 32 := Scalar.subi v145 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off41 (i : grid0.Coords) (v68 : BitVec 32) (v72 : BitVec 32) (v74 : BitVec 32) (v76 : BitVec 32) (v143 : BitVec 32) (v145 : BitVec 32) (k0_t29 : Fin (k0_t29_loop v72 v74 v76).trips) (k0_t30 : Fin (k0_t30_loop v145).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_57 : BitVec 32 := 2500#32
  let v146 : BitVec 32 := Scalar.muli v70 c2500_i32_57
  let c50_i32_58 : BitVec 32 := 50#32
  let v147 : BitVec 32 := Scalar.muli v143 c50_i32_58
  let v148 : BitVec 32 := Scalar.addi v146 v147
  let v149 : BitVec 32 := Scalar.addi v148 v72
  let c16_i32_59 : BitVec 32 := 16#32
  let v150 : BitVec 32 := Scalar.muli v149 c16_i32_59
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t29
  let c64_i32 : BitVec 32 := 64#32
  let v6169 : BitVec 32 := Scalar.muli arg13 c64_i32
  let v6170 : BitVec 32 := Scalar.addi v150 v6169
  let c1_i32_1536 : BitVec 32 := 1#32
  let c1_i32_1538 : BitVec 32 := 1#32
  let arg15 : BitVec 32 := Scf.iv c1_i32_1536 c1_i32_1538 k0_t30
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t31_loop (v145 : BitVec 32) : Scf.Loop 32 :=
  let c1_i32_1536 : BitVec 32 := 1#32
  let v6187 : BitVec 32 := Scalar.subi v145 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off42 (i : grid0.Coords) (v68 : BitVec 32) (v72 : BitVec 32) (v74 : BitVec 32) (v76 : BitVec 32) (v143 : BitVec 32) (v145 : BitVec 32) (k0_t29 : Fin (k0_t29_loop v72 v74 v76).trips) (k0_t31 : Fin (k0_t31_loop v145).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_57 : BitVec 32 := 2500#32
  let v146 : BitVec 32 := Scalar.muli v70 c2500_i32_57
  let c50_i32_58 : BitVec 32 := 50#32
  let v147 : BitVec 32 := Scalar.muli v143 c50_i32_58
  let v148 : BitVec 32 := Scalar.addi v146 v147
  let v149 : BitVec 32 := Scalar.addi v148 v72
  let c16_i32_59 : BitVec 32 := 16#32
  let v150 : BitVec 32 := Scalar.muli v149 c16_i32_59
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t29
  let c64_i32 : BitVec 32 := 64#32
  let v6169 : BitVec 32 := Scalar.muli arg13 c64_i32
  let v6170 : BitVec 32 := Scalar.addi v150 v6169
  let c1_i32_1536 : BitVec 32 := 1#32
  let v6187 : BitVec 32 := Scalar.subi v145 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t31
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off43 (v72 : BitVec 32) (v74 : BitVec 32) (v76 : BitVec 32) (k0_t29 : Fin (k0_t29_loop v72 v74 v76).trips) (c0_i32_1541 : BitVec 32) : Fin 2 → Nat :=
  let c3_i32_1542 : BitVec 32 := 3#32
  let v6196 : Index := Scalar.indexCast c3_i32_1542
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t29
  let c64_i32_1540 : BitVec 32 := 64#32
  let v6194 : BitVec 32 := Scalar.muli arg13 c64_i32_1540
  let v6195 : BitVec 32 := Scalar.addi v6194 c0_i32_1541
  let v6197 : Index := Scalar.indexCast v6195
  ![3, v6197.toNat]
@[reducible] def k0_t32_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond9 (v145 : BitVec 32) : BitVec 1 :=
  let c0_i32_62 : BitVec 32 := 0#32
  let v154 : BitVec 1 := Scalar.cmpi .eq v145 c0_i32_62
  let v155 : BitVec 32 := Scalar.extui v154
  let c0_i32_63 : BitVec 32 := 0#32
  let v156 : BitVec 1 := Scalar.cmpi .ne v155 c0_i32_63
  v156

def k0_off44 (v72 : BitVec 32) (v74 : BitVec 32) (v76 : BitVec 32) (k0_t32 : Fin (k0_t32_loop v72 v74 v76).trips) (c0_i32_1533 : BitVec 32) : Fin 2 → Nat :=
  let c3_i32_1534 : BitVec 32 := 3#32
  let v6171 : Index := Scalar.indexCast c3_i32_1534
  let c0_i32_1528 : BitVec 32 := 0#32
  let c1_i32_1531 : BitVec 32 := 1#32
  let arg13 : BitVec 32 := Scf.iv c0_i32_1528 c1_i32_1531 k0_t32
  let c64_i32 : BitVec 32 := 64#32
  let v6169 : BitVec 32 := Scalar.muli arg13 c64_i32
  let v6170 : BitVec 32 := Scalar.addi v6169 c0_i32_1533
  let v6172 : Index := Scalar.indexCast v6170
  ![3, v6172.toNat]
@[reducible] def k0_t33_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off45 (v72 : BitVec 32) (v74 : BitVec 32) (v76 : BitVec 32) (k0_t33 : Fin (k0_t33_loop v72 v74 v76).trips) (c0_i32_1533 : BitVec 32) : Fin 2 → Nat :=
  let c3_i32_1534 : BitVec 32 := 3#32
  let v6171 : Index := Scalar.indexCast c3_i32_1534
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t33
  let c64_i32 : BitVec 32 := 64#32
  let v6169 : BitVec 32 := Scalar.muli arg13 c64_i32
  let v6170 : BitVec 32 := Scalar.addi v6169 c0_i32_1533
  let v6172 : Index := Scalar.indexCast v6170
  ![3, v6172.toNat]

def k0_chk4 (i : grid0.Coords) (v68 : BitVec 32) (v72 : BitVec 32) (v74 : BitVec 32) (v76 : BitVec 32) (v143 : BitVec 32) (v145 : BitVec 32) : Prop :=
  (∀ (k0_h8 : k0_cond8 v145 = 1#1), (k0_t26_loop v72 v74 v76).OK) ∧
  (∀ k0_t26 : Fin (k0_t26_loop v72 v74 v76).trips, ∀ (k0_h8 : k0_cond8 v145 = 1#1), ∀ (r : Fin 4), ∀ a, (k0_off36 i v68 v72 v74 v76 v143 k0_t26 (BitVec.ofNat 32 (16 * r.val))) a + S16.size a ≤ S80896.size a) ∧
  (∀ k0_t26 : Fin (k0_t26_loop v72 v74 v76).trips, ∀ (k0_h8 : k0_cond8 v145 = 1#1), (k0_t27_loop v145).OK) ∧
  (∀ (k0_t26 : Fin (k0_t26_loop v72 v74 v76).trips) (k0_t27 : Fin (k0_t27_loop v145).trips), ∀ (k0_h8 : k0_cond8 v145 = 1#1), ∀ (r : Fin 4), ∀ a, (k0_off37 i v68 v72 v74 v76 v143 v145 k0_t26 k0_t27 (BitVec.ofNat 32 (16 * r.val))) a + S16.size a ≤ S80896.size a) ∧
  (∀ k0_t26 : Fin (k0_t26_loop v72 v74 v76).trips, ∀ (k0_h8 : k0_cond8 v145 = 1#1), (k0_t28_loop v145).OK) ∧
  (∀ (k0_t26 : Fin (k0_t26_loop v72 v74 v76).trips) (k0_t28 : Fin (k0_t28_loop v145).trips), ∀ (k0_h8 : k0_cond8 v145 = 1#1), ∀ (r : Fin 4), ∀ a, (k0_off38 i v68 v72 v74 v76 v143 v145 k0_t26 k0_t28 (BitVec.ofNat 32 (16 * r.val))) a + S16.size a ≤ S80896.size a) ∧
  (∀ k0_t26 : Fin (k0_t26_loop v72 v74 v76).trips, ∀ (k0_h8 : k0_cond8 v145 = 1#1), ∀ (r : Fin 4), ∀ a, (k0_off39 v72 v74 v76 k0_t26 (BitVec.ofNat 32 (16 * r.val))) a + S1x16.size a ≤ S7x880.size a) ∧
  (∀ (k0_h8 : k0_cond8 v145 = 1#1), (k0_t29_loop v72 v74 v76).OK) ∧
  (∀ k0_t29 : Fin (k0_t29_loop v72 v74 v76).trips, ∀ (k0_h8 : k0_cond8 v145 = 1#1), ∀ (r : Fin 4), ∀ a, (k0_off40 i v68 v72 v74 v76 v143 k0_t29 (BitVec.ofNat 32 (16 * r.val))) a + S16.size a ≤ S80896.size a) ∧
  (∀ k0_t29 : Fin (k0_t29_loop v72 v74 v76).trips, ∀ (k0_h8 : k0_cond8 v145 = 1#1), (k0_t30_loop v145).OK) ∧
  (∀ (k0_t29 : Fin (k0_t29_loop v72 v74 v76).trips) (k0_t30 : Fin (k0_t30_loop v145).trips), ∀ (k0_h8 : k0_cond8 v145 = 1#1), ∀ (r : Fin 4), ∀ a, (k0_off41 i v68 v72 v74 v76 v143 v145 k0_t29 k0_t30 (BitVec.ofNat 32 (16 * r.val))) a + S16.size a ≤ S80896.size a) ∧
  (∀ k0_t29 : Fin (k0_t29_loop v72 v74 v76).trips, ∀ (k0_h8 : k0_cond8 v145 = 1#1), (k0_t31_loop v145).OK) ∧
  (∀ (k0_t29 : Fin (k0_t29_loop v72 v74 v76).trips) (k0_t31 : Fin (k0_t31_loop v145).trips), ∀ (k0_h8 : k0_cond8 v145 = 1#1), ∀ (r : Fin 4), ∀ a, (k0_off42 i v68 v72 v74 v76 v143 v145 k0_t29 k0_t31 (BitVec.ofNat 32 (16 * r.val))) a + S16.size a ≤ S80896.size a) ∧
  (∀ k0_t29 : Fin (k0_t29_loop v72 v74 v76).trips, ∀ (k0_h8 : k0_cond8 v145 = 1#1), ∀ (r : Fin 4), ∀ a, (k0_off43 v72 v74 v76 k0_t29 (BitVec.ofNat 32 (16 * r.val))) a + S1x16.size a ≤ S7x880.size a) ∧
  (∀ (k0_h9 : k0_cond9 v145 = 1#1), (k0_t32_loop v72 v74 v76).OK) ∧
  (∀ k0_t32 : Fin (k0_t32_loop v72 v74 v76).trips, ∀ (k0_h9 : k0_cond9 v145 = 1#1), ∀ (r : Fin 4), ∀ a, (k0_off44 v72 v74 v76 k0_t32 (BitVec.ofNat 32 (16 * r.val))) a + S1x16.size a ≤ S7x880.size a) ∧
  (∀ (k0_h9 : k0_cond9 v145 = 1#1), (k0_t33_loop v72 v74 v76).OK) ∧
  (∀ k0_t33 : Fin (k0_t33_loop v72 v74 v76).trips, ∀ (k0_h9 : k0_cond9 v145 = 1#1), ∀ (r : Fin 4), ∀ a, (k0_off45 v72 v74 v76 k0_t33 (BitVec.ofNat 32 (16 * r.val))) a + S1x16.size a ≤ S7x880.size a)
theorem k0_t26_ok : ∀ (i : grid0.Coords) (v68 : BitVec 32) (v72 : BitVec 32) (v74 : BitVec 32) (v76 : BitVec 32) (v143 : BitVec 32) (v145 : BitVec 32) (k0_hw4 : k0_chk4 i v68 v72 v74 v76 v143 v145), ∀ (k0_h8 : k0_cond8 v145 = 1#1), (k0_t26_loop v72 v74 v76).OK := fun i v68 v72 v74 v76 v143 v145 k0_hw4 k0_h8 => k0_hw4.1 k0_h8
theorem k0_off36_inb : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t26 : Fin (k0_t26_loop v72 v74 v76).trips), ∀ (k0_h8 : k0_cond8 v145 = 1#1), ∀ (r : Fin 4), ∀ a, (k0_off36 i v68 v72 v74 v76 v143 k0_t26 (BitVec.ofNat 32 (16 * r.val))) a + S16.size a ≤ S80896.size a := fun i v68 v72 v74 v76 v143 v145 k0_hw4 k0_t26 k0_h8 r => k0_hw4.2.1 k0_t26 k0_h8 r
theorem k0_t27_ok : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t26 : Fin (k0_t26_loop v72 v74 v76).trips), ∀ (k0_h8 : k0_cond8 v145 = 1#1), (k0_t27_loop v145).OK := fun i v68 v72 v74 v76 v143 v145 k0_hw4 k0_t26 k0_h8 => k0_hw4.2.2.1 k0_t26 k0_h8
theorem k0_off37_inb : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t26 : Fin (k0_t26_loop v72 v74 v76).trips) (k0_t27 : Fin (k0_t27_loop v145).trips), ∀ (k0_h8 : k0_cond8 v145 = 1#1), ∀ (r : Fin 4), ∀ a, (k0_off37 i v68 v72 v74 v76 v143 v145 k0_t26 k0_t27 (BitVec.ofNat 32 (16 * r.val))) a + S16.size a ≤ S80896.size a := fun i v68 v72 v74 v76 v143 v145 k0_hw4 k0_t26 k0_t27 k0_h8 r => k0_hw4.2.2.2.1 k0_t26 k0_t27 k0_h8 r
theorem k0_t28_ok : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t26 : Fin (k0_t26_loop v72 v74 v76).trips), ∀ (k0_h8 : k0_cond8 v145 = 1#1), (k0_t28_loop v145).OK := fun i v68 v72 v74 v76 v143 v145 k0_hw4 k0_t26 k0_h8 => k0_hw4.2.2.2.2.1 k0_t26 k0_h8
theorem k0_off38_inb : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t26 : Fin (k0_t26_loop v72 v74 v76).trips) (k0_t28 : Fin (k0_t28_loop v145).trips), ∀ (k0_h8 : k0_cond8 v145 = 1#1), ∀ (r : Fin 4), ∀ a, (k0_off38 i v68 v72 v74 v76 v143 v145 k0_t26 k0_t28 (BitVec.ofNat 32 (16 * r.val))) a + S16.size a ≤ S80896.size a := fun i v68 v72 v74 v76 v143 v145 k0_hw4 k0_t26 k0_t28 k0_h8 r => k0_hw4.2.2.2.2.2.1 k0_t26 k0_t28 k0_h8 r
theorem k0_off39_inb : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t26 : Fin (k0_t26_loop v72 v74 v76).trips), ∀ (k0_h8 : k0_cond8 v145 = 1#1), ∀ (r : Fin 4), ∀ a, (k0_off39 v72 v74 v76 k0_t26 (BitVec.ofNat 32 (16 * r.val))) a + S1x16.size a ≤ S7x880.size a := fun i v68 v72 v74 v76 v143 v145 k0_hw4 k0_t26 k0_h8 r => k0_hw4.2.2.2.2.2.2.1 k0_t26 k0_h8 r
theorem k0_t29_ok : ∀ (i : grid0.Coords) (v68 : BitVec 32) (v72 : BitVec 32) (v74 : BitVec 32) (v76 : BitVec 32) (v143 : BitVec 32) (v145 : BitVec 32) (k0_hw4 : k0_chk4 i v68 v72 v74 v76 v143 v145), ∀ (k0_h8 : k0_cond8 v145 = 1#1), (k0_t29_loop v72 v74 v76).OK := fun i v68 v72 v74 v76 v143 v145 k0_hw4 k0_h8 => k0_hw4.2.2.2.2.2.2.2.1 k0_h8
theorem k0_off40_inb : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t29 : Fin (k0_t29_loop v72 v74 v76).trips), ∀ (k0_h8 : k0_cond8 v145 = 1#1), ∀ (r : Fin 4), ∀ a, (k0_off40 i v68 v72 v74 v76 v143 k0_t29 (BitVec.ofNat 32 (16 * r.val))) a + S16.size a ≤ S80896.size a := fun i v68 v72 v74 v76 v143 v145 k0_hw4 k0_t29 k0_h8 r => k0_hw4.2.2.2.2.2.2.2.2.1 k0_t29 k0_h8 r
theorem k0_t30_ok : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t29 : Fin (k0_t29_loop v72 v74 v76).trips), ∀ (k0_h8 : k0_cond8 v145 = 1#1), (k0_t30_loop v145).OK := fun i v68 v72 v74 v76 v143 v145 k0_hw4 k0_t29 k0_h8 => k0_hw4.2.2.2.2.2.2.2.2.2.1 k0_t29 k0_h8
theorem k0_off41_inb : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t29 : Fin (k0_t29_loop v72 v74 v76).trips) (k0_t30 : Fin (k0_t30_loop v145).trips), ∀ (k0_h8 : k0_cond8 v145 = 1#1), ∀ (r : Fin 4), ∀ a, (k0_off41 i v68 v72 v74 v76 v143 v145 k0_t29 k0_t30 (BitVec.ofNat 32 (16 * r.val))) a + S16.size a ≤ S80896.size a := fun i v68 v72 v74 v76 v143 v145 k0_hw4 k0_t29 k0_t30 k0_h8 r => k0_hw4.2.2.2.2.2.2.2.2.2.2.1 k0_t29 k0_t30 k0_h8 r
theorem k0_t31_ok : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t29 : Fin (k0_t29_loop v72 v74 v76).trips), ∀ (k0_h8 : k0_cond8 v145 = 1#1), (k0_t31_loop v145).OK := fun i v68 v72 v74 v76 v143 v145 k0_hw4 k0_t29 k0_h8 => k0_hw4.2.2.2.2.2.2.2.2.2.2.2.1 k0_t29 k0_h8
theorem k0_off42_inb : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t29 : Fin (k0_t29_loop v72 v74 v76).trips) (k0_t31 : Fin (k0_t31_loop v145).trips), ∀ (k0_h8 : k0_cond8 v145 = 1#1), ∀ (r : Fin 4), ∀ a, (k0_off42 i v68 v72 v74 v76 v143 v145 k0_t29 k0_t31 (BitVec.ofNat 32 (16 * r.val))) a + S16.size a ≤ S80896.size a := fun i v68 v72 v74 v76 v143 v145 k0_hw4 k0_t29 k0_t31 k0_h8 r => k0_hw4.2.2.2.2.2.2.2.2.2.2.2.2.1 k0_t29 k0_t31 k0_h8 r
theorem k0_off43_inb : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t29 : Fin (k0_t29_loop v72 v74 v76).trips), ∀ (k0_h8 : k0_cond8 v145 = 1#1), ∀ (r : Fin 4), ∀ a, (k0_off43 v72 v74 v76 k0_t29 (BitVec.ofNat 32 (16 * r.val))) a + S1x16.size a ≤ S7x880.size a := fun i v68 v72 v74 v76 v143 v145 k0_hw4 k0_t29 k0_h8 r => k0_hw4.2.2.2.2.2.2.2.2.2.2.2.2.2.1 k0_t29 k0_h8 r
theorem k0_t32_ok : ∀ (i : grid0.Coords) (v68 : BitVec 32) (v72 : BitVec 32) (v74 : BitVec 32) (v76 : BitVec 32) (v143 : BitVec 32) (v145 : BitVec 32) (k0_hw4 : k0_chk4 i v68 v72 v74 v76 v143 v145), ∀ (k0_h9 : k0_cond9 v145 = 1#1), (k0_t32_loop v72 v74 v76).OK := fun i v68 v72 v74 v76 v143 v145 k0_hw4 k0_h9 => k0_hw4.2.2.2.2.2.2.2.2.2.2.2.2.2.2.1 k0_h9
theorem k0_off44_inb : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t32 : Fin (k0_t32_loop v72 v74 v76).trips), ∀ (k0_h9 : k0_cond9 v145 = 1#1), ∀ (r : Fin 4), ∀ a, (k0_off44 v72 v74 v76 k0_t32 (BitVec.ofNat 32 (16 * r.val))) a + S1x16.size a ≤ S7x880.size a := fun i v68 v72 v74 v76 v143 v145 k0_hw4 k0_t32 k0_h9 r => k0_hw4.2.2.2.2.2.2.2.2.2.2.2.2.2.2.2.1 k0_t32 k0_h9 r
theorem k0_t33_ok : ∀ (i : grid0.Coords) (v68 : BitVec 32) (v72 : BitVec 32) (v74 : BitVec 32) (v76 : BitVec 32) (v143 : BitVec 32) (v145 : BitVec 32) (k0_hw4 : k0_chk4 i v68 v72 v74 v76 v143 v145), ∀ (k0_h9 : k0_cond9 v145 = 1#1), (k0_t33_loop v72 v74 v76).OK := fun i v68 v72 v74 v76 v143 v145 k0_hw4 k0_h9 => k0_hw4.2.2.2.2.2.2.2.2.2.2.2.2.2.2.2.2.1 k0_h9
theorem k0_off45_inb : ∀ (i : grid0.Coords) (v68 : BitVec 32) (v72 : BitVec 32) (v74 : BitVec 32) (v76 : BitVec 32) (v143 : BitVec 32) (v145 : BitVec 32) (k0_hw4 : k0_chk4 i v68 v72 v74 v76 v143 v145) (k0_t33 : Fin (k0_t33_loop v72 v74 v76).trips), ∀ (k0_h9 : k0_cond9 v145 = 1#1), ∀ (r : Fin 4), ∀ a, (k0_off45 v72 v74 v76 k0_t33 (BitVec.ofNat 32 (16 * r.val))) a + S1x16.size a ≤ S7x880.size a := fun i v68 v72 v74 v76 v143 v145 k0_hw4 k0_t33 k0_h9 r => k0_hw4.2.2.2.2.2.2.2.2.2.2.2.2.2.2.2.2.2 k0_t33 k0_h9 r

@[reducible] def k0_t34_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond10 (v160 : BitVec 32) : BitVec 1 :=
  let c0_i32_67 : BitVec 32 := 0#32
  let v166 : BitVec 1 := Scalar.cmpi .sgt v160 c0_i32_67
  let v167 : BitVec 32 := Scalar.extui v166
  let c0_i32_68 : BitVec 32 := 0#32
  let v168 : BitVec 1 := Scalar.cmpi .ne v167 c0_i32_68
  v168

def k0_off46 (i : grid0.Coords) (v68 : BitVec 32) (v72 : BitVec 32) (v74 : BitVec 32) (v76 : BitVec 32) (v158 : BitVec 32) (k0_t34 : Fin (k0_t34_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_64 : BitVec 32 := 2500#32
  let v161 : BitVec 32 := Scalar.muli v70 c2500_i32_64
  let c50_i32_65 : BitVec 32 := 50#32
  let v162 : BitVec 32 := Scalar.muli v158 c50_i32_65
  let v163 : BitVec 32 := Scalar.addi v161 v162
  let v164 : BitVec 32 := Scalar.addi v163 v72
  let c16_i32_66 : BitVec 32 := 16#32
  let v165 : BitVec 32 := Scalar.muli v164 c16_i32_66
  let c0_i32_1528 : BitVec 32 := 0#32
  let c1_i32_1531 : BitVec 32 := 1#32
  let arg13 : BitVec 32 := Scf.iv c0_i32_1528 c1_i32_1531 k0_t34
  let c64_i32 : BitVec 32 := 64#32
  let v6169 : BitVec 32 := Scalar.muli arg13 c64_i32
  let v6170 : BitVec 32 := Scalar.addi v165 v6169
  let v6171 : BitVec 32 := Scalar.addi v6170 c0_i32_1533
  let v6172 : Index := Scalar.indexCast v6171
  ![v6172.toNat]
@[reducible] def k0_t35_loop (v160 : BitVec 32) : Scf.Loop 32 :=
  let c1_i32_1536 : BitVec 32 := 1#32
  let v6187 : BitVec 32 := Scalar.subi v160 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off47 (i : grid0.Coords) (v68 : BitVec 32) (v72 : BitVec 32) (v74 : BitVec 32) (v76 : BitVec 32) (v158 : BitVec 32) (v160 : BitVec 32) (k0_t34 : Fin (k0_t34_loop v72 v74 v76).trips) (k0_t35 : Fin (k0_t35_loop v160).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_64 : BitVec 32 := 2500#32
  let v161 : BitVec 32 := Scalar.muli v70 c2500_i32_64
  let c50_i32_65 : BitVec 32 := 50#32
  let v162 : BitVec 32 := Scalar.muli v158 c50_i32_65
  let v163 : BitVec 32 := Scalar.addi v161 v162
  let v164 : BitVec 32 := Scalar.addi v163 v72
  let c16_i32_66 : BitVec 32 := 16#32
  let v165 : BitVec 32 := Scalar.muli v164 c16_i32_66
  let c0_i32_1528 : BitVec 32 := 0#32
  let c1_i32_1531 : BitVec 32 := 1#32
  let arg13 : BitVec 32 := Scf.iv c0_i32_1528 c1_i32_1531 k0_t34
  let c64_i32 : BitVec 32 := 64#32
  let v6169 : BitVec 32 := Scalar.muli arg13 c64_i32
  let v6170 : BitVec 32 := Scalar.addi v165 v6169
  let c1_i32_1536 : BitVec 32 := 1#32
  let c1_i32_1538 : BitVec 32 := 1#32
  let arg15 : BitVec 32 := Scf.iv c1_i32_1536 c1_i32_1538 k0_t35
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t36_loop (v160 : BitVec 32) : Scf.Loop 32 :=
  let c1_i32_1536 : BitVec 32 := 1#32
  let v6187 : BitVec 32 := Scalar.subi v160 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off48 (i : grid0.Coords) (v68 : BitVec 32) (v72 : BitVec 32) (v74 : BitVec 32) (v76 : BitVec 32) (v158 : BitVec 32) (v160 : BitVec 32) (k0_t34 : Fin (k0_t34_loop v72 v74 v76).trips) (k0_t36 : Fin (k0_t36_loop v160).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_64 : BitVec 32 := 2500#32
  let v161 : BitVec 32 := Scalar.muli v70 c2500_i32_64
  let c50_i32_65 : BitVec 32 := 50#32
  let v162 : BitVec 32 := Scalar.muli v158 c50_i32_65
  let v163 : BitVec 32 := Scalar.addi v161 v162
  let v164 : BitVec 32 := Scalar.addi v163 v72
  let c16_i32_66 : BitVec 32 := 16#32
  let v165 : BitVec 32 := Scalar.muli v164 c16_i32_66
  let c0_i32_1528 : BitVec 32 := 0#32
  let c1_i32_1531 : BitVec 32 := 1#32
  let arg13 : BitVec 32 := Scf.iv c0_i32_1528 c1_i32_1531 k0_t34
  let c64_i32 : BitVec 32 := 64#32
  let v6169 : BitVec 32 := Scalar.muli arg13 c64_i32
  let v6170 : BitVec 32 := Scalar.addi v165 v6169
  let c1_i32_1536 : BitVec 32 := 1#32
  let v6187 : BitVec 32 := Scalar.subi v160 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t36
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off49 (v72 : BitVec 32) (v74 : BitVec 32) (v76 : BitVec 32) (k0_t34 : Fin (k0_t34_loop v72 v74 v76).trips) (c0_i32_1541 : BitVec 32) : Fin 2 → Nat :=
  let c4_i32_1542 : BitVec 32 := 4#32
  let v6196 : Index := Scalar.indexCast c4_i32_1542
  let c0_i32_1528 : BitVec 32 := 0#32
  let c1_i32_1531 : BitVec 32 := 1#32
  let arg13 : BitVec 32 := Scf.iv c0_i32_1528 c1_i32_1531 k0_t34
  let c64_i32_1540 : BitVec 32 := 64#32
  let v6194 : BitVec 32 := Scalar.muli arg13 c64_i32_1540
  let v6195 : BitVec 32 := Scalar.addi v6194 c0_i32_1541
  let v6197 : Index := Scalar.indexCast v6195
  ![4, v6197.toNat]
@[reducible] def k0_t37_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off50 (i : grid0.Coords) (v68 : BitVec 32) (v72 : BitVec 32) (v74 : BitVec 32) (v76 : BitVec 32) (v158 : BitVec 32) (k0_t37 : Fin (k0_t37_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_64 : BitVec 32 := 2500#32
  let v161 : BitVec 32 := Scalar.muli v70 c2500_i32_64
  let c50_i32_65 : BitVec 32 := 50#32
  let v162 : BitVec 32 := Scalar.muli v158 c50_i32_65
  let v163 : BitVec 32 := Scalar.addi v161 v162
  let v164 : BitVec 32 := Scalar.addi v163 v72
  let c16_i32_66 : BitVec 32 := 16#32
  let v165 : BitVec 32 := Scalar.muli v164 c16_i32_66
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t37
  let c64_i32 : BitVec 32 := 64#32
  let v6169 : BitVec 32 := Scalar.muli arg13 c64_i32
  let v6170 : BitVec 32 := Scalar.addi v165 v6169
  let v6171 : BitVec 32 := Scalar.addi v6170 c0_i32_1533
  let v6172 : Index := Scalar.indexCast v6171
  ![v6172.toNat]
@[reducible] def k0_t38_loop (v160 : BitVec 32) : Scf.Loop 32 :=
  let c1_i32_1536 : BitVec 32 := 1#32
  let v6187 : BitVec 32 := Scalar.subi v160 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off51 (i : grid0.Coords) (v68 : BitVec 32) (v72 : BitVec 32) (v74 : BitVec 32) (v76 : BitVec 32) (v158 : BitVec 32) (v160 : BitVec 32) (k0_t37 : Fin (k0_t37_loop v72 v74 v76).trips) (k0_t38 : Fin (k0_t38_loop v160).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_64 : BitVec 32 := 2500#32
  let v161 : BitVec 32 := Scalar.muli v70 c2500_i32_64
  let c50_i32_65 : BitVec 32 := 50#32
  let v162 : BitVec 32 := Scalar.muli v158 c50_i32_65
  let v163 : BitVec 32 := Scalar.addi v161 v162
  let v164 : BitVec 32 := Scalar.addi v163 v72
  let c16_i32_66 : BitVec 32 := 16#32
  let v165 : BitVec 32 := Scalar.muli v164 c16_i32_66
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t37
  let c64_i32 : BitVec 32 := 64#32
  let v6169 : BitVec 32 := Scalar.muli arg13 c64_i32
  let v6170 : BitVec 32 := Scalar.addi v165 v6169
  let c1_i32_1536 : BitVec 32 := 1#32
  let c1_i32_1538 : BitVec 32 := 1#32
  let arg15 : BitVec 32 := Scf.iv c1_i32_1536 c1_i32_1538 k0_t38
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t39_loop (v160 : BitVec 32) : Scf.Loop 32 :=
  let c1_i32_1536 : BitVec 32 := 1#32
  let v6187 : BitVec 32 := Scalar.subi v160 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off52 (i : grid0.Coords) (v68 : BitVec 32) (v72 : BitVec 32) (v74 : BitVec 32) (v76 : BitVec 32) (v158 : BitVec 32) (v160 : BitVec 32) (k0_t37 : Fin (k0_t37_loop v72 v74 v76).trips) (k0_t39 : Fin (k0_t39_loop v160).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_64 : BitVec 32 := 2500#32
  let v161 : BitVec 32 := Scalar.muli v70 c2500_i32_64
  let c50_i32_65 : BitVec 32 := 50#32
  let v162 : BitVec 32 := Scalar.muli v158 c50_i32_65
  let v163 : BitVec 32 := Scalar.addi v161 v162
  let v164 : BitVec 32 := Scalar.addi v163 v72
  let c16_i32_66 : BitVec 32 := 16#32
  let v165 : BitVec 32 := Scalar.muli v164 c16_i32_66
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t37
  let c64_i32 : BitVec 32 := 64#32
  let v6169 : BitVec 32 := Scalar.muli arg13 c64_i32
  let v6170 : BitVec 32 := Scalar.addi v165 v6169
  let c1_i32_1536 : BitVec 32 := 1#32
  let v6187 : BitVec 32 := Scalar.subi v160 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t39
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off53 (v72 : BitVec 32) (v74 : BitVec 32) (v76 : BitVec 32) (k0_t37 : Fin (k0_t37_loop v72 v74 v76).trips) (c0_i32_1541 : BitVec 32) : Fin 2 → Nat :=
  let c4_i32_1542 : BitVec 32 := 4#32
  let v6196 : Index := Scalar.indexCast c4_i32_1542
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t37
  let c64_i32_1540 : BitVec 32 := 64#32
  let v6194 : BitVec 32 := Scalar.muli arg13 c64_i32_1540
  let v6195 : BitVec 32 := Scalar.addi v6194 c0_i32_1541
  let v6197 : Index := Scalar.indexCast v6195
  ![4, v6197.toNat]
@[reducible] def k0_t40_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond11 (v160 : BitVec 32) : BitVec 1 :=
  let c0_i32_69 : BitVec 32 := 0#32
  let v169 : BitVec 1 := Scalar.cmpi .eq v160 c0_i32_69
  let v170 : BitVec 32 := Scalar.extui v169
  let c0_i32_70 : BitVec 32 := 0#32
  let v171 : BitVec 1 := Scalar.cmpi .ne v170 c0_i32_70
  v171

def k0_off54 (v72 : BitVec 32) (v74 : BitVec 32) (v76 : BitVec 32) (k0_t40 : Fin (k0_t40_loop v72 v74 v76).trips) (c0_i32_1533 : BitVec 32) : Fin 2 → Nat :=
  let c4_i32_1534 : BitVec 32 := 4#32
  let v6171 : Index := Scalar.indexCast c4_i32_1534
  let c0_i32_1528 : BitVec 32 := 0#32
  let c1_i32_1531 : BitVec 32 := 1#32
  let arg13 : BitVec 32 := Scf.iv c0_i32_1528 c1_i32_1531 k0_t40
  let c64_i32 : BitVec 32 := 64#32
  let v6169 : BitVec 32 := Scalar.muli arg13 c64_i32
  let v6170 : BitVec 32 := Scalar.addi v6169 c0_i32_1533
  let v6172 : Index := Scalar.indexCast v6170
  ![4, v6172.toNat]
@[reducible] def k0_t41_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off55 (v72 : BitVec 32) (v74 : BitVec 32) (v76 : BitVec 32) (k0_t41 : Fin (k0_t41_loop v72 v74 v76).trips) (c0_i32_1533 : BitVec 32) : Fin 2 → Nat :=
  let c4_i32_1534 : BitVec 32 := 4#32
  let v6171 : Index := Scalar.indexCast c4_i32_1534
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t41
  let c64_i32 : BitVec 32 := 64#32
  let v6169 : BitVec 32 := Scalar.muli arg13 c64_i32
  let v6170 : BitVec 32 := Scalar.addi v6169 c0_i32_1533
  let v6172 : Index := Scalar.indexCast v6170
  ![4, v6172.toNat]

def k0_chk5 (i : grid0.Coords) (v68 : BitVec 32) (v72 : BitVec 32) (v74 : BitVec 32) (v76 : BitVec 32) (v158 : BitVec 32) (v160 : BitVec 32) : Prop :=
  (∀ (k0_h10 : k0_cond10 v160 = 1#1), (k0_t34_loop v72 v74 v76).OK) ∧
  (∀ k0_t34 : Fin (k0_t34_loop v72 v74 v76).trips, ∀ (k0_h10 : k0_cond10 v160 = 1#1), ∀ (r : Fin 4), ∀ a, (k0_off46 i v68 v72 v74 v76 v158 k0_t34 (BitVec.ofNat 32 (16 * r.val))) a + S16.size a ≤ S80896.size a) ∧
  (∀ k0_t34 : Fin (k0_t34_loop v72 v74 v76).trips, ∀ (k0_h10 : k0_cond10 v160 = 1#1), (k0_t35_loop v160).OK) ∧
  (∀ (k0_t34 : Fin (k0_t34_loop v72 v74 v76).trips) (k0_t35 : Fin (k0_t35_loop v160).trips), ∀ (k0_h10 : k0_cond10 v160 = 1#1), ∀ (r : Fin 4), ∀ a, (k0_off47 i v68 v72 v74 v76 v158 v160 k0_t34 k0_t35 (BitVec.ofNat 32 (16 * r.val))) a + S16.size a ≤ S80896.size a) ∧
  (∀ k0_t34 : Fin (k0_t34_loop v72 v74 v76).trips, ∀ (k0_h10 : k0_cond10 v160 = 1#1), (k0_t36_loop v160).OK) ∧
  (∀ (k0_t34 : Fin (k0_t34_loop v72 v74 v76).trips) (k0_t36 : Fin (k0_t36_loop v160).trips), ∀ (k0_h10 : k0_cond10 v160 = 1#1), ∀ (r : Fin 4), ∀ a, (k0_off48 i v68 v72 v74 v76 v158 v160 k0_t34 k0_t36 (BitVec.ofNat 32 (16 * r.val))) a + S16.size a ≤ S80896.size a) ∧
  (∀ k0_t34 : Fin (k0_t34_loop v72 v74 v76).trips, ∀ (k0_h10 : k0_cond10 v160 = 1#1), ∀ (r : Fin 4), ∀ a, (k0_off49 v72 v74 v76 k0_t34 (BitVec.ofNat 32 (16 * r.val))) a + S1x16.size a ≤ S7x880.size a) ∧
  (∀ (k0_h10 : k0_cond10 v160 = 1#1), (k0_t37_loop v72 v74 v76).OK) ∧
  (∀ k0_t37 : Fin (k0_t37_loop v72 v74 v76).trips, ∀ (k0_h10 : k0_cond10 v160 = 1#1), ∀ (r : Fin 4), ∀ a, (k0_off50 i v68 v72 v74 v76 v158 k0_t37 (BitVec.ofNat 32 (16 * r.val))) a + S16.size a ≤ S80896.size a) ∧
  (∀ k0_t37 : Fin (k0_t37_loop v72 v74 v76).trips, ∀ (k0_h10 : k0_cond10 v160 = 1#1), (k0_t38_loop v160).OK) ∧
  (∀ (k0_t37 : Fin (k0_t37_loop v72 v74 v76).trips) (k0_t38 : Fin (k0_t38_loop v160).trips), ∀ (k0_h10 : k0_cond10 v160 = 1#1), ∀ (r : Fin 4), ∀ a, (k0_off51 i v68 v72 v74 v76 v158 v160 k0_t37 k0_t38 (BitVec.ofNat 32 (16 * r.val))) a + S16.size a ≤ S80896.size a) ∧
  (∀ k0_t37 : Fin (k0_t37_loop v72 v74 v76).trips, ∀ (k0_h10 : k0_cond10 v160 = 1#1), (k0_t39_loop v160).OK) ∧
  (∀ (k0_t37 : Fin (k0_t37_loop v72 v74 v76).trips) (k0_t39 : Fin (k0_t39_loop v160).trips), ∀ (k0_h10 : k0_cond10 v160 = 1#1), ∀ (r : Fin 4), ∀ a, (k0_off52 i v68 v72 v74 v76 v158 v160 k0_t37 k0_t39 (BitVec.ofNat 32 (16 * r.val))) a + S16.size a ≤ S80896.size a) ∧
  (∀ k0_t37 : Fin (k0_t37_loop v72 v74 v76).trips, ∀ (k0_h10 : k0_cond10 v160 = 1#1), ∀ (r : Fin 4), ∀ a, (k0_off53 v72 v74 v76 k0_t37 (BitVec.ofNat 32 (16 * r.val))) a + S1x16.size a ≤ S7x880.size a) ∧
  (∀ (k0_h11 : k0_cond11 v160 = 1#1), (k0_t40_loop v72 v74 v76).OK) ∧
  (∀ k0_t40 : Fin (k0_t40_loop v72 v74 v76).trips, ∀ (k0_h11 : k0_cond11 v160 = 1#1), ∀ (r : Fin 4), ∀ a, (k0_off54 v72 v74 v76 k0_t40 (BitVec.ofNat 32 (16 * r.val))) a + S1x16.size a ≤ S7x880.size a) ∧
  (∀ (k0_h11 : k0_cond11 v160 = 1#1), (k0_t41_loop v72 v74 v76).OK) ∧
  (∀ k0_t41 : Fin (k0_t41_loop v72 v74 v76).trips, ∀ (k0_h11 : k0_cond11 v160 = 1#1), ∀ (r : Fin 4), ∀ a, (k0_off55 v72 v74 v76 k0_t41 (BitVec.ofNat 32 (16 * r.val))) a + S1x16.size a ≤ S7x880.size a)
theorem k0_t34_ok : ∀ (i : grid0.Coords) (v68 : BitVec 32) (v72 : BitVec 32) (v74 : BitVec 32) (v76 : BitVec 32) (v158 : BitVec 32) (v160 : BitVec 32) (k0_hw5 : k0_chk5 i v68 v72 v74 v76 v158 v160), ∀ (k0_h10 : k0_cond10 v160 = 1#1), (k0_t34_loop v72 v74 v76).OK := fun i v68 v72 v74 v76 v158 v160 k0_hw5 k0_h10 => k0_hw5.1 k0_h10
theorem k0_off46_inb : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t34 : Fin (k0_t34_loop v72 v74 v76).trips), ∀ (k0_h10 : k0_cond10 v160 = 1#1), ∀ (r : Fin 4), ∀ a, (k0_off46 i v68 v72 v74 v76 v158 k0_t34 (BitVec.ofNat 32 (16 * r.val))) a + S16.size a ≤ S80896.size a := fun i v68 v72 v74 v76 v158 v160 k0_hw5 k0_t34 k0_h10 r => k0_hw5.2.1 k0_t34 k0_h10 r
theorem k0_t35_ok : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t34 : Fin (k0_t34_loop v72 v74 v76).trips), ∀ (k0_h10 : k0_cond10 v160 = 1#1), (k0_t35_loop v160).OK := fun i v68 v72 v74 v76 v158 v160 k0_hw5 k0_t34 k0_h10 => k0_hw5.2.2.1 k0_t34 k0_h10
theorem k0_off47_inb : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t34 : Fin (k0_t34_loop v72 v74 v76).trips) (k0_t35 : Fin (k0_t35_loop v160).trips), ∀ (k0_h10 : k0_cond10 v160 = 1#1), ∀ (r : Fin 4), ∀ a, (k0_off47 i v68 v72 v74 v76 v158 v160 k0_t34 k0_t35 (BitVec.ofNat 32 (16 * r.val))) a + S16.size a ≤ S80896.size a := fun i v68 v72 v74 v76 v158 v160 k0_hw5 k0_t34 k0_t35 k0_h10 r => k0_hw5.2.2.2.1 k0_t34 k0_t35 k0_h10 r
theorem k0_t36_ok : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t34 : Fin (k0_t34_loop v72 v74 v76).trips), ∀ (k0_h10 : k0_cond10 v160 = 1#1), (k0_t36_loop v160).OK := fun i v68 v72 v74 v76 v158 v160 k0_hw5 k0_t34 k0_h10 => k0_hw5.2.2.2.2.1 k0_t34 k0_h10
theorem k0_off48_inb : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t34 : Fin (k0_t34_loop v72 v74 v76).trips) (k0_t36 : Fin (k0_t36_loop v160).trips), ∀ (k0_h10 : k0_cond10 v160 = 1#1), ∀ (r : Fin 4), ∀ a, (k0_off48 i v68 v72 v74 v76 v158 v160 k0_t34 k0_t36 (BitVec.ofNat 32 (16 * r.val))) a + S16.size a ≤ S80896.size a := fun i v68 v72 v74 v76 v158 v160 k0_hw5 k0_t34 k0_t36 k0_h10 r => k0_hw5.2.2.2.2.2.1 k0_t34 k0_t36 k0_h10 r
theorem k0_off49_inb : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t34 : Fin (k0_t34_loop v72 v74 v76).trips), ∀ (k0_h10 : k0_cond10 v160 = 1#1), ∀ (r : Fin 4), ∀ a, (k0_off49 v72 v74 v76 k0_t34 (BitVec.ofNat 32 (16 * r.val))) a + S1x16.size a ≤ S7x880.size a := fun i v68 v72 v74 v76 v158 v160 k0_hw5 k0_t34 k0_h10 r => k0_hw5.2.2.2.2.2.2.1 k0_t34 k0_h10 r
theorem k0_t37_ok : ∀ (i : grid0.Coords) (v68 : BitVec 32) (v72 : BitVec 32) (v74 : BitVec 32) (v76 : BitVec 32) (v158 : BitVec 32) (v160 : BitVec 32) (k0_hw5 : k0_chk5 i v68 v72 v74 v76 v158 v160), ∀ (k0_h10 : k0_cond10 v160 = 1#1), (k0_t37_loop v72 v74 v76).OK := fun i v68 v72 v74 v76 v158 v160 k0_hw5 k0_h10 => k0_hw5.2.2.2.2.2.2.2.1 k0_h10
theorem k0_off50_inb : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t37 : Fin (k0_t37_loop v72 v74 v76).trips), ∀ (k0_h10 : k0_cond10 v160 = 1#1), ∀ (r : Fin 4), ∀ a, (k0_off50 i v68 v72 v74 v76 v158 k0_t37 (BitVec.ofNat 32 (16 * r.val))) a + S16.size a ≤ S80896.size a := fun i v68 v72 v74 v76 v158 v160 k0_hw5 k0_t37 k0_h10 r => k0_hw5.2.2.2.2.2.2.2.2.1 k0_t37 k0_h10 r
theorem k0_t38_ok : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t37 : Fin (k0_t37_loop v72 v74 v76).trips), ∀ (k0_h10 : k0_cond10 v160 = 1#1), (k0_t38_loop v160).OK := fun i v68 v72 v74 v76 v158 v160 k0_hw5 k0_t37 k0_h10 => k0_hw5.2.2.2.2.2.2.2.2.2.1 k0_t37 k0_h10
theorem k0_off51_inb : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t37 : Fin (k0_t37_loop v72 v74 v76).trips) (k0_t38 : Fin (k0_t38_loop v160).trips), ∀ (k0_h10 : k0_cond10 v160 = 1#1), ∀ (r : Fin 4), ∀ a, (k0_off51 i v68 v72 v74 v76 v158 v160 k0_t37 k0_t38 (BitVec.ofNat 32 (16 * r.val))) a + S16.size a ≤ S80896.size a := fun i v68 v72 v74 v76 v158 v160 k0_hw5 k0_t37 k0_t38 k0_h10 r => k0_hw5.2.2.2.2.2.2.2.2.2.2.1 k0_t37 k0_t38 k0_h10 r
theorem k0_t39_ok : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t37 : Fin (k0_t37_loop v72 v74 v76).trips), ∀ (k0_h10 : k0_cond10 v160 = 1#1), (k0_t39_loop v160).OK := fun i v68 v72 v74 v76 v158 v160 k0_hw5 k0_t37 k0_h10 => k0_hw5.2.2.2.2.2.2.2.2.2.2.2.1 k0_t37 k0_h10
theorem k0_off52_inb : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t37 : Fin (k0_t37_loop v72 v74 v76).trips) (k0_t39 : Fin (k0_t39_loop v160).trips), ∀ (k0_h10 : k0_cond10 v160 = 1#1), ∀ (r : Fin 4), ∀ a, (k0_off52 i v68 v72 v74 v76 v158 v160 k0_t37 k0_t39 (BitVec.ofNat 32 (16 * r.val))) a + S16.size a ≤ S80896.size a := fun i v68 v72 v74 v76 v158 v160 k0_hw5 k0_t37 k0_t39 k0_h10 r => k0_hw5.2.2.2.2.2.2.2.2.2.2.2.2.1 k0_t37 k0_t39 k0_h10 r
theorem k0_off53_inb : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t37 : Fin (k0_t37_loop v72 v74 v76).trips), ∀ (k0_h10 : k0_cond10 v160 = 1#1), ∀ (r : Fin 4), ∀ a, (k0_off53 v72 v74 v76 k0_t37 (BitVec.ofNat 32 (16 * r.val))) a + S1x16.size a ≤ S7x880.size a := fun i v68 v72 v74 v76 v158 v160 k0_hw5 k0_t37 k0_h10 r => k0_hw5.2.2.2.2.2.2.2.2.2.2.2.2.2.1 k0_t37 k0_h10 r
theorem k0_t40_ok : ∀ (i : grid0.Coords) (v68 : BitVec 32) (v72 : BitVec 32) (v74 : BitVec 32) (v76 : BitVec 32) (v158 : BitVec 32) (v160 : BitVec 32) (k0_hw5 : k0_chk5 i v68 v72 v74 v76 v158 v160), ∀ (k0_h11 : k0_cond11 v160 = 1#1), (k0_t40_loop v72 v74 v76).OK := fun i v68 v72 v74 v76 v158 v160 k0_hw5 k0_h11 => k0_hw5.2.2.2.2.2.2.2.2.2.2.2.2.2.2.1 k0_h11
theorem k0_off54_inb : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t40 : Fin (k0_t40_loop v72 v74 v76).trips), ∀ (k0_h11 : k0_cond11 v160 = 1#1), ∀ (r : Fin 4), ∀ a, (k0_off54 v72 v74 v76 k0_t40 (BitVec.ofNat 32 (16 * r.val))) a + S1x16.size a ≤ S7x880.size a := fun i v68 v72 v74 v76 v158 v160 k0_hw5 k0_t40 k0_h11 r => k0_hw5.2.2.2.2.2.2.2.2.2.2.2.2.2.2.2.1 k0_t40 k0_h11 r
theorem k0_t41_ok : ∀ (i : grid0.Coords) (v68 : BitVec 32) (v72 : BitVec 32) (v74 : BitVec 32) (v76 : BitVec 32) (v158 : BitVec 32) (v160 : BitVec 32) (k0_hw5 : k0_chk5 i v68 v72 v74 v76 v158 v160), ∀ (k0_h11 : k0_cond11 v160 = 1#1), (k0_t41_loop v72 v74 v76).OK := fun i v68 v72 v74 v76 v158 v160 k0_hw5 k0_h11 => k0_hw5.2.2.2.2.2.2.2.2.2.2.2.2.2.2.2.2.1 k0_h11
theorem k0_off55_inb : ∀ (i : grid0.Coords) (v68 : BitVec 32) (v72 : BitVec 32) (v74 : BitVec 32) (v76 : BitVec 32) (v158 : BitVec 32) (v160 : BitVec 32) (k0_hw5 : k0_chk5 i v68 v72 v74 v76 v158 v160) (k0_t41 : Fin (k0_t41_loop v72 v74 v76).trips), ∀ (k0_h11 : k0_cond11 v160 = 1#1), ∀ (r : Fin 4), ∀ a, (k0_off55 v72 v74 v76 k0_t41 (BitVec.ofNat 32 (16 * r.val))) a + S1x16.size a ≤ S7x880.size a := fun i v68 v72 v74 v76 v158 v160 k0_hw5 k0_t41 k0_h11 r => k0_hw5.2.2.2.2.2.2.2.2.2.2.2.2.2.2.2.2.2 k0_t41 k0_h11 r

@[reducible] def k0_t42_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond12 (v175 : BitVec 32) : BitVec 1 :=
  let c0_i32_74 : BitVec 32 := 0#32
  let v181 : BitVec 1 := Scalar.cmpi .sgt v175 c0_i32_74
  let v182 : BitVec 32 := Scalar.extui v181
  let c0_i32_75 : BitVec 32 := 0#32
  let v183 : BitVec 1 := Scalar.cmpi .ne v182 c0_i32_75
  v183

def k0_off56 (i : grid0.Coords) (v68 : BitVec 32) (v72 : BitVec 32) (v74 : BitVec 32) (v76 : BitVec 32) (v173 : BitVec 32) (k0_t42 : Fin (k0_t42_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_71 : BitVec 32 := 2500#32
  let v176 : BitVec 32 := Scalar.muli v70 c2500_i32_71
  let c50_i32_72 : BitVec 32 := 50#32
  let v177 : BitVec 32 := Scalar.muli v173 c50_i32_72
  let v178 : BitVec 32 := Scalar.addi v176 v177
  let v179 : BitVec 32 := Scalar.addi v178 v72
  let c16_i32_73 : BitVec 32 := 16#32
  let v180 : BitVec 32 := Scalar.muli v179 c16_i32_73
  let c0_i32_1528 : BitVec 32 := 0#32
  let c1_i32_1531 : BitVec 32 := 1#32
  let arg13 : BitVec 32 := Scf.iv c0_i32_1528 c1_i32_1531 k0_t42
  let c64_i32 : BitVec 32 := 64#32
  let v6169 : BitVec 32 := Scalar.muli arg13 c64_i32
  let v6170 : BitVec 32 := Scalar.addi v180 v6169
  let v6171 : BitVec 32 := Scalar.addi v6170 c0_i32_1533
  let v6172 : Index := Scalar.indexCast v6171
  ![v6172.toNat]
@[reducible] def k0_t43_loop (v175 : BitVec 32) : Scf.Loop 32 :=
  let c1_i32_1536 : BitVec 32 := 1#32
  let v6187 : BitVec 32 := Scalar.subi v175 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off57 (i : grid0.Coords) (v68 : BitVec 32) (v72 : BitVec 32) (v74 : BitVec 32) (v76 : BitVec 32) (v173 : BitVec 32) (v175 : BitVec 32) (k0_t42 : Fin (k0_t42_loop v72 v74 v76).trips) (k0_t43 : Fin (k0_t43_loop v175).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_71 : BitVec 32 := 2500#32
  let v176 : BitVec 32 := Scalar.muli v70 c2500_i32_71
  let c50_i32_72 : BitVec 32 := 50#32
  let v177 : BitVec 32 := Scalar.muli v173 c50_i32_72
  let v178 : BitVec 32 := Scalar.addi v176 v177
  let v179 : BitVec 32 := Scalar.addi v178 v72
  let c16_i32_73 : BitVec 32 := 16#32
  let v180 : BitVec 32 := Scalar.muli v179 c16_i32_73
  let c0_i32_1528 : BitVec 32 := 0#32
  let c1_i32_1531 : BitVec 32 := 1#32
  let arg13 : BitVec 32 := Scf.iv c0_i32_1528 c1_i32_1531 k0_t42
  let c64_i32 : BitVec 32 := 64#32
  let v6169 : BitVec 32 := Scalar.muli arg13 c64_i32
  let v6170 : BitVec 32 := Scalar.addi v180 v6169
  let c1_i32_1536 : BitVec 32 := 1#32
  let c1_i32_1538 : BitVec 32 := 1#32
  let arg15 : BitVec 32 := Scf.iv c1_i32_1536 c1_i32_1538 k0_t43
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t44_loop (v175 : BitVec 32) : Scf.Loop 32 :=
  let c1_i32_1536 : BitVec 32 := 1#32
  let v6187 : BitVec 32 := Scalar.subi v175 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off58 (i : grid0.Coords) (v68 : BitVec 32) (v72 : BitVec 32) (v74 : BitVec 32) (v76 : BitVec 32) (v173 : BitVec 32) (v175 : BitVec 32) (k0_t42 : Fin (k0_t42_loop v72 v74 v76).trips) (k0_t44 : Fin (k0_t44_loop v175).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_71 : BitVec 32 := 2500#32
  let v176 : BitVec 32 := Scalar.muli v70 c2500_i32_71
  let c50_i32_72 : BitVec 32 := 50#32
  let v177 : BitVec 32 := Scalar.muli v173 c50_i32_72
  let v178 : BitVec 32 := Scalar.addi v176 v177
  let v179 : BitVec 32 := Scalar.addi v178 v72
  let c16_i32_73 : BitVec 32 := 16#32
  let v180 : BitVec 32 := Scalar.muli v179 c16_i32_73
  let c0_i32_1528 : BitVec 32 := 0#32
  let c1_i32_1531 : BitVec 32 := 1#32
  let arg13 : BitVec 32 := Scf.iv c0_i32_1528 c1_i32_1531 k0_t42
  let c64_i32 : BitVec 32 := 64#32
  let v6169 : BitVec 32 := Scalar.muli arg13 c64_i32
  let v6170 : BitVec 32 := Scalar.addi v180 v6169
  let c1_i32_1536 : BitVec 32 := 1#32
  let v6187 : BitVec 32 := Scalar.subi v175 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t44
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off59 (v72 : BitVec 32) (v74 : BitVec 32) (v76 : BitVec 32) (k0_t42 : Fin (k0_t42_loop v72 v74 v76).trips) (c0_i32_1541 : BitVec 32) : Fin 2 → Nat :=
  let c5_i32_1542 : BitVec 32 := 5#32
  let v6196 : Index := Scalar.indexCast c5_i32_1542
  let c0_i32_1528 : BitVec 32 := 0#32
  let c1_i32_1531 : BitVec 32 := 1#32
  let arg13 : BitVec 32 := Scf.iv c0_i32_1528 c1_i32_1531 k0_t42
  let c64_i32_1540 : BitVec 32 := 64#32
  let v6194 : BitVec 32 := Scalar.muli arg13 c64_i32_1540
  let v6195 : BitVec 32 := Scalar.addi v6194 c0_i32_1541
  let v6197 : Index := Scalar.indexCast v6195
  ![5, v6197.toNat]
@[reducible] def k0_t45_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off60 (i : grid0.Coords) (v68 : BitVec 32) (v72 : BitVec 32) (v74 : BitVec 32) (v76 : BitVec 32) (v173 : BitVec 32) (k0_t45 : Fin (k0_t45_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_71 : BitVec 32 := 2500#32
  let v176 : BitVec 32 := Scalar.muli v70 c2500_i32_71
  let c50_i32_72 : BitVec 32 := 50#32
  let v177 : BitVec 32 := Scalar.muli v173 c50_i32_72
  let v178 : BitVec 32 := Scalar.addi v176 v177
  let v179 : BitVec 32 := Scalar.addi v178 v72
  let c16_i32_73 : BitVec 32 := 16#32
  let v180 : BitVec 32 := Scalar.muli v179 c16_i32_73
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t45
  let c64_i32 : BitVec 32 := 64#32
  let v6169 : BitVec 32 := Scalar.muli arg13 c64_i32
  let v6170 : BitVec 32 := Scalar.addi v180 v6169
  let v6171 : BitVec 32 := Scalar.addi v6170 c0_i32_1533
  let v6172 : Index := Scalar.indexCast v6171
  ![v6172.toNat]
@[reducible] def k0_t46_loop (v175 : BitVec 32) : Scf.Loop 32 :=
  let c1_i32_1536 : BitVec 32 := 1#32
  let v6187 : BitVec 32 := Scalar.subi v175 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off61 (i : grid0.Coords) (v68 : BitVec 32) (v72 : BitVec 32) (v74 : BitVec 32) (v76 : BitVec 32) (v173 : BitVec 32) (v175 : BitVec 32) (k0_t45 : Fin (k0_t45_loop v72 v74 v76).trips) (k0_t46 : Fin (k0_t46_loop v175).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_71 : BitVec 32 := 2500#32
  let v176 : BitVec 32 := Scalar.muli v70 c2500_i32_71
  let c50_i32_72 : BitVec 32 := 50#32
  let v177 : BitVec 32 := Scalar.muli v173 c50_i32_72
  let v178 : BitVec 32 := Scalar.addi v176 v177
  let v179 : BitVec 32 := Scalar.addi v178 v72
  let c16_i32_73 : BitVec 32 := 16#32
  let v180 : BitVec 32 := Scalar.muli v179 c16_i32_73
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t45
  let c64_i32 : BitVec 32 := 64#32
  let v6169 : BitVec 32 := Scalar.muli arg13 c64_i32
  let v6170 : BitVec 32 := Scalar.addi v180 v6169
  let c1_i32_1536 : BitVec 32 := 1#32
  let c1_i32_1538 : BitVec 32 := 1#32
  let arg15 : BitVec 32 := Scf.iv c1_i32_1536 c1_i32_1538 k0_t46
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t47_loop (v175 : BitVec 32) : Scf.Loop 32 :=
  let c1_i32_1536 : BitVec 32 := 1#32
  let v6187 : BitVec 32 := Scalar.subi v175 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off62 (i : grid0.Coords) (v68 : BitVec 32) (v72 : BitVec 32) (v74 : BitVec 32) (v76 : BitVec 32) (v173 : BitVec 32) (v175 : BitVec 32) (k0_t45 : Fin (k0_t45_loop v72 v74 v76).trips) (k0_t47 : Fin (k0_t47_loop v175).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_71 : BitVec 32 := 2500#32
  let v176 : BitVec 32 := Scalar.muli v70 c2500_i32_71
  let c50_i32_72 : BitVec 32 := 50#32
  let v177 : BitVec 32 := Scalar.muli v173 c50_i32_72
  let v178 : BitVec 32 := Scalar.addi v176 v177
  let v179 : BitVec 32 := Scalar.addi v178 v72
  let c16_i32_73 : BitVec 32 := 16#32
  let v180 : BitVec 32 := Scalar.muli v179 c16_i32_73
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t45
  let c64_i32 : BitVec 32 := 64#32
  let v6169 : BitVec 32 := Scalar.muli arg13 c64_i32
  let v6170 : BitVec 32 := Scalar.addi v180 v6169
  let c1_i32_1536 : BitVec 32 := 1#32
  let v6187 : BitVec 32 := Scalar.subi v175 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t47
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off63 (v72 : BitVec 32) (v74 : BitVec 32) (v76 : BitVec 32) (k0_t45 : Fin (k0_t45_loop v72 v74 v76).trips) (c0_i32_1541 : BitVec 32) : Fin 2 → Nat :=
  let c5_i32_1542 : BitVec 32 := 5#32
  let v6196 : Index := Scalar.indexCast c5_i32_1542
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t45
  let c64_i32_1540 : BitVec 32 := 64#32
  let v6194 : BitVec 32 := Scalar.muli arg13 c64_i32_1540
  let v6195 : BitVec 32 := Scalar.addi v6194 c0_i32_1541
  let v6197 : Index := Scalar.indexCast v6195
  ![5, v6197.toNat]
@[reducible] def k0_t48_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond13 (v175 : BitVec 32) : BitVec 1 :=
  let c0_i32_76 : BitVec 32 := 0#32
  let v184 : BitVec 1 := Scalar.cmpi .eq v175 c0_i32_76
  let v185 : BitVec 32 := Scalar.extui v184
  let c0_i32_77 : BitVec 32 := 0#32
  let v186 : BitVec 1 := Scalar.cmpi .ne v185 c0_i32_77
  v186

def k0_off64 (v72 : BitVec 32) (v74 : BitVec 32) (v76 : BitVec 32) (k0_t48 : Fin (k0_t48_loop v72 v74 v76).trips) (c0_i32_1533 : BitVec 32) : Fin 2 → Nat :=
  let c5_i32_1534 : BitVec 32 := 5#32
  let v6171 : Index := Scalar.indexCast c5_i32_1534
  let c0_i32_1528 : BitVec 32 := 0#32
  let c1_i32_1531 : BitVec 32 := 1#32
  let arg13 : BitVec 32 := Scf.iv c0_i32_1528 c1_i32_1531 k0_t48
  let c64_i32 : BitVec 32 := 64#32
  let v6169 : BitVec 32 := Scalar.muli arg13 c64_i32
  let v6170 : BitVec 32 := Scalar.addi v6169 c0_i32_1533
  let v6172 : Index := Scalar.indexCast v6170
  ![5, v6172.toNat]
@[reducible] def k0_t49_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off65 (v72 : BitVec 32) (v74 : BitVec 32) (v76 : BitVec 32) (k0_t49 : Fin (k0_t49_loop v72 v74 v76).trips) (c0_i32_1533 : BitVec 32) : Fin 2 → Nat :=
  let c5_i32_1534 : BitVec 32 := 5#32
  let v6171 : Index := Scalar.indexCast c5_i32_1534
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t49
  let c64_i32 : BitVec 32 := 64#32
  let v6169 : BitVec 32 := Scalar.muli arg13 c64_i32
  let v6170 : BitVec 32 := Scalar.addi v6169 c0_i32_1533
  let v6172 : Index := Scalar.indexCast v6170
  ![5, v6172.toNat]

def k0_chk6 (i : grid0.Coords) (v68 : BitVec 32) (v72 : BitVec 32) (v74 : BitVec 32) (v76 : BitVec 32) (v173 : BitVec 32) (v175 : BitVec 32) : Prop :=
  (∀ (k0_h12 : k0_cond12 v175 = 1#1), (k0_t42_loop v72 v74 v76).OK) ∧
  (∀ k0_t42 : Fin (k0_t42_loop v72 v74 v76).trips, ∀ (k0_h12 : k0_cond12 v175 = 1#1), ∀ (r : Fin 4), ∀ a, (k0_off56 i v68 v72 v74 v76 v173 k0_t42 (BitVec.ofNat 32 (16 * r.val))) a + S16.size a ≤ S80896.size a) ∧
  (∀ k0_t42 : Fin (k0_t42_loop v72 v74 v76).trips, ∀ (k0_h12 : k0_cond12 v175 = 1#1), (k0_t43_loop v175).OK) ∧
  (∀ (k0_t42 : Fin (k0_t42_loop v72 v74 v76).trips) (k0_t43 : Fin (k0_t43_loop v175).trips), ∀ (k0_h12 : k0_cond12 v175 = 1#1), ∀ (r : Fin 4), ∀ a, (k0_off57 i v68 v72 v74 v76 v173 v175 k0_t42 k0_t43 (BitVec.ofNat 32 (16 * r.val))) a + S16.size a ≤ S80896.size a) ∧
  (∀ k0_t42 : Fin (k0_t42_loop v72 v74 v76).trips, ∀ (k0_h12 : k0_cond12 v175 = 1#1), (k0_t44_loop v175).OK) ∧
  (∀ (k0_t42 : Fin (k0_t42_loop v72 v74 v76).trips) (k0_t44 : Fin (k0_t44_loop v175).trips), ∀ (k0_h12 : k0_cond12 v175 = 1#1), ∀ (r : Fin 4), ∀ a, (k0_off58 i v68 v72 v74 v76 v173 v175 k0_t42 k0_t44 (BitVec.ofNat 32 (16 * r.val))) a + S16.size a ≤ S80896.size a) ∧
  (∀ k0_t42 : Fin (k0_t42_loop v72 v74 v76).trips, ∀ (k0_h12 : k0_cond12 v175 = 1#1), ∀ (r : Fin 4), ∀ a, (k0_off59 v72 v74 v76 k0_t42 (BitVec.ofNat 32 (16 * r.val))) a + S1x16.size a ≤ S7x880.size a) ∧
  (∀ (k0_h12 : k0_cond12 v175 = 1#1), (k0_t45_loop v72 v74 v76).OK) ∧
  (∀ k0_t45 : Fin (k0_t45_loop v72 v74 v76).trips, ∀ (k0_h12 : k0_cond12 v175 = 1#1), ∀ (r : Fin 4), ∀ a, (k0_off60 i v68 v72 v74 v76 v173 k0_t45 (BitVec.ofNat 32 (16 * r.val))) a + S16.size a ≤ S80896.size a) ∧
  (∀ k0_t45 : Fin (k0_t45_loop v72 v74 v76).trips, ∀ (k0_h12 : k0_cond12 v175 = 1#1), (k0_t46_loop v175).OK) ∧
  (∀ (k0_t45 : Fin (k0_t45_loop v72 v74 v76).trips) (k0_t46 : Fin (k0_t46_loop v175).trips), ∀ (k0_h12 : k0_cond12 v175 = 1#1), ∀ (r : Fin 4), ∀ a, (k0_off61 i v68 v72 v74 v76 v173 v175 k0_t45 k0_t46 (BitVec.ofNat 32 (16 * r.val))) a + S16.size a ≤ S80896.size a) ∧
  (∀ k0_t45 : Fin (k0_t45_loop v72 v74 v76).trips, ∀ (k0_h12 : k0_cond12 v175 = 1#1), (k0_t47_loop v175).OK) ∧
  (∀ (k0_t45 : Fin (k0_t45_loop v72 v74 v76).trips) (k0_t47 : Fin (k0_t47_loop v175).trips), ∀ (k0_h12 : k0_cond12 v175 = 1#1), ∀ (r : Fin 4), ∀ a, (k0_off62 i v68 v72 v74 v76 v173 v175 k0_t45 k0_t47 (BitVec.ofNat 32 (16 * r.val))) a + S16.size a ≤ S80896.size a) ∧
  (∀ k0_t45 : Fin (k0_t45_loop v72 v74 v76).trips, ∀ (k0_h12 : k0_cond12 v175 = 1#1), ∀ (r : Fin 4), ∀ a, (k0_off63 v72 v74 v76 k0_t45 (BitVec.ofNat 32 (16 * r.val))) a + S1x16.size a ≤ S7x880.size a) ∧
  (∀ (k0_h13 : k0_cond13 v175 = 1#1), (k0_t48_loop v72 v74 v76).OK) ∧
  (∀ k0_t48 : Fin (k0_t48_loop v72 v74 v76).trips, ∀ (k0_h13 : k0_cond13 v175 = 1#1), ∀ (r : Fin 4), ∀ a, (k0_off64 v72 v74 v76 k0_t48 (BitVec.ofNat 32 (16 * r.val))) a + S1x16.size a ≤ S7x880.size a) ∧
  (∀ (k0_h13 : k0_cond13 v175 = 1#1), (k0_t49_loop v72 v74 v76).OK) ∧
  (∀ k0_t49 : Fin (k0_t49_loop v72 v74 v76).trips, ∀ (k0_h13 : k0_cond13 v175 = 1#1), ∀ (r : Fin 4), ∀ a, (k0_off65 v72 v74 v76 k0_t49 (BitVec.ofNat 32 (16 * r.val))) a + S1x16.size a ≤ S7x880.size a)
theorem k0_t42_ok : ∀ (i : grid0.Coords) (v68 : BitVec 32) (v72 : BitVec 32) (v74 : BitVec 32) (v76 : BitVec 32) (v173 : BitVec 32) (v175 : BitVec 32) (k0_hw6 : k0_chk6 i v68 v72 v74 v76 v173 v175), ∀ (k0_h12 : k0_cond12 v175 = 1#1), (k0_t42_loop v72 v74 v76).OK := fun i v68 v72 v74 v76 v173 v175 k0_hw6 k0_h12 => k0_hw6.1 k0_h12
theorem k0_off56_inb : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t42 : Fin (k0_t42_loop v72 v74 v76).trips), ∀ (k0_h12 : k0_cond12 v175 = 1#1), ∀ (r : Fin 4), ∀ a, (k0_off56 i v68 v72 v74 v76 v173 k0_t42 (BitVec.ofNat 32 (16 * r.val))) a + S16.size a ≤ S80896.size a := fun i v68 v72 v74 v76 v173 v175 k0_hw6 k0_t42 k0_h12 r => k0_hw6.2.1 k0_t42 k0_h12 r
theorem k0_t43_ok : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t42 : Fin (k0_t42_loop v72 v74 v76).trips), ∀ (k0_h12 : k0_cond12 v175 = 1#1), (k0_t43_loop v175).OK := fun i v68 v72 v74 v76 v173 v175 k0_hw6 k0_t42 k0_h12 => k0_hw6.2.2.1 k0_t42 k0_h12
theorem k0_off57_inb : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t42 : Fin (k0_t42_loop v72 v74 v76).trips) (k0_t43 : Fin (k0_t43_loop v175).trips), ∀ (k0_h12 : k0_cond12 v175 = 1#1), ∀ (r : Fin 4), ∀ a, (k0_off57 i v68 v72 v74 v76 v173 v175 k0_t42 k0_t43 (BitVec.ofNat 32 (16 * r.val))) a + S16.size a ≤ S80896.size a := fun i v68 v72 v74 v76 v173 v175 k0_hw6 k0_t42 k0_t43 k0_h12 r => k0_hw6.2.2.2.1 k0_t42 k0_t43 k0_h12 r
theorem k0_t44_ok : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t42 : Fin (k0_t42_loop v72 v74 v76).trips), ∀ (k0_h12 : k0_cond12 v175 = 1#1), (k0_t44_loop v175).OK := fun i v68 v72 v74 v76 v173 v175 k0_hw6 k0_t42 k0_h12 => k0_hw6.2.2.2.2.1 k0_t42 k0_h12
theorem k0_off58_inb : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t42 : Fin (k0_t42_loop v72 v74 v76).trips) (k0_t44 : Fin (k0_t44_loop v175).trips), ∀ (k0_h12 : k0_cond12 v175 = 1#1), ∀ (r : Fin 4), ∀ a, (k0_off58 i v68 v72 v74 v76 v173 v175 k0_t42 k0_t44 (BitVec.ofNat 32 (16 * r.val))) a + S16.size a ≤ S80896.size a := fun i v68 v72 v74 v76 v173 v175 k0_hw6 k0_t42 k0_t44 k0_h12 r => k0_hw6.2.2.2.2.2.1 k0_t42 k0_t44 k0_h12 r
theorem k0_off59_inb : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t42 : Fin (k0_t42_loop v72 v74 v76).trips), ∀ (k0_h12 : k0_cond12 v175 = 1#1), ∀ (r : Fin 4), ∀ a, (k0_off59 v72 v74 v76 k0_t42 (BitVec.ofNat 32 (16 * r.val))) a + S1x16.size a ≤ S7x880.size a := fun i v68 v72 v74 v76 v173 v175 k0_hw6 k0_t42 k0_h12 r => k0_hw6.2.2.2.2.2.2.1 k0_t42 k0_h12 r
theorem k0_t45_ok : ∀ (i : grid0.Coords) (v68 : BitVec 32) (v72 : BitVec 32) (v74 : BitVec 32) (v76 : BitVec 32) (v173 : BitVec 32) (v175 : BitVec 32) (k0_hw6 : k0_chk6 i v68 v72 v74 v76 v173 v175), ∀ (k0_h12 : k0_cond12 v175 = 1#1), (k0_t45_loop v72 v74 v76).OK := fun i v68 v72 v74 v76 v173 v175 k0_hw6 k0_h12 => k0_hw6.2.2.2.2.2.2.2.1 k0_h12
theorem k0_off60_inb : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t45 : Fin (k0_t45_loop v72 v74 v76).trips), ∀ (k0_h12 : k0_cond12 v175 = 1#1), ∀ (r : Fin 4), ∀ a, (k0_off60 i v68 v72 v74 v76 v173 k0_t45 (BitVec.ofNat 32 (16 * r.val))) a + S16.size a ≤ S80896.size a := fun i v68 v72 v74 v76 v173 v175 k0_hw6 k0_t45 k0_h12 r => k0_hw6.2.2.2.2.2.2.2.2.1 k0_t45 k0_h12 r
theorem k0_t46_ok : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t45 : Fin (k0_t45_loop v72 v74 v76).trips), ∀ (k0_h12 : k0_cond12 v175 = 1#1), (k0_t46_loop v175).OK := fun i v68 v72 v74 v76 v173 v175 k0_hw6 k0_t45 k0_h12 => k0_hw6.2.2.2.2.2.2.2.2.2.1 k0_t45 k0_h12
theorem k0_off61_inb : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t45 : Fin (k0_t45_loop v72 v74 v76).trips) (k0_t46 : Fin (k0_t46_loop v175).trips), ∀ (k0_h12 : k0_cond12 v175 = 1#1), ∀ (r : Fin 4), ∀ a, (k0_off61 i v68 v72 v74 v76 v173 v175 k0_t45 k0_t46 (BitVec.ofNat 32 (16 * r.val))) a + S16.size a ≤ S80896.size a := fun i v68 v72 v74 v76 v173 v175 k0_hw6 k0_t45 k0_t46 k0_h12 r => k0_hw6.2.2.2.2.2.2.2.2.2.2.1 k0_t45 k0_t46 k0_h12 r
theorem k0_t47_ok : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t45 : Fin (k0_t45_loop v72 v74 v76).trips), ∀ (k0_h12 : k0_cond12 v175 = 1#1), (k0_t47_loop v175).OK := fun i v68 v72 v74 v76 v173 v175 k0_hw6 k0_t45 k0_h12 => k0_hw6.2.2.2.2.2.2.2.2.2.2.2.1 k0_t45 k0_h12
theorem k0_off62_inb : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t45 : Fin (k0_t45_loop v72 v74 v76).trips) (k0_t47 : Fin (k0_t47_loop v175).trips), ∀ (k0_h12 : k0_cond12 v175 = 1#1), ∀ (r : Fin 4), ∀ a, (k0_off62 i v68 v72 v74 v76 v173 v175 k0_t45 k0_t47 (BitVec.ofNat 32 (16 * r.val))) a + S16.size a ≤ S80896.size a := fun i v68 v72 v74 v76 v173 v175 k0_hw6 k0_t45 k0_t47 k0_h12 r => k0_hw6.2.2.2.2.2.2.2.2.2.2.2.2.1 k0_t45 k0_t47 k0_h12 r
theorem k0_off63_inb : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t45 : Fin (k0_t45_loop v72 v74 v76).trips), ∀ (k0_h12 : k0_cond12 v175 = 1#1), ∀ (r : Fin 4), ∀ a, (k0_off63 v72 v74 v76 k0_t45 (BitVec.ofNat 32 (16 * r.val))) a + S1x16.size a ≤ S7x880.size a := fun i v68 v72 v74 v76 v173 v175 k0_hw6 k0_t45 k0_h12 r => k0_hw6.2.2.2.2.2.2.2.2.2.2.2.2.2.1 k0_t45 k0_h12 r
theorem k0_t48_ok : ∀ (i : grid0.Coords) (v68 : BitVec 32) (v72 : BitVec 32) (v74 : BitVec 32) (v76 : BitVec 32) (v173 : BitVec 32) (v175 : BitVec 32) (k0_hw6 : k0_chk6 i v68 v72 v74 v76 v173 v175), ∀ (k0_h13 : k0_cond13 v175 = 1#1), (k0_t48_loop v72 v74 v76).OK := fun i v68 v72 v74 v76 v173 v175 k0_hw6 k0_h13 => k0_hw6.2.2.2.2.2.2.2.2.2.2.2.2.2.2.1 k0_h13
theorem k0_off64_inb : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t48 : Fin (k0_t48_loop v72 v74 v76).trips), ∀ (k0_h13 : k0_cond13 v175 = 1#1), ∀ (r : Fin 4), ∀ a, (k0_off64 v72 v74 v76 k0_t48 (BitVec.ofNat 32 (16 * r.val))) a + S1x16.size a ≤ S7x880.size a := fun i v68 v72 v74 v76 v173 v175 k0_hw6 k0_t48 k0_h13 r => k0_hw6.2.2.2.2.2.2.2.2.2.2.2.2.2.2.2.1 k0_t48 k0_h13 r
theorem k0_t49_ok : ∀ (i : grid0.Coords) (v68 : BitVec 32) (v72 : BitVec 32) (v74 : BitVec 32) (v76 : BitVec 32) (v173 : BitVec 32) (v175 : BitVec 32) (k0_hw6 : k0_chk6 i v68 v72 v74 v76 v173 v175), ∀ (k0_h13 : k0_cond13 v175 = 1#1), (k0_t49_loop v72 v74 v76).OK := fun i v68 v72 v74 v76 v173 v175 k0_hw6 k0_h13 => k0_hw6.2.2.2.2.2.2.2.2.2.2.2.2.2.2.2.2.1 k0_h13
theorem k0_off65_inb : ∀ (i : grid0.Coords) (v68 : BitVec 32) (v72 : BitVec 32) (v74 : BitVec 32) (v76 : BitVec 32) (v173 : BitVec 32) (v175 : BitVec 32) (k0_hw6 : k0_chk6 i v68 v72 v74 v76 v173 v175) (k0_t49 : Fin (k0_t49_loop v72 v74 v76).trips), ∀ (k0_h13 : k0_cond13 v175 = 1#1), ∀ (r : Fin 4), ∀ a, (k0_off65 v72 v74 v76 k0_t49 (BitVec.ofNat 32 (16 * r.val))) a + S1x16.size a ≤ S7x880.size a := fun i v68 v72 v74 v76 v173 v175 k0_hw6 k0_t49 k0_h13 r => k0_hw6.2.2.2.2.2.2.2.2.2.2.2.2.2.2.2.2.2 k0_t49 k0_h13 r

@[reducible] def k0_t50_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond14 (v190 : BitVec 32) : BitVec 1 :=
  let c0_i32_81 : BitVec 32 := 0#32
  let v196 : BitVec 1 := Scalar.cmpi .sgt v190 c0_i32_81
  let v197 : BitVec 32 := Scalar.extui v196
  let c0_i32_82 : BitVec 32 := 0#32
  let v198 : BitVec 1 := Scalar.cmpi .ne v197 c0_i32_82
  v198

def k0_off66 (i : grid0.Coords) (v68 : BitVec 32) (v72 : BitVec 32) (v74 : BitVec 32) (v76 : BitVec 32) (v188 : BitVec 32) (k0_t50 : Fin (k0_t50_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_78 : BitVec 32 := 2500#32
  let v191 : BitVec 32 := Scalar.muli v70 c2500_i32_78
  let c50_i32_79 : BitVec 32 := 50#32
  let v192 : BitVec 32 := Scalar.muli v188 c50_i32_79
  let v193 : BitVec 32 := Scalar.addi v191 v192
  let v194 : BitVec 32 := Scalar.addi v193 v72
  let c16_i32_80 : BitVec 32 := 16#32
  let v195 : BitVec 32 := Scalar.muli v194 c16_i32_80
  let c0_i32_1528 : BitVec 32 := 0#32
  let c1_i32_1531 : BitVec 32 := 1#32
  let arg13 : BitVec 32 := Scf.iv c0_i32_1528 c1_i32_1531 k0_t50
  let c64_i32 : BitVec 32 := 64#32
  let v6169 : BitVec 32 := Scalar.muli arg13 c64_i32
  let v6170 : BitVec 32 := Scalar.addi v195 v6169
  let v6171 : BitVec 32 := Scalar.addi v6170 c0_i32_1533
  let v6172 : Index := Scalar.indexCast v6171
  ![v6172.toNat]
@[reducible] def k0_t51_loop (v190 : BitVec 32) : Scf.Loop 32 :=
  let c1_i32_1536 : BitVec 32 := 1#32
  let v6187 : BitVec 32 := Scalar.subi v190 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off67 (i : grid0.Coords) (v68 : BitVec 32) (v72 : BitVec 32) (v74 : BitVec 32) (v76 : BitVec 32) (v188 : BitVec 32) (v190 : BitVec 32) (k0_t50 : Fin (k0_t50_loop v72 v74 v76).trips) (k0_t51 : Fin (k0_t51_loop v190).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_78 : BitVec 32 := 2500#32
  let v191 : BitVec 32 := Scalar.muli v70 c2500_i32_78
  let c50_i32_79 : BitVec 32 := 50#32
  let v192 : BitVec 32 := Scalar.muli v188 c50_i32_79
  let v193 : BitVec 32 := Scalar.addi v191 v192
  let v194 : BitVec 32 := Scalar.addi v193 v72
  let c16_i32_80 : BitVec 32 := 16#32
  let v195 : BitVec 32 := Scalar.muli v194 c16_i32_80
  let c0_i32_1528 : BitVec 32 := 0#32
  let c1_i32_1531 : BitVec 32 := 1#32
  let arg13 : BitVec 32 := Scf.iv c0_i32_1528 c1_i32_1531 k0_t50
  let c64_i32 : BitVec 32 := 64#32
  let v6169 : BitVec 32 := Scalar.muli arg13 c64_i32
  let v6170 : BitVec 32 := Scalar.addi v195 v6169
  let c1_i32_1536 : BitVec 32 := 1#32
  let c1_i32_1538 : BitVec 32 := 1#32
  let arg15 : BitVec 32 := Scf.iv c1_i32_1536 c1_i32_1538 k0_t51
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t52_loop (v190 : BitVec 32) : Scf.Loop 32 :=
  let c1_i32_1536 : BitVec 32 := 1#32
  let v6187 : BitVec 32 := Scalar.subi v190 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off68 (i : grid0.Coords) (v68 : BitVec 32) (v72 : BitVec 32) (v74 : BitVec 32) (v76 : BitVec 32) (v188 : BitVec 32) (v190 : BitVec 32) (k0_t50 : Fin (k0_t50_loop v72 v74 v76).trips) (k0_t52 : Fin (k0_t52_loop v190).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_78 : BitVec 32 := 2500#32
  let v191 : BitVec 32 := Scalar.muli v70 c2500_i32_78
  let c50_i32_79 : BitVec 32 := 50#32
  let v192 : BitVec 32 := Scalar.muli v188 c50_i32_79
  let v193 : BitVec 32 := Scalar.addi v191 v192
  let v194 : BitVec 32 := Scalar.addi v193 v72
  let c16_i32_80 : BitVec 32 := 16#32
  let v195 : BitVec 32 := Scalar.muli v194 c16_i32_80
  let c0_i32_1528 : BitVec 32 := 0#32
  let c1_i32_1531 : BitVec 32 := 1#32
  let arg13 : BitVec 32 := Scf.iv c0_i32_1528 c1_i32_1531 k0_t50
  let c64_i32 : BitVec 32 := 64#32
  let v6169 : BitVec 32 := Scalar.muli arg13 c64_i32
  let v6170 : BitVec 32 := Scalar.addi v195 v6169
  let c1_i32_1536 : BitVec 32 := 1#32
  let v6187 : BitVec 32 := Scalar.subi v190 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t52
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off69 (v72 : BitVec 32) (v74 : BitVec 32) (v76 : BitVec 32) (k0_t50 : Fin (k0_t50_loop v72 v74 v76).trips) (c0_i32_1541 : BitVec 32) : Fin 2 → Nat :=
  let c6_i32_1542 : BitVec 32 := 6#32
  let v6196 : Index := Scalar.indexCast c6_i32_1542
  let c0_i32_1528 : BitVec 32 := 0#32
  let c1_i32_1531 : BitVec 32 := 1#32
  let arg13 : BitVec 32 := Scf.iv c0_i32_1528 c1_i32_1531 k0_t50
  let c64_i32_1540 : BitVec 32 := 64#32
  let v6194 : BitVec 32 := Scalar.muli arg13 c64_i32_1540
  let v6195 : BitVec 32 := Scalar.addi v6194 c0_i32_1541
  let v6197 : Index := Scalar.indexCast v6195
  ![6, v6197.toNat]
@[reducible] def k0_t53_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off70 (i : grid0.Coords) (v68 : BitVec 32) (v72 : BitVec 32) (v74 : BitVec 32) (v76 : BitVec 32) (v188 : BitVec 32) (k0_t53 : Fin (k0_t53_loop v72 v74 v76).trips) (c0_i32_1533 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_78 : BitVec 32 := 2500#32
  let v191 : BitVec 32 := Scalar.muli v70 c2500_i32_78
  let c50_i32_79 : BitVec 32 := 50#32
  let v192 : BitVec 32 := Scalar.muli v188 c50_i32_79
  let v193 : BitVec 32 := Scalar.addi v191 v192
  let v194 : BitVec 32 := Scalar.addi v193 v72
  let c16_i32_80 : BitVec 32 := 16#32
  let v195 : BitVec 32 := Scalar.muli v194 c16_i32_80
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t53
  let c64_i32 : BitVec 32 := 64#32
  let v6169 : BitVec 32 := Scalar.muli arg13 c64_i32
  let v6170 : BitVec 32 := Scalar.addi v195 v6169
  let v6171 : BitVec 32 := Scalar.addi v6170 c0_i32_1533
  let v6172 : Index := Scalar.indexCast v6171
  ![v6172.toNat]
@[reducible] def k0_t54_loop (v190 : BitVec 32) : Scf.Loop 32 :=
  let c1_i32_1536 : BitVec 32 := 1#32
  let v6187 : BitVec 32 := Scalar.subi v190 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off71 (i : grid0.Coords) (v68 : BitVec 32) (v72 : BitVec 32) (v74 : BitVec 32) (v76 : BitVec 32) (v188 : BitVec 32) (v190 : BitVec 32) (k0_t53 : Fin (k0_t53_loop v72 v74 v76).trips) (k0_t54 : Fin (k0_t54_loop v190).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_78 : BitVec 32 := 2500#32
  let v191 : BitVec 32 := Scalar.muli v70 c2500_i32_78
  let c50_i32_79 : BitVec 32 := 50#32
  let v192 : BitVec 32 := Scalar.muli v188 c50_i32_79
  let v193 : BitVec 32 := Scalar.addi v191 v192
  let v194 : BitVec 32 := Scalar.addi v193 v72
  let c16_i32_80 : BitVec 32 := 16#32
  let v195 : BitVec 32 := Scalar.muli v194 c16_i32_80
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t53
  let c64_i32 : BitVec 32 := 64#32
  let v6169 : BitVec 32 := Scalar.muli arg13 c64_i32
  let v6170 : BitVec 32 := Scalar.addi v195 v6169
  let c1_i32_1536 : BitVec 32 := 1#32
  let c1_i32_1538 : BitVec 32 := 1#32
  let arg15 : BitVec 32 := Scf.iv c1_i32_1536 c1_i32_1538 k0_t54
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t55_loop (v190 : BitVec 32) : Scf.Loop 32 :=
  let c1_i32_1536 : BitVec 32 := 1#32
  let v6187 : BitVec 32 := Scalar.subi v190 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off72 (i : grid0.Coords) (v68 : BitVec 32) (v72 : BitVec 32) (v74 : BitVec 32) (v76 : BitVec 32) (v188 : BitVec 32) (v190 : BitVec 32) (k0_t53 : Fin (k0_t53_loop v72 v74 v76).trips) (k0_t55 : Fin (k0_t55_loop v190).trips) (c0_i32_1553 : BitVec 32) : Fin 1 → Nat :=
  let c2_i32_29 : BitVec 32 := 2#32
  let arg0 : BitVec 32 := BitVec.ofNat 32 (i 0).val
  let v69 : BitVec 32 := Scalar.muli c2_i32_29 arg0
  let v70 : BitVec 32 := Scalar.subi v68 v69
  let c2500_i32_78 : BitVec 32 := 2500#32
  let v191 : BitVec 32 := Scalar.muli v70 c2500_i32_78
  let c50_i32_79 : BitVec 32 := 50#32
  let v192 : BitVec 32 := Scalar.muli v188 c50_i32_79
  let v193 : BitVec 32 := Scalar.addi v191 v192
  let v194 : BitVec 32 := Scalar.addi v193 v72
  let c16_i32_80 : BitVec 32 := 16#32
  let v195 : BitVec 32 := Scalar.muli v194 c16_i32_80
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t53
  let c64_i32 : BitVec 32 := 64#32
  let v6169 : BitVec 32 := Scalar.muli arg13 c64_i32
  let v6170 : BitVec 32 := Scalar.addi v195 v6169
  let c1_i32_1536 : BitVec 32 := 1#32
  let v6187 : BitVec 32 := Scalar.subi v190 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t55
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off73 (v72 : BitVec 32) (v74 : BitVec 32) (v76 : BitVec 32) (k0_t53 : Fin (k0_t53_loop v72 v74 v76).trips) (c0_i32_1541 : BitVec 32) : Fin 2 → Nat :=
  let c6_i32_1542 : BitVec 32 := 6#32
  let v6196 : Index := Scalar.indexCast c6_i32_1542
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t53
  let c64_i32_1540 : BitVec 32 := 64#32
  let v6194 : BitVec 32 := Scalar.muli arg13 c64_i32_1540
  let v6195 : BitVec 32 := Scalar.addi v6194 c0_i32_1541
  let v6197 : Index := Scalar.indexCast v6195
  ![6, v6197.toNat]
@[reducible] def k0_t56_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond15 (v190 : BitVec 32) : BitVec 1 :=
  let c0_i32_83 : BitVec 32 := 0#32
  let v199 : BitVec 1 := Scalar.cmpi .eq v190 c0_i32_83
  let v200 : BitVec 32 := Scalar.extui v199
  let c0_i32_84 : BitVec 32 := 0#32
  let v201 : BitVec 1 := Scalar.cmpi .ne v200 c0_i32_84
  v201

def k0_off74 (v72 : BitVec 32) (v74 : BitVec 32) (v76 : BitVec 32) (k0_t56 : Fin (k0_t56_loop v72 v74 v76).trips) (c0_i32_1533 : BitVec 32) : Fin 2 → Nat :=
  let c6_i32_1534 : BitVec 32 := 6#32
  let v6171 : Index := Scalar.indexCast c6_i32_1534
  let c0_i32_1528 : BitVec 32 := 0#32
  let c1_i32_1531 : BitVec 32 := 1#32
  let arg13 : BitVec 32 := Scf.iv c0_i32_1528 c1_i32_1531 k0_t56
  let c64_i32 : BitVec 32 := 64#32
  let v6169 : BitVec 32 := Scalar.muli arg13 c64_i32
  let v6170 : BitVec 32 := Scalar.addi v6169 c0_i32_1533
  let v6172 : Index := Scalar.indexCast v6170
  ![6, v6172.toNat]
@[reducible] def k0_t57_loop (v72 : BitVec 32) (v74 : BitVec 32) (v76 : BitVec 32) : Scf.Loop 32 :=
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off75 (v72 : BitVec 32) (v74 : BitVec 32) (v76 : BitVec 32) (k0_t57 : Fin (k0_t57_loop v72 v74 v76).trips) (c0_i32_1533 : BitVec 32) : Fin 2 → Nat :=
  let c6_i32_1534 : BitVec 32 := 6#32
  let v6171 : Index := Scalar.indexCast c6_i32_1534
  let c0_i32_1528 : BitVec 32 := 0#32
  let v77 : BitVec 32 := Scalar.addi v74 v76
  let v78 : BitVec 32 := Scalar.subi v77 v72
  let c3_i32_30 : BitVec 32 := 3#32
  let v79 : BitVec 32 := Scalar.addi v78 c3_i32_30
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c4_i32_31 : BitVec 32 := 4#32
  let c0_i32_34 : BitVec 32 := 0#32
  let v86 : BitVec 1 := Scalar.cmpi .sgt c4_i32_31 c0_i32_34
  let v87 : BitVec 32 := Scalar.extui v86
  let c0_i32_35 : BitVec 32 := 0#32
  let v88 : BitVec 1 := Scalar.cmpi .slt c4_i32_31 c0_i32_35
  let v89 : BitVec 32 := Scalar.extui v88
  let v90 : BitVec 32 := Scalar.subi v87 v89
  let v91 : BitVec 1 := Scalar.cmpi .ne v85 v90
  let v92 : BitVec 32 := Scalar.remsi v79 c4_i32_31
  let c0_i32_36 : BitVec 32 := 0#32
  let v93 : BitVec 1 := Scalar.cmpi .ne v92 c0_i32_36
  let v94 : BitVec 1 := Scalar.andi v91 v93
  let v80 : BitVec 32 := Scalar.divsi v79 c4_i32_31
  let c1_i32_37 : BitVec 32 := 1#32
  let v95 : BitVec 32 := Scalar.subi v80 c1_i32_37
  let v96 : BitVec 32 := Scalar.select v94 v95 v80
  let v6162 : BitVec 32 := Scalar.subi v96 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t57
  let c64_i32 : BitVec 32 := 64#32
  let v6169 : BitVec 32 := Scalar.muli arg13 c64_i32
  let v6170 : BitVec 32 := Scalar.addi v6169 c0_i32_1533
  let v6172 : Index := Scalar.indexCast v6170
  ![6, v6172.toNat]

def k0_chk7 (i : grid0.Coords) (v68 : BitVec 32) (v72 : BitVec 32) (v74 : BitVec 32) (v76 : BitVec 32) (v188 : BitVec 32) (v190 : BitVec 32) : Prop :=
  (∀ (k0_h14 : k0_cond14 v190 = 1#1), (k0_t50_loop v72 v74 v76).OK) ∧
  (∀ k0_t50 : Fin (k0_t50_loop v72 v74 v76).trips, ∀ (k0_h14 : k0_cond14 v190 = 1#1), ∀ (r : Fin 4), ∀ a, (k0_off66 i v68 v72 v74 v76 v188 k0_t50 (BitVec.ofNat 32 (16 * r.val))) a + S16.size a ≤ S80896.size a) ∧
  (∀ k0_t50 : Fin (k0_t50_loop v72 v74 v76).trips, ∀ (k0_h14 : k0_cond14 v190 = 1#1), (k0_t51_loop v190).OK) ∧
  (∀ (k0_t50 : Fin (k0_t50_loop v72 v74 v76).trips) (k0_t51 : Fin (k0_t51_loop v190).trips), ∀ (k0_h14 : k0_cond14 v190 = 1#1), ∀ (r : Fin 4), ∀ a, (k0_off67 i v68 v72 v74 v76 v188 v190 k0_t50 k0_t51 (BitVec.ofNat 32 (16 * r.val))) a + S16.size a ≤ S80896.size a) ∧
  (∀ k0_t50 : Fin (k0_t50_loop v72 v74 v76).trips, ∀ (k0_h14 : k0_cond14 v190 = 1#1), (k0_t52_loop v190).OK) ∧
  (∀ (k0_t50 : Fin (k0_t50_loop v72 v74 v76).trips) (k0_t52 : Fin (k0_t52_loop v190).trips), ∀ (k0_h14 : k0_cond14 v190 = 1#1), ∀ (r : Fin 4), ∀ a, (k0_off68 i v68 v72 v74 v76 v188 v190 k0_t50 k0_t52 (BitVec.ofNat 32 (16 * r.val))) a + S16.size a ≤ S80896.size a) ∧
  (∀ k0_t50 : Fin (k0_t50_loop v72 v74 v76).trips, ∀ (k0_h14 : k0_cond14 v190 = 1#1), ∀ (r : Fin 4), ∀ a, (k0_off69 v72 v74 v76 k0_t50 (BitVec.ofNat 32 (16 * r.val))) a + S1x16.size a ≤ S7x880.size a) ∧
  (∀ (k0_h14 : k0_cond14 v190 = 1#1), (k0_t53_loop v72 v74 v76).OK) ∧
  (∀ k0_t53 : Fin (k0_t53_loop v72 v74 v76).trips, ∀ (k0_h14 : k0_cond14 v190 = 1#1), ∀ (r : Fin 4), ∀ a, (k0_off70 i v68 v72 v74 v76 v188 k0_t53 (BitVec.ofNat 32 (16 * r.val))) a + S16.size a ≤ S80896.size a) ∧
  (∀ k0_t53 : Fin (k0_t53_loop v72 v74 v76).trips, ∀ (k0_h14 : k0_cond14 v190 = 1#1), (k0_t54_loop v190).OK) ∧
  (∀ (k0_t53 : Fin (k0_t53_loop v72 v74 v76).trips) (k0_t54 : Fin (k0_t54_loop v190).trips), ∀ (k0_h14 : k0_cond14 v190 = 1#1), ∀ (r : Fin 4), ∀ a, (k0_off71 i v68 v72 v74 v76 v188 v190 k0_t53 k0_t54 (BitVec.ofNat 32 (16 * r.val))) a + S16.size a ≤ S80896.size a) ∧
  (∀ k0_t53 : Fin (k0_t53_loop v72 v74 v76).trips, ∀ (k0_h14 : k0_cond14 v190 = 1#1), (k0_t55_loop v190).OK) ∧
  (∀ (k0_t53 : Fin (k0_t53_loop v72 v74 v76).trips) (k0_t55 : Fin (k0_t55_loop v190).trips), ∀ (k0_h14 : k0_cond14 v190 = 1#1), ∀ (r : Fin 4), ∀ a, (k0_off72 i v68 v72 v74 v76 v188 v190 k0_t53 k0_t55 (BitVec.ofNat 32 (16 * r.val))) a + S16.size a ≤ S80896.size a) ∧
  (∀ k0_t53 : Fin (k0_t53_loop v72 v74 v76).trips, ∀ (k0_h14 : k0_cond14 v190 = 1#1), ∀ (r : Fin 4), ∀ a, (k0_off73 v72 v74 v76 k0_t53 (BitVec.ofNat 32 (16 * r.val))) a + S1x16.size a ≤ S7x880.size a) ∧
  (∀ (k0_h15 : k0_cond15 v190 = 1#1), (k0_t56_loop v72 v74 v76).OK) ∧
  (∀ k0_t56 : Fin (k0_t56_loop v72 v74 v76).trips, ∀ (k0_h15 : k0_cond15 v190 = 1#1), ∀ (r : Fin 4), ∀ a, (k0_off74 v72 v74 v76 k0_t56 (BitVec.ofNat 32 (16 * r.val))) a + S1x16.size a ≤ S7x880.size a) ∧
  (∀ (k0_h15 : k0_cond15 v190 = 1#1), (k0_t57_loop v72 v74 v76).OK) ∧
  (∀ k0_t57 : Fin (k0_t57_loop v72 v74 v76).trips, ∀ (k0_h15 : k0_cond15 v190 = 1#1), ∀ (r : Fin 4), ∀ a, (k0_off75 v72 v74 v76 k0_t57 (BitVec.ofNat 32 (16 * r.val))) a + S1x16.size a ≤ S7x880.size a)
theorem k0_t50_ok : ∀ (i : grid0.Coords) (v68 : BitVec 32) (v72 : BitVec 32) (v74 : BitVec 32) (v76 : BitVec 32) (v188 : BitVec 32) (v190 : BitVec 32) (k0_hw7 : k0_chk7 i v68 v72 v74 v76 v188 v190), ∀ (k0_h14 : k0_cond14 v190 = 1#1), (k0_t50_loop v72 v74 v76).OK := fun i v68 v72 v74 v76 v188 v190 k0_hw7 k0_h14 => k0_hw7.1 k0_h14
theorem k0_off66_inb : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t50 : Fin (k0_t50_loop v72 v74 v76).trips), ∀ (k0_h14 : k0_cond14 v190 = 1#1), ∀ (r : Fin 4), ∀ a, (k0_off66 i v68 v72 v74 v76 v188 k0_t50 (BitVec.ofNat 32 (16 * r.val))) a + S16.size a ≤ S80896.size a := fun i v68 v72 v74 v76 v188 v190 k0_hw7 k0_t50 k0_h14 r => k0_hw7.2.1 k0_t50 k0_h14 r
theorem k0_t51_ok : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t50 : Fin (k0_t50_loop v72 v74 v76).trips), ∀ (k0_h14 : k0_cond14 v190 = 1#1), (k0_t51_loop v190).OK := fun i v68 v72 v74 v76 v188 v190 k0_hw7 k0_t50 k0_h14 => k0_hw7.2.2.1 k0_t50 k0_h14
theorem k0_off67_inb : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t50 : Fin (k0_t50_loop v72 v74 v76).trips) (k0_t51 : Fin (k0_t51_loop v190).trips), ∀ (k0_h14 : k0_cond14 v190 = 1#1), ∀ (r : Fin 4), ∀ a, (k0_off67 i v68 v72 v74 v76 v188 v190 k0_t50 k0_t51 (BitVec.ofNat 32 (16 * r.val))) a + S16.size a ≤ S80896.size a := fun i v68 v72 v74 v76 v188 v190 k0_hw7 k0_t50 k0_t51 k0_h14 r => k0_hw7.2.2.2.1 k0_t50 k0_t51 k0_h14 r
theorem k0_t52_ok : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t50 : Fin (k0_t50_loop v72 v74 v76).trips), ∀ (k0_h14 : k0_cond14 v190 = 1#1), (k0_t52_loop v190).OK := fun i v68 v72 v74 v76 v188 v190 k0_hw7 k0_t50 k0_h14 => k0_hw7.2.2.2.2.1 k0_t50 k0_h14
theorem k0_off68_inb : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t50 : Fin (k0_t50_loop v72 v74 v76).trips) (k0_t52 : Fin (k0_t52_loop v190).trips), ∀ (k0_h14 : k0_cond14 v190 = 1#1), ∀ (r : Fin 4), ∀ a, (k0_off68 i v68 v72 v74 v76 v188 v190 k0_t50 k0_t52 (BitVec.ofNat 32 (16 * r.val))) a + S16.size a ≤ S80896.size a := fun i v68 v72 v74 v76 v188 v190 k0_hw7 k0_t50 k0_t52 k0_h14 r => k0_hw7.2.2.2.2.2.1 k0_t50 k0_t52 k0_h14 r
theorem k0_off69_inb : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t50 : Fin (k0_t50_loop v72 v74 v76).trips), ∀ (k0_h14 : k0_cond14 v190 = 1#1), ∀ (r : Fin 4), ∀ a, (k0_off69 v72 v74 v76 k0_t50 (BitVec.ofNat 32 (16 * r.val))) a + S1x16.size a ≤ S7x880.size a := fun i v68 v72 v74 v76 v188 v190 k0_hw7 k0_t50 k0_h14 r => k0_hw7.2.2.2.2.2.2.1 k0_t50 k0_h14 r
theorem k0_t53_ok : ∀ (i : grid0.Coords) (v68 : BitVec 32) (v72 : BitVec 32) (v74 : BitVec 32) (v76 : BitVec 32) (v188 : BitVec 32) (v190 : BitVec 32) (k0_hw7 : k0_chk7 i v68 v72 v74 v76 v188 v190), ∀ (k0_h14 : k0_cond14 v190 = 1#1), (k0_t53_loop v72 v74 v76).OK := fun i v68 v72 v74 v76 v188 v190 k0_hw7 k0_h14 => k0_hw7.2.2.2.2.2.2.2.1 k0_h14
theorem k0_off70_inb : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t53 : Fin (k0_t53_loop v72 v74 v76).trips), ∀ (k0_h14 : k0_cond14 v190 = 1#1), ∀ (r : Fin 4), ∀ a, (k0_off70 i v68 v72 v74 v76 v188 k0_t53 (BitVec.ofNat 32 (16 * r.val))) a + S16.size a ≤ S80896.size a := fun i v68 v72 v74 v76 v188 v190 k0_hw7 k0_t53 k0_h14 r => k0_hw7.2.2.2.2.2.2.2.2.1 k0_t53 k0_h14 r
theorem k0_t54_ok : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t53 : Fin (k0_t53_loop v72 v74 v76).trips), ∀ (k0_h14 : k0_cond14 v190 = 1#1), (k0_t54_loop v190).OK := fun i v68 v72 v74 v76 v188 v190 k0_hw7 k0_t53 k0_h14 => k0_hw7.2.2.2.2.2.2.2.2.2.1 k0_t53 k0_h14
theorem k0_off71_inb : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t53 : Fin (k0_t53_loop v72 v74 v76).trips) (k0_t54 : Fin (k0_t54_loop v190).trips), ∀ (k0_h14 : k0_cond14 v190 = 1#1), ∀ (r : Fin 4), ∀ a, (k0_off71 i v68 v72 v74 v76 v188 v190 k0_t53 k0_t54 (BitVec.ofNat 32 (16 * r.val))) a + S16.size a ≤ S80896.size a := fun i v68 v72 v74 v76 v188 v190 k0_hw7 k0_t53 k0_t54 k0_h14 r => k0_hw7.2.2.2.2.2.2.2.2.2.2.1 k0_t53 k0_t54 k0_h14 r
theorem k0_t55_ok : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t53 : Fin (k0_t53_loop v72 v74 v76).trips), ∀ (k0_h14 : k0_cond14 v190 = 1#1), (k0_t55_loop v190).OK := fun i v68 v72 v74 v76 v188 v190 k0_hw7 k0_t53 k0_h14 => k0_hw7.2.2.2.2.2.2.2.2.2.2.2.1 k0_t53 k0_h14
theorem k0_off72_inb : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t53 : Fin (k0_t53_loop v72 v74 v76).trips) (k0_t55 : Fin (k0_t55_loop v190).trips), ∀ (k0_h14 : k0_cond14 v190 = 1#1), ∀ (r : Fin 4), ∀ a, (k0_off72 i v68 v72 v74 v76 v188 v190 k0_t53 k0_t55 (BitVec.ofNat 32 (16 * r.val))) a + S16.size a ≤ S80896.size a := fun i v68 v72 v74 v76 v188 v190 k0_hw7 k0_t53 k0_t55 k0_h14 r => k0_hw7.2.2.2.2.2.2.2.2.2.2.2.2.1 k0_t53 k0_t55 k0_h14 r
theorem k0_off73_inb : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t53 : Fin (k0_t53_loop v72 v74 v76).trips), ∀ (k0_h14 : k0_cond14 v190 = 1#1), ∀ (r : Fin 4), ∀ a, (k0_off73 v72 v74 v76 k0_t53 (BitVec.ofNat 32 (16 * r.val))) a + S1x16.size a ≤ S7x880.size a := fun i v68 v72 v74 v76 v188 v190 k0_hw7 k0_t53 k0_h14 r => k0_hw7.2.2.2.2.2.2.2.2.2.2.2.2.2.1 k0_t53 k0_h14 r
theorem k0_t56_ok : ∀ (i : grid0.Coords) (v68 : BitVec 32) (v72 : BitVec 32) (v74 : BitVec 32) (v76 : BitVec 32) (v188 : BitVec 32) (v190 : BitVec 32) (k0_hw7 : k0_chk7 i v68 v72 v74 v76 v188 v190), ∀ (k0_h15 : k0_cond15 v190 = 1#1), (k0_t56_loop v72 v74 v76).OK := fun i v68 v72 v74 v76 v188 v190 k0_hw7 k0_h15 => k0_hw7.2.2.2.2.2.2.2.2.2.2.2.2.2.2.1 k0_h15
theorem k0_off74_inb : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t56 : Fin (k0_t56_loop v72 v74 v76).trips), ∀ (k0_h15 : k0_cond15 v190 = 1#1), ∀ (r : Fin 4), ∀ a, (k0_off74 v72 v74 v76 k0_t56 (BitVec.ofNat 32 (16 * r.val))) a + S1x16.size a ≤ S7x880.size a := fun i v68 v72 v74 v76 v188 v190 k0_hw7 k0_t56 k0_h15 r => k0_hw7.2.2.2.2.2.2.2.2.2.2.2.2.2.2.2.1 k0_t56 k0_h15 r
theorem k0_t57_ok : ∀ (i : grid0.Coords) (v68 : BitVec 32) (v72 : BitVec 32) (v74 : BitVec 32) (v76 : BitVec 32) (v188 : BitVec 32) (v190 : BitVec 32) (k0_hw7 : k0_chk7 i v68 v72 v74 v76 v188 v190), ∀ (k0_h15 : k0_cond15 v190 = 1#1), (k0_t57_loop v72 v74 v76).OK := fun i v68 v72 v74 v76 v188 v190 k0_hw7 k0_h15 => k0_hw7.2.2.2.2.2.2.2.2.2.2.2.2.2.2.2.2.1 k0_h15
theorem k0_off75_inb : ∀ (i : grid0.Coords) (v68 : BitVec 32) (v72 : BitVec 32) (v74 : BitVec 32) (v76 : BitVec 32) (v188 : BitVec 32) (v190 : BitVec 32) (k0_hw7 : k0_chk7 i v68 v72 v74 v76 v188 v190) (k0_t57 : Fin (k0_t57_loop v72 v74 v76).trips), ∀ (k0_h15 : k0_cond15 v190 = 1#1), ∀ (r : Fin 4), ∀ a, (k0_off75 v72 v74 v76 k0_t57 (BitVec.ofNat 32 (16 * r.val))) a + S1x16.size a ≤ S7x880.size a := fun i v68 v72 v74 v76 v188 v190 k0_hw7 k0_t57 k0_h15 r => k0_hw7.2.2.2.2.2.2.2.2.2.2.2.2.2.2.2.2.2 k0_t57 k0_h15 r

def k0_off76 (v72 : BitVec 32) (v203 : BitVec 32) (v205 : BitVec 32) (c0_i32_92 : BitVec 32) : Fin 2 → Nat :=
  let c0_i32_109 : BitVec 32 := 0#32
  let v245 : Index := Scalar.indexCast c0_i32_109
  let c0_i32_85 : BitVec 32 := 0#32
  let v206 : BitVec 1 := Scalar.cmpi .eq v205 c0_i32_85
  let c848_i32 : BitVec 32 := 848#32
  let v207 : BitVec 32 := Scalar.subi v203 v72
  let c16_i32_86 : BitVec 32 := 16#32
  let v208 : BitVec 32 := Scalar.muli v207 c16_i32_86
  let v209 : BitVec 32 := Scalar.select v206 c848_i32 v208
  let c1_i32_90 : BitVec 32 := 1#32
  let v213 : BitVec 32 := Scalar.subi v205 c1_i32_90
  let c0_i32_91 : BitVec 32 := 0#32
  let v214 : BitVec 32 := Scalar.maxsi v213 c0_i32_91
  let v215 : BitVec 32 := Scalar.minsi c0_i32_92 v214
  let c16_i32_93 : BitVec 32 := 16#32
  let v216 : BitVec 32 := Scalar.muli v215 c16_i32_93
  let v217 : BitVec 32 := Scalar.addi v209 v216
  let v246 : Index := Scalar.indexCast v217
  ![0, v246.toNat]

def k0_off77 (v72 : BitVec 32) (v203 : BitVec 32) (v205 : BitVec 32) (c0_i32_92 : BitVec 32) : Fin 2 → Nat :=
  let c1_i32_119 : BitVec 32 := 1#32
  let v298 : Index := Scalar.indexCast c1_i32_119
  let c0_i32_85 : BitVec 32 := 0#32
  let v206 : BitVec 1 := Scalar.cmpi .eq v205 c0_i32_85
  let c848_i32 : BitVec 32 := 848#32
  let v207 : BitVec 32 := Scalar.subi v203 v72
  let c16_i32_86 : BitVec 32 := 16#32
  let v208 : BitVec 32 := Scalar.muli v207 c16_i32_86
  let v209 : BitVec 32 := Scalar.select v206 c848_i32 v208
  let c1_i32_90 : BitVec 32 := 1#32
  let v213 : BitVec 32 := Scalar.subi v205 c1_i32_90
  let c0_i32_91 : BitVec 32 := 0#32
  let v214 : BitVec 32 := Scalar.maxsi v213 c0_i32_91
  let v215 : BitVec 32 := Scalar.minsi c0_i32_92 v214
  let c16_i32_93 : BitVec 32 := 16#32
  let v216 : BitVec 32 := Scalar.muli v215 c16_i32_93
  let v217 : BitVec 32 := Scalar.addi v209 v216
  let v299 : Index := Scalar.indexCast v217
  ![1, v299.toNat]
def k0_off78 (v72 : BitVec 32) (v203 : BitVec 32) (v205 : BitVec 32) (c0_i32_92 : BitVec 32) : Fin 2 → Nat :=
  let c2_i32_129 : BitVec 32 := 2#32
  let v351 : Index := Scalar.indexCast c2_i32_129
  let c0_i32_85 : BitVec 32 := 0#32
  let v206 : BitVec 1 := Scalar.cmpi .eq v205 c0_i32_85
  let c848_i32 : BitVec 32 := 848#32
  let v207 : BitVec 32 := Scalar.subi v203 v72
  let c16_i32_86 : BitVec 32 := 16#32
  let v208 : BitVec 32 := Scalar.muli v207 c16_i32_86
  let v209 : BitVec 32 := Scalar.select v206 c848_i32 v208
  let c1_i32_90 : BitVec 32 := 1#32
  let v213 : BitVec 32 := Scalar.subi v205 c1_i32_90
  let c0_i32_91 : BitVec 32 := 0#32
  let v214 : BitVec 32 := Scalar.maxsi v213 c0_i32_91
  let v215 : BitVec 32 := Scalar.minsi c0_i32_92 v214
  let c16_i32_93 : BitVec 32 := 16#32
  let v216 : BitVec 32 := Scalar.muli v215 c16_i32_93
  let v217 : BitVec 32 := Scalar.addi v209 v216
  let v352 : Index := Scalar.indexCast v217
  ![2, v352.toNat]
def k0_off79 (v72 : BitVec 32) (v203 : BitVec 32) (v205 : BitVec 32) (c0_i32_92 : BitVec 32) : Fin 2 → Nat :=
  let c3_i32_139 : BitVec 32 := 3#32
  let v404 : Index := Scalar.indexCast c3_i32_139
  let c0_i32_85 : BitVec 32 := 0#32
  let v206 : BitVec 1 := Scalar.cmpi .eq v205 c0_i32_85
  let c848_i32 : BitVec 32 := 848#32
  let v207 : BitVec 32 := Scalar.subi v203 v72
  let c16_i32_86 : BitVec 32 := 16#32
  let v208 : BitVec 32 := Scalar.muli v207 c16_i32_86
  let v209 : BitVec 32 := Scalar.select v206 c848_i32 v208
  let c1_i32_90 : BitVec 32 := 1#32
  let v213 : BitVec 32 := Scalar.subi v205 c1_i32_90
  let c0_i32_91 : BitVec 32 := 0#32
  let v214 : BitVec 32 := Scalar.maxsi v213 c0_i32_91
  let v215 : BitVec 32 := Scalar.minsi c0_i32_92 v214
  let c16_i32_93 : BitVec 32 := 16#32
  let v216 : BitVec 32 := Scalar.muli v215 c16_i32_93
  let v217 : BitVec 32 := Scalar.addi v209 v216
  let v405 : Index := Scalar.indexCast v217
  ![3, v405.toNat]
def k0_off80 (v72 : BitVec 32) (v203 : BitVec 32) (v205 : BitVec 32) (c0_i32_92 : BitVec 32) : Fin 2 → Nat :=
  let c4_i32_149 : BitVec 32 := 4#32
  let v457 : Index := Scalar.indexCast c4_i32_149
  let c0_i32_85 : BitVec 32 := 0#32
  let v206 : BitVec 1 := Scalar.cmpi .eq v205 c0_i32_85
  let c848_i32 : BitVec 32 := 848#32
  let v207 : BitVec 32 := Scalar.subi v203 v72
  let c16_i32_86 : BitVec 32 := 16#32
  let v208 : BitVec 32 := Scalar.muli v207 c16_i32_86
  let v209 : BitVec 32 := Scalar.select v206 c848_i32 v208
  let c1_i32_90 : BitVec 32 := 1#32
  let v213 : BitVec 32 := Scalar.subi v205 c1_i32_90
  let c0_i32_91 : BitVec 32 := 0#32
  let v214 : BitVec 32 := Scalar.maxsi v213 c0_i32_91
  let v215 : BitVec 32 := Scalar.minsi c0_i32_92 v214
  let c16_i32_93 : BitVec 32 := 16#32
  let v216 : BitVec 32 := Scalar.muli v215 c16_i32_93
  let v217 : BitVec 32 := Scalar.addi v209 v216
  let v458 : Index := Scalar.indexCast v217
  ![4, v458.toNat]
def k0_off81 (v72 : BitVec 32) (v203 : BitVec 32) (v205 : BitVec 32) (c0_i32_92 : BitVec 32) : Fin 2 → Nat :=
  let c5_i32_159 : BitVec 32 := 5#32
  let v510 : Index := Scalar.indexCast c5_i32_159
  let c0_i32_85 : BitVec 32 := 0#32
  let v206 : BitVec 1 := Scalar.cmpi .eq v205 c0_i32_85
  let c848_i32 : BitVec 32 := 848#32
  let v207 : BitVec 32 := Scalar.subi v203 v72
  let c16_i32_86 : BitVec 32 := 16#32
  let v208 : BitVec 32 := Scalar.muli v207 c16_i32_86
  let v209 : BitVec 32 := Scalar.select v206 c848_i32 v208
  let c1_i32_90 : BitVec 32 := 1#32
  let v213 : BitVec 32 := Scalar.subi v205 c1_i32_90
  let c0_i32_91 : BitVec 32 := 0#32
  let v214 : BitVec 32 := Scalar.maxsi v213 c0_i32_91
  let v215 : BitVec 32 := Scalar.minsi c0_i32_92 v214
  let c16_i32_93 : BitVec 32 := 16#32
  let v216 : BitVec 32 := Scalar.muli v215 c16_i32_93
  let v217 : BitVec 32 := Scalar.addi v209 v216
  let v511 : Index := Scalar.indexCast v217
  ![5, v511.toNat]
def k0_off82 (v72 : BitVec 32) (v203 : BitVec 32) (v205 : BitVec 32) (c0_i32_92 : BitVec 32) : Fin 2 → Nat :=
  let c6_i32_169 : BitVec 32 := 6#32
  let v563 : Index := Scalar.indexCast c6_i32_169
  let c0_i32_85 : BitVec 32 := 0#32
  let v206 : BitVec 1 := Scalar.cmpi .eq v205 c0_i32_85
  let c848_i32 : BitVec 32 := 848#32
  let v207 : BitVec 32 := Scalar.subi v203 v72
  let c16_i32_86 : BitVec 32 := 16#32
  let v208 : BitVec 32 := Scalar.muli v207 c16_i32_86
  let v209 : BitVec 32 := Scalar.select v206 c848_i32 v208
  let c1_i32_90 : BitVec 32 := 1#32
  let v213 : BitVec 32 := Scalar.subi v205 c1_i32_90
  let c0_i32_91 : BitVec 32 := 0#32
  let v214 : BitVec 32 := Scalar.maxsi v213 c0_i32_91
  let v215 : BitVec 32 := Scalar.minsi c0_i32_92 v214
  let c16_i32_93 : BitVec 32 := 16#32
  let v216 : BitVec 32 := Scalar.muli v215 c16_i32_93
  let v217 : BitVec 32 := Scalar.addi v209 v216
  let v564 : Index := Scalar.indexCast v217
  ![6, v564.toNat]

def k0_chk8 (v72 : BitVec 32) (v203 : BitVec 32) (v205 : BitVec 32) : Prop :=
  (∀ (r : Fin 10), ∀ a, (k0_off76 v72 v203 v205 (BitVec.ofNat 32 r.val)) a + S1x16.size a ≤ S7x880.size a) ∧
  (∀ (r : Fin 10), ∀ a, (k0_off77 v72 v203 v205 (BitVec.ofNat 32 r.val)) a + S1x16.size a ≤ S7x880.size a) ∧
  (∀ (r : Fin 10), ∀ a, (k0_off78 v72 v203 v205 (BitVec.ofNat 32 r.val)) a + S1x16.size a ≤ S7x880.size a) ∧
  (∀ (r : Fin 10), ∀ a, (k0_off79 v72 v203 v205 (BitVec.ofNat 32 r.val)) a + S1x16.size a ≤ S7x880.size a) ∧
  (∀ (r : Fin 10), ∀ a, (k0_off80 v72 v203 v205 (BitVec.ofNat 32 r.val)) a + S1x16.size a ≤ S7x880.size a) ∧
  (∀ (r : Fin 10), ∀ a, (k0_off81 v72 v203 v205 (BitVec.ofNat 32 r.val)) a + S1x16.size a ≤ S7x880.size a) ∧
  (∀ (r : Fin 10), ∀ a, (k0_off82 v72 v203 v205 (BitVec.ofNat 32 r.val)) a + S1x16.size a ≤ S7x880.size a)
theorem k0_off76_inb : ∀ (v72 : BitVec 32) (v203 : BitVec 32) (v205 : BitVec 32) (k0_hw8 : k0_chk8 v72 v203 v205), ∀ (r : Fin 10), ∀ a, (k0_off76 v72 v203 v205 (BitVec.ofNat 32 r.val)) a + S1x16.size a ≤ S7x880.size a := fun v72 v203 v205 k0_hw8 r => k0_hw8.1 r
theorem k0_off77_inb : ∀ (v72 : BitVec 32) (v203 : BitVec 32) (v205 : BitVec 32) (k0_hw8 : k0_chk8 v72 v203 v205), ∀ (r : Fin 10), ∀ a, (k0_off77 v72 v203 v205 (BitVec.ofNat 32 r.val)) a + S1x16.size a ≤ S7x880.size a := fun v72 v203 v205 k0_hw8 r => k0_hw8.2.1 r
theorem k0_off78_inb : ∀ (v72 : BitVec 32) (v203 : BitVec 32) (v205 : BitVec 32) (k0_hw8 : k0_chk8 v72 v203 v205), ∀ (r : Fin 10), ∀ a, (k0_off78 v72 v203 v205 (BitVec.ofNat 32 r.val)) a + S1x16.size a ≤ S7x880.size a := fun v72 v203 v205 k0_hw8 r => k0_hw8.2.2.1 r
theorem k0_off79_inb : ∀ (v72 : BitVec 32) (v203 : BitVec 32) (v205 : BitVec 32) (k0_hw8 : k0_chk8 v72 v203 v205), ∀ (r : Fin 10), ∀ a, (k0_off79 v72 v203 v205 (BitVec.ofNat 32 r.val)) a + S1x16.size a ≤ S7x880.size a := fun v72 v203 v205 k0_hw8 r => k0_hw8.2.2.2.1 r
theorem k0_off80_inb : ∀ (v72 : BitVec 32) (v203 : BitVec 32) (v205 : BitVec 32) (k0_hw8 : k0_chk8 v72 v203 v205), ∀ (r : Fin 10), ∀ a, (k0_off80 v72 v203 v205 (BitVec.ofNat 32 r.val)) a + S1x16.size a ≤ S7x880.size a := fun v72 v203 v205 k0_hw8 r => k0_hw8.2.2.2.2.1 r
theorem k0_off81_inb : ∀ (v72 : BitVec 32) (v203 : BitVec 32) (v205 : BitVec 32) (k0_hw8 : k0_chk8 v72 v203 v205), ∀ (r : Fin 10), ∀ a, (k0_off81 v72 v203 v205 (BitVec.ofNat 32 r.val)) a + S1x16.size a ≤ S7x880.size a := fun v72 v203 v205 k0_hw8 r => k0_hw8.2.2.2.2.2.1 r
theorem k0_off82_inb : ∀ (v72 : BitVec 32) (v203 : BitVec 32) (v205 : BitVec 32) (k0_hw8 : k0_chk8 v72 v203 v205), ∀ (r : Fin 10), ∀ a, (k0_off82 v72 v203 v205 (BitVec.ofNat 32 r.val)) a + S1x16.size a ≤ S7x880.size a := fun v72 v203 v205 k0_hw8 r => k0_hw8.2.2.2.2.2.2 r

def k0_off83 (v72 : BitVec 32) (v617 : BitVec 32) (v619 : BitVec 32) (c0_i32_187 : BitVec 32) : Fin 2 → Nat :=
  let c0_i32_207 : BitVec 32 := 0#32
  let v659 : Index := Scalar.indexCast c0_i32_207
  let c0_i32_179 : BitVec 32 := 0#32
  let v620 : BitVec 1 := Scalar.cmpi .eq v619 c0_i32_179
  let c848_i32_181 : BitVec 32 := 848#32
  let v621 : BitVec 32 := Scalar.subi v617 v72
  let c16_i32_180 : BitVec 32 := 16#32
  let v622 : BitVec 32 := Scalar.muli v621 c16_i32_180
  let v623 : BitVec 32 := Scalar.select v620 c848_i32_181 v622
  let c1_i32_185 : BitVec 32 := 1#32
  let v627 : BitVec 32 := Scalar.subi v619 c1_i32_185
  let c0_i32_186 : BitVec 32 := 0#32
  let v628 : BitVec 32 := Scalar.maxsi v627 c0_i32_186
  let v629 : BitVec 32 := Scalar.minsi c0_i32_187 v628
  let c16_i32_188 : BitVec 32 := 16#32
  let v630 : BitVec 32 := Scalar.muli v629 c16_i32_188
  let v631 : BitVec 32 := Scalar.addi v623 v630
  let v660 : Index := Scalar.indexCast v631
  ![0, v660.toNat]

def k0_off84 (v72 : BitVec 32) (v617 : BitVec 32) (v619 : BitVec 32) (c0_i32_187 : BitVec 32) : Fin 2 → Nat :=
  let c1_i32_217 : BitVec 32 := 1#32
  let v712 : Index := Scalar.indexCast c1_i32_217
  let c0_i32_179 : BitVec 32 := 0#32
  let v620 : BitVec 1 := Scalar.cmpi .eq v619 c0_i32_179
  let c848_i32_181 : BitVec 32 := 848#32
  let v621 : BitVec 32 := Scalar.subi v617 v72
  let c16_i32_180 : BitVec 32 := 16#32
  let v622 : BitVec 32 := Scalar.muli v621 c16_i32_180
  let v623 : BitVec 32 := Scalar.select v620 c848_i32_181 v622
  let c1_i32_185 : BitVec 32 := 1#32
  let v627 : BitVec 32 := Scalar.subi v619 c1_i32_185
  let c0_i32_186 : BitVec 32 := 0#32
  let v628 : BitVec 32 := Scalar.maxsi v627 c0_i32_186
  let v629 : BitVec 32 := Scalar.minsi c0_i32_187 v628
  let c16_i32_188 : BitVec 32 := 16#32
  let v630 : BitVec 32 := Scalar.muli v629 c16_i32_188
  let v631 : BitVec 32 := Scalar.addi v623 v630
  let v713 : Index := Scalar.indexCast v631
  ![1, v713.toNat]
def k0_off85 (v72 : BitVec 32) (v617 : BitVec 32) (v619 : BitVec 32) (c0_i32_187 : BitVec 32) : Fin 2 → Nat :=
  let c2_i32_227 : BitVec 32 := 2#32
  let v765 : Index := Scalar.indexCast c2_i32_227
  let c0_i32_179 : BitVec 32 := 0#32
  let v620 : BitVec 1 := Scalar.cmpi .eq v619 c0_i32_179
  let c848_i32_181 : BitVec 32 := 848#32
  let v621 : BitVec 32 := Scalar.subi v617 v72
  let c16_i32_180 : BitVec 32 := 16#32
  let v622 : BitVec 32 := Scalar.muli v621 c16_i32_180
  let v623 : BitVec 32 := Scalar.select v620 c848_i32_181 v622
  let c1_i32_185 : BitVec 32 := 1#32
  let v627 : BitVec 32 := Scalar.subi v619 c1_i32_185
  let c0_i32_186 : BitVec 32 := 0#32
  let v628 : BitVec 32 := Scalar.maxsi v627 c0_i32_186
  let v629 : BitVec 32 := Scalar.minsi c0_i32_187 v628
  let c16_i32_188 : BitVec 32 := 16#32
  let v630 : BitVec 32 := Scalar.muli v629 c16_i32_188
  let v631 : BitVec 32 := Scalar.addi v623 v630
  let v766 : Index := Scalar.indexCast v631
  ![2, v766.toNat]
def k0_off86 (v72 : BitVec 32) (v617 : BitVec 32) (v619 : BitVec 32) (c0_i32_187 : BitVec 32) : Fin 2 → Nat :=
  let c3_i32_237 : BitVec 32 := 3#32
  let v818 : Index := Scalar.indexCast c3_i32_237
  let c0_i32_179 : BitVec 32 := 0#32
  let v620 : BitVec 1 := Scalar.cmpi .eq v619 c0_i32_179
  let c848_i32_181 : BitVec 32 := 848#32
  let v621 : BitVec 32 := Scalar.subi v617 v72
  let c16_i32_180 : BitVec 32 := 16#32
  let v622 : BitVec 32 := Scalar.muli v621 c16_i32_180
  let v623 : BitVec 32 := Scalar.select v620 c848_i32_181 v622
  let c1_i32_185 : BitVec 32 := 1#32
  let v627 : BitVec 32 := Scalar.subi v619 c1_i32_185
  let c0_i32_186 : BitVec 32 := 0#32
  let v628 : BitVec 32 := Scalar.maxsi v627 c0_i32_186
  let v629 : BitVec 32 := Scalar.minsi c0_i32_187 v628
  let c16_i32_188 : BitVec 32 := 16#32
  let v630 : BitVec 32 := Scalar.muli v629 c16_i32_188
  let v631 : BitVec 32 := Scalar.addi v623 v630
  let v819 : Index := Scalar.indexCast v631
  ![3, v819.toNat]
def k0_off87 (v72 : BitVec 32) (v617 : BitVec 32) (v619 : BitVec 32) (c0_i32_187 : BitVec 32) : Fin 2 → Nat :=
  let c4_i32_247 : BitVec 32 := 4#32
  let v871 : Index := Scalar.indexCast c4_i32_247
  let c0_i32_179 : BitVec 32 := 0#32
  let v620 : BitVec 1 := Scalar.cmpi .eq v619 c0_i32_179
  let c848_i32_181 : BitVec 32 := 848#32
  let v621 : BitVec 32 := Scalar.subi v617 v72
  let c16_i32_180 : BitVec 32 := 16#32
  let v622 : BitVec 32 := Scalar.muli v621 c16_i32_180
  let v623 : BitVec 32 := Scalar.select v620 c848_i32_181 v622
  let c1_i32_185 : BitVec 32 := 1#32
  let v627 : BitVec 32 := Scalar.subi v619 c1_i32_185
  let c0_i32_186 : BitVec 32 := 0#32
  let v628 : BitVec 32 := Scalar.maxsi v627 c0_i32_186
  let v629 : BitVec 32 := Scalar.minsi c0_i32_187 v628
  let c16_i32_188 : BitVec 32 := 16#32
  let v630 : BitVec 32 := Scalar.muli v629 c16_i32_188
  let v631 : BitVec 32 := Scalar.addi v623 v630
  let v872 : Index := Scalar.indexCast v631
  ![4, v872.toNat]
def k0_off88 (v72 : BitVec 32) (v617 : BitVec 32) (v619 : BitVec 32) (c0_i32_187 : BitVec 32) : Fin 2 → Nat :=
  let c5_i32_257 : BitVec 32 := 5#32
  let v924 : Index := Scalar.indexCast c5_i32_257
  let c0_i32_179 : BitVec 32 := 0#32
  let v620 : BitVec 1 := Scalar.cmpi .eq v619 c0_i32_179
  let c848_i32_181 : BitVec 32 := 848#32
  let v621 : BitVec 32 := Scalar.subi v617 v72
  let c16_i32_180 : BitVec 32 := 16#32
  let v622 : BitVec 32 := Scalar.muli v621 c16_i32_180
  let v623 : BitVec 32 := Scalar.select v620 c848_i32_181 v622
  let c1_i32_185 : BitVec 32 := 1#32
  let v627 : BitVec 32 := Scalar.subi v619 c1_i32_185
  let c0_i32_186 : BitVec 32 := 0#32
  let v628 : BitVec 32 := Scalar.maxsi v627 c0_i32_186
  let v629 : BitVec 32 := Scalar.minsi c0_i32_187 v628
  let c16_i32_188 : BitVec 32 := 16#32
  let v630 : BitVec 32 := Scalar.muli v629 c16_i32_188
  let v631 : BitVec 32 := Scalar.addi v623 v630
  let v925 : Index := Scalar.indexCast v631
  ![5, v925.toNat]
def k0_off89 (v72 : BitVec 32) (v617 : BitVec 32) (v619 : BitVec 32) (c0_i32_187 : BitVec 32) : Fin 2 → Nat :=
  let c6_i32_267 : BitVec 32 := 6#32
  let v977 : Index := Scalar.indexCast c6_i32_267
  let c0_i32_179 : BitVec 32 := 0#32
  let v620 : BitVec 1 := Scalar.cmpi .eq v619 c0_i32_179
  let c848_i32_181 : BitVec 32 := 848#32
  let v621 : BitVec 32 := Scalar.subi v617 v72
  let c16_i32_180 : BitVec 32 := 16#32
  let v622 : BitVec 32 := Scalar.muli v621 c16_i32_180
  let v623 : BitVec 32 := Scalar.select v620 c848_i32_181 v622
  let c1_i32_185 : BitVec 32 := 1#32
  let v627 : BitVec 32 := Scalar.subi v619 c1_i32_185
  let c0_i32_186 : BitVec 32 := 0#32
  let v628 : BitVec 32 := Scalar.maxsi v627 c0_i32_186
  let v629 : BitVec 32 := Scalar.minsi c0_i32_187 v628
  let c16_i32_188 : BitVec 32 := 16#32
  let v630 : BitVec 32 := Scalar.muli v629 c16_i32_188
  let v631 : BitVec 32 := Scalar.addi v623 v630
  let v978 : Index := Scalar.indexCast v631
  ![6, v978.toNat]

def k0_chk9 (v72 : BitVec 32) (v617 : BitVec 32) (v619 : BitVec 32) : Prop :=
  (∀ (r : Fin 10), ∀ a, (k0_off83 v72 v617 v619 (BitVec.ofNat 32 r.val)) a + S1x16.size a ≤ S7x880.size a) ∧
  (∀ (r : Fin 10), ∀ a, (k0_off84 v72 v617 v619 (BitVec.ofNat 32 r.val)) a + S1x16.size a ≤ S7x880.size a) ∧
  (∀ (r : Fin 10), ∀ a, (k0_off85 v72 v617 v619 (BitVec.ofNat 32 r.val)) a + S1x16.size a ≤ S7x880.size a) ∧
  (∀ (r : Fin 10), ∀ a, (k0_off86 v72 v617 v619 (BitVec.ofNat 32 r.val)) a + S1x16.size a ≤ S7x880.size a) ∧
  (∀ (r : Fin 10), ∀ a, (k0_off87 v72 v617 v619 (BitVec.ofNat 32 r.val)) a + S1x16.size a ≤ S7x880.size a) ∧
  (∀ (r : Fin 10), ∀ a, (k0_off88 v72 v617 v619 (BitVec.ofNat 32 r.val)) a + S1x16.size a ≤ S7x880.size a) ∧
  (∀ (r : Fin 10), ∀ a, (k0_off89 v72 v617 v619 (BitVec.ofNat 32 r.val)) a + S1x16.size a ≤ S7x880.size a)
theorem k0_off83_inb : ∀ (v72 : BitVec 32) (v617 : BitVec 32) (v619 : BitVec 32) (k0_hw9 : k0_chk9 v72 v617 v619), ∀ (r : Fin 10), ∀ a, (k0_off83 v72 v617 v619 (BitVec.ofNat 32 r.val)) a + S1x16.size a ≤ S7x880.size a := fun v72 v617 v619 k0_hw9 r => k0_hw9.1 r
theorem k0_off84_inb : ∀ (v72 : BitVec 32) (v617 : BitVec 32) (v619 : BitVec 32) (k0_hw9 : k0_chk9 v72 v617 v619), ∀ (r : Fin 10), ∀ a, (k0_off84 v72 v617 v619 (BitVec.ofNat 32 r.val)) a + S1x16.size a ≤ S7x880.size a := fun v72 v617 v619 k0_hw9 r => k0_hw9.2.1 r
theorem k0_off85_inb : ∀ (v72 : BitVec 32) (v617 : BitVec 32) (v619 : BitVec 32) (k0_hw9 : k0_chk9 v72 v617 v619), ∀ (r : Fin 10), ∀ a, (k0_off85 v72 v617 v619 (BitVec.ofNat 32 r.val)) a + S1x16.size a ≤ S7x880.size a := fun v72 v617 v619 k0_hw9 r => k0_hw9.2.2.1 r
theorem k0_off86_inb : ∀ (v72 : BitVec 32) (v617 : BitVec 32) (v619 : BitVec 32) (k0_hw9 : k0_chk9 v72 v617 v619), ∀ (r : Fin 10), ∀ a, (k0_off86 v72 v617 v619 (BitVec.ofNat 32 r.val)) a + S1x16.size a ≤ S7x880.size a := fun v72 v617 v619 k0_hw9 r => k0_hw9.2.2.2.1 r
theorem k0_off87_inb : ∀ (v72 : BitVec 32) (v617 : BitVec 32) (v619 : BitVec 32) (k0_hw9 : k0_chk9 v72 v617 v619), ∀ (r : Fin 10), ∀ a, (k0_off87 v72 v617 v619 (BitVec.ofNat 32 r.val)) a + S1x16.size a ≤ S7x880.size a := fun v72 v617 v619 k0_hw9 r => k0_hw9.2.2.2.2.1 r
theorem k0_off88_inb : ∀ (v72 : BitVec 32) (v617 : BitVec 32) (v619 : BitVec 32) (k0_hw9 : k0_chk9 v72 v617 v619), ∀ (r : Fin 10), ∀ a, (k0_off88 v72 v617 v619 (BitVec.ofNat 32 r.val)) a + S1x16.size a ≤ S7x880.size a := fun v72 v617 v619 k0_hw9 r => k0_hw9.2.2.2.2.2.1 r
theorem k0_off89_inb : ∀ (v72 : BitVec 32) (v617 : BitVec 32) (v619 : BitVec 32) (k0_hw9 : k0_chk9 v72 v617 v619), ∀ (r : Fin 10), ∀ a, (k0_off89 v72 v617 v619 (BitVec.ofNat 32 r.val)) a + S1x16.size a ≤ S7x880.size a := fun v72 v617 v619 k0_hw9 r => k0_hw9.2.2.2.2.2.2 r

def k0_off90 (v72 : BitVec 32) (v1031 : BitVec 32) (v1033 : BitVec 32) (c0_i32_285 : BitVec 32) : Fin 2 → Nat :=
  let c0_i32_305 : BitVec 32 := 0#32
  let v1073 : Index := Scalar.indexCast c0_i32_305
  let c0_i32_277 : BitVec 32 := 0#32
  let v1034 : BitVec 1 := Scalar.cmpi .eq v1033 c0_i32_277
  let c848_i32_279 : BitVec 32 := 848#32
  let v1035 : BitVec 32 := Scalar.subi v1031 v72
  let c16_i32_278 : BitVec 32 := 16#32
  let v1036 : BitVec 32 := Scalar.muli v1035 c16_i32_278
  let v1037 : BitVec 32 := Scalar.select v1034 c848_i32_279 v1036
  let c1_i32_283 : BitVec 32 := 1#32
  let v1041 : BitVec 32 := Scalar.subi v1033 c1_i32_283
  let c0_i32_284 : BitVec 32 := 0#32
  let v1042 : BitVec 32 := Scalar.maxsi v1041 c0_i32_284
  let v1043 : BitVec 32 := Scalar.minsi c0_i32_285 v1042
  let c16_i32_286 : BitVec 32 := 16#32
  let v1044 : BitVec 32 := Scalar.muli v1043 c16_i32_286
  let v1045 : BitVec 32 := Scalar.addi v1037 v1044
  let v1074 : Index := Scalar.indexCast v1045
  ![0, v1074.toNat]

def k0_off91 (v72 : BitVec 32) (v1031 : BitVec 32) (v1033 : BitVec 32) (c0_i32_285 : BitVec 32) : Fin 2 → Nat :=
  let c1_i32_315 : BitVec 32 := 1#32
  let v1126 : Index := Scalar.indexCast c1_i32_315
  let c0_i32_277 : BitVec 32 := 0#32
  let v1034 : BitVec 1 := Scalar.cmpi .eq v1033 c0_i32_277
  let c848_i32_279 : BitVec 32 := 848#32
  let v1035 : BitVec 32 := Scalar.subi v1031 v72
  let c16_i32_278 : BitVec 32 := 16#32
  let v1036 : BitVec 32 := Scalar.muli v1035 c16_i32_278
  let v1037 : BitVec 32 := Scalar.select v1034 c848_i32_279 v1036
  let c1_i32_283 : BitVec 32 := 1#32
  let v1041 : BitVec 32 := Scalar.subi v1033 c1_i32_283
  let c0_i32_284 : BitVec 32 := 0#32
  let v1042 : BitVec 32 := Scalar.maxsi v1041 c0_i32_284
  let v1043 : BitVec 32 := Scalar.minsi c0_i32_285 v1042
  let c16_i32_286 : BitVec 32 := 16#32
  let v1044 : BitVec 32 := Scalar.muli v1043 c16_i32_286
  let v1045 : BitVec 32 := Scalar.addi v1037 v1044
  let v1127 : Index := Scalar.indexCast v1045
  ![1, v1127.toNat]
def k0_off92 (v72 : BitVec 32) (v1031 : BitVec 32) (v1033 : BitVec 32) (c0_i32_285 : BitVec 32) : Fin 2 → Nat :=
  let c2_i32_325 : BitVec 32 := 2#32
  let v1179 : Index := Scalar.indexCast c2_i32_325
  let c0_i32_277 : BitVec 32 := 0#32
  let v1034 : BitVec 1 := Scalar.cmpi .eq v1033 c0_i32_277
  let c848_i32_279 : BitVec 32 := 848#32
  let v1035 : BitVec 32 := Scalar.subi v1031 v72
  let c16_i32_278 : BitVec 32 := 16#32
  let v1036 : BitVec 32 := Scalar.muli v1035 c16_i32_278
  let v1037 : BitVec 32 := Scalar.select v1034 c848_i32_279 v1036
  let c1_i32_283 : BitVec 32 := 1#32
  let v1041 : BitVec 32 := Scalar.subi v1033 c1_i32_283
  let c0_i32_284 : BitVec 32 := 0#32
  let v1042 : BitVec 32 := Scalar.maxsi v1041 c0_i32_284
  let v1043 : BitVec 32 := Scalar.minsi c0_i32_285 v1042
  let c16_i32_286 : BitVec 32 := 16#32
  let v1044 : BitVec 32 := Scalar.muli v1043 c16_i32_286
  let v1045 : BitVec 32 := Scalar.addi v1037 v1044
  let v1180 : Index := Scalar.indexCast v1045
  ![2, v1180.toNat]
def k0_off93 (v72 : BitVec 32) (v1031 : BitVec 32) (v1033 : BitVec 32) (c0_i32_285 : BitVec 32) : Fin 2 → Nat :=
  let c3_i32_335 : BitVec 32 := 3#32
  let v1232 : Index := Scalar.indexCast c3_i32_335
  let c0_i32_277 : BitVec 32 := 0#32
  let v1034 : BitVec 1 := Scalar.cmpi .eq v1033 c0_i32_277
  let c848_i32_279 : BitVec 32 := 848#32
  let v1035 : BitVec 32 := Scalar.subi v1031 v72
  let c16_i32_278 : BitVec 32 := 16#32
  let v1036 : BitVec 32 := Scalar.muli v1035 c16_i32_278
  let v1037 : BitVec 32 := Scalar.select v1034 c848_i32_279 v1036
  let c1_i32_283 : BitVec 32 := 1#32
  let v1041 : BitVec 32 := Scalar.subi v1033 c1_i32_283
  let c0_i32_284 : BitVec 32 := 0#32
  let v1042 : BitVec 32 := Scalar.maxsi v1041 c0_i32_284
  let v1043 : BitVec 32 := Scalar.minsi c0_i32_285 v1042
  let c16_i32_286 : BitVec 32 := 16#32
  let v1044 : BitVec 32 := Scalar.muli v1043 c16_i32_286
  let v1045 : BitVec 32 := Scalar.addi v1037 v1044
  let v1233 : Index := Scalar.indexCast v1045
  ![3, v1233.toNat]
def k0_off94 (v72 : BitVec 32) (v1031 : BitVec 32) (v1033 : BitVec 32) (c0_i32_285 : BitVec 32) : Fin 2 → Nat :=
  let c4_i32_345 : BitVec 32 := 4#32
  let v1285 : Index := Scalar.indexCast c4_i32_345
  let c0_i32_277 : BitVec 32 := 0#32
  let v1034 : BitVec 1 := Scalar.cmpi .eq v1033 c0_i32_277
  let c848_i32_279 : BitVec 32 := 848#32
  let v1035 : BitVec 32 := Scalar.subi v1031 v72
  let c16_i32_278 : BitVec 32 := 16#32
  let v1036 : BitVec 32 := Scalar.muli v1035 c16_i32_278
  let v1037 : BitVec 32 := Scalar.select v1034 c848_i32_279 v1036
  let c1_i32_283 : BitVec 32 := 1#32
  let v1041 : BitVec 32 := Scalar.subi v1033 c1_i32_283
  let c0_i32_284 : BitVec 32 := 0#32
  let v1042 : BitVec 32 := Scalar.maxsi v1041 c0_i32_284
  let v1043 : BitVec 32 := Scalar.minsi c0_i32_285 v1042
  let c16_i32_286 : BitVec 32 := 16#32
  let v1044 : BitVec 32 := Scalar.muli v1043 c16_i32_286
  let v1045 : BitVec 32 := Scalar.addi v1037 v1044
  let v1286 : Index := Scalar.indexCast v1045
  ![4, v1286.toNat]
def k0_off95 (v72 : BitVec 32) (v1031 : BitVec 32) (v1033 : BitVec 32) (c0_i32_285 : BitVec 32) : Fin 2 → Nat :=
  let c5_i32_355 : BitVec 32 := 5#32
  let v1338 : Index := Scalar.indexCast c5_i32_355
  let c0_i32_277 : BitVec 32 := 0#32
  let v1034 : BitVec 1 := Scalar.cmpi .eq v1033 c0_i32_277
  let c848_i32_279 : BitVec 32 := 848#32
  let v1035 : BitVec 32 := Scalar.subi v1031 v72
  let c16_i32_278 : BitVec 32 := 16#32
  let v1036 : BitVec 32 := Scalar.muli v1035 c16_i32_278
  let v1037 : BitVec 32 := Scalar.select v1034 c848_i32_279 v1036
  let c1_i32_283 : BitVec 32 := 1#32
  let v1041 : BitVec 32 := Scalar.subi v1033 c1_i32_283
  let c0_i32_284 : BitVec 32 := 0#32
  let v1042 : BitVec 32 := Scalar.maxsi v1041 c0_i32_284
  let v1043 : BitVec 32 := Scalar.minsi c0_i32_285 v1042
  let c16_i32_286 : BitVec 32 := 16#32
  let v1044 : BitVec 32 := Scalar.muli v1043 c16_i32_286
  let v1045 : BitVec 32 := Scalar.addi v1037 v1044
  let v1339 : Index := Scalar.indexCast v1045
  ![5, v1339.toNat]
def k0_off96 (v72 : BitVec 32) (v1031 : BitVec 32) (v1033 : BitVec 32) (c0_i32_285 : BitVec 32) : Fin 2 → Nat :=
  let c6_i32_365 : BitVec 32 := 6#32
  let v1391 : Index := Scalar.indexCast c6_i32_365
  let c0_i32_277 : BitVec 32 := 0#32
  let v1034 : BitVec 1 := Scalar.cmpi .eq v1033 c0_i32_277
  let c848_i32_279 : BitVec 32 := 848#32
  let v1035 : BitVec 32 := Scalar.subi v1031 v72
  let c16_i32_278 : BitVec 32 := 16#32
  let v1036 : BitVec 32 := Scalar.muli v1035 c16_i32_278
  let v1037 : BitVec 32 := Scalar.select v1034 c848_i32_279 v1036
  let c1_i32_283 : BitVec 32 := 1#32
  let v1041 : BitVec 32 := Scalar.subi v1033 c1_i32_283
  let c0_i32_284 : BitVec 32 := 0#32
  let v1042 : BitVec 32 := Scalar.maxsi v1041 c0_i32_284
  let v1043 : BitVec 32 := Scalar.minsi c0_i32_285 v1042
  let c16_i32_286 : BitVec 32 := 16#32
  let v1044 : BitVec 32 := Scalar.muli v1043 c16_i32_286
  let v1045 : BitVec 32 := Scalar.addi v1037 v1044
  let v1392 : Index := Scalar.indexCast v1045
  ![6, v1392.toNat]

def k0_chk10 (v72 : BitVec 32) (v1031 : BitVec 32) (v1033 : BitVec 32) : Prop :=
  (∀ (r : Fin 10), ∀ a, (k0_off90 v72 v1031 v1033 (BitVec.ofNat 32 r.val)) a + S1x16.size a ≤ S7x880.size a) ∧
  (∀ (r : Fin 10), ∀ a, (k0_off91 v72 v1031 v1033 (BitVec.ofNat 32 r.val)) a + S1x16.size a ≤ S7x880.size a) ∧
  (∀ (r : Fin 10), ∀ a, (k0_off92 v72 v1031 v1033 (BitVec.ofNat 32 r.val)) a + S1x16.size a ≤ S7x880.size a) ∧
  (∀ (r : Fin 10), ∀ a, (k0_off93 v72 v1031 v1033 (BitVec.ofNat 32 r.val)) a + S1x16.size a ≤ S7x880.size a) ∧
  (∀ (r : Fin 10), ∀ a, (k0_off94 v72 v1031 v1033 (BitVec.ofNat 32 r.val)) a + S1x16.size a ≤ S7x880.size a) ∧
  (∀ (r : Fin 10), ∀ a, (k0_off95 v72 v1031 v1033 (BitVec.ofNat 32 r.val)) a + S1x16.size a ≤ S7x880.size a) ∧
  (∀ (r : Fin 10), ∀ a, (k0_off96 v72 v1031 v1033 (BitVec.ofNat 32 r.val)) a + S1x16.size a ≤ S7x880.size a)
theorem k0_off90_inb : ∀ (v72 : BitVec 32) (v1031 : BitVec 32) (v1033 : BitVec 32) (k0_hw10 : k0_chk10 v72 v1031 v1033), ∀ (r : Fin 10), ∀ a, (k0_off90 v72 v1031 v1033 (BitVec.ofNat 32 r.val)) a + S1x16.size a ≤ S7x880.size a := fun v72 v1031 v1033 k0_hw10 r => k0_hw10.1 r
theorem k0_off91_inb : ∀ (v72 : BitVec 32) (v1031 : BitVec 32) (v1033 : BitVec 32) (k0_hw10 : k0_chk10 v72 v1031 v1033), ∀ (r : Fin 10), ∀ a, (k0_off91 v72 v1031 v1033 (BitVec.ofNat 32 r.val)) a + S1x16.size a ≤ S7x880.size a := fun v72 v1031 v1033 k0_hw10 r => k0_hw10.2.1 r
theorem k0_off92_inb : ∀ (v72 : BitVec 32) (v1031 : BitVec 32) (v1033 : BitVec 32) (k0_hw10 : k0_chk10 v72 v1031 v1033), ∀ (r : Fin 10), ∀ a, (k0_off92 v72 v1031 v1033 (BitVec.ofNat 32 r.val)) a + S1x16.size a ≤ S7x880.size a := fun v72 v1031 v1033 k0_hw10 r => k0_hw10.2.2.1 r
theorem k0_off93_inb : ∀ (v72 : BitVec 32) (v1031 : BitVec 32) (v1033 : BitVec 32) (k0_hw10 : k0_chk10 v72 v1031 v1033), ∀ (r : Fin 10), ∀ a, (k0_off93 v72 v1031 v1033 (BitVec.ofNat 32 r.val)) a + S1x16.size a ≤ S7x880.size a := fun v72 v1031 v1033 k0_hw10 r => k0_hw10.2.2.2.1 r
theorem k0_off94_inb : ∀ (v72 : BitVec 32) (v1031 : BitVec 32) (v1033 : BitVec 32) (k0_hw10 : k0_chk10 v72 v1031 v1033), ∀ (r : Fin 10), ∀ a, (k0_off94 v72 v1031 v1033 (BitVec.ofNat 32 r.val)) a + S1x16.size a ≤ S7x880.size a := fun v72 v1031 v1033 k0_hw10 r => k0_hw10.2.2.2.2.1 r
theorem k0_off95_inb : ∀ (v72 : BitVec 32) (v1031 : BitVec 32) (v1033 : BitVec 32) (k0_hw10 : k0_chk10 v72 v1031 v1033), ∀ (r : Fin 10), ∀ a, (k0_off95 v72 v1031 v1033 (BitVec.ofNat 32 r.val)) a + S1x16.size a ≤ S7x880.size a := fun v72 v1031 v1033 k0_hw10 r => k0_hw10.2.2.2.2.2.1 r
theorem k0_off96_inb : ∀ (v72 : BitVec 32) (v1031 : BitVec 32) (v1033 : BitVec 32) (k0_hw10 : k0_chk10 v72 v1031 v1033), ∀ (r : Fin 10), ∀ a, (k0_off96 v72 v1031 v1033 (BitVec.ofNat 32 r.val)) a + S1x16.size a ≤ S7x880.size a := fun v72 v1031 v1033 k0_hw10 r => k0_hw10.2.2.2.2.2.2 r

def k0_off97 (v72 : BitVec 32) (v1445 : BitVec 32) (v1447 : BitVec 32) (c0_i32_383 : BitVec 32) : Fin 2 → Nat :=
  let c0_i32_403 : BitVec 32 := 0#32
  let v1487 : Index := Scalar.indexCast c0_i32_403
  let c0_i32_375 : BitVec 32 := 0#32
  let v1448 : BitVec 1 := Scalar.cmpi .eq v1447 c0_i32_375
  let c848_i32_377 : BitVec 32 := 848#32
  let v1449 : BitVec 32 := Scalar.subi v1445 v72
  let c16_i32_376 : BitVec 32 := 16#32
  let v1450 : BitVec 32 := Scalar.muli v1449 c16_i32_376
  let v1451 : BitVec 32 := Scalar.select v1448 c848_i32_377 v1450
  let c1_i32_381 : BitVec 32 := 1#32
  let v1455 : BitVec 32 := Scalar.subi v1447 c1_i32_381
  let c0_i32_382 : BitVec 32 := 0#32
  let v1456 : BitVec 32 := Scalar.maxsi v1455 c0_i32_382
  let v1457 : BitVec 32 := Scalar.minsi c0_i32_383 v1456
  let c16_i32_384 : BitVec 32 := 16#32
  let v1458 : BitVec 32 := Scalar.muli v1457 c16_i32_384
  let v1459 : BitVec 32 := Scalar.addi v1451 v1458
  let v1488 : Index := Scalar.indexCast v1459
  ![0, v1488.toNat]

def k0_off98 (v72 : BitVec 32) (v1445 : BitVec 32) (v1447 : BitVec 32) (c0_i32_383 : BitVec 32) : Fin 2 → Nat :=
  let c1_i32_413 : BitVec 32 := 1#32
  let v1540 : Index := Scalar.indexCast c1_i32_413
  let c0_i32_375 : BitVec 32 := 0#32
  let v1448 : BitVec 1 := Scalar.cmpi .eq v1447 c0_i32_375
  let c848_i32_377 : BitVec 32 := 848#32
  let v1449 : BitVec 32 := Scalar.subi v1445 v72
  let c16_i32_376 : BitVec 32 := 16#32
  let v1450 : BitVec 32 := Scalar.muli v1449 c16_i32_376
  let v1451 : BitVec 32 := Scalar.select v1448 c848_i32_377 v1450
  let c1_i32_381 : BitVec 32 := 1#32
  let v1455 : BitVec 32 := Scalar.subi v1447 c1_i32_381
  let c0_i32_382 : BitVec 32 := 0#32
  let v1456 : BitVec 32 := Scalar.maxsi v1455 c0_i32_382
  let v1457 : BitVec 32 := Scalar.minsi c0_i32_383 v1456
  let c16_i32_384 : BitVec 32 := 16#32
  let v1458 : BitVec 32 := Scalar.muli v1457 c16_i32_384
  let v1459 : BitVec 32 := Scalar.addi v1451 v1458
  let v1541 : Index := Scalar.indexCast v1459
  ![1, v1541.toNat]
def k0_off99 (v72 : BitVec 32) (v1445 : BitVec 32) (v1447 : BitVec 32) (c0_i32_383 : BitVec 32) : Fin 2 → Nat :=
  let c2_i32_423 : BitVec 32 := 2#32
  let v1593 : Index := Scalar.indexCast c2_i32_423
  let c0_i32_375 : BitVec 32 := 0#32
  let v1448 : BitVec 1 := Scalar.cmpi .eq v1447 c0_i32_375
  let c848_i32_377 : BitVec 32 := 848#32
  let v1449 : BitVec 32 := Scalar.subi v1445 v72
  let c16_i32_376 : BitVec 32 := 16#32
  let v1450 : BitVec 32 := Scalar.muli v1449 c16_i32_376
  let v1451 : BitVec 32 := Scalar.select v1448 c848_i32_377 v1450
  let c1_i32_381 : BitVec 32 := 1#32
  let v1455 : BitVec 32 := Scalar.subi v1447 c1_i32_381
  let c0_i32_382 : BitVec 32 := 0#32
  let v1456 : BitVec 32 := Scalar.maxsi v1455 c0_i32_382
  let v1457 : BitVec 32 := Scalar.minsi c0_i32_383 v1456
  let c16_i32_384 : BitVec 32 := 16#32
  let v1458 : BitVec 32 := Scalar.muli v1457 c16_i32_384
  let v1459 : BitVec 32 := Scalar.addi v1451 v1458
  let v1594 : Index := Scalar.indexCast v1459
  ![2, v1594.toNat]
def k0_off100 (v72 : BitVec 32) (v1445 : BitVec 32) (v1447 : BitVec 32) (c0_i32_383 : BitVec 32) : Fin 2 → Nat :=
  let c3_i32_433 : BitVec 32 := 3#32
  let v1646 : Index := Scalar.indexCast c3_i32_433
  let c0_i32_375 : BitVec 32 := 0#32
  let v1448 : BitVec 1 := Scalar.cmpi .eq v1447 c0_i32_375
  let c848_i32_377 : BitVec 32 := 848#32
  let v1449 : BitVec 32 := Scalar.subi v1445 v72
  let c16_i32_376 : BitVec 32 := 16#32
  let v1450 : BitVec 32 := Scalar.muli v1449 c16_i32_376
  let v1451 : BitVec 32 := Scalar.select v1448 c848_i32_377 v1450
  let c1_i32_381 : BitVec 32 := 1#32
  let v1455 : BitVec 32 := Scalar.subi v1447 c1_i32_381
  let c0_i32_382 : BitVec 32 := 0#32
  let v1456 : BitVec 32 := Scalar.maxsi v1455 c0_i32_382
  let v1457 : BitVec 32 := Scalar.minsi c0_i32_383 v1456
  let c16_i32_384 : BitVec 32 := 16#32
  let v1458 : BitVec 32 := Scalar.muli v1457 c16_i32_384
  let v1459 : BitVec 32 := Scalar.addi v1451 v1458
  let v1647 : Index := Scalar.indexCast v1459
  ![3, v1647.toNat]
def k0_off101 (v72 : BitVec 32) (v1445 : BitVec 32) (v1447 : BitVec 32) (c0_i32_383 : BitVec 32) : Fin 2 → Nat :=
  let c4_i32_443 : BitVec 32 := 4#32
  let v1699 : Index := Scalar.indexCast c4_i32_443
  let c0_i32_375 : BitVec 32 := 0#32
  let v1448 : BitVec 1 := Scalar.cmpi .eq v1447 c0_i32_375
  let c848_i32_377 : BitVec 32 := 848#32
  let v1449 : BitVec 32 := Scalar.subi v1445 v72
  let c16_i32_376 : BitVec 32 := 16#32
  let v1450 : BitVec 32 := Scalar.muli v1449 c16_i32_376
  let v1451 : BitVec 32 := Scalar.select v1448 c848_i32_377 v1450
  let c1_i32_381 : BitVec 32 := 1#32
  let v1455 : BitVec 32 := Scalar.subi v1447 c1_i32_381
  let c0_i32_382 : BitVec 32 := 0#32
  let v1456 : BitVec 32 := Scalar.maxsi v1455 c0_i32_382
  let v1457 : BitVec 32 := Scalar.minsi c0_i32_383 v1456
  let c16_i32_384 : BitVec 32 := 16#32
  let v1458 : BitVec 32 := Scalar.muli v1457 c16_i32_384
  let v1459 : BitVec 32 := Scalar.addi v1451 v1458
  let v1700 : Index := Scalar.indexCast v1459
  ![4, v1700.toNat]
def k0_off102 (v72 : BitVec 32) (v1445 : BitVec 32) (v1447 : BitVec 32) (c0_i32_383 : BitVec 32) : Fin 2 → Nat :=
  let c5_i32_453 : BitVec 32 := 5#32
  let v1752 : Index := Scalar.indexCast c5_i32_453
  let c0_i32_375 : BitVec 32 := 0#32
  let v1448 : BitVec 1 := Scalar.cmpi .eq v1447 c0_i32_375
  let c848_i32_377 : BitVec 32 := 848#32
  let v1449 : BitVec 32 := Scalar.subi v1445 v72
  let c16_i32_376 : BitVec 32 := 16#32
  let v1450 : BitVec 32 := Scalar.muli v1449 c16_i32_376
  let v1451 : BitVec 32 := Scalar.select v1448 c848_i32_377 v1450
  let c1_i32_381 : BitVec 32 := 1#32
  let v1455 : BitVec 32 := Scalar.subi v1447 c1_i32_381
  let c0_i32_382 : BitVec 32 := 0#32
  let v1456 : BitVec 32 := Scalar.maxsi v1455 c0_i32_382
  let v1457 : BitVec 32 := Scalar.minsi c0_i32_383 v1456
  let c16_i32_384 : BitVec 32 := 16#32
  let v1458 : BitVec 32 := Scalar.muli v1457 c16_i32_384
  let v1459 : BitVec 32 := Scalar.addi v1451 v1458
  let v1753 : Index := Scalar.indexCast v1459
  ![5, v1753.toNat]
def k0_off103 (v72 : BitVec 32) (v1445 : BitVec 32) (v1447 : BitVec 32) (c0_i32_383 : BitVec 32) : Fin 2 → Nat :=
  let c6_i32_463 : BitVec 32 := 6#32
  let v1805 : Index := Scalar.indexCast c6_i32_463
  let c0_i32_375 : BitVec 32 := 0#32
  let v1448 : BitVec 1 := Scalar.cmpi .eq v1447 c0_i32_375
  let c848_i32_377 : BitVec 32 := 848#32
  let v1449 : BitVec 32 := Scalar.subi v1445 v72
  let c16_i32_376 : BitVec 32 := 16#32
  let v1450 : BitVec 32 := Scalar.muli v1449 c16_i32_376
  let v1451 : BitVec 32 := Scalar.select v1448 c848_i32_377 v1450
  let c1_i32_381 : BitVec 32 := 1#32
  let v1455 : BitVec 32 := Scalar.subi v1447 c1_i32_381
  let c0_i32_382 : BitVec 32 := 0#32
  let v1456 : BitVec 32 := Scalar.maxsi v1455 c0_i32_382
  let v1457 : BitVec 32 := Scalar.minsi c0_i32_383 v1456
  let c16_i32_384 : BitVec 32 := 16#32
  let v1458 : BitVec 32 := Scalar.muli v1457 c16_i32_384
  let v1459 : BitVec 32 := Scalar.addi v1451 v1458
  let v1806 : Index := Scalar.indexCast v1459
  ![6, v1806.toNat]

def k0_chk11 (v72 : BitVec 32) (v1445 : BitVec 32) (v1447 : BitVec 32) : Prop :=
  (∀ (r : Fin 10), ∀ a, (k0_off97 v72 v1445 v1447 (BitVec.ofNat 32 r.val)) a + S1x16.size a ≤ S7x880.size a) ∧
  (∀ (r : Fin 10), ∀ a, (k0_off98 v72 v1445 v1447 (BitVec.ofNat 32 r.val)) a + S1x16.size a ≤ S7x880.size a) ∧
  (∀ (r : Fin 10), ∀ a, (k0_off99 v72 v1445 v1447 (BitVec.ofNat 32 r.val)) a + S1x16.size a ≤ S7x880.size a) ∧
  (∀ (r : Fin 10), ∀ a, (k0_off100 v72 v1445 v1447 (BitVec.ofNat 32 r.val)) a + S1x16.size a ≤ S7x880.size a) ∧
  (∀ (r : Fin 10), ∀ a, (k0_off101 v72 v1445 v1447 (BitVec.ofNat 32 r.val)) a + S1x16.size a ≤ S7x880.size a) ∧
  (∀ (r : Fin 10), ∀ a, (k0_off102 v72 v1445 v1447 (BitVec.ofNat 32 r.val)) a + S1x16.size a ≤ S7x880.size a) ∧
  (∀ (r : Fin 10), ∀ a, (k0_off103 v72 v1445 v1447 (BitVec.ofNat 32 r.val)) a + S1x16.size a ≤ S7x880.size a)
theorem k0_off97_inb : ∀ (v72 : BitVec 32) (v1445 : BitVec 32) (v1447 : BitVec 32) (k0_hw11 : k0_chk11 v72 v1445 v1447), ∀ (r : Fin 10), ∀ a, (k0_off97 v72 v1445 v1447 (BitVec.ofNat 32 r.val)) a + S1x16.size a ≤ S7x880.size a := fun v72 v1445 v1447 k0_hw11 r => k0_hw11.1 r
theorem k0_off98_inb : ∀ (v72 : BitVec 32) (v1445 : BitVec 32) (v1447 : BitVec 32) (k0_hw11 : k0_chk11 v72 v1445 v1447), ∀ (r : Fin 10), ∀ a, (k0_off98 v72 v1445 v1447 (BitVec.ofNat 32 r.val)) a + S1x16.size a ≤ S7x880.size a := fun v72 v1445 v1447 k0_hw11 r => k0_hw11.2.1 r
theorem k0_off99_inb : ∀ (v72 : BitVec 32) (v1445 : BitVec 32) (v1447 : BitVec 32) (k0_hw11 : k0_chk11 v72 v1445 v1447), ∀ (r : Fin 10), ∀ a, (k0_off99 v72 v1445 v1447 (BitVec.ofNat 32 r.val)) a + S1x16.size a ≤ S7x880.size a := fun v72 v1445 v1447 k0_hw11 r => k0_hw11.2.2.1 r
theorem k0_off100_inb : ∀ (v72 : BitVec 32) (v1445 : BitVec 32) (v1447 : BitVec 32) (k0_hw11 : k0_chk11 v72 v1445 v1447), ∀ (r : Fin 10), ∀ a, (k0_off100 v72 v1445 v1447 (BitVec.ofNat 32 r.val)) a + S1x16.size a ≤ S7x880.size a := fun v72 v1445 v1447 k0_hw11 r => k0_hw11.2.2.2.1 r
theorem k0_off101_inb : ∀ (v72 : BitVec 32) (v1445 : BitVec 32) (v1447 : BitVec 32) (k0_hw11 : k0_chk11 v72 v1445 v1447), ∀ (r : Fin 10), ∀ a, (k0_off101 v72 v1445 v1447 (BitVec.ofNat 32 r.val)) a + S1x16.size a ≤ S7x880.size a := fun v72 v1445 v1447 k0_hw11 r => k0_hw11.2.2.2.2.1 r
theorem k0_off102_inb : ∀ (v72 : BitVec 32) (v1445 : BitVec 32) (v1447 : BitVec 32) (k0_hw11 : k0_chk11 v72 v1445 v1447), ∀ (r : Fin 10), ∀ a, (k0_off102 v72 v1445 v1447 (BitVec.ofNat 32 r.val)) a + S1x16.size a ≤ S7x880.size a := fun v72 v1445 v1447 k0_hw11 r => k0_hw11.2.2.2.2.2.1 r
theorem k0_off103_inb : ∀ (v72 : BitVec 32) (v1445 : BitVec 32) (v1447 : BitVec 32) (k0_hw11 : k0_chk11 v72 v1445 v1447), ∀ (r : Fin 10), ∀ a, (k0_off103 v72 v1445 v1447 (BitVec.ofNat 32 r.val)) a + S1x16.size a ≤ S7x880.size a := fun v72 v1445 v1447 k0_hw11 r => k0_hw11.2.2.2.2.2.2 r

def k0_off104 (v72 : BitVec 32) (v1859 : BitVec 32) (v1861 : BitVec 32) (c0_i32_481 : BitVec 32) : Fin 2 → Nat :=
  let c0_i32_501 : BitVec 32 := 0#32
  let v1901 : Index := Scalar.indexCast c0_i32_501
  let c0_i32_473 : BitVec 32 := 0#32
  let v1862 : BitVec 1 := Scalar.cmpi .eq v1861 c0_i32_473
  let c848_i32_475 : BitVec 32 := 848#32
  let v1863 : BitVec 32 := Scalar.subi v1859 v72
  let c16_i32_474 : BitVec 32 := 16#32
  let v1864 : BitVec 32 := Scalar.muli v1863 c16_i32_474
  let v1865 : BitVec 32 := Scalar.select v1862 c848_i32_475 v1864
  let c1_i32_479 : BitVec 32 := 1#32
  let v1869 : BitVec 32 := Scalar.subi v1861 c1_i32_479
  let c0_i32_480 : BitVec 32 := 0#32
  let v1870 : BitVec 32 := Scalar.maxsi v1869 c0_i32_480
  let v1871 : BitVec 32 := Scalar.minsi c0_i32_481 v1870
  let c16_i32_482 : BitVec 32 := 16#32
  let v1872 : BitVec 32 := Scalar.muli v1871 c16_i32_482
  let v1873 : BitVec 32 := Scalar.addi v1865 v1872
  let v1902 : Index := Scalar.indexCast v1873
  ![0, v1902.toNat]

def k0_off105 (v72 : BitVec 32) (v1859 : BitVec 32) (v1861 : BitVec 32) (c0_i32_481 : BitVec 32) : Fin 2 → Nat :=
  let c1_i32_511 : BitVec 32 := 1#32
  let v1954 : Index := Scalar.indexCast c1_i32_511
  let c0_i32_473 : BitVec 32 := 0#32
  let v1862 : BitVec 1 := Scalar.cmpi .eq v1861 c0_i32_473
  let c848_i32_475 : BitVec 32 := 848#32
  let v1863 : BitVec 32 := Scalar.subi v1859 v72
  let c16_i32_474 : BitVec 32 := 16#32
  let v1864 : BitVec 32 := Scalar.muli v1863 c16_i32_474
  let v1865 : BitVec 32 := Scalar.select v1862 c848_i32_475 v1864
  let c1_i32_479 : BitVec 32 := 1#32
  let v1869 : BitVec 32 := Scalar.subi v1861 c1_i32_479
  let c0_i32_480 : BitVec 32 := 0#32
  let v1870 : BitVec 32 := Scalar.maxsi v1869 c0_i32_480
  let v1871 : BitVec 32 := Scalar.minsi c0_i32_481 v1870
  let c16_i32_482 : BitVec 32 := 16#32
  let v1872 : BitVec 32 := Scalar.muli v1871 c16_i32_482
  let v1873 : BitVec 32 := Scalar.addi v1865 v1872
  let v1955 : Index := Scalar.indexCast v1873
  ![1, v1955.toNat]
def k0_off106 (v72 : BitVec 32) (v1859 : BitVec 32) (v1861 : BitVec 32) (c0_i32_481 : BitVec 32) : Fin 2 → Nat :=
  let c2_i32_521 : BitVec 32 := 2#32
  let v2007 : Index := Scalar.indexCast c2_i32_521
  let c0_i32_473 : BitVec 32 := 0#32
  let v1862 : BitVec 1 := Scalar.cmpi .eq v1861 c0_i32_473
  let c848_i32_475 : BitVec 32 := 848#32
  let v1863 : BitVec 32 := Scalar.subi v1859 v72
  let c16_i32_474 : BitVec 32 := 16#32
  let v1864 : BitVec 32 := Scalar.muli v1863 c16_i32_474
  let v1865 : BitVec 32 := Scalar.select v1862 c848_i32_475 v1864
  let c1_i32_479 : BitVec 32 := 1#32
  let v1869 : BitVec 32 := Scalar.subi v1861 c1_i32_479
  let c0_i32_480 : BitVec 32 := 0#32
  let v1870 : BitVec 32 := Scalar.maxsi v1869 c0_i32_480
  let v1871 : BitVec 32 := Scalar.minsi c0_i32_481 v1870
  let c16_i32_482 : BitVec 32 := 16#32
  let v1872 : BitVec 32 := Scalar.muli v1871 c16_i32_482
  let v1873 : BitVec 32 := Scalar.addi v1865 v1872
  let v2008 : Index := Scalar.indexCast v1873
  ![2, v2008.toNat]
def k0_off107 (v72 : BitVec 32) (v1859 : BitVec 32) (v1861 : BitVec 32) (c0_i32_481 : BitVec 32) : Fin 2 → Nat :=
  let c3_i32_531 : BitVec 32 := 3#32
  let v2060 : Index := Scalar.indexCast c3_i32_531
  let c0_i32_473 : BitVec 32 := 0#32
  let v1862 : BitVec 1 := Scalar.cmpi .eq v1861 c0_i32_473
  let c848_i32_475 : BitVec 32 := 848#32
  let v1863 : BitVec 32 := Scalar.subi v1859 v72
  let c16_i32_474 : BitVec 32 := 16#32
  let v1864 : BitVec 32 := Scalar.muli v1863 c16_i32_474
  let v1865 : BitVec 32 := Scalar.select v1862 c848_i32_475 v1864
  let c1_i32_479 : BitVec 32 := 1#32
  let v1869 : BitVec 32 := Scalar.subi v1861 c1_i32_479
  let c0_i32_480 : BitVec 32 := 0#32
  let v1870 : BitVec 32 := Scalar.maxsi v1869 c0_i32_480
  let v1871 : BitVec 32 := Scalar.minsi c0_i32_481 v1870
  let c16_i32_482 : BitVec 32 := 16#32
  let v1872 : BitVec 32 := Scalar.muli v1871 c16_i32_482
  let v1873 : BitVec 32 := Scalar.addi v1865 v1872
  let v2061 : Index := Scalar.indexCast v1873
  ![3, v2061.toNat]
def k0_off108 (v72 : BitVec 32) (v1859 : BitVec 32) (v1861 : BitVec 32) (c0_i32_481 : BitVec 32) : Fin 2 → Nat :=
  let c4_i32_541 : BitVec 32 := 4#32
  let v2113 : Index := Scalar.indexCast c4_i32_541
  let c0_i32_473 : BitVec 32 := 0#32
  let v1862 : BitVec 1 := Scalar.cmpi .eq v1861 c0_i32_473
  let c848_i32_475 : BitVec 32 := 848#32
  let v1863 : BitVec 32 := Scalar.subi v1859 v72
  let c16_i32_474 : BitVec 32 := 16#32
  let v1864 : BitVec 32 := Scalar.muli v1863 c16_i32_474
  let v1865 : BitVec 32 := Scalar.select v1862 c848_i32_475 v1864
  let c1_i32_479 : BitVec 32 := 1#32
  let v1869 : BitVec 32 := Scalar.subi v1861 c1_i32_479
  let c0_i32_480 : BitVec 32 := 0#32
  let v1870 : BitVec 32 := Scalar.maxsi v1869 c0_i32_480
  let v1871 : BitVec 32 := Scalar.minsi c0_i32_481 v1870
  let c16_i32_482 : BitVec 32 := 16#32
  let v1872 : BitVec 32 := Scalar.muli v1871 c16_i32_482
  let v1873 : BitVec 32 := Scalar.addi v1865 v1872
  let v2114 : Index := Scalar.indexCast v1873
  ![4, v2114.toNat]
def k0_off109 (v72 : BitVec 32) (v1859 : BitVec 32) (v1861 : BitVec 32) (c0_i32_481 : BitVec 32) : Fin 2 → Nat :=
  let c5_i32_551 : BitVec 32 := 5#32
  let v2166 : Index := Scalar.indexCast c5_i32_551
  let c0_i32_473 : BitVec 32 := 0#32
  let v1862 : BitVec 1 := Scalar.cmpi .eq v1861 c0_i32_473
  let c848_i32_475 : BitVec 32 := 848#32
  let v1863 : BitVec 32 := Scalar.subi v1859 v72
  let c16_i32_474 : BitVec 32 := 16#32
  let v1864 : BitVec 32 := Scalar.muli v1863 c16_i32_474
  let v1865 : BitVec 32 := Scalar.select v1862 c848_i32_475 v1864
  let c1_i32_479 : BitVec 32 := 1#32
  let v1869 : BitVec 32 := Scalar.subi v1861 c1_i32_479
  let c0_i32_480 : BitVec 32 := 0#32
  let v1870 : BitVec 32 := Scalar.maxsi v1869 c0_i32_480
  let v1871 : BitVec 32 := Scalar.minsi c0_i32_481 v1870
  let c16_i32_482 : BitVec 32 := 16#32
  let v1872 : BitVec 32 := Scalar.muli v1871 c16_i32_482
  let v1873 : BitVec 32 := Scalar.addi v1865 v1872
  let v2167 : Index := Scalar.indexCast v1873
  ![5, v2167.toNat]
def k0_off110 (v72 : BitVec 32) (v1859 : BitVec 32) (v1861 : BitVec 32) (c0_i32_481 : BitVec 32) : Fin 2 → Nat :=
  let c6_i32_561 : BitVec 32 := 6#32
  let v2219 : Index := Scalar.indexCast c6_i32_561
  let c0_i32_473 : BitVec 32 := 0#32
  let v1862 : BitVec 1 := Scalar.cmpi .eq v1861 c0_i32_473
  let c848_i32_475 : BitVec 32 := 848#32
  let v1863 : BitVec 32 := Scalar.subi v1859 v72
  let c16_i32_474 : BitVec 32 := 16#32
  let v1864 : BitVec 32 := Scalar.muli v1863 c16_i32_474
  let v1865 : BitVec 32 := Scalar.select v1862 c848_i32_475 v1864
  let c1_i32_479 : BitVec 32 := 1#32
  let v1869 : BitVec 32 := Scalar.subi v1861 c1_i32_479
  let c0_i32_480 : BitVec 32 := 0#32
  let v1870 : BitVec 32 := Scalar.maxsi v1869 c0_i32_480
  let v1871 : BitVec 32 := Scalar.minsi c0_i32_481 v1870
  let c16_i32_482 : BitVec 32 := 16#32
  let v1872 : BitVec 32 := Scalar.muli v1871 c16_i32_482
  let v1873 : BitVec 32 := Scalar.addi v1865 v1872
  let v2220 : Index := Scalar.indexCast v1873
  ![6, v2220.toNat]

def k0_chk12 (v72 : BitVec 32) (v1859 : BitVec 32) (v1861 : BitVec 32) : Prop :=
  (∀ (r : Fin 10), ∀ a, (k0_off104 v72 v1859 v1861 (BitVec.ofNat 32 r.val)) a + S1x16.size a ≤ S7x880.size a) ∧
  (∀ (r : Fin 10), ∀ a, (k0_off105 v72 v1859 v1861 (BitVec.ofNat 32 r.val)) a + S1x16.size a ≤ S7x880.size a) ∧
  (∀ (r : Fin 10), ∀ a, (k0_off106 v72 v1859 v1861 (BitVec.ofNat 32 r.val)) a + S1x16.size a ≤ S7x880.size a) ∧
  (∀ (r : Fin 10), ∀ a, (k0_off107 v72 v1859 v1861 (BitVec.ofNat 32 r.val)) a + S1x16.size a ≤ S7x880.size a) ∧
  (∀ (r : Fin 10), ∀ a, (k0_off108 v72 v1859 v1861 (BitVec.ofNat 32 r.val)) a + S1x16.size a ≤ S7x880.size a) ∧
  (∀ (r : Fin 10), ∀ a, (k0_off109 v72 v1859 v1861 (BitVec.ofNat 32 r.val)) a + S1x16.size a ≤ S7x880.size a) ∧
  (∀ (r : Fin 10), ∀ a, (k0_off110 v72 v1859 v1861 (BitVec.ofNat 32 r.val)) a + S1x16.size a ≤ S7x880.size a)
theorem k0_off104_inb : ∀ (v72 : BitVec 32) (v1859 : BitVec 32) (v1861 : BitVec 32) (k0_hw12 : k0_chk12 v72 v1859 v1861), ∀ (r : Fin 10), ∀ a, (k0_off104 v72 v1859 v1861 (BitVec.ofNat 32 r.val)) a + S1x16.size a ≤ S7x880.size a := fun v72 v1859 v1861 k0_hw12 r => k0_hw12.1 r
theorem k0_off105_inb : ∀ (v72 : BitVec 32) (v1859 : BitVec 32) (v1861 : BitVec 32) (k0_hw12 : k0_chk12 v72 v1859 v1861), ∀ (r : Fin 10), ∀ a, (k0_off105 v72 v1859 v1861 (BitVec.ofNat 32 r.val)) a + S1x16.size a ≤ S7x880.size a := fun v72 v1859 v1861 k0_hw12 r => k0_hw12.2.1 r
theorem k0_off106_inb : ∀ (v72 : BitVec 32) (v1859 : BitVec 32) (v1861 : BitVec 32) (k0_hw12 : k0_chk12 v72 v1859 v1861), ∀ (r : Fin 10), ∀ a, (k0_off106 v72 v1859 v1861 (BitVec.ofNat 32 r.val)) a + S1x16.size a ≤ S7x880.size a := fun v72 v1859 v1861 k0_hw12 r => k0_hw12.2.2.1 r
theorem k0_off107_inb : ∀ (v72 : BitVec 32) (v1859 : BitVec 32) (v1861 : BitVec 32) (k0_hw12 : k0_chk12 v72 v1859 v1861), ∀ (r : Fin 10), ∀ a, (k0_off107 v72 v1859 v1861 (BitVec.ofNat 32 r.val)) a + S1x16.size a ≤ S7x880.size a := fun v72 v1859 v1861 k0_hw12 r => k0_hw12.2.2.2.1 r
theorem k0_off108_inb : ∀ (v72 : BitVec 32) (v1859 : BitVec 32) (v1861 : BitVec 32) (k0_hw12 : k0_chk12 v72 v1859 v1861), ∀ (r : Fin 10), ∀ a, (k0_off108 v72 v1859 v1861 (BitVec.ofNat 32 r.val)) a + S1x16.size a ≤ S7x880.size a := fun v72 v1859 v1861 k0_hw12 r => k0_hw12.2.2.2.2.1 r
theorem k0_off109_inb : ∀ (v72 : BitVec 32) (v1859 : BitVec 32) (v1861 : BitVec 32) (k0_hw12 : k0_chk12 v72 v1859 v1861), ∀ (r : Fin 10), ∀ a, (k0_off109 v72 v1859 v1861 (BitVec.ofNat 32 r.val)) a + S1x16.size a ≤ S7x880.size a := fun v72 v1859 v1861 k0_hw12 r => k0_hw12.2.2.2.2.2.1 r
theorem k0_off110_inb : ∀ (v72 : BitVec 32) (v1859 : BitVec 32) (v1861 : BitVec 32) (k0_hw12 : k0_chk12 v72 v1859 v1861), ∀ (r : Fin 10), ∀ a, (k0_off110 v72 v1859 v1861 (BitVec.ofNat 32 r.val)) a + S1x16.size a ≤ S7x880.size a := fun v72 v1859 v1861 k0_hw12 r => k0_hw12.2.2.2.2.2.2 r

def k0_off111 (v72 : BitVec 32) (v2273 : BitVec 32) (v2275 : BitVec 32) (c0_i32_579 : BitVec 32) : Fin 2 → Nat :=
  let c0_i32_599 : BitVec 32 := 0#32
  let v2315 : Index := Scalar.indexCast c0_i32_599
  let c0_i32_571 : BitVec 32 := 0#32
  let v2276 : BitVec 1 := Scalar.cmpi .eq v2275 c0_i32_571
  let c848_i32_573 : BitVec 32 := 848#32
  let v2277 : BitVec 32 := Scalar.subi v2273 v72
  let c16_i32_572 : BitVec 32 := 16#32
  let v2278 : BitVec 32 := Scalar.muli v2277 c16_i32_572
  let v2279 : BitVec 32 := Scalar.select v2276 c848_i32_573 v2278
  let c1_i32_577 : BitVec 32 := 1#32
  let v2283 : BitVec 32 := Scalar.subi v2275 c1_i32_577
  let c0_i32_578 : BitVec 32 := 0#32
  let v2284 : BitVec 32 := Scalar.maxsi v2283 c0_i32_578
  let v2285 : BitVec 32 := Scalar.minsi c0_i32_579 v2284
  let c16_i32_580 : BitVec 32 := 16#32
  let v2286 : BitVec 32 := Scalar.muli v2285 c16_i32_580
  let v2287 : BitVec 32 := Scalar.addi v2279 v2286
  let v2316 : Index := Scalar.indexCast v2287
  ![0, v2316.toNat]

def k0_off112 (v72 : BitVec 32) (v2273 : BitVec 32) (v2275 : BitVec 32) (c0_i32_579 : BitVec 32) : Fin 2 → Nat :=
  let c1_i32_609 : BitVec 32 := 1#32
  let v2368 : Index := Scalar.indexCast c1_i32_609
  let c0_i32_571 : BitVec 32 := 0#32
  let v2276 : BitVec 1 := Scalar.cmpi .eq v2275 c0_i32_571
  let c848_i32_573 : BitVec 32 := 848#32
  let v2277 : BitVec 32 := Scalar.subi v2273 v72
  let c16_i32_572 : BitVec 32 := 16#32
  let v2278 : BitVec 32 := Scalar.muli v2277 c16_i32_572
  let v2279 : BitVec 32 := Scalar.select v2276 c848_i32_573 v2278
  let c1_i32_577 : BitVec 32 := 1#32
  let v2283 : BitVec 32 := Scalar.subi v2275 c1_i32_577
  let c0_i32_578 : BitVec 32 := 0#32
  let v2284 : BitVec 32 := Scalar.maxsi v2283 c0_i32_578
  let v2285 : BitVec 32 := Scalar.minsi c0_i32_579 v2284
  let c16_i32_580 : BitVec 32 := 16#32
  let v2286 : BitVec 32 := Scalar.muli v2285 c16_i32_580
  let v2287 : BitVec 32 := Scalar.addi v2279 v2286
  let v2369 : Index := Scalar.indexCast v2287
  ![1, v2369.toNat]
def k0_off113 (v72 : BitVec 32) (v2273 : BitVec 32) (v2275 : BitVec 32) (c0_i32_579 : BitVec 32) : Fin 2 → Nat :=
  let c2_i32_619 : BitVec 32 := 2#32
  let v2421 : Index := Scalar.indexCast c2_i32_619
  let c0_i32_571 : BitVec 32 := 0#32
  let v2276 : BitVec 1 := Scalar.cmpi .eq v2275 c0_i32_571
  let c848_i32_573 : BitVec 32 := 848#32
  let v2277 : BitVec 32 := Scalar.subi v2273 v72
  let c16_i32_572 : BitVec 32 := 16#32
  let v2278 : BitVec 32 := Scalar.muli v2277 c16_i32_572
  let v2279 : BitVec 32 := Scalar.select v2276 c848_i32_573 v2278
  let c1_i32_577 : BitVec 32 := 1#32
  let v2283 : BitVec 32 := Scalar.subi v2275 c1_i32_577
  let c0_i32_578 : BitVec 32 := 0#32
  let v2284 : BitVec 32 := Scalar.maxsi v2283 c0_i32_578
  let v2285 : BitVec 32 := Scalar.minsi c0_i32_579 v2284
  let c16_i32_580 : BitVec 32 := 16#32
  let v2286 : BitVec 32 := Scalar.muli v2285 c16_i32_580
  let v2287 : BitVec 32 := Scalar.addi v2279 v2286
  let v2422 : Index := Scalar.indexCast v2287
  ![2, v2422.toNat]
def k0_off114 (v72 : BitVec 32) (v2273 : BitVec 32) (v2275 : BitVec 32) (c0_i32_579 : BitVec 32) : Fin 2 → Nat :=
  let c3_i32_629 : BitVec 32 := 3#32
  let v2474 : Index := Scalar.indexCast c3_i32_629
  let c0_i32_571 : BitVec 32 := 0#32
  let v2276 : BitVec 1 := Scalar.cmpi .eq v2275 c0_i32_571
  let c848_i32_573 : BitVec 32 := 848#32
  let v2277 : BitVec 32 := Scalar.subi v2273 v72
  let c16_i32_572 : BitVec 32 := 16#32
  let v2278 : BitVec 32 := Scalar.muli v2277 c16_i32_572
  let v2279 : BitVec 32 := Scalar.select v2276 c848_i32_573 v2278
  let c1_i32_577 : BitVec 32 := 1#32
  let v2283 : BitVec 32 := Scalar.subi v2275 c1_i32_577
  let c0_i32_578 : BitVec 32 := 0#32
  let v2284 : BitVec 32 := Scalar.maxsi v2283 c0_i32_578
  let v2285 : BitVec 32 := Scalar.minsi c0_i32_579 v2284
  let c16_i32_580 : BitVec 32 := 16#32
  let v2286 : BitVec 32 := Scalar.muli v2285 c16_i32_580
  let v2287 : BitVec 32 := Scalar.addi v2279 v2286
  let v2475 : Index := Scalar.indexCast v2287
  ![3, v2475.toNat]
def k0_off115 (v72 : BitVec 32) (v2273 : BitVec 32) (v2275 : BitVec 32) (c0_i32_579 : BitVec 32) : Fin 2 → Nat :=
  let c4_i32_639 : BitVec 32 := 4#32
  let v2527 : Index := Scalar.indexCast c4_i32_639
  let c0_i32_571 : BitVec 32 := 0#32
  let v2276 : BitVec 1 := Scalar.cmpi .eq v2275 c0_i32_571
  let c848_i32_573 : BitVec 32 := 848#32
  let v2277 : BitVec 32 := Scalar.subi v2273 v72
  let c16_i32_572 : BitVec 32 := 16#32
  let v2278 : BitVec 32 := Scalar.muli v2277 c16_i32_572
  let v2279 : BitVec 32 := Scalar.select v2276 c848_i32_573 v2278
  let c1_i32_577 : BitVec 32 := 1#32
  let v2283 : BitVec 32 := Scalar.subi v2275 c1_i32_577
  let c0_i32_578 : BitVec 32 := 0#32
  let v2284 : BitVec 32 := Scalar.maxsi v2283 c0_i32_578
  let v2285 : BitVec 32 := Scalar.minsi c0_i32_579 v2284
  let c16_i32_580 : BitVec 32 := 16#32
  let v2286 : BitVec 32 := Scalar.muli v2285 c16_i32_580
  let v2287 : BitVec 32 := Scalar.addi v2279 v2286
  let v2528 : Index := Scalar.indexCast v2287
  ![4, v2528.toNat]
def k0_off116 (v72 : BitVec 32) (v2273 : BitVec 32) (v2275 : BitVec 32) (c0_i32_579 : BitVec 32) : Fin 2 → Nat :=
  let c5_i32_649 : BitVec 32 := 5#32
  let v2580 : Index := Scalar.indexCast c5_i32_649
  let c0_i32_571 : BitVec 32 := 0#32
  let v2276 : BitVec 1 := Scalar.cmpi .eq v2275 c0_i32_571
  let c848_i32_573 : BitVec 32 := 848#32
  let v2277 : BitVec 32 := Scalar.subi v2273 v72
  let c16_i32_572 : BitVec 32 := 16#32
  let v2278 : BitVec 32 := Scalar.muli v2277 c16_i32_572
  let v2279 : BitVec 32 := Scalar.select v2276 c848_i32_573 v2278
  let c1_i32_577 : BitVec 32 := 1#32
  let v2283 : BitVec 32 := Scalar.subi v2275 c1_i32_577
  let c0_i32_578 : BitVec 32 := 0#32
  let v2284 : BitVec 32 := Scalar.maxsi v2283 c0_i32_578
  let v2285 : BitVec 32 := Scalar.minsi c0_i32_579 v2284
  let c16_i32_580 : BitVec 32 := 16#32
  let v2286 : BitVec 32 := Scalar.muli v2285 c16_i32_580
  let v2287 : BitVec 32 := Scalar.addi v2279 v2286
  let v2581 : Index := Scalar.indexCast v2287
  ![5, v2581.toNat]
def k0_off117 (v72 : BitVec 32) (v2273 : BitVec 32) (v2275 : BitVec 32) (c0_i32_579 : BitVec 32) : Fin 2 → Nat :=
  let c6_i32_659 : BitVec 32 := 6#32
  let v2633 : Index := Scalar.indexCast c6_i32_659
  let c0_i32_571 : BitVec 32 := 0#32
  let v2276 : BitVec 1 := Scalar.cmpi .eq v2275 c0_i32_571
  let c848_i32_573 : BitVec 32 := 848#32
  let v2277 : BitVec 32 := Scalar.subi v2273 v72
  let c16_i32_572 : BitVec 32 := 16#32
  let v2278 : BitVec 32 := Scalar.muli v2277 c16_i32_572
  let v2279 : BitVec 32 := Scalar.select v2276 c848_i32_573 v2278
  let c1_i32_577 : BitVec 32 := 1#32
  let v2283 : BitVec 32 := Scalar.subi v2275 c1_i32_577
  let c0_i32_578 : BitVec 32 := 0#32
  let v2284 : BitVec 32 := Scalar.maxsi v2283 c0_i32_578
  let v2285 : BitVec 32 := Scalar.minsi c0_i32_579 v2284
  let c16_i32_580 : BitVec 32 := 16#32
  let v2286 : BitVec 32 := Scalar.muli v2285 c16_i32_580
  let v2287 : BitVec 32 := Scalar.addi v2279 v2286
  let v2634 : Index := Scalar.indexCast v2287
  ![6, v2634.toNat]

def k0_chk13 (v72 : BitVec 32) (v2273 : BitVec 32) (v2275 : BitVec 32) : Prop :=
  (∀ (r : Fin 10), ∀ a, (k0_off111 v72 v2273 v2275 (BitVec.ofNat 32 r.val)) a + S1x16.size a ≤ S7x880.size a) ∧
  (∀ (r : Fin 10), ∀ a, (k0_off112 v72 v2273 v2275 (BitVec.ofNat 32 r.val)) a + S1x16.size a ≤ S7x880.size a) ∧
  (∀ (r : Fin 10), ∀ a, (k0_off113 v72 v2273 v2275 (BitVec.ofNat 32 r.val)) a + S1x16.size a ≤ S7x880.size a) ∧
  (∀ (r : Fin 10), ∀ a, (k0_off114 v72 v2273 v2275 (BitVec.ofNat 32 r.val)) a + S1x16.size a ≤ S7x880.size a) ∧
  (∀ (r : Fin 10), ∀ a, (k0_off115 v72 v2273 v2275 (BitVec.ofNat 32 r.val)) a + S1x16.size a ≤ S7x880.size a) ∧
  (∀ (r : Fin 10), ∀ a, (k0_off116 v72 v2273 v2275 (BitVec.ofNat 32 r.val)) a + S1x16.size a ≤ S7x880.size a) ∧
  (∀ (r : Fin 10), ∀ a, (k0_off117 v72 v2273 v2275 (BitVec.ofNat 32 r.val)) a + S1x16.size a ≤ S7x880.size a)
theorem k0_off111_inb : ∀ (v72 : BitVec 32) (v2273 : BitVec 32) (v2275 : BitVec 32) (k0_hw13 : k0_chk13 v72 v2273 v2275), ∀ (r : Fin 10), ∀ a, (k0_off111 v72 v2273 v2275 (BitVec.ofNat 32 r.val)) a + S1x16.size a ≤ S7x880.size a := fun v72 v2273 v2275 k0_hw13 r => k0_hw13.1 r
theorem k0_off112_inb : ∀ (v72 : BitVec 32) (v2273 : BitVec 32) (v2275 : BitVec 32) (k0_hw13 : k0_chk13 v72 v2273 v2275), ∀ (r : Fin 10), ∀ a, (k0_off112 v72 v2273 v2275 (BitVec.ofNat 32 r.val)) a + S1x16.size a ≤ S7x880.size a := fun v72 v2273 v2275 k0_hw13 r => k0_hw13.2.1 r
theorem k0_off113_inb : ∀ (v72 : BitVec 32) (v2273 : BitVec 32) (v2275 : BitVec 32) (k0_hw13 : k0_chk13 v72 v2273 v2275), ∀ (r : Fin 10), ∀ a, (k0_off113 v72 v2273 v2275 (BitVec.ofNat 32 r.val)) a + S1x16.size a ≤ S7x880.size a := fun v72 v2273 v2275 k0_hw13 r => k0_hw13.2.2.1 r
theorem k0_off114_inb : ∀ (v72 : BitVec 32) (v2273 : BitVec 32) (v2275 : BitVec 32) (k0_hw13 : k0_chk13 v72 v2273 v2275), ∀ (r : Fin 10), ∀ a, (k0_off114 v72 v2273 v2275 (BitVec.ofNat 32 r.val)) a + S1x16.size a ≤ S7x880.size a := fun v72 v2273 v2275 k0_hw13 r => k0_hw13.2.2.2.1 r
theorem k0_off115_inb : ∀ (v72 : BitVec 32) (v2273 : BitVec 32) (v2275 : BitVec 32) (k0_hw13 : k0_chk13 v72 v2273 v2275), ∀ (r : Fin 10), ∀ a, (k0_off115 v72 v2273 v2275 (BitVec.ofNat 32 r.val)) a + S1x16.size a ≤ S7x880.size a := fun v72 v2273 v2275 k0_hw13 r => k0_hw13.2.2.2.2.1 r
theorem k0_off116_inb : ∀ (v72 : BitVec 32) (v2273 : BitVec 32) (v2275 : BitVec 32) (k0_hw13 : k0_chk13 v72 v2273 v2275), ∀ (r : Fin 10), ∀ a, (k0_off116 v72 v2273 v2275 (BitVec.ofNat 32 r.val)) a + S1x16.size a ≤ S7x880.size a := fun v72 v2273 v2275 k0_hw13 r => k0_hw13.2.2.2.2.2.1 r
theorem k0_off117_inb : ∀ (v72 : BitVec 32) (v2273 : BitVec 32) (v2275 : BitVec 32) (k0_hw13 : k0_chk13 v72 v2273 v2275), ∀ (r : Fin 10), ∀ a, (k0_off117 v72 v2273 v2275 (BitVec.ofNat 32 r.val)) a + S1x16.size a ≤ S7x880.size a := fun v72 v2273 v2275 k0_hw13 r => k0_hw13.2.2.2.2.2.2 r

def k0_off118 (v72 : BitVec 32) (v2687 : BitVec 32) (v2689 : BitVec 32) (c0_i32_677 : BitVec 32) : Fin 2 → Nat :=
  let c0_i32_697 : BitVec 32 := 0#32
  let v2729 : Index := Scalar.indexCast c0_i32_697
  let c0_i32_669 : BitVec 32 := 0#32
  let v2690 : BitVec 1 := Scalar.cmpi .eq v2689 c0_i32_669
  let c848_i32_671 : BitVec 32 := 848#32
  let v2691 : BitVec 32 := Scalar.subi v2687 v72
  let c16_i32_670 : BitVec 32 := 16#32
  let v2692 : BitVec 32 := Scalar.muli v2691 c16_i32_670
  let v2693 : BitVec 32 := Scalar.select v2690 c848_i32_671 v2692
  let c1_i32_675 : BitVec 32 := 1#32
  let v2697 : BitVec 32 := Scalar.subi v2689 c1_i32_675
  let c0_i32_676 : BitVec 32 := 0#32
  let v2698 : BitVec 32 := Scalar.maxsi v2697 c0_i32_676
  let v2699 : BitVec 32 := Scalar.minsi c0_i32_677 v2698
  let c16_i32_678 : BitVec 32 := 16#32
  let v2700 : BitVec 32 := Scalar.muli v2699 c16_i32_678
  let v2701 : BitVec 32 := Scalar.addi v2693 v2700
  let v2730 : Index := Scalar.indexCast v2701
  ![0, v2730.toNat]

def k0_off119 (v72 : BitVec 32) (v2687 : BitVec 32) (v2689 : BitVec 32) (c0_i32_677 : BitVec 32) : Fin 2 → Nat :=
  let c1_i32_707 : BitVec 32 := 1#32
  let v2782 : Index := Scalar.indexCast c1_i32_707
  let c0_i32_669 : BitVec 32 := 0#32
  let v2690 : BitVec 1 := Scalar.cmpi .eq v2689 c0_i32_669
  let c848_i32_671 : BitVec 32 := 848#32
  let v2691 : BitVec 32 := Scalar.subi v2687 v72
  let c16_i32_670 : BitVec 32 := 16#32
  let v2692 : BitVec 32 := Scalar.muli v2691 c16_i32_670
  let v2693 : BitVec 32 := Scalar.select v2690 c848_i32_671 v2692
  let c1_i32_675 : BitVec 32 := 1#32
  let v2697 : BitVec 32 := Scalar.subi v2689 c1_i32_675
  let c0_i32_676 : BitVec 32 := 0#32
  let v2698 : BitVec 32 := Scalar.maxsi v2697 c0_i32_676
  let v2699 : BitVec 32 := Scalar.minsi c0_i32_677 v2698
  let c16_i32_678 : BitVec 32 := 16#32
  let v2700 : BitVec 32 := Scalar.muli v2699 c16_i32_678
  let v2701 : BitVec 32 := Scalar.addi v2693 v2700
  let v2783 : Index := Scalar.indexCast v2701
  ![1, v2783.toNat]
def k0_off120 (v72 : BitVec 32) (v2687 : BitVec 32) (v2689 : BitVec 32) (c0_i32_677 : BitVec 32) : Fin 2 → Nat :=
  let c2_i32_717 : BitVec 32 := 2#32
  let v2835 : Index := Scalar.indexCast c2_i32_717
  let c0_i32_669 : BitVec 32 := 0#32
  let v2690 : BitVec 1 := Scalar.cmpi .eq v2689 c0_i32_669
  let c848_i32_671 : BitVec 32 := 848#32
  let v2691 : BitVec 32 := Scalar.subi v2687 v72
  let c16_i32_670 : BitVec 32 := 16#32
  let v2692 : BitVec 32 := Scalar.muli v2691 c16_i32_670
  let v2693 : BitVec 32 := Scalar.select v2690 c848_i32_671 v2692
  let c1_i32_675 : BitVec 32 := 1#32
  let v2697 : BitVec 32 := Scalar.subi v2689 c1_i32_675
  let c0_i32_676 : BitVec 32 := 0#32
  let v2698 : BitVec 32 := Scalar.maxsi v2697 c0_i32_676
  let v2699 : BitVec 32 := Scalar.minsi c0_i32_677 v2698
  let c16_i32_678 : BitVec 32 := 16#32
  let v2700 : BitVec 32 := Scalar.muli v2699 c16_i32_678
  let v2701 : BitVec 32 := Scalar.addi v2693 v2700
  let v2836 : Index := Scalar.indexCast v2701
  ![2, v2836.toNat]
def k0_off121 (v72 : BitVec 32) (v2687 : BitVec 32) (v2689 : BitVec 32) (c0_i32_677 : BitVec 32) : Fin 2 → Nat :=
  let c3_i32_727 : BitVec 32 := 3#32
  let v2888 : Index := Scalar.indexCast c3_i32_727
  let c0_i32_669 : BitVec 32 := 0#32
  let v2690 : BitVec 1 := Scalar.cmpi .eq v2689 c0_i32_669
  let c848_i32_671 : BitVec 32 := 848#32
  let v2691 : BitVec 32 := Scalar.subi v2687 v72
  let c16_i32_670 : BitVec 32 := 16#32
  let v2692 : BitVec 32 := Scalar.muli v2691 c16_i32_670
  let v2693 : BitVec 32 := Scalar.select v2690 c848_i32_671 v2692
  let c1_i32_675 : BitVec 32 := 1#32
  let v2697 : BitVec 32 := Scalar.subi v2689 c1_i32_675
  let c0_i32_676 : BitVec 32 := 0#32
  let v2698 : BitVec 32 := Scalar.maxsi v2697 c0_i32_676
  let v2699 : BitVec 32 := Scalar.minsi c0_i32_677 v2698
  let c16_i32_678 : BitVec 32 := 16#32
  let v2700 : BitVec 32 := Scalar.muli v2699 c16_i32_678
  let v2701 : BitVec 32 := Scalar.addi v2693 v2700
  let v2889 : Index := Scalar.indexCast v2701
  ![3, v2889.toNat]
def k0_off122 (v72 : BitVec 32) (v2687 : BitVec 32) (v2689 : BitVec 32) (c0_i32_677 : BitVec 32) : Fin 2 → Nat :=
  let c4_i32_737 : BitVec 32 := 4#32
  let v2941 : Index := Scalar.indexCast c4_i32_737
  let c0_i32_669 : BitVec 32 := 0#32
  let v2690 : BitVec 1 := Scalar.cmpi .eq v2689 c0_i32_669
  let c848_i32_671 : BitVec 32 := 848#32
  let v2691 : BitVec 32 := Scalar.subi v2687 v72
  let c16_i32_670 : BitVec 32 := 16#32
  let v2692 : BitVec 32 := Scalar.muli v2691 c16_i32_670
  let v2693 : BitVec 32 := Scalar.select v2690 c848_i32_671 v2692
  let c1_i32_675 : BitVec 32 := 1#32
  let v2697 : BitVec 32 := Scalar.subi v2689 c1_i32_675
  let c0_i32_676 : BitVec 32 := 0#32
  let v2698 : BitVec 32 := Scalar.maxsi v2697 c0_i32_676
  let v2699 : BitVec 32 := Scalar.minsi c0_i32_677 v2698
  let c16_i32_678 : BitVec 32 := 16#32
  let v2700 : BitVec 32 := Scalar.muli v2699 c16_i32_678
  let v2701 : BitVec 32 := Scalar.addi v2693 v2700
  let v2942 : Index := Scalar.indexCast v2701
  ![4, v2942.toNat]
def k0_off123 (v72 : BitVec 32) (v2687 : BitVec 32) (v2689 : BitVec 32) (c0_i32_677 : BitVec 32) : Fin 2 → Nat :=
  let c5_i32_747 : BitVec 32 := 5#32
  let v2994 : Index := Scalar.indexCast c5_i32_747
  let c0_i32_669 : BitVec 32 := 0#32
  let v2690 : BitVec 1 := Scalar.cmpi .eq v2689 c0_i32_669
  let c848_i32_671 : BitVec 32 := 848#32
  let v2691 : BitVec 32 := Scalar.subi v2687 v72
  let c16_i32_670 : BitVec 32 := 16#32
  let v2692 : BitVec 32 := Scalar.muli v2691 c16_i32_670
  let v2693 : BitVec 32 := Scalar.select v2690 c848_i32_671 v2692
  let c1_i32_675 : BitVec 32 := 1#32
  let v2697 : BitVec 32 := Scalar.subi v2689 c1_i32_675
  let c0_i32_676 : BitVec 32 := 0#32
  let v2698 : BitVec 32 := Scalar.maxsi v2697 c0_i32_676
  let v2699 : BitVec 32 := Scalar.minsi c0_i32_677 v2698
  let c16_i32_678 : BitVec 32 := 16#32
  let v2700 : BitVec 32 := Scalar.muli v2699 c16_i32_678
  let v2701 : BitVec 32 := Scalar.addi v2693 v2700
  let v2995 : Index := Scalar.indexCast v2701
  ![5, v2995.toNat]
def k0_off124 (v72 : BitVec 32) (v2687 : BitVec 32) (v2689 : BitVec 32) (c0_i32_677 : BitVec 32) : Fin 2 → Nat :=
  let c6_i32_757 : BitVec 32 := 6#32
  let v3047 : Index := Scalar.indexCast c6_i32_757
  let c0_i32_669 : BitVec 32 := 0#32
  let v2690 : BitVec 1 := Scalar.cmpi .eq v2689 c0_i32_669
  let c848_i32_671 : BitVec 32 := 848#32
  let v2691 : BitVec 32 := Scalar.subi v2687 v72
  let c16_i32_670 : BitVec 32 := 16#32
  let v2692 : BitVec 32 := Scalar.muli v2691 c16_i32_670
  let v2693 : BitVec 32 := Scalar.select v2690 c848_i32_671 v2692
  let c1_i32_675 : BitVec 32 := 1#32
  let v2697 : BitVec 32 := Scalar.subi v2689 c1_i32_675
  let c0_i32_676 : BitVec 32 := 0#32
  let v2698 : BitVec 32 := Scalar.maxsi v2697 c0_i32_676
  let v2699 : BitVec 32 := Scalar.minsi c0_i32_677 v2698
  let c16_i32_678 : BitVec 32 := 16#32
  let v2700 : BitVec 32 := Scalar.muli v2699 c16_i32_678
  let v2701 : BitVec 32 := Scalar.addi v2693 v2700
  let v3048 : Index := Scalar.indexCast v2701
  ![6, v3048.toNat]

def k0_chk14 (v72 : BitVec 32) (v2687 : BitVec 32) (v2689 : BitVec 32) : Prop :=
  (∀ (r : Fin 10), ∀ a, (k0_off118 v72 v2687 v2689 (BitVec.ofNat 32 r.val)) a + S1x16.size a ≤ S7x880.size a) ∧
  (∀ (r : Fin 10), ∀ a, (k0_off119 v72 v2687 v2689 (BitVec.ofNat 32 r.val)) a + S1x16.size a ≤ S7x880.size a) ∧
  (∀ (r : Fin 10), ∀ a, (k0_off120 v72 v2687 v2689 (BitVec.ofNat 32 r.val)) a + S1x16.size a ≤ S7x880.size a) ∧
  (∀ (r : Fin 10), ∀ a, (k0_off121 v72 v2687 v2689 (BitVec.ofNat 32 r.val)) a + S1x16.size a ≤ S7x880.size a) ∧
  (∀ (r : Fin 10), ∀ a, (k0_off122 v72 v2687 v2689 (BitVec.ofNat 32 r.val)) a + S1x16.size a ≤ S7x880.size a) ∧
  (∀ (r : Fin 10), ∀ a, (k0_off123 v72 v2687 v2689 (BitVec.ofNat 32 r.val)) a + S1x16.size a ≤ S7x880.size a) ∧
  (∀ (r : Fin 10), ∀ a, (k0_off124 v72 v2687 v2689 (BitVec.ofNat 32 r.val)) a + S1x16.size a ≤ S7x880.size a)
theorem k0_off118_inb : ∀ (v72 : BitVec 32) (v2687 : BitVec 32) (v2689 : BitVec 32) (k0_hw14 : k0_chk14 v72 v2687 v2689), ∀ (r : Fin 10), ∀ a, (k0_off118 v72 v2687 v2689 (BitVec.ofNat 32 r.val)) a + S1x16.size a ≤ S7x880.size a := fun v72 v2687 v2689 k0_hw14 r => k0_hw14.1 r
theorem k0_off119_inb : ∀ (v72 : BitVec 32) (v2687 : BitVec 32) (v2689 : BitVec 32) (k0_hw14 : k0_chk14 v72 v2687 v2689), ∀ (r : Fin 10), ∀ a, (k0_off119 v72 v2687 v2689 (BitVec.ofNat 32 r.val)) a + S1x16.size a ≤ S7x880.size a := fun v72 v2687 v2689 k0_hw14 r => k0_hw14.2.1 r
theorem k0_off120_inb : ∀ (v72 : BitVec 32) (v2687 : BitVec 32) (v2689 : BitVec 32) (k0_hw14 : k0_chk14 v72 v2687 v2689), ∀ (r : Fin 10), ∀ a, (k0_off120 v72 v2687 v2689 (BitVec.ofNat 32 r.val)) a + S1x16.size a ≤ S7x880.size a := fun v72 v2687 v2689 k0_hw14 r => k0_hw14.2.2.1 r
theorem k0_off121_inb : ∀ (v72 : BitVec 32) (v2687 : BitVec 32) (v2689 : BitVec 32) (k0_hw14 : k0_chk14 v72 v2687 v2689), ∀ (r : Fin 10), ∀ a, (k0_off121 v72 v2687 v2689 (BitVec.ofNat 32 r.val)) a + S1x16.size a ≤ S7x880.size a := fun v72 v2687 v2689 k0_hw14 r => k0_hw14.2.2.2.1 r
theorem k0_off122_inb : ∀ (v72 : BitVec 32) (v2687 : BitVec 32) (v2689 : BitVec 32) (k0_hw14 : k0_chk14 v72 v2687 v2689), ∀ (r : Fin 10), ∀ a, (k0_off122 v72 v2687 v2689 (BitVec.ofNat 32 r.val)) a + S1x16.size a ≤ S7x880.size a := fun v72 v2687 v2689 k0_hw14 r => k0_hw14.2.2.2.2.1 r
theorem k0_off123_inb : ∀ (v72 : BitVec 32) (v2687 : BitVec 32) (v2689 : BitVec 32) (k0_hw14 : k0_chk14 v72 v2687 v2689), ∀ (r : Fin 10), ∀ a, (k0_off123 v72 v2687 v2689 (BitVec.ofNat 32 r.val)) a + S1x16.size a ≤ S7x880.size a := fun v72 v2687 v2689 k0_hw14 r => k0_hw14.2.2.2.2.2.1 r
theorem k0_off124_inb : ∀ (v72 : BitVec 32) (v2687 : BitVec 32) (v2689 : BitVec 32) (k0_hw14 : k0_chk14 v72 v2687 v2689), ∀ (r : Fin 10), ∀ a, (k0_off124 v72 v2687 v2689 (BitVec.ofNat 32 r.val)) a + S1x16.size a ≤ S7x880.size a := fun v72 v2687 v2689 k0_hw14 r => k0_hw14.2.2.2.2.2.2 r

def k0_off125 (i : grid0.Coords) (k0_t1 : Fin k0_t1_loop.trips) : Fin 3 → Nat :=
  let arg0 : BitVec 32 := BitVec.ofNat 32 (i 0).val
  let c512_i32_767 : BitVec 32 := 512#32
  let v3100 : BitVec 32 := Scalar.muli arg0 c512_i32_767
  let c0_i32_8 : BitVec 32 := 0#32
  let c1_i32_9 : BitVec 32 := 1#32
  let arg11 : BitVec 32 := Scf.iv c0_i32_8 c1_i32_9 k0_t1
  let c2_i32_25 : BitVec 32 := 2#32
  let v54 : BitVec 32 := Scalar.muli arg11 c2_i32_25
  let c0_i32_26 : BitVec 32 := 0#32
  let v55 : BitVec 32 := Scalar.addi v54 c0_i32_26
  let v3101 : BitVec 32 := Scalar.addi v3100 v55
  let arg1 : BitVec 32 := BitVec.ofNat 32 (i 1).val
  let c0_i32_769 : BitVec 32 := 0#32
  ![v3101.toNat, arg1.toNat, 0]
def k0_cond16 (k0_t1 : Fin k0_t1_loop.trips) : BitVec 1 :=
  let c0_i32_8 : BitVec 32 := 0#32
  let c1_i32_9 : BitVec 32 := 1#32
  let arg11 : BitVec 32 := Scf.iv c0_i32_8 c1_i32_9 k0_t1
  let c1_i32_774 : BitVec 32 := 1#32
  let v3110 : BitVec 1 := Scalar.cmpi .sge arg11 c1_i32_774
  let v3111 : BitVec 32 := Scalar.extui v3110
  let c0_i32_775 : BitVec 32 := 0#32
  let v3112 : BitVec 1 := Scalar.cmpi .ne v3111 c0_i32_775
  v3112

def k0_off126 (i : grid0.Coords) (k0_t1 : Fin k0_t1_loop.trips) : Fin 3 → Nat :=
  let arg0 : BitVec 32 := BitVec.ofNat 32 (i 0).val
  let c512_i32_1528 : BitVec 32 := 512#32
  let v6162 : BitVec 32 := Scalar.muli arg0 c512_i32_1528
  let c0_i32_8 : BitVec 32 := 0#32
  let c1_i32_9 : BitVec 32 := 1#32
  let arg11 : BitVec 32 := Scf.iv c0_i32_8 c1_i32_9 k0_t1
  let c1_i32_1529 : BitVec 32 := 1#32
  let v6163 : BitVec 32 := Scalar.subi arg11 c1_i32_1529
  let c2_i32_1530 : BitVec 32 := 2#32
  let v6164 : BitVec 32 := Scalar.muli v6163 c2_i32_1530
  let v6165 : BitVec 32 := Scalar.addi v6162 v6164
  let c1_i32_1531 : BitVec 32 := 1#32
  let v6166 : BitVec 32 := Scalar.addi v6165 c1_i32_1531
  let arg1 : BitVec 32 := BitVec.ofNat 32 (i 1).val
  let c0_i32_1533 : BitVec 32 := 0#32
  ![v6166.toNat, arg1.toNat, 0]
def k0_off127 (k0_t1 : Fin k0_t1_loop.trips) : Fin 1 → Nat :=
  let c0_i32_8 : BitVec 32 := 0#32
  let c1_i32_9 : BitVec 32 := 1#32
  let arg11 : BitVec 32 := Scf.iv c0_i32_8 c1_i32_9 k0_t1
  let c2_i32_772 : BitVec 32 := 2#32
  let v3108 : BitVec 32 := Scalar.muli arg11 c2_i32_772
  let c1_i32_773 : BitVec 32 := 1#32
  let v3109 : BitVec 32 := Scalar.addi v3108 c1_i32_773
  let c32_i32_776 : BitVec 32 := 32#32
  let v3113 : BitVec 32 := Scalar.muli v3109 c32_i32_776
  let v3114 : Index := Scalar.indexCast v3113
  ![v3114.toNat]
def k0_off128 (k0_t1 : Fin k0_t1_loop.trips) : Fin 1 → Nat :=
  let c0_i32_8 : BitVec 32 := 0#32
  let c1_i32_9 : BitVec 32 := 1#32
  let arg11 : BitVec 32 := Scf.iv c0_i32_8 c1_i32_9 k0_t1
  let c2_i32_772 : BitVec 32 := 2#32
  let v3108 : BitVec 32 := Scalar.muli arg11 c2_i32_772
  let c1_i32_773 : BitVec 32 := 1#32
  let v3109 : BitVec 32 := Scalar.addi v3108 c1_i32_773
  let c32_i32_776 : BitVec 32 := 32#32
  let v3113 : BitVec 32 := Scalar.muli v3109 c32_i32_776
  let c16_i32_777 : BitVec 32 := 16#32
  let v3117 : BitVec 32 := Scalar.addi v3113 c16_i32_777
  let v3118 : Index := Scalar.indexCast v3117
  ![v3118.toNat]
@[reducible] def k0_t58_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond17 (v3154 : BitVec 32) : BitVec 1 :=
  let c0_i32_790 : BitVec 32 := 0#32
  let v3160 : BitVec 1 := Scalar.cmpi .sgt v3154 c0_i32_790
  let v3161 : BitVec 32 := Scalar.extui v3160
  let c0_i32_791 : BitVec 32 := 0#32
  let v3162 : BitVec 1 := Scalar.cmpi .ne v3161 c0_i32_791
  v3162

def k0_off129 (i : grid0.Coords) (v3122 : BitVec 32) (v3126 : BitVec 32) (v3128 : BitVec 32) (v3130 : BitVec 32) (v3152 : BitVec 32) (k0_t58 : Fin (k0_t58_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_787 : BitVec 32 := 2500#32
  let v3155 : BitVec 32 := Scalar.muli v3124 c2500_i32_787
  let c50_i32_788 : BitVec 32 := 50#32
  let v3156 : BitVec 32 := Scalar.muli v3152 c50_i32_788
  let v3157 : BitVec 32 := Scalar.addi v3155 v3156
  let v3158 : BitVec 32 := Scalar.addi v3157 v3126
  let c16_i32_789 : BitVec 32 := 16#32
  let v3159 : BitVec 32 := Scalar.muli v3158 c16_i32_789
  let c0_i32_1528 : BitVec 32 := 0#32
  let c1_i32_1531 : BitVec 32 := 1#32
  let arg13 : BitVec 32 := Scf.iv c0_i32_1528 c1_i32_1531 k0_t58
  let c64_i32 : BitVec 32 := 64#32
  let v6169 : BitVec 32 := Scalar.muli arg13 c64_i32
  let v6170 : BitVec 32 := Scalar.addi v3159 v6169
  let v6171 : BitVec 32 := Scalar.addi v6170 c0_i32_1533
  let v6172 : Index := Scalar.indexCast v6171
  ![v6172.toNat]
@[reducible] def k0_t59_loop (v3154 : BitVec 32) : Scf.Loop 32 :=
  let c1_i32_1536 : BitVec 32 := 1#32
  let v6187 : BitVec 32 := Scalar.subi v3154 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off130 (i : grid0.Coords) (v3122 : BitVec 32) (v3126 : BitVec 32) (v3128 : BitVec 32) (v3130 : BitVec 32) (v3152 : BitVec 32) (v3154 : BitVec 32) (k0_t58 : Fin (k0_t58_loop v3126 v3128 v3130).trips) (k0_t59 : Fin (k0_t59_loop v3154).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_787 : BitVec 32 := 2500#32
  let v3155 : BitVec 32 := Scalar.muli v3124 c2500_i32_787
  let c50_i32_788 : BitVec 32 := 50#32
  let v3156 : BitVec 32 := Scalar.muli v3152 c50_i32_788
  let v3157 : BitVec 32 := Scalar.addi v3155 v3156
  let v3158 : BitVec 32 := Scalar.addi v3157 v3126
  let c16_i32_789 : BitVec 32 := 16#32
  let v3159 : BitVec 32 := Scalar.muli v3158 c16_i32_789
  let c0_i32_1528 : BitVec 32 := 0#32
  let c1_i32_1531 : BitVec 32 := 1#32
  let arg13 : BitVec 32 := Scf.iv c0_i32_1528 c1_i32_1531 k0_t58
  let c64_i32 : BitVec 32 := 64#32
  let v6169 : BitVec 32 := Scalar.muli arg13 c64_i32
  let v6170 : BitVec 32 := Scalar.addi v3159 v6169
  let c1_i32_1536 : BitVec 32 := 1#32
  let c1_i32_1538 : BitVec 32 := 1#32
  let arg15 : BitVec 32 := Scf.iv c1_i32_1536 c1_i32_1538 k0_t59
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t60_loop (v3154 : BitVec 32) : Scf.Loop 32 :=
  let c1_i32_1536 : BitVec 32 := 1#32
  let v6187 : BitVec 32 := Scalar.subi v3154 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off131 (i : grid0.Coords) (v3122 : BitVec 32) (v3126 : BitVec 32) (v3128 : BitVec 32) (v3130 : BitVec 32) (v3152 : BitVec 32) (v3154 : BitVec 32) (k0_t58 : Fin (k0_t58_loop v3126 v3128 v3130).trips) (k0_t60 : Fin (k0_t60_loop v3154).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_787 : BitVec 32 := 2500#32
  let v3155 : BitVec 32 := Scalar.muli v3124 c2500_i32_787
  let c50_i32_788 : BitVec 32 := 50#32
  let v3156 : BitVec 32 := Scalar.muli v3152 c50_i32_788
  let v3157 : BitVec 32 := Scalar.addi v3155 v3156
  let v3158 : BitVec 32 := Scalar.addi v3157 v3126
  let c16_i32_789 : BitVec 32 := 16#32
  let v3159 : BitVec 32 := Scalar.muli v3158 c16_i32_789
  let c0_i32_1528 : BitVec 32 := 0#32
  let c1_i32_1531 : BitVec 32 := 1#32
  let arg13 : BitVec 32 := Scf.iv c0_i32_1528 c1_i32_1531 k0_t58
  let c64_i32 : BitVec 32 := 64#32
  let v6169 : BitVec 32 := Scalar.muli arg13 c64_i32
  let v6170 : BitVec 32 := Scalar.addi v3159 v6169
  let c1_i32_1536 : BitVec 32 := 1#32
  let v6187 : BitVec 32 := Scalar.subi v3154 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t60
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off132 (v3126 : BitVec 32) (v3128 : BitVec 32) (v3130 : BitVec 32) (k0_t58 : Fin (k0_t58_loop v3126 v3128 v3130).trips) (c0_i32_1541 : BitVec 32) : Fin 2 → Nat :=
  let c0_i32_1542 : BitVec 32 := 0#32
  let v6196 : Index := Scalar.indexCast c0_i32_1542
  let c0_i32_1528 : BitVec 32 := 0#32
  let c1_i32_1531 : BitVec 32 := 1#32
  let arg13 : BitVec 32 := Scf.iv c0_i32_1528 c1_i32_1531 k0_t58
  let c64_i32_1540 : BitVec 32 := 64#32
  let v6194 : BitVec 32 := Scalar.muli arg13 c64_i32_1540
  let v6195 : BitVec 32 := Scalar.addi v6194 c0_i32_1541
  let v6197 : Index := Scalar.indexCast v6195
  ![0, v6197.toNat]
@[reducible] def k0_t61_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off133 (i : grid0.Coords) (v3122 : BitVec 32) (v3126 : BitVec 32) (v3128 : BitVec 32) (v3130 : BitVec 32) (v3152 : BitVec 32) (k0_t61 : Fin (k0_t61_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_787 : BitVec 32 := 2500#32
  let v3155 : BitVec 32 := Scalar.muli v3124 c2500_i32_787
  let c50_i32_788 : BitVec 32 := 50#32
  let v3156 : BitVec 32 := Scalar.muli v3152 c50_i32_788
  let v3157 : BitVec 32 := Scalar.addi v3155 v3156
  let v3158 : BitVec 32 := Scalar.addi v3157 v3126
  let c16_i32_789 : BitVec 32 := 16#32
  let v3159 : BitVec 32 := Scalar.muli v3158 c16_i32_789
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t61
  let c64_i32 : BitVec 32 := 64#32
  let v6169 : BitVec 32 := Scalar.muli arg13 c64_i32
  let v6170 : BitVec 32 := Scalar.addi v3159 v6169
  let v6171 : BitVec 32 := Scalar.addi v6170 c0_i32_1533
  let v6172 : Index := Scalar.indexCast v6171
  ![v6172.toNat]
@[reducible] def k0_t62_loop (v3154 : BitVec 32) : Scf.Loop 32 :=
  let c1_i32_1536 : BitVec 32 := 1#32
  let v6187 : BitVec 32 := Scalar.subi v3154 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off134 (i : grid0.Coords) (v3122 : BitVec 32) (v3126 : BitVec 32) (v3128 : BitVec 32) (v3130 : BitVec 32) (v3152 : BitVec 32) (v3154 : BitVec 32) (k0_t61 : Fin (k0_t61_loop v3126 v3128 v3130).trips) (k0_t62 : Fin (k0_t62_loop v3154).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_787 : BitVec 32 := 2500#32
  let v3155 : BitVec 32 := Scalar.muli v3124 c2500_i32_787
  let c50_i32_788 : BitVec 32 := 50#32
  let v3156 : BitVec 32 := Scalar.muli v3152 c50_i32_788
  let v3157 : BitVec 32 := Scalar.addi v3155 v3156
  let v3158 : BitVec 32 := Scalar.addi v3157 v3126
  let c16_i32_789 : BitVec 32 := 16#32
  let v3159 : BitVec 32 := Scalar.muli v3158 c16_i32_789
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t61
  let c64_i32 : BitVec 32 := 64#32
  let v6169 : BitVec 32 := Scalar.muli arg13 c64_i32
  let v6170 : BitVec 32 := Scalar.addi v3159 v6169
  let c1_i32_1536 : BitVec 32 := 1#32
  let c1_i32_1538 : BitVec 32 := 1#32
  let arg15 : BitVec 32 := Scf.iv c1_i32_1536 c1_i32_1538 k0_t62
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t63_loop (v3154 : BitVec 32) : Scf.Loop 32 :=
  let c1_i32_1536 : BitVec 32 := 1#32
  let v6187 : BitVec 32 := Scalar.subi v3154 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off135 (i : grid0.Coords) (v3122 : BitVec 32) (v3126 : BitVec 32) (v3128 : BitVec 32) (v3130 : BitVec 32) (v3152 : BitVec 32) (v3154 : BitVec 32) (k0_t61 : Fin (k0_t61_loop v3126 v3128 v3130).trips) (k0_t63 : Fin (k0_t63_loop v3154).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_787 : BitVec 32 := 2500#32
  let v3155 : BitVec 32 := Scalar.muli v3124 c2500_i32_787
  let c50_i32_788 : BitVec 32 := 50#32
  let v3156 : BitVec 32 := Scalar.muli v3152 c50_i32_788
  let v3157 : BitVec 32 := Scalar.addi v3155 v3156
  let v3158 : BitVec 32 := Scalar.addi v3157 v3126
  let c16_i32_789 : BitVec 32 := 16#32
  let v3159 : BitVec 32 := Scalar.muli v3158 c16_i32_789
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t61
  let c64_i32 : BitVec 32 := 64#32
  let v6169 : BitVec 32 := Scalar.muli arg13 c64_i32
  let v6170 : BitVec 32 := Scalar.addi v3159 v6169
  let c1_i32_1536 : BitVec 32 := 1#32
  let v6187 : BitVec 32 := Scalar.subi v3154 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t63
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off136 (v3126 : BitVec 32) (v3128 : BitVec 32) (v3130 : BitVec 32) (k0_t61 : Fin (k0_t61_loop v3126 v3128 v3130).trips) (c0_i32_1541 : BitVec 32) : Fin 2 → Nat :=
  let c0_i32_1542 : BitVec 32 := 0#32
  let v6196 : Index := Scalar.indexCast c0_i32_1542
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t61
  let c64_i32_1540 : BitVec 32 := 64#32
  let v6194 : BitVec 32 := Scalar.muli arg13 c64_i32_1540
  let v6195 : BitVec 32 := Scalar.addi v6194 c0_i32_1541
  let v6197 : Index := Scalar.indexCast v6195
  ![0, v6197.toNat]
@[reducible] def k0_t64_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond18 (v3154 : BitVec 32) : BitVec 1 :=
  let c0_i32_792 : BitVec 32 := 0#32
  let v3163 : BitVec 1 := Scalar.cmpi .eq v3154 c0_i32_792
  let v3164 : BitVec 32 := Scalar.extui v3163
  let c0_i32_793 : BitVec 32 := 0#32
  let v3165 : BitVec 1 := Scalar.cmpi .ne v3164 c0_i32_793
  v3165

def k0_off137 (v3126 : BitVec 32) (v3128 : BitVec 32) (v3130 : BitVec 32) (k0_t64 : Fin (k0_t64_loop v3126 v3128 v3130).trips) (c0_i32_1533 : BitVec 32) : Fin 2 → Nat :=
  let c0_i32_1534 : BitVec 32 := 0#32
  let v6171 : Index := Scalar.indexCast c0_i32_1534
  let c0_i32_1528 : BitVec 32 := 0#32
  let c1_i32_1531 : BitVec 32 := 1#32
  let arg13 : BitVec 32 := Scf.iv c0_i32_1528 c1_i32_1531 k0_t64
  let c64_i32 : BitVec 32 := 64#32
  let v6169 : BitVec 32 := Scalar.muli arg13 c64_i32
  let v6170 : BitVec 32 := Scalar.addi v6169 c0_i32_1533
  let v6172 : Index := Scalar.indexCast v6170
  ![0, v6172.toNat]
@[reducible] def k0_t65_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off138 (v3126 : BitVec 32) (v3128 : BitVec 32) (v3130 : BitVec 32) (k0_t65 : Fin (k0_t65_loop v3126 v3128 v3130).trips) (c0_i32_1533 : BitVec 32) : Fin 2 → Nat :=
  let c0_i32_1534 : BitVec 32 := 0#32
  let v6171 : Index := Scalar.indexCast c0_i32_1534
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t65
  let c64_i32 : BitVec 32 := 64#32
  let v6169 : BitVec 32 := Scalar.muli arg13 c64_i32
  let v6170 : BitVec 32 := Scalar.addi v6169 c0_i32_1533
  let v6172 : Index := Scalar.indexCast v6170
  ![0, v6172.toNat]

def k0_chk15 (i : grid0.Coords) (v3122 : BitVec 32) (v3126 : BitVec 32) (v3128 : BitVec 32) (v3130 : BitVec 32) (v3152 : BitVec 32) (v3154 : BitVec 32) : Prop :=
  (∀ (k0_h17 : k0_cond17 v3154 = 1#1), (k0_t58_loop v3126 v3128 v3130).OK) ∧
  (∀ k0_t58 : Fin (k0_t58_loop v3126 v3128 v3130).trips, ∀ (k0_h17 : k0_cond17 v3154 = 1#1), ∀ (r : Fin 4), ∀ a, (k0_off129 i v3122 v3126 v3128 v3130 v3152 k0_t58 (BitVec.ofNat 32 (16 * r.val))) a + S16.size a ≤ S80896.size a) ∧
  (∀ k0_t58 : Fin (k0_t58_loop v3126 v3128 v3130).trips, ∀ (k0_h17 : k0_cond17 v3154 = 1#1), (k0_t59_loop v3154).OK) ∧
  (∀ (k0_t58 : Fin (k0_t58_loop v3126 v3128 v3130).trips) (k0_t59 : Fin (k0_t59_loop v3154).trips), ∀ (k0_h17 : k0_cond17 v3154 = 1#1), ∀ (r : Fin 4), ∀ a, (k0_off130 i v3122 v3126 v3128 v3130 v3152 v3154 k0_t58 k0_t59 (BitVec.ofNat 32 (16 * r.val))) a + S16.size a ≤ S80896.size a) ∧
  (∀ k0_t58 : Fin (k0_t58_loop v3126 v3128 v3130).trips, ∀ (k0_h17 : k0_cond17 v3154 = 1#1), (k0_t60_loop v3154).OK) ∧
  (∀ (k0_t58 : Fin (k0_t58_loop v3126 v3128 v3130).trips) (k0_t60 : Fin (k0_t60_loop v3154).trips), ∀ (k0_h17 : k0_cond17 v3154 = 1#1), ∀ (r : Fin 4), ∀ a, (k0_off131 i v3122 v3126 v3128 v3130 v3152 v3154 k0_t58 k0_t60 (BitVec.ofNat 32 (16 * r.val))) a + S16.size a ≤ S80896.size a) ∧
  (∀ k0_t58 : Fin (k0_t58_loop v3126 v3128 v3130).trips, ∀ (k0_h17 : k0_cond17 v3154 = 1#1), ∀ (r : Fin 4), ∀ a, (k0_off132 v3126 v3128 v3130 k0_t58 (BitVec.ofNat 32 (16 * r.val))) a + S1x16.size a ≤ S7x880.size a) ∧
  (∀ (k0_h17 : k0_cond17 v3154 = 1#1), (k0_t61_loop v3126 v3128 v3130).OK) ∧
  (∀ k0_t61 : Fin (k0_t61_loop v3126 v3128 v3130).trips, ∀ (k0_h17 : k0_cond17 v3154 = 1#1), ∀ (r : Fin 4), ∀ a, (k0_off133 i v3122 v3126 v3128 v3130 v3152 k0_t61 (BitVec.ofNat 32 (16 * r.val))) a + S16.size a ≤ S80896.size a) ∧
  (∀ k0_t61 : Fin (k0_t61_loop v3126 v3128 v3130).trips, ∀ (k0_h17 : k0_cond17 v3154 = 1#1), (k0_t62_loop v3154).OK) ∧
  (∀ (k0_t61 : Fin (k0_t61_loop v3126 v3128 v3130).trips) (k0_t62 : Fin (k0_t62_loop v3154).trips), ∀ (k0_h17 : k0_cond17 v3154 = 1#1), ∀ (r : Fin 4), ∀ a, (k0_off134 i v3122 v3126 v3128 v3130 v3152 v3154 k0_t61 k0_t62 (BitVec.ofNat 32 (16 * r.val))) a + S16.size a ≤ S80896.size a) ∧
  (∀ k0_t61 : Fin (k0_t61_loop v3126 v3128 v3130).trips, ∀ (k0_h17 : k0_cond17 v3154 = 1#1), (k0_t63_loop v3154).OK) ∧
  (∀ (k0_t61 : Fin (k0_t61_loop v3126 v3128 v3130).trips) (k0_t63 : Fin (k0_t63_loop v3154).trips), ∀ (k0_h17 : k0_cond17 v3154 = 1#1), ∀ (r : Fin 4), ∀ a, (k0_off135 i v3122 v3126 v3128 v3130 v3152 v3154 k0_t61 k0_t63 (BitVec.ofNat 32 (16 * r.val))) a + S16.size a ≤ S80896.size a) ∧
  (∀ k0_t61 : Fin (k0_t61_loop v3126 v3128 v3130).trips, ∀ (k0_h17 : k0_cond17 v3154 = 1#1), ∀ (r : Fin 4), ∀ a, (k0_off136 v3126 v3128 v3130 k0_t61 (BitVec.ofNat 32 (16 * r.val))) a + S1x16.size a ≤ S7x880.size a) ∧
  (∀ (k0_h18 : k0_cond18 v3154 = 1#1), (k0_t64_loop v3126 v3128 v3130).OK) ∧
  (∀ k0_t64 : Fin (k0_t64_loop v3126 v3128 v3130).trips, ∀ (k0_h18 : k0_cond18 v3154 = 1#1), ∀ (r : Fin 4), ∀ a, (k0_off137 v3126 v3128 v3130 k0_t64 (BitVec.ofNat 32 (16 * r.val))) a + S1x16.size a ≤ S7x880.size a) ∧
  (∀ (k0_h18 : k0_cond18 v3154 = 1#1), (k0_t65_loop v3126 v3128 v3130).OK) ∧
  (∀ k0_t65 : Fin (k0_t65_loop v3126 v3128 v3130).trips, ∀ (k0_h18 : k0_cond18 v3154 = 1#1), ∀ (r : Fin 4), ∀ a, (k0_off138 v3126 v3128 v3130 k0_t65 (BitVec.ofNat 32 (16 * r.val))) a + S1x16.size a ≤ S7x880.size a)
theorem k0_t58_ok : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154), ∀ (k0_h17 : k0_cond17 v3154 = 1#1), (k0_t58_loop v3126 v3128 v3130).OK := fun i v3122 v3126 v3128 v3130 v3152 v3154 k0_hw15 k0_h17 => k0_hw15.1 k0_h17
theorem k0_off129_inb : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t58 : Fin (k0_t58_loop v3126 v3128 v3130).trips), ∀ (k0_h17 : k0_cond17 v3154 = 1#1), ∀ (r : Fin 4), ∀ a, (k0_off129 i v3122 v3126 v3128 v3130 v3152 k0_t58 (BitVec.ofNat 32 (16 * r.val))) a + S16.size a ≤ S80896.size a := fun i v3122 v3126 v3128 v3130 v3152 v3154 k0_hw15 k0_t58 k0_h17 r => k0_hw15.2.1 k0_t58 k0_h17 r
theorem k0_t59_ok : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t58 : Fin (k0_t58_loop v3126 v3128 v3130).trips), ∀ (k0_h17 : k0_cond17 v3154 = 1#1), (k0_t59_loop v3154).OK := fun i v3122 v3126 v3128 v3130 v3152 v3154 k0_hw15 k0_t58 k0_h17 => k0_hw15.2.2.1 k0_t58 k0_h17
theorem k0_off130_inb : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t58 : Fin (k0_t58_loop v3126 v3128 v3130).trips) (k0_t59 : Fin (k0_t59_loop v3154).trips), ∀ (k0_h17 : k0_cond17 v3154 = 1#1), ∀ (r : Fin 4), ∀ a, (k0_off130 i v3122 v3126 v3128 v3130 v3152 v3154 k0_t58 k0_t59 (BitVec.ofNat 32 (16 * r.val))) a + S16.size a ≤ S80896.size a := fun i v3122 v3126 v3128 v3130 v3152 v3154 k0_hw15 k0_t58 k0_t59 k0_h17 r => k0_hw15.2.2.2.1 k0_t58 k0_t59 k0_h17 r
theorem k0_t60_ok : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t58 : Fin (k0_t58_loop v3126 v3128 v3130).trips), ∀ (k0_h17 : k0_cond17 v3154 = 1#1), (k0_t60_loop v3154).OK := fun i v3122 v3126 v3128 v3130 v3152 v3154 k0_hw15 k0_t58 k0_h17 => k0_hw15.2.2.2.2.1 k0_t58 k0_h17
theorem k0_off131_inb : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t58 : Fin (k0_t58_loop v3126 v3128 v3130).trips) (k0_t60 : Fin (k0_t60_loop v3154).trips), ∀ (k0_h17 : k0_cond17 v3154 = 1#1), ∀ (r : Fin 4), ∀ a, (k0_off131 i v3122 v3126 v3128 v3130 v3152 v3154 k0_t58 k0_t60 (BitVec.ofNat 32 (16 * r.val))) a + S16.size a ≤ S80896.size a := fun i v3122 v3126 v3128 v3130 v3152 v3154 k0_hw15 k0_t58 k0_t60 k0_h17 r => k0_hw15.2.2.2.2.2.1 k0_t58 k0_t60 k0_h17 r
theorem k0_off132_inb : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t58 : Fin (k0_t58_loop v3126 v3128 v3130).trips), ∀ (k0_h17 : k0_cond17 v3154 = 1#1), ∀ (r : Fin 4), ∀ a, (k0_off132 v3126 v3128 v3130 k0_t58 (BitVec.ofNat 32 (16 * r.val))) a + S1x16.size a ≤ S7x880.size a := fun i v3122 v3126 v3128 v3130 v3152 v3154 k0_hw15 k0_t58 k0_h17 r => k0_hw15.2.2.2.2.2.2.1 k0_t58 k0_h17 r
theorem k0_t61_ok : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154), ∀ (k0_h17 : k0_cond17 v3154 = 1#1), (k0_t61_loop v3126 v3128 v3130).OK := fun i v3122 v3126 v3128 v3130 v3152 v3154 k0_hw15 k0_h17 => k0_hw15.2.2.2.2.2.2.2.1 k0_h17
theorem k0_off133_inb : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t61 : Fin (k0_t61_loop v3126 v3128 v3130).trips), ∀ (k0_h17 : k0_cond17 v3154 = 1#1), ∀ (r : Fin 4), ∀ a, (k0_off133 i v3122 v3126 v3128 v3130 v3152 k0_t61 (BitVec.ofNat 32 (16 * r.val))) a + S16.size a ≤ S80896.size a := fun i v3122 v3126 v3128 v3130 v3152 v3154 k0_hw15 k0_t61 k0_h17 r => k0_hw15.2.2.2.2.2.2.2.2.1 k0_t61 k0_h17 r
theorem k0_t62_ok : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t61 : Fin (k0_t61_loop v3126 v3128 v3130).trips), ∀ (k0_h17 : k0_cond17 v3154 = 1#1), (k0_t62_loop v3154).OK := fun i v3122 v3126 v3128 v3130 v3152 v3154 k0_hw15 k0_t61 k0_h17 => k0_hw15.2.2.2.2.2.2.2.2.2.1 k0_t61 k0_h17
theorem k0_off134_inb : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t61 : Fin (k0_t61_loop v3126 v3128 v3130).trips) (k0_t62 : Fin (k0_t62_loop v3154).trips), ∀ (k0_h17 : k0_cond17 v3154 = 1#1), ∀ (r : Fin 4), ∀ a, (k0_off134 i v3122 v3126 v3128 v3130 v3152 v3154 k0_t61 k0_t62 (BitVec.ofNat 32 (16 * r.val))) a + S16.size a ≤ S80896.size a := fun i v3122 v3126 v3128 v3130 v3152 v3154 k0_hw15 k0_t61 k0_t62 k0_h17 r => k0_hw15.2.2.2.2.2.2.2.2.2.2.1 k0_t61 k0_t62 k0_h17 r
theorem k0_t63_ok : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t61 : Fin (k0_t61_loop v3126 v3128 v3130).trips), ∀ (k0_h17 : k0_cond17 v3154 = 1#1), (k0_t63_loop v3154).OK := fun i v3122 v3126 v3128 v3130 v3152 v3154 k0_hw15 k0_t61 k0_h17 => k0_hw15.2.2.2.2.2.2.2.2.2.2.2.1 k0_t61 k0_h17
theorem k0_off135_inb : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t61 : Fin (k0_t61_loop v3126 v3128 v3130).trips) (k0_t63 : Fin (k0_t63_loop v3154).trips), ∀ (k0_h17 : k0_cond17 v3154 = 1#1), ∀ (r : Fin 4), ∀ a, (k0_off135 i v3122 v3126 v3128 v3130 v3152 v3154 k0_t61 k0_t63 (BitVec.ofNat 32 (16 * r.val))) a + S16.size a ≤ S80896.size a := fun i v3122 v3126 v3128 v3130 v3152 v3154 k0_hw15 k0_t61 k0_t63 k0_h17 r => k0_hw15.2.2.2.2.2.2.2.2.2.2.2.2.1 k0_t61 k0_t63 k0_h17 r
theorem k0_off136_inb : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t61 : Fin (k0_t61_loop v3126 v3128 v3130).trips), ∀ (k0_h17 : k0_cond17 v3154 = 1#1), ∀ (r : Fin 4), ∀ a, (k0_off136 v3126 v3128 v3130 k0_t61 (BitVec.ofNat 32 (16 * r.val))) a + S1x16.size a ≤ S7x880.size a := fun i v3122 v3126 v3128 v3130 v3152 v3154 k0_hw15 k0_t61 k0_h17 r => k0_hw15.2.2.2.2.2.2.2.2.2.2.2.2.2.1 k0_t61 k0_h17 r
theorem k0_t64_ok : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154), ∀ (k0_h18 : k0_cond18 v3154 = 1#1), (k0_t64_loop v3126 v3128 v3130).OK := fun i v3122 v3126 v3128 v3130 v3152 v3154 k0_hw15 k0_h18 => k0_hw15.2.2.2.2.2.2.2.2.2.2.2.2.2.2.1 k0_h18
theorem k0_off137_inb : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t64 : Fin (k0_t64_loop v3126 v3128 v3130).trips), ∀ (k0_h18 : k0_cond18 v3154 = 1#1), ∀ (r : Fin 4), ∀ a, (k0_off137 v3126 v3128 v3130 k0_t64 (BitVec.ofNat 32 (16 * r.val))) a + S1x16.size a ≤ S7x880.size a := fun i v3122 v3126 v3128 v3130 v3152 v3154 k0_hw15 k0_t64 k0_h18 r => k0_hw15.2.2.2.2.2.2.2.2.2.2.2.2.2.2.2.1 k0_t64 k0_h18 r
theorem k0_t65_ok : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154), ∀ (k0_h18 : k0_cond18 v3154 = 1#1), (k0_t65_loop v3126 v3128 v3130).OK := fun i v3122 v3126 v3128 v3130 v3152 v3154 k0_hw15 k0_h18 => k0_hw15.2.2.2.2.2.2.2.2.2.2.2.2.2.2.2.2.1 k0_h18
theorem k0_off138_inb : ∀ (i : grid0.Coords) (v3122 : BitVec 32) (v3126 : BitVec 32) (v3128 : BitVec 32) (v3130 : BitVec 32) (v3152 : BitVec 32) (v3154 : BitVec 32) (k0_hw15 : k0_chk15 i v3122 v3126 v3128 v3130 v3152 v3154) (k0_t65 : Fin (k0_t65_loop v3126 v3128 v3130).trips), ∀ (k0_h18 : k0_cond18 v3154 = 1#1), ∀ (r : Fin 4), ∀ a, (k0_off138 v3126 v3128 v3130 k0_t65 (BitVec.ofNat 32 (16 * r.val))) a + S1x16.size a ≤ S7x880.size a := fun i v3122 v3126 v3128 v3130 v3152 v3154 k0_hw15 k0_t65 k0_h18 r => k0_hw15.2.2.2.2.2.2.2.2.2.2.2.2.2.2.2.2.2 k0_t65 k0_h18 r

@[reducible] def k0_t66_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond19 (v3169 : BitVec 32) : BitVec 1 :=
  let c0_i32_797 : BitVec 32 := 0#32
  let v3175 : BitVec 1 := Scalar.cmpi .sgt v3169 c0_i32_797
  let v3176 : BitVec 32 := Scalar.extui v3175
  let c0_i32_798 : BitVec 32 := 0#32
  let v3177 : BitVec 1 := Scalar.cmpi .ne v3176 c0_i32_798
  v3177

def k0_off139 (i : grid0.Coords) (v3122 : BitVec 32) (v3126 : BitVec 32) (v3128 : BitVec 32) (v3130 : BitVec 32) (v3167 : BitVec 32) (k0_t66 : Fin (k0_t66_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_794 : BitVec 32 := 2500#32
  let v3170 : BitVec 32 := Scalar.muli v3124 c2500_i32_794
  let c50_i32_795 : BitVec 32 := 50#32
  let v3171 : BitVec 32 := Scalar.muli v3167 c50_i32_795
  let v3172 : BitVec 32 := Scalar.addi v3170 v3171
  let v3173 : BitVec 32 := Scalar.addi v3172 v3126
  let c16_i32_796 : BitVec 32 := 16#32
  let v3174 : BitVec 32 := Scalar.muli v3173 c16_i32_796
  let c0_i32_1528 : BitVec 32 := 0#32
  let c1_i32_1531 : BitVec 32 := 1#32
  let arg13 : BitVec 32 := Scf.iv c0_i32_1528 c1_i32_1531 k0_t66
  let c64_i32 : BitVec 32 := 64#32
  let v6169 : BitVec 32 := Scalar.muli arg13 c64_i32
  let v6170 : BitVec 32 := Scalar.addi v3174 v6169
  let v6171 : BitVec 32 := Scalar.addi v6170 c0_i32_1533
  let v6172 : Index := Scalar.indexCast v6171
  ![v6172.toNat]
@[reducible] def k0_t67_loop (v3169 : BitVec 32) : Scf.Loop 32 :=
  let c1_i32_1536 : BitVec 32 := 1#32
  let v6187 : BitVec 32 := Scalar.subi v3169 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off140 (i : grid0.Coords) (v3122 : BitVec 32) (v3126 : BitVec 32) (v3128 : BitVec 32) (v3130 : BitVec 32) (v3167 : BitVec 32) (v3169 : BitVec 32) (k0_t66 : Fin (k0_t66_loop v3126 v3128 v3130).trips) (k0_t67 : Fin (k0_t67_loop v3169).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_794 : BitVec 32 := 2500#32
  let v3170 : BitVec 32 := Scalar.muli v3124 c2500_i32_794
  let c50_i32_795 : BitVec 32 := 50#32
  let v3171 : BitVec 32 := Scalar.muli v3167 c50_i32_795
  let v3172 : BitVec 32 := Scalar.addi v3170 v3171
  let v3173 : BitVec 32 := Scalar.addi v3172 v3126
  let c16_i32_796 : BitVec 32 := 16#32
  let v3174 : BitVec 32 := Scalar.muli v3173 c16_i32_796
  let c0_i32_1528 : BitVec 32 := 0#32
  let c1_i32_1531 : BitVec 32 := 1#32
  let arg13 : BitVec 32 := Scf.iv c0_i32_1528 c1_i32_1531 k0_t66
  let c64_i32 : BitVec 32 := 64#32
  let v6169 : BitVec 32 := Scalar.muli arg13 c64_i32
  let v6170 : BitVec 32 := Scalar.addi v3174 v6169
  let c1_i32_1536 : BitVec 32 := 1#32
  let c1_i32_1538 : BitVec 32 := 1#32
  let arg15 : BitVec 32 := Scf.iv c1_i32_1536 c1_i32_1538 k0_t67
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t68_loop (v3169 : BitVec 32) : Scf.Loop 32 :=
  let c1_i32_1536 : BitVec 32 := 1#32
  let v6187 : BitVec 32 := Scalar.subi v3169 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off141 (i : grid0.Coords) (v3122 : BitVec 32) (v3126 : BitVec 32) (v3128 : BitVec 32) (v3130 : BitVec 32) (v3167 : BitVec 32) (v3169 : BitVec 32) (k0_t66 : Fin (k0_t66_loop v3126 v3128 v3130).trips) (k0_t68 : Fin (k0_t68_loop v3169).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_794 : BitVec 32 := 2500#32
  let v3170 : BitVec 32 := Scalar.muli v3124 c2500_i32_794
  let c50_i32_795 : BitVec 32 := 50#32
  let v3171 : BitVec 32 := Scalar.muli v3167 c50_i32_795
  let v3172 : BitVec 32 := Scalar.addi v3170 v3171
  let v3173 : BitVec 32 := Scalar.addi v3172 v3126
  let c16_i32_796 : BitVec 32 := 16#32
  let v3174 : BitVec 32 := Scalar.muli v3173 c16_i32_796
  let c0_i32_1528 : BitVec 32 := 0#32
  let c1_i32_1531 : BitVec 32 := 1#32
  let arg13 : BitVec 32 := Scf.iv c0_i32_1528 c1_i32_1531 k0_t66
  let c64_i32 : BitVec 32 := 64#32
  let v6169 : BitVec 32 := Scalar.muli arg13 c64_i32
  let v6170 : BitVec 32 := Scalar.addi v3174 v6169
  let c1_i32_1536 : BitVec 32 := 1#32
  let v6187 : BitVec 32 := Scalar.subi v3169 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t68
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off142 (v3126 : BitVec 32) (v3128 : BitVec 32) (v3130 : BitVec 32) (k0_t66 : Fin (k0_t66_loop v3126 v3128 v3130).trips) (c0_i32_1541 : BitVec 32) : Fin 2 → Nat :=
  let c1_i32_1542 : BitVec 32 := 1#32
  let v6196 : Index := Scalar.indexCast c1_i32_1542
  let c0_i32_1528 : BitVec 32 := 0#32
  let c1_i32_1531 : BitVec 32 := 1#32
  let arg13 : BitVec 32 := Scf.iv c0_i32_1528 c1_i32_1531 k0_t66
  let c64_i32_1540 : BitVec 32 := 64#32
  let v6194 : BitVec 32 := Scalar.muli arg13 c64_i32_1540
  let v6195 : BitVec 32 := Scalar.addi v6194 c0_i32_1541
  let v6197 : Index := Scalar.indexCast v6195
  ![1, v6197.toNat]
@[reducible] def k0_t69_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off143 (i : grid0.Coords) (v3122 : BitVec 32) (v3126 : BitVec 32) (v3128 : BitVec 32) (v3130 : BitVec 32) (v3167 : BitVec 32) (k0_t69 : Fin (k0_t69_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_794 : BitVec 32 := 2500#32
  let v3170 : BitVec 32 := Scalar.muli v3124 c2500_i32_794
  let c50_i32_795 : BitVec 32 := 50#32
  let v3171 : BitVec 32 := Scalar.muli v3167 c50_i32_795
  let v3172 : BitVec 32 := Scalar.addi v3170 v3171
  let v3173 : BitVec 32 := Scalar.addi v3172 v3126
  let c16_i32_796 : BitVec 32 := 16#32
  let v3174 : BitVec 32 := Scalar.muli v3173 c16_i32_796
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t69
  let c64_i32 : BitVec 32 := 64#32
  let v6169 : BitVec 32 := Scalar.muli arg13 c64_i32
  let v6170 : BitVec 32 := Scalar.addi v3174 v6169
  let v6171 : BitVec 32 := Scalar.addi v6170 c0_i32_1533
  let v6172 : Index := Scalar.indexCast v6171
  ![v6172.toNat]
@[reducible] def k0_t70_loop (v3169 : BitVec 32) : Scf.Loop 32 :=
  let c1_i32_1536 : BitVec 32 := 1#32
  let v6187 : BitVec 32 := Scalar.subi v3169 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off144 (i : grid0.Coords) (v3122 : BitVec 32) (v3126 : BitVec 32) (v3128 : BitVec 32) (v3130 : BitVec 32) (v3167 : BitVec 32) (v3169 : BitVec 32) (k0_t69 : Fin (k0_t69_loop v3126 v3128 v3130).trips) (k0_t70 : Fin (k0_t70_loop v3169).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_794 : BitVec 32 := 2500#32
  let v3170 : BitVec 32 := Scalar.muli v3124 c2500_i32_794
  let c50_i32_795 : BitVec 32 := 50#32
  let v3171 : BitVec 32 := Scalar.muli v3167 c50_i32_795
  let v3172 : BitVec 32 := Scalar.addi v3170 v3171
  let v3173 : BitVec 32 := Scalar.addi v3172 v3126
  let c16_i32_796 : BitVec 32 := 16#32
  let v3174 : BitVec 32 := Scalar.muli v3173 c16_i32_796
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t69
  let c64_i32 : BitVec 32 := 64#32
  let v6169 : BitVec 32 := Scalar.muli arg13 c64_i32
  let v6170 : BitVec 32 := Scalar.addi v3174 v6169
  let c1_i32_1536 : BitVec 32 := 1#32
  let c1_i32_1538 : BitVec 32 := 1#32
  let arg15 : BitVec 32 := Scf.iv c1_i32_1536 c1_i32_1538 k0_t70
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t71_loop (v3169 : BitVec 32) : Scf.Loop 32 :=
  let c1_i32_1536 : BitVec 32 := 1#32
  let v6187 : BitVec 32 := Scalar.subi v3169 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off145 (i : grid0.Coords) (v3122 : BitVec 32) (v3126 : BitVec 32) (v3128 : BitVec 32) (v3130 : BitVec 32) (v3167 : BitVec 32) (v3169 : BitVec 32) (k0_t69 : Fin (k0_t69_loop v3126 v3128 v3130).trips) (k0_t71 : Fin (k0_t71_loop v3169).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_794 : BitVec 32 := 2500#32
  let v3170 : BitVec 32 := Scalar.muli v3124 c2500_i32_794
  let c50_i32_795 : BitVec 32 := 50#32
  let v3171 : BitVec 32 := Scalar.muli v3167 c50_i32_795
  let v3172 : BitVec 32 := Scalar.addi v3170 v3171
  let v3173 : BitVec 32 := Scalar.addi v3172 v3126
  let c16_i32_796 : BitVec 32 := 16#32
  let v3174 : BitVec 32 := Scalar.muli v3173 c16_i32_796
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t69
  let c64_i32 : BitVec 32 := 64#32
  let v6169 : BitVec 32 := Scalar.muli arg13 c64_i32
  let v6170 : BitVec 32 := Scalar.addi v3174 v6169
  let c1_i32_1536 : BitVec 32 := 1#32
  let v6187 : BitVec 32 := Scalar.subi v3169 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t71
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off146 (v3126 : BitVec 32) (v3128 : BitVec 32) (v3130 : BitVec 32) (k0_t69 : Fin (k0_t69_loop v3126 v3128 v3130).trips) (c0_i32_1541 : BitVec 32) : Fin 2 → Nat :=
  let c1_i32_1542 : BitVec 32 := 1#32
  let v6196 : Index := Scalar.indexCast c1_i32_1542
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t69
  let c64_i32_1540 : BitVec 32 := 64#32
  let v6194 : BitVec 32 := Scalar.muli arg13 c64_i32_1540
  let v6195 : BitVec 32 := Scalar.addi v6194 c0_i32_1541
  let v6197 : Index := Scalar.indexCast v6195
  ![1, v6197.toNat]
@[reducible] def k0_t72_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond20 (v3169 : BitVec 32) : BitVec 1 :=
  let c0_i32_799 : BitVec 32 := 0#32
  let v3178 : BitVec 1 := Scalar.cmpi .eq v3169 c0_i32_799
  let v3179 : BitVec 32 := Scalar.extui v3178
  let c0_i32_800 : BitVec 32 := 0#32
  let v3180 : BitVec 1 := Scalar.cmpi .ne v3179 c0_i32_800
  v3180

def k0_off147 (v3126 : BitVec 32) (v3128 : BitVec 32) (v3130 : BitVec 32) (k0_t72 : Fin (k0_t72_loop v3126 v3128 v3130).trips) (c0_i32_1533 : BitVec 32) : Fin 2 → Nat :=
  let c1_i32_1534 : BitVec 32 := 1#32
  let v6171 : Index := Scalar.indexCast c1_i32_1534
  let c0_i32_1528 : BitVec 32 := 0#32
  let c1_i32_1531 : BitVec 32 := 1#32
  let arg13 : BitVec 32 := Scf.iv c0_i32_1528 c1_i32_1531 k0_t72
  let c64_i32 : BitVec 32 := 64#32
  let v6169 : BitVec 32 := Scalar.muli arg13 c64_i32
  let v6170 : BitVec 32 := Scalar.addi v6169 c0_i32_1533
  let v6172 : Index := Scalar.indexCast v6170
  ![1, v6172.toNat]
@[reducible] def k0_t73_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off148 (v3126 : BitVec 32) (v3128 : BitVec 32) (v3130 : BitVec 32) (k0_t73 : Fin (k0_t73_loop v3126 v3128 v3130).trips) (c0_i32_1533 : BitVec 32) : Fin 2 → Nat :=
  let c1_i32_1534 : BitVec 32 := 1#32
  let v6171 : Index := Scalar.indexCast c1_i32_1534
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t73
  let c64_i32 : BitVec 32 := 64#32
  let v6169 : BitVec 32 := Scalar.muli arg13 c64_i32
  let v6170 : BitVec 32 := Scalar.addi v6169 c0_i32_1533
  let v6172 : Index := Scalar.indexCast v6170
  ![1, v6172.toNat]

def k0_chk16 (i : grid0.Coords) (v3122 : BitVec 32) (v3126 : BitVec 32) (v3128 : BitVec 32) (v3130 : BitVec 32) (v3167 : BitVec 32) (v3169 : BitVec 32) : Prop :=
  (∀ (k0_h19 : k0_cond19 v3169 = 1#1), (k0_t66_loop v3126 v3128 v3130).OK) ∧
  (∀ k0_t66 : Fin (k0_t66_loop v3126 v3128 v3130).trips, ∀ (k0_h19 : k0_cond19 v3169 = 1#1), ∀ (r : Fin 4), ∀ a, (k0_off139 i v3122 v3126 v3128 v3130 v3167 k0_t66 (BitVec.ofNat 32 (16 * r.val))) a + S16.size a ≤ S80896.size a) ∧
  (∀ k0_t66 : Fin (k0_t66_loop v3126 v3128 v3130).trips, ∀ (k0_h19 : k0_cond19 v3169 = 1#1), (k0_t67_loop v3169).OK) ∧
  (∀ (k0_t66 : Fin (k0_t66_loop v3126 v3128 v3130).trips) (k0_t67 : Fin (k0_t67_loop v3169).trips), ∀ (k0_h19 : k0_cond19 v3169 = 1#1), ∀ (r : Fin 4), ∀ a, (k0_off140 i v3122 v3126 v3128 v3130 v3167 v3169 k0_t66 k0_t67 (BitVec.ofNat 32 (16 * r.val))) a + S16.size a ≤ S80896.size a) ∧
  (∀ k0_t66 : Fin (k0_t66_loop v3126 v3128 v3130).trips, ∀ (k0_h19 : k0_cond19 v3169 = 1#1), (k0_t68_loop v3169).OK) ∧
  (∀ (k0_t66 : Fin (k0_t66_loop v3126 v3128 v3130).trips) (k0_t68 : Fin (k0_t68_loop v3169).trips), ∀ (k0_h19 : k0_cond19 v3169 = 1#1), ∀ (r : Fin 4), ∀ a, (k0_off141 i v3122 v3126 v3128 v3130 v3167 v3169 k0_t66 k0_t68 (BitVec.ofNat 32 (16 * r.val))) a + S16.size a ≤ S80896.size a) ∧
  (∀ k0_t66 : Fin (k0_t66_loop v3126 v3128 v3130).trips, ∀ (k0_h19 : k0_cond19 v3169 = 1#1), ∀ (r : Fin 4), ∀ a, (k0_off142 v3126 v3128 v3130 k0_t66 (BitVec.ofNat 32 (16 * r.val))) a + S1x16.size a ≤ S7x880.size a) ∧
  (∀ (k0_h19 : k0_cond19 v3169 = 1#1), (k0_t69_loop v3126 v3128 v3130).OK) ∧
  (∀ k0_t69 : Fin (k0_t69_loop v3126 v3128 v3130).trips, ∀ (k0_h19 : k0_cond19 v3169 = 1#1), ∀ (r : Fin 4), ∀ a, (k0_off143 i v3122 v3126 v3128 v3130 v3167 k0_t69 (BitVec.ofNat 32 (16 * r.val))) a + S16.size a ≤ S80896.size a) ∧
  (∀ k0_t69 : Fin (k0_t69_loop v3126 v3128 v3130).trips, ∀ (k0_h19 : k0_cond19 v3169 = 1#1), (k0_t70_loop v3169).OK) ∧
  (∀ (k0_t69 : Fin (k0_t69_loop v3126 v3128 v3130).trips) (k0_t70 : Fin (k0_t70_loop v3169).trips), ∀ (k0_h19 : k0_cond19 v3169 = 1#1), ∀ (r : Fin 4), ∀ a, (k0_off144 i v3122 v3126 v3128 v3130 v3167 v3169 k0_t69 k0_t70 (BitVec.ofNat 32 (16 * r.val))) a + S16.size a ≤ S80896.size a) ∧
  (∀ k0_t69 : Fin (k0_t69_loop v3126 v3128 v3130).trips, ∀ (k0_h19 : k0_cond19 v3169 = 1#1), (k0_t71_loop v3169).OK) ∧
  (∀ (k0_t69 : Fin (k0_t69_loop v3126 v3128 v3130).trips) (k0_t71 : Fin (k0_t71_loop v3169).trips), ∀ (k0_h19 : k0_cond19 v3169 = 1#1), ∀ (r : Fin 4), ∀ a, (k0_off145 i v3122 v3126 v3128 v3130 v3167 v3169 k0_t69 k0_t71 (BitVec.ofNat 32 (16 * r.val))) a + S16.size a ≤ S80896.size a) ∧
  (∀ k0_t69 : Fin (k0_t69_loop v3126 v3128 v3130).trips, ∀ (k0_h19 : k0_cond19 v3169 = 1#1), ∀ (r : Fin 4), ∀ a, (k0_off146 v3126 v3128 v3130 k0_t69 (BitVec.ofNat 32 (16 * r.val))) a + S1x16.size a ≤ S7x880.size a) ∧
  (∀ (k0_h20 : k0_cond20 v3169 = 1#1), (k0_t72_loop v3126 v3128 v3130).OK) ∧
  (∀ k0_t72 : Fin (k0_t72_loop v3126 v3128 v3130).trips, ∀ (k0_h20 : k0_cond20 v3169 = 1#1), ∀ (r : Fin 4), ∀ a, (k0_off147 v3126 v3128 v3130 k0_t72 (BitVec.ofNat 32 (16 * r.val))) a + S1x16.size a ≤ S7x880.size a) ∧
  (∀ (k0_h20 : k0_cond20 v3169 = 1#1), (k0_t73_loop v3126 v3128 v3130).OK) ∧
  (∀ k0_t73 : Fin (k0_t73_loop v3126 v3128 v3130).trips, ∀ (k0_h20 : k0_cond20 v3169 = 1#1), ∀ (r : Fin 4), ∀ a, (k0_off148 v3126 v3128 v3130 k0_t73 (BitVec.ofNat 32 (16 * r.val))) a + S1x16.size a ≤ S7x880.size a)
theorem k0_t66_ok : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169), ∀ (k0_h19 : k0_cond19 v3169 = 1#1), (k0_t66_loop v3126 v3128 v3130).OK := fun i v3122 v3126 v3128 v3130 v3167 v3169 k0_hw16 k0_h19 => k0_hw16.1 k0_h19
theorem k0_off139_inb : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t66 : Fin (k0_t66_loop v3126 v3128 v3130).trips), ∀ (k0_h19 : k0_cond19 v3169 = 1#1), ∀ (r : Fin 4), ∀ a, (k0_off139 i v3122 v3126 v3128 v3130 v3167 k0_t66 (BitVec.ofNat 32 (16 * r.val))) a + S16.size a ≤ S80896.size a := fun i v3122 v3126 v3128 v3130 v3167 v3169 k0_hw16 k0_t66 k0_h19 r => k0_hw16.2.1 k0_t66 k0_h19 r
theorem k0_t67_ok : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t66 : Fin (k0_t66_loop v3126 v3128 v3130).trips), ∀ (k0_h19 : k0_cond19 v3169 = 1#1), (k0_t67_loop v3169).OK := fun i v3122 v3126 v3128 v3130 v3167 v3169 k0_hw16 k0_t66 k0_h19 => k0_hw16.2.2.1 k0_t66 k0_h19
theorem k0_off140_inb : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t66 : Fin (k0_t66_loop v3126 v3128 v3130).trips) (k0_t67 : Fin (k0_t67_loop v3169).trips), ∀ (k0_h19 : k0_cond19 v3169 = 1#1), ∀ (r : Fin 4), ∀ a, (k0_off140 i v3122 v3126 v3128 v3130 v3167 v3169 k0_t66 k0_t67 (BitVec.ofNat 32 (16 * r.val))) a + S16.size a ≤ S80896.size a := fun i v3122 v3126 v3128 v3130 v3167 v3169 k0_hw16 k0_t66 k0_t67 k0_h19 r => k0_hw16.2.2.2.1 k0_t66 k0_t67 k0_h19 r
theorem k0_t68_ok : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t66 : Fin (k0_t66_loop v3126 v3128 v3130).trips), ∀ (k0_h19 : k0_cond19 v3169 = 1#1), (k0_t68_loop v3169).OK := fun i v3122 v3126 v3128 v3130 v3167 v3169 k0_hw16 k0_t66 k0_h19 => k0_hw16.2.2.2.2.1 k0_t66 k0_h19
theorem k0_off141_inb : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t66 : Fin (k0_t66_loop v3126 v3128 v3130).trips) (k0_t68 : Fin (k0_t68_loop v3169).trips), ∀ (k0_h19 : k0_cond19 v3169 = 1#1), ∀ (r : Fin 4), ∀ a, (k0_off141 i v3122 v3126 v3128 v3130 v3167 v3169 k0_t66 k0_t68 (BitVec.ofNat 32 (16 * r.val))) a + S16.size a ≤ S80896.size a := fun i v3122 v3126 v3128 v3130 v3167 v3169 k0_hw16 k0_t66 k0_t68 k0_h19 r => k0_hw16.2.2.2.2.2.1 k0_t66 k0_t68 k0_h19 r
theorem k0_off142_inb : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t66 : Fin (k0_t66_loop v3126 v3128 v3130).trips), ∀ (k0_h19 : k0_cond19 v3169 = 1#1), ∀ (r : Fin 4), ∀ a, (k0_off142 v3126 v3128 v3130 k0_t66 (BitVec.ofNat 32 (16 * r.val))) a + S1x16.size a ≤ S7x880.size a := fun i v3122 v3126 v3128 v3130 v3167 v3169 k0_hw16 k0_t66 k0_h19 r => k0_hw16.2.2.2.2.2.2.1 k0_t66 k0_h19 r
theorem k0_t69_ok : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169), ∀ (k0_h19 : k0_cond19 v3169 = 1#1), (k0_t69_loop v3126 v3128 v3130).OK := fun i v3122 v3126 v3128 v3130 v3167 v3169 k0_hw16 k0_h19 => k0_hw16.2.2.2.2.2.2.2.1 k0_h19
theorem k0_off143_inb : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t69 : Fin (k0_t69_loop v3126 v3128 v3130).trips), ∀ (k0_h19 : k0_cond19 v3169 = 1#1), ∀ (r : Fin 4), ∀ a, (k0_off143 i v3122 v3126 v3128 v3130 v3167 k0_t69 (BitVec.ofNat 32 (16 * r.val))) a + S16.size a ≤ S80896.size a := fun i v3122 v3126 v3128 v3130 v3167 v3169 k0_hw16 k0_t69 k0_h19 r => k0_hw16.2.2.2.2.2.2.2.2.1 k0_t69 k0_h19 r
theorem k0_t70_ok : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t69 : Fin (k0_t69_loop v3126 v3128 v3130).trips), ∀ (k0_h19 : k0_cond19 v3169 = 1#1), (k0_t70_loop v3169).OK := fun i v3122 v3126 v3128 v3130 v3167 v3169 k0_hw16 k0_t69 k0_h19 => k0_hw16.2.2.2.2.2.2.2.2.2.1 k0_t69 k0_h19
theorem k0_off144_inb : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t69 : Fin (k0_t69_loop v3126 v3128 v3130).trips) (k0_t70 : Fin (k0_t70_loop v3169).trips), ∀ (k0_h19 : k0_cond19 v3169 = 1#1), ∀ (r : Fin 4), ∀ a, (k0_off144 i v3122 v3126 v3128 v3130 v3167 v3169 k0_t69 k0_t70 (BitVec.ofNat 32 (16 * r.val))) a + S16.size a ≤ S80896.size a := fun i v3122 v3126 v3128 v3130 v3167 v3169 k0_hw16 k0_t69 k0_t70 k0_h19 r => k0_hw16.2.2.2.2.2.2.2.2.2.2.1 k0_t69 k0_t70 k0_h19 r
theorem k0_t71_ok : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t69 : Fin (k0_t69_loop v3126 v3128 v3130).trips), ∀ (k0_h19 : k0_cond19 v3169 = 1#1), (k0_t71_loop v3169).OK := fun i v3122 v3126 v3128 v3130 v3167 v3169 k0_hw16 k0_t69 k0_h19 => k0_hw16.2.2.2.2.2.2.2.2.2.2.2.1 k0_t69 k0_h19
theorem k0_off145_inb : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t69 : Fin (k0_t69_loop v3126 v3128 v3130).trips) (k0_t71 : Fin (k0_t71_loop v3169).trips), ∀ (k0_h19 : k0_cond19 v3169 = 1#1), ∀ (r : Fin 4), ∀ a, (k0_off145 i v3122 v3126 v3128 v3130 v3167 v3169 k0_t69 k0_t71 (BitVec.ofNat 32 (16 * r.val))) a + S16.size a ≤ S80896.size a := fun i v3122 v3126 v3128 v3130 v3167 v3169 k0_hw16 k0_t69 k0_t71 k0_h19 r => k0_hw16.2.2.2.2.2.2.2.2.2.2.2.2.1 k0_t69 k0_t71 k0_h19 r
theorem k0_off146_inb : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t69 : Fin (k0_t69_loop v3126 v3128 v3130).trips), ∀ (k0_h19 : k0_cond19 v3169 = 1#1), ∀ (r : Fin 4), ∀ a, (k0_off146 v3126 v3128 v3130 k0_t69 (BitVec.ofNat 32 (16 * r.val))) a + S1x16.size a ≤ S7x880.size a := fun i v3122 v3126 v3128 v3130 v3167 v3169 k0_hw16 k0_t69 k0_h19 r => k0_hw16.2.2.2.2.2.2.2.2.2.2.2.2.2.1 k0_t69 k0_h19 r
theorem k0_t72_ok : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169), ∀ (k0_h20 : k0_cond20 v3169 = 1#1), (k0_t72_loop v3126 v3128 v3130).OK := fun i v3122 v3126 v3128 v3130 v3167 v3169 k0_hw16 k0_h20 => k0_hw16.2.2.2.2.2.2.2.2.2.2.2.2.2.2.1 k0_h20
theorem k0_off147_inb : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t72 : Fin (k0_t72_loop v3126 v3128 v3130).trips), ∀ (k0_h20 : k0_cond20 v3169 = 1#1), ∀ (r : Fin 4), ∀ a, (k0_off147 v3126 v3128 v3130 k0_t72 (BitVec.ofNat 32 (16 * r.val))) a + S1x16.size a ≤ S7x880.size a := fun i v3122 v3126 v3128 v3130 v3167 v3169 k0_hw16 k0_t72 k0_h20 r => k0_hw16.2.2.2.2.2.2.2.2.2.2.2.2.2.2.2.1 k0_t72 k0_h20 r
theorem k0_t73_ok : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169), ∀ (k0_h20 : k0_cond20 v3169 = 1#1), (k0_t73_loop v3126 v3128 v3130).OK := fun i v3122 v3126 v3128 v3130 v3167 v3169 k0_hw16 k0_h20 => k0_hw16.2.2.2.2.2.2.2.2.2.2.2.2.2.2.2.2.1 k0_h20
theorem k0_off148_inb : ∀ (i : grid0.Coords) (v3122 : BitVec 32) (v3126 : BitVec 32) (v3128 : BitVec 32) (v3130 : BitVec 32) (v3167 : BitVec 32) (v3169 : BitVec 32) (k0_hw16 : k0_chk16 i v3122 v3126 v3128 v3130 v3167 v3169) (k0_t73 : Fin (k0_t73_loop v3126 v3128 v3130).trips), ∀ (k0_h20 : k0_cond20 v3169 = 1#1), ∀ (r : Fin 4), ∀ a, (k0_off148 v3126 v3128 v3130 k0_t73 (BitVec.ofNat 32 (16 * r.val))) a + S1x16.size a ≤ S7x880.size a := fun i v3122 v3126 v3128 v3130 v3167 v3169 k0_hw16 k0_t73 k0_h20 r => k0_hw16.2.2.2.2.2.2.2.2.2.2.2.2.2.2.2.2.2 k0_t73 k0_h20 r

@[reducible] def k0_t74_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond21 (v3184 : BitVec 32) : BitVec 1 :=
  let c0_i32_804 : BitVec 32 := 0#32
  let v3190 : BitVec 1 := Scalar.cmpi .sgt v3184 c0_i32_804
  let v3191 : BitVec 32 := Scalar.extui v3190
  let c0_i32_805 : BitVec 32 := 0#32
  let v3192 : BitVec 1 := Scalar.cmpi .ne v3191 c0_i32_805
  v3192

def k0_off149 (i : grid0.Coords) (v3122 : BitVec 32) (v3126 : BitVec 32) (v3128 : BitVec 32) (v3130 : BitVec 32) (v3182 : BitVec 32) (k0_t74 : Fin (k0_t74_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_801 : BitVec 32 := 2500#32
  let v3185 : BitVec 32 := Scalar.muli v3124 c2500_i32_801
  let c50_i32_802 : BitVec 32 := 50#32
  let v3186 : BitVec 32 := Scalar.muli v3182 c50_i32_802
  let v3187 : BitVec 32 := Scalar.addi v3185 v3186
  let v3188 : BitVec 32 := Scalar.addi v3187 v3126
  let c16_i32_803 : BitVec 32 := 16#32
  let v3189 : BitVec 32 := Scalar.muli v3188 c16_i32_803
  let c0_i32_1528 : BitVec 32 := 0#32
  let c1_i32_1531 : BitVec 32 := 1#32
  let arg13 : BitVec 32 := Scf.iv c0_i32_1528 c1_i32_1531 k0_t74
  let c64_i32 : BitVec 32 := 64#32
  let v6169 : BitVec 32 := Scalar.muli arg13 c64_i32
  let v6170 : BitVec 32 := Scalar.addi v3189 v6169
  let v6171 : BitVec 32 := Scalar.addi v6170 c0_i32_1533
  let v6172 : Index := Scalar.indexCast v6171
  ![v6172.toNat]
@[reducible] def k0_t75_loop (v3184 : BitVec 32) : Scf.Loop 32 :=
  let c1_i32_1536 : BitVec 32 := 1#32
  let v6187 : BitVec 32 := Scalar.subi v3184 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off150 (i : grid0.Coords) (v3122 : BitVec 32) (v3126 : BitVec 32) (v3128 : BitVec 32) (v3130 : BitVec 32) (v3182 : BitVec 32) (v3184 : BitVec 32) (k0_t74 : Fin (k0_t74_loop v3126 v3128 v3130).trips) (k0_t75 : Fin (k0_t75_loop v3184).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_801 : BitVec 32 := 2500#32
  let v3185 : BitVec 32 := Scalar.muli v3124 c2500_i32_801
  let c50_i32_802 : BitVec 32 := 50#32
  let v3186 : BitVec 32 := Scalar.muli v3182 c50_i32_802
  let v3187 : BitVec 32 := Scalar.addi v3185 v3186
  let v3188 : BitVec 32 := Scalar.addi v3187 v3126
  let c16_i32_803 : BitVec 32 := 16#32
  let v3189 : BitVec 32 := Scalar.muli v3188 c16_i32_803
  let c0_i32_1528 : BitVec 32 := 0#32
  let c1_i32_1531 : BitVec 32 := 1#32
  let arg13 : BitVec 32 := Scf.iv c0_i32_1528 c1_i32_1531 k0_t74
  let c64_i32 : BitVec 32 := 64#32
  let v6169 : BitVec 32 := Scalar.muli arg13 c64_i32
  let v6170 : BitVec 32 := Scalar.addi v3189 v6169
  let c1_i32_1536 : BitVec 32 := 1#32
  let c1_i32_1538 : BitVec 32 := 1#32
  let arg15 : BitVec 32 := Scf.iv c1_i32_1536 c1_i32_1538 k0_t75
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t76_loop (v3184 : BitVec 32) : Scf.Loop 32 :=
  let c1_i32_1536 : BitVec 32 := 1#32
  let v6187 : BitVec 32 := Scalar.subi v3184 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off151 (i : grid0.Coords) (v3122 : BitVec 32) (v3126 : BitVec 32) (v3128 : BitVec 32) (v3130 : BitVec 32) (v3182 : BitVec 32) (v3184 : BitVec 32) (k0_t74 : Fin (k0_t74_loop v3126 v3128 v3130).trips) (k0_t76 : Fin (k0_t76_loop v3184).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_801 : BitVec 32 := 2500#32
  let v3185 : BitVec 32 := Scalar.muli v3124 c2500_i32_801
  let c50_i32_802 : BitVec 32 := 50#32
  let v3186 : BitVec 32 := Scalar.muli v3182 c50_i32_802
  let v3187 : BitVec 32 := Scalar.addi v3185 v3186
  let v3188 : BitVec 32 := Scalar.addi v3187 v3126
  let c16_i32_803 : BitVec 32 := 16#32
  let v3189 : BitVec 32 := Scalar.muli v3188 c16_i32_803
  let c0_i32_1528 : BitVec 32 := 0#32
  let c1_i32_1531 : BitVec 32 := 1#32
  let arg13 : BitVec 32 := Scf.iv c0_i32_1528 c1_i32_1531 k0_t74
  let c64_i32 : BitVec 32 := 64#32
  let v6169 : BitVec 32 := Scalar.muli arg13 c64_i32
  let v6170 : BitVec 32 := Scalar.addi v3189 v6169
  let c1_i32_1536 : BitVec 32 := 1#32
  let v6187 : BitVec 32 := Scalar.subi v3184 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t76
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off152 (v3126 : BitVec 32) (v3128 : BitVec 32) (v3130 : BitVec 32) (k0_t74 : Fin (k0_t74_loop v3126 v3128 v3130).trips) (c0_i32_1541 : BitVec 32) : Fin 2 → Nat :=
  let c2_i32_1542 : BitVec 32 := 2#32
  let v6196 : Index := Scalar.indexCast c2_i32_1542
  let c0_i32_1528 : BitVec 32 := 0#32
  let c1_i32_1531 : BitVec 32 := 1#32
  let arg13 : BitVec 32 := Scf.iv c0_i32_1528 c1_i32_1531 k0_t74
  let c64_i32_1540 : BitVec 32 := 64#32
  let v6194 : BitVec 32 := Scalar.muli arg13 c64_i32_1540
  let v6195 : BitVec 32 := Scalar.addi v6194 c0_i32_1541
  let v6197 : Index := Scalar.indexCast v6195
  ![2, v6197.toNat]
@[reducible] def k0_t77_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off153 (i : grid0.Coords) (v3122 : BitVec 32) (v3126 : BitVec 32) (v3128 : BitVec 32) (v3130 : BitVec 32) (v3182 : BitVec 32) (k0_t77 : Fin (k0_t77_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_801 : BitVec 32 := 2500#32
  let v3185 : BitVec 32 := Scalar.muli v3124 c2500_i32_801
  let c50_i32_802 : BitVec 32 := 50#32
  let v3186 : BitVec 32 := Scalar.muli v3182 c50_i32_802
  let v3187 : BitVec 32 := Scalar.addi v3185 v3186
  let v3188 : BitVec 32 := Scalar.addi v3187 v3126
  let c16_i32_803 : BitVec 32 := 16#32
  let v3189 : BitVec 32 := Scalar.muli v3188 c16_i32_803
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t77
  let c64_i32 : BitVec 32 := 64#32
  let v6169 : BitVec 32 := Scalar.muli arg13 c64_i32
  let v6170 : BitVec 32 := Scalar.addi v3189 v6169
  let v6171 : BitVec 32 := Scalar.addi v6170 c0_i32_1533
  let v6172 : Index := Scalar.indexCast v6171
  ![v6172.toNat]
@[reducible] def k0_t78_loop (v3184 : BitVec 32) : Scf.Loop 32 :=
  let c1_i32_1536 : BitVec 32 := 1#32
  let v6187 : BitVec 32 := Scalar.subi v3184 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off154 (i : grid0.Coords) (v3122 : BitVec 32) (v3126 : BitVec 32) (v3128 : BitVec 32) (v3130 : BitVec 32) (v3182 : BitVec 32) (v3184 : BitVec 32) (k0_t77 : Fin (k0_t77_loop v3126 v3128 v3130).trips) (k0_t78 : Fin (k0_t78_loop v3184).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_801 : BitVec 32 := 2500#32
  let v3185 : BitVec 32 := Scalar.muli v3124 c2500_i32_801
  let c50_i32_802 : BitVec 32 := 50#32
  let v3186 : BitVec 32 := Scalar.muli v3182 c50_i32_802
  let v3187 : BitVec 32 := Scalar.addi v3185 v3186
  let v3188 : BitVec 32 := Scalar.addi v3187 v3126
  let c16_i32_803 : BitVec 32 := 16#32
  let v3189 : BitVec 32 := Scalar.muli v3188 c16_i32_803
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t77
  let c64_i32 : BitVec 32 := 64#32
  let v6169 : BitVec 32 := Scalar.muli arg13 c64_i32
  let v6170 : BitVec 32 := Scalar.addi v3189 v6169
  let c1_i32_1536 : BitVec 32 := 1#32
  let c1_i32_1538 : BitVec 32 := 1#32
  let arg15 : BitVec 32 := Scf.iv c1_i32_1536 c1_i32_1538 k0_t78
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t79_loop (v3184 : BitVec 32) : Scf.Loop 32 :=
  let c1_i32_1536 : BitVec 32 := 1#32
  let v6187 : BitVec 32 := Scalar.subi v3184 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off155 (i : grid0.Coords) (v3122 : BitVec 32) (v3126 : BitVec 32) (v3128 : BitVec 32) (v3130 : BitVec 32) (v3182 : BitVec 32) (v3184 : BitVec 32) (k0_t77 : Fin (k0_t77_loop v3126 v3128 v3130).trips) (k0_t79 : Fin (k0_t79_loop v3184).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_801 : BitVec 32 := 2500#32
  let v3185 : BitVec 32 := Scalar.muli v3124 c2500_i32_801
  let c50_i32_802 : BitVec 32 := 50#32
  let v3186 : BitVec 32 := Scalar.muli v3182 c50_i32_802
  let v3187 : BitVec 32 := Scalar.addi v3185 v3186
  let v3188 : BitVec 32 := Scalar.addi v3187 v3126
  let c16_i32_803 : BitVec 32 := 16#32
  let v3189 : BitVec 32 := Scalar.muli v3188 c16_i32_803
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t77
  let c64_i32 : BitVec 32 := 64#32
  let v6169 : BitVec 32 := Scalar.muli arg13 c64_i32
  let v6170 : BitVec 32 := Scalar.addi v3189 v6169
  let c1_i32_1536 : BitVec 32 := 1#32
  let v6187 : BitVec 32 := Scalar.subi v3184 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t79
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off156 (v3126 : BitVec 32) (v3128 : BitVec 32) (v3130 : BitVec 32) (k0_t77 : Fin (k0_t77_loop v3126 v3128 v3130).trips) (c0_i32_1541 : BitVec 32) : Fin 2 → Nat :=
  let c2_i32_1542 : BitVec 32 := 2#32
  let v6196 : Index := Scalar.indexCast c2_i32_1542
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t77
  let c64_i32_1540 : BitVec 32 := 64#32
  let v6194 : BitVec 32 := Scalar.muli arg13 c64_i32_1540
  let v6195 : BitVec 32 := Scalar.addi v6194 c0_i32_1541
  let v6197 : Index := Scalar.indexCast v6195
  ![2, v6197.toNat]
@[reducible] def k0_t80_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond22 (v3184 : BitVec 32) : BitVec 1 :=
  let c0_i32_806 : BitVec 32 := 0#32
  let v3193 : BitVec 1 := Scalar.cmpi .eq v3184 c0_i32_806
  let v3194 : BitVec 32 := Scalar.extui v3193
  let c0_i32_807 : BitVec 32 := 0#32
  let v3195 : BitVec 1 := Scalar.cmpi .ne v3194 c0_i32_807
  v3195

def k0_off157 (v3126 : BitVec 32) (v3128 : BitVec 32) (v3130 : BitVec 32) (k0_t80 : Fin (k0_t80_loop v3126 v3128 v3130).trips) (c0_i32_1533 : BitVec 32) : Fin 2 → Nat :=
  let c2_i32_1534 : BitVec 32 := 2#32
  let v6171 : Index := Scalar.indexCast c2_i32_1534
  let c0_i32_1528 : BitVec 32 := 0#32
  let c1_i32_1531 : BitVec 32 := 1#32
  let arg13 : BitVec 32 := Scf.iv c0_i32_1528 c1_i32_1531 k0_t80
  let c64_i32 : BitVec 32 := 64#32
  let v6169 : BitVec 32 := Scalar.muli arg13 c64_i32
  let v6170 : BitVec 32 := Scalar.addi v6169 c0_i32_1533
  let v6172 : Index := Scalar.indexCast v6170
  ![2, v6172.toNat]
@[reducible] def k0_t81_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off158 (v3126 : BitVec 32) (v3128 : BitVec 32) (v3130 : BitVec 32) (k0_t81 : Fin (k0_t81_loop v3126 v3128 v3130).trips) (c0_i32_1533 : BitVec 32) : Fin 2 → Nat :=
  let c2_i32_1534 : BitVec 32 := 2#32
  let v6171 : Index := Scalar.indexCast c2_i32_1534
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t81
  let c64_i32 : BitVec 32 := 64#32
  let v6169 : BitVec 32 := Scalar.muli arg13 c64_i32
  let v6170 : BitVec 32 := Scalar.addi v6169 c0_i32_1533
  let v6172 : Index := Scalar.indexCast v6170
  ![2, v6172.toNat]

def k0_chk17 (i : grid0.Coords) (v3122 : BitVec 32) (v3126 : BitVec 32) (v3128 : BitVec 32) (v3130 : BitVec 32) (v3182 : BitVec 32) (v3184 : BitVec 32) : Prop :=
  (∀ (k0_h21 : k0_cond21 v3184 = 1#1), (k0_t74_loop v3126 v3128 v3130).OK) ∧
  (∀ k0_t74 : Fin (k0_t74_loop v3126 v3128 v3130).trips, ∀ (k0_h21 : k0_cond21 v3184 = 1#1), ∀ (r : Fin 4), ∀ a, (k0_off149 i v3122 v3126 v3128 v3130 v3182 k0_t74 (BitVec.ofNat 32 (16 * r.val))) a + S16.size a ≤ S80896.size a) ∧
  (∀ k0_t74 : Fin (k0_t74_loop v3126 v3128 v3130).trips, ∀ (k0_h21 : k0_cond21 v3184 = 1#1), (k0_t75_loop v3184).OK) ∧
  (∀ (k0_t74 : Fin (k0_t74_loop v3126 v3128 v3130).trips) (k0_t75 : Fin (k0_t75_loop v3184).trips), ∀ (k0_h21 : k0_cond21 v3184 = 1#1), ∀ (r : Fin 4), ∀ a, (k0_off150 i v3122 v3126 v3128 v3130 v3182 v3184 k0_t74 k0_t75 (BitVec.ofNat 32 (16 * r.val))) a + S16.size a ≤ S80896.size a) ∧
  (∀ k0_t74 : Fin (k0_t74_loop v3126 v3128 v3130).trips, ∀ (k0_h21 : k0_cond21 v3184 = 1#1), (k0_t76_loop v3184).OK) ∧
  (∀ (k0_t74 : Fin (k0_t74_loop v3126 v3128 v3130).trips) (k0_t76 : Fin (k0_t76_loop v3184).trips), ∀ (k0_h21 : k0_cond21 v3184 = 1#1), ∀ (r : Fin 4), ∀ a, (k0_off151 i v3122 v3126 v3128 v3130 v3182 v3184 k0_t74 k0_t76 (BitVec.ofNat 32 (16 * r.val))) a + S16.size a ≤ S80896.size a) ∧
  (∀ k0_t74 : Fin (k0_t74_loop v3126 v3128 v3130).trips, ∀ (k0_h21 : k0_cond21 v3184 = 1#1), ∀ (r : Fin 4), ∀ a, (k0_off152 v3126 v3128 v3130 k0_t74 (BitVec.ofNat 32 (16 * r.val))) a + S1x16.size a ≤ S7x880.size a) ∧
  (∀ (k0_h21 : k0_cond21 v3184 = 1#1), (k0_t77_loop v3126 v3128 v3130).OK) ∧
  (∀ k0_t77 : Fin (k0_t77_loop v3126 v3128 v3130).trips, ∀ (k0_h21 : k0_cond21 v3184 = 1#1), ∀ (r : Fin 4), ∀ a, (k0_off153 i v3122 v3126 v3128 v3130 v3182 k0_t77 (BitVec.ofNat 32 (16 * r.val))) a + S16.size a ≤ S80896.size a) ∧
  (∀ k0_t77 : Fin (k0_t77_loop v3126 v3128 v3130).trips, ∀ (k0_h21 : k0_cond21 v3184 = 1#1), (k0_t78_loop v3184).OK) ∧
  (∀ (k0_t77 : Fin (k0_t77_loop v3126 v3128 v3130).trips) (k0_t78 : Fin (k0_t78_loop v3184).trips), ∀ (k0_h21 : k0_cond21 v3184 = 1#1), ∀ (r : Fin 4), ∀ a, (k0_off154 i v3122 v3126 v3128 v3130 v3182 v3184 k0_t77 k0_t78 (BitVec.ofNat 32 (16 * r.val))) a + S16.size a ≤ S80896.size a) ∧
  (∀ k0_t77 : Fin (k0_t77_loop v3126 v3128 v3130).trips, ∀ (k0_h21 : k0_cond21 v3184 = 1#1), (k0_t79_loop v3184).OK) ∧
  (∀ (k0_t77 : Fin (k0_t77_loop v3126 v3128 v3130).trips) (k0_t79 : Fin (k0_t79_loop v3184).trips), ∀ (k0_h21 : k0_cond21 v3184 = 1#1), ∀ (r : Fin 4), ∀ a, (k0_off155 i v3122 v3126 v3128 v3130 v3182 v3184 k0_t77 k0_t79 (BitVec.ofNat 32 (16 * r.val))) a + S16.size a ≤ S80896.size a) ∧
  (∀ k0_t77 : Fin (k0_t77_loop v3126 v3128 v3130).trips, ∀ (k0_h21 : k0_cond21 v3184 = 1#1), ∀ (r : Fin 4), ∀ a, (k0_off156 v3126 v3128 v3130 k0_t77 (BitVec.ofNat 32 (16 * r.val))) a + S1x16.size a ≤ S7x880.size a) ∧
  (∀ (k0_h22 : k0_cond22 v3184 = 1#1), (k0_t80_loop v3126 v3128 v3130).OK) ∧
  (∀ k0_t80 : Fin (k0_t80_loop v3126 v3128 v3130).trips, ∀ (k0_h22 : k0_cond22 v3184 = 1#1), ∀ (r : Fin 4), ∀ a, (k0_off157 v3126 v3128 v3130 k0_t80 (BitVec.ofNat 32 (16 * r.val))) a + S1x16.size a ≤ S7x880.size a) ∧
  (∀ (k0_h22 : k0_cond22 v3184 = 1#1), (k0_t81_loop v3126 v3128 v3130).OK) ∧
  (∀ k0_t81 : Fin (k0_t81_loop v3126 v3128 v3130).trips, ∀ (k0_h22 : k0_cond22 v3184 = 1#1), ∀ (r : Fin 4), ∀ a, (k0_off158 v3126 v3128 v3130 k0_t81 (BitVec.ofNat 32 (16 * r.val))) a + S1x16.size a ≤ S7x880.size a)
theorem k0_t74_ok : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184), ∀ (k0_h21 : k0_cond21 v3184 = 1#1), (k0_t74_loop v3126 v3128 v3130).OK := fun i v3122 v3126 v3128 v3130 v3182 v3184 k0_hw17 k0_h21 => k0_hw17.1 k0_h21
theorem k0_off149_inb : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t74 : Fin (k0_t74_loop v3126 v3128 v3130).trips), ∀ (k0_h21 : k0_cond21 v3184 = 1#1), ∀ (r : Fin 4), ∀ a, (k0_off149 i v3122 v3126 v3128 v3130 v3182 k0_t74 (BitVec.ofNat 32 (16 * r.val))) a + S16.size a ≤ S80896.size a := fun i v3122 v3126 v3128 v3130 v3182 v3184 k0_hw17 k0_t74 k0_h21 r => k0_hw17.2.1 k0_t74 k0_h21 r
theorem k0_t75_ok : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t74 : Fin (k0_t74_loop v3126 v3128 v3130).trips), ∀ (k0_h21 : k0_cond21 v3184 = 1#1), (k0_t75_loop v3184).OK := fun i v3122 v3126 v3128 v3130 v3182 v3184 k0_hw17 k0_t74 k0_h21 => k0_hw17.2.2.1 k0_t74 k0_h21
theorem k0_off150_inb : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t74 : Fin (k0_t74_loop v3126 v3128 v3130).trips) (k0_t75 : Fin (k0_t75_loop v3184).trips), ∀ (k0_h21 : k0_cond21 v3184 = 1#1), ∀ (r : Fin 4), ∀ a, (k0_off150 i v3122 v3126 v3128 v3130 v3182 v3184 k0_t74 k0_t75 (BitVec.ofNat 32 (16 * r.val))) a + S16.size a ≤ S80896.size a := fun i v3122 v3126 v3128 v3130 v3182 v3184 k0_hw17 k0_t74 k0_t75 k0_h21 r => k0_hw17.2.2.2.1 k0_t74 k0_t75 k0_h21 r
theorem k0_t76_ok : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t74 : Fin (k0_t74_loop v3126 v3128 v3130).trips), ∀ (k0_h21 : k0_cond21 v3184 = 1#1), (k0_t76_loop v3184).OK := fun i v3122 v3126 v3128 v3130 v3182 v3184 k0_hw17 k0_t74 k0_h21 => k0_hw17.2.2.2.2.1 k0_t74 k0_h21
theorem k0_off151_inb : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t74 : Fin (k0_t74_loop v3126 v3128 v3130).trips) (k0_t76 : Fin (k0_t76_loop v3184).trips), ∀ (k0_h21 : k0_cond21 v3184 = 1#1), ∀ (r : Fin 4), ∀ a, (k0_off151 i v3122 v3126 v3128 v3130 v3182 v3184 k0_t74 k0_t76 (BitVec.ofNat 32 (16 * r.val))) a + S16.size a ≤ S80896.size a := fun i v3122 v3126 v3128 v3130 v3182 v3184 k0_hw17 k0_t74 k0_t76 k0_h21 r => k0_hw17.2.2.2.2.2.1 k0_t74 k0_t76 k0_h21 r
theorem k0_off152_inb : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t74 : Fin (k0_t74_loop v3126 v3128 v3130).trips), ∀ (k0_h21 : k0_cond21 v3184 = 1#1), ∀ (r : Fin 4), ∀ a, (k0_off152 v3126 v3128 v3130 k0_t74 (BitVec.ofNat 32 (16 * r.val))) a + S1x16.size a ≤ S7x880.size a := fun i v3122 v3126 v3128 v3130 v3182 v3184 k0_hw17 k0_t74 k0_h21 r => k0_hw17.2.2.2.2.2.2.1 k0_t74 k0_h21 r
theorem k0_t77_ok : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184), ∀ (k0_h21 : k0_cond21 v3184 = 1#1), (k0_t77_loop v3126 v3128 v3130).OK := fun i v3122 v3126 v3128 v3130 v3182 v3184 k0_hw17 k0_h21 => k0_hw17.2.2.2.2.2.2.2.1 k0_h21
theorem k0_off153_inb : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t77 : Fin (k0_t77_loop v3126 v3128 v3130).trips), ∀ (k0_h21 : k0_cond21 v3184 = 1#1), ∀ (r : Fin 4), ∀ a, (k0_off153 i v3122 v3126 v3128 v3130 v3182 k0_t77 (BitVec.ofNat 32 (16 * r.val))) a + S16.size a ≤ S80896.size a := fun i v3122 v3126 v3128 v3130 v3182 v3184 k0_hw17 k0_t77 k0_h21 r => k0_hw17.2.2.2.2.2.2.2.2.1 k0_t77 k0_h21 r
theorem k0_t78_ok : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t77 : Fin (k0_t77_loop v3126 v3128 v3130).trips), ∀ (k0_h21 : k0_cond21 v3184 = 1#1), (k0_t78_loop v3184).OK := fun i v3122 v3126 v3128 v3130 v3182 v3184 k0_hw17 k0_t77 k0_h21 => k0_hw17.2.2.2.2.2.2.2.2.2.1 k0_t77 k0_h21
theorem k0_off154_inb : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t77 : Fin (k0_t77_loop v3126 v3128 v3130).trips) (k0_t78 : Fin (k0_t78_loop v3184).trips), ∀ (k0_h21 : k0_cond21 v3184 = 1#1), ∀ (r : Fin 4), ∀ a, (k0_off154 i v3122 v3126 v3128 v3130 v3182 v3184 k0_t77 k0_t78 (BitVec.ofNat 32 (16 * r.val))) a + S16.size a ≤ S80896.size a := fun i v3122 v3126 v3128 v3130 v3182 v3184 k0_hw17 k0_t77 k0_t78 k0_h21 r => k0_hw17.2.2.2.2.2.2.2.2.2.2.1 k0_t77 k0_t78 k0_h21 r
theorem k0_t79_ok : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t77 : Fin (k0_t77_loop v3126 v3128 v3130).trips), ∀ (k0_h21 : k0_cond21 v3184 = 1#1), (k0_t79_loop v3184).OK := fun i v3122 v3126 v3128 v3130 v3182 v3184 k0_hw17 k0_t77 k0_h21 => k0_hw17.2.2.2.2.2.2.2.2.2.2.2.1 k0_t77 k0_h21
theorem k0_off155_inb : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t77 : Fin (k0_t77_loop v3126 v3128 v3130).trips) (k0_t79 : Fin (k0_t79_loop v3184).trips), ∀ (k0_h21 : k0_cond21 v3184 = 1#1), ∀ (r : Fin 4), ∀ a, (k0_off155 i v3122 v3126 v3128 v3130 v3182 v3184 k0_t77 k0_t79 (BitVec.ofNat 32 (16 * r.val))) a + S16.size a ≤ S80896.size a := fun i v3122 v3126 v3128 v3130 v3182 v3184 k0_hw17 k0_t77 k0_t79 k0_h21 r => k0_hw17.2.2.2.2.2.2.2.2.2.2.2.2.1 k0_t77 k0_t79 k0_h21 r
theorem k0_off156_inb : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t77 : Fin (k0_t77_loop v3126 v3128 v3130).trips), ∀ (k0_h21 : k0_cond21 v3184 = 1#1), ∀ (r : Fin 4), ∀ a, (k0_off156 v3126 v3128 v3130 k0_t77 (BitVec.ofNat 32 (16 * r.val))) a + S1x16.size a ≤ S7x880.size a := fun i v3122 v3126 v3128 v3130 v3182 v3184 k0_hw17 k0_t77 k0_h21 r => k0_hw17.2.2.2.2.2.2.2.2.2.2.2.2.2.1 k0_t77 k0_h21 r
theorem k0_t80_ok : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184), ∀ (k0_h22 : k0_cond22 v3184 = 1#1), (k0_t80_loop v3126 v3128 v3130).OK := fun i v3122 v3126 v3128 v3130 v3182 v3184 k0_hw17 k0_h22 => k0_hw17.2.2.2.2.2.2.2.2.2.2.2.2.2.2.1 k0_h22
theorem k0_off157_inb : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t80 : Fin (k0_t80_loop v3126 v3128 v3130).trips), ∀ (k0_h22 : k0_cond22 v3184 = 1#1), ∀ (r : Fin 4), ∀ a, (k0_off157 v3126 v3128 v3130 k0_t80 (BitVec.ofNat 32 (16 * r.val))) a + S1x16.size a ≤ S7x880.size a := fun i v3122 v3126 v3128 v3130 v3182 v3184 k0_hw17 k0_t80 k0_h22 r => k0_hw17.2.2.2.2.2.2.2.2.2.2.2.2.2.2.2.1 k0_t80 k0_h22 r
theorem k0_t81_ok : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184), ∀ (k0_h22 : k0_cond22 v3184 = 1#1), (k0_t81_loop v3126 v3128 v3130).OK := fun i v3122 v3126 v3128 v3130 v3182 v3184 k0_hw17 k0_h22 => k0_hw17.2.2.2.2.2.2.2.2.2.2.2.2.2.2.2.2.1 k0_h22
theorem k0_off158_inb : ∀ (i : grid0.Coords) (v3122 : BitVec 32) (v3126 : BitVec 32) (v3128 : BitVec 32) (v3130 : BitVec 32) (v3182 : BitVec 32) (v3184 : BitVec 32) (k0_hw17 : k0_chk17 i v3122 v3126 v3128 v3130 v3182 v3184) (k0_t81 : Fin (k0_t81_loop v3126 v3128 v3130).trips), ∀ (k0_h22 : k0_cond22 v3184 = 1#1), ∀ (r : Fin 4), ∀ a, (k0_off158 v3126 v3128 v3130 k0_t81 (BitVec.ofNat 32 (16 * r.val))) a + S1x16.size a ≤ S7x880.size a := fun i v3122 v3126 v3128 v3130 v3182 v3184 k0_hw17 k0_t81 k0_h22 r => k0_hw17.2.2.2.2.2.2.2.2.2.2.2.2.2.2.2.2.2 k0_t81 k0_h22 r

@[reducible] def k0_t82_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond23 (v3199 : BitVec 32) : BitVec 1 :=
  let c0_i32_811 : BitVec 32 := 0#32
  let v3205 : BitVec 1 := Scalar.cmpi .sgt v3199 c0_i32_811
  let v3206 : BitVec 32 := Scalar.extui v3205
  let c0_i32_812 : BitVec 32 := 0#32
  let v3207 : BitVec 1 := Scalar.cmpi .ne v3206 c0_i32_812
  v3207

def k0_off159 (i : grid0.Coords) (v3122 : BitVec 32) (v3126 : BitVec 32) (v3128 : BitVec 32) (v3130 : BitVec 32) (v3197 : BitVec 32) (k0_t82 : Fin (k0_t82_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_808 : BitVec 32 := 2500#32
  let v3200 : BitVec 32 := Scalar.muli v3124 c2500_i32_808
  let c50_i32_809 : BitVec 32 := 50#32
  let v3201 : BitVec 32 := Scalar.muli v3197 c50_i32_809
  let v3202 : BitVec 32 := Scalar.addi v3200 v3201
  let v3203 : BitVec 32 := Scalar.addi v3202 v3126
  let c16_i32_810 : BitVec 32 := 16#32
  let v3204 : BitVec 32 := Scalar.muli v3203 c16_i32_810
  let c0_i32_1528 : BitVec 32 := 0#32
  let c1_i32_1531 : BitVec 32 := 1#32
  let arg13 : BitVec 32 := Scf.iv c0_i32_1528 c1_i32_1531 k0_t82
  let c64_i32 : BitVec 32 := 64#32
  let v6169 : BitVec 32 := Scalar.muli arg13 c64_i32
  let v6170 : BitVec 32 := Scalar.addi v3204 v6169
  let v6171 : BitVec 32 := Scalar.addi v6170 c0_i32_1533
  let v6172 : Index := Scalar.indexCast v6171
  ![v6172.toNat]
@[reducible] def k0_t83_loop (v3199 : BitVec 32) : Scf.Loop 32 :=
  let c1_i32_1536 : BitVec 32 := 1#32
  let v6187 : BitVec 32 := Scalar.subi v3199 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off160 (i : grid0.Coords) (v3122 : BitVec 32) (v3126 : BitVec 32) (v3128 : BitVec 32) (v3130 : BitVec 32) (v3197 : BitVec 32) (v3199 : BitVec 32) (k0_t82 : Fin (k0_t82_loop v3126 v3128 v3130).trips) (k0_t83 : Fin (k0_t83_loop v3199).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_808 : BitVec 32 := 2500#32
  let v3200 : BitVec 32 := Scalar.muli v3124 c2500_i32_808
  let c50_i32_809 : BitVec 32 := 50#32
  let v3201 : BitVec 32 := Scalar.muli v3197 c50_i32_809
  let v3202 : BitVec 32 := Scalar.addi v3200 v3201
  let v3203 : BitVec 32 := Scalar.addi v3202 v3126
  let c16_i32_810 : BitVec 32 := 16#32
  let v3204 : BitVec 32 := Scalar.muli v3203 c16_i32_810
  let c0_i32_1528 : BitVec 32 := 0#32
  let c1_i32_1531 : BitVec 32 := 1#32
  let arg13 : BitVec 32 := Scf.iv c0_i32_1528 c1_i32_1531 k0_t82
  let c64_i32 : BitVec 32 := 64#32
  let v6169 : BitVec 32 := Scalar.muli arg13 c64_i32
  let v6170 : BitVec 32 := Scalar.addi v3204 v6169
  let c1_i32_1536 : BitVec 32 := 1#32
  let c1_i32_1538 : BitVec 32 := 1#32
  let arg15 : BitVec 32 := Scf.iv c1_i32_1536 c1_i32_1538 k0_t83
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t84_loop (v3199 : BitVec 32) : Scf.Loop 32 :=
  let c1_i32_1536 : BitVec 32 := 1#32
  let v6187 : BitVec 32 := Scalar.subi v3199 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off161 (i : grid0.Coords) (v3122 : BitVec 32) (v3126 : BitVec 32) (v3128 : BitVec 32) (v3130 : BitVec 32) (v3197 : BitVec 32) (v3199 : BitVec 32) (k0_t82 : Fin (k0_t82_loop v3126 v3128 v3130).trips) (k0_t84 : Fin (k0_t84_loop v3199).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_808 : BitVec 32 := 2500#32
  let v3200 : BitVec 32 := Scalar.muli v3124 c2500_i32_808
  let c50_i32_809 : BitVec 32 := 50#32
  let v3201 : BitVec 32 := Scalar.muli v3197 c50_i32_809
  let v3202 : BitVec 32 := Scalar.addi v3200 v3201
  let v3203 : BitVec 32 := Scalar.addi v3202 v3126
  let c16_i32_810 : BitVec 32 := 16#32
  let v3204 : BitVec 32 := Scalar.muli v3203 c16_i32_810
  let c0_i32_1528 : BitVec 32 := 0#32
  let c1_i32_1531 : BitVec 32 := 1#32
  let arg13 : BitVec 32 := Scf.iv c0_i32_1528 c1_i32_1531 k0_t82
  let c64_i32 : BitVec 32 := 64#32
  let v6169 : BitVec 32 := Scalar.muli arg13 c64_i32
  let v6170 : BitVec 32 := Scalar.addi v3204 v6169
  let c1_i32_1536 : BitVec 32 := 1#32
  let v6187 : BitVec 32 := Scalar.subi v3199 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t84
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off162 (v3126 : BitVec 32) (v3128 : BitVec 32) (v3130 : BitVec 32) (k0_t82 : Fin (k0_t82_loop v3126 v3128 v3130).trips) (c0_i32_1541 : BitVec 32) : Fin 2 → Nat :=
  let c3_i32_1542 : BitVec 32 := 3#32
  let v6196 : Index := Scalar.indexCast c3_i32_1542
  let c0_i32_1528 : BitVec 32 := 0#32
  let c1_i32_1531 : BitVec 32 := 1#32
  let arg13 : BitVec 32 := Scf.iv c0_i32_1528 c1_i32_1531 k0_t82
  let c64_i32_1540 : BitVec 32 := 64#32
  let v6194 : BitVec 32 := Scalar.muli arg13 c64_i32_1540
  let v6195 : BitVec 32 := Scalar.addi v6194 c0_i32_1541
  let v6197 : Index := Scalar.indexCast v6195
  ![3, v6197.toNat]
@[reducible] def k0_t85_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off163 (i : grid0.Coords) (v3122 : BitVec 32) (v3126 : BitVec 32) (v3128 : BitVec 32) (v3130 : BitVec 32) (v3197 : BitVec 32) (k0_t85 : Fin (k0_t85_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_808 : BitVec 32 := 2500#32
  let v3200 : BitVec 32 := Scalar.muli v3124 c2500_i32_808
  let c50_i32_809 : BitVec 32 := 50#32
  let v3201 : BitVec 32 := Scalar.muli v3197 c50_i32_809
  let v3202 : BitVec 32 := Scalar.addi v3200 v3201
  let v3203 : BitVec 32 := Scalar.addi v3202 v3126
  let c16_i32_810 : BitVec 32 := 16#32
  let v3204 : BitVec 32 := Scalar.muli v3203 c16_i32_810
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t85
  let c64_i32 : BitVec 32 := 64#32
  let v6169 : BitVec 32 := Scalar.muli arg13 c64_i32
  let v6170 : BitVec 32 := Scalar.addi v3204 v6169
  let v6171 : BitVec 32 := Scalar.addi v6170 c0_i32_1533
  let v6172 : Index := Scalar.indexCast v6171
  ![v6172.toNat]
@[reducible] def k0_t86_loop (v3199 : BitVec 32) : Scf.Loop 32 :=
  let c1_i32_1536 : BitVec 32 := 1#32
  let v6187 : BitVec 32 := Scalar.subi v3199 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off164 (i : grid0.Coords) (v3122 : BitVec 32) (v3126 : BitVec 32) (v3128 : BitVec 32) (v3130 : BitVec 32) (v3197 : BitVec 32) (v3199 : BitVec 32) (k0_t85 : Fin (k0_t85_loop v3126 v3128 v3130).trips) (k0_t86 : Fin (k0_t86_loop v3199).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_808 : BitVec 32 := 2500#32
  let v3200 : BitVec 32 := Scalar.muli v3124 c2500_i32_808
  let c50_i32_809 : BitVec 32 := 50#32
  let v3201 : BitVec 32 := Scalar.muli v3197 c50_i32_809
  let v3202 : BitVec 32 := Scalar.addi v3200 v3201
  let v3203 : BitVec 32 := Scalar.addi v3202 v3126
  let c16_i32_810 : BitVec 32 := 16#32
  let v3204 : BitVec 32 := Scalar.muli v3203 c16_i32_810
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t85
  let c64_i32 : BitVec 32 := 64#32
  let v6169 : BitVec 32 := Scalar.muli arg13 c64_i32
  let v6170 : BitVec 32 := Scalar.addi v3204 v6169
  let c1_i32_1536 : BitVec 32 := 1#32
  let c1_i32_1538 : BitVec 32 := 1#32
  let arg15 : BitVec 32 := Scf.iv c1_i32_1536 c1_i32_1538 k0_t86
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t87_loop (v3199 : BitVec 32) : Scf.Loop 32 :=
  let c1_i32_1536 : BitVec 32 := 1#32
  let v6187 : BitVec 32 := Scalar.subi v3199 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off165 (i : grid0.Coords) (v3122 : BitVec 32) (v3126 : BitVec 32) (v3128 : BitVec 32) (v3130 : BitVec 32) (v3197 : BitVec 32) (v3199 : BitVec 32) (k0_t85 : Fin (k0_t85_loop v3126 v3128 v3130).trips) (k0_t87 : Fin (k0_t87_loop v3199).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_808 : BitVec 32 := 2500#32
  let v3200 : BitVec 32 := Scalar.muli v3124 c2500_i32_808
  let c50_i32_809 : BitVec 32 := 50#32
  let v3201 : BitVec 32 := Scalar.muli v3197 c50_i32_809
  let v3202 : BitVec 32 := Scalar.addi v3200 v3201
  let v3203 : BitVec 32 := Scalar.addi v3202 v3126
  let c16_i32_810 : BitVec 32 := 16#32
  let v3204 : BitVec 32 := Scalar.muli v3203 c16_i32_810
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t85
  let c64_i32 : BitVec 32 := 64#32
  let v6169 : BitVec 32 := Scalar.muli arg13 c64_i32
  let v6170 : BitVec 32 := Scalar.addi v3204 v6169
  let c1_i32_1536 : BitVec 32 := 1#32
  let v6187 : BitVec 32 := Scalar.subi v3199 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t87
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off166 (v3126 : BitVec 32) (v3128 : BitVec 32) (v3130 : BitVec 32) (k0_t85 : Fin (k0_t85_loop v3126 v3128 v3130).trips) (c0_i32_1541 : BitVec 32) : Fin 2 → Nat :=
  let c3_i32_1542 : BitVec 32 := 3#32
  let v6196 : Index := Scalar.indexCast c3_i32_1542
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t85
  let c64_i32_1540 : BitVec 32 := 64#32
  let v6194 : BitVec 32 := Scalar.muli arg13 c64_i32_1540
  let v6195 : BitVec 32 := Scalar.addi v6194 c0_i32_1541
  let v6197 : Index := Scalar.indexCast v6195
  ![3, v6197.toNat]
@[reducible] def k0_t88_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond24 (v3199 : BitVec 32) : BitVec 1 :=
  let c0_i32_813 : BitVec 32 := 0#32
  let v3208 : BitVec 1 := Scalar.cmpi .eq v3199 c0_i32_813
  let v3209 : BitVec 32 := Scalar.extui v3208
  let c0_i32_814 : BitVec 32 := 0#32
  let v3210 : BitVec 1 := Scalar.cmpi .ne v3209 c0_i32_814
  v3210

def k0_off167 (v3126 : BitVec 32) (v3128 : BitVec 32) (v3130 : BitVec 32) (k0_t88 : Fin (k0_t88_loop v3126 v3128 v3130).trips) (c0_i32_1533 : BitVec 32) : Fin 2 → Nat :=
  let c3_i32_1534 : BitVec 32 := 3#32
  let v6171 : Index := Scalar.indexCast c3_i32_1534
  let c0_i32_1528 : BitVec 32 := 0#32
  let c1_i32_1531 : BitVec 32 := 1#32
  let arg13 : BitVec 32 := Scf.iv c0_i32_1528 c1_i32_1531 k0_t88
  let c64_i32 : BitVec 32 := 64#32
  let v6169 : BitVec 32 := Scalar.muli arg13 c64_i32
  let v6170 : BitVec 32 := Scalar.addi v6169 c0_i32_1533
  let v6172 : Index := Scalar.indexCast v6170
  ![3, v6172.toNat]
@[reducible] def k0_t89_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off168 (v3126 : BitVec 32) (v3128 : BitVec 32) (v3130 : BitVec 32) (k0_t89 : Fin (k0_t89_loop v3126 v3128 v3130).trips) (c0_i32_1533 : BitVec 32) : Fin 2 → Nat :=
  let c3_i32_1534 : BitVec 32 := 3#32
  let v6171 : Index := Scalar.indexCast c3_i32_1534
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t89
  let c64_i32 : BitVec 32 := 64#32
  let v6169 : BitVec 32 := Scalar.muli arg13 c64_i32
  let v6170 : BitVec 32 := Scalar.addi v6169 c0_i32_1533
  let v6172 : Index := Scalar.indexCast v6170
  ![3, v6172.toNat]

def k0_chk18 (i : grid0.Coords) (v3122 : BitVec 32) (v3126 : BitVec 32) (v3128 : BitVec 32) (v3130 : BitVec 32) (v3197 : BitVec 32) (v3199 : BitVec 32) : Prop :=
  (∀ (k0_h23 : k0_cond23 v3199 = 1#1), (k0_t82_loop v3126 v3128 v3130).OK) ∧
  (∀ k0_t82 : Fin (k0_t82_loop v3126 v3128 v3130).trips, ∀ (k0_h23 : k0_cond23 v3199 = 1#1), ∀ (r : Fin 4), ∀ a, (k0_off159 i v3122 v3126 v3128 v3130 v3197 k0_t82 (BitVec.ofNat 32 (16 * r.val))) a + S16.size a ≤ S80896.size a) ∧
  (∀ k0_t82 : Fin (k0_t82_loop v3126 v3128 v3130).trips, ∀ (k0_h23 : k0_cond23 v3199 = 1#1), (k0_t83_loop v3199).OK) ∧
  (∀ (k0_t82 : Fin (k0_t82_loop v3126 v3128 v3130).trips) (k0_t83 : Fin (k0_t83_loop v3199).trips), ∀ (k0_h23 : k0_cond23 v3199 = 1#1), ∀ (r : Fin 4), ∀ a, (k0_off160 i v3122 v3126 v3128 v3130 v3197 v3199 k0_t82 k0_t83 (BitVec.ofNat 32 (16 * r.val))) a + S16.size a ≤ S80896.size a) ∧
  (∀ k0_t82 : Fin (k0_t82_loop v3126 v3128 v3130).trips, ∀ (k0_h23 : k0_cond23 v3199 = 1#1), (k0_t84_loop v3199).OK) ∧
  (∀ (k0_t82 : Fin (k0_t82_loop v3126 v3128 v3130).trips) (k0_t84 : Fin (k0_t84_loop v3199).trips), ∀ (k0_h23 : k0_cond23 v3199 = 1#1), ∀ (r : Fin 4), ∀ a, (k0_off161 i v3122 v3126 v3128 v3130 v3197 v3199 k0_t82 k0_t84 (BitVec.ofNat 32 (16 * r.val))) a + S16.size a ≤ S80896.size a) ∧
  (∀ k0_t82 : Fin (k0_t82_loop v3126 v3128 v3130).trips, ∀ (k0_h23 : k0_cond23 v3199 = 1#1), ∀ (r : Fin 4), ∀ a, (k0_off162 v3126 v3128 v3130 k0_t82 (BitVec.ofNat 32 (16 * r.val))) a + S1x16.size a ≤ S7x880.size a) ∧
  (∀ (k0_h23 : k0_cond23 v3199 = 1#1), (k0_t85_loop v3126 v3128 v3130).OK) ∧
  (∀ k0_t85 : Fin (k0_t85_loop v3126 v3128 v3130).trips, ∀ (k0_h23 : k0_cond23 v3199 = 1#1), ∀ (r : Fin 4), ∀ a, (k0_off163 i v3122 v3126 v3128 v3130 v3197 k0_t85 (BitVec.ofNat 32 (16 * r.val))) a + S16.size a ≤ S80896.size a) ∧
  (∀ k0_t85 : Fin (k0_t85_loop v3126 v3128 v3130).trips, ∀ (k0_h23 : k0_cond23 v3199 = 1#1), (k0_t86_loop v3199).OK) ∧
  (∀ (k0_t85 : Fin (k0_t85_loop v3126 v3128 v3130).trips) (k0_t86 : Fin (k0_t86_loop v3199).trips), ∀ (k0_h23 : k0_cond23 v3199 = 1#1), ∀ (r : Fin 4), ∀ a, (k0_off164 i v3122 v3126 v3128 v3130 v3197 v3199 k0_t85 k0_t86 (BitVec.ofNat 32 (16 * r.val))) a + S16.size a ≤ S80896.size a) ∧
  (∀ k0_t85 : Fin (k0_t85_loop v3126 v3128 v3130).trips, ∀ (k0_h23 : k0_cond23 v3199 = 1#1), (k0_t87_loop v3199).OK) ∧
  (∀ (k0_t85 : Fin (k0_t85_loop v3126 v3128 v3130).trips) (k0_t87 : Fin (k0_t87_loop v3199).trips), ∀ (k0_h23 : k0_cond23 v3199 = 1#1), ∀ (r : Fin 4), ∀ a, (k0_off165 i v3122 v3126 v3128 v3130 v3197 v3199 k0_t85 k0_t87 (BitVec.ofNat 32 (16 * r.val))) a + S16.size a ≤ S80896.size a) ∧
  (∀ k0_t85 : Fin (k0_t85_loop v3126 v3128 v3130).trips, ∀ (k0_h23 : k0_cond23 v3199 = 1#1), ∀ (r : Fin 4), ∀ a, (k0_off166 v3126 v3128 v3130 k0_t85 (BitVec.ofNat 32 (16 * r.val))) a + S1x16.size a ≤ S7x880.size a) ∧
  (∀ (k0_h24 : k0_cond24 v3199 = 1#1), (k0_t88_loop v3126 v3128 v3130).OK) ∧
  (∀ k0_t88 : Fin (k0_t88_loop v3126 v3128 v3130).trips, ∀ (k0_h24 : k0_cond24 v3199 = 1#1), ∀ (r : Fin 4), ∀ a, (k0_off167 v3126 v3128 v3130 k0_t88 (BitVec.ofNat 32 (16 * r.val))) a + S1x16.size a ≤ S7x880.size a) ∧
  (∀ (k0_h24 : k0_cond24 v3199 = 1#1), (k0_t89_loop v3126 v3128 v3130).OK) ∧
  (∀ k0_t89 : Fin (k0_t89_loop v3126 v3128 v3130).trips, ∀ (k0_h24 : k0_cond24 v3199 = 1#1), ∀ (r : Fin 4), ∀ a, (k0_off168 v3126 v3128 v3130 k0_t89 (BitVec.ofNat 32 (16 * r.val))) a + S1x16.size a ≤ S7x880.size a)
theorem k0_t82_ok : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199), ∀ (k0_h23 : k0_cond23 v3199 = 1#1), (k0_t82_loop v3126 v3128 v3130).OK := fun i v3122 v3126 v3128 v3130 v3197 v3199 k0_hw18 k0_h23 => k0_hw18.1 k0_h23
theorem k0_off159_inb : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t82 : Fin (k0_t82_loop v3126 v3128 v3130).trips), ∀ (k0_h23 : k0_cond23 v3199 = 1#1), ∀ (r : Fin 4), ∀ a, (k0_off159 i v3122 v3126 v3128 v3130 v3197 k0_t82 (BitVec.ofNat 32 (16 * r.val))) a + S16.size a ≤ S80896.size a := fun i v3122 v3126 v3128 v3130 v3197 v3199 k0_hw18 k0_t82 k0_h23 r => k0_hw18.2.1 k0_t82 k0_h23 r
theorem k0_t83_ok : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t82 : Fin (k0_t82_loop v3126 v3128 v3130).trips), ∀ (k0_h23 : k0_cond23 v3199 = 1#1), (k0_t83_loop v3199).OK := fun i v3122 v3126 v3128 v3130 v3197 v3199 k0_hw18 k0_t82 k0_h23 => k0_hw18.2.2.1 k0_t82 k0_h23
theorem k0_off160_inb : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t82 : Fin (k0_t82_loop v3126 v3128 v3130).trips) (k0_t83 : Fin (k0_t83_loop v3199).trips), ∀ (k0_h23 : k0_cond23 v3199 = 1#1), ∀ (r : Fin 4), ∀ a, (k0_off160 i v3122 v3126 v3128 v3130 v3197 v3199 k0_t82 k0_t83 (BitVec.ofNat 32 (16 * r.val))) a + S16.size a ≤ S80896.size a := fun i v3122 v3126 v3128 v3130 v3197 v3199 k0_hw18 k0_t82 k0_t83 k0_h23 r => k0_hw18.2.2.2.1 k0_t82 k0_t83 k0_h23 r
theorem k0_t84_ok : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t82 : Fin (k0_t82_loop v3126 v3128 v3130).trips), ∀ (k0_h23 : k0_cond23 v3199 = 1#1), (k0_t84_loop v3199).OK := fun i v3122 v3126 v3128 v3130 v3197 v3199 k0_hw18 k0_t82 k0_h23 => k0_hw18.2.2.2.2.1 k0_t82 k0_h23
theorem k0_off161_inb : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t82 : Fin (k0_t82_loop v3126 v3128 v3130).trips) (k0_t84 : Fin (k0_t84_loop v3199).trips), ∀ (k0_h23 : k0_cond23 v3199 = 1#1), ∀ (r : Fin 4), ∀ a, (k0_off161 i v3122 v3126 v3128 v3130 v3197 v3199 k0_t82 k0_t84 (BitVec.ofNat 32 (16 * r.val))) a + S16.size a ≤ S80896.size a := fun i v3122 v3126 v3128 v3130 v3197 v3199 k0_hw18 k0_t82 k0_t84 k0_h23 r => k0_hw18.2.2.2.2.2.1 k0_t82 k0_t84 k0_h23 r
theorem k0_off162_inb : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t82 : Fin (k0_t82_loop v3126 v3128 v3130).trips), ∀ (k0_h23 : k0_cond23 v3199 = 1#1), ∀ (r : Fin 4), ∀ a, (k0_off162 v3126 v3128 v3130 k0_t82 (BitVec.ofNat 32 (16 * r.val))) a + S1x16.size a ≤ S7x880.size a := fun i v3122 v3126 v3128 v3130 v3197 v3199 k0_hw18 k0_t82 k0_h23 r => k0_hw18.2.2.2.2.2.2.1 k0_t82 k0_h23 r
theorem k0_t85_ok : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199), ∀ (k0_h23 : k0_cond23 v3199 = 1#1), (k0_t85_loop v3126 v3128 v3130).OK := fun i v3122 v3126 v3128 v3130 v3197 v3199 k0_hw18 k0_h23 => k0_hw18.2.2.2.2.2.2.2.1 k0_h23
theorem k0_off163_inb : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t85 : Fin (k0_t85_loop v3126 v3128 v3130).trips), ∀ (k0_h23 : k0_cond23 v3199 = 1#1), ∀ (r : Fin 4), ∀ a, (k0_off163 i v3122 v3126 v3128 v3130 v3197 k0_t85 (BitVec.ofNat 32 (16 * r.val))) a + S16.size a ≤ S80896.size a := fun i v3122 v3126 v3128 v3130 v3197 v3199 k0_hw18 k0_t85 k0_h23 r => k0_hw18.2.2.2.2.2.2.2.2.1 k0_t85 k0_h23 r
theorem k0_t86_ok : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t85 : Fin (k0_t85_loop v3126 v3128 v3130).trips), ∀ (k0_h23 : k0_cond23 v3199 = 1#1), (k0_t86_loop v3199).OK := fun i v3122 v3126 v3128 v3130 v3197 v3199 k0_hw18 k0_t85 k0_h23 => k0_hw18.2.2.2.2.2.2.2.2.2.1 k0_t85 k0_h23
theorem k0_off164_inb : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t85 : Fin (k0_t85_loop v3126 v3128 v3130).trips) (k0_t86 : Fin (k0_t86_loop v3199).trips), ∀ (k0_h23 : k0_cond23 v3199 = 1#1), ∀ (r : Fin 4), ∀ a, (k0_off164 i v3122 v3126 v3128 v3130 v3197 v3199 k0_t85 k0_t86 (BitVec.ofNat 32 (16 * r.val))) a + S16.size a ≤ S80896.size a := fun i v3122 v3126 v3128 v3130 v3197 v3199 k0_hw18 k0_t85 k0_t86 k0_h23 r => k0_hw18.2.2.2.2.2.2.2.2.2.2.1 k0_t85 k0_t86 k0_h23 r
theorem k0_t87_ok : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t85 : Fin (k0_t85_loop v3126 v3128 v3130).trips), ∀ (k0_h23 : k0_cond23 v3199 = 1#1), (k0_t87_loop v3199).OK := fun i v3122 v3126 v3128 v3130 v3197 v3199 k0_hw18 k0_t85 k0_h23 => k0_hw18.2.2.2.2.2.2.2.2.2.2.2.1 k0_t85 k0_h23
theorem k0_off165_inb : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t85 : Fin (k0_t85_loop v3126 v3128 v3130).trips) (k0_t87 : Fin (k0_t87_loop v3199).trips), ∀ (k0_h23 : k0_cond23 v3199 = 1#1), ∀ (r : Fin 4), ∀ a, (k0_off165 i v3122 v3126 v3128 v3130 v3197 v3199 k0_t85 k0_t87 (BitVec.ofNat 32 (16 * r.val))) a + S16.size a ≤ S80896.size a := fun i v3122 v3126 v3128 v3130 v3197 v3199 k0_hw18 k0_t85 k0_t87 k0_h23 r => k0_hw18.2.2.2.2.2.2.2.2.2.2.2.2.1 k0_t85 k0_t87 k0_h23 r
theorem k0_off166_inb : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t85 : Fin (k0_t85_loop v3126 v3128 v3130).trips), ∀ (k0_h23 : k0_cond23 v3199 = 1#1), ∀ (r : Fin 4), ∀ a, (k0_off166 v3126 v3128 v3130 k0_t85 (BitVec.ofNat 32 (16 * r.val))) a + S1x16.size a ≤ S7x880.size a := fun i v3122 v3126 v3128 v3130 v3197 v3199 k0_hw18 k0_t85 k0_h23 r => k0_hw18.2.2.2.2.2.2.2.2.2.2.2.2.2.1 k0_t85 k0_h23 r
theorem k0_t88_ok : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199), ∀ (k0_h24 : k0_cond24 v3199 = 1#1), (k0_t88_loop v3126 v3128 v3130).OK := fun i v3122 v3126 v3128 v3130 v3197 v3199 k0_hw18 k0_h24 => k0_hw18.2.2.2.2.2.2.2.2.2.2.2.2.2.2.1 k0_h24
theorem k0_off167_inb : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t88 : Fin (k0_t88_loop v3126 v3128 v3130).trips), ∀ (k0_h24 : k0_cond24 v3199 = 1#1), ∀ (r : Fin 4), ∀ a, (k0_off167 v3126 v3128 v3130 k0_t88 (BitVec.ofNat 32 (16 * r.val))) a + S1x16.size a ≤ S7x880.size a := fun i v3122 v3126 v3128 v3130 v3197 v3199 k0_hw18 k0_t88 k0_h24 r => k0_hw18.2.2.2.2.2.2.2.2.2.2.2.2.2.2.2.1 k0_t88 k0_h24 r
theorem k0_t89_ok : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199), ∀ (k0_h24 : k0_cond24 v3199 = 1#1), (k0_t89_loop v3126 v3128 v3130).OK := fun i v3122 v3126 v3128 v3130 v3197 v3199 k0_hw18 k0_h24 => k0_hw18.2.2.2.2.2.2.2.2.2.2.2.2.2.2.2.2.1 k0_h24
theorem k0_off168_inb : ∀ (i : grid0.Coords) (v3122 : BitVec 32) (v3126 : BitVec 32) (v3128 : BitVec 32) (v3130 : BitVec 32) (v3197 : BitVec 32) (v3199 : BitVec 32) (k0_hw18 : k0_chk18 i v3122 v3126 v3128 v3130 v3197 v3199) (k0_t89 : Fin (k0_t89_loop v3126 v3128 v3130).trips), ∀ (k0_h24 : k0_cond24 v3199 = 1#1), ∀ (r : Fin 4), ∀ a, (k0_off168 v3126 v3128 v3130 k0_t89 (BitVec.ofNat 32 (16 * r.val))) a + S1x16.size a ≤ S7x880.size a := fun i v3122 v3126 v3128 v3130 v3197 v3199 k0_hw18 k0_t89 k0_h24 r => k0_hw18.2.2.2.2.2.2.2.2.2.2.2.2.2.2.2.2.2 k0_t89 k0_h24 r

@[reducible] def k0_t90_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond25 (v3214 : BitVec 32) : BitVec 1 :=
  let c0_i32_818 : BitVec 32 := 0#32
  let v3220 : BitVec 1 := Scalar.cmpi .sgt v3214 c0_i32_818
  let v3221 : BitVec 32 := Scalar.extui v3220
  let c0_i32_819 : BitVec 32 := 0#32
  let v3222 : BitVec 1 := Scalar.cmpi .ne v3221 c0_i32_819
  v3222

def k0_off169 (i : grid0.Coords) (v3122 : BitVec 32) (v3126 : BitVec 32) (v3128 : BitVec 32) (v3130 : BitVec 32) (v3212 : BitVec 32) (k0_t90 : Fin (k0_t90_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_815 : BitVec 32 := 2500#32
  let v3215 : BitVec 32 := Scalar.muli v3124 c2500_i32_815
  let c50_i32_816 : BitVec 32 := 50#32
  let v3216 : BitVec 32 := Scalar.muli v3212 c50_i32_816
  let v3217 : BitVec 32 := Scalar.addi v3215 v3216
  let v3218 : BitVec 32 := Scalar.addi v3217 v3126
  let c16_i32_817 : BitVec 32 := 16#32
  let v3219 : BitVec 32 := Scalar.muli v3218 c16_i32_817
  let c0_i32_1528 : BitVec 32 := 0#32
  let c1_i32_1531 : BitVec 32 := 1#32
  let arg13 : BitVec 32 := Scf.iv c0_i32_1528 c1_i32_1531 k0_t90
  let c64_i32 : BitVec 32 := 64#32
  let v6169 : BitVec 32 := Scalar.muli arg13 c64_i32
  let v6170 : BitVec 32 := Scalar.addi v3219 v6169
  let v6171 : BitVec 32 := Scalar.addi v6170 c0_i32_1533
  let v6172 : Index := Scalar.indexCast v6171
  ![v6172.toNat]
@[reducible] def k0_t91_loop (v3214 : BitVec 32) : Scf.Loop 32 :=
  let c1_i32_1536 : BitVec 32 := 1#32
  let v6187 : BitVec 32 := Scalar.subi v3214 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off170 (i : grid0.Coords) (v3122 : BitVec 32) (v3126 : BitVec 32) (v3128 : BitVec 32) (v3130 : BitVec 32) (v3212 : BitVec 32) (v3214 : BitVec 32) (k0_t90 : Fin (k0_t90_loop v3126 v3128 v3130).trips) (k0_t91 : Fin (k0_t91_loop v3214).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_815 : BitVec 32 := 2500#32
  let v3215 : BitVec 32 := Scalar.muli v3124 c2500_i32_815
  let c50_i32_816 : BitVec 32 := 50#32
  let v3216 : BitVec 32 := Scalar.muli v3212 c50_i32_816
  let v3217 : BitVec 32 := Scalar.addi v3215 v3216
  let v3218 : BitVec 32 := Scalar.addi v3217 v3126
  let c16_i32_817 : BitVec 32 := 16#32
  let v3219 : BitVec 32 := Scalar.muli v3218 c16_i32_817
  let c0_i32_1528 : BitVec 32 := 0#32
  let c1_i32_1531 : BitVec 32 := 1#32
  let arg13 : BitVec 32 := Scf.iv c0_i32_1528 c1_i32_1531 k0_t90
  let c64_i32 : BitVec 32 := 64#32
  let v6169 : BitVec 32 := Scalar.muli arg13 c64_i32
  let v6170 : BitVec 32 := Scalar.addi v3219 v6169
  let c1_i32_1536 : BitVec 32 := 1#32
  let c1_i32_1538 : BitVec 32 := 1#32
  let arg15 : BitVec 32 := Scf.iv c1_i32_1536 c1_i32_1538 k0_t91
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t92_loop (v3214 : BitVec 32) : Scf.Loop 32 :=
  let c1_i32_1536 : BitVec 32 := 1#32
  let v6187 : BitVec 32 := Scalar.subi v3214 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off171 (i : grid0.Coords) (v3122 : BitVec 32) (v3126 : BitVec 32) (v3128 : BitVec 32) (v3130 : BitVec 32) (v3212 : BitVec 32) (v3214 : BitVec 32) (k0_t90 : Fin (k0_t90_loop v3126 v3128 v3130).trips) (k0_t92 : Fin (k0_t92_loop v3214).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_815 : BitVec 32 := 2500#32
  let v3215 : BitVec 32 := Scalar.muli v3124 c2500_i32_815
  let c50_i32_816 : BitVec 32 := 50#32
  let v3216 : BitVec 32 := Scalar.muli v3212 c50_i32_816
  let v3217 : BitVec 32 := Scalar.addi v3215 v3216
  let v3218 : BitVec 32 := Scalar.addi v3217 v3126
  let c16_i32_817 : BitVec 32 := 16#32
  let v3219 : BitVec 32 := Scalar.muli v3218 c16_i32_817
  let c0_i32_1528 : BitVec 32 := 0#32
  let c1_i32_1531 : BitVec 32 := 1#32
  let arg13 : BitVec 32 := Scf.iv c0_i32_1528 c1_i32_1531 k0_t90
  let c64_i32 : BitVec 32 := 64#32
  let v6169 : BitVec 32 := Scalar.muli arg13 c64_i32
  let v6170 : BitVec 32 := Scalar.addi v3219 v6169
  let c1_i32_1536 : BitVec 32 := 1#32
  let v6187 : BitVec 32 := Scalar.subi v3214 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t92
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off172 (v3126 : BitVec 32) (v3128 : BitVec 32) (v3130 : BitVec 32) (k0_t90 : Fin (k0_t90_loop v3126 v3128 v3130).trips) (c0_i32_1541 : BitVec 32) : Fin 2 → Nat :=
  let c4_i32_1542 : BitVec 32 := 4#32
  let v6196 : Index := Scalar.indexCast c4_i32_1542
  let c0_i32_1528 : BitVec 32 := 0#32
  let c1_i32_1531 : BitVec 32 := 1#32
  let arg13 : BitVec 32 := Scf.iv c0_i32_1528 c1_i32_1531 k0_t90
  let c64_i32_1540 : BitVec 32 := 64#32
  let v6194 : BitVec 32 := Scalar.muli arg13 c64_i32_1540
  let v6195 : BitVec 32 := Scalar.addi v6194 c0_i32_1541
  let v6197 : Index := Scalar.indexCast v6195
  ![4, v6197.toNat]
@[reducible] def k0_t93_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off173 (i : grid0.Coords) (v3122 : BitVec 32) (v3126 : BitVec 32) (v3128 : BitVec 32) (v3130 : BitVec 32) (v3212 : BitVec 32) (k0_t93 : Fin (k0_t93_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_815 : BitVec 32 := 2500#32
  let v3215 : BitVec 32 := Scalar.muli v3124 c2500_i32_815
  let c50_i32_816 : BitVec 32 := 50#32
  let v3216 : BitVec 32 := Scalar.muli v3212 c50_i32_816
  let v3217 : BitVec 32 := Scalar.addi v3215 v3216
  let v3218 : BitVec 32 := Scalar.addi v3217 v3126
  let c16_i32_817 : BitVec 32 := 16#32
  let v3219 : BitVec 32 := Scalar.muli v3218 c16_i32_817
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t93
  let c64_i32 : BitVec 32 := 64#32
  let v6169 : BitVec 32 := Scalar.muli arg13 c64_i32
  let v6170 : BitVec 32 := Scalar.addi v3219 v6169
  let v6171 : BitVec 32 := Scalar.addi v6170 c0_i32_1533
  let v6172 : Index := Scalar.indexCast v6171
  ![v6172.toNat]
@[reducible] def k0_t94_loop (v3214 : BitVec 32) : Scf.Loop 32 :=
  let c1_i32_1536 : BitVec 32 := 1#32
  let v6187 : BitVec 32 := Scalar.subi v3214 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off174 (i : grid0.Coords) (v3122 : BitVec 32) (v3126 : BitVec 32) (v3128 : BitVec 32) (v3130 : BitVec 32) (v3212 : BitVec 32) (v3214 : BitVec 32) (k0_t93 : Fin (k0_t93_loop v3126 v3128 v3130).trips) (k0_t94 : Fin (k0_t94_loop v3214).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_815 : BitVec 32 := 2500#32
  let v3215 : BitVec 32 := Scalar.muli v3124 c2500_i32_815
  let c50_i32_816 : BitVec 32 := 50#32
  let v3216 : BitVec 32 := Scalar.muli v3212 c50_i32_816
  let v3217 : BitVec 32 := Scalar.addi v3215 v3216
  let v3218 : BitVec 32 := Scalar.addi v3217 v3126
  let c16_i32_817 : BitVec 32 := 16#32
  let v3219 : BitVec 32 := Scalar.muli v3218 c16_i32_817
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t93
  let c64_i32 : BitVec 32 := 64#32
  let v6169 : BitVec 32 := Scalar.muli arg13 c64_i32
  let v6170 : BitVec 32 := Scalar.addi v3219 v6169
  let c1_i32_1536 : BitVec 32 := 1#32
  let c1_i32_1538 : BitVec 32 := 1#32
  let arg15 : BitVec 32 := Scf.iv c1_i32_1536 c1_i32_1538 k0_t94
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t95_loop (v3214 : BitVec 32) : Scf.Loop 32 :=
  let c1_i32_1536 : BitVec 32 := 1#32
  let v6187 : BitVec 32 := Scalar.subi v3214 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off175 (i : grid0.Coords) (v3122 : BitVec 32) (v3126 : BitVec 32) (v3128 : BitVec 32) (v3130 : BitVec 32) (v3212 : BitVec 32) (v3214 : BitVec 32) (k0_t93 : Fin (k0_t93_loop v3126 v3128 v3130).trips) (k0_t95 : Fin (k0_t95_loop v3214).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_815 : BitVec 32 := 2500#32
  let v3215 : BitVec 32 := Scalar.muli v3124 c2500_i32_815
  let c50_i32_816 : BitVec 32 := 50#32
  let v3216 : BitVec 32 := Scalar.muli v3212 c50_i32_816
  let v3217 : BitVec 32 := Scalar.addi v3215 v3216
  let v3218 : BitVec 32 := Scalar.addi v3217 v3126
  let c16_i32_817 : BitVec 32 := 16#32
  let v3219 : BitVec 32 := Scalar.muli v3218 c16_i32_817
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t93
  let c64_i32 : BitVec 32 := 64#32
  let v6169 : BitVec 32 := Scalar.muli arg13 c64_i32
  let v6170 : BitVec 32 := Scalar.addi v3219 v6169
  let c1_i32_1536 : BitVec 32 := 1#32
  let v6187 : BitVec 32 := Scalar.subi v3214 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t95
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off176 (v3126 : BitVec 32) (v3128 : BitVec 32) (v3130 : BitVec 32) (k0_t93 : Fin (k0_t93_loop v3126 v3128 v3130).trips) (c0_i32_1541 : BitVec 32) : Fin 2 → Nat :=
  let c4_i32_1542 : BitVec 32 := 4#32
  let v6196 : Index := Scalar.indexCast c4_i32_1542
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t93
  let c64_i32_1540 : BitVec 32 := 64#32
  let v6194 : BitVec 32 := Scalar.muli arg13 c64_i32_1540
  let v6195 : BitVec 32 := Scalar.addi v6194 c0_i32_1541
  let v6197 : Index := Scalar.indexCast v6195
  ![4, v6197.toNat]
@[reducible] def k0_t96_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond26 (v3214 : BitVec 32) : BitVec 1 :=
  let c0_i32_820 : BitVec 32 := 0#32
  let v3223 : BitVec 1 := Scalar.cmpi .eq v3214 c0_i32_820
  let v3224 : BitVec 32 := Scalar.extui v3223
  let c0_i32_821 : BitVec 32 := 0#32
  let v3225 : BitVec 1 := Scalar.cmpi .ne v3224 c0_i32_821
  v3225

def k0_off177 (v3126 : BitVec 32) (v3128 : BitVec 32) (v3130 : BitVec 32) (k0_t96 : Fin (k0_t96_loop v3126 v3128 v3130).trips) (c0_i32_1533 : BitVec 32) : Fin 2 → Nat :=
  let c4_i32_1534 : BitVec 32 := 4#32
  let v6171 : Index := Scalar.indexCast c4_i32_1534
  let c0_i32_1528 : BitVec 32 := 0#32
  let c1_i32_1531 : BitVec 32 := 1#32
  let arg13 : BitVec 32 := Scf.iv c0_i32_1528 c1_i32_1531 k0_t96
  let c64_i32 : BitVec 32 := 64#32
  let v6169 : BitVec 32 := Scalar.muli arg13 c64_i32
  let v6170 : BitVec 32 := Scalar.addi v6169 c0_i32_1533
  let v6172 : Index := Scalar.indexCast v6170
  ![4, v6172.toNat]
@[reducible] def k0_t97_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off178 (v3126 : BitVec 32) (v3128 : BitVec 32) (v3130 : BitVec 32) (k0_t97 : Fin (k0_t97_loop v3126 v3128 v3130).trips) (c0_i32_1533 : BitVec 32) : Fin 2 → Nat :=
  let c4_i32_1534 : BitVec 32 := 4#32
  let v6171 : Index := Scalar.indexCast c4_i32_1534
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t97
  let c64_i32 : BitVec 32 := 64#32
  let v6169 : BitVec 32 := Scalar.muli arg13 c64_i32
  let v6170 : BitVec 32 := Scalar.addi v6169 c0_i32_1533
  let v6172 : Index := Scalar.indexCast v6170
  ![4, v6172.toNat]

def k0_chk19 (i : grid0.Coords) (v3122 : BitVec 32) (v3126 : BitVec 32) (v3128 : BitVec 32) (v3130 : BitVec 32) (v3212 : BitVec 32) (v3214 : BitVec 32) : Prop :=
  (∀ (k0_h25 : k0_cond25 v3214 = 1#1), (k0_t90_loop v3126 v3128 v3130).OK) ∧
  (∀ k0_t90 : Fin (k0_t90_loop v3126 v3128 v3130).trips, ∀ (k0_h25 : k0_cond25 v3214 = 1#1), ∀ (r : Fin 4), ∀ a, (k0_off169 i v3122 v3126 v3128 v3130 v3212 k0_t90 (BitVec.ofNat 32 (16 * r.val))) a + S16.size a ≤ S80896.size a) ∧
  (∀ k0_t90 : Fin (k0_t90_loop v3126 v3128 v3130).trips, ∀ (k0_h25 : k0_cond25 v3214 = 1#1), (k0_t91_loop v3214).OK) ∧
  (∀ (k0_t90 : Fin (k0_t90_loop v3126 v3128 v3130).trips) (k0_t91 : Fin (k0_t91_loop v3214).trips), ∀ (k0_h25 : k0_cond25 v3214 = 1#1), ∀ (r : Fin 4), ∀ a, (k0_off170 i v3122 v3126 v3128 v3130 v3212 v3214 k0_t90 k0_t91 (BitVec.ofNat 32 (16 * r.val))) a + S16.size a ≤ S80896.size a) ∧
  (∀ k0_t90 : Fin (k0_t90_loop v3126 v3128 v3130).trips, ∀ (k0_h25 : k0_cond25 v3214 = 1#1), (k0_t92_loop v3214).OK) ∧
  (∀ (k0_t90 : Fin (k0_t90_loop v3126 v3128 v3130).trips) (k0_t92 : Fin (k0_t92_loop v3214).trips), ∀ (k0_h25 : k0_cond25 v3214 = 1#1), ∀ (r : Fin 4), ∀ a, (k0_off171 i v3122 v3126 v3128 v3130 v3212 v3214 k0_t90 k0_t92 (BitVec.ofNat 32 (16 * r.val))) a + S16.size a ≤ S80896.size a) ∧
  (∀ k0_t90 : Fin (k0_t90_loop v3126 v3128 v3130).trips, ∀ (k0_h25 : k0_cond25 v3214 = 1#1), ∀ (r : Fin 4), ∀ a, (k0_off172 v3126 v3128 v3130 k0_t90 (BitVec.ofNat 32 (16 * r.val))) a + S1x16.size a ≤ S7x880.size a) ∧
  (∀ (k0_h25 : k0_cond25 v3214 = 1#1), (k0_t93_loop v3126 v3128 v3130).OK) ∧
  (∀ k0_t93 : Fin (k0_t93_loop v3126 v3128 v3130).trips, ∀ (k0_h25 : k0_cond25 v3214 = 1#1), ∀ (r : Fin 4), ∀ a, (k0_off173 i v3122 v3126 v3128 v3130 v3212 k0_t93 (BitVec.ofNat 32 (16 * r.val))) a + S16.size a ≤ S80896.size a) ∧
  (∀ k0_t93 : Fin (k0_t93_loop v3126 v3128 v3130).trips, ∀ (k0_h25 : k0_cond25 v3214 = 1#1), (k0_t94_loop v3214).OK) ∧
  (∀ (k0_t93 : Fin (k0_t93_loop v3126 v3128 v3130).trips) (k0_t94 : Fin (k0_t94_loop v3214).trips), ∀ (k0_h25 : k0_cond25 v3214 = 1#1), ∀ (r : Fin 4), ∀ a, (k0_off174 i v3122 v3126 v3128 v3130 v3212 v3214 k0_t93 k0_t94 (BitVec.ofNat 32 (16 * r.val))) a + S16.size a ≤ S80896.size a) ∧
  (∀ k0_t93 : Fin (k0_t93_loop v3126 v3128 v3130).trips, ∀ (k0_h25 : k0_cond25 v3214 = 1#1), (k0_t95_loop v3214).OK) ∧
  (∀ (k0_t93 : Fin (k0_t93_loop v3126 v3128 v3130).trips) (k0_t95 : Fin (k0_t95_loop v3214).trips), ∀ (k0_h25 : k0_cond25 v3214 = 1#1), ∀ (r : Fin 4), ∀ a, (k0_off175 i v3122 v3126 v3128 v3130 v3212 v3214 k0_t93 k0_t95 (BitVec.ofNat 32 (16 * r.val))) a + S16.size a ≤ S80896.size a) ∧
  (∀ k0_t93 : Fin (k0_t93_loop v3126 v3128 v3130).trips, ∀ (k0_h25 : k0_cond25 v3214 = 1#1), ∀ (r : Fin 4), ∀ a, (k0_off176 v3126 v3128 v3130 k0_t93 (BitVec.ofNat 32 (16 * r.val))) a + S1x16.size a ≤ S7x880.size a) ∧
  (∀ (k0_h26 : k0_cond26 v3214 = 1#1), (k0_t96_loop v3126 v3128 v3130).OK) ∧
  (∀ k0_t96 : Fin (k0_t96_loop v3126 v3128 v3130).trips, ∀ (k0_h26 : k0_cond26 v3214 = 1#1), ∀ (r : Fin 4), ∀ a, (k0_off177 v3126 v3128 v3130 k0_t96 (BitVec.ofNat 32 (16 * r.val))) a + S1x16.size a ≤ S7x880.size a) ∧
  (∀ (k0_h26 : k0_cond26 v3214 = 1#1), (k0_t97_loop v3126 v3128 v3130).OK) ∧
  (∀ k0_t97 : Fin (k0_t97_loop v3126 v3128 v3130).trips, ∀ (k0_h26 : k0_cond26 v3214 = 1#1), ∀ (r : Fin 4), ∀ a, (k0_off178 v3126 v3128 v3130 k0_t97 (BitVec.ofNat 32 (16 * r.val))) a + S1x16.size a ≤ S7x880.size a)
theorem k0_t90_ok : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214), ∀ (k0_h25 : k0_cond25 v3214 = 1#1), (k0_t90_loop v3126 v3128 v3130).OK := fun i v3122 v3126 v3128 v3130 v3212 v3214 k0_hw19 k0_h25 => k0_hw19.1 k0_h25
theorem k0_off169_inb : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t90 : Fin (k0_t90_loop v3126 v3128 v3130).trips), ∀ (k0_h25 : k0_cond25 v3214 = 1#1), ∀ (r : Fin 4), ∀ a, (k0_off169 i v3122 v3126 v3128 v3130 v3212 k0_t90 (BitVec.ofNat 32 (16 * r.val))) a + S16.size a ≤ S80896.size a := fun i v3122 v3126 v3128 v3130 v3212 v3214 k0_hw19 k0_t90 k0_h25 r => k0_hw19.2.1 k0_t90 k0_h25 r
theorem k0_t91_ok : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t90 : Fin (k0_t90_loop v3126 v3128 v3130).trips), ∀ (k0_h25 : k0_cond25 v3214 = 1#1), (k0_t91_loop v3214).OK := fun i v3122 v3126 v3128 v3130 v3212 v3214 k0_hw19 k0_t90 k0_h25 => k0_hw19.2.2.1 k0_t90 k0_h25
theorem k0_off170_inb : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t90 : Fin (k0_t90_loop v3126 v3128 v3130).trips) (k0_t91 : Fin (k0_t91_loop v3214).trips), ∀ (k0_h25 : k0_cond25 v3214 = 1#1), ∀ (r : Fin 4), ∀ a, (k0_off170 i v3122 v3126 v3128 v3130 v3212 v3214 k0_t90 k0_t91 (BitVec.ofNat 32 (16 * r.val))) a + S16.size a ≤ S80896.size a := fun i v3122 v3126 v3128 v3130 v3212 v3214 k0_hw19 k0_t90 k0_t91 k0_h25 r => k0_hw19.2.2.2.1 k0_t90 k0_t91 k0_h25 r
theorem k0_t92_ok : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t90 : Fin (k0_t90_loop v3126 v3128 v3130).trips), ∀ (k0_h25 : k0_cond25 v3214 = 1#1), (k0_t92_loop v3214).OK := fun i v3122 v3126 v3128 v3130 v3212 v3214 k0_hw19 k0_t90 k0_h25 => k0_hw19.2.2.2.2.1 k0_t90 k0_h25
theorem k0_off171_inb : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t90 : Fin (k0_t90_loop v3126 v3128 v3130).trips) (k0_t92 : Fin (k0_t92_loop v3214).trips), ∀ (k0_h25 : k0_cond25 v3214 = 1#1), ∀ (r : Fin 4), ∀ a, (k0_off171 i v3122 v3126 v3128 v3130 v3212 v3214 k0_t90 k0_t92 (BitVec.ofNat 32 (16 * r.val))) a + S16.size a ≤ S80896.size a := fun i v3122 v3126 v3128 v3130 v3212 v3214 k0_hw19 k0_t90 k0_t92 k0_h25 r => k0_hw19.2.2.2.2.2.1 k0_t90 k0_t92 k0_h25 r
theorem k0_off172_inb : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t90 : Fin (k0_t90_loop v3126 v3128 v3130).trips), ∀ (k0_h25 : k0_cond25 v3214 = 1#1), ∀ (r : Fin 4), ∀ a, (k0_off172 v3126 v3128 v3130 k0_t90 (BitVec.ofNat 32 (16 * r.val))) a + S1x16.size a ≤ S7x880.size a := fun i v3122 v3126 v3128 v3130 v3212 v3214 k0_hw19 k0_t90 k0_h25 r => k0_hw19.2.2.2.2.2.2.1 k0_t90 k0_h25 r
theorem k0_t93_ok : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214), ∀ (k0_h25 : k0_cond25 v3214 = 1#1), (k0_t93_loop v3126 v3128 v3130).OK := fun i v3122 v3126 v3128 v3130 v3212 v3214 k0_hw19 k0_h25 => k0_hw19.2.2.2.2.2.2.2.1 k0_h25
theorem k0_off173_inb : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t93 : Fin (k0_t93_loop v3126 v3128 v3130).trips), ∀ (k0_h25 : k0_cond25 v3214 = 1#1), ∀ (r : Fin 4), ∀ a, (k0_off173 i v3122 v3126 v3128 v3130 v3212 k0_t93 (BitVec.ofNat 32 (16 * r.val))) a + S16.size a ≤ S80896.size a := fun i v3122 v3126 v3128 v3130 v3212 v3214 k0_hw19 k0_t93 k0_h25 r => k0_hw19.2.2.2.2.2.2.2.2.1 k0_t93 k0_h25 r
theorem k0_t94_ok : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t93 : Fin (k0_t93_loop v3126 v3128 v3130).trips), ∀ (k0_h25 : k0_cond25 v3214 = 1#1), (k0_t94_loop v3214).OK := fun i v3122 v3126 v3128 v3130 v3212 v3214 k0_hw19 k0_t93 k0_h25 => k0_hw19.2.2.2.2.2.2.2.2.2.1 k0_t93 k0_h25
theorem k0_off174_inb : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t93 : Fin (k0_t93_loop v3126 v3128 v3130).trips) (k0_t94 : Fin (k0_t94_loop v3214).trips), ∀ (k0_h25 : k0_cond25 v3214 = 1#1), ∀ (r : Fin 4), ∀ a, (k0_off174 i v3122 v3126 v3128 v3130 v3212 v3214 k0_t93 k0_t94 (BitVec.ofNat 32 (16 * r.val))) a + S16.size a ≤ S80896.size a := fun i v3122 v3126 v3128 v3130 v3212 v3214 k0_hw19 k0_t93 k0_t94 k0_h25 r => k0_hw19.2.2.2.2.2.2.2.2.2.2.1 k0_t93 k0_t94 k0_h25 r
theorem k0_t95_ok : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t93 : Fin (k0_t93_loop v3126 v3128 v3130).trips), ∀ (k0_h25 : k0_cond25 v3214 = 1#1), (k0_t95_loop v3214).OK := fun i v3122 v3126 v3128 v3130 v3212 v3214 k0_hw19 k0_t93 k0_h25 => k0_hw19.2.2.2.2.2.2.2.2.2.2.2.1 k0_t93 k0_h25
theorem k0_off175_inb : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t93 : Fin (k0_t93_loop v3126 v3128 v3130).trips) (k0_t95 : Fin (k0_t95_loop v3214).trips), ∀ (k0_h25 : k0_cond25 v3214 = 1#1), ∀ (r : Fin 4), ∀ a, (k0_off175 i v3122 v3126 v3128 v3130 v3212 v3214 k0_t93 k0_t95 (BitVec.ofNat 32 (16 * r.val))) a + S16.size a ≤ S80896.size a := fun i v3122 v3126 v3128 v3130 v3212 v3214 k0_hw19 k0_t93 k0_t95 k0_h25 r => k0_hw19.2.2.2.2.2.2.2.2.2.2.2.2.1 k0_t93 k0_t95 k0_h25 r
theorem k0_off176_inb : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t93 : Fin (k0_t93_loop v3126 v3128 v3130).trips), ∀ (k0_h25 : k0_cond25 v3214 = 1#1), ∀ (r : Fin 4), ∀ a, (k0_off176 v3126 v3128 v3130 k0_t93 (BitVec.ofNat 32 (16 * r.val))) a + S1x16.size a ≤ S7x880.size a := fun i v3122 v3126 v3128 v3130 v3212 v3214 k0_hw19 k0_t93 k0_h25 r => k0_hw19.2.2.2.2.2.2.2.2.2.2.2.2.2.1 k0_t93 k0_h25 r
theorem k0_t96_ok : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214), ∀ (k0_h26 : k0_cond26 v3214 = 1#1), (k0_t96_loop v3126 v3128 v3130).OK := fun i v3122 v3126 v3128 v3130 v3212 v3214 k0_hw19 k0_h26 => k0_hw19.2.2.2.2.2.2.2.2.2.2.2.2.2.2.1 k0_h26
theorem k0_off177_inb : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t96 : Fin (k0_t96_loop v3126 v3128 v3130).trips), ∀ (k0_h26 : k0_cond26 v3214 = 1#1), ∀ (r : Fin 4), ∀ a, (k0_off177 v3126 v3128 v3130 k0_t96 (BitVec.ofNat 32 (16 * r.val))) a + S1x16.size a ≤ S7x880.size a := fun i v3122 v3126 v3128 v3130 v3212 v3214 k0_hw19 k0_t96 k0_h26 r => k0_hw19.2.2.2.2.2.2.2.2.2.2.2.2.2.2.2.1 k0_t96 k0_h26 r
theorem k0_t97_ok : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214), ∀ (k0_h26 : k0_cond26 v3214 = 1#1), (k0_t97_loop v3126 v3128 v3130).OK := fun i v3122 v3126 v3128 v3130 v3212 v3214 k0_hw19 k0_h26 => k0_hw19.2.2.2.2.2.2.2.2.2.2.2.2.2.2.2.2.1 k0_h26
theorem k0_off178_inb : ∀ (i : grid0.Coords) (v3122 : BitVec 32) (v3126 : BitVec 32) (v3128 : BitVec 32) (v3130 : BitVec 32) (v3212 : BitVec 32) (v3214 : BitVec 32) (k0_hw19 : k0_chk19 i v3122 v3126 v3128 v3130 v3212 v3214) (k0_t97 : Fin (k0_t97_loop v3126 v3128 v3130).trips), ∀ (k0_h26 : k0_cond26 v3214 = 1#1), ∀ (r : Fin 4), ∀ a, (k0_off178 v3126 v3128 v3130 k0_t97 (BitVec.ofNat 32 (16 * r.val))) a + S1x16.size a ≤ S7x880.size a := fun i v3122 v3126 v3128 v3130 v3212 v3214 k0_hw19 k0_t97 k0_h26 r => k0_hw19.2.2.2.2.2.2.2.2.2.2.2.2.2.2.2.2.2 k0_t97 k0_h26 r

@[reducible] def k0_t98_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond27 (v3229 : BitVec 32) : BitVec 1 :=
  let c0_i32_825 : BitVec 32 := 0#32
  let v3235 : BitVec 1 := Scalar.cmpi .sgt v3229 c0_i32_825
  let v3236 : BitVec 32 := Scalar.extui v3235
  let c0_i32_826 : BitVec 32 := 0#32
  let v3237 : BitVec 1 := Scalar.cmpi .ne v3236 c0_i32_826
  v3237

def k0_off179 (i : grid0.Coords) (v3122 : BitVec 32) (v3126 : BitVec 32) (v3128 : BitVec 32) (v3130 : BitVec 32) (v3227 : BitVec 32) (k0_t98 : Fin (k0_t98_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_822 : BitVec 32 := 2500#32
  let v3230 : BitVec 32 := Scalar.muli v3124 c2500_i32_822
  let c50_i32_823 : BitVec 32 := 50#32
  let v3231 : BitVec 32 := Scalar.muli v3227 c50_i32_823
  let v3232 : BitVec 32 := Scalar.addi v3230 v3231
  let v3233 : BitVec 32 := Scalar.addi v3232 v3126
  let c16_i32_824 : BitVec 32 := 16#32
  let v3234 : BitVec 32 := Scalar.muli v3233 c16_i32_824
  let c0_i32_1528 : BitVec 32 := 0#32
  let c1_i32_1531 : BitVec 32 := 1#32
  let arg13 : BitVec 32 := Scf.iv c0_i32_1528 c1_i32_1531 k0_t98
  let c64_i32 : BitVec 32 := 64#32
  let v6169 : BitVec 32 := Scalar.muli arg13 c64_i32
  let v6170 : BitVec 32 := Scalar.addi v3234 v6169
  let v6171 : BitVec 32 := Scalar.addi v6170 c0_i32_1533
  let v6172 : Index := Scalar.indexCast v6171
  ![v6172.toNat]
@[reducible] def k0_t99_loop (v3229 : BitVec 32) : Scf.Loop 32 :=
  let c1_i32_1536 : BitVec 32 := 1#32
  let v6187 : BitVec 32 := Scalar.subi v3229 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off180 (i : grid0.Coords) (v3122 : BitVec 32) (v3126 : BitVec 32) (v3128 : BitVec 32) (v3130 : BitVec 32) (v3227 : BitVec 32) (v3229 : BitVec 32) (k0_t98 : Fin (k0_t98_loop v3126 v3128 v3130).trips) (k0_t99 : Fin (k0_t99_loop v3229).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_822 : BitVec 32 := 2500#32
  let v3230 : BitVec 32 := Scalar.muli v3124 c2500_i32_822
  let c50_i32_823 : BitVec 32 := 50#32
  let v3231 : BitVec 32 := Scalar.muli v3227 c50_i32_823
  let v3232 : BitVec 32 := Scalar.addi v3230 v3231
  let v3233 : BitVec 32 := Scalar.addi v3232 v3126
  let c16_i32_824 : BitVec 32 := 16#32
  let v3234 : BitVec 32 := Scalar.muli v3233 c16_i32_824
  let c0_i32_1528 : BitVec 32 := 0#32
  let c1_i32_1531 : BitVec 32 := 1#32
  let arg13 : BitVec 32 := Scf.iv c0_i32_1528 c1_i32_1531 k0_t98
  let c64_i32 : BitVec 32 := 64#32
  let v6169 : BitVec 32 := Scalar.muli arg13 c64_i32
  let v6170 : BitVec 32 := Scalar.addi v3234 v6169
  let c1_i32_1536 : BitVec 32 := 1#32
  let c1_i32_1538 : BitVec 32 := 1#32
  let arg15 : BitVec 32 := Scf.iv c1_i32_1536 c1_i32_1538 k0_t99
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t100_loop (v3229 : BitVec 32) : Scf.Loop 32 :=
  let c1_i32_1536 : BitVec 32 := 1#32
  let v6187 : BitVec 32 := Scalar.subi v3229 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off181 (i : grid0.Coords) (v3122 : BitVec 32) (v3126 : BitVec 32) (v3128 : BitVec 32) (v3130 : BitVec 32) (v3227 : BitVec 32) (v3229 : BitVec 32) (k0_t98 : Fin (k0_t98_loop v3126 v3128 v3130).trips) (k0_t100 : Fin (k0_t100_loop v3229).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_822 : BitVec 32 := 2500#32
  let v3230 : BitVec 32 := Scalar.muli v3124 c2500_i32_822
  let c50_i32_823 : BitVec 32 := 50#32
  let v3231 : BitVec 32 := Scalar.muli v3227 c50_i32_823
  let v3232 : BitVec 32 := Scalar.addi v3230 v3231
  let v3233 : BitVec 32 := Scalar.addi v3232 v3126
  let c16_i32_824 : BitVec 32 := 16#32
  let v3234 : BitVec 32 := Scalar.muli v3233 c16_i32_824
  let c0_i32_1528 : BitVec 32 := 0#32
  let c1_i32_1531 : BitVec 32 := 1#32
  let arg13 : BitVec 32 := Scf.iv c0_i32_1528 c1_i32_1531 k0_t98
  let c64_i32 : BitVec 32 := 64#32
  let v6169 : BitVec 32 := Scalar.muli arg13 c64_i32
  let v6170 : BitVec 32 := Scalar.addi v3234 v6169
  let c1_i32_1536 : BitVec 32 := 1#32
  let v6187 : BitVec 32 := Scalar.subi v3229 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t100
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off182 (v3126 : BitVec 32) (v3128 : BitVec 32) (v3130 : BitVec 32) (k0_t98 : Fin (k0_t98_loop v3126 v3128 v3130).trips) (c0_i32_1541 : BitVec 32) : Fin 2 → Nat :=
  let c5_i32_1542 : BitVec 32 := 5#32
  let v6196 : Index := Scalar.indexCast c5_i32_1542
  let c0_i32_1528 : BitVec 32 := 0#32
  let c1_i32_1531 : BitVec 32 := 1#32
  let arg13 : BitVec 32 := Scf.iv c0_i32_1528 c1_i32_1531 k0_t98
  let c64_i32_1540 : BitVec 32 := 64#32
  let v6194 : BitVec 32 := Scalar.muli arg13 c64_i32_1540
  let v6195 : BitVec 32 := Scalar.addi v6194 c0_i32_1541
  let v6197 : Index := Scalar.indexCast v6195
  ![5, v6197.toNat]
@[reducible] def k0_t101_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off183 (i : grid0.Coords) (v3122 : BitVec 32) (v3126 : BitVec 32) (v3128 : BitVec 32) (v3130 : BitVec 32) (v3227 : BitVec 32) (k0_t101 : Fin (k0_t101_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_822 : BitVec 32 := 2500#32
  let v3230 : BitVec 32 := Scalar.muli v3124 c2500_i32_822
  let c50_i32_823 : BitVec 32 := 50#32
  let v3231 : BitVec 32 := Scalar.muli v3227 c50_i32_823
  let v3232 : BitVec 32 := Scalar.addi v3230 v3231
  let v3233 : BitVec 32 := Scalar.addi v3232 v3126
  let c16_i32_824 : BitVec 32 := 16#32
  let v3234 : BitVec 32 := Scalar.muli v3233 c16_i32_824
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t101
  let c64_i32 : BitVec 32 := 64#32
  let v6169 : BitVec 32 := Scalar.muli arg13 c64_i32
  let v6170 : BitVec 32 := Scalar.addi v3234 v6169
  let v6171 : BitVec 32 := Scalar.addi v6170 c0_i32_1533
  let v6172 : Index := Scalar.indexCast v6171
  ![v6172.toNat]
@[reducible] def k0_t102_loop (v3229 : BitVec 32) : Scf.Loop 32 :=
  let c1_i32_1536 : BitVec 32 := 1#32
  let v6187 : BitVec 32 := Scalar.subi v3229 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off184 (i : grid0.Coords) (v3122 : BitVec 32) (v3126 : BitVec 32) (v3128 : BitVec 32) (v3130 : BitVec 32) (v3227 : BitVec 32) (v3229 : BitVec 32) (k0_t101 : Fin (k0_t101_loop v3126 v3128 v3130).trips) (k0_t102 : Fin (k0_t102_loop v3229).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_822 : BitVec 32 := 2500#32
  let v3230 : BitVec 32 := Scalar.muli v3124 c2500_i32_822
  let c50_i32_823 : BitVec 32 := 50#32
  let v3231 : BitVec 32 := Scalar.muli v3227 c50_i32_823
  let v3232 : BitVec 32 := Scalar.addi v3230 v3231
  let v3233 : BitVec 32 := Scalar.addi v3232 v3126
  let c16_i32_824 : BitVec 32 := 16#32
  let v3234 : BitVec 32 := Scalar.muli v3233 c16_i32_824
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t101
  let c64_i32 : BitVec 32 := 64#32
  let v6169 : BitVec 32 := Scalar.muli arg13 c64_i32
  let v6170 : BitVec 32 := Scalar.addi v3234 v6169
  let c1_i32_1536 : BitVec 32 := 1#32
  let c1_i32_1538 : BitVec 32 := 1#32
  let arg15 : BitVec 32 := Scf.iv c1_i32_1536 c1_i32_1538 k0_t102
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t103_loop (v3229 : BitVec 32) : Scf.Loop 32 :=
  let c1_i32_1536 : BitVec 32 := 1#32
  let v6187 : BitVec 32 := Scalar.subi v3229 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off185 (i : grid0.Coords) (v3122 : BitVec 32) (v3126 : BitVec 32) (v3128 : BitVec 32) (v3130 : BitVec 32) (v3227 : BitVec 32) (v3229 : BitVec 32) (k0_t101 : Fin (k0_t101_loop v3126 v3128 v3130).trips) (k0_t103 : Fin (k0_t103_loop v3229).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_822 : BitVec 32 := 2500#32
  let v3230 : BitVec 32 := Scalar.muli v3124 c2500_i32_822
  let c50_i32_823 : BitVec 32 := 50#32
  let v3231 : BitVec 32 := Scalar.muli v3227 c50_i32_823
  let v3232 : BitVec 32 := Scalar.addi v3230 v3231
  let v3233 : BitVec 32 := Scalar.addi v3232 v3126
  let c16_i32_824 : BitVec 32 := 16#32
  let v3234 : BitVec 32 := Scalar.muli v3233 c16_i32_824
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t101
  let c64_i32 : BitVec 32 := 64#32
  let v6169 : BitVec 32 := Scalar.muli arg13 c64_i32
  let v6170 : BitVec 32 := Scalar.addi v3234 v6169
  let c1_i32_1536 : BitVec 32 := 1#32
  let v6187 : BitVec 32 := Scalar.subi v3229 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t103
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off186 (v3126 : BitVec 32) (v3128 : BitVec 32) (v3130 : BitVec 32) (k0_t101 : Fin (k0_t101_loop v3126 v3128 v3130).trips) (c0_i32_1541 : BitVec 32) : Fin 2 → Nat :=
  let c5_i32_1542 : BitVec 32 := 5#32
  let v6196 : Index := Scalar.indexCast c5_i32_1542
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t101
  let c64_i32_1540 : BitVec 32 := 64#32
  let v6194 : BitVec 32 := Scalar.muli arg13 c64_i32_1540
  let v6195 : BitVec 32 := Scalar.addi v6194 c0_i32_1541
  let v6197 : Index := Scalar.indexCast v6195
  ![5, v6197.toNat]
@[reducible] def k0_t104_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond28 (v3229 : BitVec 32) : BitVec 1 :=
  let c0_i32_827 : BitVec 32 := 0#32
  let v3238 : BitVec 1 := Scalar.cmpi .eq v3229 c0_i32_827
  let v3239 : BitVec 32 := Scalar.extui v3238
  let c0_i32_828 : BitVec 32 := 0#32
  let v3240 : BitVec 1 := Scalar.cmpi .ne v3239 c0_i32_828
  v3240

def k0_off187 (v3126 : BitVec 32) (v3128 : BitVec 32) (v3130 : BitVec 32) (k0_t104 : Fin (k0_t104_loop v3126 v3128 v3130).trips) (c0_i32_1533 : BitVec 32) : Fin 2 → Nat :=
  let c5_i32_1534 : BitVec 32 := 5#32
  let v6171 : Index := Scalar.indexCast c5_i32_1534
  let c0_i32_1528 : BitVec 32 := 0#32
  let c1_i32_1531 : BitVec 32 := 1#32
  let arg13 : BitVec 32 := Scf.iv c0_i32_1528 c1_i32_1531 k0_t104
  let c64_i32 : BitVec 32 := 64#32
  let v6169 : BitVec 32 := Scalar.muli arg13 c64_i32
  let v6170 : BitVec 32 := Scalar.addi v6169 c0_i32_1533
  let v6172 : Index := Scalar.indexCast v6170
  ![5, v6172.toNat]
@[reducible] def k0_t105_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off188 (v3126 : BitVec 32) (v3128 : BitVec 32) (v3130 : BitVec 32) (k0_t105 : Fin (k0_t105_loop v3126 v3128 v3130).trips) (c0_i32_1533 : BitVec 32) : Fin 2 → Nat :=
  let c5_i32_1534 : BitVec 32 := 5#32
  let v6171 : Index := Scalar.indexCast c5_i32_1534
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t105
  let c64_i32 : BitVec 32 := 64#32
  let v6169 : BitVec 32 := Scalar.muli arg13 c64_i32
  let v6170 : BitVec 32 := Scalar.addi v6169 c0_i32_1533
  let v6172 : Index := Scalar.indexCast v6170
  ![5, v6172.toNat]

def k0_chk20 (i : grid0.Coords) (v3122 : BitVec 32) (v3126 : BitVec 32) (v3128 : BitVec 32) (v3130 : BitVec 32) (v3227 : BitVec 32) (v3229 : BitVec 32) : Prop :=
  (∀ (k0_h27 : k0_cond27 v3229 = 1#1), (k0_t98_loop v3126 v3128 v3130).OK) ∧
  (∀ k0_t98 : Fin (k0_t98_loop v3126 v3128 v3130).trips, ∀ (k0_h27 : k0_cond27 v3229 = 1#1), ∀ (r : Fin 4), ∀ a, (k0_off179 i v3122 v3126 v3128 v3130 v3227 k0_t98 (BitVec.ofNat 32 (16 * r.val))) a + S16.size a ≤ S80896.size a) ∧
  (∀ k0_t98 : Fin (k0_t98_loop v3126 v3128 v3130).trips, ∀ (k0_h27 : k0_cond27 v3229 = 1#1), (k0_t99_loop v3229).OK) ∧
  (∀ (k0_t98 : Fin (k0_t98_loop v3126 v3128 v3130).trips) (k0_t99 : Fin (k0_t99_loop v3229).trips), ∀ (k0_h27 : k0_cond27 v3229 = 1#1), ∀ (r : Fin 4), ∀ a, (k0_off180 i v3122 v3126 v3128 v3130 v3227 v3229 k0_t98 k0_t99 (BitVec.ofNat 32 (16 * r.val))) a + S16.size a ≤ S80896.size a) ∧
  (∀ k0_t98 : Fin (k0_t98_loop v3126 v3128 v3130).trips, ∀ (k0_h27 : k0_cond27 v3229 = 1#1), (k0_t100_loop v3229).OK) ∧
  (∀ (k0_t98 : Fin (k0_t98_loop v3126 v3128 v3130).trips) (k0_t100 : Fin (k0_t100_loop v3229).trips), ∀ (k0_h27 : k0_cond27 v3229 = 1#1), ∀ (r : Fin 4), ∀ a, (k0_off181 i v3122 v3126 v3128 v3130 v3227 v3229 k0_t98 k0_t100 (BitVec.ofNat 32 (16 * r.val))) a + S16.size a ≤ S80896.size a) ∧
  (∀ k0_t98 : Fin (k0_t98_loop v3126 v3128 v3130).trips, ∀ (k0_h27 : k0_cond27 v3229 = 1#1), ∀ (r : Fin 4), ∀ a, (k0_off182 v3126 v3128 v3130 k0_t98 (BitVec.ofNat 32 (16 * r.val))) a + S1x16.size a ≤ S7x880.size a) ∧
  (∀ (k0_h27 : k0_cond27 v3229 = 1#1), (k0_t101_loop v3126 v3128 v3130).OK) ∧
  (∀ k0_t101 : Fin (k0_t101_loop v3126 v3128 v3130).trips, ∀ (k0_h27 : k0_cond27 v3229 = 1#1), ∀ (r : Fin 4), ∀ a, (k0_off183 i v3122 v3126 v3128 v3130 v3227 k0_t101 (BitVec.ofNat 32 (16 * r.val))) a + S16.size a ≤ S80896.size a) ∧
  (∀ k0_t101 : Fin (k0_t101_loop v3126 v3128 v3130).trips, ∀ (k0_h27 : k0_cond27 v3229 = 1#1), (k0_t102_loop v3229).OK) ∧
  (∀ (k0_t101 : Fin (k0_t101_loop v3126 v3128 v3130).trips) (k0_t102 : Fin (k0_t102_loop v3229).trips), ∀ (k0_h27 : k0_cond27 v3229 = 1#1), ∀ (r : Fin 4), ∀ a, (k0_off184 i v3122 v3126 v3128 v3130 v3227 v3229 k0_t101 k0_t102 (BitVec.ofNat 32 (16 * r.val))) a + S16.size a ≤ S80896.size a) ∧
  (∀ k0_t101 : Fin (k0_t101_loop v3126 v3128 v3130).trips, ∀ (k0_h27 : k0_cond27 v3229 = 1#1), (k0_t103_loop v3229).OK) ∧
  (∀ (k0_t101 : Fin (k0_t101_loop v3126 v3128 v3130).trips) (k0_t103 : Fin (k0_t103_loop v3229).trips), ∀ (k0_h27 : k0_cond27 v3229 = 1#1), ∀ (r : Fin 4), ∀ a, (k0_off185 i v3122 v3126 v3128 v3130 v3227 v3229 k0_t101 k0_t103 (BitVec.ofNat 32 (16 * r.val))) a + S16.size a ≤ S80896.size a) ∧
  (∀ k0_t101 : Fin (k0_t101_loop v3126 v3128 v3130).trips, ∀ (k0_h27 : k0_cond27 v3229 = 1#1), ∀ (r : Fin 4), ∀ a, (k0_off186 v3126 v3128 v3130 k0_t101 (BitVec.ofNat 32 (16 * r.val))) a + S1x16.size a ≤ S7x880.size a) ∧
  (∀ (k0_h28 : k0_cond28 v3229 = 1#1), (k0_t104_loop v3126 v3128 v3130).OK) ∧
  (∀ k0_t104 : Fin (k0_t104_loop v3126 v3128 v3130).trips, ∀ (k0_h28 : k0_cond28 v3229 = 1#1), ∀ (r : Fin 4), ∀ a, (k0_off187 v3126 v3128 v3130 k0_t104 (BitVec.ofNat 32 (16 * r.val))) a + S1x16.size a ≤ S7x880.size a) ∧
  (∀ (k0_h28 : k0_cond28 v3229 = 1#1), (k0_t105_loop v3126 v3128 v3130).OK) ∧
  (∀ k0_t105 : Fin (k0_t105_loop v3126 v3128 v3130).trips, ∀ (k0_h28 : k0_cond28 v3229 = 1#1), ∀ (r : Fin 4), ∀ a, (k0_off188 v3126 v3128 v3130 k0_t105 (BitVec.ofNat 32 (16 * r.val))) a + S1x16.size a ≤ S7x880.size a)
theorem k0_t98_ok : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229), ∀ (k0_h27 : k0_cond27 v3229 = 1#1), (k0_t98_loop v3126 v3128 v3130).OK := fun i v3122 v3126 v3128 v3130 v3227 v3229 k0_hw20 k0_h27 => k0_hw20.1 k0_h27
theorem k0_off179_inb : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t98 : Fin (k0_t98_loop v3126 v3128 v3130).trips), ∀ (k0_h27 : k0_cond27 v3229 = 1#1), ∀ (r : Fin 4), ∀ a, (k0_off179 i v3122 v3126 v3128 v3130 v3227 k0_t98 (BitVec.ofNat 32 (16 * r.val))) a + S16.size a ≤ S80896.size a := fun i v3122 v3126 v3128 v3130 v3227 v3229 k0_hw20 k0_t98 k0_h27 r => k0_hw20.2.1 k0_t98 k0_h27 r
theorem k0_t99_ok : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t98 : Fin (k0_t98_loop v3126 v3128 v3130).trips), ∀ (k0_h27 : k0_cond27 v3229 = 1#1), (k0_t99_loop v3229).OK := fun i v3122 v3126 v3128 v3130 v3227 v3229 k0_hw20 k0_t98 k0_h27 => k0_hw20.2.2.1 k0_t98 k0_h27
theorem k0_off180_inb : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t98 : Fin (k0_t98_loop v3126 v3128 v3130).trips) (k0_t99 : Fin (k0_t99_loop v3229).trips), ∀ (k0_h27 : k0_cond27 v3229 = 1#1), ∀ (r : Fin 4), ∀ a, (k0_off180 i v3122 v3126 v3128 v3130 v3227 v3229 k0_t98 k0_t99 (BitVec.ofNat 32 (16 * r.val))) a + S16.size a ≤ S80896.size a := fun i v3122 v3126 v3128 v3130 v3227 v3229 k0_hw20 k0_t98 k0_t99 k0_h27 r => k0_hw20.2.2.2.1 k0_t98 k0_t99 k0_h27 r
theorem k0_t100_ok : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t98 : Fin (k0_t98_loop v3126 v3128 v3130).trips), ∀ (k0_h27 : k0_cond27 v3229 = 1#1), (k0_t100_loop v3229).OK := fun i v3122 v3126 v3128 v3130 v3227 v3229 k0_hw20 k0_t98 k0_h27 => k0_hw20.2.2.2.2.1 k0_t98 k0_h27
theorem k0_off181_inb : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t98 : Fin (k0_t98_loop v3126 v3128 v3130).trips) (k0_t100 : Fin (k0_t100_loop v3229).trips), ∀ (k0_h27 : k0_cond27 v3229 = 1#1), ∀ (r : Fin 4), ∀ a, (k0_off181 i v3122 v3126 v3128 v3130 v3227 v3229 k0_t98 k0_t100 (BitVec.ofNat 32 (16 * r.val))) a + S16.size a ≤ S80896.size a := fun i v3122 v3126 v3128 v3130 v3227 v3229 k0_hw20 k0_t98 k0_t100 k0_h27 r => k0_hw20.2.2.2.2.2.1 k0_t98 k0_t100 k0_h27 r
theorem k0_off182_inb : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t98 : Fin (k0_t98_loop v3126 v3128 v3130).trips), ∀ (k0_h27 : k0_cond27 v3229 = 1#1), ∀ (r : Fin 4), ∀ a, (k0_off182 v3126 v3128 v3130 k0_t98 (BitVec.ofNat 32 (16 * r.val))) a + S1x16.size a ≤ S7x880.size a := fun i v3122 v3126 v3128 v3130 v3227 v3229 k0_hw20 k0_t98 k0_h27 r => k0_hw20.2.2.2.2.2.2.1 k0_t98 k0_h27 r
theorem k0_t101_ok : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229), ∀ (k0_h27 : k0_cond27 v3229 = 1#1), (k0_t101_loop v3126 v3128 v3130).OK := fun i v3122 v3126 v3128 v3130 v3227 v3229 k0_hw20 k0_h27 => k0_hw20.2.2.2.2.2.2.2.1 k0_h27
theorem k0_off183_inb : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t101 : Fin (k0_t101_loop v3126 v3128 v3130).trips), ∀ (k0_h27 : k0_cond27 v3229 = 1#1), ∀ (r : Fin 4), ∀ a, (k0_off183 i v3122 v3126 v3128 v3130 v3227 k0_t101 (BitVec.ofNat 32 (16 * r.val))) a + S16.size a ≤ S80896.size a := fun i v3122 v3126 v3128 v3130 v3227 v3229 k0_hw20 k0_t101 k0_h27 r => k0_hw20.2.2.2.2.2.2.2.2.1 k0_t101 k0_h27 r
theorem k0_t102_ok : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t101 : Fin (k0_t101_loop v3126 v3128 v3130).trips), ∀ (k0_h27 : k0_cond27 v3229 = 1#1), (k0_t102_loop v3229).OK := fun i v3122 v3126 v3128 v3130 v3227 v3229 k0_hw20 k0_t101 k0_h27 => k0_hw20.2.2.2.2.2.2.2.2.2.1 k0_t101 k0_h27
theorem k0_off184_inb : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t101 : Fin (k0_t101_loop v3126 v3128 v3130).trips) (k0_t102 : Fin (k0_t102_loop v3229).trips), ∀ (k0_h27 : k0_cond27 v3229 = 1#1), ∀ (r : Fin 4), ∀ a, (k0_off184 i v3122 v3126 v3128 v3130 v3227 v3229 k0_t101 k0_t102 (BitVec.ofNat 32 (16 * r.val))) a + S16.size a ≤ S80896.size a := fun i v3122 v3126 v3128 v3130 v3227 v3229 k0_hw20 k0_t101 k0_t102 k0_h27 r => k0_hw20.2.2.2.2.2.2.2.2.2.2.1 k0_t101 k0_t102 k0_h27 r
theorem k0_t103_ok : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t101 : Fin (k0_t101_loop v3126 v3128 v3130).trips), ∀ (k0_h27 : k0_cond27 v3229 = 1#1), (k0_t103_loop v3229).OK := fun i v3122 v3126 v3128 v3130 v3227 v3229 k0_hw20 k0_t101 k0_h27 => k0_hw20.2.2.2.2.2.2.2.2.2.2.2.1 k0_t101 k0_h27
theorem k0_off185_inb : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t101 : Fin (k0_t101_loop v3126 v3128 v3130).trips) (k0_t103 : Fin (k0_t103_loop v3229).trips), ∀ (k0_h27 : k0_cond27 v3229 = 1#1), ∀ (r : Fin 4), ∀ a, (k0_off185 i v3122 v3126 v3128 v3130 v3227 v3229 k0_t101 k0_t103 (BitVec.ofNat 32 (16 * r.val))) a + S16.size a ≤ S80896.size a := fun i v3122 v3126 v3128 v3130 v3227 v3229 k0_hw20 k0_t101 k0_t103 k0_h27 r => k0_hw20.2.2.2.2.2.2.2.2.2.2.2.2.1 k0_t101 k0_t103 k0_h27 r
theorem k0_off186_inb : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t101 : Fin (k0_t101_loop v3126 v3128 v3130).trips), ∀ (k0_h27 : k0_cond27 v3229 = 1#1), ∀ (r : Fin 4), ∀ a, (k0_off186 v3126 v3128 v3130 k0_t101 (BitVec.ofNat 32 (16 * r.val))) a + S1x16.size a ≤ S7x880.size a := fun i v3122 v3126 v3128 v3130 v3227 v3229 k0_hw20 k0_t101 k0_h27 r => k0_hw20.2.2.2.2.2.2.2.2.2.2.2.2.2.1 k0_t101 k0_h27 r
theorem k0_t104_ok : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229), ∀ (k0_h28 : k0_cond28 v3229 = 1#1), (k0_t104_loop v3126 v3128 v3130).OK := fun i v3122 v3126 v3128 v3130 v3227 v3229 k0_hw20 k0_h28 => k0_hw20.2.2.2.2.2.2.2.2.2.2.2.2.2.2.1 k0_h28
theorem k0_off187_inb : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t104 : Fin (k0_t104_loop v3126 v3128 v3130).trips), ∀ (k0_h28 : k0_cond28 v3229 = 1#1), ∀ (r : Fin 4), ∀ a, (k0_off187 v3126 v3128 v3130 k0_t104 (BitVec.ofNat 32 (16 * r.val))) a + S1x16.size a ≤ S7x880.size a := fun i v3122 v3126 v3128 v3130 v3227 v3229 k0_hw20 k0_t104 k0_h28 r => k0_hw20.2.2.2.2.2.2.2.2.2.2.2.2.2.2.2.1 k0_t104 k0_h28 r
theorem k0_t105_ok : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229), ∀ (k0_h28 : k0_cond28 v3229 = 1#1), (k0_t105_loop v3126 v3128 v3130).OK := fun i v3122 v3126 v3128 v3130 v3227 v3229 k0_hw20 k0_h28 => k0_hw20.2.2.2.2.2.2.2.2.2.2.2.2.2.2.2.2.1 k0_h28
theorem k0_off188_inb : ∀ (i : grid0.Coords) (v3122 : BitVec 32) (v3126 : BitVec 32) (v3128 : BitVec 32) (v3130 : BitVec 32) (v3227 : BitVec 32) (v3229 : BitVec 32) (k0_hw20 : k0_chk20 i v3122 v3126 v3128 v3130 v3227 v3229) (k0_t105 : Fin (k0_t105_loop v3126 v3128 v3130).trips), ∀ (k0_h28 : k0_cond28 v3229 = 1#1), ∀ (r : Fin 4), ∀ a, (k0_off188 v3126 v3128 v3130 k0_t105 (BitVec.ofNat 32 (16 * r.val))) a + S1x16.size a ≤ S7x880.size a := fun i v3122 v3126 v3128 v3130 v3227 v3229 k0_hw20 k0_t105 k0_h28 r => k0_hw20.2.2.2.2.2.2.2.2.2.2.2.2.2.2.2.2.2 k0_t105 k0_h28 r

@[reducible] def k0_t106_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond29 (v3244 : BitVec 32) : BitVec 1 :=
  let c0_i32_832 : BitVec 32 := 0#32
  let v3250 : BitVec 1 := Scalar.cmpi .sgt v3244 c0_i32_832
  let v3251 : BitVec 32 := Scalar.extui v3250
  let c0_i32_833 : BitVec 32 := 0#32
  let v3252 : BitVec 1 := Scalar.cmpi .ne v3251 c0_i32_833
  v3252

def k0_off189 (i : grid0.Coords) (v3122 : BitVec 32) (v3126 : BitVec 32) (v3128 : BitVec 32) (v3130 : BitVec 32) (v3242 : BitVec 32) (k0_t106 : Fin (k0_t106_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_829 : BitVec 32 := 2500#32
  let v3245 : BitVec 32 := Scalar.muli v3124 c2500_i32_829
  let c50_i32_830 : BitVec 32 := 50#32
  let v3246 : BitVec 32 := Scalar.muli v3242 c50_i32_830
  let v3247 : BitVec 32 := Scalar.addi v3245 v3246
  let v3248 : BitVec 32 := Scalar.addi v3247 v3126
  let c16_i32_831 : BitVec 32 := 16#32
  let v3249 : BitVec 32 := Scalar.muli v3248 c16_i32_831
  let c0_i32_1528 : BitVec 32 := 0#32
  let c1_i32_1531 : BitVec 32 := 1#32
  let arg13 : BitVec 32 := Scf.iv c0_i32_1528 c1_i32_1531 k0_t106
  let c64_i32 : BitVec 32 := 64#32
  let v6169 : BitVec 32 := Scalar.muli arg13 c64_i32
  let v6170 : BitVec 32 := Scalar.addi v3249 v6169
  let v6171 : BitVec 32 := Scalar.addi v6170 c0_i32_1533
  let v6172 : Index := Scalar.indexCast v6171
  ![v6172.toNat]
@[reducible] def k0_t107_loop (v3244 : BitVec 32) : Scf.Loop 32 :=
  let c1_i32_1536 : BitVec 32 := 1#32
  let v6187 : BitVec 32 := Scalar.subi v3244 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off190 (i : grid0.Coords) (v3122 : BitVec 32) (v3126 : BitVec 32) (v3128 : BitVec 32) (v3130 : BitVec 32) (v3242 : BitVec 32) (v3244 : BitVec 32) (k0_t106 : Fin (k0_t106_loop v3126 v3128 v3130).trips) (k0_t107 : Fin (k0_t107_loop v3244).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_829 : BitVec 32 := 2500#32
  let v3245 : BitVec 32 := Scalar.muli v3124 c2500_i32_829
  let c50_i32_830 : BitVec 32 := 50#32
  let v3246 : BitVec 32 := Scalar.muli v3242 c50_i32_830
  let v3247 : BitVec 32 := Scalar.addi v3245 v3246
  let v3248 : BitVec 32 := Scalar.addi v3247 v3126
  let c16_i32_831 : BitVec 32 := 16#32
  let v3249 : BitVec 32 := Scalar.muli v3248 c16_i32_831
  let c0_i32_1528 : BitVec 32 := 0#32
  let c1_i32_1531 : BitVec 32 := 1#32
  let arg13 : BitVec 32 := Scf.iv c0_i32_1528 c1_i32_1531 k0_t106
  let c64_i32 : BitVec 32 := 64#32
  let v6169 : BitVec 32 := Scalar.muli arg13 c64_i32
  let v6170 : BitVec 32 := Scalar.addi v3249 v6169
  let c1_i32_1536 : BitVec 32 := 1#32
  let c1_i32_1538 : BitVec 32 := 1#32
  let arg15 : BitVec 32 := Scf.iv c1_i32_1536 c1_i32_1538 k0_t107
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t108_loop (v3244 : BitVec 32) : Scf.Loop 32 :=
  let c1_i32_1536 : BitVec 32 := 1#32
  let v6187 : BitVec 32 := Scalar.subi v3244 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off191 (i : grid0.Coords) (v3122 : BitVec 32) (v3126 : BitVec 32) (v3128 : BitVec 32) (v3130 : BitVec 32) (v3242 : BitVec 32) (v3244 : BitVec 32) (k0_t106 : Fin (k0_t106_loop v3126 v3128 v3130).trips) (k0_t108 : Fin (k0_t108_loop v3244).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_829 : BitVec 32 := 2500#32
  let v3245 : BitVec 32 := Scalar.muli v3124 c2500_i32_829
  let c50_i32_830 : BitVec 32 := 50#32
  let v3246 : BitVec 32 := Scalar.muli v3242 c50_i32_830
  let v3247 : BitVec 32 := Scalar.addi v3245 v3246
  let v3248 : BitVec 32 := Scalar.addi v3247 v3126
  let c16_i32_831 : BitVec 32 := 16#32
  let v3249 : BitVec 32 := Scalar.muli v3248 c16_i32_831
  let c0_i32_1528 : BitVec 32 := 0#32
  let c1_i32_1531 : BitVec 32 := 1#32
  let arg13 : BitVec 32 := Scf.iv c0_i32_1528 c1_i32_1531 k0_t106
  let c64_i32 : BitVec 32 := 64#32
  let v6169 : BitVec 32 := Scalar.muli arg13 c64_i32
  let v6170 : BitVec 32 := Scalar.addi v3249 v6169
  let c1_i32_1536 : BitVec 32 := 1#32
  let v6187 : BitVec 32 := Scalar.subi v3244 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t108
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off192 (v3126 : BitVec 32) (v3128 : BitVec 32) (v3130 : BitVec 32) (k0_t106 : Fin (k0_t106_loop v3126 v3128 v3130).trips) (c0_i32_1541 : BitVec 32) : Fin 2 → Nat :=
  let c6_i32_1542 : BitVec 32 := 6#32
  let v6196 : Index := Scalar.indexCast c6_i32_1542
  let c0_i32_1528 : BitVec 32 := 0#32
  let c1_i32_1531 : BitVec 32 := 1#32
  let arg13 : BitVec 32 := Scf.iv c0_i32_1528 c1_i32_1531 k0_t106
  let c64_i32_1540 : BitVec 32 := 64#32
  let v6194 : BitVec 32 := Scalar.muli arg13 c64_i32_1540
  let v6195 : BitVec 32 := Scalar.addi v6194 c0_i32_1541
  let v6197 : Index := Scalar.indexCast v6195
  ![6, v6197.toNat]
@[reducible] def k0_t109_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off193 (i : grid0.Coords) (v3122 : BitVec 32) (v3126 : BitVec 32) (v3128 : BitVec 32) (v3130 : BitVec 32) (v3242 : BitVec 32) (k0_t109 : Fin (k0_t109_loop v3126 v3128 v3130).trips) (c0_i32_1533 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_829 : BitVec 32 := 2500#32
  let v3245 : BitVec 32 := Scalar.muli v3124 c2500_i32_829
  let c50_i32_830 : BitVec 32 := 50#32
  let v3246 : BitVec 32 := Scalar.muli v3242 c50_i32_830
  let v3247 : BitVec 32 := Scalar.addi v3245 v3246
  let v3248 : BitVec 32 := Scalar.addi v3247 v3126
  let c16_i32_831 : BitVec 32 := 16#32
  let v3249 : BitVec 32 := Scalar.muli v3248 c16_i32_831
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t109
  let c64_i32 : BitVec 32 := 64#32
  let v6169 : BitVec 32 := Scalar.muli arg13 c64_i32
  let v6170 : BitVec 32 := Scalar.addi v3249 v6169
  let v6171 : BitVec 32 := Scalar.addi v6170 c0_i32_1533
  let v6172 : Index := Scalar.indexCast v6171
  ![v6172.toNat]
@[reducible] def k0_t110_loop (v3244 : BitVec 32) : Scf.Loop 32 :=
  let c1_i32_1536 : BitVec 32 := 1#32
  let v6187 : BitVec 32 := Scalar.subi v3244 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1538 : BitVec 32 := 1#32
  ⟨c1_i32_1536, v6191, c1_i32_1538⟩
def k0_off194 (i : grid0.Coords) (v3122 : BitVec 32) (v3126 : BitVec 32) (v3128 : BitVec 32) (v3130 : BitVec 32) (v3242 : BitVec 32) (v3244 : BitVec 32) (k0_t109 : Fin (k0_t109_loop v3126 v3128 v3130).trips) (k0_t110 : Fin (k0_t110_loop v3244).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_829 : BitVec 32 := 2500#32
  let v3245 : BitVec 32 := Scalar.muli v3124 c2500_i32_829
  let c50_i32_830 : BitVec 32 := 50#32
  let v3246 : BitVec 32 := Scalar.muli v3242 c50_i32_830
  let v3247 : BitVec 32 := Scalar.addi v3245 v3246
  let v3248 : BitVec 32 := Scalar.addi v3247 v3126
  let c16_i32_831 : BitVec 32 := 16#32
  let v3249 : BitVec 32 := Scalar.muli v3248 c16_i32_831
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t109
  let c64_i32 : BitVec 32 := 64#32
  let v6169 : BitVec 32 := Scalar.muli arg13 c64_i32
  let v6170 : BitVec 32 := Scalar.addi v3249 v6169
  let c1_i32_1536 : BitVec 32 := 1#32
  let c1_i32_1538 : BitVec 32 := 1#32
  let arg15 : BitVec 32 := Scf.iv c1_i32_1536 c1_i32_1538 k0_t110
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
@[reducible] def k0_t111_loop (v3244 : BitVec 32) : Scf.Loop 32 :=
  let c1_i32_1536 : BitVec 32 := 1#32
  let v6187 : BitVec 32 := Scalar.subi v3244 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let v6188 : BitVec 32 := Scalar.addi c1_i32_1536 v6187
  let c1_i32_1539 : BitVec 32 := 1#32
  ⟨v6191, v6188, c1_i32_1539⟩
def k0_off195 (i : grid0.Coords) (v3122 : BitVec 32) (v3126 : BitVec 32) (v3128 : BitVec 32) (v3130 : BitVec 32) (v3242 : BitVec 32) (v3244 : BitVec 32) (k0_t109 : Fin (k0_t109_loop v3126 v3128 v3130).trips) (k0_t111 : Fin (k0_t111_loop v3244).trips) (c0_i32_1553 : BitVec 32) : Fin 1 → Nat :=
  let c2_i32_778 : BitVec 32 := 2#32
  let arg0 : BitVec 32 := BitVec.ofNat 32 (i 0).val
  let v3123 : BitVec 32 := Scalar.muli c2_i32_778 arg0
  let v3124 : BitVec 32 := Scalar.subi v3122 v3123
  let c2500_i32_829 : BitVec 32 := 2500#32
  let v3245 : BitVec 32 := Scalar.muli v3124 c2500_i32_829
  let c50_i32_830 : BitVec 32 := 50#32
  let v3246 : BitVec 32 := Scalar.muli v3242 c50_i32_830
  let v3247 : BitVec 32 := Scalar.addi v3245 v3246
  let v3248 : BitVec 32 := Scalar.addi v3247 v3126
  let c16_i32_831 : BitVec 32 := 16#32
  let v3249 : BitVec 32 := Scalar.muli v3248 c16_i32_831
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t109
  let c64_i32 : BitVec 32 := 64#32
  let v6169 : BitVec 32 := Scalar.muli arg13 c64_i32
  let v6170 : BitVec 32 := Scalar.addi v3249 v6169
  let c1_i32_1536 : BitVec 32 := 1#32
  let v6187 : BitVec 32 := Scalar.subi v3244 c1_i32_1536
  let c1_i32_1537 : BitVec 32 := 1#32
  let v6189 : BitVec 32 := Scalar.divsi v6187 c1_i32_1537
  let v6190 : BitVec 32 := Scalar.muli v6189 c1_i32_1537
  let v6191 : BitVec 32 := Scalar.addi c1_i32_1536 v6190
  let c1_i32_1539 : BitVec 32 := 1#32
  let arg15 : BitVec 32 := Scf.iv v6191 c1_i32_1539 k0_t111
  let c800_i32 : BitVec 32 := 800#32
  let v6222 : BitVec 32 := Scalar.muli arg15 c800_i32
  let v6223 : BitVec 32 := Scalar.addi v6170 v6222
  let v6224 : BitVec 32 := Scalar.addi v6223 c0_i32_1553
  let v6225 : Index := Scalar.indexCast v6224
  ![v6225.toNat]
def k0_off196 (v3126 : BitVec 32) (v3128 : BitVec 32) (v3130 : BitVec 32) (k0_t109 : Fin (k0_t109_loop v3126 v3128 v3130).trips) (c0_i32_1541 : BitVec 32) : Fin 2 → Nat :=
  let c6_i32_1542 : BitVec 32 := 6#32
  let v6196 : Index := Scalar.indexCast c6_i32_1542
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t109
  let c64_i32_1540 : BitVec 32 := 64#32
  let v6194 : BitVec 32 := Scalar.muli arg13 c64_i32_1540
  let v6195 : BitVec 32 := Scalar.addi v6194 c0_i32_1541
  let v6197 : Index := Scalar.indexCast v6195
  ![6, v6197.toNat]
@[reducible] def k0_t112_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1531 : BitVec 32 := 1#32
  ⟨c0_i32_1528, v6166, c1_i32_1531⟩
def k0_cond30 (v3244 : BitVec 32) : BitVec 1 :=
  let c0_i32_834 : BitVec 32 := 0#32
  let v3253 : BitVec 1 := Scalar.cmpi .eq v3244 c0_i32_834
  let v3254 : BitVec 32 := Scalar.extui v3253
  let c0_i32_835 : BitVec 32 := 0#32
  let v3255 : BitVec 1 := Scalar.cmpi .ne v3254 c0_i32_835
  v3255

def k0_off197 (v3126 : BitVec 32) (v3128 : BitVec 32) (v3130 : BitVec 32) (k0_t112 : Fin (k0_t112_loop v3126 v3128 v3130).trips) (c0_i32_1533 : BitVec 32) : Fin 2 → Nat :=
  let c6_i32_1534 : BitVec 32 := 6#32
  let v6171 : Index := Scalar.indexCast c6_i32_1534
  let c0_i32_1528 : BitVec 32 := 0#32
  let c1_i32_1531 : BitVec 32 := 1#32
  let arg13 : BitVec 32 := Scf.iv c0_i32_1528 c1_i32_1531 k0_t112
  let c64_i32 : BitVec 32 := 64#32
  let v6169 : BitVec 32 := Scalar.muli arg13 c64_i32
  let v6170 : BitVec 32 := Scalar.addi v6169 c0_i32_1533
  let v6172 : Index := Scalar.indexCast v6170
  ![6, v6172.toNat]
@[reducible] def k0_t113_loop (v3126 : BitVec 32) (v3128 : BitVec 32) (v3130 : BitVec 32) : Scf.Loop 32 :=
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let v6163 : BitVec 32 := Scalar.addi c0_i32_1528 v6162
  let c1_i32_1532 : BitVec 32 := 1#32
  ⟨v6166, v6163, c1_i32_1532⟩
def k0_off198 (v3126 : BitVec 32) (v3128 : BitVec 32) (v3130 : BitVec 32) (k0_t113 : Fin (k0_t113_loop v3126 v3128 v3130).trips) (c0_i32_1533 : BitVec 32) : Fin 2 → Nat :=
  let c6_i32_1534 : BitVec 32 := 6#32
  let v6171 : Index := Scalar.indexCast c6_i32_1534
  let c0_i32_1528 : BitVec 32 := 0#32
  let v3131 : BitVec 32 := Scalar.addi v3128 v3130
  let v3132 : BitVec 32 := Scalar.subi v3131 v3126
  let c3_i32_779 : BitVec 32 := 3#32
  let v3133 : BitVec 32 := Scalar.addi v3132 c3_i32_779
  let c0_i32_781 : BitVec 32 := 0#32
  let v3135 : BitVec 1 := Scalar.cmpi .sgt v3133 c0_i32_781
  let v3136 : BitVec 32 := Scalar.extui v3135
  let c0_i32_782 : BitVec 32 := 0#32
  let v3137 : BitVec 1 := Scalar.cmpi .slt v3133 c0_i32_782
  let v3138 : BitVec 32 := Scalar.extui v3137
  let v3139 : BitVec 32 := Scalar.subi v3136 v3138
  let c4_i32_780 : BitVec 32 := 4#32
  let c0_i32_783 : BitVec 32 := 0#32
  let v3140 : BitVec 1 := Scalar.cmpi .sgt c4_i32_780 c0_i32_783
  let v3141 : BitVec 32 := Scalar.extui v3140
  let c0_i32_784 : BitVec 32 := 0#32
  let v3142 : BitVec 1 := Scalar.cmpi .slt c4_i32_780 c0_i32_784
  let v3143 : BitVec 32 := Scalar.extui v3142
  let v3144 : BitVec 32 := Scalar.subi v3141 v3143
  let v3145 : BitVec 1 := Scalar.cmpi .ne v3139 v3144
  let v3146 : BitVec 32 := Scalar.remsi v3133 c4_i32_780
  let c0_i32_785 : BitVec 32 := 0#32
  let v3147 : BitVec 1 := Scalar.cmpi .ne v3146 c0_i32_785
  let v3148 : BitVec 1 := Scalar.andi v3145 v3147
  let v3134 : BitVec 32 := Scalar.divsi v3133 c4_i32_780
  let c1_i32_786 : BitVec 32 := 1#32
  let v3149 : BitVec 32 := Scalar.subi v3134 c1_i32_786
  let v3150 : BitVec 32 := Scalar.select v3148 v3149 v3134
  let v6162 : BitVec 32 := Scalar.subi v3150 c0_i32_1528
  let c1_i32_1530 : BitVec 32 := 1#32
  let v6164 : BitVec 32 := Scalar.divsi v6162 c1_i32_1530
  let v6165 : BitVec 32 := Scalar.muli v6164 c1_i32_1530
  let v6166 : BitVec 32 := Scalar.addi c0_i32_1528 v6165
  let c1_i32_1532 : BitVec 32 := 1#32
  let arg13 : BitVec 32 := Scf.iv v6166 c1_i32_1532 k0_t113
  let c64_i32 : BitVec 32 := 64#32
  let v6169 : BitVec 32 := Scalar.muli arg13 c64_i32
  let v6170 : BitVec 32 := Scalar.addi v6169 c0_i32_1533
  let v6172 : Index := Scalar.indexCast v6170
  ![6, v6172.toNat]

def k0_chk21 (i : grid0.Coords) (v3122 : BitVec 32) (v3126 : BitVec 32) (v3128 : BitVec 32) (v3130 : BitVec 32) (v3242 : BitVec 32) (v3244 : BitVec 32) : Prop :=
  (∀ (k0_h29 : k0_cond29 v3244 = 1#1), (k0_t106_loop v3126 v3128 v3130).OK) ∧
  (∀ k0_t106 : Fin (k0_t106_loop v3126 v3128 v3130).trips, ∀ (k0_h29 : k0_cond29 v3244 = 1#1), ∀ (r : Fin 4), ∀ a, (k0_off189 i v3122 v3126 v3128 v3130 v3242 k0_t106 (BitVec.ofNat 32 (16 * r.val))) a + S16.size a ≤ S80896.size a) ∧
  (∀ k0_t106 : Fin (k0_t106_loop v3126 v3128 v3130).trips, ∀ (k0_h29 : k0_cond29 v3244 = 1#1), (k0_t107_loop v3244).OK) ∧
  (∀ (k0_t106 : Fin (k0_t106_loop v3126 v3128 v3130).trips) (k0_t107 : Fin (k0_t107_loop v3244).trips), ∀ (k0_h29 : k0_cond29 v3244 = 1#1), ∀ (r : Fin 4), ∀ a, (k0_off190 i v3122 v3126 v3128 v3130 v3242 v3244 k0_t106 k0_t107 (BitVec.ofNat 32 (16 * r.val))) a + S16.size a ≤ S80896.size a) ∧
  (∀ k0_t106 : Fin (k0_t106_loop v3126 v3128 v3130).trips, ∀ (k0_h29 : k0_cond29 v3244 = 1#1), (k0_t108_loop v3244).OK) ∧
  (∀ (k0_t106 : Fin (k0_t106_loop v3126 v3128 v3130).trips) (k0_t108 : Fin (k0_t108_loop v3244).trips), ∀ (k0_h29 : k0_cond29 v3244 = 1#1), ∀ (r : Fin 4), ∀ a, (k0_off191 i v3122 v3126 v3128 v3130 v3242 v3244 k0_t106 k0_t108 (BitVec.ofNat 32 (16 * r.val))) a + S16.size a ≤ S80896.size a) ∧
  (∀ k0_t106 : Fin (k0_t106_loop v3126 v3128 v3130).trips, ∀ (k0_h29 : k0_cond29 v3244 = 1#1), ∀ (r : Fin 4), ∀ a, (k0_off192 v3126 v3128 v3130 k0_t106 (BitVec.ofNat 32 (16 * r.val))) a + S1x16.size a ≤ S7x880.size a) ∧
  (∀ (k0_h29 : k0_cond29 v3244 = 1#1), (k0_t109_loop v3126 v3128 v3130).OK) ∧
  (∀ k0_t109 : Fin (k0_t109_loop v3126 v3128 v3130).trips, ∀ (k0_h29 : k0_cond29 v3244 = 1#1), ∀ (r : Fin 4), ∀ a, (k0_off193 i v3122 v3126 v3128 v3130 v3242 k0_t109 (BitVec.ofNat 32 (16 * r.val))) a + S16.size a ≤ S80896.size a) ∧
  (∀ k0_t109 : Fin (k0_t109_loop v3126 v3128 v3130).trips, ∀ (k0_h29 : k0_cond29 v3244 = 1#1), (k0_t110_loop v3244).OK) ∧
  (∀ (k0_t109 : Fin (k0_t109_loop v3126 v3128 v3130).trips) (k0_t110 : Fin (k0_t110_loop v3244).trips), ∀ (k0_h29 : k0_cond29 v3244 = 1#1), ∀ (r : Fin 4), ∀ a, (k0_off194 i v3122 v3126 v3128 v3130 v3242 v3244 k0_t109 k0_t110 (BitVec.ofNat 32 (16 * r.val))) a + S16.size a ≤ S80896.size a) ∧
  (∀ k0_t109 : Fin (k0_t109_loop v3126 v3128 v3130).trips, ∀ (k0_h29 : k0_cond29 v3244 = 1#1), (k0_t111_loop v3244).OK) ∧
  (∀ (k0_t109 : Fin (k0_t109_loop v3126 v3128 v3130).trips) (k0_t111 : Fin (k0_t111_loop v3244).trips), ∀ (k0_h29 : k0_cond29 v3244 = 1#1), ∀ (r : Fin 4), ∀ a, (k0_off195 i v3122 v3126 v3128 v3130 v3242 v3244 k0_t109 k0_t111 (BitVec.ofNat 32 (16 * r.val))) a + S16.size a ≤ S80896.size a) ∧
  (∀ k0_t109 : Fin (k0_t109_loop v3126 v3128 v3130).trips, ∀ (k0_h29 : k0_cond29 v3244 = 1#1), ∀ (r : Fin 4), ∀ a, (k0_off196 v3126 v3128 v3130 k0_t109 (BitVec.ofNat 32 (16 * r.val))) a + S1x16.size a ≤ S7x880.size a) ∧
  (∀ (k0_h30 : k0_cond30 v3244 = 1#1), (k0_t112_loop v3126 v3128 v3130).OK) ∧
  (∀ k0_t112 : Fin (k0_t112_loop v3126 v3128 v3130).trips, ∀ (k0_h30 : k0_cond30 v3244 = 1#1), ∀ (r : Fin 4), ∀ a, (k0_off197 v3126 v3128 v3130 k0_t112 (BitVec.ofNat 32 (16 * r.val))) a + S1x16.size a ≤ S7x880.size a) ∧
  (∀ (k0_h30 : k0_cond30 v3244 = 1#1), (k0_t113_loop v3126 v3128 v3130).OK) ∧
  (∀ k0_t113 : Fin (k0_t113_loop v3126 v3128 v3130).trips, ∀ (k0_h30 : k0_cond30 v3244 = 1#1), ∀ (r : Fin 4), ∀ a, (k0_off198 v3126 v3128 v3130 k0_t113 (BitVec.ofNat 32 (16 * r.val))) a + S1x16.size a ≤ S7x880.size a)
theorem k0_t106_ok : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244), ∀ (k0_h29 : k0_cond29 v3244 = 1#1), (k0_t106_loop v3126 v3128 v3130).OK := fun i v3122 v3126 v3128 v3130 v3242 v3244 k0_hw21 k0_h29 => k0_hw21.1 k0_h29
theorem k0_off189_inb : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t106 : Fin (k0_t106_loop v3126 v3128 v3130).trips), ∀ (k0_h29 : k0_cond29 v3244 = 1#1), ∀ (r : Fin 4), ∀ a, (k0_off189 i v3122 v3126 v3128 v3130 v3242 k0_t106 (BitVec.ofNat 32 (16 * r.val))) a + S16.size a ≤ S80896.size a := fun i v3122 v3126 v3128 v3130 v3242 v3244 k0_hw21 k0_t106 k0_h29 r => k0_hw21.2.1 k0_t106 k0_h29 r
theorem k0_t107_ok : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t106 : Fin (k0_t106_loop v3126 v3128 v3130).trips), ∀ (k0_h29 : k0_cond29 v3244 = 1#1), (k0_t107_loop v3244).OK := fun i v3122 v3126 v3128 v3130 v3242 v3244 k0_hw21 k0_t106 k0_h29 => k0_hw21.2.2.1 k0_t106 k0_h29
theorem k0_off190_inb : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t106 : Fin (k0_t106_loop v3126 v3128 v3130).trips) (k0_t107 : Fin (k0_t107_loop v3244).trips), ∀ (k0_h29 : k0_cond29 v3244 = 1#1), ∀ (r : Fin 4), ∀ a, (k0_off190 i v3122 v3126 v3128 v3130 v3242 v3244 k0_t106 k0_t107 (BitVec.ofNat 32 (16 * r.val))) a + S16.size a ≤ S80896.size a := fun i v3122 v3126 v3128 v3130 v3242 v3244 k0_hw21 k0_t106 k0_t107 k0_h29 r => k0_hw21.2.2.2.1 k0_t106 k0_t107 k0_h29 r
theorem k0_t108_ok : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t106 : Fin (k0_t106_loop v3126 v3128 v3130).trips), ∀ (k0_h29 : k0_cond29 v3244 = 1#1), (k0_t108_loop v3244).OK := fun i v3122 v3126 v3128 v3130 v3242 v3244 k0_hw21 k0_t106 k0_h29 => k0_hw21.2.2.2.2.1 k0_t106 k0_h29
theorem k0_off191_inb : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t106 : Fin (k0_t106_loop v3126 v3128 v3130).trips) (k0_t108 : Fin (k0_t108_loop v3244).trips), ∀ (k0_h29 : k0_cond29 v3244 = 1#1), ∀ (r : Fin 4), ∀ a, (k0_off191 i v3122 v3126 v3128 v3130 v3242 v3244 k0_t106 k0_t108 (BitVec.ofNat 32 (16 * r.val))) a + S16.size a ≤ S80896.size a := fun i v3122 v3126 v3128 v3130 v3242 v3244 k0_hw21 k0_t106 k0_t108 k0_h29 r => k0_hw21.2.2.2.2.2.1 k0_t106 k0_t108 k0_h29 r
theorem k0_off192_inb : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t106 : Fin (k0_t106_loop v3126 v3128 v3130).trips), ∀ (k0_h29 : k0_cond29 v3244 = 1#1), ∀ (r : Fin 4), ∀ a, (k0_off192 v3126 v3128 v3130 k0_t106 (BitVec.ofNat 32 (16 * r.val))) a + S1x16.size a ≤ S7x880.size a := fun i v3122 v3126 v3128 v3130 v3242 v3244 k0_hw21 k0_t106 k0_h29 r => k0_hw21.2.2.2.2.2.2.1 k0_t106 k0_h29 r
theorem k0_t109_ok : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244), ∀ (k0_h29 : k0_cond29 v3244 = 1#1), (k0_t109_loop v3126 v3128 v3130).OK := fun i v3122 v3126 v3128 v3130 v3242 v3244 k0_hw21 k0_h29 => k0_hw21.2.2.2.2.2.2.2.1 k0_h29
theorem k0_off193_inb : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t109 : Fin (k0_t109_loop v3126 v3128 v3130).trips), ∀ (k0_h29 : k0_cond29 v3244 = 1#1), ∀ (r : Fin 4), ∀ a, (k0_off193 i v3122 v3126 v3128 v3130 v3242 k0_t109 (BitVec.ofNat 32 (16 * r.val))) a + S16.size a ≤ S80896.size a := fun i v3122 v3126 v3128 v3130 v3242 v3244 k0_hw21 k0_t109 k0_h29 r => k0_hw21.2.2.2.2.2.2.2.2.1 k0_t109 k0_h29 r
theorem k0_t110_ok : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t109 : Fin (k0_t109_loop v3126 v3128 v3130).trips), ∀ (k0_h29 : k0_cond29 v3244 = 1#1), (k0_t110_loop v3244).OK := fun i v3122 v3126 v3128 v3130 v3242 v3244 k0_hw21 k0_t109 k0_h29 => k0_hw21.2.2.2.2.2.2.2.2.2.1 k0_t109 k0_h29
theorem k0_off194_inb : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t109 : Fin (k0_t109_loop v3126 v3128 v3130).trips) (k0_t110 : Fin (k0_t110_loop v3244).trips), ∀ (k0_h29 : k0_cond29 v3244 = 1#1), ∀ (r : Fin 4), ∀ a, (k0_off194 i v3122 v3126 v3128 v3130 v3242 v3244 k0_t109 k0_t110 (BitVec.ofNat 32 (16 * r.val))) a + S16.size a ≤ S80896.size a := fun i v3122 v3126 v3128 v3130 v3242 v3244 k0_hw21 k0_t109 k0_t110 k0_h29 r => k0_hw21.2.2.2.2.2.2.2.2.2.2.1 k0_t109 k0_t110 k0_h29 r
theorem k0_t111_ok : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t109 : Fin (k0_t109_loop v3126 v3128 v3130).trips), ∀ (k0_h29 : k0_cond29 v3244 = 1#1), (k0_t111_loop v3244).OK := fun i v3122 v3126 v3128 v3130 v3242 v3244 k0_hw21 k0_t109 k0_h29 => k0_hw21.2.2.2.2.2.2.2.2.2.2.2.1 k0_t109 k0_h29
theorem k0_off195_inb : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t109 : Fin (k0_t109_loop v3126 v3128 v3130).trips) (k0_t111 : Fin (k0_t111_loop v3244).trips), ∀ (k0_h29 : k0_cond29 v3244 = 1#1), ∀ (r : Fin 4), ∀ a, (k0_off195 i v3122 v3126 v3128 v3130 v3242 v3244 k0_t109 k0_t111 (BitVec.ofNat 32 (16 * r.val))) a + S16.size a ≤ S80896.size a := fun i v3122 v3126 v3128 v3130 v3242 v3244 k0_hw21 k0_t109 k0_t111 k0_h29 r => k0_hw21.2.2.2.2.2.2.2.2.2.2.2.2.1 k0_t109 k0_t111 k0_h29 r
theorem k0_off196_inb : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t109 : Fin (k0_t109_loop v3126 v3128 v3130).trips), ∀ (k0_h29 : k0_cond29 v3244 = 1#1), ∀ (r : Fin 4), ∀ a, (k0_off196 v3126 v3128 v3130 k0_t109 (BitVec.ofNat 32 (16 * r.val))) a + S1x16.size a ≤ S7x880.size a := fun i v3122 v3126 v3128 v3130 v3242 v3244 k0_hw21 k0_t109 k0_h29 r => k0_hw21.2.2.2.2.2.2.2.2.2.2.2.2.2.1 k0_t109 k0_h29 r
theorem k0_t112_ok : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244), ∀ (k0_h30 : k0_cond30 v3244 = 1#1), (k0_t112_loop v3126 v3128 v3130).OK := fun i v3122 v3126 v3128 v3130 v3242 v3244 k0_hw21 k0_h30 => k0_hw21.2.2.2.2.2.2.2.2.2.2.2.2.2.2.1 k0_h30
theorem k0_off197_inb : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t112 : Fin (k0_t112_loop v3126 v3128 v3130).trips), ∀ (k0_h30 : k0_cond30 v3244 = 1#1), ∀ (r : Fin 4), ∀ a, (k0_off197 v3126 v3128 v3130 k0_t112 (BitVec.ofNat 32 (16 * r.val))) a + S1x16.size a ≤ S7x880.size a := fun i v3122 v3126 v3128 v3130 v3242 v3244 k0_hw21 k0_t112 k0_h30 r => k0_hw21.2.2.2.2.2.2.2.2.2.2.2.2.2.2.2.1 k0_t112 k0_h30 r
theorem k0_t113_ok : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244), ∀ (k0_h30 : k0_cond30 v3244 = 1#1), (k0_t113_loop v3126 v3128 v3130).OK := fun i v3122 v3126 v3128 v3130 v3242 v3244 k0_hw21 k0_h30 => k0_hw21.2.2.2.2.2.2.2.2.2.2.2.2.2.2.2.2.1 k0_h30
theorem k0_off198_inb : ∀ (i : grid0.Coords) (v3122 : BitVec 32) (v3126 : BitVec 32) (v3128 : BitVec 32) (v3130 : BitVec 32) (v3242 : BitVec 32) (v3244 : BitVec 32) (k0_hw21 : k0_chk21 i v3122 v3126 v3128 v3130 v3242 v3244) (k0_t113 : Fin (k0_t113_loop v3126 v3128 v3130).trips), ∀ (k0_h30 : k0_cond30 v3244 = 1#1), ∀ (r : Fin 4), ∀ a, (k0_off198 v3126 v3128 v3130 k0_t113 (BitVec.ofNat 32 (16 * r.val))) a + S1x16.size a ≤ S7x880.size a := fun i v3122 v3126 v3128 v3130 v3242 v3244 k0_hw21 k0_t113 k0_h30 r => k0_hw21.2.2.2.2.2.2.2.2.2.2.2.2.2.2.2.2.2 k0_t113 k0_h30 r

def k0_off199 (v3126 : BitVec 32) (v3257 : BitVec 32) (v3259 : BitVec 32) (c0_i32_844 : BitVec 32) : Fin 2 → Nat :=
  let c0_i32_864 : BitVec 32 := 0#32
  let v3299 : Index := Scalar.indexCast c0_i32_864
  let c0_i32_836 : BitVec 32 := 0#32
  let v3260 : BitVec 1 := Scalar.cmpi .eq v3259 c0_i32_836
  let c848_i32_838 : BitVec 32 := 848#32
  let v3261 : BitVec 32 := Scalar.subi v3257 v3126
  let c16_i32_837 : BitVec 32 := 16#32
  let v3262 : BitVec 32 := Scalar.muli v3261 c16_i32_837
  let v3263 : BitVec 32 := Scalar.select v3260 c848_i32_838 v3262
  let c1_i32_842 : BitVec 32 := 1#32
  let v3267 : BitVec 32 := Scalar.subi v3259 c1_i32_842
  let c0_i32_843 : BitVec 32 := 0#32
  let v3268 : BitVec 32 := Scalar.maxsi v3267 c0_i32_843
  let v3269 : BitVec 32 := Scalar.minsi c0_i32_844 v3268
  let c16_i32_845 : BitVec 32 := 16#32
  let v3270 : BitVec 32 := Scalar.muli v3269 c16_i32_845
  let v3271 : BitVec 32 := Scalar.addi v3263 v3270
  let v3300 : Index := Scalar.indexCast v3271
  ![0, v3300.toNat]

def k0_off200 (v3126 : BitVec 32) (v3257 : BitVec 32) (v3259 : BitVec 32) (c0_i32_844 : BitVec 32) : Fin 2 → Nat :=
  let c1_i32_874 : BitVec 32 := 1#32
  let v3352 : Index := Scalar.indexCast c1_i32_874
  let c0_i32_836 : BitVec 32 := 0#32
  let v3260 : BitVec 1 := Scalar.cmpi .eq v3259 c0_i32_836
  let c848_i32_838 : BitVec 32 := 848#32
  let v3261 : BitVec 32 := Scalar.subi v3257 v3126
  let c16_i32_837 : BitVec 32 := 16#32
  let v3262 : BitVec 32 := Scalar.muli v3261 c16_i32_837
  let v3263 : BitVec 32 := Scalar.select v3260 c848_i32_838 v3262
  let c1_i32_842 : BitVec 32 := 1#32
  let v3267 : BitVec 32 := Scalar.subi v3259 c1_i32_842
  let c0_i32_843 : BitVec 32 := 0#32
  let v3268 : BitVec 32 := Scalar.maxsi v3267 c0_i32_843
  let v3269 : BitVec 32 := Scalar.minsi c0_i32_844 v3268
  let c16_i32_845 : BitVec 32 := 16#32
  let v3270 : BitVec 32 := Scalar.muli v3269 c16_i32_845
  let v3271 : BitVec 32 := Scalar.addi v3263 v3270
  let v3353 : Index := Scalar.indexCast v3271
  ![1, v3353.toNat]
def k0_off201 (v3126 : BitVec 32) (v3257 : BitVec 32) (v3259 : BitVec 32) (c0_i32_844 : BitVec 32) : Fin 2 → Nat :=
  let c2_i32_884 : BitVec 32 := 2#32
  let v3405 : Index := Scalar.indexCast c2_i32_884
  let c0_i32_836 : BitVec 32 := 0#32
  let v3260 : BitVec 1 := Scalar.cmpi .eq v3259 c0_i32_836
  let c848_i32_838 : BitVec 32 := 848#32
  let v3261 : BitVec 32 := Scalar.subi v3257 v3126
  let c16_i32_837 : BitVec 32 := 16#32
  let v3262 : BitVec 32 := Scalar.muli v3261 c16_i32_837
  let v3263 : BitVec 32 := Scalar.select v3260 c848_i32_838 v3262
  let c1_i32_842 : BitVec 32 := 1#32
  let v3267 : BitVec 32 := Scalar.subi v3259 c1_i32_842
  let c0_i32_843 : BitVec 32 := 0#32
  let v3268 : BitVec 32 := Scalar.maxsi v3267 c0_i32_843
  let v3269 : BitVec 32 := Scalar.minsi c0_i32_844 v3268
  let c16_i32_845 : BitVec 32 := 16#32
  let v3270 : BitVec 32 := Scalar.muli v3269 c16_i32_845
  let v3271 : BitVec 32 := Scalar.addi v3263 v3270
  let v3406 : Index := Scalar.indexCast v3271
  ![2, v3406.toNat]
def k0_off202 (v3126 : BitVec 32) (v3257 : BitVec 32) (v3259 : BitVec 32) (c0_i32_844 : BitVec 32) : Fin 2 → Nat :=
  let c3_i32_894 : BitVec 32 := 3#32
  let v3458 : Index := Scalar.indexCast c3_i32_894
  let c0_i32_836 : BitVec 32 := 0#32
  let v3260 : BitVec 1 := Scalar.cmpi .eq v3259 c0_i32_836
  let c848_i32_838 : BitVec 32 := 848#32
  let v3261 : BitVec 32 := Scalar.subi v3257 v3126
  let c16_i32_837 : BitVec 32 := 16#32
  let v3262 : BitVec 32 := Scalar.muli v3261 c16_i32_837
  let v3263 : BitVec 32 := Scalar.select v3260 c848_i32_838 v3262
  let c1_i32_842 : BitVec 32 := 1#32
  let v3267 : BitVec 32 := Scalar.subi v3259 c1_i32_842
  let c0_i32_843 : BitVec 32 := 0#32
  let v3268 : BitVec 32 := Scalar.maxsi v3267 c0_i32_843
  let v3269 : BitVec 32 := Scalar.minsi c0_i32_844 v3268
  let c16_i32_845 : BitVec 32 := 16#32
  let v3270 : BitVec 32 := Scalar.muli v3269 c16_i32_845
  let v3271 : BitVec 32 := Scalar.addi v3263 v3270
  let v3459 : Index := Scalar.indexCast v3271
  ![3, v3459.toNat]
def k0_off203 (v3126 : BitVec 32) (v3257 : BitVec 32) (v3259 : BitVec 32) (c0_i32_844 : BitVec 32) : Fin 2 → Nat :=
  let c4_i32_904 : BitVec 32 := 4#32
  let v3511 : Index := Scalar.indexCast c4_i32_904
  let c0_i32_836 : BitVec 32 := 0#32
  let v3260 : BitVec 1 := Scalar.cmpi .eq v3259 c0_i32_836
  let c848_i32_838 : BitVec 32 := 848#32
  let v3261 : BitVec 32 := Scalar.subi v3257 v3126
  let c16_i32_837 : BitVec 32 := 16#32
  let v3262 : BitVec 32 := Scalar.muli v3261 c16_i32_837
  let v3263 : BitVec 32 := Scalar.select v3260 c848_i32_838 v3262
  let c1_i32_842 : BitVec 32 := 1#32
  let v3267 : BitVec 32 := Scalar.subi v3259 c1_i32_842
  let c0_i32_843 : BitVec 32 := 0#32
  let v3268 : BitVec 32 := Scalar.maxsi v3267 c0_i32_843
  let v3269 : BitVec 32 := Scalar.minsi c0_i32_844 v3268
  let c16_i32_845 : BitVec 32 := 16#32
  let v3270 : BitVec 32 := Scalar.muli v3269 c16_i32_845
  let v3271 : BitVec 32 := Scalar.addi v3263 v3270
  let v3512 : Index := Scalar.indexCast v3271
  ![4, v3512.toNat]
def k0_off204 (v3126 : BitVec 32) (v3257 : BitVec 32) (v3259 : BitVec 32) (c0_i32_844 : BitVec 32) : Fin 2 → Nat :=
  let c5_i32_914 : BitVec 32 := 5#32
  let v3564 : Index := Scalar.indexCast c5_i32_914
  let c0_i32_836 : BitVec 32 := 0#32
  let v3260 : BitVec 1 := Scalar.cmpi .eq v3259 c0_i32_836
  let c848_i32_838 : BitVec 32 := 848#32
  let v3261 : BitVec 32 := Scalar.subi v3257 v3126
  let c16_i32_837 : BitVec 32 := 16#32
  let v3262 : BitVec 32 := Scalar.muli v3261 c16_i32_837
  let v3263 : BitVec 32 := Scalar.select v3260 c848_i32_838 v3262
  let c1_i32_842 : BitVec 32 := 1#32
  let v3267 : BitVec 32 := Scalar.subi v3259 c1_i32_842
  let c0_i32_843 : BitVec 32 := 0#32
  let v3268 : BitVec 32 := Scalar.maxsi v3267 c0_i32_843
  let v3269 : BitVec 32 := Scalar.minsi c0_i32_844 v3268
  let c16_i32_845 : BitVec 32 := 16#32
  let v3270 : BitVec 32 := Scalar.muli v3269 c16_i32_845
  let v3271 : BitVec 32 := Scalar.addi v3263 v3270
  let v3565 : Index := Scalar.indexCast v3271
  ![5, v3565.toNat]
def k0_off205 (v3126 : BitVec 32) (v3257 : BitVec 32) (v3259 : BitVec 32) (c0_i32_844 : BitVec 32) : Fin 2 → Nat :=
  let c6_i32_924 : BitVec 32 := 6#32
  let v3617 : Index := Scalar.indexCast c6_i32_924
  let c0_i32_836 : BitVec 32 := 0#32
  let v3260 : BitVec 1 := Scalar.cmpi .eq v3259 c0_i32_836
  let c848_i32_838 : BitVec 32 := 848#32
  let v3261 : BitVec 32 := Scalar.subi v3257 v3126
  let c16_i32_837 : BitVec 32 := 16#32
  let v3262 : BitVec 32 := Scalar.muli v3261 c16_i32_837
  let v3263 : BitVec 32 := Scalar.select v3260 c848_i32_838 v3262
  let c1_i32_842 : BitVec 32 := 1#32
  let v3267 : BitVec 32 := Scalar.subi v3259 c1_i32_842
  let c0_i32_843 : BitVec 32 := 0#32
  let v3268 : BitVec 32 := Scalar.maxsi v3267 c0_i32_843
  let v3269 : BitVec 32 := Scalar.minsi c0_i32_844 v3268
  let c16_i32_845 : BitVec 32 := 16#32
  let v3270 : BitVec 32 := Scalar.muli v3269 c16_i32_845
  let v3271 : BitVec 32 := Scalar.addi v3263 v3270
  let v3618 : Index := Scalar.indexCast v3271
  ![6, v3618.toNat]

def k0_chk22 (v3126 : BitVec 32) (v3257 : BitVec 32) (v3259 : BitVec 32) : Prop :=
  (∀ (r : Fin 10), ∀ a, (k0_off199 v3126 v3257 v3259 (BitVec.ofNat 32 r.val)) a + S1x16.size a ≤ S7x880.size a) ∧
  (∀ (r : Fin 10), ∀ a, (k0_off200 v3126 v3257 v3259 (BitVec.ofNat 32 r.val)) a + S1x16.size a ≤ S7x880.size a) ∧
  (∀ (r : Fin 10), ∀ a, (k0_off201 v3126 v3257 v3259 (BitVec.ofNat 32 r.val)) a + S1x16.size a ≤ S7x880.size a) ∧
  (∀ (r : Fin 10), ∀ a, (k0_off202 v3126 v3257 v3259 (BitVec.ofNat 32 r.val)) a + S1x16.size a ≤ S7x880.size a) ∧
  (∀ (r : Fin 10), ∀ a, (k0_off203 v3126 v3257 v3259 (BitVec.ofNat 32 r.val)) a + S1x16.size a ≤ S7x880.size a) ∧
  (∀ (r : Fin 10), ∀ a, (k0_off204 v3126 v3257 v3259 (BitVec.ofNat 32 r.val)) a + S1x16.size a ≤ S7x880.size a) ∧
  (∀ (r : Fin 10), ∀ a, (k0_off205 v3126 v3257 v3259 (BitVec.ofNat 32 r.val)) a + S1x16.size a ≤ S7x880.size a)
theorem k0_off199_inb : ∀ (v3126 : BitVec 32) (v3257 : BitVec 32) (v3259 : BitVec 32) (k0_hw22 : k0_chk22 v3126 v3257 v3259), ∀ (r : Fin 10), ∀ a, (k0_off199 v3126 v3257 v3259 (BitVec.ofNat 32 r.val)) a + S1x16.size a ≤ S7x880.size a := fun v3126 v3257 v3259 k0_hw22 r => k0_hw22.1 r
theorem k0_off200_inb : ∀ (v3126 : BitVec 32) (v3257 : BitVec 32) (v3259 : BitVec 32) (k0_hw22 : k0_chk22 v3126 v3257 v3259), ∀ (r : Fin 10), ∀ a, (k0_off200 v3126 v3257 v3259 (BitVec.ofNat 32 r.val)) a + S1x16.size a ≤ S7x880.size a := fun v3126 v3257 v3259 k0_hw22 r => k0_hw22.2.1 r
theorem k0_off201_inb : ∀ (v3126 : BitVec 32) (v3257 : BitVec 32) (v3259 : BitVec 32) (k0_hw22 : k0_chk22 v3126 v3257 v3259), ∀ (r : Fin 10), ∀ a, (k0_off201 v3126 v3257 v3259 (BitVec.ofNat 32 r.val)) a + S1x16.size a ≤ S7x880.size a := fun v3126 v3257 v3259 k0_hw22 r => k0_hw22.2.2.1 r
theorem k0_off202_inb : ∀ (v3126 : BitVec 32) (v3257 : BitVec 32) (v3259 : BitVec 32) (k0_hw22 : k0_chk22 v3126 v3257 v3259), ∀ (r : Fin 10), ∀ a, (k0_off202 v3126 v3257 v3259 (BitVec.ofNat 32 r.val)) a + S1x16.size a ≤ S7x880.size a := fun v3126 v3257 v3259 k0_hw22 r => k0_hw22.2.2.2.1 r
theorem k0_off203_inb : ∀ (v3126 : BitVec 32) (v3257 : BitVec 32) (v3259 : BitVec 32) (k0_hw22 : k0_chk22 v3126 v3257 v3259), ∀ (r : Fin 10), ∀ a, (k0_off203 v3126 v3257 v3259 (BitVec.ofNat 32 r.val)) a + S1x16.size a ≤ S7x880.size a := fun v3126 v3257 v3259 k0_hw22 r => k0_hw22.2.2.2.2.1 r
theorem k0_off204_inb : ∀ (v3126 : BitVec 32) (v3257 : BitVec 32) (v3259 : BitVec 32) (k0_hw22 : k0_chk22 v3126 v3257 v3259), ∀ (r : Fin 10), ∀ a, (k0_off204 v3126 v3257 v3259 (BitVec.ofNat 32 r.val)) a + S1x16.size a ≤ S7x880.size a := fun v3126 v3257 v3259 k0_hw22 r => k0_hw22.2.2.2.2.2.1 r
theorem k0_off205_inb : ∀ (v3126 : BitVec 32) (v3257 : BitVec 32) (v3259 : BitVec 32) (k0_hw22 : k0_chk22 v3126 v3257 v3259), ∀ (r : Fin 10), ∀ a, (k0_off205 v3126 v3257 v3259 (BitVec.ofNat 32 r.val)) a + S1x16.size a ≤ S7x880.size a := fun v3126 v3257 v3259 k0_hw22 r => k0_hw22.2.2.2.2.2.2 r

def k0_off206 (v3126 : BitVec 32) (v3671 : BitVec 32) (v3673 : BitVec 32) (c0_i32_942 : BitVec 32) : Fin 2 → Nat :=
  let c0_i32_962 : BitVec 32 := 0#32
  let v3713 : Index := Scalar.indexCast c0_i32_962
  let c0_i32_934 : BitVec 32 := 0#32
  let v3674 : BitVec 1 := Scalar.cmpi .eq v3673 c0_i32_934
  let c848_i32_936 : BitVec 32 := 848#32
  let v3675 : BitVec 32 := Scalar.subi v3671 v3126
  let c16_i32_935 : BitVec 32 := 16#32
  let v3676 : BitVec 32 := Scalar.muli v3675 c16_i32_935
  let v3677 : BitVec 32 := Scalar.select v3674 c848_i32_936 v3676
  let c1_i32_940 : BitVec 32 := 1#32
  let v3681 : BitVec 32 := Scalar.subi v3673 c1_i32_940
  let c0_i32_941 : BitVec 32 := 0#32
  let v3682 : BitVec 32 := Scalar.maxsi v3681 c0_i32_941
  let v3683 : BitVec 32 := Scalar.minsi c0_i32_942 v3682
  let c16_i32_943 : BitVec 32 := 16#32
  let v3684 : BitVec 32 := Scalar.muli v3683 c16_i32_943
  let v3685 : BitVec 32 := Scalar.addi v3677 v3684
  let v3714 : Index := Scalar.indexCast v3685
  ![0, v3714.toNat]

def k0_off207 (v3126 : BitVec 32) (v3671 : BitVec 32) (v3673 : BitVec 32) (c0_i32_942 : BitVec 32) : Fin 2 → Nat :=
  let c1_i32_972 : BitVec 32 := 1#32
  let v3766 : Index := Scalar.indexCast c1_i32_972
  let c0_i32_934 : BitVec 32 := 0#32
  let v3674 : BitVec 1 := Scalar.cmpi .eq v3673 c0_i32_934
  let c848_i32_936 : BitVec 32 := 848#32
  let v3675 : BitVec 32 := Scalar.subi v3671 v3126
  let c16_i32_935 : BitVec 32 := 16#32
  let v3676 : BitVec 32 := Scalar.muli v3675 c16_i32_935
  let v3677 : BitVec 32 := Scalar.select v3674 c848_i32_936 v3676
  let c1_i32_940 : BitVec 32 := 1#32
  let v3681 : BitVec 32 := Scalar.subi v3673 c1_i32_940
  let c0_i32_941 : BitVec 32 := 0#32
  let v3682 : BitVec 32 := Scalar.maxsi v3681 c0_i32_941
  let v3683 : BitVec 32 := Scalar.minsi c0_i32_942 v3682
  let c16_i32_943 : BitVec 32 := 16#32
  let v3684 : BitVec 32 := Scalar.muli v3683 c16_i32_943
  let v3685 : BitVec 32 := Scalar.addi v3677 v3684
  let v3767 : Index := Scalar.indexCast v3685
  ![1, v3767.toNat]
def k0_off208 (v3126 : BitVec 32) (v3671 : BitVec 32) (v3673 : BitVec 32) (c0_i32_942 : BitVec 32) : Fin 2 → Nat :=
  let c2_i32_982 : BitVec 32 := 2#32
  let v3819 : Index := Scalar.indexCast c2_i32_982
  let c0_i32_934 : BitVec 32 := 0#32
  let v3674 : BitVec 1 := Scalar.cmpi .eq v3673 c0_i32_934
  let c848_i32_936 : BitVec 32 := 848#32
  let v3675 : BitVec 32 := Scalar.subi v3671 v3126
  let c16_i32_935 : BitVec 32 := 16#32
  let v3676 : BitVec 32 := Scalar.muli v3675 c16_i32_935
  let v3677 : BitVec 32 := Scalar.select v3674 c848_i32_936 v3676
  let c1_i32_940 : BitVec 32 := 1#32
  let v3681 : BitVec 32 := Scalar.subi v3673 c1_i32_940
  let c0_i32_941 : BitVec 32 := 0#32
  let v3682 : BitVec 32 := Scalar.maxsi v3681 c0_i32_941
  let v3683 : BitVec 32 := Scalar.minsi c0_i32_942 v3682
  let c16_i32_943 : BitVec 32 := 16#32
  let v3684 : BitVec 32 := Scalar.muli v3683 c16_i32_943
  let v3685 : BitVec 32 := Scalar.addi v3677 v3684
  let v3820 : Index := Scalar.indexCast v3685
  ![2, v3820.toNat]
def k0_off209 (v3126 : BitVec 32) (v3671 : BitVec 32) (v3673 : BitVec 32) (c0_i32_942 : BitVec 32) : Fin 2 → Nat :=
  let c3_i32_992 : BitVec 32 := 3#32
  let v3872 : Index := Scalar.indexCast c3_i32_992
  let c0_i32_934 : BitVec 32 := 0#32
  let v3674 : BitVec 1 := Scalar.cmpi .eq v3673 c0_i32_934
  let c848_i32_936 : BitVec 32 := 848#32
  let v3675 : BitVec 32 := Scalar.subi v3671 v3126
  let c16_i32_935 : BitVec 32 := 16#32
  let v3676 : BitVec 32 := Scalar.muli v3675 c16_i32_935
  let v3677 : BitVec 32 := Scalar.select v3674 c848_i32_936 v3676
  let c1_i32_940 : BitVec 32 := 1#32
  let v3681 : BitVec 32 := Scalar.subi v3673 c1_i32_940
  let c0_i32_941 : BitVec 32 := 0#32
  let v3682 : BitVec 32 := Scalar.maxsi v3681 c0_i32_941
  let v3683 : BitVec 32 := Scalar.minsi c0_i32_942 v3682
  let c16_i32_943 : BitVec 32 := 16#32
  let v3684 : BitVec 32 := Scalar.muli v3683 c16_i32_943
  let v3685 : BitVec 32 := Scalar.addi v3677 v3684
  let v3873 : Index := Scalar.indexCast v3685
  ![3, v3873.toNat]
def k0_off210 (v3126 : BitVec 32) (v3671 : BitVec 32) (v3673 : BitVec 32) (c0_i32_942 : BitVec 32) : Fin 2 → Nat :=
  let c4_i32_1002 : BitVec 32 := 4#32
  let v3925 : Index := Scalar.indexCast c4_i32_1002
  let c0_i32_934 : BitVec 32 := 0#32
  let v3674 : BitVec 1 := Scalar.cmpi .eq v3673 c0_i32_934
  let c848_i32_936 : BitVec 32 := 848#32
  let v3675 : BitVec 32 := Scalar.subi v3671 v3126
  let c16_i32_935 : BitVec 32 := 16#32
  let v3676 : BitVec 32 := Scalar.muli v3675 c16_i32_935
  let v3677 : BitVec 32 := Scalar.select v3674 c848_i32_936 v3676
  let c1_i32_940 : BitVec 32 := 1#32
  let v3681 : BitVec 32 := Scalar.subi v3673 c1_i32_940
  let c0_i32_941 : BitVec 32 := 0#32
  let v3682 : BitVec 32 := Scalar.maxsi v3681 c0_i32_941
  let v3683 : BitVec 32 := Scalar.minsi c0_i32_942 v3682
  let c16_i32_943 : BitVec 32 := 16#32
  let v3684 : BitVec 32 := Scalar.muli v3683 c16_i32_943
  let v3685 : BitVec 32 := Scalar.addi v3677 v3684
  let v3926 : Index := Scalar.indexCast v3685
  ![4, v3926.toNat]
def k0_off211 (v3126 : BitVec 32) (v3671 : BitVec 32) (v3673 : BitVec 32) (c0_i32_942 : BitVec 32) : Fin 2 → Nat :=
  let c5_i32_1012 : BitVec 32 := 5#32
  let v3978 : Index := Scalar.indexCast c5_i32_1012
  let c0_i32_934 : BitVec 32 := 0#32
  let v3674 : BitVec 1 := Scalar.cmpi .eq v3673 c0_i32_934
  let c848_i32_936 : BitVec 32 := 848#32
  let v3675 : BitVec 32 := Scalar.subi v3671 v3126
  let c16_i32_935 : BitVec 32 := 16#32
  let v3676 : BitVec 32 := Scalar.muli v3675 c16_i32_935
  let v3677 : BitVec 32 := Scalar.select v3674 c848_i32_936 v3676
  let c1_i32_940 : BitVec 32 := 1#32
  let v3681 : BitVec 32 := Scalar.subi v3673 c1_i32_940
  let c0_i32_941 : BitVec 32 := 0#32
  let v3682 : BitVec 32 := Scalar.maxsi v3681 c0_i32_941
  let v3683 : BitVec 32 := Scalar.minsi c0_i32_942 v3682
  let c16_i32_943 : BitVec 32 := 16#32
  let v3684 : BitVec 32 := Scalar.muli v3683 c16_i32_943
  let v3685 : BitVec 32 := Scalar.addi v3677 v3684
  let v3979 : Index := Scalar.indexCast v3685
  ![5, v3979.toNat]
def k0_off212 (v3126 : BitVec 32) (v3671 : BitVec 32) (v3673 : BitVec 32) (c0_i32_942 : BitVec 32) : Fin 2 → Nat :=
  let c6_i32_1022 : BitVec 32 := 6#32
  let v4031 : Index := Scalar.indexCast c6_i32_1022
  let c0_i32_934 : BitVec 32 := 0#32
  let v3674 : BitVec 1 := Scalar.cmpi .eq v3673 c0_i32_934
  let c848_i32_936 : BitVec 32 := 848#32
  let v3675 : BitVec 32 := Scalar.subi v3671 v3126
  let c16_i32_935 : BitVec 32 := 16#32
  let v3676 : BitVec 32 := Scalar.muli v3675 c16_i32_935
  let v3677 : BitVec 32 := Scalar.select v3674 c848_i32_936 v3676
  let c1_i32_940 : BitVec 32 := 1#32
  let v3681 : BitVec 32 := Scalar.subi v3673 c1_i32_940
  let c0_i32_941 : BitVec 32 := 0#32
  let v3682 : BitVec 32 := Scalar.maxsi v3681 c0_i32_941
  let v3683 : BitVec 32 := Scalar.minsi c0_i32_942 v3682
  let c16_i32_943 : BitVec 32 := 16#32
  let v3684 : BitVec 32 := Scalar.muli v3683 c16_i32_943
  let v3685 : BitVec 32 := Scalar.addi v3677 v3684
  let v4032 : Index := Scalar.indexCast v3685
  ![6, v4032.toNat]

def k0_chk23 (v3126 : BitVec 32) (v3671 : BitVec 32) (v3673 : BitVec 32) : Prop :=
  (∀ (r : Fin 10), ∀ a, (k0_off206 v3126 v3671 v3673 (BitVec.ofNat 32 r.val)) a + S1x16.size a ≤ S7x880.size a) ∧
  (∀ (r : Fin 10), ∀ a, (k0_off207 v3126 v3671 v3673 (BitVec.ofNat 32 r.val)) a + S1x16.size a ≤ S7x880.size a) ∧
  (∀ (r : Fin 10), ∀ a, (k0_off208 v3126 v3671 v3673 (BitVec.ofNat 32 r.val)) a + S1x16.size a ≤ S7x880.size a) ∧
  (∀ (r : Fin 10), ∀ a, (k0_off209 v3126 v3671 v3673 (BitVec.ofNat 32 r.val)) a + S1x16.size a ≤ S7x880.size a) ∧
  (∀ (r : Fin 10), ∀ a, (k0_off210 v3126 v3671 v3673 (BitVec.ofNat 32 r.val)) a + S1x16.size a ≤ S7x880.size a) ∧
  (∀ (r : Fin 10), ∀ a, (k0_off211 v3126 v3671 v3673 (BitVec.ofNat 32 r.val)) a + S1x16.size a ≤ S7x880.size a) ∧
  (∀ (r : Fin 10), ∀ a, (k0_off212 v3126 v3671 v3673 (BitVec.ofNat 32 r.val)) a + S1x16.size a ≤ S7x880.size a)
theorem k0_off206_inb : ∀ (v3126 : BitVec 32) (v3671 : BitVec 32) (v3673 : BitVec 32) (k0_hw23 : k0_chk23 v3126 v3671 v3673), ∀ (r : Fin 10), ∀ a, (k0_off206 v3126 v3671 v3673 (BitVec.ofNat 32 r.val)) a + S1x16.size a ≤ S7x880.size a := fun v3126 v3671 v3673 k0_hw23 r => k0_hw23.1 r
theorem k0_off207_inb : ∀ (v3126 : BitVec 32) (v3671 : BitVec 32) (v3673 : BitVec 32) (k0_hw23 : k0_chk23 v3126 v3671 v3673), ∀ (r : Fin 10), ∀ a, (k0_off207 v3126 v3671 v3673 (BitVec.ofNat 32 r.val)) a + S1x16.size a ≤ S7x880.size a := fun v3126 v3671 v3673 k0_hw23 r => k0_hw23.2.1 r
theorem k0_off208_inb : ∀ (v3126 : BitVec 32) (v3671 : BitVec 32) (v3673 : BitVec 32) (k0_hw23 : k0_chk23 v3126 v3671 v3673), ∀ (r : Fin 10), ∀ a, (k0_off208 v3126 v3671 v3673 (BitVec.ofNat 32 r.val)) a + S1x16.size a ≤ S7x880.size a := fun v3126 v3671 v3673 k0_hw23 r => k0_hw23.2.2.1 r
theorem k0_off209_inb : ∀ (v3126 : BitVec 32) (v3671 : BitVec 32) (v3673 : BitVec 32) (k0_hw23 : k0_chk23 v3126 v3671 v3673), ∀ (r : Fin 10), ∀ a, (k0_off209 v3126 v3671 v3673 (BitVec.ofNat 32 r.val)) a + S1x16.size a ≤ S7x880.size a := fun v3126 v3671 v3673 k0_hw23 r => k0_hw23.2.2.2.1 r
theorem k0_off210_inb : ∀ (v3126 : BitVec 32) (v3671 : BitVec 32) (v3673 : BitVec 32) (k0_hw23 : k0_chk23 v3126 v3671 v3673), ∀ (r : Fin 10), ∀ a, (k0_off210 v3126 v3671 v3673 (BitVec.ofNat 32 r.val)) a + S1x16.size a ≤ S7x880.size a := fun v3126 v3671 v3673 k0_hw23 r => k0_hw23.2.2.2.2.1 r
theorem k0_off211_inb : ∀ (v3126 : BitVec 32) (v3671 : BitVec 32) (v3673 : BitVec 32) (k0_hw23 : k0_chk23 v3126 v3671 v3673), ∀ (r : Fin 10), ∀ a, (k0_off211 v3126 v3671 v3673 (BitVec.ofNat 32 r.val)) a + S1x16.size a ≤ S7x880.size a := fun v3126 v3671 v3673 k0_hw23 r => k0_hw23.2.2.2.2.2.1 r
theorem k0_off212_inb : ∀ (v3126 : BitVec 32) (v3671 : BitVec 32) (v3673 : BitVec 32) (k0_hw23 : k0_chk23 v3126 v3671 v3673), ∀ (r : Fin 10), ∀ a, (k0_off212 v3126 v3671 v3673 (BitVec.ofNat 32 r.val)) a + S1x16.size a ≤ S7x880.size a := fun v3126 v3671 v3673 k0_hw23 r => k0_hw23.2.2.2.2.2.2 r

def k0_off213 (v3126 : BitVec 32) (v4085 : BitVec 32) (v4087 : BitVec 32) (c0_i32_1040 : BitVec 32) : Fin 2 → Nat :=
  let c0_i32_1060 : BitVec 32 := 0#32
  let v4127 : Index := Scalar.indexCast c0_i32_1060
  let c0_i32_1032 : BitVec 32 := 0#32
  let v4088 : BitVec 1 := Scalar.cmpi .eq v4087 c0_i32_1032
  let c848_i32_1034 : BitVec 32 := 848#32
  let v4089 : BitVec 32 := Scalar.subi v4085 v3126
  let c16_i32_1033 : BitVec 32 := 16#32
  let v4090 : BitVec 32 := Scalar.muli v4089 c16_i32_1033
  let v4091 : BitVec 32 := Scalar.select v4088 c848_i32_1034 v4090
  let c1_i32_1038 : BitVec 32 := 1#32
  let v4095 : BitVec 32 := Scalar.subi v4087 c1_i32_1038
  let c0_i32_1039 : BitVec 32 := 0#32
  let v4096 : BitVec 32 := Scalar.maxsi v4095 c0_i32_1039
  let v4097 : BitVec 32 := Scalar.minsi c0_i32_1040 v4096
  let c16_i32_1041 : BitVec 32 := 16#32
  let v4098 : BitVec 32 := Scalar.muli v4097 c16_i32_1041
  let v4099 : BitVec 32 := Scalar.addi v4091 v4098
  let v4128 : Index := Scalar.indexCast v4099
  ![0, v4128.toNat]

def k0_off214 (v3126 : BitVec 32) (v4085 : BitVec 32) (v4087 : BitVec 32) (c0_i32_1040 : BitVec 32) : Fin 2 → Nat :=
  let c1_i32_1070 : BitVec 32 := 1#32
  let v4180 : Index := Scalar.indexCast c1_i32_1070
  let c0_i32_1032 : BitVec 32 := 0#32
  let v4088 : BitVec 1 := Scalar.cmpi .eq v4087 c0_i32_1032
  let c848_i32_1034 : BitVec 32 := 848#32
  let v4089 : BitVec 32 := Scalar.subi v4085 v3126
  let c16_i32_1033 : BitVec 32 := 16#32
  let v4090 : BitVec 32 := Scalar.muli v4089 c16_i32_1033
  let v4091 : BitVec 32 := Scalar.select v4088 c848_i32_1034 v4090
  let c1_i32_1038 : BitVec 32 := 1#32
  let v4095 : BitVec 32 := Scalar.subi v4087 c1_i32_1038
  let c0_i32_1039 : BitVec 32 := 0#32
  let v4096 : BitVec 32 := Scalar.maxsi v4095 c0_i32_1039
  let v4097 : BitVec 32 := Scalar.minsi c0_i32_1040 v4096
  let c16_i32_1041 : BitVec 32 := 16#32
  let v4098 : BitVec 32 := Scalar.muli v4097 c16_i32_1041
  let v4099 : BitVec 32 := Scalar.addi v4091 v4098
  let v4181 : Index := Scalar.indexCast v4099
  ![1, v4181.toNat]
def k0_off215 (v3126 : BitVec 32) (v4085 : BitVec 32) (v4087 : BitVec 32) (c0_i32_1040 : BitVec 32) : Fin 2 → Nat :=
  let c2_i32_1080 : BitVec 32 := 2#32
  let v4233 : Index := Scalar.indexCast c2_i32_1080
  let c0_i32_1032 : BitVec 32 := 0#32
  let v4088 : BitVec 1 := Scalar.cmpi .eq v4087 c0_i32_1032
  let c848_i32_1034 : BitVec 32 := 848#32
  let v4089 : BitVec 32 := Scalar.subi v4085 v3126
  let c16_i32_1033 : BitVec 32 := 16#32
  let v4090 : BitVec 32 := Scalar.muli v4089 c16_i32_1033
  let v4091 : BitVec 32 := Scalar.select v4088 c848_i32_1034 v4090
  let c1_i32_1038 : BitVec 32 := 1#32
  let v4095 : BitVec 32 := Scalar.subi v4087 c1_i32_1038
  let c0_i32_1039 : BitVec 32 := 0#32
  let v4096 : BitVec 32 := Scalar.maxsi v4095 c0_i32_1039
  let v4097 : BitVec 32 := Scalar.minsi c0_i32_1040 v4096
  let c16_i32_1041 : BitVec 32 := 16#32
  let v4098 : BitVec 32 := Scalar.muli v4097 c16_i32_1041
  let v4099 : BitVec 32 := Scalar.addi v4091 v4098
  let v4234 : Index := Scalar.indexCast v4099
  ![2, v4234.toNat]
def k0_off216 (v3126 : BitVec 32) (v4085 : BitVec 32) (v4087 : BitVec 32) (c0_i32_1040 : BitVec 32) : Fin 2 → Nat :=
  let c3_i32_1090 : BitVec 32 := 3#32
  let v4286 : Index := Scalar.indexCast c3_i32_1090
  let c0_i32_1032 : BitVec 32 := 0#32
  let v4088 : BitVec 1 := Scalar.cmpi .eq v4087 c0_i32_1032
  let c848_i32_1034 : BitVec 32 := 848#32
  let v4089 : BitVec 32 := Scalar.subi v4085 v3126
  let c16_i32_1033 : BitVec 32 := 16#32
  let v4090 : BitVec 32 := Scalar.muli v4089 c16_i32_1033
  let v4091 : BitVec 32 := Scalar.select v4088 c848_i32_1034 v4090
  let c1_i32_1038 : BitVec 32 := 1#32
  let v4095 : BitVec 32 := Scalar.subi v4087 c1_i32_1038
  let c0_i32_1039 : BitVec 32 := 0#32
  let v4096 : BitVec 32 := Scalar.maxsi v4095 c0_i32_1039
  let v4097 : BitVec 32 := Scalar.minsi c0_i32_1040 v4096
  let c16_i32_1041 : BitVec 32 := 16#32
  let v4098 : BitVec 32 := Scalar.muli v4097 c16_i32_1041
  let v4099 : BitVec 32 := Scalar.addi v4091 v4098
  let v4287 : Index := Scalar.indexCast v4099
  ![3, v4287.toNat]
def k0_off217 (v3126 : BitVec 32) (v4085 : BitVec 32) (v4087 : BitVec 32) (c0_i32_1040 : BitVec 32) : Fin 2 → Nat :=
  let c4_i32_1100 : BitVec 32 := 4#32
  let v4339 : Index := Scalar.indexCast c4_i32_1100
  let c0_i32_1032 : BitVec 32 := 0#32
  let v4088 : BitVec 1 := Scalar.cmpi .eq v4087 c0_i32_1032
  let c848_i32_1034 : BitVec 32 := 848#32
  let v4089 : BitVec 32 := Scalar.subi v4085 v3126
  let c16_i32_1033 : BitVec 32 := 16#32
  let v4090 : BitVec 32 := Scalar.muli v4089 c16_i32_1033
  let v4091 : BitVec 32 := Scalar.select v4088 c848_i32_1034 v4090
  let c1_i32_1038 : BitVec 32 := 1#32
  let v4095 : BitVec 32 := Scalar.subi v4087 c1_i32_1038
  let c0_i32_1039 : BitVec 32 := 0#32
  let v4096 : BitVec 32 := Scalar.maxsi v4095 c0_i32_1039
  let v4097 : BitVec 32 := Scalar.minsi c0_i32_1040 v4096
  let c16_i32_1041 : BitVec 32 := 16#32
  let v4098 : BitVec 32 := Scalar.muli v4097 c16_i32_1041
  let v4099 : BitVec 32 := Scalar.addi v4091 v4098
  let v4340 : Index := Scalar.indexCast v4099
  ![4, v4340.toNat]
def k0_off218 (v3126 : BitVec 32) (v4085 : BitVec 32) (v4087 : BitVec 32) (c0_i32_1040 : BitVec 32) : Fin 2 → Nat :=
  let c5_i32_1110 : BitVec 32 := 5#32
  let v4392 : Index := Scalar.indexCast c5_i32_1110
  let c0_i32_1032 : BitVec 32 := 0#32
  let v4088 : BitVec 1 := Scalar.cmpi .eq v4087 c0_i32_1032
  let c848_i32_1034 : BitVec 32 := 848#32
  let v4089 : BitVec 32 := Scalar.subi v4085 v3126
  let c16_i32_1033 : BitVec 32 := 16#32
  let v4090 : BitVec 32 := Scalar.muli v4089 c16_i32_1033
  let v4091 : BitVec 32 := Scalar.select v4088 c848_i32_1034 v4090
  let c1_i32_1038 : BitVec 32 := 1#32
  let v4095 : BitVec 32 := Scalar.subi v4087 c1_i32_1038
  let c0_i32_1039 : BitVec 32 := 0#32
  let v4096 : BitVec 32 := Scalar.maxsi v4095 c0_i32_1039
  let v4097 : BitVec 32 := Scalar.minsi c0_i32_1040 v4096
  let c16_i32_1041 : BitVec 32 := 16#32
  let v4098 : BitVec 32 := Scalar.muli v4097 c16_i32_1041
  let v4099 : BitVec 32 := Scalar.addi v4091 v4098
  let v4393 : Index := Scalar.indexCast v4099
  ![5, v4393.toNat]
def k0_off219 (v3126 : BitVec 32) (v4085 : BitVec 32) (v4087 : BitVec 32) (c0_i32_1040 : BitVec 32) : Fin 2 → Nat :=
  let c6_i32_1120 : BitVec 32 := 6#32
  let v4445 : Index := Scalar.indexCast c6_i32_1120
  let c0_i32_1032 : BitVec 32 := 0#32
  let v4088 : BitVec 1 := Scalar.cmpi .eq v4087 c0_i32_1032
  let c848_i32_1034 : BitVec 32 := 848#32
  let v4089 : BitVec 32 := Scalar.subi v4085 v3126
  let c16_i32_1033 : BitVec 32 := 16#32
  let v4090 : BitVec 32 := Scalar.muli v4089 c16_i32_1033
  let v4091 : BitVec 32 := Scalar.select v4088 c848_i32_1034 v4090
  let c1_i32_1038 : BitVec 32 := 1#32
  let v4095 : BitVec 32 := Scalar.subi v4087 c1_i32_1038
  let c0_i32_1039 : BitVec 32 := 0#32
  let v4096 : BitVec 32 := Scalar.maxsi v4095 c0_i32_1039
  let v4097 : BitVec 32 := Scalar.minsi c0_i32_1040 v4096
  let c16_i32_1041 : BitVec 32 := 16#32
  let v4098 : BitVec 32 := Scalar.muli v4097 c16_i32_1041
  let v4099 : BitVec 32 := Scalar.addi v4091 v4098
  let v4446 : Index := Scalar.indexCast v4099
  ![6, v4446.toNat]

def k0_chk24 (v3126 : BitVec 32) (v4085 : BitVec 32) (v4087 : BitVec 32) : Prop :=
  (∀ (r : Fin 10), ∀ a, (k0_off213 v3126 v4085 v4087 (BitVec.ofNat 32 r.val)) a + S1x16.size a ≤ S7x880.size a) ∧
  (∀ (r : Fin 10), ∀ a, (k0_off214 v3126 v4085 v4087 (BitVec.ofNat 32 r.val)) a + S1x16.size a ≤ S7x880.size a) ∧
  (∀ (r : Fin 10), ∀ a, (k0_off215 v3126 v4085 v4087 (BitVec.ofNat 32 r.val)) a + S1x16.size a ≤ S7x880.size a) ∧
  (∀ (r : Fin 10), ∀ a, (k0_off216 v3126 v4085 v4087 (BitVec.ofNat 32 r.val)) a + S1x16.size a ≤ S7x880.size a) ∧
  (∀ (r : Fin 10), ∀ a, (k0_off217 v3126 v4085 v4087 (BitVec.ofNat 32 r.val)) a + S1x16.size a ≤ S7x880.size a) ∧
  (∀ (r : Fin 10), ∀ a, (k0_off218 v3126 v4085 v4087 (BitVec.ofNat 32 r.val)) a + S1x16.size a ≤ S7x880.size a) ∧
  (∀ (r : Fin 10), ∀ a, (k0_off219 v3126 v4085 v4087 (BitVec.ofNat 32 r.val)) a + S1x16.size a ≤ S7x880.size a)
theorem k0_off213_inb : ∀ (v3126 : BitVec 32) (v4085 : BitVec 32) (v4087 : BitVec 32) (k0_hw24 : k0_chk24 v3126 v4085 v4087), ∀ (r : Fin 10), ∀ a, (k0_off213 v3126 v4085 v4087 (BitVec.ofNat 32 r.val)) a + S1x16.size a ≤ S7x880.size a := fun v3126 v4085 v4087 k0_hw24 r => k0_hw24.1 r
theorem k0_off214_inb : ∀ (v3126 : BitVec 32) (v4085 : BitVec 32) (v4087 : BitVec 32) (k0_hw24 : k0_chk24 v3126 v4085 v4087), ∀ (r : Fin 10), ∀ a, (k0_off214 v3126 v4085 v4087 (BitVec.ofNat 32 r.val)) a + S1x16.size a ≤ S7x880.size a := fun v3126 v4085 v4087 k0_hw24 r => k0_hw24.2.1 r
theorem k0_off215_inb : ∀ (v3126 : BitVec 32) (v4085 : BitVec 32) (v4087 : BitVec 32) (k0_hw24 : k0_chk24 v3126 v4085 v4087), ∀ (r : Fin 10), ∀ a, (k0_off215 v3126 v4085 v4087 (BitVec.ofNat 32 r.val)) a + S1x16.size a ≤ S7x880.size a := fun v3126 v4085 v4087 k0_hw24 r => k0_hw24.2.2.1 r
theorem k0_off216_inb : ∀ (v3126 : BitVec 32) (v4085 : BitVec 32) (v4087 : BitVec 32) (k0_hw24 : k0_chk24 v3126 v4085 v4087), ∀ (r : Fin 10), ∀ a, (k0_off216 v3126 v4085 v4087 (BitVec.ofNat 32 r.val)) a + S1x16.size a ≤ S7x880.size a := fun v3126 v4085 v4087 k0_hw24 r => k0_hw24.2.2.2.1 r
theorem k0_off217_inb : ∀ (v3126 : BitVec 32) (v4085 : BitVec 32) (v4087 : BitVec 32) (k0_hw24 : k0_chk24 v3126 v4085 v4087), ∀ (r : Fin 10), ∀ a, (k0_off217 v3126 v4085 v4087 (BitVec.ofNat 32 r.val)) a + S1x16.size a ≤ S7x880.size a := fun v3126 v4085 v4087 k0_hw24 r => k0_hw24.2.2.2.2.1 r
theorem k0_off218_inb : ∀ (v3126 : BitVec 32) (v4085 : BitVec 32) (v4087 : BitVec 32) (k0_hw24 : k0_chk24 v3126 v4085 v4087), ∀ (r : Fin 10), ∀ a, (k0_off218 v3126 v4085 v4087 (BitVec.ofNat 32 r.val)) a + S1x16.size a ≤ S7x880.size a := fun v3126 v4085 v4087 k0_hw24 r => k0_hw24.2.2.2.2.2.1 r
theorem k0_off219_inb : ∀ (v3126 : BitVec 32) (v4085 : BitVec 32) (v4087 : BitVec 32) (k0_hw24 : k0_chk24 v3126 v4085 v4087), ∀ (r : Fin 10), ∀ a, (k0_off219 v3126 v4085 v4087 (BitVec.ofNat 32 r.val)) a + S1x16.size a ≤ S7x880.size a := fun v3126 v4085 v4087 k0_hw24 r => k0_hw24.2.2.2.2.2.2 r

def k0_off220 (v3126 : BitVec 32) (v4499 : BitVec 32) (v4501 : BitVec 32) (c0_i32_1138 : BitVec 32) : Fin 2 → Nat :=
  let c0_i32_1158 : BitVec 32 := 0#32
  let v4541 : Index := Scalar.indexCast c0_i32_1158
  let c0_i32_1130 : BitVec 32 := 0#32
  let v4502 : BitVec 1 := Scalar.cmpi .eq v4501 c0_i32_1130
  let c848_i32_1132 : BitVec 32 := 848#32
  let v4503 : BitVec 32 := Scalar.subi v4499 v3126
  let c16_i32_1131 : BitVec 32 := 16#32
  let v4504 : BitVec 32 := Scalar.muli v4503 c16_i32_1131
  let v4505 : BitVec 32 := Scalar.select v4502 c848_i32_1132 v4504
  let c1_i32_1136 : BitVec 32 := 1#32
  let v4509 : BitVec 32 := Scalar.subi v4501 c1_i32_1136
  let c0_i32_1137 : BitVec 32 := 0#32
  let v4510 : BitVec 32 := Scalar.maxsi v4509 c0_i32_1137
  let v4511 : BitVec 32 := Scalar.minsi c0_i32_1138 v4510
  let c16_i32_1139 : BitVec 32 := 16#32
  let v4512 : BitVec 32 := Scalar.muli v4511 c16_i32_1139
  let v4513 : BitVec 32 := Scalar.addi v4505 v4512
  let v4542 : Index := Scalar.indexCast v4513
  ![0, v4542.toNat]

def k0_off221 (v3126 : BitVec 32) (v4499 : BitVec 32) (v4501 : BitVec 32) (c0_i32_1138 : BitVec 32) : Fin 2 → Nat :=
  let c1_i32_1168 : BitVec 32 := 1#32
  let v4594 : Index := Scalar.indexCast c1_i32_1168
  let c0_i32_1130 : BitVec 32 := 0#32
  let v4502 : BitVec 1 := Scalar.cmpi .eq v4501 c0_i32_1130
  let c848_i32_1132 : BitVec 32 := 848#32
  let v4503 : BitVec 32 := Scalar.subi v4499 v3126
  let c16_i32_1131 : BitVec 32 := 16#32
  let v4504 : BitVec 32 := Scalar.muli v4503 c16_i32_1131
  let v4505 : BitVec 32 := Scalar.select v4502 c848_i32_1132 v4504
  let c1_i32_1136 : BitVec 32 := 1#32
  let v4509 : BitVec 32 := Scalar.subi v4501 c1_i32_1136
  let c0_i32_1137 : BitVec 32 := 0#32
  let v4510 : BitVec 32 := Scalar.maxsi v4509 c0_i32_1137
  let v4511 : BitVec 32 := Scalar.minsi c0_i32_1138 v4510
  let c16_i32_1139 : BitVec 32 := 16#32
  let v4512 : BitVec 32 := Scalar.muli v4511 c16_i32_1139
  let v4513 : BitVec 32 := Scalar.addi v4505 v4512
  let v4595 : Index := Scalar.indexCast v4513
  ![1, v4595.toNat]
def k0_off222 (v3126 : BitVec 32) (v4499 : BitVec 32) (v4501 : BitVec 32) (c0_i32_1138 : BitVec 32) : Fin 2 → Nat :=
  let c2_i32_1178 : BitVec 32 := 2#32
  let v4647 : Index := Scalar.indexCast c2_i32_1178
  let c0_i32_1130 : BitVec 32 := 0#32
  let v4502 : BitVec 1 := Scalar.cmpi .eq v4501 c0_i32_1130
  let c848_i32_1132 : BitVec 32 := 848#32
  let v4503 : BitVec 32 := Scalar.subi v4499 v3126
  let c16_i32_1131 : BitVec 32 := 16#32
  let v4504 : BitVec 32 := Scalar.muli v4503 c16_i32_1131
  let v4505 : BitVec 32 := Scalar.select v4502 c848_i32_1132 v4504
  let c1_i32_1136 : BitVec 32 := 1#32
  let v4509 : BitVec 32 := Scalar.subi v4501 c1_i32_1136
  let c0_i32_1137 : BitVec 32 := 0#32
  let v4510 : BitVec 32 := Scalar.maxsi v4509 c0_i32_1137
  let v4511 : BitVec 32 := Scalar.minsi c0_i32_1138 v4510
  let c16_i32_1139 : BitVec 32 := 16#32
  let v4512 : BitVec 32 := Scalar.muli v4511 c16_i32_1139
  let v4513 : BitVec 32 := Scalar.addi v4505 v4512
  let v4648 : Index := Scalar.indexCast v4513
  ![2, v4648.toNat]
def k0_off223 (v3126 : BitVec 32) (v4499 : BitVec 32) (v4501 : BitVec 32) (c0_i32_1138 : BitVec 32) : Fin 2 → Nat :=
  let c3_i32_1188 : BitVec 32 := 3#32
  let v4700 : Index := Scalar.indexCast c3_i32_1188
  let c0_i32_1130 : BitVec 32 := 0#32
  let v4502 : BitVec 1 := Scalar.cmpi .eq v4501 c0_i32_1130
  let c848_i32_1132 : BitVec 32 := 848#32
  let v4503 : BitVec 32 := Scalar.subi v4499 v3126
  let c16_i32_1131 : BitVec 32 := 16#32
  let v4504 : BitVec 32 := Scalar.muli v4503 c16_i32_1131
  let v4505 : BitVec 32 := Scalar.select v4502 c848_i32_1132 v4504
  let c1_i32_1136 : BitVec 32 := 1#32
  let v4509 : BitVec 32 := Scalar.subi v4501 c1_i32_1136
  let c0_i32_1137 : BitVec 32 := 0#32
  let v4510 : BitVec 32 := Scalar.maxsi v4509 c0_i32_1137
  let v4511 : BitVec 32 := Scalar.minsi c0_i32_1138 v4510
  let c16_i32_1139 : BitVec 32 := 16#32
  let v4512 : BitVec 32 := Scalar.muli v4511 c16_i32_1139
  let v4513 : BitVec 32 := Scalar.addi v4505 v4512
  let v4701 : Index := Scalar.indexCast v4513
  ![3, v4701.toNat]
def k0_off224 (v3126 : BitVec 32) (v4499 : BitVec 32) (v4501 : BitVec 32) (c0_i32_1138 : BitVec 32) : Fin 2 → Nat :=
  let c4_i32_1198 : BitVec 32 := 4#32
  let v4753 : Index := Scalar.indexCast c4_i32_1198
  let c0_i32_1130 : BitVec 32 := 0#32
  let v4502 : BitVec 1 := Scalar.cmpi .eq v4501 c0_i32_1130
  let c848_i32_1132 : BitVec 32 := 848#32
  let v4503 : BitVec 32 := Scalar.subi v4499 v3126
  let c16_i32_1131 : BitVec 32 := 16#32
  let v4504 : BitVec 32 := Scalar.muli v4503 c16_i32_1131
  let v4505 : BitVec 32 := Scalar.select v4502 c848_i32_1132 v4504
  let c1_i32_1136 : BitVec 32 := 1#32
  let v4509 : BitVec 32 := Scalar.subi v4501 c1_i32_1136
  let c0_i32_1137 : BitVec 32 := 0#32
  let v4510 : BitVec 32 := Scalar.maxsi v4509 c0_i32_1137
  let v4511 : BitVec 32 := Scalar.minsi c0_i32_1138 v4510
  let c16_i32_1139 : BitVec 32 := 16#32
  let v4512 : BitVec 32 := Scalar.muli v4511 c16_i32_1139
  let v4513 : BitVec 32 := Scalar.addi v4505 v4512
  let v4754 : Index := Scalar.indexCast v4513
  ![4, v4754.toNat]
def k0_off225 (v3126 : BitVec 32) (v4499 : BitVec 32) (v4501 : BitVec 32) (c0_i32_1138 : BitVec 32) : Fin 2 → Nat :=
  let c5_i32_1208 : BitVec 32 := 5#32
  let v4806 : Index := Scalar.indexCast c5_i32_1208
  let c0_i32_1130 : BitVec 32 := 0#32
  let v4502 : BitVec 1 := Scalar.cmpi .eq v4501 c0_i32_1130
  let c848_i32_1132 : BitVec 32 := 848#32
  let v4503 : BitVec 32 := Scalar.subi v4499 v3126
  let c16_i32_1131 : BitVec 32 := 16#32
  let v4504 : BitVec 32 := Scalar.muli v4503 c16_i32_1131
  let v4505 : BitVec 32 := Scalar.select v4502 c848_i32_1132 v4504
  let c1_i32_1136 : BitVec 32 := 1#32
  let v4509 : BitVec 32 := Scalar.subi v4501 c1_i32_1136
  let c0_i32_1137 : BitVec 32 := 0#32
  let v4510 : BitVec 32 := Scalar.maxsi v4509 c0_i32_1137
  let v4511 : BitVec 32 := Scalar.minsi c0_i32_1138 v4510
  let c16_i32_1139 : BitVec 32 := 16#32
  let v4512 : BitVec 32 := Scalar.muli v4511 c16_i32_1139
  let v4513 : BitVec 32 := Scalar.addi v4505 v4512
  let v4807 : Index := Scalar.indexCast v4513
  ![5, v4807.toNat]
def k0_off226 (v3126 : BitVec 32) (v4499 : BitVec 32) (v4501 : BitVec 32) (c0_i32_1138 : BitVec 32) : Fin 2 → Nat :=
  let c6_i32_1218 : BitVec 32 := 6#32
  let v4859 : Index := Scalar.indexCast c6_i32_1218
  let c0_i32_1130 : BitVec 32 := 0#32
  let v4502 : BitVec 1 := Scalar.cmpi .eq v4501 c0_i32_1130
  let c848_i32_1132 : BitVec 32 := 848#32
  let v4503 : BitVec 32 := Scalar.subi v4499 v3126
  let c16_i32_1131 : BitVec 32 := 16#32
  let v4504 : BitVec 32 := Scalar.muli v4503 c16_i32_1131
  let v4505 : BitVec 32 := Scalar.select v4502 c848_i32_1132 v4504
  let c1_i32_1136 : BitVec 32 := 1#32
  let v4509 : BitVec 32 := Scalar.subi v4501 c1_i32_1136
  let c0_i32_1137 : BitVec 32 := 0#32
  let v4510 : BitVec 32 := Scalar.maxsi v4509 c0_i32_1137
  let v4511 : BitVec 32 := Scalar.minsi c0_i32_1138 v4510
  let c16_i32_1139 : BitVec 32 := 16#32
  let v4512 : BitVec 32 := Scalar.muli v4511 c16_i32_1139
  let v4513 : BitVec 32 := Scalar.addi v4505 v4512
  let v4860 : Index := Scalar.indexCast v4513
  ![6, v4860.toNat]

def k0_chk25 (v3126 : BitVec 32) (v4499 : BitVec 32) (v4501 : BitVec 32) : Prop :=
  (∀ (r : Fin 10), ∀ a, (k0_off220 v3126 v4499 v4501 (BitVec.ofNat 32 r.val)) a + S1x16.size a ≤ S7x880.size a) ∧
  (∀ (r : Fin 10), ∀ a, (k0_off221 v3126 v4499 v4501 (BitVec.ofNat 32 r.val)) a + S1x16.size a ≤ S7x880.size a) ∧
  (∀ (r : Fin 10), ∀ a, (k0_off222 v3126 v4499 v4501 (BitVec.ofNat 32 r.val)) a + S1x16.size a ≤ S7x880.size a) ∧
  (∀ (r : Fin 10), ∀ a, (k0_off223 v3126 v4499 v4501 (BitVec.ofNat 32 r.val)) a + S1x16.size a ≤ S7x880.size a) ∧
  (∀ (r : Fin 10), ∀ a, (k0_off224 v3126 v4499 v4501 (BitVec.ofNat 32 r.val)) a + S1x16.size a ≤ S7x880.size a) ∧
  (∀ (r : Fin 10), ∀ a, (k0_off225 v3126 v4499 v4501 (BitVec.ofNat 32 r.val)) a + S1x16.size a ≤ S7x880.size a) ∧
  (∀ (r : Fin 10), ∀ a, (k0_off226 v3126 v4499 v4501 (BitVec.ofNat 32 r.val)) a + S1x16.size a ≤ S7x880.size a)
theorem k0_off220_inb : ∀ (v3126 : BitVec 32) (v4499 : BitVec 32) (v4501 : BitVec 32) (k0_hw25 : k0_chk25 v3126 v4499 v4501), ∀ (r : Fin 10), ∀ a, (k0_off220 v3126 v4499 v4501 (BitVec.ofNat 32 r.val)) a + S1x16.size a ≤ S7x880.size a := fun v3126 v4499 v4501 k0_hw25 r => k0_hw25.1 r
theorem k0_off221_inb : ∀ (v3126 : BitVec 32) (v4499 : BitVec 32) (v4501 : BitVec 32) (k0_hw25 : k0_chk25 v3126 v4499 v4501), ∀ (r : Fin 10), ∀ a, (k0_off221 v3126 v4499 v4501 (BitVec.ofNat 32 r.val)) a + S1x16.size a ≤ S7x880.size a := fun v3126 v4499 v4501 k0_hw25 r => k0_hw25.2.1 r
theorem k0_off222_inb : ∀ (v3126 : BitVec 32) (v4499 : BitVec 32) (v4501 : BitVec 32) (k0_hw25 : k0_chk25 v3126 v4499 v4501), ∀ (r : Fin 10), ∀ a, (k0_off222 v3126 v4499 v4501 (BitVec.ofNat 32 r.val)) a + S1x16.size a ≤ S7x880.size a := fun v3126 v4499 v4501 k0_hw25 r => k0_hw25.2.2.1 r
theorem k0_off223_inb : ∀ (v3126 : BitVec 32) (v4499 : BitVec 32) (v4501 : BitVec 32) (k0_hw25 : k0_chk25 v3126 v4499 v4501), ∀ (r : Fin 10), ∀ a, (k0_off223 v3126 v4499 v4501 (BitVec.ofNat 32 r.val)) a + S1x16.size a ≤ S7x880.size a := fun v3126 v4499 v4501 k0_hw25 r => k0_hw25.2.2.2.1 r
theorem k0_off224_inb : ∀ (v3126 : BitVec 32) (v4499 : BitVec 32) (v4501 : BitVec 32) (k0_hw25 : k0_chk25 v3126 v4499 v4501), ∀ (r : Fin 10), ∀ a, (k0_off224 v3126 v4499 v4501 (BitVec.ofNat 32 r.val)) a + S1x16.size a ≤ S7x880.size a := fun v3126 v4499 v4501 k0_hw25 r => k0_hw25.2.2.2.2.1 r
theorem k0_off225_inb : ∀ (v3126 : BitVec 32) (v4499 : BitVec 32) (v4501 : BitVec 32) (k0_hw25 : k0_chk25 v3126 v4499 v4501), ∀ (r : Fin 10), ∀ a, (k0_off225 v3126 v4499 v4501 (BitVec.ofNat 32 r.val)) a + S1x16.size a ≤ S7x880.size a := fun v3126 v4499 v4501 k0_hw25 r => k0_hw25.2.2.2.2.2.1 r
theorem k0_off226_inb : ∀ (v3126 : BitVec 32) (v4499 : BitVec 32) (v4501 : BitVec 32) (k0_hw25 : k0_chk25 v3126 v4499 v4501), ∀ (r : Fin 10), ∀ a, (k0_off226 v3126 v4499 v4501 (BitVec.ofNat 32 r.val)) a + S1x16.size a ≤ S7x880.size a := fun v3126 v4499 v4501 k0_hw25 r => k0_hw25.2.2.2.2.2.2 r

def k0_off227 (v3126 : BitVec 32) (v4913 : BitVec 32) (v4915 : BitVec 32) (c0_i32_1236 : BitVec 32) : Fin 2 → Nat :=
  let c0_i32_1256 : BitVec 32 := 0#32
  let v4955 : Index := Scalar.indexCast c0_i32_1256
  let c0_i32_1228 : BitVec 32 := 0#32
  let v4916 : BitVec 1 := Scalar.cmpi .eq v4915 c0_i32_1228
  let c848_i32_1230 : BitVec 32 := 848#32
  let v4917 : BitVec 32 := Scalar.subi v4913 v3126
  let c16_i32_1229 : BitVec 32 := 16#32
  let v4918 : BitVec 32 := Scalar.muli v4917 c16_i32_1229
  let v4919 : BitVec 32 := Scalar.select v4916 c848_i32_1230 v4918
  let c1_i32_1234 : BitVec 32 := 1#32
  let v4923 : BitVec 32 := Scalar.subi v4915 c1_i32_1234
  let c0_i32_1235 : BitVec 32 := 0#32
  let v4924 : BitVec 32 := Scalar.maxsi v4923 c0_i32_1235
  let v4925 : BitVec 32 := Scalar.minsi c0_i32_1236 v4924
  let c16_i32_1237 : BitVec 32 := 16#32
  let v4926 : BitVec 32 := Scalar.muli v4925 c16_i32_1237
  let v4927 : BitVec 32 := Scalar.addi v4919 v4926
  let v4956 : Index := Scalar.indexCast v4927
  ![0, v4956.toNat]

def k0_off228 (v3126 : BitVec 32) (v4913 : BitVec 32) (v4915 : BitVec 32) (c0_i32_1236 : BitVec 32) : Fin 2 → Nat :=
  let c1_i32_1266 : BitVec 32 := 1#32
  let v5008 : Index := Scalar.indexCast c1_i32_1266
  let c0_i32_1228 : BitVec 32 := 0#32
  let v4916 : BitVec 1 := Scalar.cmpi .eq v4915 c0_i32_1228
  let c848_i32_1230 : BitVec 32 := 848#32
  let v4917 : BitVec 32 := Scalar.subi v4913 v3126
  let c16_i32_1229 : BitVec 32 := 16#32
  let v4918 : BitVec 32 := Scalar.muli v4917 c16_i32_1229
  let v4919 : BitVec 32 := Scalar.select v4916 c848_i32_1230 v4918
  let c1_i32_1234 : BitVec 32 := 1#32
  let v4923 : BitVec 32 := Scalar.subi v4915 c1_i32_1234
  let c0_i32_1235 : BitVec 32 := 0#32
  let v4924 : BitVec 32 := Scalar.maxsi v4923 c0_i32_1235
  let v4925 : BitVec 32 := Scalar.minsi c0_i32_1236 v4924
  let c16_i32_1237 : BitVec 32 := 16#32
  let v4926 : BitVec 32 := Scalar.muli v4925 c16_i32_1237
  let v4927 : BitVec 32 := Scalar.addi v4919 v4926
  let v5009 : Index := Scalar.indexCast v4927
  ![1, v5009.toNat]
def k0_off229 (v3126 : BitVec 32) (v4913 : BitVec 32) (v4915 : BitVec 32) (c0_i32_1236 : BitVec 32) : Fin 2 → Nat :=
  let c2_i32_1276 : BitVec 32 := 2#32
  let v5061 : Index := Scalar.indexCast c2_i32_1276
  let c0_i32_1228 : BitVec 32 := 0#32
  let v4916 : BitVec 1 := Scalar.cmpi .eq v4915 c0_i32_1228
  let c848_i32_1230 : BitVec 32 := 848#32
  let v4917 : BitVec 32 := Scalar.subi v4913 v3126
  let c16_i32_1229 : BitVec 32 := 16#32
  let v4918 : BitVec 32 := Scalar.muli v4917 c16_i32_1229
  let v4919 : BitVec 32 := Scalar.select v4916 c848_i32_1230 v4918
  let c1_i32_1234 : BitVec 32 := 1#32
  let v4923 : BitVec 32 := Scalar.subi v4915 c1_i32_1234
  let c0_i32_1235 : BitVec 32 := 0#32
  let v4924 : BitVec 32 := Scalar.maxsi v4923 c0_i32_1235
  let v4925 : BitVec 32 := Scalar.minsi c0_i32_1236 v4924
  let c16_i32_1237 : BitVec 32 := 16#32
  let v4926 : BitVec 32 := Scalar.muli v4925 c16_i32_1237
  let v4927 : BitVec 32 := Scalar.addi v4919 v4926
  let v5062 : Index := Scalar.indexCast v4927
  ![2, v5062.toNat]
def k0_off230 (v3126 : BitVec 32) (v4913 : BitVec 32) (v4915 : BitVec 32) (c0_i32_1236 : BitVec 32) : Fin 2 → Nat :=
  let c3_i32_1286 : BitVec 32 := 3#32
  let v5114 : Index := Scalar.indexCast c3_i32_1286
  let c0_i32_1228 : BitVec 32 := 0#32
  let v4916 : BitVec 1 := Scalar.cmpi .eq v4915 c0_i32_1228
  let c848_i32_1230 : BitVec 32 := 848#32
  let v4917 : BitVec 32 := Scalar.subi v4913 v3126
  let c16_i32_1229 : BitVec 32 := 16#32
  let v4918 : BitVec 32 := Scalar.muli v4917 c16_i32_1229
  let v4919 : BitVec 32 := Scalar.select v4916 c848_i32_1230 v4918
  let c1_i32_1234 : BitVec 32 := 1#32
  let v4923 : BitVec 32 := Scalar.subi v4915 c1_i32_1234
  let c0_i32_1235 : BitVec 32 := 0#32
  let v4924 : BitVec 32 := Scalar.maxsi v4923 c0_i32_1235
  let v4925 : BitVec 32 := Scalar.minsi c0_i32_1236 v4924
  let c16_i32_1237 : BitVec 32 := 16#32
  let v4926 : BitVec 32 := Scalar.muli v4925 c16_i32_1237
  let v4927 : BitVec 32 := Scalar.addi v4919 v4926
  let v5115 : Index := Scalar.indexCast v4927
  ![3, v5115.toNat]
def k0_off231 (v3126 : BitVec 32) (v4913 : BitVec 32) (v4915 : BitVec 32) (c0_i32_1236 : BitVec 32) : Fin 2 → Nat :=
  let c4_i32_1296 : BitVec 32 := 4#32
  let v5167 : Index := Scalar.indexCast c4_i32_1296
  let c0_i32_1228 : BitVec 32 := 0#32
  let v4916 : BitVec 1 := Scalar.cmpi .eq v4915 c0_i32_1228
  let c848_i32_1230 : BitVec 32 := 848#32
  let v4917 : BitVec 32 := Scalar.subi v4913 v3126
  let c16_i32_1229 : BitVec 32 := 16#32
  let v4918 : BitVec 32 := Scalar.muli v4917 c16_i32_1229
  let v4919 : BitVec 32 := Scalar.select v4916 c848_i32_1230 v4918
  let c1_i32_1234 : BitVec 32 := 1#32
  let v4923 : BitVec 32 := Scalar.subi v4915 c1_i32_1234
  let c0_i32_1235 : BitVec 32 := 0#32
  let v4924 : BitVec 32 := Scalar.maxsi v4923 c0_i32_1235
  let v4925 : BitVec 32 := Scalar.minsi c0_i32_1236 v4924
  let c16_i32_1237 : BitVec 32 := 16#32
  let v4926 : BitVec 32 := Scalar.muli v4925 c16_i32_1237
  let v4927 : BitVec 32 := Scalar.addi v4919 v4926
  let v5168 : Index := Scalar.indexCast v4927
  ![4, v5168.toNat]
def k0_off232 (v3126 : BitVec 32) (v4913 : BitVec 32) (v4915 : BitVec 32) (c0_i32_1236 : BitVec 32) : Fin 2 → Nat :=
  let c5_i32_1306 : BitVec 32 := 5#32
  let v5220 : Index := Scalar.indexCast c5_i32_1306
  let c0_i32_1228 : BitVec 32 := 0#32
  let v4916 : BitVec 1 := Scalar.cmpi .eq v4915 c0_i32_1228
  let c848_i32_1230 : BitVec 32 := 848#32
  let v4917 : BitVec 32 := Scalar.subi v4913 v3126
  let c16_i32_1229 : BitVec 32 := 16#32
  let v4918 : BitVec 32 := Scalar.muli v4917 c16_i32_1229
  let v4919 : BitVec 32 := Scalar.select v4916 c848_i32_1230 v4918
  let c1_i32_1234 : BitVec 32 := 1#32
  let v4923 : BitVec 32 := Scalar.subi v4915 c1_i32_1234
  let c0_i32_1235 : BitVec 32 := 0#32
  let v4924 : BitVec 32 := Scalar.maxsi v4923 c0_i32_1235
  let v4925 : BitVec 32 := Scalar.minsi c0_i32_1236 v4924
  let c16_i32_1237 : BitVec 32 := 16#32
  let v4926 : BitVec 32 := Scalar.muli v4925 c16_i32_1237
  let v4927 : BitVec 32 := Scalar.addi v4919 v4926
  let v5221 : Index := Scalar.indexCast v4927
  ![5, v5221.toNat]
def k0_off233 (v3126 : BitVec 32) (v4913 : BitVec 32) (v4915 : BitVec 32) (c0_i32_1236 : BitVec 32) : Fin 2 → Nat :=
  let c6_i32_1316 : BitVec 32 := 6#32
  let v5273 : Index := Scalar.indexCast c6_i32_1316
  let c0_i32_1228 : BitVec 32 := 0#32
  let v4916 : BitVec 1 := Scalar.cmpi .eq v4915 c0_i32_1228
  let c848_i32_1230 : BitVec 32 := 848#32
  let v4917 : BitVec 32 := Scalar.subi v4913 v3126
  let c16_i32_1229 : BitVec 32 := 16#32
  let v4918 : BitVec 32 := Scalar.muli v4917 c16_i32_1229
  let v4919 : BitVec 32 := Scalar.select v4916 c848_i32_1230 v4918
  let c1_i32_1234 : BitVec 32 := 1#32
  let v4923 : BitVec 32 := Scalar.subi v4915 c1_i32_1234
  let c0_i32_1235 : BitVec 32 := 0#32
  let v4924 : BitVec 32 := Scalar.maxsi v4923 c0_i32_1235
  let v4925 : BitVec 32 := Scalar.minsi c0_i32_1236 v4924
  let c16_i32_1237 : BitVec 32 := 16#32
  let v4926 : BitVec 32 := Scalar.muli v4925 c16_i32_1237
  let v4927 : BitVec 32 := Scalar.addi v4919 v4926
  let v5274 : Index := Scalar.indexCast v4927
  ![6, v5274.toNat]

def k0_chk26 (v3126 : BitVec 32) (v4913 : BitVec 32) (v4915 : BitVec 32) : Prop :=
  (∀ (r : Fin 10), ∀ a, (k0_off227 v3126 v4913 v4915 (BitVec.ofNat 32 r.val)) a + S1x16.size a ≤ S7x880.size a) ∧
  (∀ (r : Fin 10), ∀ a, (k0_off228 v3126 v4913 v4915 (BitVec.ofNat 32 r.val)) a + S1x16.size a ≤ S7x880.size a) ∧
  (∀ (r : Fin 10), ∀ a, (k0_off229 v3126 v4913 v4915 (BitVec.ofNat 32 r.val)) a + S1x16.size a ≤ S7x880.size a) ∧
  (∀ (r : Fin 10), ∀ a, (k0_off230 v3126 v4913 v4915 (BitVec.ofNat 32 r.val)) a + S1x16.size a ≤ S7x880.size a) ∧
  (∀ (r : Fin 10), ∀ a, (k0_off231 v3126 v4913 v4915 (BitVec.ofNat 32 r.val)) a + S1x16.size a ≤ S7x880.size a) ∧
  (∀ (r : Fin 10), ∀ a, (k0_off232 v3126 v4913 v4915 (BitVec.ofNat 32 r.val)) a + S1x16.size a ≤ S7x880.size a) ∧
  (∀ (r : Fin 10), ∀ a, (k0_off233 v3126 v4913 v4915 (BitVec.ofNat 32 r.val)) a + S1x16.size a ≤ S7x880.size a)
theorem k0_off227_inb : ∀ (v3126 : BitVec 32) (v4913 : BitVec 32) (v4915 : BitVec 32) (k0_hw26 : k0_chk26 v3126 v4913 v4915), ∀ (r : Fin 10), ∀ a, (k0_off227 v3126 v4913 v4915 (BitVec.ofNat 32 r.val)) a + S1x16.size a ≤ S7x880.size a := fun v3126 v4913 v4915 k0_hw26 r => k0_hw26.1 r
theorem k0_off228_inb : ∀ (v3126 : BitVec 32) (v4913 : BitVec 32) (v4915 : BitVec 32) (k0_hw26 : k0_chk26 v3126 v4913 v4915), ∀ (r : Fin 10), ∀ a, (k0_off228 v3126 v4913 v4915 (BitVec.ofNat 32 r.val)) a + S1x16.size a ≤ S7x880.size a := fun v3126 v4913 v4915 k0_hw26 r => k0_hw26.2.1 r
theorem k0_off229_inb : ∀ (v3126 : BitVec 32) (v4913 : BitVec 32) (v4915 : BitVec 32) (k0_hw26 : k0_chk26 v3126 v4913 v4915), ∀ (r : Fin 10), ∀ a, (k0_off229 v3126 v4913 v4915 (BitVec.ofNat 32 r.val)) a + S1x16.size a ≤ S7x880.size a := fun v3126 v4913 v4915 k0_hw26 r => k0_hw26.2.2.1 r
theorem k0_off230_inb : ∀ (v3126 : BitVec 32) (v4913 : BitVec 32) (v4915 : BitVec 32) (k0_hw26 : k0_chk26 v3126 v4913 v4915), ∀ (r : Fin 10), ∀ a, (k0_off230 v3126 v4913 v4915 (BitVec.ofNat 32 r.val)) a + S1x16.size a ≤ S7x880.size a := fun v3126 v4913 v4915 k0_hw26 r => k0_hw26.2.2.2.1 r
theorem k0_off231_inb : ∀ (v3126 : BitVec 32) (v4913 : BitVec 32) (v4915 : BitVec 32) (k0_hw26 : k0_chk26 v3126 v4913 v4915), ∀ (r : Fin 10), ∀ a, (k0_off231 v3126 v4913 v4915 (BitVec.ofNat 32 r.val)) a + S1x16.size a ≤ S7x880.size a := fun v3126 v4913 v4915 k0_hw26 r => k0_hw26.2.2.2.2.1 r
theorem k0_off232_inb : ∀ (v3126 : BitVec 32) (v4913 : BitVec 32) (v4915 : BitVec 32) (k0_hw26 : k0_chk26 v3126 v4913 v4915), ∀ (r : Fin 10), ∀ a, (k0_off232 v3126 v4913 v4915 (BitVec.ofNat 32 r.val)) a + S1x16.size a ≤ S7x880.size a := fun v3126 v4913 v4915 k0_hw26 r => k0_hw26.2.2.2.2.2.1 r
theorem k0_off233_inb : ∀ (v3126 : BitVec 32) (v4913 : BitVec 32) (v4915 : BitVec 32) (k0_hw26 : k0_chk26 v3126 v4913 v4915), ∀ (r : Fin 10), ∀ a, (k0_off233 v3126 v4913 v4915 (BitVec.ofNat 32 r.val)) a + S1x16.size a ≤ S7x880.size a := fun v3126 v4913 v4915 k0_hw26 r => k0_hw26.2.2.2.2.2.2 r

def k0_off234 (v3126 : BitVec 32) (v5327 : BitVec 32) (v5329 : BitVec 32) (c0_i32_1334 : BitVec 32) : Fin 2 → Nat :=
  let c0_i32_1354 : BitVec 32 := 0#32
  let v5369 : Index := Scalar.indexCast c0_i32_1354
  let c0_i32_1326 : BitVec 32 := 0#32
  let v5330 : BitVec 1 := Scalar.cmpi .eq v5329 c0_i32_1326
  let c848_i32_1328 : BitVec 32 := 848#32
  let v5331 : BitVec 32 := Scalar.subi v5327 v3126
  let c16_i32_1327 : BitVec 32 := 16#32
  let v5332 : BitVec 32 := Scalar.muli v5331 c16_i32_1327
  let v5333 : BitVec 32 := Scalar.select v5330 c848_i32_1328 v5332
  let c1_i32_1332 : BitVec 32 := 1#32
  let v5337 : BitVec 32 := Scalar.subi v5329 c1_i32_1332
  let c0_i32_1333 : BitVec 32 := 0#32
  let v5338 : BitVec 32 := Scalar.maxsi v5337 c0_i32_1333
  let v5339 : BitVec 32 := Scalar.minsi c0_i32_1334 v5338
  let c16_i32_1335 : BitVec 32 := 16#32
  let v5340 : BitVec 32 := Scalar.muli v5339 c16_i32_1335
  let v5341 : BitVec 32 := Scalar.addi v5333 v5340
  let v5370 : Index := Scalar.indexCast v5341
  ![0, v5370.toNat]

def k0_off235 (v3126 : BitVec 32) (v5327 : BitVec 32) (v5329 : BitVec 32) (c0_i32_1334 : BitVec 32) : Fin 2 → Nat :=
  let c1_i32_1364 : BitVec 32 := 1#32
  let v5422 : Index := Scalar.indexCast c1_i32_1364
  let c0_i32_1326 : BitVec 32 := 0#32
  let v5330 : BitVec 1 := Scalar.cmpi .eq v5329 c0_i32_1326
  let c848_i32_1328 : BitVec 32 := 848#32
  let v5331 : BitVec 32 := Scalar.subi v5327 v3126
  let c16_i32_1327 : BitVec 32 := 16#32
  let v5332 : BitVec 32 := Scalar.muli v5331 c16_i32_1327
  let v5333 : BitVec 32 := Scalar.select v5330 c848_i32_1328 v5332
  let c1_i32_1332 : BitVec 32 := 1#32
  let v5337 : BitVec 32 := Scalar.subi v5329 c1_i32_1332
  let c0_i32_1333 : BitVec 32 := 0#32
  let v5338 : BitVec 32 := Scalar.maxsi v5337 c0_i32_1333
  let v5339 : BitVec 32 := Scalar.minsi c0_i32_1334 v5338
  let c16_i32_1335 : BitVec 32 := 16#32
  let v5340 : BitVec 32 := Scalar.muli v5339 c16_i32_1335
  let v5341 : BitVec 32 := Scalar.addi v5333 v5340
  let v5423 : Index := Scalar.indexCast v5341
  ![1, v5423.toNat]
def k0_off236 (v3126 : BitVec 32) (v5327 : BitVec 32) (v5329 : BitVec 32) (c0_i32_1334 : BitVec 32) : Fin 2 → Nat :=
  let c2_i32_1374 : BitVec 32 := 2#32
  let v5475 : Index := Scalar.indexCast c2_i32_1374
  let c0_i32_1326 : BitVec 32 := 0#32
  let v5330 : BitVec 1 := Scalar.cmpi .eq v5329 c0_i32_1326
  let c848_i32_1328 : BitVec 32 := 848#32
  let v5331 : BitVec 32 := Scalar.subi v5327 v3126
  let c16_i32_1327 : BitVec 32 := 16#32
  let v5332 : BitVec 32 := Scalar.muli v5331 c16_i32_1327
  let v5333 : BitVec 32 := Scalar.select v5330 c848_i32_1328 v5332
  let c1_i32_1332 : BitVec 32 := 1#32
  let v5337 : BitVec 32 := Scalar.subi v5329 c1_i32_1332
  let c0_i32_1333 : BitVec 32 := 0#32
  let v5338 : BitVec 32 := Scalar.maxsi v5337 c0_i32_1333
  let v5339 : BitVec 32 := Scalar.minsi c0_i32_1334 v5338
  let c16_i32_1335 : BitVec 32 := 16#32
  let v5340 : BitVec 32 := Scalar.muli v5339 c16_i32_1335
  let v5341 : BitVec 32 := Scalar.addi v5333 v5340
  let v5476 : Index := Scalar.indexCast v5341
  ![2, v5476.toNat]
def k0_off237 (v3126 : BitVec 32) (v5327 : BitVec 32) (v5329 : BitVec 32) (c0_i32_1334 : BitVec 32) : Fin 2 → Nat :=
  let c3_i32_1384 : BitVec 32 := 3#32
  let v5528 : Index := Scalar.indexCast c3_i32_1384
  let c0_i32_1326 : BitVec 32 := 0#32
  let v5330 : BitVec 1 := Scalar.cmpi .eq v5329 c0_i32_1326
  let c848_i32_1328 : BitVec 32 := 848#32
  let v5331 : BitVec 32 := Scalar.subi v5327 v3126
  let c16_i32_1327 : BitVec 32 := 16#32
  let v5332 : BitVec 32 := Scalar.muli v5331 c16_i32_1327
  let v5333 : BitVec 32 := Scalar.select v5330 c848_i32_1328 v5332
  let c1_i32_1332 : BitVec 32 := 1#32
  let v5337 : BitVec 32 := Scalar.subi v5329 c1_i32_1332
  let c0_i32_1333 : BitVec 32 := 0#32
  let v5338 : BitVec 32 := Scalar.maxsi v5337 c0_i32_1333
  let v5339 : BitVec 32 := Scalar.minsi c0_i32_1334 v5338
  let c16_i32_1335 : BitVec 32 := 16#32
  let v5340 : BitVec 32 := Scalar.muli v5339 c16_i32_1335
  let v5341 : BitVec 32 := Scalar.addi v5333 v5340
  let v5529 : Index := Scalar.indexCast v5341
  ![3, v5529.toNat]
def k0_off238 (v3126 : BitVec 32) (v5327 : BitVec 32) (v5329 : BitVec 32) (c0_i32_1334 : BitVec 32) : Fin 2 → Nat :=
  let c4_i32_1394 : BitVec 32 := 4#32
  let v5581 : Index := Scalar.indexCast c4_i32_1394
  let c0_i32_1326 : BitVec 32 := 0#32
  let v5330 : BitVec 1 := Scalar.cmpi .eq v5329 c0_i32_1326
  let c848_i32_1328 : BitVec 32 := 848#32
  let v5331 : BitVec 32 := Scalar.subi v5327 v3126
  let c16_i32_1327 : BitVec 32 := 16#32
  let v5332 : BitVec 32 := Scalar.muli v5331 c16_i32_1327
  let v5333 : BitVec 32 := Scalar.select v5330 c848_i32_1328 v5332
  let c1_i32_1332 : BitVec 32 := 1#32
  let v5337 : BitVec 32 := Scalar.subi v5329 c1_i32_1332
  let c0_i32_1333 : BitVec 32 := 0#32
  let v5338 : BitVec 32 := Scalar.maxsi v5337 c0_i32_1333
  let v5339 : BitVec 32 := Scalar.minsi c0_i32_1334 v5338
  let c16_i32_1335 : BitVec 32 := 16#32
  let v5340 : BitVec 32 := Scalar.muli v5339 c16_i32_1335
  let v5341 : BitVec 32 := Scalar.addi v5333 v5340
  let v5582 : Index := Scalar.indexCast v5341
  ![4, v5582.toNat]
def k0_off239 (v3126 : BitVec 32) (v5327 : BitVec 32) (v5329 : BitVec 32) (c0_i32_1334 : BitVec 32) : Fin 2 → Nat :=
  let c5_i32_1404 : BitVec 32 := 5#32
  let v5634 : Index := Scalar.indexCast c5_i32_1404
  let c0_i32_1326 : BitVec 32 := 0#32
  let v5330 : BitVec 1 := Scalar.cmpi .eq v5329 c0_i32_1326
  let c848_i32_1328 : BitVec 32 := 848#32
  let v5331 : BitVec 32 := Scalar.subi v5327 v3126
  let c16_i32_1327 : BitVec 32 := 16#32
  let v5332 : BitVec 32 := Scalar.muli v5331 c16_i32_1327
  let v5333 : BitVec 32 := Scalar.select v5330 c848_i32_1328 v5332
  let c1_i32_1332 : BitVec 32 := 1#32
  let v5337 : BitVec 32 := Scalar.subi v5329 c1_i32_1332
  let c0_i32_1333 : BitVec 32 := 0#32
  let v5338 : BitVec 32 := Scalar.maxsi v5337 c0_i32_1333
  let v5339 : BitVec 32 := Scalar.minsi c0_i32_1334 v5338
  let c16_i32_1335 : BitVec 32 := 16#32
  let v5340 : BitVec 32 := Scalar.muli v5339 c16_i32_1335
  let v5341 : BitVec 32 := Scalar.addi v5333 v5340
  let v5635 : Index := Scalar.indexCast v5341
  ![5, v5635.toNat]
def k0_off240 (v3126 : BitVec 32) (v5327 : BitVec 32) (v5329 : BitVec 32) (c0_i32_1334 : BitVec 32) : Fin 2 → Nat :=
  let c6_i32_1414 : BitVec 32 := 6#32
  let v5687 : Index := Scalar.indexCast c6_i32_1414
  let c0_i32_1326 : BitVec 32 := 0#32
  let v5330 : BitVec 1 := Scalar.cmpi .eq v5329 c0_i32_1326
  let c848_i32_1328 : BitVec 32 := 848#32
  let v5331 : BitVec 32 := Scalar.subi v5327 v3126
  let c16_i32_1327 : BitVec 32 := 16#32
  let v5332 : BitVec 32 := Scalar.muli v5331 c16_i32_1327
  let v5333 : BitVec 32 := Scalar.select v5330 c848_i32_1328 v5332
  let c1_i32_1332 : BitVec 32 := 1#32
  let v5337 : BitVec 32 := Scalar.subi v5329 c1_i32_1332
  let c0_i32_1333 : BitVec 32 := 0#32
  let v5338 : BitVec 32 := Scalar.maxsi v5337 c0_i32_1333
  let v5339 : BitVec 32 := Scalar.minsi c0_i32_1334 v5338
  let c16_i32_1335 : BitVec 32 := 16#32
  let v5340 : BitVec 32 := Scalar.muli v5339 c16_i32_1335
  let v5341 : BitVec 32 := Scalar.addi v5333 v5340
  let v5688 : Index := Scalar.indexCast v5341
  ![6, v5688.toNat]

def k0_chk27 (v3126 : BitVec 32) (v5327 : BitVec 32) (v5329 : BitVec 32) : Prop :=
  (∀ (r : Fin 10), ∀ a, (k0_off234 v3126 v5327 v5329 (BitVec.ofNat 32 r.val)) a + S1x16.size a ≤ S7x880.size a) ∧
  (∀ (r : Fin 10), ∀ a, (k0_off235 v3126 v5327 v5329 (BitVec.ofNat 32 r.val)) a + S1x16.size a ≤ S7x880.size a) ∧
  (∀ (r : Fin 10), ∀ a, (k0_off236 v3126 v5327 v5329 (BitVec.ofNat 32 r.val)) a + S1x16.size a ≤ S7x880.size a) ∧
  (∀ (r : Fin 10), ∀ a, (k0_off237 v3126 v5327 v5329 (BitVec.ofNat 32 r.val)) a + S1x16.size a ≤ S7x880.size a) ∧
  (∀ (r : Fin 10), ∀ a, (k0_off238 v3126 v5327 v5329 (BitVec.ofNat 32 r.val)) a + S1x16.size a ≤ S7x880.size a) ∧
  (∀ (r : Fin 10), ∀ a, (k0_off239 v3126 v5327 v5329 (BitVec.ofNat 32 r.val)) a + S1x16.size a ≤ S7x880.size a) ∧
  (∀ (r : Fin 10), ∀ a, (k0_off240 v3126 v5327 v5329 (BitVec.ofNat 32 r.val)) a + S1x16.size a ≤ S7x880.size a)
theorem k0_off234_inb : ∀ (v3126 : BitVec 32) (v5327 : BitVec 32) (v5329 : BitVec 32) (k0_hw27 : k0_chk27 v3126 v5327 v5329), ∀ (r : Fin 10), ∀ a, (k0_off234 v3126 v5327 v5329 (BitVec.ofNat 32 r.val)) a + S1x16.size a ≤ S7x880.size a := fun v3126 v5327 v5329 k0_hw27 r => k0_hw27.1 r
theorem k0_off235_inb : ∀ (v3126 : BitVec 32) (v5327 : BitVec 32) (v5329 : BitVec 32) (k0_hw27 : k0_chk27 v3126 v5327 v5329), ∀ (r : Fin 10), ∀ a, (k0_off235 v3126 v5327 v5329 (BitVec.ofNat 32 r.val)) a + S1x16.size a ≤ S7x880.size a := fun v3126 v5327 v5329 k0_hw27 r => k0_hw27.2.1 r
theorem k0_off236_inb : ∀ (v3126 : BitVec 32) (v5327 : BitVec 32) (v5329 : BitVec 32) (k0_hw27 : k0_chk27 v3126 v5327 v5329), ∀ (r : Fin 10), ∀ a, (k0_off236 v3126 v5327 v5329 (BitVec.ofNat 32 r.val)) a + S1x16.size a ≤ S7x880.size a := fun v3126 v5327 v5329 k0_hw27 r => k0_hw27.2.2.1 r
theorem k0_off237_inb : ∀ (v3126 : BitVec 32) (v5327 : BitVec 32) (v5329 : BitVec 32) (k0_hw27 : k0_chk27 v3126 v5327 v5329), ∀ (r : Fin 10), ∀ a, (k0_off237 v3126 v5327 v5329 (BitVec.ofNat 32 r.val)) a + S1x16.size a ≤ S7x880.size a := fun v3126 v5327 v5329 k0_hw27 r => k0_hw27.2.2.2.1 r
theorem k0_off238_inb : ∀ (v3126 : BitVec 32) (v5327 : BitVec 32) (v5329 : BitVec 32) (k0_hw27 : k0_chk27 v3126 v5327 v5329), ∀ (r : Fin 10), ∀ a, (k0_off238 v3126 v5327 v5329 (BitVec.ofNat 32 r.val)) a + S1x16.size a ≤ S7x880.size a := fun v3126 v5327 v5329 k0_hw27 r => k0_hw27.2.2.2.2.1 r
theorem k0_off239_inb : ∀ (v3126 : BitVec 32) (v5327 : BitVec 32) (v5329 : BitVec 32) (k0_hw27 : k0_chk27 v3126 v5327 v5329), ∀ (r : Fin 10), ∀ a, (k0_off239 v3126 v5327 v5329 (BitVec.ofNat 32 r.val)) a + S1x16.size a ≤ S7x880.size a := fun v3126 v5327 v5329 k0_hw27 r => k0_hw27.2.2.2.2.2.1 r
theorem k0_off240_inb : ∀ (v3126 : BitVec 32) (v5327 : BitVec 32) (v5329 : BitVec 32) (k0_hw27 : k0_chk27 v3126 v5327 v5329), ∀ (r : Fin 10), ∀ a, (k0_off240 v3126 v5327 v5329 (BitVec.ofNat 32 r.val)) a + S1x16.size a ≤ S7x880.size a := fun v3126 v5327 v5329 k0_hw27 r => k0_hw27.2.2.2.2.2.2 r

def k0_off241 (v3126 : BitVec 32) (v5741 : BitVec 32) (v5743 : BitVec 32) (c0_i32_1432 : BitVec 32) : Fin 2 → Nat :=
  let c0_i32_1452 : BitVec 32 := 0#32
  let v5783 : Index := Scalar.indexCast c0_i32_1452
  let c0_i32_1424 : BitVec 32 := 0#32
  let v5744 : BitVec 1 := Scalar.cmpi .eq v5743 c0_i32_1424
  let c848_i32_1426 : BitVec 32 := 848#32
  let v5745 : BitVec 32 := Scalar.subi v5741 v3126
  let c16_i32_1425 : BitVec 32 := 16#32
  let v5746 : BitVec 32 := Scalar.muli v5745 c16_i32_1425
  let v5747 : BitVec 32 := Scalar.select v5744 c848_i32_1426 v5746
  let c1_i32_1430 : BitVec 32 := 1#32
  let v5751 : BitVec 32 := Scalar.subi v5743 c1_i32_1430
  let c0_i32_1431 : BitVec 32 := 0#32
  let v5752 : BitVec 32 := Scalar.maxsi v5751 c0_i32_1431
  let v5753 : BitVec 32 := Scalar.minsi c0_i32_1432 v5752
  let c16_i32_1433 : BitVec 32 := 16#32
  let v5754 : BitVec 32 := Scalar.muli v5753 c16_i32_1433
  let v5755 : BitVec 32 := Scalar.addi v5747 v5754
  let v5784 : Index := Scalar.indexCast v5755
  ![0, v5784.toNat]

def k0_off242 (v3126 : BitVec 32) (v5741 : BitVec 32) (v5743 : BitVec 32) (c0_i32_1432 : BitVec 32) : Fin 2 → Nat :=
  let c1_i32_1462 : BitVec 32 := 1#32
  let v5836 : Index := Scalar.indexCast c1_i32_1462
  let c0_i32_1424 : BitVec 32 := 0#32
  let v5744 : BitVec 1 := Scalar.cmpi .eq v5743 c0_i32_1424
  let c848_i32_1426 : BitVec 32 := 848#32
  let v5745 : BitVec 32 := Scalar.subi v5741 v3126
  let c16_i32_1425 : BitVec 32 := 16#32
  let v5746 : BitVec 32 := Scalar.muli v5745 c16_i32_1425
  let v5747 : BitVec 32 := Scalar.select v5744 c848_i32_1426 v5746
  let c1_i32_1430 : BitVec 32 := 1#32
  let v5751 : BitVec 32 := Scalar.subi v5743 c1_i32_1430
  let c0_i32_1431 : BitVec 32 := 0#32
  let v5752 : BitVec 32 := Scalar.maxsi v5751 c0_i32_1431
  let v5753 : BitVec 32 := Scalar.minsi c0_i32_1432 v5752
  let c16_i32_1433 : BitVec 32 := 16#32
  let v5754 : BitVec 32 := Scalar.muli v5753 c16_i32_1433
  let v5755 : BitVec 32 := Scalar.addi v5747 v5754
  let v5837 : Index := Scalar.indexCast v5755
  ![1, v5837.toNat]
def k0_off243 (v3126 : BitVec 32) (v5741 : BitVec 32) (v5743 : BitVec 32) (c0_i32_1432 : BitVec 32) : Fin 2 → Nat :=
  let c2_i32_1472 : BitVec 32 := 2#32
  let v5889 : Index := Scalar.indexCast c2_i32_1472
  let c0_i32_1424 : BitVec 32 := 0#32
  let v5744 : BitVec 1 := Scalar.cmpi .eq v5743 c0_i32_1424
  let c848_i32_1426 : BitVec 32 := 848#32
  let v5745 : BitVec 32 := Scalar.subi v5741 v3126
  let c16_i32_1425 : BitVec 32 := 16#32
  let v5746 : BitVec 32 := Scalar.muli v5745 c16_i32_1425
  let v5747 : BitVec 32 := Scalar.select v5744 c848_i32_1426 v5746
  let c1_i32_1430 : BitVec 32 := 1#32
  let v5751 : BitVec 32 := Scalar.subi v5743 c1_i32_1430
  let c0_i32_1431 : BitVec 32 := 0#32
  let v5752 : BitVec 32 := Scalar.maxsi v5751 c0_i32_1431
  let v5753 : BitVec 32 := Scalar.minsi c0_i32_1432 v5752
  let c16_i32_1433 : BitVec 32 := 16#32
  let v5754 : BitVec 32 := Scalar.muli v5753 c16_i32_1433
  let v5755 : BitVec 32 := Scalar.addi v5747 v5754
  let v5890 : Index := Scalar.indexCast v5755
  ![2, v5890.toNat]
def k0_off244 (v3126 : BitVec 32) (v5741 : BitVec 32) (v5743 : BitVec 32) (c0_i32_1432 : BitVec 32) : Fin 2 → Nat :=
  let c3_i32_1482 : BitVec 32 := 3#32
  let v5942 : Index := Scalar.indexCast c3_i32_1482
  let c0_i32_1424 : BitVec 32 := 0#32
  let v5744 : BitVec 1 := Scalar.cmpi .eq v5743 c0_i32_1424
  let c848_i32_1426 : BitVec 32 := 848#32
  let v5745 : BitVec 32 := Scalar.subi v5741 v3126
  let c16_i32_1425 : BitVec 32 := 16#32
  let v5746 : BitVec 32 := Scalar.muli v5745 c16_i32_1425
  let v5747 : BitVec 32 := Scalar.select v5744 c848_i32_1426 v5746
  let c1_i32_1430 : BitVec 32 := 1#32
  let v5751 : BitVec 32 := Scalar.subi v5743 c1_i32_1430
  let c0_i32_1431 : BitVec 32 := 0#32
  let v5752 : BitVec 32 := Scalar.maxsi v5751 c0_i32_1431
  let v5753 : BitVec 32 := Scalar.minsi c0_i32_1432 v5752
  let c16_i32_1433 : BitVec 32 := 16#32
  let v5754 : BitVec 32 := Scalar.muli v5753 c16_i32_1433
  let v5755 : BitVec 32 := Scalar.addi v5747 v5754
  let v5943 : Index := Scalar.indexCast v5755
  ![3, v5943.toNat]
def k0_off245 (v3126 : BitVec 32) (v5741 : BitVec 32) (v5743 : BitVec 32) (c0_i32_1432 : BitVec 32) : Fin 2 → Nat :=
  let c4_i32_1492 : BitVec 32 := 4#32
  let v5995 : Index := Scalar.indexCast c4_i32_1492
  let c0_i32_1424 : BitVec 32 := 0#32
  let v5744 : BitVec 1 := Scalar.cmpi .eq v5743 c0_i32_1424
  let c848_i32_1426 : BitVec 32 := 848#32
  let v5745 : BitVec 32 := Scalar.subi v5741 v3126
  let c16_i32_1425 : BitVec 32 := 16#32
  let v5746 : BitVec 32 := Scalar.muli v5745 c16_i32_1425
  let v5747 : BitVec 32 := Scalar.select v5744 c848_i32_1426 v5746
  let c1_i32_1430 : BitVec 32 := 1#32
  let v5751 : BitVec 32 := Scalar.subi v5743 c1_i32_1430
  let c0_i32_1431 : BitVec 32 := 0#32
  let v5752 : BitVec 32 := Scalar.maxsi v5751 c0_i32_1431
  let v5753 : BitVec 32 := Scalar.minsi c0_i32_1432 v5752
  let c16_i32_1433 : BitVec 32 := 16#32
  let v5754 : BitVec 32 := Scalar.muli v5753 c16_i32_1433
  let v5755 : BitVec 32 := Scalar.addi v5747 v5754
  let v5996 : Index := Scalar.indexCast v5755
  ![4, v5996.toNat]
def k0_off246 (v3126 : BitVec 32) (v5741 : BitVec 32) (v5743 : BitVec 32) (c0_i32_1432 : BitVec 32) : Fin 2 → Nat :=
  let c5_i32_1502 : BitVec 32 := 5#32
  let v6048 : Index := Scalar.indexCast c5_i32_1502
  let c0_i32_1424 : BitVec 32 := 0#32
  let v5744 : BitVec 1 := Scalar.cmpi .eq v5743 c0_i32_1424
  let c848_i32_1426 : BitVec 32 := 848#32
  let v5745 : BitVec 32 := Scalar.subi v5741 v3126
  let c16_i32_1425 : BitVec 32 := 16#32
  let v5746 : BitVec 32 := Scalar.muli v5745 c16_i32_1425
  let v5747 : BitVec 32 := Scalar.select v5744 c848_i32_1426 v5746
  let c1_i32_1430 : BitVec 32 := 1#32
  let v5751 : BitVec 32 := Scalar.subi v5743 c1_i32_1430
  let c0_i32_1431 : BitVec 32 := 0#32
  let v5752 : BitVec 32 := Scalar.maxsi v5751 c0_i32_1431
  let v5753 : BitVec 32 := Scalar.minsi c0_i32_1432 v5752
  let c16_i32_1433 : BitVec 32 := 16#32
  let v5754 : BitVec 32 := Scalar.muli v5753 c16_i32_1433
  let v5755 : BitVec 32 := Scalar.addi v5747 v5754
  let v6049 : Index := Scalar.indexCast v5755
  ![5, v6049.toNat]
def k0_off247 (v3126 : BitVec 32) (v5741 : BitVec 32) (v5743 : BitVec 32) (c0_i32_1432 : BitVec 32) : Fin 2 → Nat :=
  let c6_i32_1512 : BitVec 32 := 6#32
  let v6101 : Index := Scalar.indexCast c6_i32_1512
  let c0_i32_1424 : BitVec 32 := 0#32
  let v5744 : BitVec 1 := Scalar.cmpi .eq v5743 c0_i32_1424
  let c848_i32_1426 : BitVec 32 := 848#32
  let v5745 : BitVec 32 := Scalar.subi v5741 v3126
  let c16_i32_1425 : BitVec 32 := 16#32
  let v5746 : BitVec 32 := Scalar.muli v5745 c16_i32_1425
  let v5747 : BitVec 32 := Scalar.select v5744 c848_i32_1426 v5746
  let c1_i32_1430 : BitVec 32 := 1#32
  let v5751 : BitVec 32 := Scalar.subi v5743 c1_i32_1430
  let c0_i32_1431 : BitVec 32 := 0#32
  let v5752 : BitVec 32 := Scalar.maxsi v5751 c0_i32_1431
  let v5753 : BitVec 32 := Scalar.minsi c0_i32_1432 v5752
  let c16_i32_1433 : BitVec 32 := 16#32
  let v5754 : BitVec 32 := Scalar.muli v5753 c16_i32_1433
  let v5755 : BitVec 32 := Scalar.addi v5747 v5754
  let v6102 : Index := Scalar.indexCast v5755
  ![6, v6102.toNat]

def k0_chk28 (v3126 : BitVec 32) (v5741 : BitVec 32) (v5743 : BitVec 32) : Prop :=
  (∀ (r : Fin 10), ∀ a, (k0_off241 v3126 v5741 v5743 (BitVec.ofNat 32 r.val)) a + S1x16.size a ≤ S7x880.size a) ∧
  (∀ (r : Fin 10), ∀ a, (k0_off242 v3126 v5741 v5743 (BitVec.ofNat 32 r.val)) a + S1x16.size a ≤ S7x880.size a) ∧
  (∀ (r : Fin 10), ∀ a, (k0_off243 v3126 v5741 v5743 (BitVec.ofNat 32 r.val)) a + S1x16.size a ≤ S7x880.size a) ∧
  (∀ (r : Fin 10), ∀ a, (k0_off244 v3126 v5741 v5743 (BitVec.ofNat 32 r.val)) a + S1x16.size a ≤ S7x880.size a) ∧
  (∀ (r : Fin 10), ∀ a, (k0_off245 v3126 v5741 v5743 (BitVec.ofNat 32 r.val)) a + S1x16.size a ≤ S7x880.size a) ∧
  (∀ (r : Fin 10), ∀ a, (k0_off246 v3126 v5741 v5743 (BitVec.ofNat 32 r.val)) a + S1x16.size a ≤ S7x880.size a) ∧
  (∀ (r : Fin 10), ∀ a, (k0_off247 v3126 v5741 v5743 (BitVec.ofNat 32 r.val)) a + S1x16.size a ≤ S7x880.size a)
theorem k0_off241_inb : ∀ (v3126 : BitVec 32) (v5741 : BitVec 32) (v5743 : BitVec 32) (k0_hw28 : k0_chk28 v3126 v5741 v5743), ∀ (r : Fin 10), ∀ a, (k0_off241 v3126 v5741 v5743 (BitVec.ofNat 32 r.val)) a + S1x16.size a ≤ S7x880.size a := fun v3126 v5741 v5743 k0_hw28 r => k0_hw28.1 r
theorem k0_off242_inb : ∀ (v3126 : BitVec 32) (v5741 : BitVec 32) (v5743 : BitVec 32) (k0_hw28 : k0_chk28 v3126 v5741 v5743), ∀ (r : Fin 10), ∀ a, (k0_off242 v3126 v5741 v5743 (BitVec.ofNat 32 r.val)) a + S1x16.size a ≤ S7x880.size a := fun v3126 v5741 v5743 k0_hw28 r => k0_hw28.2.1 r
theorem k0_off243_inb : ∀ (v3126 : BitVec 32) (v5741 : BitVec 32) (v5743 : BitVec 32) (k0_hw28 : k0_chk28 v3126 v5741 v5743), ∀ (r : Fin 10), ∀ a, (k0_off243 v3126 v5741 v5743 (BitVec.ofNat 32 r.val)) a + S1x16.size a ≤ S7x880.size a := fun v3126 v5741 v5743 k0_hw28 r => k0_hw28.2.2.1 r
theorem k0_off244_inb : ∀ (v3126 : BitVec 32) (v5741 : BitVec 32) (v5743 : BitVec 32) (k0_hw28 : k0_chk28 v3126 v5741 v5743), ∀ (r : Fin 10), ∀ a, (k0_off244 v3126 v5741 v5743 (BitVec.ofNat 32 r.val)) a + S1x16.size a ≤ S7x880.size a := fun v3126 v5741 v5743 k0_hw28 r => k0_hw28.2.2.2.1 r
theorem k0_off245_inb : ∀ (v3126 : BitVec 32) (v5741 : BitVec 32) (v5743 : BitVec 32) (k0_hw28 : k0_chk28 v3126 v5741 v5743), ∀ (r : Fin 10), ∀ a, (k0_off245 v3126 v5741 v5743 (BitVec.ofNat 32 r.val)) a + S1x16.size a ≤ S7x880.size a := fun v3126 v5741 v5743 k0_hw28 r => k0_hw28.2.2.2.2.1 r
theorem k0_off246_inb : ∀ (v3126 : BitVec 32) (v5741 : BitVec 32) (v5743 : BitVec 32) (k0_hw28 : k0_chk28 v3126 v5741 v5743), ∀ (r : Fin 10), ∀ a, (k0_off246 v3126 v5741 v5743 (BitVec.ofNat 32 r.val)) a + S1x16.size a ≤ S7x880.size a := fun v3126 v5741 v5743 k0_hw28 r => k0_hw28.2.2.2.2.2.1 r
theorem k0_off247_inb : ∀ (v3126 : BitVec 32) (v5741 : BitVec 32) (v5743 : BitVec 32) (k0_hw28 : k0_chk28 v3126 v5741 v5743), ∀ (r : Fin 10), ∀ a, (k0_off247 v3126 v5741 v5743 (BitVec.ofNat 32 r.val)) a + S1x16.size a ≤ S7x880.size a := fun v3126 v5741 v5743 k0_hw28 r => k0_hw28.2.2.2.2.2.2 r

def k0_off248 (i : grid0.Coords) (k0_t1 : Fin k0_t1_loop.trips) : Fin 3 → Nat :=
  let arg0 : BitVec 32 := BitVec.ofNat 32 (i 0).val
  let c512_i32_1522 : BitVec 32 := 512#32
  let v6154 : BitVec 32 := Scalar.muli arg0 c512_i32_1522
  let c0_i32_8 : BitVec 32 := 0#32
  let c1_i32_9 : BitVec 32 := 1#32
  let arg11 : BitVec 32 := Scf.iv c0_i32_8 c1_i32_9 k0_t1
  let c2_i32_772 : BitVec 32 := 2#32
  let v3108 : BitVec 32 := Scalar.muli arg11 c2_i32_772
  let c1_i32_773 : BitVec 32 := 1#32
  let v3109 : BitVec 32 := Scalar.addi v3108 c1_i32_773
  let v6155 : BitVec 32 := Scalar.addi v6154 v3109
  let arg1 : BitVec 32 := BitVec.ofNat 32 (i 1).val
  let c0_i32_1524 : BitVec 32 := 0#32
  ![v6155.toNat, arg1.toNat, 0]
def k0_off249 (i : grid0.Coords) (c0_i32_13 : BitVec 32) : Fin 3 → Nat :=
  let arg0 : BitVec 32 := BitVec.ofNat 32 (i 0).val
  let c512_i32 : BitVec 32 := 512#32
  let v34 : BitVec 32 := Scalar.muli arg0 c512_i32
  let c512_i32_11 : BitVec 32 := 512#32
  let v35 : BitVec 32 := Scalar.addi v34 c512_i32_11
  let c2_i32_12 : BitVec 32 := 2#32
  let v36 : BitVec 32 := Scalar.subi v35 c2_i32_12
  let v37 : BitVec 32 := Scalar.addi v36 c0_i32_13
  let arg1 : BitVec 32 := BitVec.ofNat 32 (i 1).val
  let c0_i32_15 : BitVec 32 := 0#32
  ![v37.toNat, arg1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x256x50x50 : Shape := ⟨4, ![4, 256, 50, 50]⟩
abbrev S4 : Shape := ⟨1, ![4]⟩
abbrev S4x256x4 : Shape := ⟨3, ![4, 256, 4]⟩
abbrev S4x1 : Shape := ⟨2, ![4, 1]⟩
abbrev S4x256 : Shape := ⟨2, ![4, 256]⟩
abbrev S1024x1 : Shape := ⟨2, ![1024, 1]⟩
abbrev S1024x4 : Shape := ⟨2, ![1024, 4]⟩
abbrev S1024x5 : Shape := ⟨2, ![1024, 5]⟩
abbrev S10 : Shape := ⟨1, ![10]⟩
abbrev S7 : Shape := ⟨1, ![7]⟩
abbrev S1024 : Shape := ⟨1, ![1024]⟩
abbrev S_ : Shape := ⟨0, ![]⟩
abbrev S1x7 : Shape := ⟨2, ![1, 7]⟩
abbrev S1024x7 : Shape := ⟨2, ![1024, 7]⟩
abbrev S1024x7x1 : Shape := ⟨3, ![1024, 7, 1]⟩
abbrev S1x10 : Shape := ⟨2, ![1, 10]⟩
abbrev S1x1x10 : Shape := ⟨3, ![1, 1, 10]⟩
abbrev S1024x7x10 : Shape := ⟨3, ![1024, 7, 10]⟩
abbrev S1024x1x256x50x50 : Shape := ⟨5, ![1024, 1, 256, 50, 50]⟩
abbrev S1024x256x50x50 : Shape := ⟨4, ![1024, 256, 50, 50]⟩
abbrev S1024x7x10x1x1 : Shape := ⟨5, ![1024, 7, 10, 1, 1]⟩
abbrev S1024x1x1x7x10 : Shape := ⟨5, ![1024, 1, 1, 7, 10]⟩
abbrev S1024x7x10x7x10 : Shape := ⟨5, ![1024, 7, 10, 7, 10]⟩
abbrev S1024x7x10x7x10x1 : Shape := ⟨6, ![1024, 7, 10, 7, 10, 1]⟩
abbrev S1024x7x10x7x10x2 : Shape := ⟨6, ![1024, 7, 10, 7, 10, 2]⟩
abbrev S1024x256x7x10x7x10 : Shape := ⟨6, ![1024, 256, 7, 10, 7, 10]⟩
abbrev S1024x256x7x7x10x10 : Shape := ⟨6, ![1024, 256, 7, 7, 10, 10]⟩
abbrev S1024x256x7x7x100 : Shape := ⟨5, ![1024, 256, 7, 7, 100]⟩
abbrev S1024x7x1x10x1 : Shape := ⟨5, ![1024, 7, 1, 10, 1]⟩
abbrev S1024x1x7x1x10 : Shape := ⟨5, ![1024, 1, 7, 1, 10]⟩
abbrev S1024x7x7x10x10 : Shape := ⟨5, ![1024, 7, 7, 10, 10]⟩
abbrev S1024x7x7x100 : Shape := ⟨4, ![1024, 7, 7, 100]⟩
abbrev S1024x1x7x7x100 : Shape := ⟨5, ![1024, 1, 7, 7, 100]⟩
abbrev S256x7x7x100 : Shape := ⟨4, ![256, 7, 7, 100]⟩
abbrev S1024x256x7x7 : Shape := ⟨4, ![1024, 256, 7, 7]⟩
abbrev S1024x7x7 : Shape := ⟨3, ![1024, 7, 7]⟩
abbrev S1024x1x7x7 : Shape := ⟨4, ![1024, 1, 7, 7]⟩
abbrev S256x7x7 : Shape := ⟨3, ![256, 7, 7]⟩

abbrev nBuf : Space → Nat
  | .hbm => 254
  | .vmem => 0
  | .smem => 0
  | _ => 0

abbrev hbmTy0_0 (i : Nat) : BufTy := match i % 128 with
  | 0 => ⟨S4x256x50x50, .f32⟩
  | 1 => ⟨S4, .f32⟩
  | 2 => ⟨S4x256x4, .f32⟩
  | 3 => ⟨S4x1, .f32⟩
  | 4 => ⟨S4x256, .f32⟩
  | 5 => ⟨S1024x1, .f32⟩
  | 6 => ⟨S1024x4, .f32⟩
  | 7 => ⟨S1024x5, .f32⟩
  | 8 => ⟨S10, .i32⟩
  | 9 => ⟨S7, .i32⟩
  | 10 => ⟨S7, .f32⟩
  | 11 => ⟨S7, .i32⟩
  | 12 => ⟨S7, .f32⟩
  | 13 => ⟨S1024x1, .f32⟩
  | 14 => ⟨S1024, .f32⟩
  | 15 => ⟨S1024, .i32⟩
  | 16 => ⟨S1024x1, .f32⟩
  | 17 => ⟨S1024, .f32⟩
  | 18 => ⟨S_, .f32⟩
  | 19 => ⟨S1024, .f32⟩
  | 20 => ⟨S1024, .f32⟩
  | 21 => ⟨S1024, .f32⟩
  | 22 => ⟨S1024, .i32⟩
  | 23 => ⟨S1024x1, .f32⟩
  | 24 => ⟨S1024, .f32⟩
  | 25 => ⟨S_, .f32⟩
  | 26 => ⟨S1024, .f32⟩
  | 27 => ⟨S1024, .f32⟩
  | 28 => ⟨S1024, .f32⟩
  | 29 => ⟨S1024, .i32⟩
  | 30 => ⟨S1024x1, .f32⟩
  | 31 => ⟨S1024, .f32⟩
  | 32 => ⟨S_, .f32⟩
  | 33 => ⟨S1024, .f32⟩
  | 34 => ⟨S1024, .f32⟩
  | 35 => ⟨S1024, .f32⟩
  | 36 => ⟨S1024, .i32⟩
  | 37 => ⟨S1024x1, .f32⟩
  | 38 => ⟨S1024, .f32⟩
  | 39 => ⟨S_, .f32⟩
  | 40 => ⟨S1024, .f32⟩
  | 41 => ⟨S1024, .f32⟩
  | 42 => ⟨S1024, .f32⟩
  | 43 => ⟨S1024, .i32⟩
  | 44 => ⟨S1024, .i32⟩
  | 45 => ⟨S_, .i32⟩
  | 46 => ⟨S1024, .i32⟩
  | 47 => ⟨S1024, .i32⟩
  | 48 => ⟨S_, .i32⟩
  | 49 => ⟨S1024, .i32⟩
  | 50 => ⟨S1024, .i32⟩
  | 51 => ⟨S1024, .f32⟩
  | 52 => ⟨S1024, .i32⟩
  | 53 => ⟨S_, .i32⟩
  | 54 => ⟨S1024, .i32⟩
  | 55 => ⟨S1024, .i32⟩
  | 56 => ⟨S_, .i32⟩
  | 57 => ⟨S1024, .i32⟩
  | 58 => ⟨S1024, .i32⟩
  | 59 => ⟨S1024, .f32⟩
  | 60 => ⟨S_, .f32⟩
  | 61 => ⟨S1024, .f32⟩
  | 62 => ⟨S1024, .f32⟩
  | 63 => ⟨S_, .f32⟩
  | 64 => ⟨S1024, .f32⟩
  | 65 => ⟨S1024, .f32⟩
  | 66 => ⟨S1x7, .f32⟩
  | 67 => ⟨S1024x1, .f32⟩
  | 68 => ⟨S1024x7, .f32⟩
  | 69 => ⟨S1024x7, .f32⟩
  | 70 => ⟨S1024x7, .f32⟩
  | 71 => ⟨S1024x7, .f32⟩
  | 72 => ⟨S1024x7, .i32⟩
  | 73 => ⟨S1024x1, .i32⟩
  | 74 => ⟨S1024x7, .i32⟩
  | 75 => ⟨S1024x7, .i32⟩
  | 76 => ⟨S_, .i32⟩
  | 77 => ⟨S_, .i32⟩
  | 78 => ⟨S_, .i32⟩
  | 79 => ⟨S1024x7, .i32⟩
  | 80 => ⟨S1024x7, .i32⟩
  | 81 => ⟨S_, .i32⟩
  | 82 => ⟨S1024x7, .i32⟩
  | 83 => ⟨S1024x7, .i32⟩
  | 84 => ⟨S_, .f32⟩
  | 85 => ⟨S7, .f32⟩
  | 86 => ⟨S7, .f32⟩
  | 87 => ⟨S1x7, .f32⟩
  | 88 => ⟨S1024x1, .f32⟩
  | 89 => ⟨S1024x7, .f32⟩
  | 90 => ⟨S1024x7, .f32⟩
  | 91 => ⟨S1024x7, .f32⟩
  | 92 => ⟨S1024x7, .f32⟩
  | 93 => ⟨S1024x7, .i32⟩
  | 94 => ⟨S1024x1, .i32⟩
  | 95 => ⟨S1024x7, .i32⟩
  | 96 => ⟨S1024x7, .i32⟩
  | 97 => ⟨S_, .i32⟩
  | 98 => ⟨S_, .i32⟩
  | 99 => ⟨S_, .i32⟩
  | 100 => ⟨S1024x7, .i32⟩
  | 101 => ⟨S1024x7, .i32⟩
  | 102 => ⟨S_, .i32⟩
  | 103 => ⟨S1024x7, .i32⟩
  | 104 => ⟨S1024x7, .i32⟩
  | 105 => ⟨S1x7, .f32⟩
  | 106 => ⟨S1024x1, .f32⟩
  | 107 => ⟨S1024x7, .f32⟩
  | 108 => ⟨S1024x7, .f32⟩
  | 109 => ⟨S1024x7, .f32⟩
  | 110 => ⟨S1024x7, .f32⟩
  | 111 => ⟨S1024x7, .i32⟩
  | 112 => ⟨S1024x1, .i32⟩
  | 113 => ⟨S1024x7, .i32⟩
  | 114 => ⟨S1024x7, .i32⟩
  | 115 => ⟨S_, .i32⟩
  | 116 => ⟨S_, .i32⟩
  | 117 => ⟨S_, .i32⟩
  | 118 => ⟨S1024x7, .i32⟩
  | 119 => ⟨S1024x7, .i32⟩
  | 120 => ⟨S_, .i32⟩
  | 121 => ⟨S1024x7, .i32⟩
  | 122 => ⟨S1024x7, .i32⟩
  | 123 => ⟨S_, .f32⟩
  | 124 => ⟨S7, .f32⟩
  | 125 => ⟨S7, .f32⟩
  | 126 => ⟨S1x7, .f32⟩
  | 127 => ⟨S1024x1, .f32⟩
  | _ => ⟨S4x256x50x50, .f32⟩

abbrev hbmTy0_1 (i : Nat) : BufTy := match i % 128 with
  | 0 => ⟨S1024x7, .f32⟩
  | 1 => ⟨S1024x7, .f32⟩
  | 2 => ⟨S1024x7, .f32⟩
  | 3 => ⟨S1024x7, .f32⟩
  | 4 => ⟨S1024x7, .i32⟩
  | 5 => ⟨S1024x1, .i32⟩
  | 6 => ⟨S1024x7, .i32⟩
  | 7 => ⟨S1024x7, .i32⟩
  | 8 => ⟨S_, .i32⟩
  | 9 => ⟨S_, .i32⟩
  | 10 => ⟨S_, .i32⟩
  | 11 => ⟨S1024x7, .i32⟩
  | 12 => ⟨S1024x7, .i32⟩
  | 13 => ⟨S_, .i32⟩
  | 14 => ⟨S1024x7, .i32⟩
  | 15 => ⟨S1024x7, .i32⟩
  | 16 => ⟨S1024x7x1, .i32⟩
  | 17 => ⟨S1x10, .i32⟩
  | 18 => ⟨S1x1x10, .i32⟩
  | 19 => ⟨S1024x7x10, .i32⟩
  | 20 => ⟨S1024x7x10, .i32⟩
  | 21 => ⟨S1024x7x10, .i32⟩
  | 22 => ⟨S1024x7x1, .i32⟩
  | 23 => ⟨S1x10, .i32⟩
  | 24 => ⟨S1x1x10, .i32⟩
  | 25 => ⟨S1024x7x10, .i32⟩
  | 26 => ⟨S1024x7x10, .i32⟩
  | 27 => ⟨S1024x7x10, .i32⟩
  | 28 => ⟨S1024x7x1, .i32⟩
  | 29 => ⟨S1024x7x10, .i32⟩
  | 30 => ⟨S1024x7x10, .i1⟩
  | 31 => ⟨S1024x7x1, .i32⟩
  | 32 => ⟨S1024x7x10, .i32⟩
  | 33 => ⟨S1024x7x10, .i1⟩
  | 34 => ⟨S_, .i32⟩
  | 35 => ⟨S1024x7x10, .i32⟩
  | 36 => ⟨S1024x7x10, .i32⟩
  | 37 => ⟨S_, .i32⟩
  | 38 => ⟨S1024x7x10, .i32⟩
  | 39 => ⟨S1024x7x10, .i32⟩
  | 40 => ⟨S_, .i32⟩
  | 41 => ⟨S1024, .i32⟩
  | 42 => ⟨S1024, .i1⟩
  | 43 => ⟨S_, .i32⟩
  | 44 => ⟨S1024, .i32⟩
  | 45 => ⟨S1024, .i32⟩
  | 46 => ⟨S1024, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S1024x1, .i32⟩
  | 72 => ⟨S1024x1, .i32⟩
  | 73 => ⟨S1024x1, .i32⟩
  | 74 => ⟨S1024x1, .i32⟩
  | 75 => ⟨S1024x4, .i32⟩
  | 76 => ⟨S1024x1x256x50x50, .f32⟩
  | 77 => ⟨S1024x256x50x50, .f32⟩
  | 78 => ⟨S1024x7x10x1x1, .i32⟩
  | 79 => ⟨S1024x1x1x7x10, .i32⟩
  | 80 => ⟨S_, .i32⟩
  | 81 => ⟨S1024x7x10x1x1, .i32⟩
  | 82 => ⟨S1024x7x10x1x1, .i1⟩
  | 83 => ⟨S_, .i32⟩
  | 84 => ⟨S1024x7x10x1x1, .i32⟩
  | 85 => ⟨S1024x7x10x1x1, .i32⟩
  | 86 => ⟨S1024x7x10x1x1, .i32⟩
  | 87 => ⟨S_, .i32⟩
  | 88 => ⟨S1024x1x1x7x10, .i32⟩
  | 89 => ⟨S1024x1x1x7x10, .i1⟩
  | 90 => ⟨S_, .i32⟩
  | 91 => ⟨S1024x1x1x7x10, .i32⟩
  | 92 => ⟨S1024x1x1x7x10, .i32⟩
  | 93 => ⟨S1024x1x1x7x10, .i32⟩
  | 94 => ⟨S1024x7x10x7x10, .i32⟩
  | 95 => ⟨S1024x7x10x7x10, .i32⟩
  | 96 => ⟨S1024x7x10x7x10x1, .i32⟩
  | 97 => ⟨S1024x7x10x7x10x1, .i32⟩
  | 98 => ⟨S1024x7x10x7x10x2, .i32⟩
  | 99 => ⟨S1024x256x7x10x7x10, .f32⟩
  | 100 => ⟨S1024x256x7x7x10x10, .f32⟩
  | 101 => ⟨S1024x256x7x7x100, .f32⟩
  | 102 => ⟨S1024x7x1x10x1, .i1⟩
  | 103 => ⟨S1024x1x7x1x10, .i1⟩
  | 104 => ⟨S1024x7x7x10x10, .i1⟩
  | 105 => ⟨S1024x7x7x10x10, .i1⟩
  | 106 => ⟨S1024x7x7x10x10, .i1⟩
  | 107 => ⟨S1024x7x7x100, .i1⟩
  | 108 => ⟨S1024x1x7x7x100, .i1⟩
  | 109 => ⟨S_, .f32⟩
  | 110 => ⟨S1024x256x7x7x100, .i1⟩
  | 111 => ⟨S256x7x7x100, .f32⟩
  | 112 => ⟨S1024x256x7x7x100, .f32⟩
  | 113 => ⟨S1024x256x7x7x100, .f32⟩
  | 114 => ⟨S_, .f32⟩
  | 115 => ⟨S1024x256x7x7, .f32⟩
  | 116 => ⟨S_, .i1⟩
  | 117 => ⟨S1024x7x7, .i1⟩
  | 118 => ⟨S1024x7x7, .i1⟩
  | 119 => ⟨S1024x1x7x7, .i1⟩
  | 120 => ⟨S_, .f32⟩
  | 121 => ⟨S_, .f32⟩
  | 122 => ⟨S1024x256x7x7, .i1⟩
  | 123 => ⟨S256x7x7, .f32⟩
  | 124 => ⟨S1024x256x7x7, .f32⟩
  | 125 => ⟨S1024x256x7x7, .f32⟩
  | _ => ⟨S4x256x50x50, .f32⟩

abbrev hbmTy (i : Nat) : BufTy := match i / 128 with
  | 0 => hbmTy0_0 i
  | 1 => hbmTy0_1 i
  | _ => ⟨S4x256x50x50, .f32⟩

abbrev bufTy : (tb : Table) → Fin (tcTables nBuf tb) → BufTy
  | .hbm, ⟨i, _⟩ => hbmTy i
  | _, _ => ⟨S4x256x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c : Ref sig .tc := ⟨.hbm, 45, rfl⟩
abbrev main_v38 : Ref sig .tc := ⟨.hbm, 46, rfl⟩
abbrev main_v39 : Ref sig .tc := ⟨.hbm, 47, rfl⟩
abbrev main_c_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_4 : Ref sig .tc := ⟨.hbm, 53, rfl⟩
abbrev main_v44 : Ref sig .tc := ⟨.hbm, 54, rfl⟩
abbrev main_v45 : Ref sig .tc := ⟨.hbm, 55, rfl⟩
abbrev main_c_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_c_8 : Ref sig .tc := ⟨.hbm, 76, rfl⟩
abbrev main_c_9 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_11 : Ref sig .tc := ⟨.hbm, 97, rfl⟩
abbrev main_c_12 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_13 : Ref sig .tc := ⟨.hbm, 115, rfl⟩
abbrev main_c_14 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_v87 : Ref sig .tc := ⟨.hbm, 122, rfl⟩
abbrev main_cst_15 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_16 : Ref sig .tc := ⟨.hbm, 136, rfl⟩
abbrev main_c_17 : Ref sig .tc := ⟨.hbm, 137, rfl⟩
abbrev main_call7_v0 : Ref sig .tc := ⟨.hbm, 138, rfl⟩
abbrev main_call7_v1 : Ref sig .tc := ⟨.hbm, 139, rfl⟩
abbrev main_call7_v2 : Ref sig .tc := ⟨.hbm, 140, rfl⟩
abbrev main_call7_v3 : Ref sig .tc := ⟨.hbm, 141, rfl⟩
abbrev main_call7_v4 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_18 : Ref sig .tc := ⟨.hbm, 162, rfl⟩
abbrev main_v119 : Ref sig .tc := ⟨.hbm, 163, rfl⟩
abbrev main_v120 : Ref sig .tc := ⟨.hbm, 164, rfl⟩
abbrev main_c_19 : Ref sig .tc := ⟨.hbm, 165, rfl⟩
abbrev main_v121 : Ref sig .tc := ⟨.hbm, 166, rfl⟩
abbrev main_v122 : Ref sig .tc := ⟨.hbm, 167, rfl⟩
abbrev main_c_20 : Ref sig .tc := ⟨.hbm, 168, rfl⟩
abbrev main_v123 : Ref sig .tc := ⟨.hbm, 169, rfl⟩
abbrev main_v124 : Ref sig .tc := ⟨.hbm, 170, rfl⟩
abbrev main_c_21 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_22 : Ref sig .tc := ⟨.hbm, 175, rfl⟩
abbrev main_c_23 : Ref sig .tc := ⟨.hbm, 176, rfl⟩
abbrev main_v128 : Ref sig .tc := ⟨.hbm, 177, rfl⟩
abbrev main_c_24 : Ref sig .tc := ⟨.hbm, 178, rfl⟩
abbrev main_c_25 : Ref sig .tc := ⟨.hbm, 179, rfl⟩
abbrev main_v129 : Ref sig .tc := ⟨.hbm, 180, rfl⟩
abbrev main_c_26 : Ref sig .tc := ⟨.hbm, 181, rfl⟩
abbrev main_v130 : Ref sig .tc := ⟨.hbm, 182, rfl⟩
abbrev main_c_27 : Ref sig .tc := ⟨.hbm, 183, rfl⟩
abbrev main_c_28 : Ref sig .tc := ⟨.hbm, 184, rfl⟩
abbrev main_v131 : Ref sig .tc := ⟨.hbm, 185, rfl⟩
abbrev main_c_29 : Ref sig .tc := ⟨.hbm, 186, rfl⟩
abbrev main_c_30 : Ref sig .tc := ⟨.hbm, 187, rfl⟩
abbrev main_v132 : Ref sig .tc := ⟨.hbm, 188, rfl⟩
abbrev main_c_31 : Ref sig .tc := ⟨.hbm, 189, rfl⟩
abbrev main_v133 : Ref sig .tc := ⟨.hbm, 190, rfl⟩
abbrev main_c_32 : Ref sig .tc := ⟨.hbm, 191, rfl⟩
abbrev main_c_33 : Ref sig .tc := ⟨.hbm, 192, rfl⟩
abbrev main_v134 : Ref sig .tc := ⟨.hbm, 193, rfl⟩
abbrev main_c_34 : Ref sig .tc := ⟨.hbm, 194, rfl⟩
abbrev main_c_35 : Ref sig .tc := ⟨.hbm, 195, rfl⟩
abbrev main_v135 : Ref sig .tc := ⟨.hbm, 196, rfl⟩
abbrev main_c_36 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_c_37 : Ref sig .tc := ⟨.hbm, 208, rfl⟩
abbrev main_v146 : Ref sig .tc := ⟨.hbm, 209, rfl⟩
abbrev main_v147 : Ref sig .tc := ⟨.hbm, 210, rfl⟩
abbrev main_c_38 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_c_39 : Ref sig .tc := ⟨.hbm, 215, rfl⟩
abbrev main_v151 : Ref sig .tc := ⟨.hbm, 216, rfl⟩
abbrev main_v152 : Ref sig .tc := ⟨.hbm, 217, rfl⟩
abbrev main_c_40 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_cst_41 : Ref sig .tc := ⟨.hbm, 237, rfl⟩
abbrev main_call8_v0 : Ref sig .tc := ⟨.hbm, 238, rfl⟩
abbrev main_call8_v1 : Ref sig .tc := ⟨.hbm, 239, rfl⟩
abbrev main_call8_v2 : Ref sig .tc := ⟨.hbm, 240, rfl⟩
abbrev main_v171 : Ref sig .tc := ⟨.hbm, 241, rfl⟩
abbrev main_cst_42 : Ref sig .tc := ⟨.hbm, 242, rfl⟩
abbrev main_v172 : Ref sig .tc := ⟨.hbm, 243, rfl⟩
abbrev main_c_43 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_cst_44 : Ref sig .tc := ⟨.hbm, 248, rfl⟩
abbrev main_call9_v0 : Ref sig .tc := ⟨.hbm, 249, rfl⟩
abbrev main_call9_v1 : Ref sig .tc := ⟨.hbm, 250, rfl⟩
abbrev main_call9_v2 : Ref sig .tc := ⟨.hbm, 251, rfl⟩
abbrev main_call9_v3 : Ref sig .tc := ⟨.hbm, 252, rfl⟩
abbrev main_v176 : Ref sig .tc := ⟨.hbm, 253, rfl⟩

abbrev nD : Nat := 1
abbrev τ : Topo := Topo.v7x

variable {F : FTy → Type} [FloatOps F]
-- ==== Proof.Roi.Base.lean ====
/-
  The setting every module of this proof shares: the program as the launch theorem sees it, the resource algebra of the
  launch's handshakes beside the transfers' counters, a tile's thread and its buffers, and the rules by which one load,
  one store or one checked fact at the head of a program is stepped over.
-/
module

public import proofs.«01_k».proof.KernelIdeal
public import proofs.«01_k».proof.Proof.Gen.KernelIdeal
public import Idealize.ShloMosaic.Lib.SparseCore.Quiescent
public import Idealize.ShloMosaic.Lib.StableHlo.Run
public import Idealize.ShloMosaic.Lib.Pipeline.Kit
public import Idealize.ShloMosaic.Lib.WritesUnit
public import Idealize.ShloMosaic.Lib.Tactic

@[expose] public section

noncomputable section

namespace Cert.Proof.Roi

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters
/-- The propositions the run is stated in. -/
abbrev SP (F : FTy → Type) : Type := sProp (MT nD τ sig (HIx 1) (Elt F) ℕ UU ℕ)

/-! ## A tile's thread and its buffers -/

/-- The SparseCore and the subcore of a grid point. -/
abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

abbrev featM : Memref sig .scVector .hbm S16x160000 .f32 := Memref.whole main_v3_scv
abbrev metaH : Memref sig .scVector .hbm S32768 .i32 := Memref.whole main_v102_scv
abbrev outH : Memref sig .scVector .hbm S1024x16x896 .f32 := Memref.whole main_v103_scv
abbrev tabM : Memref sig .scVector .vmem S80896 .f32 := Memref.whole cc0_scratch0
abbrev metaM : Memref sig .scVector .vmem S16384 .i32 := Memref.whole cc0_scratch1
abbrev rowM : Memref sig .scVector .vmem S7x880 .f32 := Memref.whole cc0_scratch2
abbrev outM : Memref sig .scVector .vmem S1792 .f32 := Memref.whole cc0_scratch3

variable [FloatOps F]

section Rules

variable {d : Dev nD} {i : grid0.Coords} {α β : Type}

/-- What a tile's program `p` needs to run to the postcondition `Q`. -/
abbrev wpT (d : Dev nD) (i : grid0.Coords) {α : Type} (p : Prog (TpuEff nD τ sig (Elt F) Λ₀ (.scVector ((i 0).castLE hcore0) ((i 1).castLE hsub0))) α) (Q : α → SP F) : SP F :=
  wp frame (wpE (defs₀ (F := F)) 𝒱₀ (thr d i) none) Set.univ p Q

/-- A program in two parts: the first part's result states what the second starts from. -/
theorem bind_wp {P : SP F} {p : Prog (TpuEff nD τ sig (Elt F) Λ₀ (.scVector ((i 0).castLE hcore0) ((i 1).castLE hsub0))) α}
    {k : α → Prog (TpuEff nD τ sig (Elt F) Λ₀ (.scVector ((i 0).castLE hcore0) ((i 1).castLE hsub0))) β} {Q : β → SP F}
    (h : P ⊢ wpT d i p fun x => wpT d i (k x) Q) : P ⊢ wpT d i (p >>= k) Q :=
  h.trans (Entails.of_eq (wp_bind ..).symm)

theorem seq_wp {P P' : SP F} {p : Prog (TpuEff nD τ sig (Elt F) Λ₀ (.scVector ((i 0).castLE hcore0) ((i 1).castLE hsub0))) α}
    {k : α → Prog (TpuEff nD τ sig (Elt F) Λ₀ (.scVector ((i 0).castLE hcore0) ((i 1).castLE hsub0))) β} {Q : β → SP F}
    (h : P ⊢ wpT d i p fun _ => P') (hk : ∀ x, P' ⊢ wpT d i (k x) Q) : P ⊢ wpT d i (p >>= k) Q :=
  bind_wp (h.trans (wp_mono _ _ _ fun x => hk x))

theorem ret_wp {P : SP F} {a : α} {Q : α → SP F} (h : P ⊢ Q a) : P ⊢ wpT d i (pure a) Q :=
  h.trans (le_wp_ret _ _ _ a Q)

/-- A checked fact at the head. -/
theorem assume_wp {P : SP F} {A : Prop} {dc : Decidable A} {k : PLift A → Prog (TpuEff nD τ sig (Elt F) Λ₀ (.scVector ((i 0).castLE hcore0) ((i 1).castLE hsub0))) α} {Q : α → SP F}
    (hA : A) (h : P ⊢ wpT d i (k ⟨hA⟩) Q) : P ⊢ wpT d i (Prog.op (TpuEff.assume A dc) k) Q :=
  h.trans (wp_assume 𝒱₀ (thr d i) none Set.univ hA)

/-- A load at the head, of a buffer held in front of the rest. -/
theorem load_wp {cs : CoreSpace} {s : Shape} {e : EltTy} {m : Memref sig .scVector cs s e} {r : LoadRect s} {hl : m.view.LoadsAt r}
    {k : (r.shape.Idx → Elt F e) → Prog (TpuEff nD τ sig (Elt F) Λ₀ (.scVector ((i 0).castLE hcore0) ((i 1).castLE hsub0))) α}
    {S : Finset (Idx (m.view.loc (thr d i)))} {q : PosShare TreeShare} {f : Buf (Elt F) (m.view.loc (thr d i))} {R : SP F} {Q : α → SP F}
    (hS : m.view.setOn r.set ⊆ S)
    (h : iprop((m.view.loc (thr d i) ↦[S]{q} f) ∗ R) ⊢ wpT d i (k (m.view.readAt (Elt F) r f)) Q) :
    iprop((m.view.loc (thr d i) ↦[S]{q} f) ∗ R) ⊢ wpT d i (Prog.op (.load m r hl) k) Q := by
  iintro ⟨H, HR⟩
  iapply (wp_load 𝒱₀ (thr d i) none Set.univ hS) $$ H
  iintro H
  iapply h
  isplitl [H] <;> iassumption

/-- A store at the head, to a buffer held in front of the rest. -/
theorem store_wp {cs : CoreSpace} {s : Shape} {e : EltTy} {m : Memref sig .scVector cs s e} {r : Rect s} {w : r.shape.Idx → Elt F e}
    {hx : (m.access r).Stores Finset.univ} {hm : Finset.univ = Finset.univ ∨ ∀ a, r.stride a = 1}
    {k : PUnit → Prog (TpuEff nD τ sig (Elt F) Λ₀ (.scVector ((i 0).castLE hcore0) ((i 1).castLE hsub0))) α}
    {S : Finset (Idx (m.view.loc (thr d i)))} {f : Buf (Elt F) (m.view.loc (thr d i))} {R : SP F} {Q : α → SP F}
    (hS : (m.access r).set ⊆ S)
    (h : iprop((m.view.loc (thr d i) ↦[S]{fullShare} m.view.writes (Elt F) f [⟨r, w⟩]) ∗ R) ⊢ wpT d i (k ⟨⟩) Q) :
    iprop((m.view.loc (thr d i) ↦[S]{fullShare} f) ∗ R) ⊢ wpT d i (Prog.op (.store m r w Finset.univ hx hm) k) Q := by
  iintro ⟨H, HR⟩
  iapply (wp_store_writes₀ 𝒱₀ (thr d i) none Set.univ (hx := hx) (hm := hm) (w := w) hS) $$ H
  iintro H
  iapply h
  isplitl [H] <;> iassumption

/-- A loop, by what it keeps. -/
theorem for_wp {P : SP F} {σ : Type} {l : Scf.Loop 32} {hok : l.OK} {init : σ}
    {body : Fin l.trips → σ → Prog (TpuEff nD τ sig (Elt F) Λ₀ (.scVector ((i 0).castLE hcore0) ((i 1).castLE hsub0))) σ} {Q : σ → SP F}
    (I : ℕ → σ → SP F) (h0 : P ⊢ I 0 init) (hbody : ∀ (k : Fin l.trips) (acc : σ), I k.val acc ⊢ wpT d i (body k acc) (I (k.val + 1)))
    (hQ : ∀ acc, I l.trips acc ⊢ Q acc) : P ⊢ wpT d i (Scf.Loop.for l hok init body) Q := by
  iintro HP
  iapply (Scf.wp_for _ _ _ l.lb l.ub l.st hok init body I hbody)
  isplitl [HP]
  · iapply h0; iexact HP
  · iintro %acc HI
    iapply (hQ acc); iexact HI

/-- A loop of no trips. -/
theorem for0_wp {P : SP F} {σ : Type} {l : Scf.Loop 32} {hok : l.OK} {init : σ}
    {body : Fin l.trips → σ → Prog (TpuEff nD τ sig (Elt F) Λ₀ (.scVector ((i 0).castLE hcore0) ((i 1).castLE hsub0))) σ} {Q : σ → SP F}
    (h : l.trips = 0) (hQ : P ⊢ Q init) : P ⊢ wpT d i (Scf.Loop.for l hok init body) Q :=
  Scf.wp_for0' _ _ _ l.lb l.ub l.st hok init body h Q P hQ

/-- Programs in sequence, regrouped. -/
theorem assoc_wp {P : SP F} {γ : Type} {p : Prog (TpuEff nD τ sig (Elt F) Λ₀ (.scVector ((i 0).castLE hcore0) ((i 1).castLE hsub0))) α}
    {k : α → Prog (TpuEff nD τ sig (Elt F) Λ₀ (.scVector ((i 0).castLE hcore0) ((i 1).castLE hsub0))) β}
    {k' : β → Prog (TpuEff nD τ sig (Elt F) Λ₀ (.scVector ((i 0).castLE hcore0) ((i 1).castLE hsub0))) γ} {Q : γ → SP F}
    (h : P ⊢ wpT d i (p >>= fun x => k x >>= k') Q) : P ⊢ wpT d i ((p >>= k) >>= k') Q := by
  refine h.trans (Entails.of_eq ?_)
  simp only [wpT, wp_bind]

end Rules

end Cert.Proof.Roi

end
-- ==== Proof.Roi.Buf.lean ====
/-
  The tile's buffers read as plain functions of natural numbers: what a sixteen-word load finds and what a
  sixteen-word store leaves, element by element.
-/
module

public import proofs.«01_k».proof.Proof.Roi.Base
public import Idealize.ShloMosaic.Lib.Pipeline.Value
public import Idealize.ShloMosaic.Lib.Pointwise

@[expose] public section

noncomputable section

namespace Cert.Proof.Roi

open Cert.KernelIdeal Cert.KernelIdeal.Gen
open Idealize.ShloMosaic

variable {F : FTy → Type} [FloatOps F]

/-- The index with the given coordinates, each taken modulo its extent. -/
def at0 {s : Shape} (h : ∀ a, 0 < s.size a) (x : Fin s.rank → ℕ) : s.Idx := fun a => ⟨x a % s.size a, Nat.mod_lt _ (h a)⟩

theorem at0_eq {s : Shape} (h : ∀ a, 0 < s.size a) (x : Fin s.rank → ℕ) (y : s.Idx) (hxy : ∀ a, (y a).val = x a) : at0 h x = y :=
  funext fun a => Fin.ext (by
    show x a % s.size a = (y a).val
    rw [← hxy a]; exact Nat.mod_eq_of_lt (y a).isLt)

theorem at0_val {s : Shape} (h : ∀ a, 0 < s.size a) (x : Fin s.rank → ℕ) (a : Fin s.rank) (hx : x a < s.size a) : (at0 h x a).val = x a :=
  Nat.mod_eq_of_lt hx

theorem pos16 : ∀ a : Fin S16.rank, 0 < S16.size a := by decide
theorem pos1x16 : ∀ a : Fin S1x16.rank, 0 < S1x16.size a := by decide
theorem pos80896 : ∀ a : Fin S80896.rank, 0 < S80896.size a := by decide
theorem pos16384 : ∀ a : Fin S16384.rank, 0 < S16384.size a := by decide
theorem pos1792 : ∀ a : Fin S1792.rank, 0 < S1792.size a := by decide
theorem pos7x880 : ∀ a : Fin S7x880.rank, 0 < S7x880.size a := by decide

/-- Word `n` of the feature table, of the meta words, of the output buffer; word `(p, c)` of the row buffer. -/
def tv (T : tabM.view.ty.Contents (Elt F)) (n : ℕ) : F .f32 := tabM.view.read (Elt F) T (at0 pos80896 ![n])
def mv (m : metaM.view.ty.Contents (Elt F)) (n : ℕ) : BitVec 32 := metaM.view.read (Elt F) m (at0 pos16384 ![n])
def ov (g : outM.view.ty.Contents (Elt F)) (n : ℕ) : F .f32 := outM.view.read (Elt F) g (at0 pos1792 ![n])
def rv (f : rowM.view.ty.Contents (Elt F)) (p c : ℕ) : F .f32 := rowM.view.read (Elt F) f (at0 pos7x880 ![p, c])

/-- Lane `l` of a vector of sixteen. -/
abbrev lane (l : ℕ) : S16.Idx := at0 pos16 ![l]

theorem lane_eq (x : S16.Idx) : lane (x 0).val = x := at0_eq _ _ _ (by rw [Fin.forall_fin_one]; rfl)

/-- The greatest of the first `n + 1` values, taken from the left. -/
def mchain (a : ℕ → F .f32) : ℕ → F .f32
  | 0 => a 0
  | n + 1 => FloatOps.maximumf (mchain a n) (a (n + 1))

theorem mchain_congr {a b : ℕ → F .f32} {n : ℕ} (h : ∀ k ≤ n, a k = b k) : mchain a n = mchain b n := by
  induction n with
  | zero => exact h 0 le_rfl
  | succ n ih =>
    unfold mchain
    rw [ih fun k hk => h k (by omega), h _ le_rfl]

/-! ## Loads -/

theorem ld_tab (T : tabM.view.ty.Contents (Elt F)) {off : Fin 1 → ℕ} (inb : ∀ a, off a + S16.size a ≤ S80896.size a) (x : S16.Idx) :
    tabM.view.readAt (Elt F) (Rect.unit (s := S80896) off S16.size inb).toLoadRect T x = tv T (off 0 + (x 0).val) := by
  rw [View.readAt_apply, tv]
  refine congrArg _ (at0_eq _ _ _ ?_).symm
  rw [Fin.forall_fin_one]
  show off 0 + 1 * (x 0).val = _
  rw [Nat.one_mul]; rfl

theorem ld_meta (m : metaM.view.ty.Contents (Elt F)) {off : Fin 1 → ℕ} (inb : ∀ a, off a + S16.size a ≤ S16384.size a) (x : S16.Idx) :
    metaM.view.readAt (Elt F) (Rect.unit (s := S16384) off S16.size inb).toLoadRect m x = mv m (off 0 + (x 0).val) := by
  rw [View.readAt_apply, mv]
  refine congrArg _ (at0_eq _ _ _ ?_).symm
  rw [Fin.forall_fin_one]
  show off 0 + 1 * (x 0).val = _
  rw [Nat.one_mul]; rfl

theorem cast16 {α : Type} (w : S16.Idx → α) : shapeCast S16 w shapeCasts_S16_S16 = w := shapeCast_self w _

theorem cast_1x16 {α : Type} (w : S1x16.Idx → α) (x : S16.Idx) :
    shapeCast S16 w shapeCasts_S1x16_S16 x = w (at0 pos1x16 ![0, (x 0).val]) := by
  refine (shapeCast_apply w _ x (at0 pos1x16 ![0, (x 0).val]) ?_)
  rw [Shape.rowMajor_val_two, Shape.rowMajor_val_one, at0_val _ _ _ (by decide : (0 : ℕ) < 1), at0_val _ _ _ (x 0).isLt]
  show 0 * _ + (x 0).val = _
  omega

theorem cast_16 {α : Type} (w : S16.Idx → α) (x : S1x16.Idx) :
    shapeCast S1x16 w shapeCasts_S16_S1x16 x = w (lane (x 1).val) := by
  refine (shapeCast_apply w _ x (lane (x 1).val) ?_)
  rw [Shape.rowMajor_val_two, Shape.rowMajor_val_one, at0_val _ _ _ (x 1).isLt]
  have h0 : (x 0).val < 1 := (x 0).isLt
  have h1 : (x 0).val = 0 := by omega
  rw [h1]
  show (x 1).val = 0 * _ + _
  omega

theorem ld_row (f : rowM.view.ty.Contents (Elt F)) {off : Fin 2 → ℕ} (inb : ∀ a, off a + S1x16.size a ≤ S7x880.size a) (x : S16.Idx) :
    shapeCast S16 (rowM.view.readAt (Elt F) (Rect.unit (s := S7x880) off S1x16.size inb).toLoadRect f) shapeCasts_S1x16_S16 x
      = rv f (off 0) (off 1 + (x 0).val) := by
  rw [cast_1x16, View.readAt_apply, rv]
  refine congrArg _ (at0_eq _ _ _ ?_).symm
  rw [Fin.forall_fin_two]
  constructor
  · show off 0 + 1 * 0 = _
    rw [Nat.mul_zero]; rfl
  · show off 1 + 1 * (at0 pos1x16 ![0, (x 0).val] 1).val = _
    rw [at0_val _ _ _ (x 0).isLt, Nat.one_mul]; rfl

/-! ## Stores -/

theorem st_row (f : rowM.view.ty.Contents (Elt F)) {off : Fin 2 → ℕ} (inb : ∀ a, off a + S1x16.size a ≤ S7x880.size a)
    (w : FVec F S16 .f32) (p c : ℕ) (hp : p < 7) (hc : c < 880) :
    rv (rowM.view.writes (Elt F) f [⟨Rect.unit (s := S7x880) off S1x16.size inb, shapeCast S1x16 w shapeCasts_S16_S1x16⟩]) p c
      = if p = off 0 ∧ off 1 ≤ c ∧ c < off 1 + 16 then w (lane (c - off 1)) else rv f p c := by
  have hv0 : (at0 pos7x880 ![p, c] 0).val = p := at0_val _ _ _ hp
  have hv1 : (at0 pos7x880 ![p, c] 1).val = c := at0_val _ _ _ hc
  split
  · next h =>
    have hl : c - off 1 < 16 := by omega
    refine (View.read_writes_cons_unit_of_mem _ _ inb _ [] _ (at0 pos1x16 ![0, c - off 1]) rfl ?_).trans ?_
    · rw [Fin.forall_fin_two]
      constructor
      · rw [hv0, at0_val _ _ _ (by decide : (0 : ℕ) < 1)]; show p = off 0 + 0; omega
      · rw [hv1, at0_val _ _ _ hl]; show c = off 1 + (c - off 1); omega
    · rw [cast_16, at0_val _ _ _ hl]; rfl
  · next h =>
    by_cases h0 : p = off 0
    · refine (View.read_writes_cons_unit_of_not_mem _ _ inb _ [] _ rfl 1 ?_).trans rfl
      rw [hv1]; show c < off 1 ∨ off 1 + 16 ≤ c; omega
    · refine (View.read_writes_cons_unit_of_not_mem _ _ inb _ [] _ rfl 0 ?_).trans rfl
      rw [hv0]; show p < off 0 ∨ off 0 + 1 ≤ p; omega

theorem st_out (g : outM.view.ty.Contents (Elt F)) {off : Fin 1 → ℕ} (inb : ∀ a, off a + S16.size a ≤ S1792.size a)
    (w : FVec F S16 .f32) (n : ℕ) (hn : n < 1792) :
    ov (outM.view.writes (Elt F) g [⟨Rect.unit (s := S1792) off S16.size inb, w⟩]) n
      = if off 0 ≤ n ∧ n < off 0 + 16 then w (lane (n - off 0)) else ov g n := by
  have hv0 : (at0 pos1792 ![n] 0).val = n := at0_val _ _ _ hn
  split
  · next h =>
    have hl : n - off 0 < 16 := by omega
    refine (View.read_writes_cons_unit_of_mem (Val := Elt F) (e := .f32) outM.view g inb w [] _ (lane (n - off 0)) rfl ?_)
    rw [Fin.forall_fin_one]
    rw [hv0, at0_val _ _ _ hl]; show n = off 0 + (n - off 0); omega
  · next h =>
    refine (View.read_writes_cons_unit_of_not_mem _ _ inb _ [] _ rfl 0 ?_).trans rfl
    rw [hv0]; show n < off 0 ∨ off 0 + 16 ≤ n; omega

end Cert.Proof.Roi

end
-- ==== Proof.Roi.Row.lean ====
/-
  One row of the row buffer: the column groups of a row are the greatest of the table's rows under the bin, sixteen
  lanes at a time, or zero where the bin has no row. The program of a row is written here once, for any row, as the
  kernel's text has it for each of the seven rows and the two ROIs of a trip.
-/
module

public import proofs.«01_k».proof.Proof.Roi.Buf
public import Idealize.ShloMosaic.Lib.LoopRemainder

@[expose] public section

noncomputable section

namespace Cert.Proof.Roi

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A tile's programs. -/
abbrev PT (F : FTy → Type) (i : grid0.Coords) (α : Type) : Type 1 :=
  Prog (TpuEff nD τ sig (Elt F) Λ₀ (.scVector ((i 0).castLE hcore0) ((i 1).castLE hsub0))) α

variable {d : Dev nD} {i : grid0.Coords}

/-- Four vectors of sixteen lanes. -/
abbrev V4 (F : FTy → Type) : Type := FVec F S16 .f32 × FVec F S16 .f32 × FVec F S16 .f32 × FVec F S16 .f32

abbrev Inb (off : Fin 1 → ℕ) : Prop := ∀ a, off a + S16.size a ≤ S80896.size a
abbrev RInb (off : Fin 2 → ℕ) : Prop := ∀ a, off a + S1x16.size a ≤ S7x880.size a

/-- Where a row's column group is stored, at a trip of the loop over the groups of four. -/
def rowOff (ρ : ℕ) (t : ℕ) (c : BitVec 32) : Fin 2 → ℕ :=
  ![ρ, (Scalar.addi (Scalar.muli (Scf.iv 0#32 1#32 t) 64#32) c).toNat]

abbrev ldT {α : Type} (off : Fin 1 → ℕ) (h : Inb off) (k : Vec F S16 .f32 → PT F i α) : PT F i α :=
  Prog.op (.load tabM (Rect.unit (s := S80896) off S16.size h).toLoadRect (View.loadsAt_vmem h_S16)) k

abbrev ldstR {α : Type} (off : Fin 2 → ℕ) (h : RInb off) (w : FVec F S16 .f32) (k : PT F i α) : PT F i α :=
  Prog.op (.load rowM (Rect.unit (s := S7x880) off S1x16.size h).toLoadRect (View.loadsAt_vmem h_S1x16)) fun _ =>
  Prog.op (.store rowM (Rect.unit (s := S7x880) off S1x16.size h) (shapeCast S1x16 w shapeCasts_S16_S1x16) Finset.univ
    (View.stores_vmem_bits_univ h_S1x16 rfl) (.inl rfl)) fun _ => k

section Program

variable (ρ : ℕ) (v68 v72 v74 v76 v98 v100 : BitVec 32)

/-- The trip `k0_t3` of the loop over a bin's rows: four more vectors of the table taken into the greatest so far. -/
abbrev maxBody (t : Fin (k0_t2_loop v72 v74 v76).trips) (h7 : ∀ t3 (r : Fin 4), Inb (k0_off7 i v68 v72 v74 v76 v98 v100 t t3 (BitVec.ofNat 32 (16 * r.val))))
    (t3 : Fin (k0_t3_loop v100).trips) (m : V4 F) : PT F i (V4 F) :=
  match m with
  | (m0, m1, m2, m3) =>
    ldT (k0_off7 i v68 v72 v74 v76 v98 v100 t t3 0#32) (h7 t3 0) fun w0 =>
    ldT (k0_off7 i v68 v72 v74 v76 v98 v100 t t3 16#32) (h7 t3 1) fun w1 =>
    ldT (k0_off7 i v68 v72 v74 v76 v98 v100 t t3 32#32) (h7 t3 2) fun w2 =>
    ldT (k0_off7 i v68 v72 v74 v76 v98 v100 t t3 48#32) (h7 t3 3) fun w3 =>
    Prog.ret (maximumf m0 (shapeCast S16 w0 shapeCasts_S16_S16), maximumf m1 (shapeCast S16 w1 shapeCasts_S16_S16),
      maximumf m2 (shapeCast S16 w2 shapeCasts_S16_S16), maximumf m3 (shapeCast S16 w3 shapeCasts_S16_S16))

/-- A group of four column groups: their greatest values, and the first two stored. -/
abbrev blkHead (t : Fin (k0_t2_loop v72 v74 v76).trips)
    (h6 : ∀ r : Fin 4, Inb (k0_off6 i v68 v72 v74 v76 v98 t (BitVec.ofNat 32 (16 * r.val))))
    (ok3 : (k0_t3_loop v100).OK)
    (h7 : ∀ t3 (r : Fin 4), Inb (k0_off7 i v68 v72 v74 v76 v98 v100 t t3 (BitVec.ofNat 32 (16 * r.val))))
    (ok4 : (k0_t4_loop v100).OK) (b4 : Fin (k0_t4_loop v100).trips → V4 F → PT F i (V4 F))
    (h9 : ∀ r : Fin 4, RInb (rowOff ρ t.val (BitVec.ofNat 32 (16 * r.val)))) :
    PT F i (Σ' (_ : BitVec 32) (_ : FVec F S16 .f32) (_ : FVec F S16 .f32) (_ : BitVec 32), BitVec 32) :=
  ldT (k0_off6 i v68 v72 v74 v76 v98 t 0#32) (h6 0) fun w0 =>
  ldT (k0_off6 i v68 v72 v74 v76 v98 t 16#32) (h6 1) fun w1 =>
  ldT (k0_off6 i v68 v72 v74 v76 v98 t 32#32) (h6 2) fun w2 =>
  ldT (k0_off6 i v68 v72 v74 v76 v98 t 48#32) (h6 3) fun w3 => do
  let m ← Scf.Loop.for (k0_t3_loop v100) ok3 (shapeCast S16 w0 shapeCasts_S16_S16, shapeCast S16 w1 shapeCasts_S16_S16,
    shapeCast S16 w2 shapeCasts_S16_S16, shapeCast S16 w3 shapeCasts_S16_S16) (maxBody v68 v72 v74 v76 v98 v100 t h7)
  match m with
  | (m0, m1, m2, m3) => do
    let m ← Scf.Loop.for (k0_t4_loop v100) ok4 (m0, m1, m2, m3) b4
    match m with
    | (m0, m1, m2, m3) =>
      ldstR (rowOff ρ t.val 0#32) (h9 0) m0 <|
      ldstR (rowOff ρ t.val 16#32) (h9 1) m1 <|
      Prog.ret ⟨Scf.iv 0#32 1#32 t.val, m2, m3, Scalar.muli (Scf.iv 0#32 1#32 t.val) 64#32, 32#32⟩

abbrev blk (t : Fin (k0_t2_loop v72 v74 v76).trips)
    (h6 : ∀ r : Fin 4, Inb (k0_off6 i v68 v72 v74 v76 v98 t (BitVec.ofNat 32 (16 * r.val))))
    (ok3 : (k0_t3_loop v100).OK)
    (h7 : ∀ t3 (r : Fin 4), Inb (k0_off7 i v68 v72 v74 v76 v98 v100 t t3 (BitVec.ofNat 32 (16 * r.val))))
    (ok4 : (k0_t4_loop v100).OK) (b4 : Fin (k0_t4_loop v100).trips → V4 F → PT F i (V4 F))
    (h9 : ∀ r : Fin 4, RInb (rowOff ρ t.val (BitVec.ofNat 32 (16 * r.val)))) : PT F i (BitVec 32) := do
  let x ← blkHead (F := F) ρ v68 v72 v74 v76 v98 v100 t h6 ok3 h7 ok4 b4 h9
  match x with
  | ⟨_, m2, m3, _, _⟩ =>
    ldstR (rowOff ρ t.val 32#32) (h9 2) m2 <|
    ldstR (rowOff ρ t.val 48#32) (h9 3) m3 <|
    Prog.ret 0#32

/-- A row where the bin has rows. -/
abbrev rowMax (h : k0_cond2 v100 = 1#1 → (k0_t2_loop v72 v74 v76).OK)
    (h6 : k0_cond2 v100 = 1#1 → ∀ t (r : Fin 4), Inb (k0_off6 i v68 v72 v74 v76 v98 t (BitVec.ofNat 32 (16 * r.val))))
    (ok3 : k0_cond2 v100 = 1#1 → (k0_t3_loop v100).OK)
    (h7 : k0_cond2 v100 = 1#1 → ∀ t t3 (r : Fin 4), Inb (k0_off7 i v68 v72 v74 v76 v98 v100 t t3 (BitVec.ofNat 32 (16 * r.val))))
    (ok4 : k0_cond2 v100 = 1#1 → (k0_t4_loop v100).OK)
    (b4 : k0_cond2 v100 = 1#1 → Fin (k0_t2_loop v72 v74 v76).trips → Fin (k0_t4_loop v100).trips → V4 F → PT F i (V4 F))
    (h9 : k0_cond2 v100 = 1#1 → ∀ (t : Fin (k0_t2_loop v72 v74 v76).trips) (r : Fin 4), RInb (rowOff ρ t.val (BitVec.ofNat 32 (16 * r.val))))
    (ok5 : k0_cond2 v100 = 1#1 → (k0_t5_loop v72 v74 v76).OK)
    (b5 : k0_cond2 v100 = 1#1 → Fin (k0_t5_loop v72 v74 v76).trips → BitVec 32 → PT F i (BitVec 32)) : PT F i PUnit :=
  if h2 : k0_cond2 v100 = 1#1 then do
    let x ← Scf.Loop.for (k0_t2_loop v72 v74 v76) (h h2) 0#32 fun t _ =>
      blk ρ v68 v72 v74 v76 v98 v100 t (h6 h2 t) (ok3 h2) (h7 h2 t) (ok4 h2) (b4 h2 t) (h9 h2 t)
    let _ ← Scf.Loop.for (k0_t5_loop v72 v74 v76) (ok5 h2) x (b5 h2)
    pure ⟨⟩
  else pure ⟨⟩

/-- A row where the bin has no row. -/
abbrev rowZero (z : FVec F S16 .f32) (h : k0_cond3 v100 = 1#1 → (k0_t8_loop v72 v74 v76).OK)
    (h9 : k0_cond3 v100 = 1#1 → ∀ (t : Fin (k0_t8_loop v72 v74 v76).trips) (r : Fin 4), RInb (rowOff ρ t.val (BitVec.ofNat 32 (16 * r.val))))
    (ok5 : k0_cond3 v100 = 1#1 → (k0_t9_loop v72 v74 v76).OK)
    (b5 : k0_cond3 v100 = 1#1 → Fin (k0_t9_loop v72 v74 v76).trips → BitVec 32 → PT F i (BitVec 32)) : PT F i PUnit :=
  if h3 : k0_cond3 v100 = 1#1 then do
    let x ← Scf.Loop.for (k0_t8_loop v72 v74 v76) (h h3) 0#32 fun t _ =>
      ldstR (rowOff ρ t.val 0#32) (h9 h3 t 0) z <|
      ldstR (rowOff ρ t.val 16#32) (h9 h3 t 1) z <|
      ldstR (rowOff ρ t.val 32#32) (h9 h3 t 2) z <|
      ldstR (rowOff ρ t.val 48#32) (h9 h3 t 3) z <|
      Prog.ret 0#32
    let _ ← Scf.Loop.for (k0_t9_loop v72 v74 v76) (ok5 h3) x (b5 h3)
    pure ⟨⟩
  else pure ⟨⟩

end Program

section Step

variable {q : PosShare TreeShare}

/-- The row buffer, the feature table. -/
abbrev rowP (d : Dev nD) (i : grid0.Coords) (f : Buf (Elt F) (rowM.view.loc (thr d i))) : SP F := (rowM.view.loc (thr d i)) ↦{fullShare} f
abbrev tabP (d : Dev nD) (i : grid0.Coords) (T : Buf (Elt F) (tabM.view.loc (thr d i))) : SP F := (tabM.view.loc (thr d i)) ↦{fullShare} T

/-- The columns `[a, b)` of row `ρ` hold `V`, everything else is as it was. -/
def RowUpd (ρ a b : ℕ) (V : ℕ → F .f32) (f f' : rowM.view.ty.Contents (Elt F)) : Prop :=
  ∀ p < 7, ∀ c < 880, rv f' p c = if p = ρ ∧ a ≤ c ∧ c < b then V c else rv f p c

theorem RowUpd.refl (ρ a : ℕ) (V : ℕ → F .f32) (f : rowM.view.ty.Contents (Elt F)) : RowUpd ρ a a V f f := fun p _ c _ => by
  rw [if_neg (by omega)]

theorem RowUpd.trans {ρ a b c : ℕ} {V : ℕ → F .f32} {f f' f'' : rowM.view.ty.Contents (Elt F)} (hab : a ≤ b) (hbc : b ≤ c)
    (h : RowUpd ρ a b V f f') (h' : RowUpd ρ b c V f' f'') : RowUpd ρ a c V f f'' := fun p hp n hn => by
  rw [h' p hp n hn, h p hp n hn]
  by_cases h1 : p = ρ ∧ b ≤ n ∧ n < c
  · rw [if_pos h1, if_pos (by omega)]
  · rw [if_neg h1]
    by_cases h2 : p = ρ ∧ a ≤ n ∧ n < b
    · rw [if_pos h2, if_pos (by omega)]
    · rw [if_neg h2, if_neg (by omega)]

theorem RowUpd.store {ρ a : ℕ} {V : ℕ → F .f32} (f : rowM.view.ty.Contents (Elt F)) {off : Fin 2 → ℕ} (inb : RInb off) (w : FVec F S16 .f32)
    (h0 : off 0 = ρ) (h1 : off 1 = a) (hw : ∀ l < 16, w (lane l) = V (a + l)) :
    RowUpd ρ a (a + 16) V f (rowM.view.writes (Elt F) f [⟨Rect.unit (s := S7x880) off S1x16.size inb, shapeCast S1x16 w shapeCasts_S16_S1x16⟩]) :=
  fun p hp c hc => by
    rw [st_row f inb w p c hp hc, h0, h1]
    split
    · next h => rw [hw _ (by omega)]; congr 1; omega
    · rfl

/-- The greatest of the table's first `n + 1` rows, from word `b` on. -/
def chainV (T : tabM.view.ty.Contents (Elt F)) (b n : ℕ) : FVec F S16 .f32 := fun x => mchain (fun k => tv T (b + (x 0).val + 800 * k)) n

theorem chainV_zero (T : tabM.view.ty.Contents (Elt F)) (b : ℕ) {off : Fin 1 → ℕ} (inb : Inb off) (h : off 0 = b) :
    shapeCast S16 (tabM.view.readAt (Elt F) (Rect.unit (s := S80896) off S16.size inb).toLoadRect T) shapeCasts_S16_S16 = chainV T b 0 := by
  rw [cast16]
  funext x
  rw [ld_tab, h]; rfl

theorem chainV_succ (T : tabM.view.ty.Contents (Elt F)) (b n : ℕ) {off : Fin 1 → ℕ} (inb : Inb off) (h : off 0 = b + 800 * (n + 1)) :
    maximumf (chainV T b n) (shapeCast S16 (tabM.view.readAt (Elt F) (Rect.unit (s := S80896) off S16.size inb).toLoadRect T) shapeCasts_S16_S16)
      = chainV T b (n + 1) := by
  rw [cast16]
  funext x
  show FloatOps.maximumf (mchain _ n) _ = FloatOps.maximumf (mchain _ n) _
  rw [ld_tab, h]
  congr 2; omega

/-- The greatest of the table's rows under column `c` of a row: `n + 1` of them, the first at word `b`. -/
def rowV (T : tabM.view.ty.Contents (Elt F)) (b n c : ℕ) : F .f32 := mchain (fun k => tv T (b + c + 800 * k)) n

theorem chainV_lane (T : tabM.view.ty.Contents (Elt F)) (b a n l : ℕ) (hl : l < 16) : chainV T (b + a) n (lane l) = rowV T b n (a + l) := by
  unfold chainV rowV
  rw [at0_val _ _ _ (show (![l] : Fin 1 → ℕ) 0 < S16.size 0 from hl)]
  refine mchain_congr fun k _ => ?_
  show tv T (b + a + l + 800 * k) = _
  congr 1; omega

variable (ρ : ℕ) (v68 v72 v74 v76 v98 v100 : BitVec 32) (b n : ℕ)

theorem blk_wp (T : Buf (Elt F) (tabM.view.loc (thr d i))) (f : Buf (Elt F) (rowM.view.loc (thr d i)))
    (t : Fin (k0_t2_loop v72 v74 v76).trips)
    (h6 : ∀ r : Fin 4, Inb (k0_off6 i v68 v72 v74 v76 v98 t (BitVec.ofNat 32 (16 * r.val))))
    (ok3 : (k0_t3_loop v100).OK)
    (h7 : ∀ t3 (r : Fin 4), Inb (k0_off7 i v68 v72 v74 v76 v98 v100 t t3 (BitVec.ofNat 32 (16 * r.val))))
    (ok4 : (k0_t4_loop v100).OK) (b4 : Fin (k0_t4_loop v100).trips → V4 F → PT F i (V4 F))
    (h9 : ∀ r : Fin 4, RInb (rowOff ρ t.val (BitVec.ofNat 32 (16 * r.val))))
    (e6 : ∀ r : Fin 4, k0_off6 i v68 v72 v74 v76 v98 t (BitVec.ofNat 32 (16 * r.val)) 0 = b + (64 * t.val + 16 * r.val))
    (e7 : ∀ (t3 : Fin (k0_t3_loop v100).trips) (r : Fin 4), k0_off7 i v68 v72 v74 v76 v98 v100 t t3 (BitVec.ofNat 32 (16 * r.val)) 0
      = b + (64 * t.val + 16 * r.val) + 800 * (t3.val + 1))
    (e9 : ∀ r : Fin 4, rowOff ρ t.val (BitVec.ofNat 32 (16 * r.val)) 1 = 64 * t.val + 16 * r.val)
    (hn : (k0_t3_loop v100).trips = n) (R : SP F) :
    iprop(tabP d i T ∗ rowP d i f ∗ R) ⊢ wpT d i (blk ρ v68 v72 v74 v76 v98 v100 t h6 ok3 h7 ok4 b4 h9) fun _ =>
      iprop(∃ f', ⌜RowUpd ρ (64 * t.val) (64 * t.val + 64) (rowV T b n) f f'⌝ ∗ tabP d i T ∗ rowP d i f' ∗ R) := by
  refine bind_wp ?_
  refine load_wp (Finset.subset_univ _) ?_
  refine load_wp (Finset.subset_univ _) ?_
  refine load_wp (Finset.subset_univ _) ?_
  refine load_wp (Finset.subset_univ _) ?_
  rw [chainV_zero T (b + (64 * t.val + 16 * 0)) (off := k0_off6 i v68 v72 v74 v76 v98 t 0#32) (h6 0) (e6 0), chainV_zero T (b + (64 * t.val + 16 * 1)) (off := k0_off6 i v68 v72 v74 v76 v98 t 16#32) (h6 1) (e6 1), chainV_zero T (b + (64 * t.val + 16 * 2)) (off := k0_off6 i v68 v72 v74 v76 v98 t 32#32) (h6 2) (e6 2), chainV_zero T (b + (64 * t.val + 16 * 3)) (off := k0_off6 i v68 v72 v74 v76 v98 t 48#32) (h6 3) (e6 3)]
  refine bind_wp ?_
  refine for_wp (fun k m => iprop(⌜m = (chainV T (b + (64 * t.val + 16 * 0)) k, chainV T (b + (64 * t.val + 16 * 1)) k,
    chainV T (b + (64 * t.val + 16 * 2)) k, chainV T (b + (64 * t.val + 16 * 3)) k)⌝ ∗ tabP d i T ∗ rowP d i f ∗ R)) ?_ ?_ ?_
  · iintro H
    isplitr
    · ipureintro; rfl
    · iexact H
  · intro k m
    iintro ⟨%hm, H⟩
    subst hm
    iapply (?_ : iprop(tabP d i T ∗ rowP d i f ∗ R) ⊢ _) $$ H
    refine load_wp (Finset.subset_univ _) ?_
    refine load_wp (Finset.subset_univ _) ?_
    refine load_wp (Finset.subset_univ _) ?_
    refine load_wp (Finset.subset_univ _) ?_
    rw [chainV_succ T (b + (64 * t.val + 16 * 0)) k.val (off := k0_off7 i v68 v72 v74 v76 v98 v100 t k 0#32) (h7 k 0) (e7 k 0), chainV_succ T (b + (64 * t.val + 16 * 1)) k.val (off := k0_off7 i v68 v72 v74 v76 v98 v100 t k 16#32) (h7 k 1) (e7 k 1), chainV_succ T (b + (64 * t.val + 16 * 2)) k.val (off := k0_off7 i v68 v72 v74 v76 v98 v100 t k 32#32) (h7 k 2) (e7 k 2), chainV_succ T (b + (64 * t.val + 16 * 3)) k.val (off := k0_off7 i v68 v72 v74 v76 v98 v100 t k 48#32) (h7 k 3) (e7 k 3)]
    refine ret_wp ?_
    iintro H
    isplitr
    · ipureintro; rfl
    · iexact H
  intro m
  iintro ⟨%hm, H⟩
  subst hm
  rw [hn]
  iapply (?_ : iprop(tabP d i T ∗ rowP d i f ∗ R) ⊢ _) $$ H
  refine bind_wp (for0_wp (Scf.rem_trips 1#32 (Scalar.subi v100 1#32)) ?_)
  refine sep_left_comm.1.trans ?_
  refine load_wp (Finset.subset_univ _) (store_wp (Finset.subset_univ _) ?_)
  refine load_wp (Finset.subset_univ _) (store_wp (Finset.subset_univ _) ?_)
  refine ret_wp ?_
  refine load_wp (Finset.subset_univ _) (store_wp (Finset.subset_univ _) ?_)
  refine load_wp (Finset.subset_univ _) (store_wp (Finset.subset_univ _) ?_)
  refine ret_wp ?_
  iintro ⟨HR, HT, H⟩
  iexists _
  isplitr
  swap
  · isplitl [HT]
    · iexact HT
    isplitl [HR]
    · iexact HR
    · iexact H
  ipureintro
  have hst : ∀ (r : Fin 4) (f : rowM.view.ty.Contents (Elt F)), RowUpd ρ (64 * t.val + 16 * r.val) (64 * t.val + 16 * r.val + 16) (rowV T b n) f
      (rowM.view.writes (Elt F) f [⟨Rect.unit (s := S7x880) (rowOff ρ t.val (BitVec.ofNat 32 (16 * r.val))) S1x16.size (h9 r),
        shapeCast S1x16 (chainV T (b + (64 * t.val + 16 * r.val)) n) shapeCasts_S16_S1x16⟩]) := fun r f =>
    RowUpd.store f (h9 r) _ rfl (e9 r) fun l hl => chainV_lane T b _ n l hl
  exact (((hst 0 _).trans (by omega) (by simp) (hst 1 _)).trans (by omega) (by simp) (hst 2 _)).trans (by omega) (by simp) (hst 3 _)

end Step

end Cert.Proof.Roi

end
-- ==== Proof.Roi.Num.lean ====
/-
  The words a tile computes from the meta words of one ROI, as numbers: the trips of its loops, the offsets of its loads
  and stores, and that they lie in their buffers.
-/
module

public import proofs.«01_k».proof.Proof.Roi.Row

@[expose] public section

noncomputable section

namespace Cert.Proof.Roi

open Cert.KernelIdeal Cert.KernelIdeal.Gen
open Idealize.ShloMosaic

/-- The trips over a row's groups, from the words' width. -/
def grpLoop (x : BitVec 32) : Scf.Loop 32 :=
  ⟨0#32, Scalar.addi 0#32 (Scalar.muli (Scalar.divsi (Scalar.subi (Scalar.select
    (Scalar.andi (Scalar.cmpi .ne (Scalar.subi (Scalar.extui (Scalar.cmpi .sgt x 0#32)) (Scalar.extui (Scalar.cmpi .slt x 0#32)))
      (Scalar.subi (Scalar.extui (Scalar.cmpi .sgt 4#32 0#32)) (Scalar.extui (Scalar.cmpi .slt 4#32 0#32))))
      (Scalar.cmpi .ne (Scalar.remsi x 4#32) 0#32))
    (Scalar.subi (Scalar.divsi x 4#32) 1#32) (Scalar.divsi x 4#32)) 0#32) 1#32) 1#32), 1#32⟩

theorem grp_eq (v72 v74 v76 : BitVec 32) : k0_t2_loop v72 v74 v76 = grpLoop (Scalar.addi (Scalar.subi (Scalar.addi v74 v76) v72) 3#32) := rfl

theorem grp_trips_fin : ∀ z : Fin 101, (grpLoop (BitVec.ofNat 32 z.val - 47#32)).trips = (z.val - 47) / 4 := by decide +kernel

/-- What one row of bins needs of its words: which of the two images, where the window starts and ends, and the bin's rows. -/
structure RowOK (i : grid0.Coords) (li : ℕ) (v68 v72 v74 v76 v98 v100 : BitVec 32) : Prop where
  hli : li < 2
  h68 : v68.toNat = 2 * (i 0).val + li
  h72 : v72.toNat ≤ 50
  hwe : (v74 + v76).toNat ≤ 50
  h98 : v98.toNat ≤ 50
  hhe : (v98 + v100).toNat ≤ 50

section

variable {i : grid0.Coords} {li : ℕ} {v68 v72 v74 v76 v98 v100 : BitVec 32}

theorem grp_trips (h72 : v72.toNat ≤ 50) (hwe : (v74 + v76).toNat ≤ 50) :
    (k0_t2_loop v72 v74 v76).trips = ((v74 + v76).toNat + 3 - v72.toNat) / 4 := by
  rw [grp_eq]
  have hz : (v74 + v76).toNat + 50 - v72.toNat < 101 := by omega
  have hx : Scalar.addi (Scalar.subi (Scalar.addi v74 v76) v72) 3#32 = BitVec.ofNat 32 ((v74 + v76).toNat + 50 - v72.toNat) - 47#32 := by
    show (v74 + v76) - v72 + 3#32 = _
    generalize v74 + v76 = w at *
    bv_omega
  rw [hx, grp_trips_fin ⟨_, hz⟩]
  show ((v74 + v76).toNat + 50 - v72.toNat - 47) / 4 = _
  congr 1; omega

theorem cond_bool (c : Bool) : Scalar.cmpi .ne (Scalar.extui (BitVec.ofBool c)) 0#32 = 1#1 ↔ c = true := by
  cases c <;> decide

theorem cond2_iff : k0_cond2 v100 = 1#1 ↔ 0 < v100.toInt := by
  refine (cond_bool ((0#32 : BitVec 32).slt v100)).trans ?_
  rw [BitVec.slt_iff_toInt_lt]; rfl

theorem cond3_iff : k0_cond3 v100 = 1#1 ↔ v100 = 0#32 := by
  refine (cond_bool (v100 == 0#32)).trans ?_
  exact beq_iff_eq

theorem hl_trips (h : 0 < v100.toInt) : (k0_t3_loop v100).trips = v100.toNat - 1 := by
  have hd : Scalar.muli (Scalar.divsi (Scalar.subi v100 1#32) 1#32) 1#32 = Scalar.subi v100 1#32 := Scalar.muli_divsi_one _
  unfold k0_t3_loop
  show Scf.trips 1#32 (Scalar.addi 1#32 (Scalar.muli (Scalar.divsi (Scalar.subi v100 1#32) 1#32) 1#32)) 1#32 = _
  rw [hd]
  have : Scalar.addi 1#32 (Scalar.subi v100 1#32) = v100 := by
    show 1#32 + (v100 - 1#32) = v100
    bv_omega
  rw [this]
  unfold Scf.trips
  have h1 : (1#32 : BitVec 32).toInt = 1 := by decide
  rw [h1]
  rw [BitVec.toInt_eq_toNat_cond] at h ⊢
  split at h <;> omega

/-- A positive word is at most 50 where it leads from a start to an end of at most 50. -/
theorem pos_le (h98 : v98.toNat ≤ 50) (hhe : (v98 + v100).toNat ≤ 50) (h : 0 < v100.toInt) : 0 < v100.toNat ∧ v98.toNat + v100.toNat ≤ 50 := by
  rw [BitVec.toInt_eq_toNat_cond] at h
  rw [BitVec.toNat_add] at hhe
  split at h <;> omega

/-- The word of the feature table a row's first column group starts at. -/
def rowB (li : ℕ) (v72 v98 : BitVec 32) : ℕ := ((li * 2500 + v98.toNat * 50) + v72.toNat) * 16

theorem off6_eq (h : RowOK i li v68 v72 v74 v76 v98 v100) (t : Fin (k0_t2_loop v72 v74 v76).trips) (r : Fin 4) :
    k0_off6 i v68 v72 v74 v76 v98 t (BitVec.ofNat 32 (16 * r.val)) 0 = rowB li v72 v98 + (64 * t.val + 16 * r.val) := by
  have ht := t.isLt.trans_eq (grp_trips h.h72 h.hwe)
  obtain ⟨h1, h2, h3, h4, h5, h6⟩ := h
  have hg : (i 0).val < 2 := (i 0).isLt
  unfold rowB
  show (((((v68 - 2#32 * BitVec.ofNat 32 (i 0).val) * 2500#32 + v98 * 50#32) + v72) * 16#32 + (0#32 + BitVec.ofNat 32 t.val * 1#32) * 64#32) + BitVec.ofNat 32 (16 * r.val)).toNat = _
  have hr := r.isLt
  simp only [BitVec.toNat_add, BitVec.toNat_mul, BitVec.toNat_sub, BitVec.toNat_ofNat]
  omega

theorem off7_eq (h : RowOK i li v68 v72 v74 v76 v98 v100) (hp : 0 < v100.toInt) (t : Fin (k0_t2_loop v72 v74 v76).trips)
    (t3 : Fin (k0_t3_loop v100).trips) (r : Fin 4) :
    k0_off7 i v68 v72 v74 v76 v98 v100 t t3 (BitVec.ofNat 32 (16 * r.val)) 0
      = rowB li v72 v98 + (64 * t.val + 16 * r.val) + 800 * (t3.val + 1) := by
  have ht := t.isLt.trans_eq (grp_trips h.h72 h.hwe)
  have ht3 := t3.isLt.trans_eq (hl_trips hp)
  have hl := pos_le h.h98 h.hhe hp
  obtain ⟨h1, h2, h3, h4, h5, h6⟩ := h
  have hg : (i 0).val < 2 := (i 0).isLt
  unfold rowB
  show (((((v68 - 2#32 * BitVec.ofNat 32 (i 0).val) * 2500#32 + v98 * 50#32) + v72) * 16#32 + (0#32 + BitVec.ofNat 32 t.val * 1#32) * 64#32) + (1#32 + BitVec.ofNat 32 t3.val * 1#32) * 800#32 + BitVec.ofNat 32 (16 * r.val)).toNat = _
  have hr := r.isLt
  simp only [BitVec.toNat_add, BitVec.toNat_mul, BitVec.toNat_sub, BitVec.toNat_ofNat]
  omega

theorem rowOff_eq (ρ t : ℕ) (ht : t < 14) (r : Fin 4) : rowOff ρ t (BitVec.ofNat 32 (16 * r.val)) 1 = 64 * t + 16 * r.val := by
  show ((0#32 + BitVec.ofNat 32 t * 1#32) * 64#32 + BitVec.ofNat 32 (16 * r.val)).toNat = _
  have hr := r.isLt
  simp only [BitVec.toNat_add, BitVec.toNat_mul, BitVec.toNat_ofNat]
  omega

theorem grp_le (h72 : v72.toNat ≤ 50) (hwe : (v74 + v76).toNat ≤ 50) : v72.toNat + 4 * (k0_t2_loop v72 v74 v76).trips ≤ 53 ∨ (k0_t2_loop v72 v74 v76).trips = 0 := by
  rw [grp_trips h72 hwe]; omega

theorem rowOff_inb (ρ t : ℕ) (hρ : ρ < 7) (ht : t < 13) (r : Fin 4) : RInb (rowOff ρ t (BitVec.ofNat 32 (16 * r.val))) := by
  intro a
  have hr := r.isLt
  fin_cases a
  · show ρ + 1 ≤ 7; omega
  · show rowOff ρ t (BitVec.ofNat 32 (16 * r.val)) 1 + 16 ≤ 880
    rw [rowOff_eq ρ t (by omega)]; omega

theorem lb0 : 0 ≤ (0#32 : BitVec 32).toInt ∧ (0#32 : BitVec 32).toInt ≤ 100 := by decide
theorem lb1 : 0 ≤ (1#32 : BitVec 32).toInt ∧ (1#32 : BitVec 32).toInt ≤ 100 := by decide

theorem unit_ok {l : Scf.Loop 32} (hst : l.st = 1#32) (hlb : 0 ≤ l.lb.toInt ∧ l.lb.toInt ≤ 100) (h : l.trips ≤ 100) : l.OK := by
  have h1 : (1#32 : BitVec 32).toInt = 1 := by decide
  unfold Scf.Loop.OK Scf.OK
  rw [hst, h1]
  have : Scf.trips l.lb l.ub 1#32 ≤ 100 := hst ▸ h
  omega

/-- What a row's program asks to be checked, the stores' offsets and the remainder loops' bodies given by name. -/
theorem rowChk (ρ : ℕ) (hρ : ρ < 7) (h : RowOK i li v68 v72 v74 v76 v98 v100)
    (o13 : Fin (k0_t5_loop v72 v74 v76).trips → BitVec 32 → Fin 2 → ℕ) (o15 : Fin (k0_t9_loop v72 v74 v76).trips → BitVec 32 → Fin 2 → ℕ) :
    (∀ (_ : k0_cond2 v100 = 1#1), (k0_t2_loop v72 v74 v76).OK) ∧
    (∀ k0_t2 : Fin (k0_t2_loop v72 v74 v76).trips, ∀ (_ : k0_cond2 v100 = 1#1), ∀ (r : Fin 4), Inb (k0_off6 i v68 v72 v74 v76 v98 k0_t2 (BitVec.ofNat 32 (16 * r.val)))) ∧
    (∀ _k0_t2 : Fin (k0_t2_loop v72 v74 v76).trips, ∀ (_ : k0_cond2 v100 = 1#1), (k0_t3_loop v100).OK) ∧
    (∀ (k0_t2 : Fin (k0_t2_loop v72 v74 v76).trips) (k0_t3 : Fin (k0_t3_loop v100).trips), ∀ (_ : k0_cond2 v100 = 1#1), ∀ (r : Fin 4), Inb (k0_off7 i v68 v72 v74 v76 v98 v100 k0_t2 k0_t3 (BitVec.ofNat 32 (16 * r.val)))) ∧
    (∀ _k0_t2 : Fin (k0_t2_loop v72 v74 v76).trips, ∀ (_ : k0_cond2 v100 = 1#1), (k0_t4_loop v100).OK) ∧
    (∀ (k0_t2 : Fin (k0_t2_loop v72 v74 v76).trips) (k0_t4 : Fin (k0_t4_loop v100).trips), ∀ (_ : k0_cond2 v100 = 1#1), ∀ (r : Fin 4), Inb (k0_off8 i v68 v72 v74 v76 v98 v100 k0_t2 k0_t4 (BitVec.ofNat 32 (16 * r.val)))) ∧
    (∀ k0_t2 : Fin (k0_t2_loop v72 v74 v76).trips, ∀ (_ : k0_cond2 v100 = 1#1), ∀ (r : Fin 4), RInb (rowOff ρ k0_t2.val (BitVec.ofNat 32 (16 * r.val)))) ∧
    (∀ (_ : k0_cond2 v100 = 1#1), (k0_t5_loop v72 v74 v76).OK) ∧
    (∀ k0_t5 : Fin (k0_t5_loop v72 v74 v76).trips, ∀ (_ : k0_cond2 v100 = 1#1), ∀ (r : Fin 4), Inb (k0_off10 i v68 v72 v74 v76 v98 k0_t5 (BitVec.ofNat 32 (16 * r.val)))) ∧
    (∀ _k0_t5 : Fin (k0_t5_loop v72 v74 v76).trips, ∀ (_ : k0_cond2 v100 = 1#1), (k0_t6_loop v100).OK) ∧
    (∀ (k0_t5 : Fin (k0_t5_loop v72 v74 v76).trips) (k0_t6 : Fin (k0_t6_loop v100).trips), ∀ (_ : k0_cond2 v100 = 1#1), ∀ (r : Fin 4), Inb (k0_off11 i v68 v72 v74 v76 v98 v100 k0_t5 k0_t6 (BitVec.ofNat 32 (16 * r.val)))) ∧
    (∀ _k0_t5 : Fin (k0_t5_loop v72 v74 v76).trips, ∀ (_ : k0_cond2 v100 = 1#1), (k0_t7_loop v100).OK) ∧
    (∀ (k0_t5 : Fin (k0_t5_loop v72 v74 v76).trips) (k0_t7 : Fin (k0_t7_loop v100).trips), ∀ (_ : k0_cond2 v100 = 1#1), ∀ (r : Fin 4), Inb (k0_off12 i v68 v72 v74 v76 v98 v100 k0_t5 k0_t7 (BitVec.ofNat 32 (16 * r.val)))) ∧
    (∀ k0_t5 : Fin (k0_t5_loop v72 v74 v76).trips, ∀ (_ : k0_cond2 v100 = 1#1), ∀ (r : Fin 4), RInb (o13 k0_t5 (BitVec.ofNat 32 (16 * r.val)))) ∧
    (∀ (_ : k0_cond3 v100 = 1#1), (k0_t8_loop v72 v74 v76).OK) ∧
    (∀ k0_t8 : Fin (k0_t8_loop v72 v74 v76).trips, ∀ (_ : k0_cond3 v100 = 1#1), ∀ (r : Fin 4), RInb (rowOff ρ k0_t8.val (BitVec.ofNat 32 (16 * r.val)))) ∧
    (∀ (_ : k0_cond3 v100 = 1#1), (k0_t9_loop v72 v74 v76).OK) ∧
    (∀ k0_t9 : Fin (k0_t9_loop v72 v74 v76).trips, ∀ (_ : k0_cond3 v100 = 1#1), ∀ (r : Fin 4), RInb (o15 k0_t9 (BitVec.ofNat 32 (16 * r.val)))) := by
  have hN := grp_le h.h72 h.hwe
  have hlt : ∀ t : Fin (k0_t2_loop v72 v74 v76).trips, t.val < 13 ∧ v72.toNat + 4 * (t.val + 1) ≤ 53 := fun t => by have := t.isLt; omega
  have ok2 : (k0_t2_loop v72 v74 v76).OK := unit_ok rfl lb0 (by omega)
  have no5 : (k0_t5_loop v72 v74 v76).trips = 0 := Scf.rem_trips 0#32 _
  have no4 : (k0_t4_loop v100).trips = 0 := Scf.rem_trips 1#32 (Scalar.subi v100 1#32)
  have ok5 : (k0_t5_loop v72 v74 v76).OK := Scf.rem_ok 0#32 _
  have ok4 : (k0_t4_loop v100).OK := Scf.rem_ok 1#32 (Scalar.subi v100 1#32)
  have ok3 : k0_cond2 v100 = 1#1 → (k0_t3_loop v100).OK := fun hc => by
    have hp := cond2_iff.mp hc
    have := pos_le h.h98 h.hhe hp
    exact unit_ok rfl lb1 (by rw [hl_trips hp]; omega)
  have hli := h.hli
  have h72 := h.h72
  have i1 : ∀ (off : Fin 1 → ℕ), off 0 + 16 ≤ 80896 → Inb off := fun off ho a => by fin_cases a; exact ho
  refine ⟨fun _ => ok2, fun t hc r => i1 _ ?_, fun _ hc => ok3 hc, fun t t3 hc r => i1 _ ?_, fun _ _ => ok4, fun _ t4 => absurd t4.isLt (by omega),
    fun t _ r => rowOff_inb ρ t.val hρ (hlt t).1 r, fun _ => ok5, fun t5 => absurd t5.isLt (by omega), fun _ hc => ok3 hc,
    fun t5 => absurd t5.isLt (by omega), fun _ _ => ok4, fun t5 => absurd t5.isLt (by omega), fun t5 => absurd t5.isLt (by omega),
    fun _ => ok2, fun t _ r => rowOff_inb ρ t.val hρ (hlt t).1 r, fun _ => ok5, fun t9 => absurd t9.isLt (by have : (k0_t9_loop v72 v74 v76).trips = 0 := no5; omega)⟩
  · rw [off6_eq h]
    have := pos_le h.h98 h.hhe (cond2_iff.mp hc)
    have := hlt t
    have hr := r.isLt
    unfold rowB; omega
  · have hp := cond2_iff.mp hc
    rw [off7_eq h hp]
    have := pos_le h.h98 h.hhe hp
    have := hlt t
    have ht3 := t3.isLt.trans_eq (hl_trips hp)
    have hr := r.isLt
    unfold rowB; omega

end

end Cert.Proof.Roi

end
-- ==== Proof.Roi.Spec.lean ====
/-
  What the meta words of one ROI must satisfy, and what the kernel leaves for it in the row buffer and in the output
  buffer, as functions of the meta words and the feature table.
-/
module

public import proofs.«01_k».proof.Proof.Roi.Num

@[expose] public section

noncomputable section

namespace Cert.Proof.Roi

open Cert.KernelIdeal Cert.KernelIdeal.Gen
open Idealize.ShloMosaic

variable {F : FTy → Type} [FloatOps F]

/-- The 32 meta words of an ROI: its bins' row starts at 0–6 and row counts at 8–14, column starts at 16–22 and column
counts at 24–30, and its image at 31. -/
structure MetaOK (i : grid0.Coords) (li : ℕ) (w : ℕ → BitVec 32) : Prop where
  hli : li < 2
  h31 : (w 31).toNat = 2 * (i 0).val + li
  hhs : ∀ p < 7, (w p).toNat ≤ 50
  hhe : ∀ p < 7, (w p + w (8 + p)).toNat ≤ 50
  hws : ∀ p < 7, (w (16 + p)).toNat ≤ 50
  hwe : ∀ p < 7, (w (16 + p) + w (24 + p)).toNat ≤ 50
  hw0 : ∀ p < 7, (w 16).toNat ≤ (w (16 + p)).toNat

theorem MetaOK.row {i : grid0.Coords} {li : ℕ} {w : ℕ → BitVec 32} (h : MetaOK i li w) (p : ℕ) (hp : p < 7) :
    RowOK i li (w 31) (w 16) (w 22) (w 30) (w p) (w (8 + p)) :=
  ⟨h.hli, h.h31, h.hws 0 (by omega), h.hwe 6 (by omega), h.hhs p hp, h.hhe p hp⟩

/-- No bin is inside out, and no bin's columns end after the last bin's. -/
structure Good (w : ℕ → BitVec 32) : Prop where
  hhl : ∀ p < 7, 0 ≤ (w (8 + p)).toInt
  hwl : ∀ p < 7, 0 ≤ (w (24 + p)).toInt
  hwe : ∀ p < 7, (w (16 + p) + w (24 + p)).toNat ≤ (w 22 + w 30).toNat

abbrev fzero : F .f32 := Scalar.ofBits .f32 0x00000000#32
abbrev fneg : F .f32 := Scalar.ofBits .f32 0xFF7FFFFF#32

/-- Column `c` of the row buffer's row `p`. -/
def rowSpec (T : tabM.view.ty.Contents (Elt F)) (li : ℕ) (w : ℕ → BitVec 32) (p c : ℕ) : F .f32 :=
  if w (8 + p) = 0#32 then fzero else rowV T (rowB li (w 16) (w p)) ((w (8 + p)).toNat - 1) c

/-- The groups of four column groups a row has. -/
def grps (w : ℕ → BitVec 32) : ℕ := (k0_t2_loop (w 16) (w 22) (w 30)).trips

/-- The row buffer after the first `m` rows of an ROI. -/
structure RowsN (T : tabM.view.ty.Contents (Elt F)) (li : ℕ) (w : ℕ → BitVec 32) (m : ℕ) (f : rowM.view.ty.Contents (Elt F)) : Prop where
  strip : ∀ p < 7, ∀ c, 848 ≤ c → c < 864 → rv f p c = fneg
  done : ∀ p < m, p < 7 → 0 ≤ (w (8 + p)).toInt → ∀ c < 64 * grps w, rv f p c = rowSpec T li w p c

/-- Lane `l` of the bin in row `ph` and column `pw` of the output. -/
def cellSpec (T : tabM.view.ty.Contents (Elt F)) (li : ℕ) (w : ℕ → BitVec 32) (pw ph l : ℕ) : F .f32 :=
  if w (24 + pw) = 0#32 then FloatOps.maximumf (mchain (fun _ => fneg) 9) fzero
  else FloatOps.maximumf (mchain (fun k => rowSpec T li w ph
    (((w (16 + pw)).toNat - (w 16).toNat + min k ((w (24 + pw)).toNat - 1)) * 16 + l)) 9) fneg

/-- The output buffer after the first `s` bins of an ROI, in its half `b`. -/
def OutN (T : tabM.view.ty.Contents (Elt F)) (li : ℕ) (w : ℕ → BitVec 32) (b s : ℕ) (g : outM.view.ty.Contents (Elt F)) : Prop :=
  Good w → ∀ pw < 7, ∀ ph < 7, pw * 7 + ph < s → ∀ l < 16, ov g (b * 896 + (ph * 7 + pw) * 16 + l) = cellSpec T li w pw ph l

end Cert.Proof.Roi

end
-- ==== Proof.Roi.RowRun.lean ====
/-
  The run of one row's program.
-/
module

public import proofs.«01_k».proof.Proof.Roi.Spec

@[expose] public section

noncomputable section

namespace Cert.Proof.Roi

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {i : grid0.Coords}

/-- The row buffer after the first `m` rows; in the middle of row `m` (where the bin has rows, the row is there). -/
abbrev rowsP (d : Dev nD) (i : grid0.Coords) (T : tabM.view.ty.Contents (Elt F)) (li : ℕ) (w : ℕ → BitVec 32) (m : ℕ) : SP F :=
  iprop(∃ f, ⌜RowsN T li w m f⌝ ∗ rowP d i f)
abbrev rowsMidP (d : Dev nD) (i : grid0.Coords) (T : tabM.view.ty.Contents (Elt F)) (li : ℕ) (w : ℕ → BitVec 32) (m : ℕ) : SP F :=
  iprop(∃ f, ⌜RowsN T li w m f ∧ (0 < (w (8 + m)).toInt → ∀ c < 64 * grps w, rv f m c = rowSpec T li w m c)⌝ ∗ rowP d i f)

theorem RowsN.upd {T : tabM.view.ty.Contents (Elt F)} {li : ℕ} {w : ℕ → BitVec 32} {m : ℕ} {V : ℕ → F .f32} {f f' : rowM.view.ty.Contents (Elt F)}
    (h : RowsN T li w m f) (hm : m < 7) (hg : grps w ≤ 13) (hu : RowUpd m 0 (64 * grps w) V f f') :
    RowsN T li w m f' ∧ ∀ c < 64 * grps w, rv f' m c = V c := by
  refine ⟨⟨fun p hp c hc hc' => ?_, fun p hp hp7 hl c hc => ?_⟩, fun c hc => ?_⟩
  · rw [hu p hp c (by omega), if_neg (by omega)]; exact h.strip p hp c hc hc'
  · rw [hu p hp7 c (by omega), if_neg (by omega)]; exact h.done p hp hp7 hl c hc
  · rw [hu m hm c (by omega), if_pos (by omega)]

theorem grps_le {i : grid0.Coords} {li : ℕ} {w : ℕ → BitVec 32} (h : MetaOK i li w) : grps w ≤ 13 := by
  have h0 : (w 16).toNat ≤ 50 := h.hws 0 (by omega)
  have h6 : (w 22 + w 30).toNat ≤ 50 := h.hwe 6 (by omega)
  have := grp_le h0 h6
  unfold grps; omega

section

variable {T : Buf (Elt F) (tabM.view.loc (thr d i))} {li : ℕ} {w : ℕ → BitVec 32} {R : SP F}

theorem rowMax_wp (ρ : ℕ) (hρ : ρ < 7) (hw : MetaOK i li w) {v68 v72 v74 v76 v98 v100 : BitVec 32}
    (h68 : v68 = w 31) (h72 : v72 = w 16) (h74 : v74 = w 22) (h76 : v76 = w 30) (h98 : v98 = w ρ) (h100 : v100 = w (8 + ρ))
    {h} {h6} {ok3} {h7} {ok4} {b4} {h9} {ok5} {b5} :
    iprop(rowsP d i T li w ρ ∗ tabP d i T ∗ R) ⊢ wpT d i (rowMax (F := F) ρ v68 v72 v74 v76 v98 v100 h h6 ok3 h7 ok4 b4 h9 ok5 b5) fun _ =>
      iprop(rowsMidP d i T li w ρ ∗ tabP d i T ∗ R) := by
  subst h68 h72 h74 h76 h98 h100
  have hr := hw.row ρ hρ
  have hg := grps_le hw
  unfold rowMax
  by_cases h2 : k0_cond2 (w (8 + ρ)) = 1#1
  · rw [dif_pos h2]
    have hp := cond2_iff.mp h2
    have hpn := pos_le hr.h98 hr.hhe hp
    refine bind_wp ?_
    iintro ⟨⟨%f, %hf, HR⟩, HT, H⟩
    iapply (?_ : iprop(tabP d i T ∗ rowP d i f ∗ R) ⊢ _)
    swap
    · isplitl [HT]
      · iexact HT
      isplitl [HR]
      · iexact HR
      · iexact H
    refine for_wp (fun k _ => iprop(∃ f', ⌜RowUpd ρ 0 (64 * k) (rowV T (rowB li (w 16) (w ρ)) ((w (8 + ρ)).toNat - 1)) f f'⌝ ∗ tabP d i T ∗ rowP d i f' ∗ R)) ?_ ?_ ?_
    · iintro H
      iexists f
      isplitr
      · ipureintro; exact RowUpd.refl (F := F) ρ 0 _ f
      · iexact H
    · intro k m
      iintro ⟨%f', %hf', H⟩
      iapply (wp_mono _ _ _ (p := blk ρ (w 31) (w 16) (w 22) (w 30) (w ρ) (w (8 + ρ)) k (h6 h2 k) (ok3 h2) (h7 h2 k) (ok4 h2) (b4 h2 k) (h9 h2 k)) ?_)
      swap
      · iapply (blk_wp ρ (w 31) (w 16) (w 22) (w 30) (w ρ) (w (8 + ρ)) (rowB li (w 16) (w ρ)) ((w (8 + ρ)).toNat - 1) T f' k (h6 h2 k) (ok3 h2) (h7 h2 k) (ok4 h2) (b4 h2 k) (h9 h2 k)
          (off6_eq hr k) (off7_eq hr hp k) (rowOff_eq ρ k.val (by have := k.isLt; unfold grps at hg; omega)) (hl_trips hp) R) $$ H
      · intro _
        iintro ⟨%f'', %hf'', H⟩
        iexists f''
        isplitr
        · ipureintro
          exact hf'.trans (by omega) (by omega) (hf''.trans (c := 64 * (k.val + 1)) (by omega) (by omega) (by have := RowUpd.refl ρ (64 * k.val + 64) (rowV T (rowB li (w 16) (w ρ)) ((w (8 + ρ)).toNat - 1)) f''; exact this))
        · iexact H
    · intro x
      refine bind_wp (for0_wp (Scf.rem_trips 0#32 _) (ret_wp ?_))
      iintro ⟨%f', %hf', HT, HR, H⟩
      isplitl [HR]
      · iexists f'
        isplitr
        · ipureintro
          obtain ⟨ha, hb⟩ := hf.upd hρ hg hf'
          refine ⟨ha, fun _ c hc => (hb c hc).trans ?_⟩
          unfold rowSpec
          rw [if_neg]
          intro h0; rw [h0] at hpn; simp at hpn
        · iexact HR
      isplitl [HT]
      · iexact HT
      · iexact H
  · rw [dif_neg h2]
    refine ret_wp ?_
    iintro ⟨⟨%f, %hf, HR⟩, HT, H⟩
    isplitl [HR]
    · iexists f
      isplitr
      · ipureintro
        exact ⟨hf, fun hp => absurd (cond2_iff.mpr hp) h2⟩
      · iexact HR
    isplitl [HT]
    · iexact HT
    · iexact H

theorem rowZero_wp (ρ : ℕ) (hρ : ρ < 7) (hw : MetaOK i li w) {v72 v74 v76 v100 : BitVec 32} {z : FVec F S16 .f32} (hz : ∀ l < 16, z (lane l) = fzero)
    (h72 : v72 = w 16) (h74 : v74 = w 22) (h76 : v76 = w 30) (h100 : v100 = w (8 + ρ))
    {h} {h9} {ok5} {b5} :
    iprop(rowsMidP d i T li w ρ ∗ tabP d i T ∗ R) ⊢ wpT d i (rowZero (F := F) ρ v72 v74 v76 v100 z h h9 ok5 b5) fun _ =>
      iprop(rowsP d i T li w (ρ + 1) ∗ tabP d i T ∗ R) := by
  subst h72 h74 h76 h100
  have hr := hw.row ρ hρ
  have hg := grps_le hw
  unfold rowZero
  by_cases h3 : k0_cond3 (w (8 + ρ)) = 1#1
  · rw [dif_pos h3]
    have hp := cond3_iff.mp h3
    refine bind_wp ?_
    iintro ⟨⟨%f, %hf, HR⟩, H⟩
    iapply (?_ : iprop(rowP d i f ∗ tabP d i T ∗ R) ⊢ _)
    swap
    · isplitl [HR]
      · iexact HR
      · iexact H
    refine for_wp (fun k _ => iprop(∃ f', ⌜RowUpd ρ 0 (64 * k) (fun _ => fzero) f f'⌝ ∗ rowP d i f' ∗ tabP d i T ∗ R)) ?_ ?_ ?_
    · iintro H
      iexists f
      isplitr
      · ipureintro; exact RowUpd.refl (F := F) ρ 0 _ f
      · iexact H
    · intro k m
      iintro ⟨%f', %hf', H⟩
      iapply (?_ : iprop(rowP d i f' ∗ tabP d i T ∗ R) ⊢ _) $$ H
      refine load_wp (Finset.subset_univ _) (store_wp (Finset.subset_univ _) ?_)
      refine load_wp (Finset.subset_univ _) (store_wp (Finset.subset_univ _) ?_)
      refine load_wp (Finset.subset_univ _) (store_wp (Finset.subset_univ _) ?_)
      refine load_wp (Finset.subset_univ _) (store_wp (Finset.subset_univ _) ?_)
      refine ret_wp ?_
      iintro H
      iexists _
      isplitr
      swap
      · iexact H
      ipureintro
      have hst : ∀ (r : Fin 4) (f : rowM.view.ty.Contents (Elt F)), RowUpd ρ (64 * k.val + 16 * r.val) (64 * k.val + 16 * r.val + 16) (fun _ => fzero) f
          (rowM.view.writes (Elt F) f [⟨Rect.unit (s := S7x880) (rowOff ρ k.val (BitVec.ofNat 32 (16 * r.val))) S1x16.size (h9 h3 k r),
            shapeCast S1x16 z shapeCasts_S16_S1x16⟩]) := fun r f =>
        RowUpd.store f (h9 h3 k r) _ rfl (rowOff_eq ρ k.val (by have := k.isLt.trans_le hg; omega) r) fun l hl => hz l hl
      have hq : 64 * (k.val + 1) = 64 * k.val + 16 * (3 : Fin 4).val + 16 := by simp; omega
      rw [hq]
      exact hf'.trans (by omega) (by omega) ((((hst 0 _).trans (by omega) (by simp) (hst 1 _)).trans (by omega) (by simp) (hst 2 _)).trans (by omega) (by simp) (hst 3 _))
    · intro x
      refine bind_wp (for0_wp (Scf.rem_trips 0#32 _) (ret_wp ?_))
      iintro ⟨%f', %hf', HR, H⟩
      isplitl [HR]
      · iexists f'
        isplitr
        · ipureintro
          obtain ⟨ha, hb⟩ := hf.1.upd hρ hg hf'
          refine ⟨ha.strip, fun p hp' hp7 hl c hc => ?_⟩
          by_cases hpm : p = ρ
          · subst hpm
            rw [hb c hc]; unfold rowSpec; rw [if_pos hp]
          · exact ha.done p (by omega) hp7 hl c hc
        · iexact HR
      · iexact H
  · rw [dif_neg h3]
    refine ret_wp ?_
    iintro ⟨⟨%f, %hf, HR⟩, H⟩
    isplitl [HR]
    · iexists f
      isplitr
      · ipureintro
        refine ⟨hf.1.strip, fun p hp' hp7 hl c hc => ?_⟩
        by_cases hpm : p = ρ
        · subst hpm
          refine hf.2 ?_ c hc
          have h0 : w (8 + p) ≠ 0#32 := fun h0 => h3 (cond3_iff.mpr h0)
          rcases hl.lt_or_eq with h | h
          · exact h
          · exact absurd (BitVec.eq_of_toInt_eq (h.symm.trans (by decide))) h0
        · exact hf.1.done p (by omega) hp7 hl c hc
      · iexact HR
    · iexact H

end

end Cert.Proof.Roi

end
-- ==== Proof.Roi.Cell.lean ====
/-
  One bin of the output: the greatest of ten column groups of the row buffer, and its floor.
-/
module

public import proofs.«01_k».proof.Proof.Roi.RowRun

@[expose] public section

noncomputable section

namespace Cert.Proof.Roi

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Where a bin's `k`-th column group starts in the row buffer. -/
def cellOff (ρ : ℕ) (v72 v203 v205 k : BitVec 32) : Fin 2 → ℕ :=
  ![ρ, (Scalar.addi (Scalar.select (Scalar.cmpi .eq v205 0#32) 848#32 (Scalar.muli (Scalar.subi v203 v72) 16#32))
    (Scalar.muli (Scalar.minsi k (Scalar.maxsi (Scalar.subi v205 1#32) 0#32)) 16#32)).toNat]

abbrev CellInb (ρ : ℕ) (v72 v203 v205 : BitVec 32) : Prop :=
  ∀ (r : Fin 10), ∀ a, (cellOff ρ v72 v203 v205 (BitVec.ofNat 32 r.val)) a + S1x16.size a ≤ S7x880.size a

variable {d : Dev nD} {i : grid0.Coords} {α : Type}

/-- A column group of the row buffer. -/
def rd (f : Buf (Elt F) (rowM.view.loc (thr d i))) (off : Fin 2 → ℕ) (inb : ∀ a, off a + S1x16.size a ≤ S7x880.size a) : FVec F S16 .f32 :=
  shapeCast S16 (rowM.view.readAt (Elt F) (Rect.unit (s := S7x880) off S1x16.size inb).toLoadRect f) shapeCasts_S1x16_S16

/-- What a bin's program stores. -/
def cellVal (f : Buf (Elt F) (rowM.view.loc (thr d i))) (ρ : ℕ) (v72 v203 v205 : BitVec 32) (inb : CellInb ρ v72 v203 v205) (fl : FVec F S16 .f32) : FVec F S16 .f32 :=
  maximumf (maximumf (maximumf (maximumf (maximumf (maximumf (maximumf (maximumf (maximumf (maximumf
    (rd f _ (inb 0)) (rd f _ (inb 1))) (rd f _ (inb 2))) (rd f _ (inb 3))) (rd f _ (inb 4))) (rd f _ (inb 5))) (rd f _ (inb 6)))
    (rd f _ (inb 7))) (rd f _ (inb 8))) (rd f _ (inb 9))) fl

/-- A bin's program, and what follows it. -/
abbrev cellProg (ρ : ℕ) (v72 v203 v205 : BitVec 32) (inb : CellInb ρ v72 v203 v205) (fl : FVec F S16 .f32)
    {p : ℕ} (inb8 : ∀ a, (![p] : Fin 1 → ℕ) a + S16.size a ≤ S1792.size a)
    (kk : Prog (TpuEff nD τ sig (Elt F) Λ₀ (.scVector ((i 0).castLE hcore0) ((i 1).castLE hsub0))) α) : Prog (TpuEff nD τ sig (Elt F) Λ₀ (.scVector ((i 0).castLE hcore0) ((i 1).castLE hsub0))) α :=
  Prog.op (.load rowM (Rect.unit (s := S7x880) (cellOff ρ v72 v203 v205 0#32) S1x16.size (inb 0)).toLoadRect (View.loadsAt_vmem h_S1x16)) fun w0 =>
  Prog.op (.load rowM (Rect.unit (s := S7x880) (cellOff ρ v72 v203 v205 1#32) S1x16.size (inb 1)).toLoadRect (View.loadsAt_vmem h_S1x16)) fun w1 =>
  Prog.op (.load rowM (Rect.unit (s := S7x880) (cellOff ρ v72 v203 v205 2#32) S1x16.size (inb 2)).toLoadRect (View.loadsAt_vmem h_S1x16)) fun w2 =>
  Prog.op (.load rowM (Rect.unit (s := S7x880) (cellOff ρ v72 v203 v205 3#32) S1x16.size (inb 3)).toLoadRect (View.loadsAt_vmem h_S1x16)) fun w3 =>
  Prog.op (.load rowM (Rect.unit (s := S7x880) (cellOff ρ v72 v203 v205 4#32) S1x16.size (inb 4)).toLoadRect (View.loadsAt_vmem h_S1x16)) fun w4 =>
  Prog.op (.load rowM (Rect.unit (s := S7x880) (cellOff ρ v72 v203 v205 5#32) S1x16.size (inb 5)).toLoadRect (View.loadsAt_vmem h_S1x16)) fun w5 =>
  Prog.op (.load rowM (Rect.unit (s := S7x880) (cellOff ρ v72 v203 v205 6#32) S1x16.size (inb 6)).toLoadRect (View.loadsAt_vmem h_S1x16)) fun w6 =>
  Prog.op (.load rowM (Rect.unit (s := S7x880) (cellOff ρ v72 v203 v205 7#32) S1x16.size (inb 7)).toLoadRect (View.loadsAt_vmem h_S1x16)) fun w7 =>
  Prog.op (.load rowM (Rect.unit (s := S7x880) (cellOff ρ v72 v203 v205 8#32) S1x16.size (inb 8)).toLoadRect (View.loadsAt_vmem h_S1x16)) fun w8 =>
  Prog.op (.load rowM (Rect.unit (s := S7x880) (cellOff ρ v72 v203 v205 9#32) S1x16.size (inb 9)).toLoadRect (View.loadsAt_vmem h_S1x16)) fun w9 =>
  Prog.op (.load outM (Rect.unit (s := S1792) ![p] S16.size inb8).toLoadRect (View.loadsAt_vmem h_S16)) fun _ =>
  Prog.op (.store outM (Rect.unit (s := S1792) ![p] S16.size inb8)
    (shapeCast S16 (maximumf (maximumf (maximumf (maximumf (maximumf (maximumf (maximumf (maximumf (maximumf (maximumf
      (shapeCast S16 w0 shapeCasts_S1x16_S16) (shapeCast S16 w1 shapeCasts_S1x16_S16)) (shapeCast S16 w2 shapeCasts_S1x16_S16))
      (shapeCast S16 w3 shapeCasts_S1x16_S16)) (shapeCast S16 w4 shapeCasts_S1x16_S16)) (shapeCast S16 w5 shapeCasts_S1x16_S16))
      (shapeCast S16 w6 shapeCasts_S1x16_S16)) (shapeCast S16 w7 shapeCasts_S1x16_S16)) (shapeCast S16 w8 shapeCasts_S1x16_S16))
      (shapeCast S16 w9 shapeCasts_S1x16_S16)) fl) shapeCasts_S16_S16 : FVec F S16 .f32)
    Finset.univ (View.stores_vmem_bits_univ h_S16 rfl) (.inl rfl)) fun _ => kk

theorem cell_wp0 (f : Buf (Elt F) (rowM.view.loc (thr d i))) (g : Buf (Elt F) (outM.view.loc (thr d i)))
    (ρ : ℕ) (v72 v203 v205 : BitVec 32) (inb : CellInb ρ v72 v203 v205) (fl : FVec F S16 .f32)
    {p : ℕ} (inb8 : ∀ a, (![p] : Fin 1 → ℕ) a + S16.size a ≤ S1792.size a) (H : Finset (Idx (outM.view.loc (thr d i))))
    (hH : (outM.access (Rect.unit (s := S1792) ![p] S16.size inb8)).set ⊆ H) (R : SP F)
    (kk : Prog (TpuEff nD τ sig (Elt F) Λ₀ (.scVector ((i 0).castLE hcore0) ((i 1).castLE hsub0))) α) (Q : α → SP F)
    (hK : iprop((outM.view.loc (thr d i) ↦[H]{fullShare} outM.view.writes (Elt F) g [⟨Rect.unit (s := S1792) ![p] S16.size inb8, cellVal f ρ v72 v203 v205 inb fl⟩])
      ∗ (rowM.view.loc (thr d i) ↦{fullShare} f) ∗ R) ⊢ wpT d i kk Q) :
    iprop((rowM.view.loc (thr d i) ↦{fullShare} f) ∗ (outM.view.loc (thr d i) ↦[H]{fullShare} g) ∗ R) ⊢ wpT d i (cellProg ρ v72 v203 v205 inb fl inb8 kk) Q := by
  unfold cellProg
  refine load_wp (Finset.subset_univ _) ?_
  refine load_wp (Finset.subset_univ _) ?_
  refine load_wp (Finset.subset_univ _) ?_
  refine load_wp (Finset.subset_univ _) ?_
  refine load_wp (Finset.subset_univ _) ?_
  refine load_wp (Finset.subset_univ _) ?_
  refine load_wp (Finset.subset_univ _) ?_
  refine load_wp (Finset.subset_univ _) ?_
  refine load_wp (Finset.subset_univ _) ?_
  refine load_wp (Finset.subset_univ _) ?_
  refine sep_left_comm.1.trans ?_
  refine load_wp (by have h := hH; rw [show (outM.access _).set = _ from View.set_slice _ _] at h; exact h) ?_
  refine store_wp hH ?_
  show iprop((outM.view.loc (thr d i) ↦[H]{fullShare} outM.view.writes (Elt F) g [⟨Rect.unit (s := S1792) ![p] S16.size inb8,
    shapeCast S16 (cellVal f ρ v72 v203 v205 inb fl) shapeCasts_S16_S16⟩]) ∗ _) ⊢ _
  rw [cast16]
  exact hK

/-! ## The numbers -/

theorem ext_eq {α : Type} (v : S16.Idx → α) (j : ℕ) (h : S16.Slices ![j] S1) :
    extractAt ![0] (extractStridedSlice S1 ![j] v h) inpos_S1_p0 = v (lane j) := by
  refine congrArg v (at0_eq _ _ _ ?_).symm
  rw [Fin.forall_fin_one]
  show j + 0 = j
  omega

theorem select_eq {α : Type} (v : BitVec 32) (a b : α) : Scalar.select (Scalar.cmpi .eq v 0#32) a b = if v = 0#32 then a else b := by
  show (if _ = 1#1 then a else b) = _
  by_cases h : v = 0#32
  · rw [if_pos h, if_pos]; subst h; rfl
  · rw [if_neg h, if_neg]
    show ¬ BitVec.ofBool (v == 0#32) = 1#1
    rw [beq_false_of_ne h]; decide

/-- The last column group a bin reads. -/
theorem last_eq (n : BitVec 32) (hn : n.toInt ≤ 50) :
    (Scalar.maxsi (Scalar.subi n 1#32) 0#32).toNat = (n.toInt - 1).toNat ∨ (n.toInt < -2147483647) := by
  by_cases hlo : n.toInt < -2147483647
  · exact .inr hlo
  refine .inl ?_
  have hs : (n - 1#32).toInt = n.toInt - 1 := by
    rw [BitVec.toInt_sub, show (1#32).toInt = 1 from rfl, Int.bmod_eq_of_le (by omega) (by omega)]
  show (if (0#32).slt (n - 1#32) then n - 1#32 else 0#32).toNat = _
  rw [BitVec.slt, show (0#32).toInt = 0 from rfl, hs]
  by_cases h : 0 < n.toInt - 1
  · rw [if_pos (by simpa using h)]
    have : ((n - 1#32).toNat : ℤ) = n.toInt - 1 := by
      rw [← hs, BitVec.toInt_eq_toNat_cond]
      split
      · rfl
      · next hh => rw [BitVec.toInt_eq_toNat_cond, if_neg hh] at hs; omega
    omega
  · rw [if_neg (by simpa using h)]
    show 0 = _
    omega

theorem min_eq (k : ℕ) (hk : k < 10) (v : BitVec 32) (hv : v.toNat ≤ 50) :
    (Scalar.minsi (BitVec.ofNat 32 k) v).toNat = min k v.toNat := by
  have hkn : (BitVec.ofNat 32 k).toNat = k := by rw [BitVec.toNat_ofNat]; omega
  have hki : (BitVec.ofNat 32 k).toInt = k := by rw [BitVec.toInt_eq_toNat_of_lt (by omega), hkn]
  have hvi : v.toInt = v.toNat := BitVec.toInt_eq_toNat_of_lt (by omega)
  show (if (BitVec.ofNat 32 k).slt v then BitVec.ofNat 32 k else v : BitVec 32).toNat = _
  rw [BitVec.slt, hki, hvi]
  by_cases h : k < v.toNat
  · rw [if_pos (by simpa using h), hkn]; omega
  · rw [if_neg (by simpa using h)]; omega

/-- The column of a bin's `k`-th column group. -/
theorem cellOff_one {i : grid0.Coords} {li : ℕ} {w : ℕ → BitVec 32} (hw : MetaOK i li w) (pw : ℕ) (hpw : pw < 7) (ρ k : ℕ) (hk : k < 10) :
    cellOff ρ (w 16) (w (16 + pw)) (w (24 + pw)) (BitVec.ofNat 32 k) 1 =
      if w (24 + pw) = 0#32 then 848
      else ((w (16 + pw)).toNat - (w 16).toNat + min k ((w (24 + pw)).toInt - 1).toNat) * 16 := by
  have h1 := hw.hws pw hpw
  have h2 := hw.hwe pw hpw
  have h3 := hw.hw0 pw hpw
  generalize w (24 + pw) = n at *
  generalize w (16 + pw) = s at *
  generalize w 16 = s0 at *
  rw [BitVec.toNat_add] at h2
  have hn : n.toInt ≤ 50 := by
    rw [BitVec.toInt_eq_toNat_cond]; have := n.isLt; split <;> omega
  have hlo : ¬ n.toInt < -2147483647 := by
    rw [BitVec.toInt_eq_toNat_cond]; have := n.isLt; split <;> omega
  have hl := (last_eq n hn).resolve_right hlo
  show (Scalar.addi (Scalar.select (Scalar.cmpi .eq n 0#32) 848#32 (Scalar.muli (Scalar.subi s s0) 16#32))
    (Scalar.muli (Scalar.minsi (BitVec.ofNat 32 k) (Scalar.maxsi (Scalar.subi n 1#32) 0#32)) 16#32)).toNat = _
  rw [select_eq]
  have hm := min_eq k hk (Scalar.maxsi (Scalar.subi n 1#32) 0#32) (by omega)
  rw [hl] at hm
  generalize Scalar.minsi (BitVec.ofNat 32 k) (Scalar.maxsi (Scalar.subi n 1#32) 0#32) = m at *
  split
  · next h =>
    subst h
    have : m.toNat = 0 := by rw [hm]; simp
    show (848#32 + m * 16#32).toNat = 848
    simp only [BitVec.toNat_add, BitVec.toNat_mul, BitVec.toNat_ofNat]; omega
  · show ((s - s0) * 16#32 + m * 16#32).toNat = _
    rw [← hm]
    simp only [BitVec.toNat_add, BitVec.toNat_mul, BitVec.toNat_sub, BitVec.toNat_ofNat]; omega

theorem cell_inb {i : grid0.Coords} {li : ℕ} {w : ℕ → BitVec 32} (hw : MetaOK i li w) (pw : ℕ) (hpw : pw < 7) (ρ : ℕ) (hρ : ρ < 7) :
    CellInb ρ (w 16) (w (16 + pw)) (w (24 + pw)) := by
  intro r a
  have hr := cellOff_one hw pw hpw ρ r.val r.isLt
  revert a
  rw [Fin.forall_fin_two]
  constructor
  · show ρ + 1 ≤ 7; omega
  · show cellOff ρ (w 16) (w (16 + pw)) (w (24 + pw)) (BitVec.ofNat 32 r.val) 1 + 16 ≤ 880
    rw [hr]
    have h1 := hw.hws pw hpw
    have h2 := hw.hwe pw hpw
    rw [BitVec.toNat_add] at h2
    have hlt := (w (24 + pw)).isLt
    have := r.isLt
    split
    · omega
    · rw [BitVec.toInt_eq_toNat_cond]
      split <;> omega

theorem cellVal_eq {T : tabM.view.ty.Contents (Elt F)} {li : ℕ} {w : ℕ → BitVec 32} (hw : MetaOK i li w) (hg : Good w) (pw : ℕ) (hpw : pw < 7)
    (ρ : ℕ) (hρ : ρ < 7) (f : Buf (Elt F) (rowM.view.loc (thr d i))) (hf : RowsN T li w 7 f)
    (inb : CellInb ρ (w 16) (w (16 + pw)) (w (24 + pw))) (fl : FVec F S16 .f32)
    (hfl : ∀ l, fl (lane l) = if w (24 + pw) = 0#32 then fzero else fneg) (l : ℕ) (hl : l < 16) :
    cellVal f ρ (w 16) (w (16 + pw)) (w (24 + pw)) inb fl (lane l) = cellSpec T li w pw ρ l := by
  have hrd : ∀ r : Fin 10, rd f _ (inb r) (lane l) = rv f ρ (cellOff ρ (w 16) (w (16 + pw)) (w (24 + pw)) (BitVec.ofNat 32 r.val) 1 + l) := fun r => by
    unfold rd
    rw [ld_row, at0_val _ _ _ (show l < 16 from hl)]
    rfl
  have hch : cellVal f ρ (w 16) (w (16 + pw)) (w (24 + pw)) inb fl (lane l)
      = FloatOps.maximumf (mchain (fun k => rv f ρ (cellOff ρ (w 16) (w (16 + pw)) (w (24 + pw)) (BitVec.ofNat 32 k) 1 + l)) 9) (fl (lane l)) := by
    show FloatOps.maximumf (FloatOps.maximumf (FloatOps.maximumf (FloatOps.maximumf (FloatOps.maximumf (FloatOps.maximumf (FloatOps.maximumf
      (FloatOps.maximumf (FloatOps.maximumf (FloatOps.maximumf (rd f _ (inb 0) (lane l)) (rd f _ (inb 1) (lane l))) (rd f _ (inb 2) (lane l)))
      (rd f _ (inb 3) (lane l))) (rd f _ (inb 4) (lane l))) (rd f _ (inb 5) (lane l))) (rd f _ (inb 6) (lane l)))
      (rd f _ (inb 7) (lane l))) (rd f _ (inb 8) (lane l))) (rd f _ (inb 9) (lane l))) (fl (lane l)) = _
    rw [hrd 0, hrd 1, hrd 2, hrd 3, hrd 4, hrd 5, hrd 6, hrd 7, hrd 8, hrd 9]
    rfl
  rw [hch, hfl]
  unfold cellSpec
  by_cases h0 : w (24 + pw) = 0#32
  · rw [if_pos h0, if_pos h0]
    congr 1
    refine mchain_congr fun k hk => ?_
    rw [cellOff_one hw pw hpw ρ k (by omega), if_pos h0]
    exact hf.strip ρ hρ _ (by omega) (by omega)
  · rw [if_neg h0, if_neg h0]
    congr 1
    refine mchain_congr fun k hk => ?_
    rw [cellOff_one hw pw hpw ρ k (by omega), if_neg h0]
    have h1 := hw.hws pw hpw
    have h2 := hw.hwe pw hpw
    have h3 := hw.hw0 pw hpw
    have h4 := hg.hwl pw hpw
    have h5 := hg.hwe pw hpw
    have hz : (w (24 + pw)).toNat ≠ 0 := fun h => h0 (BitVec.eq_of_toNat_eq h)
    have hi : (w (24 + pw)).toInt = (w (24 + pw)).toNat := by
      have hlt := (w (24 + pw)).isLt
      rw [BitVec.toInt_eq_toNat_cond] at h4 ⊢
      split
      · rfl
      · next h => rw [if_neg h] at h4; omega
    rw [hi, show (((w (24 + pw)).toNat : ℤ) - 1).toNat = (w (24 + pw)).toNat - 1 by omega]
    refine hf.done ρ hρ hρ (hg.hhl ρ hρ) _ ?_
    have hlt := (w (24 + pw)).isLt
    have hgr : grps w = ((w 22 + w 30).toNat + 3 - (w 16).toNat) / 4 := grp_trips (hw.hws 0 (by omega)) (hw.hwe 6 (by omega))
    rw [hgr]
    rw [BitVec.toNat_add] at h2 h5
    have hlti : (w (24 + pw)).toInt = (w (24 + pw)).toNat := hi
    rw [BitVec.toInt_eq_toNat_cond] at hlti
    split at hlti <;> omega

/-! ## The seven bins of a column -/

abbrev CellChk (v72 v203 v205 : BitVec 32) : Prop :=
  CellInb 0 v72 v203 v205 ∧ CellInb 1 v72 v203 v205 ∧ CellInb 2 v72 v203 v205 ∧ CellInb 3 v72 v203 v205 ∧
  CellInb 4 v72 v203 v205 ∧ CellInb 5 v72 v203 v205 ∧ CellInb 6 v72 v203 v205

theorem cellChk {li : ℕ} {w : ℕ → BitVec 32} (hw : MetaOK i li w) (pw : ℕ) (hpw : pw < 7) {v72 v203 v205 : BitVec 32}
    (h72 : v72 = w 16) (h203 : v203 = w (16 + pw)) (h205 : v205 = w (24 + pw)) : CellChk v72 v203 v205 := by
  subst h72 h203 h205
  exact ⟨cell_inb hw pw hpw 0 (by omega), cell_inb hw pw hpw 1 (by omega), cell_inb hw pw hpw 2 (by omega), cell_inb hw pw hpw 3 (by omega),
    cell_inb hw pw hpw 4 (by omega), cell_inb hw pw hpw 5 (by omega), cell_inb hw pw hpw 6 (by omega)⟩

/-- A half of the output buffer, with the first `s` bins of an ROI in it. -/
abbrev outP (d : Dev nD) (i : grid0.Coords) (H : Finset (Idx (outM.view.loc (thr d i)))) (T : tabM.view.ty.Contents (Elt F)) (li : ℕ) (w : ℕ → BitVec 32)
    (b s : ℕ) : SP F := iprop(∃ g, ⌜OutN T li w b s g⌝ ∗ (outM.view.loc (thr d i) ↦[H]{fullShare} g))

/-- `H` is the half `b` of the output buffer. -/
abbrev IsHalf (H : Finset (Idx (outM.view.loc (thr d i)))) (b : ℕ) : Prop :=
  ∀ (p : ℕ) (inb8 : ∀ a, (![p] : Fin 1 → ℕ) a + S16.size a ≤ S1792.size a), b * 896 ≤ p → p + 16 ≤ b * 896 + 896 →
    (outM.access (Rect.unit (s := S1792) ![p] S16.size inb8)).set ⊆ H

theorem floor_eq {n v : BitVec 32} (h : v = n) (l : ℕ) :
    broadcast S16 (Scalar.select (Scalar.cmpi .eq v 0#32) (fzero (F := F)) fneg) (lane l) = if n = 0#32 then fzero else fneg := by
  subst h
  exact select_eq v _ _

section

variable {H : Finset (Idx (outM.view.loc (thr d i)))} {T : tabM.view.ty.Contents (Elt F)} {li : ℕ} {w : ℕ → BitVec 32} {b : ℕ} {R : SP F}

theorem cellS_wp (hH : IsHalf H b) (hb : b < 2) (hw : MetaOK i li w) (pw : ℕ) (hpw : pw < 7) (ρ : ℕ) (hρ : ρ < 7)
    {v72 v203 v205 : BitVec 32} (h72 : v72 = w 16) (h203 : v203 = w (16 + pw)) (h205 : v205 = w (24 + pw))
    {inb : CellInb ρ v72 v203 v205} {fl : FVec F S16 .f32} (hfl : ∀ l, fl (lane l) = if w (24 + pw) = 0#32 then fzero else fneg)
    {p : ℕ} {inb8 : ∀ a, (![p] : Fin 1 → ℕ) a + S16.size a ≤ S1792.size a} (hp : p = b * 896 + (ρ * 7 + pw) * 16)
    {kk : Prog (TpuEff nD τ sig (Elt F) Λ₀ (.scVector ((i 0).castLE hcore0) ((i 1).castLE hsub0))) α} {Q : α → SP F}
    (hK : iprop(rowsP d i T li w 7 ∗ outP d i H T li w b (pw * 7 + ρ + 1) ∗ R) ⊢ wpT d i kk Q) :
    iprop(rowsP d i T li w 7 ∗ outP d i H T li w b (pw * 7 + ρ) ∗ R) ⊢ wpT d i (cellProg ρ v72 v203 v205 inb fl inb8 kk) Q := by
  subst h72 h203 h205
  iintro ⟨⟨%f, %hf, Hf⟩, ⟨%g, %hg, Hg⟩, HR⟩
  iapply (cell_wp0 f g ρ _ _ _ inb fl inb8 H (hH p inb8 (by omega) (by omega)) R kk Q ?_)
  swap
  · isplitl [Hf]
    · iexact Hf
    isplitl [Hg]
    · iexact Hg
    · iexact HR
  · refine BIBase.Entails.trans ?_ hK
    iintro ⟨Hg, Hf, HR⟩
    isplitl [Hf]
    · iexists f
      isplitr
      · ipureintro; exact hf
      · iexact Hf
    isplitl [Hg]
    · iexists _
      isplitr
      swap
      · iexact Hg
      ipureintro
      intro hgood pw' hpw' ρ' hρ' hs l hl
      rw [st_out g inb8 _ _ (by omega)]
      show (if p ≤ _ ∧ _ < p + 16 then _ else _) = _
      by_cases hc : pw' = pw ∧ ρ' = ρ
      · obtain ⟨rfl, rfl⟩ := hc
        rw [if_pos (by omega), show b * 896 + (ρ' * 7 + pw') * 16 + l - (![p] : Fin 1 → ℕ) 0 = l by show _ - p = l; omega]
        exact cellVal_eq hw hgood pw' hpw ρ' hρ f hf inb fl hfl l hl
      · rw [if_neg (by omega)]
        exact hg hgood pw' hpw' ρ' hρ' (by omega) l hl
    · iexact HR

theorem pw_wp (hH : IsHalf H b) (hb : b < 2) (hw : MetaOK i li w) (pw : ℕ) (hpw : pw < 7)
    {v72 v203 v205 : BitVec 32} (h72 : v72 = w 16) (h203 : v203 = w (16 + pw)) (h205 : v205 = w (24 + pw))
    {fl : FVec F S16 .f32} (hfl : ∀ l, fl (lane l) = if w (24 + pw) = 0#32 then fzero else fneg)
    {i0 : CellInb 0 v72 v203 v205} {i1 : CellInb 1 v72 v203 v205} {i2 : CellInb 2 v72 v203 v205} {i3 : CellInb 3 v72 v203 v205}
    {i4 : CellInb 4 v72 v203 v205} {i5 : CellInb 5 v72 v203 v205} {i6 : CellInb 6 v72 v203 v205}
    {p0 p1 p2 p3 p4 p5 p6 : ℕ} {b0} {b1} {b2} {b3} {b4} {b5} {b6}
    (hp : p0 = b * 896 + pw * 16 ∧ p1 = p0 + 112 ∧ p2 = p0 + 224 ∧ p3 = p0 + 336 ∧ p4 = p0 + 448 ∧ p5 = p0 + 560 ∧ p6 = p0 + 672)
    {kk : Prog (TpuEff nD τ sig (Elt F) Λ₀ (.scVector ((i 0).castLE hcore0) ((i 1).castLE hsub0))) α} {Q : α → SP F}
    (hK : iprop(rowsP d i T li w 7 ∗ outP d i H T li w b ((pw + 1) * 7) ∗ R) ⊢ wpT d i kk Q) :
    iprop(rowsP d i T li w 7 ∗ outP d i H T li w b (pw * 7) ∗ R) ⊢ wpT d i
      (cellProg 0 v72 v203 v205 i0 fl (p := p0) b0 <| cellProg 1 v72 v203 v205 i1 fl (p := p1) b1 <| cellProg 2 v72 v203 v205 i2 fl (p := p2) b2 <|
       cellProg 3 v72 v203 v205 i3 fl (p := p3) b3 <| cellProg 4 v72 v203 v205 i4 fl (p := p4) b4 <| cellProg 5 v72 v203 v205 i5 fl (p := p5) b5 <|
       cellProg 6 v72 v203 v205 i6 fl (p := p6) b6 kk) Q := by
  refine cellS_wp hH hb hw pw hpw 0 (by omega) h72 h203 h205 hfl (by omega) ?_
  refine cellS_wp hH hb hw pw hpw 1 (by omega) h72 h203 h205 hfl (by omega) ?_
  refine cellS_wp hH hb hw pw hpw 2 (by omega) h72 h203 h205 hfl (by omega) ?_
  refine cellS_wp hH hb hw pw hpw 3 (by omega) h72 h203 h205 hfl (by omega) ?_
  refine cellS_wp hH hb hw pw hpw 4 (by omega) h72 h203 h205 hfl (by omega) ?_
  refine cellS_wp hH hb hw pw hpw 5 (by omega) h72 h203 h205 hfl (by omega) ?_
  refine cellS_wp hH hb hw pw hpw 6 (by omega) h72 h203 h205 hfl (by omega) ?_
  rw [show pw * 7 + 6 + 1 = (pw + 1) * 7 by omega]
  exact hK

end

end Cert.Proof.Roi

end
-- ==== Proof.Roi.Dma.lean ====
/-
  The tile's copies: what a copy out of a half of the output buffer leaves in the result, and the rules by which a
  copy is started and waited for.
-/
module

public import proofs.«01_k».proof.Proof.Roi.Cell
public import Idealize.ShloMosaic.Lib.Transfers

@[expose] public section

noncomputable section

namespace Cert.Proof.Roi

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {i : grid0.Coords}

/-! ## The result's rows -/

theorem pos1024 : ∀ a : Fin S1024x16x896.rank, 0 < S1024x16x896.size a := by decide

/-- Word `c` of the result's row for the ROI `a` and the channel group `b`. -/
def hv (f : outH.view.ty.Contents (Elt F)) (a b c : ℕ) : F .f32 := outH.view.read (Elt F) f (at0 pos1024 ![a, b, c])

/-- The words of the result that the tile's copy for its ROI `r` writes. -/
def rowSet (i : grid0.Coords) (r : ℕ) : Finset S1024x16x896.Idx :=
  Finset.univ.filter fun x => (x 0).val = 512 * (i 0).val + r ∧ (x 1).val = (i 1).val

abbrev rowMem (off : Fin 3 → ℕ) (inb : ∀ a, off a + S1x1x896.size a ≤ S1024x16x896.size a) : Memref sig .scVector .hbm S896 .f32 :=
  (outH.slice (Rect.unit (s := S1024x16x896) off S1x1x896.size inb) (fun _ => rfl)).squeeze S896 squeezes_S1x1x896_S896

abbrev halfM (o : ℕ) (inb : ∀ a, (![o] : Fin 1 → ℕ) a + S896.size a ≤ S1792.size a) : Memref sig .scVector .vmem S896 .f32 :=
  outM.slice (Rect.unit (s := S1792) ![o] S896.size inb) (fun _ => rfl)

theorem rowMem_set {r : ℕ} {off : Fin 3 → ℕ} {inb : ∀ a, off a + S1x1x896.size a ≤ S1024x16x896.size a}
    (hoff : off = ![512 * (i 0).val + r, (i 1).val, 0]) : (rowMem off inb).view.set = rowSet i r := by
  refine (View.set_reshape _ _).trans ?_
  refine (View.set_slice_whole _ _).trans ?_
  subst hoff
  ext x
  have h2 : (x 2).val < 896 := (x 2).isLt
  rw [Rect.mem_set_unit, rowSet, Finset.mem_filter]
  simp only [Finset.mem_univ, true_and]
  constructor
  · intro h
    have h0 := h 0
    have h1 := h 1
    change _ ≤ _ ∧ _ < _ + 1 at h0
    change _ ≤ _ ∧ _ < _ + 1 at h1
    simp only [Matrix.cons_val_zero, Matrix.cons_val_one] at h0 h1
    omega
  · rintro ⟨h0, h1⟩ a
    match a with
    | 0 => exact ⟨h0.ge, h0.trans_lt (Nat.lt_succ_self _)⟩
    | 1 => exact ⟨h1.ge, h1.trans_lt (Nat.lt_succ_self _)⟩
    | 2 => exact ⟨Nat.zero_le _, by show _ < 0 + 896; omega⟩

/-- The half `b` of the output buffer. -/
def halfSet (b : ℕ) : Finset S1792.Idx := Finset.univ.filter fun x => b * 896 ≤ (x 0).val ∧ (x 0).val < b * 896 + 896

theorem halfM_set {b o : ℕ} {inb} (ho : o = b * 896) : (halfM o inb).view.set = halfSet b := by
  refine (View.set_slice_whole _ _).trans ?_
  subst ho
  ext x
  rw [Rect.mem_set_unit, halfSet, Finset.mem_filter]
  simp only [Finset.mem_univ, true_and]
  constructor
  · intro h
    exact h 0
  · intro h a
    match a with
    | 0 => exact h

theorem halfSet_half {b : ℕ} : IsHalf (d := d) (i := i) (halfSet b) b := by
  intro p inb8 h1 h2
  refine (show (outM.access (Rect.unit (s := S1792) ![p] S16.size inb8)).set = _ from View.set_slice_whole _ _).trans_subset ?_
  intro x hx
  rw [Rect.mem_set_unit] at hx
  have h := hx 0
  change p ≤ _ ∧ _ < p + 16 at h
  exact Finset.mem_filter.mpr ⟨Finset.mem_univ _, by omega, by omega⟩

theorem pos896 : ∀ a : Fin S896.rank, 0 < S896.size a := by decide

/-- A copy's words read back. -/
theorem rowMem_read {r b : ℕ} {off : Fin 3 → ℕ} {inb : ∀ a, off a + S1x1x896.size a ≤ S1024x16x896.size a} {inb'}
    (hoff : off = ![512 * (i 0).val + r, (i 1).val, 0]) (fd : outH.view.ty.Contents (Elt F)) (g : outM.view.ty.Contents (Elt F)) (c : ℕ) (hc : c < 896) :
    hv ((rowMem off inb).view.write (Elt F) fd ((halfM (b * 896) inb').view.read (Elt F) g) Finset.univ) (512 * (i 0).val + r) (i 1).val c
      = ov g (b * 896 + c) := by
  subst hoff
  have e : ∀ f : outH.view.ty.Contents (Elt F), hv f (512 * (i 0).val + r) (i 1).val c
      = (rowMem ![512 * (i 0).val + r, (i 1).val, 0] inb).view.read (Elt F) f (at0 pos896 ![c]) := by
    intro f
    rw [show (rowMem ![512 * (i 0).val + r, (i 1).val, 0] inb).view.read (Elt F) f = _ from
      Memref.read_squeeze_slice outH _ (fun _ => rfl) _ (show S1x1x896.ShapeCasts S896 by decide) f]
    have h0 := inb 0
    have h1 := inb 1
    change _ + 1 ≤ 1024 at h0
    change _ + 1 ≤ 16 at h1
    simp only [Matrix.cons_val_zero, Matrix.cons_val_one] at h0 h1
    refine .trans ?_ (shapeCast_apply _ _ _ (at0 (s := S1x1x896) (by decide) ![0, 0, c]) ?_).symm
    · rw [View.readAt_apply, hv]
      refine congrArg _ (at0_eq _ _ _ ?_)
      intro a
      match a with
      | 0 => show 512 * (i 0).val + r + 1 * 0 = _; rfl
      | 1 => show (i 1).val + 1 * 0 = _; rfl
      | 2 => show 0 + 1 * (c % 896) = c; rw [Nat.mod_eq_of_lt hc]; omega
    · rw [Shape.rowMajor_val_three, Shape.rowMajor_val_one, at0_val _ _ _ (by decide : (0 : ℕ) < 1), at0_val _ _ _ (by decide : (0 : ℕ) < 1),
        at0_val _ _ _ hc, at0_val _ _ _ hc]
      show (0 * _ + 0) * _ + c = c
      omega
  rw [e, View.read_write_univ]
  show outM.view.read (Elt F) g _ = outM.view.read (Elt F) g _
  refine congrArg _ (at0_eq _ _ _ ?_).symm
  intro a
  match a with
  | 0 =>
    show b * 896 + 1 * (c % 896) = b * 896 + c
    rw [Nat.mod_eq_of_lt hc, Nat.one_mul]

/-! ## What the copies carry -/

/-- The meta words of the tile's ROI `r`, and the image among the SparseCore's two they name. -/
def wOf (m : metaM.view.ty.Contents (Elt F)) (r : ℕ) : ℕ → BitVec 32 := fun j => mv m (32 * r + j)
def liOf (i : grid0.Coords) (w : ℕ → BitVec 32) : ℕ := (w 31).toNat - 2 * (i 0).val

/-- The result's row for the tile's ROI `r` holds the ROI's bins. -/
def RowDone (i : grid0.Coords) (T : tabM.view.ty.Contents (Elt F)) (m : metaM.view.ty.Contents (Elt F)) (r : ℕ) (f : outH.view.ty.Contents (Elt F)) : Prop :=
  Good (wOf m r) → ∀ pw < 7, ∀ ph < 7, ∀ l < 16,
    hv f (512 * (i 0).val + r) (i 1).val ((ph * 7 + pw) * 16 + l) = cellSpec T (liOf i (wOf m r)) (wOf m r) pw ph l

abbrev rowPt (d : Dev nD) (i : grid0.Coords) (r : ℕ) (f : Buf (Elt F) (outH.view.loc (thr d i))) : SP F :=
  outH.view.loc (thr d i) ↦[rowSet i r]{fullShare} f

abbrev doneP (d : Dev nD) (i : grid0.Coords) (T : tabM.view.ty.Contents (Elt F)) (m : metaM.view.ty.Contents (Elt F)) (r : ℕ) : SP F :=
  iprop(∃ f, ⌜RowDone i T m r f⌝ ∗ rowPt d i r f)

abbrev halfP (d : Dev nD) (i : grid0.Coords) (b : ℕ) : SP F := iprop(∃ g, (outM.view.loc (thr d i) ↦[halfSet b]{fullShare} g))

/-- The amount a copy of a half is counted by. -/
abbrev amt : ℕ := (rowMem ![0, 0, 0] (by decide)).view.dmaCredit

/-- The copy of the half `b` under way, for the tile's ROI `r`. -/
abbrev flyP (d : Dev nD) (i : grid0.Coords) (T : tabM.view.ty.Contents (Elt F)) (m : metaM.view.ty.Contents (Elt F)) (b : ℕ) (sem : DmaSem sig) (r : ℕ) : SP F :=
  Transfers.Flight countersEmb (thr d i) (.dma sem) (default : HIx 1) amt iprop(doneP d i T m r ∗ halfP d i b)

abbrev semP (d : Dev nD) (i : grid0.Coords) (sem : DmaSem sig) : SP F := semVal (thr d i, .dma sem) 0

theorem rowDone_of {T : tabM.view.ty.Contents (Elt F)} {m : metaM.view.ty.Contents (Elt F)} {r b : ℕ} {off : Fin 3 → ℕ} {inb} {inb'}
    (hoff : off = ![512 * (i 0).val + r, (i 1).val, 0]) (fd : outH.view.ty.Contents (Elt F)) (g : outM.view.ty.Contents (Elt F))
    (hg : OutN T (liOf i (wOf m r)) (wOf m r) b 49 g) :
    RowDone i T m r ((rowMem off inb).view.write (Elt F) fd ((halfM (b * 896) inb').view.read (Elt F) g) Finset.univ) := by
  intro hgood pw hpw ph hph l hl
  rw [rowMem_read hoff fd g _ (by omega), ← Nat.add_assoc]
  exact hg hgood pw hpw ph hph (by omega) l hl

section

variable {T : tabM.view.ty.Contents (Elt F)} {m : metaM.view.ty.Contents (Elt F)} {R : SP F} {α : Type}

/-- The start of the copy of the half `b`, with an ROI's bins in it, to the result's row of the ROI. -/
theorem start_wp {r b o : ℕ} {off : Fin 3 → ℕ} {inb} {inb'} {sem : DmaSem sig} (ho : o = b * 896) (hoff : off = ![512 * (i 0).val + r, (i 1).val, 0])
    {hx} {hy} {hz} {k : PUnit → Prog (TpuEff nD τ sig (Elt F) Λ₀ (.scVector ((i 0).castLE hcore0) ((i 1).castLE hsub0))) α} {Q : α → SP F}
    (hK : iprop(flyP d i T m b sem r ∗ R) ⊢ wpT d i (k ⟨⟩) Q) :
    iprop(outP d i (halfSet b) T (liOf i (wOf m r)) (wOf m r) b 49 ∗ (∃ f, rowPt d i r f) ∗ semP d i sem ∗ R) ⊢ wpT d i
      (Prog.op (.enqueueDma (halfM o inb') (.here (rowMem off inb)) (.dma sem) hx hy hz) k) Q := by
  subst ho
  iintro ⟨⟨%g, %hg, Hg⟩, ⟨%fd, Hd⟩, Hv, HR⟩
  iapply (Transfers.wp_dmaLocal countersEmb 𝒱₀ (thr d i) none (src := halfM (b * 896) inb') (dst := rowMem off inb) (q := fullShare) (fs := g) (fd := fd)
    (Sd := rowSet i r) (default : HIx 1) amt rfl (View.dmaCredit_pos _ (by decide)) (rowMem_set hoff).subset) $$ [Hg Hd Hv]
  · isplitl [Hg]
    · rw [halfM_set rfl]; iexact Hg
    isplitl [Hd]; · iexact Hd
    iexact Hv
  iintro Hfl
  iapply hK
  isplitl [Hfl]
  · iapply (Transfers.Flight_mono countersEmb (thr d i) ?_) $$ Hfl
    rw [halfM_set rfl]
    iintro ⟨Hd, Hg⟩
    isplitl [Hd]
    · iexists _
      isplitr
      swap; · iexact Hd
      ipureintro
      exact rowDone_of hoff fd g hg
    · iexists g; iexact Hg
  · iexact HR

/-- What the tile owes through its run: what it owed, its own waits apart. -/
abbrev oweP (d : Dev nD) (i : grid0.Coords) (O : CellTallies nD τ sig (HIx 1)) (W : Waits sig (HIx 1)) : SP F :=
  iprop(Transfers.MayWaits (thr d i) (default : HIx 1) O ∗ ∃ W', ⌜∀ p ∈ W', p ∈ W ∨ p.2 = none⌝ ∗ owes (thr d i) O W')

variable {O : CellTallies nD τ sig (HIx 1)} {W : Waits sig (HIx 1)}

/-- A wait for a copy under way. -/
theorem wait_wp {κ' : Kind} {buf : Ref sig κ'} {s : Shape} {e : EltTy} {sem : DmaSem sig} {N : ℕ} {D : SP F} {hk}
    (hN : buf.dmaCredit s e = N)
    {k : PUnit → Prog (TpuEff nD τ sig (Elt F) Λ₀ (.scVector ((i 0).castLE hcore0) ((i 1).castLE hsub0))) α} {Q : α → SP F}
    (hK : iprop(D ∗ semP d i sem ∗ oweP d i O W ∗ R) ⊢ wpT d i (k ⟨⟩) Q) :
    iprop(Transfers.Flight countersEmb (thr d i) (.dma sem) (default : HIx 1) N D ∗ oweP d i O W ∗ R) ⊢ wpT d i
      (Prog.op (.waitDma sem buf s e hk) k) Q := by
  iintro ⟨Hfl, ⟨#Hmw, %W', %hW', HO⟩, HR⟩
  iapply (Transfers.wp_waitLocalOSized countersEmb 𝒱₀ (thr d i) none (default : HIx 1) hN) $$ [Hfl HO]
  · isplitl [Hfl]; · iexact Hfl
    isplitl [HO]; · iexact HO
    iapply (Transfers.MayWaits.elim (SemLoc.dma sem)) $$ Hmw
  iintro ⟨HD, Hs, HO⟩
  iapply hK
  isplitl [HD]; · iexact HD
  isplitl [Hs]; · iexact Hs
  isplitl [HO]
  · isplitr; · iexact Hmw
    iexists _; isplitr
    swap; · iexact HO
    ipureintro
    intro p hp
    rcases Finset.mem_insert.mp hp with hp | hp
    · exact .inr (hp ▸ rfl)
    · exact hW' p hp
  · iexact HR

end

end Cert.Proof.Roi

end
-- ==== Proof.Roi.Iter.lean ====
/-
  One iteration of the loop over the pairs of ROIs: the wait for a half's earlier copy, the meta words' loads, and the
  bounds of what the iteration names.
-/
module

public import proofs.«01_k».proof.Proof.Roi.Dma
public import Idealize.SL.BI.BigOpNat

@[expose] public section

noncomputable section

namespace Cert.Proof.Roi

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {i : grid0.Coords}

theorem t1_trips : k0_t1_loop.trips = 256 := by decide

theorem iv_t1 (t : Fin k0_t1_loop.trips) : (Scf.iv 0#32 1#32 t.val).toNat = t.val ∧ t.val < 256 := by
  have h : t.val < 256 := t.isLt.trans_eq t1_trips
  refine ⟨?_, h⟩
  show (0#32 + BitVec.ofNat 32 t.val * 1#32).toNat = _
  simp only [BitVec.toNat_add, BitVec.toNat_mul, BitVec.toNat_ofNat]
  omega

theorem cond1_iff : ∀ t : Fin k0_t1_loop.trips, k0_cond1 t = 1#1 ↔ 1 ≤ t.val := by decide +kernel
theorem cond16_iff : ∀ t : Fin k0_t1_loop.trips, k0_cond16 t = 1#1 ↔ 1 ≤ t.val := by decide +kernel
theorem off4_eq : ∀ t : Fin k0_t1_loop.trips, k0_off4 t 0 = 32 * (2 * t.val) := by decide +kernel
theorem off5_eq : ∀ t : Fin k0_t1_loop.trips, k0_off5 t 0 = 32 * (2 * t.val) + 16 := by decide +kernel
theorem off127_eq : ∀ t : Fin k0_t1_loop.trips, k0_off127 t 0 = 32 * (2 * t.val + 1) := by decide +kernel
theorem off128_eq : ∀ t : Fin k0_t1_loop.trips, k0_off128 t 0 = 32 * (2 * t.val + 1) + 16 := by decide +kernel

theorem rowOff3_eq (i : grid0.Coords) (t : Fin k0_t1_loop.trips) (b : ℕ) (hb : b < 2) :
    (![(BitVec.ofNat 32 (i 0).val * 512#32 + ((0#32 + BitVec.ofNat 32 t.val * 1#32) * 2#32 + BitVec.ofNat 32 b)).toNat, (BitVec.ofNat 32 (i 1).val).toNat, 0] : Fin 3 → ℕ)
      = ![512 * (i 0).val + (2 * t.val + b), (i 1).val, 0] := by
  have h0 : (i 0).val < 2 := (i 0).isLt
  have h1 : (i 1).val < 16 := (i 1).isLt
  have ht := (iv_t1 t).2
  have e0 : (BitVec.ofNat 32 (i 0).val * 512#32 + ((0#32 + BitVec.ofNat 32 t.val * 1#32) * 2#32 + BitVec.ofNat 32 b)).toNat = 512 * (i 0).val + (2 * t.val + b) := by
    simp only [BitVec.toNat_add, BitVec.toNat_mul, BitVec.toNat_ofNat]; omega
  have e1 : (BitVec.ofNat 32 (i 1).val).toNat = (i 1).val := by
    simp only [BitVec.toNat_ofNat]; omega
  rw [e0, e1]

theorem off125_eq (t : Fin k0_t1_loop.trips) : k0_off125 i t = ![512 * (i 0).val + (2 * t.val + 0), (i 1).val, 0] := rowOff3_eq i t 0 (by omega)
theorem off248_eq (t : Fin k0_t1_loop.trips) : k0_off248 i t = ![512 * (i 0).val + (2 * t.val + 1), (i 1).val, 0] := rowOff3_eq i t 1 (by omega)

/-! ## The state between iterations -/

section

variable {T : tabM.view.ty.Contents (Elt F)} {m : metaM.view.ty.Contents (Elt F)} {R : SP F} {α : Type}
  {O : CellTallies nD τ sig (HIx 1)} {W : Waits sig (HIx 1)}

abbrev metaP (d : Dev nD) (i : grid0.Coords) (m : metaM.view.ty.Contents (Elt F)) : SP F := metaM.view.loc (thr d i) ↦{fullShare} (m : Buf (Elt F) (metaM.view.loc (thr d i)))

/-- The half `b` before its turn in the iteration `t`: free, or its copy of the iteration before under way. -/
def bufP (d : Dev nD) (i : grid0.Coords) (T : tabM.view.ty.Contents (Elt F)) (m : metaM.view.ty.Contents (Elt F)) (b : ℕ) (sem : DmaSem sig) (t : ℕ) : SP F :=
  match t with
  | 0 => iprop(halfP d i b ∗ semP d i sem)
  | t + 1 => flyP d i T m b sem (2 * t + b)

/-- The first `n` rows of the tile's part of the result are written; the rows from `n` on are as they were. -/
abbrev doneN (d : Dev nD) (i : grid0.Coords) (T : tabM.view.ty.Contents (Elt F)) (m : metaM.view.ty.Contents (Elt F)) (n : ℕ) : SP F :=
  bigSep (Finset.range n) fun r => doneP d i T m r
abbrev restN (d : Dev nD) (i : grid0.Coords) (n : ℕ) : SP F := bigSep (Finset.Ico n 512) fun r => iprop(∃ f, rowPt (F := F) d i r f)

/-- How many rows are written when the half `b` has been waited for in the iteration `t`. -/
def cnt (b t : ℕ) : ℕ := match t with | 0 => 0 | t + 1 => 2 * t + b

/-- The wait at the head of a half's turn, and the rest of the turn. -/
theorem waitIf_wp {b : ℕ} {sem : DmaSem sig} (t : ℕ) {c : BitVec 1} (hc : c = 1#1 ↔ 1 ≤ t) {β : Type}
    {κ' : Kind} {buf : c = 1#1 → Ref sig κ'} {s : Shape} {e : EltTy} {hk : ∀ h, _ ∨ (buf h).HasMemref s e}
    (hN : ∀ h, (buf h).dmaCredit s e = amt) {jp : PT F i β} {kk : β → PT F i α} {Q : α → SP F}
    (hK : iprop(halfP d i b ∗ semP d i sem ∗ doneN d i T m (cnt (b + 1) t) ∗ oweP d i O W ∗ R) ⊢ wpT d i (jp >>= kk) Q) :
    iprop(bufP d i T m b sem t ∗ doneN d i T m (cnt b t) ∗ oweP d i O W ∗ R) ⊢ wpT d i
      ((if h : c = 1#1 then Prog.op (.waitDma sem (buf h) s e (hk h)) fun _ => jp else jp) >>= kk) Q := by
  split
  · next h =>
    obtain ⟨t, rfl⟩ : ∃ t', t = t' + 1 := ⟨t - 1, by have := hc.mp h; omega⟩
    refine (show _ ⊢ iprop(flyP d i T m b sem (2 * t + b) ∗ oweP d i O W ∗ doneN d i T m (2 * t + b) ∗ R) from ?_).trans (wait_wp (hN h) (.trans ?_ hK))
    · unfold bufP cnt
      iintro ⟨H1, H2, H3, H4⟩
      iframe
    · show _ ⊢ iprop(_ ∗ _ ∗ doneN d i T m (2 * t + b + 1) ∗ _)
      unfold doneN
      rw [bigSep_range_succ]
      iintro ⟨⟨H1, H2⟩, H3, H4, H5, H6⟩
      iframe
  · next h =>
    obtain rfl : t = 0 := by have := mt hc.mpr h; omega
    refine .trans ?_ hK
    unfold bufP cnt
    iintro ⟨⟨H1, H2⟩, H3, H4⟩
    iframe

/-- A load of sixteen meta words. -/
theorem loadM_wp {n : ℕ} {off : Fin 1 → ℕ} {inb : ∀ a, off a + S16.size a ≤ S16384.size a} {hl} (hoff : off 0 = n)
    {k : (S16.Idx → BitVec 32) → Prog (TpuEff nD τ sig (Elt F) Λ₀ (.scVector ((i 0).castLE hcore0) ((i 1).castLE hsub0))) α} {Q : α → SP F}
    (h : ∀ v : S16.Idx → BitVec 32, (∀ j < 16, shapeCast S16 v shapeCasts_S16_S16 (lane j) = mv m (n + j)) → iprop(metaP d i m ∗ R) ⊢ wpT d i (k v) Q) :
    iprop(metaP d i m ∗ R) ⊢ wpT d i (Prog.op (.load metaM (Rect.unit (s := S16384) off S16.size inb).toLoadRect hl) k) Q := by
  refine load_wp (Finset.subset_univ _) (h _ ?_)
  intro j hj
  rw [cast16]
  subst hoff
  have := ld_meta m inb (lane j)
  rw [at0_val _ _ _ (by exact hj)] at this
  exact this

/-- `rowMax` and `rowZero` with the rest of the ROI put into their branches. -/
abbrev rowMaxJ {α : Type} (ρ : ℕ) (v68 v72 v74 v76 v98 v100 : BitVec 32) (h : k0_cond2 v100 = 1#1 → (k0_t2_loop v72 v74 v76).OK)
    (h6 : k0_cond2 v100 = 1#1 → ∀ t (r : Fin 4), Inb (k0_off6 i v68 v72 v74 v76 v98 t (BitVec.ofNat 32 (16 * r.val))))
    (ok3 : k0_cond2 v100 = 1#1 → (k0_t3_loop v100).OK)
    (h7 : k0_cond2 v100 = 1#1 → ∀ t t3 (r : Fin 4), Inb (k0_off7 i v68 v72 v74 v76 v98 v100 t t3 (BitVec.ofNat 32 (16 * r.val))))
    (ok4 : k0_cond2 v100 = 1#1 → (k0_t4_loop v100).OK)
    (b4 : k0_cond2 v100 = 1#1 → Fin (k0_t2_loop v72 v74 v76).trips → Fin (k0_t4_loop v100).trips → V4 F → PT F i (V4 F))
    (h9 : k0_cond2 v100 = 1#1 → ∀ (t : Fin (k0_t2_loop v72 v74 v76).trips) (r : Fin 4), RInb (rowOff ρ t.val (BitVec.ofNat 32 (16 * r.val))))
    (ok5 : k0_cond2 v100 = 1#1 → (k0_t5_loop v72 v74 v76).OK)
    (b5 : k0_cond2 v100 = 1#1 → Fin (k0_t5_loop v72 v74 v76).trips → BitVec 32 → PT F i (BitVec 32)) (jp : PT F i α) : PT F i α :=
  if h2 : k0_cond2 v100 = 1#1 then do
    let x ← Scf.Loop.for (k0_t2_loop v72 v74 v76) (h h2) 0#32 fun t _ =>
      blk (F := F) ρ v68 v72 v74 v76 v98 v100 t (h6 h2 t) (ok3 h2) (h7 h2 t) (ok4 h2) (b4 h2 t) (h9 h2 t)
    let _ ← Scf.Loop.for (k0_t5_loop v72 v74 v76) (ok5 h2) x (b5 h2)
    jp
  else jp

abbrev rowZeroJ {α : Type} (ρ : ℕ) (v72 v74 v76 v100 : BitVec 32) (z : FVec F S16 .f32) (h : k0_cond3 v100 = 1#1 → (k0_t8_loop v72 v74 v76).OK)
    (h9 : k0_cond3 v100 = 1#1 → ∀ (t : Fin (k0_t8_loop v72 v74 v76).trips) (r : Fin 4), RInb (rowOff ρ t.val (BitVec.ofNat 32 (16 * r.val))))
    (ok5 : k0_cond3 v100 = 1#1 → (k0_t9_loop v72 v74 v76).OK)
    (b5 : k0_cond3 v100 = 1#1 → Fin (k0_t9_loop v72 v74 v76).trips → BitVec 32 → PT F i (BitVec 32)) (jp : PT F i α) : PT F i α :=
  if h3 : k0_cond3 v100 = 1#1 then do
    let x ← Scf.Loop.for (k0_t8_loop v72 v74 v76) (h h3) 0#32 fun t _ =>
      ldstR (rowOff ρ t.val 0#32) (h9 h3 t 0) z <|
      ldstR (rowOff ρ t.val 16#32) (h9 h3 t 1) z <|
      ldstR (rowOff ρ t.val 32#32) (h9 h3 t 2) z <|
      ldstR (rowOff ρ t.val 48#32) (h9 h3 t 3) z <|
      Prog.ret 0#32
    let _ ← Scf.Loop.for (k0_t9_loop v72 v74 v76) (ok5 h3) x (b5 h3)
    jp
  else jp

/-- A row where the bin has rows, and the rest of the ROI. -/
theorem rowMaxJ_wp {li : ℕ} {w : ℕ → BitVec 32} (ρ : ℕ) (hρ : ρ < 7) (hw : MetaOK i li w) {v68 v72 v74 v76 v98 v100 : BitVec 32}
    (h68 : v68 = w 31) (h72 : v72 = w 16) (h74 : v74 = w 22) (h76 : v76 = w 30) (h98 : v98 = w ρ) (h100 : v100 = w (8 + ρ))
    {h} {h6} {ok3} {h7} {ok4} {b4} {h9} {ok5} {b5} {β : Type} {jp : PT F i β} {kk : β → PT F i α} {Q : α → SP F}
    (hK : iprop(rowsMidP d i T li w ρ ∗ tabP d i T ∗ R) ⊢ wpT d i (jp >>= kk) Q) :
    iprop(rowsP d i T li w ρ ∗ tabP d i T ∗ R) ⊢ wpT d i (rowMaxJ (F := F) ρ v68 v72 v74 v76 v98 v100 h h6 ok3 h7 ok4 b4 h9 ok5 b5 jp >>= kk) Q := by
  refine (seq_wp (rowMax_wp (F := F) ρ hρ hw h68 h72 h74 h76 h98 h100 (h := h) (h6 := h6) (ok3 := ok3) (h7 := h7) (ok4 := ok4) (b4 := b4) (h9 := h9) (ok5 := ok5) (b5 := b5)) fun _ => hK).trans (Entails.of_eq ?_)
  unfold rowMax rowMaxJ
  split
  · simp only [bind_assoc, pure_bind]
  · rfl

/-- A row where the bin has no row, and the rest of the ROI. -/
theorem rowZeroJ_wp {li : ℕ} {w : ℕ → BitVec 32} (ρ : ℕ) (hρ : ρ < 7) (hw : MetaOK i li w) {v72 v74 v76 v100 : BitVec 32} {z : FVec F S16 .f32}
    (hz : ∀ l < 16, z (lane l) = fzero) (h72 : v72 = w 16) (h74 : v74 = w 22) (h76 : v76 = w 30) (h100 : v100 = w (8 + ρ))
    {h} {h9} {ok5} {b5} {β : Type} {jp : PT F i β} {kk : β → PT F i α} {Q : α → SP F}
    (hK : iprop(rowsP d i T li w (ρ + 1) ∗ tabP d i T ∗ R) ⊢ wpT d i (jp >>= kk) Q) :
    iprop(rowsMidP d i T li w ρ ∗ tabP d i T ∗ R) ⊢ wpT d i (rowZeroJ (F := F) ρ v72 v74 v76 v100 z h h9 ok5 b5 jp >>= kk) Q := by
  refine (seq_wp (rowZero_wp (F := F) ρ hρ hw hz h72 h74 h76 h100 (h := h) (h9 := h9) (ok5 := ok5) (b5 := b5)) fun _ => hK).trans (Entails.of_eq ?_)
  unfold rowZero rowZeroJ
  split
  · simp only [bind_assoc, pure_bind]
  · rfl

end

end Cert.Proof.Roi

end
-- ==== Proof.Roi.Rows.lean ====
/-
  The rows' steps with the printed loops' bodies named, for use against the whole program.
-/
module

public import proofs.«01_k».proof.Proof.Roi.Iter

@[expose] public section

noncomputable section

namespace Cert.Proof.Roi

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {i : grid0.Coords}
variable {T : tabM.view.ty.Contents (Elt F)} {m : metaM.view.ty.Contents (Elt F)} {R : SP F} {α : Type}
  {O : CellTallies nD τ sig (HIx 1)} {W : Waits sig (HIx 1)}

theorem rot4 {A B C D R : SP F} : iprop(A ∗ B ∗ C ∗ D ∗ R) ⊢ iprop(B ∗ C ∗ D ∗ A ∗ R) := by
  iintro ⟨HA, HB, HC, HD, HR⟩
  iframe

theorem MetaOK.rowOf {li : ℕ} {w : ℕ → BitVec 32} (h : MetaOK i li w) (p : ℕ) (hp : p < 7) {v68 v72 v74 v76 v98 v100 : BitVec 32}
    (h68 : v68 = w 31) (h72 : v72 = w 16) (h74 : v74 = w 22) (h76 : v76 = w 30) (h98 : v98 = w p) (h100 : v100 = w (8 + p)) :
    RowOK i li v68 v72 v74 v76 v98 v100 := by
  subst h68 h72 h74 h76 h98 h100
  exact h.row p hp

section
theorem row_ok3 {li : ℕ} {v68 v72 v74 v76 v98 v100 : BitVec 32} (h : RowOK i li v68 v72 v74 v76 v98 v100) (hc : k0_cond2 v100 = 1#1) : (k0_t3_loop v100).OK := by
  have hp := cond2_iff.mp hc
  have := pos_le h.h98 h.hhe hp
  exact unit_ok rfl lb1 (by rw [hl_trips hp]; omega)

variable {T : tabM.view.ty.Contents (Elt F)}

/-- A row where the bin has rows, and the rest of the ROI: the loop's body by a name, told to be the group's program. -/
theorem rowMaxB_wp {li : ℕ} {w : ℕ → BitVec 32} (ρ : ℕ) (hρ : ρ < 7) (hw : MetaOK i li w) {v68 v72 v74 v76 v98 v100 : BitVec 32}
    (h68 : v68 = w 31) (h72 : v72 = w 16) (h74 : v74 = w 22) (h76 : v76 = w 30) (h98 : v98 = w ρ) (h100 : v100 = w (8 + ρ))
    {h : k0_cond2 v100 = 1#1 → (k0_t2_loop v72 v74 v76).OK}
    {body : k0_cond2 v100 = 1#1 → Fin (k0_t2_loop v72 v74 v76).trips → BitVec 32 → PT F i (BitVec 32)}
    {ok5 : k0_cond2 v100 = 1#1 → (k0_t5_loop v72 v74 v76).OK}
    {b5 : k0_cond2 v100 = 1#1 → Fin (k0_t5_loop v72 v74 v76).trips → BitVec 32 → PT F i (BitVec 32)}
    {β : Type} {jp : PT F i β} {kk : β → PT F i α} {Q : α → SP F}
    (hb : ∀ h2 t, ∀ h6 ok3 h7 ok4 h9, ∃ b4, ∀ x, body h2 t x = blk (F := F) ρ v68 v72 v74 v76 v98 v100 t h6 ok3 h7 ok4 b4 h9)
    (hK : iprop(rowsMidP d i T li w ρ ∗ tabP d i T ∗ R) ⊢ wpT d i (jp >>= kk) Q) :
    iprop(rowsP d i T li w ρ ∗ tabP d i T ∗ R) ⊢ wpT d i ((if h2 : k0_cond2 v100 = 1#1 then
      (do let x ← Scf.Loop.for (k0_t2_loop v72 v74 v76) (h h2) 0#32 (body h2)
          let _ ← Scf.Loop.for (k0_t5_loop v72 v74 v76) (ok5 h2) x (b5 h2)
          jp) else jp) >>= kk) Q := by
  obtain ⟨a2, a6, a3, a7, a4, -, a9, -⟩ := rowChk ρ hρ (hw.rowOf ρ hρ h68 h72 h74 h76 h98 h100) (fun _ _ => rowOff 0 0 0#32) (fun _ _ => rowOff 0 0 0#32)
  have ok4' : k0_cond2 v100 = 1#1 → (k0_t4_loop v100).OK := fun _ => Scf.rem_ok 1#32 (Scalar.subi v100 1#32)
  have ok3' : k0_cond2 v100 = 1#1 → (k0_t3_loop v100).OK := row_ok3 (hw.rowOf ρ hρ h68 h72 h74 h76 h98 h100)
  choose b4 hb4 using fun h2 t => hb h2 t (a6 t h2) (ok3' h2) (fun t3 => a7 t t3 h2) (ok4' h2) (a9 t h2)
  have e : body = fun h2 t _ => blk (F := F) ρ v68 v72 v74 v76 v98 v100 t (a6 t h2) (ok3' h2) (fun t3 => a7 t t3 h2) (ok4' h2) (b4 h2 t) (a9 t h2) := by
    funext h2 t x; exact hb4 h2 t x
  subst e
  exact rowMaxJ_wp (F := F) ρ hρ hw h68 h72 h74 h76 h98 h100 (h := h) (h6 := fun h2 t => a6 t h2) (ok3 := fun h2 => ok3' h2) (h7 := fun h2 t t3 => a7 t t3 h2)
    (ok4 := fun h2 => ok4' h2) (b4 := b4) (h9 := fun h2 t => a9 t h2) (ok5 := ok5) (b5 := b5) hK

/-- Four stores of one vector into a row's group. -/
abbrev zBody (ρ : ℕ) (v72 v74 v76 : BitVec 32) (z : FVec F S16 .f32) (t : Fin (k0_t8_loop v72 v74 v76).trips)
    (h9 : ∀ r : Fin 4, RInb (rowOff ρ t.val (BitVec.ofNat 32 (16 * r.val)))) : PT F i (BitVec 32) :=
  ldstR (rowOff ρ t.val 0#32) (h9 0) z <|
  ldstR (rowOff ρ t.val 16#32) (h9 1) z <|
  ldstR (rowOff ρ t.val 32#32) (h9 2) z <|
  ldstR (rowOff ρ t.val 48#32) (h9 3) z <|
  Prog.ret 0#32

/-- A row where the bin has no row, and the rest of the ROI: the loop's body by a name, told to be the group's stores. -/
theorem rowZeroB_wp {li : ℕ} {w : ℕ → BitVec 32} (ρ : ℕ) (hρ : ρ < 7) (hw : MetaOK i li w) {v72 v74 v76 v100 : BitVec 32} {z : FVec F S16 .f32}
    (hz : ∀ l < 16, z (lane l) = fzero) (h72 : v72 = w 16) (h74 : v74 = w 22) (h76 : v76 = w 30) (h100 : v100 = w (8 + ρ))
    {h : k0_cond3 v100 = 1#1 → (k0_t8_loop v72 v74 v76).OK}
    {body : k0_cond3 v100 = 1#1 → Fin (k0_t8_loop v72 v74 v76).trips → BitVec 32 → PT F i (BitVec 32)}
    {ok5 : k0_cond3 v100 = 1#1 → (k0_t9_loop v72 v74 v76).OK}
    {b5 : k0_cond3 v100 = 1#1 → Fin (k0_t9_loop v72 v74 v76).trips → BitVec 32 → PT F i (BitVec 32)}
    {β : Type} {jp : PT F i β} {kk : β → PT F i α} {Q : α → SP F}
    (hb : ∀ (h3 : k0_cond3 v100 = 1#1) (t : Fin (k0_t8_loop v72 v74 v76).trips) x, ∀ h9, body h3 t x = zBody (F := F) ρ v72 v74 v76 z t h9)
    (hK : iprop(rowsP d i T li w (ρ + 1) ∗ tabP d i T ∗ R) ⊢ wpT d i (jp >>= kk) Q) :
    iprop(rowsMidP d i T li w ρ ∗ tabP d i T ∗ R) ⊢ wpT d i ((if h3 : k0_cond3 v100 = 1#1 then
      (do let x ← Scf.Loop.for (k0_t8_loop v72 v74 v76) (h h3) 0#32 (body h3)
          let _ ← Scf.Loop.for (k0_t9_loop v72 v74 v76) (ok5 h3) x (b5 h3)
          jp) else jp) >>= kk) Q := by
  have a9 : ∀ (_ : k0_cond3 v100 = 1#1) (t : Fin (k0_t8_loop v72 v74 v76).trips) (r : Fin 4), RInb (rowOff ρ t.val (BitVec.ofNat 32 (16 * r.val))) := fun h3 t r =>
    (rowChk ρ hρ (hw.rowOf ρ hρ rfl h72 h74 h76 rfl h100) (fun _ _ => rowOff 0 0 0#32) (fun _ _ => rowOff 0 0 0#32)).2.2.2.2.2.2.2.2.2.2.2.2.2.2.2.1 t h3 r
  have e : body = fun h3 t _ => zBody (F := F) ρ v72 v74 v76 z t (a9 h3 t) := by
    funext h3 t x; exact hb h3 t x (a9 h3 t)
  subst e
  exact rowZeroJ_wp (F := F) ρ hρ hw hz h72 h74 h76 h100 (h := h) (h9 := a9) (ok5 := ok5) (b5 := b5) hK
end

end Cert.Proof.Roi

end
-- ==== Proof.Roi.Body.lean ====
/-
  The tile's body: one pair of ROIs, the loop over the pairs, and the copies in before it and out after it.
-/
module

public import proofs.«01_k».proof.Proof.Roi.Rows

@[expose] public section

noncomputable section

namespace Cert.Proof.Roi

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {i : grid0.Coords}
variable {T : tabM.view.ty.Contents (Elt F)} {m : metaM.view.ty.Contents (Elt F)} {R : SP F} {α : Type}
  {O : CellTallies nD τ sig (HIx 1)} {W : Waits sig (HIx 1)}

/-- The row buffer with the strip of its first `n` rows at the lowest value. -/
abbrev stripP (d : Dev nD) (i : grid0.Coords) (n : ℕ) : SP F :=
  iprop(∃ f, ⌜∀ p < n, p < 7 → ∀ c, 848 ≤ c → c < 864 → rv (F := F) f p c = fneg⌝ ∗ rowP d i f)

theorem strip_rows {li : ℕ} {w : ℕ → BitVec 32} : stripP (F := F) d i 7 ⊢ rowsP d i T li w 0 := by
  iintro ⟨%f, %hf, Hf⟩
  iexists f
  isplitr
  · ipureintro
    exact ⟨fun p hp => hf p hp hp, fun p hp => absurd hp (Nat.not_lt_zero _)⟩
  · iexact Hf

theorem rows_strip {li n : ℕ} {w : ℕ → BitVec 32} : rowsP (F := F) d i T li w n ⊢ stripP d i 7 := by
  iintro ⟨%f, %hf, Hf⟩
  iexists f
  isplitr
  · ipureintro
    exact fun p hp _ => hf.strip p hp
  · iexact Hf

theorem pure_wp {β : Type} {P : SP F} {a : β} {kk : β → PT F i α} {Q : α → SP F} (h : P ⊢ wpT d i (kk a) Q) : P ⊢ wpT d i (pure a >>= kk) Q := h

theorem ex_elim {ι : Type} {φ : ι → Prop} {A : ι → SP F} {Q : SP F} (h : ∀ f, φ f → iprop(A f ∗ R) ⊢ Q) : iprop((∃ f, ⌜φ f⌝ ∗ A f) ∗ R) ⊢ Q := by
  iintro ⟨⟨%f, %hf, Hf⟩, HR⟩
  iapply (h f hf)
  isplitl [Hf] <;> iassumption

theorem ex_intro {ι : Type} {φ : ι → Prop} {A : ι → SP F} (f : ι) (hf : φ f) : iprop(A f ∗ R) ⊢ iprop((∃ f, ⌜φ f⌝ ∗ A f) ∗ R) := by
  iintro ⟨Hf, HR⟩
  isplitl [Hf]
  · iexists f
    isplitr
    · ipureintro; exact hf
    · iexact Hf
  · iexact HR

/-- A load of the row buffer, while its strip is being filled. -/
theorem stripL_wp {n : ℕ} {r : LoadRect S7x880} {hl : rowM.view.LoadsAt r} {k : (r.shape.Idx → F .f32) → PT F i α} {Q : α → SP F}
    (h : ∀ v, iprop(stripP d i n ∗ R) ⊢ wpT d i (k v) Q) : iprop(stripP d i n ∗ R) ⊢ wpT d i (Prog.op (.load rowM r hl) k) Q :=
  ex_elim fun f hf => load_wp (Finset.subset_univ _) ((ex_intro (φ := fun f => ∀ p < n, p < 7 → ∀ c, 848 ≤ c → c < 864 → rv (F := F) f p c = fneg) (A := fun f => rowP d i f) f hf).trans (h _))

/-- The store of a row's strip. -/
theorem stripS_wp (n : ℕ) (hn : n < 7) {v : FVec F S16 .f32} (hv : ∀ l < 16, v (lane l) = fneg)
    {inb : ∀ a, (![n, 848] : Fin 2 → ℕ) a + S1x16.size a ≤ S7x880.size a} {hx} {hm} {k : PUnit → PT F i α} {Q : α → SP F}
    (h : iprop(stripP d i (n + 1) ∗ R) ⊢ wpT d i (k ⟨⟩) Q) :
    iprop(stripP d i n ∗ R) ⊢ wpT d i (Prog.op (.store rowM (Rect.unit (s := S7x880) ![n, 848] S1x16.size inb) (shapeCast S1x16 v shapeCasts_S16_S1x16) Finset.univ hx hm) k) Q := by
  refine ex_elim fun f hf => store_wp (Finset.subset_univ _) ((ex_intro (φ := fun f => ∀ p < n + 1, p < 7 → ∀ c, 848 ≤ c → c < 864 → rv (F := F) f p c = fneg) (A := fun f => rowP d i f) _ ?_).trans h)
  intro p hp hp7 c hc hc'
  rw [st_row f inb v p c hp7 (by omega)]
  show (if p = n ∧ 848 ≤ c ∧ c < 848 + 16 then v (lane (c - 848)) else _) = _
  split
  · exact hv _ (by omega)
  · exact hf p (by omega) hp7 c hc hc'

theorem half_out {b li : ℕ} {w : ℕ → BitVec 32} : halfP (F := F) d i b ⊢ outP d i (halfSet b) T li w b 0 := by
  iintro ⟨%g, Hg⟩
  iexists g
  isplitr
  · ipureintro
    exact fun _ _ _ _ _ h => absurd h (Nat.not_lt_zero _)
  · iexact Hg

theorem rest_two {t : ℕ} (ht : t < 256) : restN (F := F) d i (2 * t) ⊢
    iprop((∃ f, rowPt d i (2 * t) f) ∗ (∃ f, rowPt d i (2 * t + 1) f) ∗ restN d i (2 * (t + 1))) := by
  unfold restN
  rw [bigSep_Ico_succ_bot (by omega), bigSep_Ico_succ_bot (by omega)]
  exact Entails.rfl

theorem cnt_two (t : ℕ) : cnt 2 t = cnt 0 (t + 1) := by cases t <;> rfl

/-- What holds between the iterations of the loop over the pairs. -/
abbrev loopP (d : Dev nD) (i : grid0.Coords) (T : tabM.view.ty.Contents (Elt F)) (m : metaM.view.ty.Contents (Elt F))
    (O : CellTallies nD τ sig (HIx 1)) (W : Waits sig (HIx 1)) (t : ℕ) : SP F :=
  iprop(stripP d i 7 ∗ tabP d i T ∗ metaP d i m ∗ bufP d i T m 0 cc0_scratch4.sem t ∗ bufP d i T m 1 cc0_scratch5.sem t ∗ oweP d i O W ∗
    doneN d i T m (cnt 0 t) ∗ restN d i (2 * t))

set_option maxHeartbeats 16000000 in
theorem part163_wp {v2 v3 : FVec F S16 .f32} (hz : ∀ l < 16, v2 (lane l) = fzero) (hv3 : ∀ l < 16, v3 (lane l) = fneg)
    (hM : ∀ r < 512, MetaOK i (liOf i (wOf m r)) (wOf m r)) {kk : PUnit → PT F i α} {Q : α → SP F}
    (hK : iprop(stripP d i 7 ∗ tabP d i T ∗ metaP d i m ∗ halfP d i 0 ∗ semP d i cc0_scratch4.sem ∗ bufP d i T m 1 cc0_scratch5.sem 256 ∗ oweP d i O W ∗
      doneN d i T m 511 ∗ R) ⊢ wpT d i (kk ⟨⟩) Q) :
    iprop(stripP d i 3 ∗ tabP d i T ∗ metaP d i m ∗ bufP d i T m 0 cc0_scratch4.sem 0 ∗ bufP d i T m 1 cc0_scratch5.sem 0 ∗ oweP d i O W ∗ doneN d i T m (cnt 0 0) ∗ restN d i (2 * 0) ∗ R) ⊢
    wpT d i (k0_part163 (F := F) i featM (Memref.isWhole_whole _) metaH (Memref.isWhole_whole _) outH (Memref.isWhole_whole _) tabM (Memref.isWhole_whole _) metaM (Memref.isWhole_whole _) rowM (Memref.isWhole_whole _) outM (Memref.isWhole_whole _) cc0_scratch4 cc0_scratch5 cc0_scoped0 cc0_scoped1 (BitVec.ofNat 32 (i 0).val) v2 v3 >>= kk) Q := by
  refine stripS_wp 3 (by omega) hv3 ?_
  refine stripL_wp fun _ => stripS_wp 4 (by omega) hv3 ?_
  refine stripL_wp fun _ => stripS_wp 5 (by omega) hv3 ?_
  refine stripL_wp fun _ => stripS_wp 6 (by omega) hv3 ?_
  refine assoc_wp ?_
  refine pure_wp ?_
  refine assoc_wp ?_
  refine bind_wp ?_
  refine for_wp (fun t _ => iprop(loopP d i T m O W t ∗ R)) ?_ (fun t _ => ?_) fun _ => ?_
  · unfold loopP
    iintro ⟨H1, H2, H3, H4, H5, H6, H7, H8, H9⟩
    iframe
  · have ht := (iv_t1 t).2
    refine (show _ ⊢ iprop(bufP d i T m 0 cc0_scratch4.sem t.val ∗ doneN d i T m (cnt 0 t.val) ∗ oweP d i O W ∗ metaP d i m ∗ stripP d i 7 ∗ tabP d i T ∗
      (∃ f, rowPt d i (2 * t.val) f) ∗ bufP d i T m 1 cc0_scratch5.sem t.val ∗ (∃ f, rowPt d i (2 * t.val + 1) f) ∗ restN d i (2 * (t.val + 1)) ∗ R) from ?_).trans ?_
    · refine (sep_mono_left (sep_mono_right (sep_mono_right (sep_mono_right (sep_mono_right (sep_mono_right (sep_mono_right (sep_mono_right (rest_two ht))))))))).trans ?_
      iintro ⟨⟨H1, H2, H3, H4, H5, H6, H7, H8, H9, H10⟩, H11⟩
      iframe
    have hw := hM (2 * t.val) (by omega)
    refine assoc_wp ?_
    refine waitIf_wp t.val (cond1_iff t) (fun _ => rfl) ?_
    refine (show _ ⊢ iprop(metaP d i m ∗ rowsP d i T (liOf i (wOf m (2 * t.val))) (wOf m (2 * t.val)) 0 ∗ tabP d i T ∗ outP d i (halfSet 0) T (liOf i (wOf m (2 * t.val))) (wOf m (2 * t.val)) 0 0 ∗ semP d i cc0_scratch4.sem ∗
      doneN d i T m (cnt 1 t.val) ∗ oweP d i O W ∗ (∃ f, rowPt d i (2 * t.val) f) ∗ bufP d i T m 1 cc0_scratch5.sem t.val ∗ (∃ f, rowPt d i (2 * t.val + 1) f) ∗ restN d i (2 * (t.val + 1)) ∗ R) from ?_).trans ?_
    · refine (BIClass.sep_mono (half_out (T := T) (li := liOf i (wOf m (2 * t.val))) (w := wOf m (2 * t.val))) (sep_mono_right (sep_mono_right (sep_mono_right (sep_mono_right (sep_mono_left (strip_rows (T := T) (li := liOf i (wOf m (2 * t.val))) (w := wOf m (2 * t.val))))))))).trans ?_
      iintro ⟨H1, H2, H3, H4, H5, H6, H7, H8, H9⟩; iframe
    refine loadM_wp (off4_eq t) fun x1 h1 => ?_
    refine loadM_wp (off5_eq t) fun x2 h2 => ?_
    refine rot4.trans ?_
    have h68 : extractAt ![0] (extractStridedSlice S1 ![15] (shapeCast S16 x2 shapeCasts_S16_S16) slices_S16_o15_S1) inpos_S1_p0 = wOf m (2 * t.val) 31 := (ext_eq _ 15 _).trans (h2 15 (by omega))
    have h72 : extractAt ![0] (extractStridedSlice S1 ![0] (shapeCast S16 x2 shapeCasts_S16_S16) slices_S16_o0_S1) inpos_S1_p0 = wOf m (2 * t.val) 16 := (ext_eq _ 0 _).trans (h2 0 (by omega))
    have h74 : extractAt ![0] (extractStridedSlice S1 ![6] (shapeCast S16 x2 shapeCasts_S16_S16) slices_S16_o6_S1) inpos_S1_p0 = wOf m (2 * t.val) 22 := (ext_eq _ 6 _).trans (h2 6 (by omega))
    have h76 : extractAt ![0] (extractStridedSlice S1 ![14] (shapeCast S16 x2 shapeCasts_S16_S16) slices_S16_o14_S1) inpos_S1_p0 = wOf m (2 * t.val) 30 := (ext_eq _ 14 _).trans (h2 14 (by omega))
    refine assume_wp (rowChk 0 (by omega) (hw.rowOf 0 (by omega) h68 h72 h74 h76 ((ext_eq _ 0 slices_S16_o0_S1).trans (h1 0 (by omega))) ((ext_eq _ 8 slices_S16_o8_S1).trans (h1 8 (by omega)))) _ _) ?_
    refine assoc_wp ?_
    refine rowMaxB_wp (F := F) 0 (by omega) hw h68 h72 h74 h76 ((ext_eq _ 0 slices_S16_o0_S1).trans (h1 0 (by omega))) ((ext_eq _ 8 slices_S16_o8_S1).trans (h1 8 (by omega))) ?_ ?_
    · exact fun _ _ _ _ _ _ _ => ⟨_, fun _ => rfl⟩
    refine rowZeroB_wp (F := F) 0 (by omega) hw hz h72 h74 h76 ((ext_eq _ 8 slices_S16_o8_S1).trans (h1 8 (by omega))) ?_ ?_
    · exact fun _ _ _ _ => rfl
    refine assume_wp (rowChk 1 (by omega) (hw.rowOf 1 (by omega) h68 h72 h74 h76 ((ext_eq _ 1 slices_S16_o1_S1).trans (h1 1 (by omega))) ((ext_eq _ 9 slices_S16_o9_S1).trans (h1 9 (by omega)))) _ _) ?_
    refine rowMaxB_wp (F := F) 1 (by omega) hw h68 h72 h74 h76 ((ext_eq _ 1 slices_S16_o1_S1).trans (h1 1 (by omega))) ((ext_eq _ 9 slices_S16_o9_S1).trans (h1 9 (by omega))) ?_ ?_
    · exact fun _ _ _ _ _ _ _ => ⟨_, fun _ => rfl⟩
    refine rowZeroB_wp (F := F) 1 (by omega) hw hz h72 h74 h76 ((ext_eq _ 9 slices_S16_o9_S1).trans (h1 9 (by omega))) ?_ ?_
    · exact fun _ _ _ _ => rfl
    refine assume_wp (rowChk 2 (by omega) (hw.rowOf 2 (by omega) h68 h72 h74 h76 ((ext_eq _ 2 slices_S16_o2_S1).trans (h1 2 (by omega))) ((ext_eq _ 10 slices_S16_o10_S1).trans (h1 10 (by omega)))) _ _) ?_
    refine pure_wp ?_
    refine assoc_wp ?_
    refine rowMaxB_wp (F := F) 2 (by omega) hw h68 h72 h74 h76 ((ext_eq _ 2 slices_S16_o2_S1).trans (h1 2 (by omega))) ((ext_eq _ 10 slices_S16_o10_S1).trans (h1 10 (by omega))) ?_ ?_
    · exact fun _ _ _ _ _ _ _ => ⟨_, fun _ => rfl⟩
    refine rowZeroB_wp (F := F) 2 (by omega) hw hz h72 h74 h76 ((ext_eq _ 10 slices_S16_o10_S1).trans (h1 10 (by omega))) ?_ ?_
    · exact fun _ _ _ _ => rfl
    refine assume_wp (rowChk 3 (by omega) (hw.rowOf 3 (by omega) h68 h72 h74 h76 ((ext_eq _ 3 slices_S16_o3_S1).trans (h1 3 (by omega))) ((ext_eq _ 11 slices_S16_o11_S1).trans (h1 11 (by omega)))) _ _) ?_
    refine rowMaxB_wp (F := F) 3 (by omega) hw h68 h72 h74 h76 ((ext_eq _ 3 slices_S16_o3_S1).trans (h1 3 (by omega))) ((ext_eq _ 11 slices_S16_o11_S1).trans (h1 11 (by omega))) ?_ ?_
    · exact fun _ _ _ _ _ _ _ => ⟨_, fun _ => rfl⟩
    refine rowZeroB_wp (F := F) 3 (by omega) hw hz h72 h74 h76 ((ext_eq _ 11 slices_S16_o11_S1).trans (h1 11 (by omega))) ?_ ?_
    · exact fun _ _ _ _ => rfl
    refine assume_wp (rowChk 4 (by omega) (hw.rowOf 4 (by omega) h68 h72 h74 h76 ((ext_eq _ 4 slices_S16_o4_S1).trans (h1 4 (by omega))) ((ext_eq _ 12 slices_S16_o12_S1).trans (h1 12 (by omega)))) _ _) ?_
    refine rowMaxB_wp (F := F) 4 (by omega) hw h68 h72 h74 h76 ((ext_eq _ 4 slices_S16_o4_S1).trans (h1 4 (by omega))) ((ext_eq _ 12 slices_S16_o12_S1).trans (h1 12 (by omega))) ?_ ?_
    · exact fun _ _ _ _ _ _ _ => ⟨_, fun _ => rfl⟩
    refine assoc_wp ?_
    refine rowZeroB_wp (F := F) 4 (by omega) hw hz h72 h74 h76 ((ext_eq _ 12 slices_S16_o12_S1).trans (h1 12 (by omega))) ?_ ?_
    · exact fun _ _ _ _ => rfl
    refine assume_wp (rowChk 5 (by omega) (hw.rowOf 5 (by omega) h68 h72 h74 h76 ((ext_eq _ 5 slices_S16_o5_S1).trans (h1 5 (by omega))) ((ext_eq _ 13 slices_S16_o13_S1).trans (h1 13 (by omega)))) _ _) ?_
    refine rowMaxB_wp (F := F) 5 (by omega) hw h68 h72 h74 h76 ((ext_eq _ 5 slices_S16_o5_S1).trans (h1 5 (by omega))) ((ext_eq _ 13 slices_S16_o13_S1).trans (h1 13 (by omega))) ?_ ?_
    · exact fun _ _ _ _ _ _ _ => ⟨_, fun _ => rfl⟩
    refine rowZeroB_wp (F := F) 5 (by omega) hw hz h72 h74 h76 ((ext_eq _ 13 slices_S16_o13_S1).trans (h1 13 (by omega))) ?_ ?_
    · exact fun _ _ _ _ => rfl
    refine assume_wp (rowChk 6 (by omega) (hw.rowOf 6 (by omega) h68 h72 h74 h76 ((ext_eq _ 6 slices_S16_o6_S1).trans (h1 6 (by omega))) ((ext_eq _ 14 slices_S16_o14_S1).trans (h1 14 (by omega)))) _ _) ?_
    refine rowMaxB_wp (F := F) 6 (by omega) hw h68 h72 h74 h76 ((ext_eq _ 6 slices_S16_o6_S1).trans (h1 6 (by omega))) ((ext_eq _ 14 slices_S16_o14_S1).trans (h1 14 (by omega))) ?_ ?_
    · exact fun _ _ _ _ _ _ _ => ⟨_, fun _ => rfl⟩
    refine rowZeroB_wp (F := F) 6 (by omega) hw hz h72 h74 h76 ((ext_eq _ 14 slices_S16_o14_S1).trans (h1 14 (by omega))) ?_ ?_
    · exact fun _ _ _ _ => rfl
    refine (show _ ⊢ iprop(rowsP d i T (liOf i (wOf m (2 * t.val))) (wOf m (2 * t.val)) 7 ∗ outP d i (halfSet 0) T (liOf i (wOf m (2 * t.val))) (wOf m (2 * t.val)) 0 (0 * 7) ∗ tabP d i T ∗ semP d i cc0_scratch4.sem ∗
      doneN d i T m (cnt 1 t.val) ∗ oweP d i O W ∗ (∃ f, rowPt d i (2 * t.val) f) ∗ metaP d i m ∗ bufP d i T m 1 cc0_scratch5.sem t.val ∗ (∃ f, rowPt d i (2 * t.val + 1) f) ∗ restN d i (2 * (t.val + 1)) ∗ R) from ?_).trans ?_
    · iintro ⟨H1, H2, H3, H4, H5, H6, H7, H8, H9⟩; iframe
    refine assume_wp (cellChk hw 0 (by omega) h72 ((ext_eq _ 0 slices_S16_o0_S1).trans (h2 0 (by omega))) ((ext_eq _ 8 slices_S16_o8_S1).trans (h2 8 (by omega)))) ?_
    have hc := (cellChk hw 0 (by omega) h72 ((ext_eq _ 0 slices_S16_o0_S1).trans (h2 0 (by omega))) ((ext_eq _ 8 slices_S16_o8_S1).trans (h2 8 (by omega))))
    refine pw_wp halfSet_half (by omega) hw 0 (by omega) h72 ((ext_eq _ 0 slices_S16_o0_S1).trans (h2 0 (by omega))) ((ext_eq _ 8 slices_S16_o8_S1).trans (h2 8 (by omega))) (floor_eq ((ext_eq _ 8 slices_S16_o8_S1).trans (h2 8 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine assume_wp (cellChk hw 1 (by omega) h72 ((ext_eq _ 1 slices_S16_o1_S1).trans (h2 1 (by omega))) ((ext_eq _ 9 slices_S16_o9_S1).trans (h2 9 (by omega)))) ?_
    have hc := (cellChk hw 1 (by omega) h72 ((ext_eq _ 1 slices_S16_o1_S1).trans (h2 1 (by omega))) ((ext_eq _ 9 slices_S16_o9_S1).trans (h2 9 (by omega))))
    refine pw_wp halfSet_half (by omega) hw 1 (by omega) h72 ((ext_eq _ 1 slices_S16_o1_S1).trans (h2 1 (by omega))) ((ext_eq _ 9 slices_S16_o9_S1).trans (h2 9 (by omega))) (floor_eq ((ext_eq _ 9 slices_S16_o9_S1).trans (h2 9 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine assume_wp (cellChk hw 2 (by omega) h72 ((ext_eq _ 2 slices_S16_o2_S1).trans (h2 2 (by omega))) ((ext_eq _ 10 slices_S16_o10_S1).trans (h2 10 (by omega)))) ?_
    have hc := (cellChk hw 2 (by omega) h72 ((ext_eq _ 2 slices_S16_o2_S1).trans (h2 2 (by omega))) ((ext_eq _ 10 slices_S16_o10_S1).trans (h2 10 (by omega))))
    refine pw_wp halfSet_half (by omega) hw 2 (by omega) h72 ((ext_eq _ 2 slices_S16_o2_S1).trans (h2 2 (by omega))) ((ext_eq _ 10 slices_S16_o10_S1).trans (h2 10 (by omega))) (floor_eq ((ext_eq _ 10 slices_S16_o10_S1).trans (h2 10 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine assume_wp (cellChk hw 3 (by omega) h72 ((ext_eq _ 3 slices_S16_o3_S1).trans (h2 3 (by omega))) ((ext_eq _ 11 slices_S16_o11_S1).trans (h2 11 (by omega)))) ?_
    have hc := (cellChk hw 3 (by omega) h72 ((ext_eq _ 3 slices_S16_o3_S1).trans (h2 3 (by omega))) ((ext_eq _ 11 slices_S16_o11_S1).trans (h2 11 (by omega))))
    refine pw_wp halfSet_half (by omega) hw 3 (by omega) h72 ((ext_eq _ 3 slices_S16_o3_S1).trans (h2 3 (by omega))) ((ext_eq _ 11 slices_S16_o11_S1).trans (h2 11 (by omega))) (floor_eq ((ext_eq _ 11 slices_S16_o11_S1).trans (h2 11 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine assume_wp (cellChk hw 4 (by omega) h72 ((ext_eq _ 4 slices_S16_o4_S1).trans (h2 4 (by omega))) ((ext_eq _ 12 slices_S16_o12_S1).trans (h2 12 (by omega)))) ?_
    have hc := (cellChk hw 4 (by omega) h72 ((ext_eq _ 4 slices_S16_o4_S1).trans (h2 4 (by omega))) ((ext_eq _ 12 slices_S16_o12_S1).trans (h2 12 (by omega))))
    refine pw_wp halfSet_half (by omega) hw 4 (by omega) h72 ((ext_eq _ 4 slices_S16_o4_S1).trans (h2 4 (by omega))) ((ext_eq _ 12 slices_S16_o12_S1).trans (h2 12 (by omega))) (floor_eq ((ext_eq _ 12 slices_S16_o12_S1).trans (h2 12 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine assume_wp (cellChk hw 5 (by omega) h72 ((ext_eq _ 5 slices_S16_o5_S1).trans (h2 5 (by omega))) ((ext_eq _ 13 slices_S16_o13_S1).trans (h2 13 (by omega)))) ?_
    have hc := (cellChk hw 5 (by omega) h72 ((ext_eq _ 5 slices_S16_o5_S1).trans (h2 5 (by omega))) ((ext_eq _ 13 slices_S16_o13_S1).trans (h2 13 (by omega))))
    refine pw_wp halfSet_half (by omega) hw 5 (by omega) h72 ((ext_eq _ 5 slices_S16_o5_S1).trans (h2 5 (by omega))) ((ext_eq _ 13 slices_S16_o13_S1).trans (h2 13 (by omega))) (floor_eq ((ext_eq _ 13 slices_S16_o13_S1).trans (h2 13 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine assume_wp (cellChk hw 6 (by omega) h72 ((ext_eq _ 6 slices_S16_o6_S1).trans (h2 6 (by omega))) ((ext_eq _ 14 slices_S16_o14_S1).trans (h2 14 (by omega)))) ?_
    have hc := (cellChk hw 6 (by omega) h72 ((ext_eq _ 6 slices_S16_o6_S1).trans (h2 6 (by omega))) ((ext_eq _ 14 slices_S16_o14_S1).trans (h2 14 (by omega))))
    refine pw_wp halfSet_half (by omega) hw 6 (by omega) h72 ((ext_eq _ 6 slices_S16_o6_S1).trans (h2 6 (by omega))) ((ext_eq _ 14 slices_S16_o14_S1).trans (h2 14 (by omega))) (floor_eq ((ext_eq _ 14 slices_S16_o14_S1).trans (h2 14 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine (show _ ⊢ iprop(outP d i (halfSet 0) T (liOf i (wOf m (2 * t.val))) (wOf m (2 * t.val)) 0 49 ∗ (∃ f, rowPt d i (2 * t.val) f) ∗ semP d i cc0_scratch4.sem ∗
      stripP d i 7 ∗ tabP d i T ∗ doneN d i T m (cnt 1 t.val) ∗ oweP d i O W ∗ metaP d i m ∗ bufP d i T m 1 cc0_scratch5.sem t.val ∗ (∃ f, rowPt d i (2 * t.val + 1) f) ∗ restN d i (2 * (t.val + 1)) ∗ R) from ?_).trans ?_
    · refine (sep_mono_left rows_strip).trans ?_
      iintro ⟨H1, H2, H3, H4, H5, H6, H7, H8, H9⟩; iframe
    refine start_wp (r := 2 * t.val) (b := 0) rfl (off125_eq t) ?_
    refine (show _ ⊢ iprop(bufP d i T m 1 cc0_scratch5.sem t.val ∗ doneN d i T m (cnt 1 t.val) ∗ oweP d i O W ∗ metaP d i m ∗ stripP d i 7 ∗ tabP d i T ∗
      (∃ f, rowPt d i (2 * t.val + 1) f) ∗ flyP d i T m 0 cc0_scratch4.sem (2 * t.val) ∗ restN d i (2 * (t.val + 1)) ∗ R) from ?_).trans ?_
    · iintro ⟨H1, H2, H3, H4, H5, H6, H7, H8, H9, H10⟩; iframe
    have hw := hM (2 * t.val + 1) (by omega)
    refine assoc_wp ?_
    refine waitIf_wp t.val (cond16_iff t) (fun _ => rfl) ?_
    refine (show _ ⊢ iprop(metaP d i m ∗ rowsP d i T (liOf i (wOf m (2 * t.val + 1))) (wOf m (2 * t.val + 1)) 0 ∗ tabP d i T ∗ outP d i (halfSet 1) T (liOf i (wOf m (2 * t.val + 1))) (wOf m (2 * t.val + 1)) 1 0 ∗ semP d i cc0_scratch5.sem ∗
      doneN d i T m (cnt 2 t.val) ∗ oweP d i O W ∗ (∃ f, rowPt d i (2 * t.val + 1) f) ∗ flyP d i T m 0 cc0_scratch4.sem (2 * t.val) ∗ restN d i (2 * (t.val + 1)) ∗ R) from ?_).trans ?_
    · refine (BIClass.sep_mono (half_out (T := T) (li := liOf i (wOf m (2 * t.val + 1))) (w := wOf m (2 * t.val + 1))) (sep_mono_right (sep_mono_right (sep_mono_right (sep_mono_right (sep_mono_left (strip_rows (T := T) (li := liOf i (wOf m (2 * t.val + 1))) (w := wOf m (2 * t.val + 1))))))))).trans ?_
      iintro ⟨H1, H2, H3, H4, H5, H6, H7, H8, H9⟩; iframe
    refine loadM_wp (off127_eq t) fun x1 h1 => ?_
    refine loadM_wp (off128_eq t) fun x2 h2 => ?_
    refine rot4.trans ?_
    have h68 : extractAt ![0] (extractStridedSlice S1 ![15] (shapeCast S16 x2 shapeCasts_S16_S16) slices_S16_o15_S1) inpos_S1_p0 = wOf m (2 * t.val + 1) 31 := (ext_eq _ 15 _).trans (h2 15 (by omega))
    have h72 : extractAt ![0] (extractStridedSlice S1 ![0] (shapeCast S16 x2 shapeCasts_S16_S16) slices_S16_o0_S1) inpos_S1_p0 = wOf m (2 * t.val + 1) 16 := (ext_eq _ 0 _).trans (h2 0 (by omega))
    have h74 : extractAt ![0] (extractStridedSlice S1 ![6] (shapeCast S16 x2 shapeCasts_S16_S16) slices_S16_o6_S1) inpos_S1_p0 = wOf m (2 * t.val + 1) 22 := (ext_eq _ 6 _).trans (h2 6 (by omega))
    have h76 : extractAt ![0] (extractStridedSlice S1 ![14] (shapeCast S16 x2 shapeCasts_S16_S16) slices_S16_o14_S1) inpos_S1_p0 = wOf m (2 * t.val + 1) 30 := (ext_eq _ 14 _).trans (h2 14 (by omega))
    refine assume_wp (rowChk 0 (by omega) (hw.rowOf 0 (by omega) h68 h72 h74 h76 ((ext_eq _ 0 slices_S16_o0_S1).trans (h1 0 (by omega))) ((ext_eq _ 8 slices_S16_o8_S1).trans (h1 8 (by omega)))) _ _) ?_
    refine assoc_wp ?_
    refine rowMaxB_wp (F := F) 0 (by omega) hw h68 h72 h74 h76 ((ext_eq _ 0 slices_S16_o0_S1).trans (h1 0 (by omega))) ((ext_eq _ 8 slices_S16_o8_S1).trans (h1 8 (by omega))) ?_ ?_
    · exact fun _ _ _ _ _ _ _ => ⟨_, fun _ => rfl⟩
    refine assoc_wp ?_
    refine rowZeroB_wp (F := F) 0 (by omega) hw hz h72 h74 h76 ((ext_eq _ 8 slices_S16_o8_S1).trans (h1 8 (by omega))) ?_ ?_
    · exact fun _ _ _ _ => rfl
    refine assume_wp (rowChk 1 (by omega) (hw.rowOf 1 (by omega) h68 h72 h74 h76 ((ext_eq _ 1 slices_S16_o1_S1).trans (h1 1 (by omega))) ((ext_eq _ 9 slices_S16_o9_S1).trans (h1 9 (by omega)))) _ _) ?_
    refine rowMaxB_wp (F := F) 1 (by omega) hw h68 h72 h74 h76 ((ext_eq _ 1 slices_S16_o1_S1).trans (h1 1 (by omega))) ((ext_eq _ 9 slices_S16_o9_S1).trans (h1 9 (by omega))) ?_ ?_
    · exact fun _ _ _ _ _ _ _ => ⟨_, fun _ => rfl⟩
    refine rowZeroB_wp (F := F) 1 (by omega) hw hz h72 h74 h76 ((ext_eq _ 9 slices_S16_o9_S1).trans (h1 9 (by omega))) ?_ ?_
    · exact fun _ _ _ _ => rfl
    refine assume_wp (rowChk 2 (by omega) (hw.rowOf 2 (by omega) h68 h72 h74 h76 ((ext_eq _ 2 slices_S16_o2_S1).trans (h1 2 (by omega))) ((ext_eq _ 10 slices_S16_o10_S1).trans (h1 10 (by omega)))) _ _) ?_
    refine rowMaxB_wp (F := F) 2 (by omega) hw h68 h72 h74 h76 ((ext_eq _ 2 slices_S16_o2_S1).trans (h1 2 (by omega))) ((ext_eq _ 10 slices_S16_o10_S1).trans (h1 10 (by omega))) ?_ ?_
    · exact fun _ _ _ _ _ _ _ => ⟨_, fun _ => rfl⟩
    refine rowZeroB_wp (F := F) 2 (by omega) hw hz h72 h74 h76 ((ext_eq _ 10 slices_S16_o10_S1).trans (h1 10 (by omega))) ?_ ?_
    · exact fun _ _ _ _ => rfl
    refine assume_wp (rowChk 3 (by omega) (hw.rowOf 3 (by omega) h68 h72 h74 h76 ((ext_eq _ 3 slices_S16_o3_S1).trans (h1 3 (by omega))) ((ext_eq _ 11 slices_S16_o11_S1).trans (h1 11 (by omega)))) _ _) ?_
    refine pure_wp ?_
    refine assoc_wp ?_
    refine rowMaxB_wp (F := F) 3 (by omega) hw h68 h72 h74 h76 ((ext_eq _ 3 slices_S16_o3_S1).trans (h1 3 (by omega))) ((ext_eq _ 11 slices_S16_o11_S1).trans (h1 11 (by omega))) ?_ ?_
    · exact fun _ _ _ _ _ _ _ => ⟨_, fun _ => rfl⟩
    refine rowZeroB_wp (F := F) 3 (by omega) hw hz h72 h74 h76 ((ext_eq _ 11 slices_S16_o11_S1).trans (h1 11 (by omega))) ?_ ?_
    · exact fun _ _ _ _ => rfl
    refine assume_wp (rowChk 4 (by omega) (hw.rowOf 4 (by omega) h68 h72 h74 h76 ((ext_eq _ 4 slices_S16_o4_S1).trans (h1 4 (by omega))) ((ext_eq _ 12 slices_S16_o12_S1).trans (h1 12 (by omega)))) _ _) ?_
    refine rowMaxB_wp (F := F) 4 (by omega) hw h68 h72 h74 h76 ((ext_eq _ 4 slices_S16_o4_S1).trans (h1 4 (by omega))) ((ext_eq _ 12 slices_S16_o12_S1).trans (h1 12 (by omega))) ?_ ?_
    · exact fun _ _ _ _ _ _ _ => ⟨_, fun _ => rfl⟩
    refine rowZeroB_wp (F := F) 4 (by omega) hw hz h72 h74 h76 ((ext_eq _ 12 slices_S16_o12_S1).trans (h1 12 (by omega))) ?_ ?_
    · exact fun _ _ _ _ => rfl
    refine assume_wp (rowChk 5 (by omega) (hw.rowOf 5 (by omega) h68 h72 h74 h76 ((ext_eq _ 5 slices_S16_o5_S1).trans (h1 5 (by omega))) ((ext_eq _ 13 slices_S16_o13_S1).trans (h1 13 (by omega)))) _ _) ?_
    refine pure_wp ?_
    refine assoc_wp ?_
    refine rowMaxB_wp (F := F) 5 (by omega) hw h68 h72 h74 h76 ((ext_eq _ 5 slices_S16_o5_S1).trans (h1 5 (by omega))) ((ext_eq _ 13 slices_S16_o13_S1).trans (h1 13 (by omega))) ?_ ?_
    · exact fun _ _ _ _ _ _ _ => ⟨_, fun _ => rfl⟩
    refine rowZeroB_wp (F := F) 5 (by omega) hw hz h72 h74 h76 ((ext_eq _ 13 slices_S16_o13_S1).trans (h1 13 (by omega))) ?_ ?_
    · exact fun _ _ _ _ => rfl
    refine assume_wp (rowChk 6 (by omega) (hw.rowOf 6 (by omega) h68 h72 h74 h76 ((ext_eq _ 6 slices_S16_o6_S1).trans (h1 6 (by omega))) ((ext_eq _ 14 slices_S16_o14_S1).trans (h1 14 (by omega)))) _ _) ?_
    refine rowMaxB_wp (F := F) 6 (by omega) hw h68 h72 h74 h76 ((ext_eq _ 6 slices_S16_o6_S1).trans (h1 6 (by omega))) ((ext_eq _ 14 slices_S16_o14_S1).trans (h1 14 (by omega))) ?_ ?_
    · exact fun _ _ _ _ _ _ _ => ⟨_, fun _ => rfl⟩
    refine rowZeroB_wp (F := F) 6 (by omega) hw hz h72 h74 h76 ((ext_eq _ 14 slices_S16_o14_S1).trans (h1 14 (by omega))) ?_ ?_
    · exact fun _ _ _ _ => rfl
    refine (show _ ⊢ iprop(rowsP d i T (liOf i (wOf m (2 * t.val + 1))) (wOf m (2 * t.val + 1)) 7 ∗ outP d i (halfSet 1) T (liOf i (wOf m (2 * t.val + 1))) (wOf m (2 * t.val + 1)) 1 (0 * 7) ∗ tabP d i T ∗ semP d i cc0_scratch5.sem ∗
      doneN d i T m (cnt 2 t.val) ∗ oweP d i O W ∗ (∃ f, rowPt d i (2 * t.val + 1) f) ∗ metaP d i m ∗ flyP d i T m 0 cc0_scratch4.sem (2 * t.val) ∗ restN d i (2 * (t.val + 1)) ∗ R) from ?_).trans ?_
    · iintro ⟨H1, H2, H3, H4, H5, H6, H7, H8, H9⟩; iframe
    refine assume_wp (cellChk hw 0 (by omega) h72 ((ext_eq _ 0 slices_S16_o0_S1).trans (h2 0 (by omega))) ((ext_eq _ 8 slices_S16_o8_S1).trans (h2 8 (by omega)))) ?_
    have hc := (cellChk hw 0 (by omega) h72 ((ext_eq _ 0 slices_S16_o0_S1).trans (h2 0 (by omega))) ((ext_eq _ 8 slices_S16_o8_S1).trans (h2 8 (by omega))))
    refine pw_wp halfSet_half (by omega) hw 0 (by omega) h72 ((ext_eq _ 0 slices_S16_o0_S1).trans (h2 0 (by omega))) ((ext_eq _ 8 slices_S16_o8_S1).trans (h2 8 (by omega))) (floor_eq ((ext_eq _ 8 slices_S16_o8_S1).trans (h2 8 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine assume_wp (cellChk hw 1 (by omega) h72 ((ext_eq _ 1 slices_S16_o1_S1).trans (h2 1 (by omega))) ((ext_eq _ 9 slices_S16_o9_S1).trans (h2 9 (by omega)))) ?_
    have hc := (cellChk hw 1 (by omega) h72 ((ext_eq _ 1 slices_S16_o1_S1).trans (h2 1 (by omega))) ((ext_eq _ 9 slices_S16_o9_S1).trans (h2 9 (by omega))))
    refine pw_wp halfSet_half (by omega) hw 1 (by omega) h72 ((ext_eq _ 1 slices_S16_o1_S1).trans (h2 1 (by omega))) ((ext_eq _ 9 slices_S16_o9_S1).trans (h2 9 (by omega))) (floor_eq ((ext_eq _ 9 slices_S16_o9_S1).trans (h2 9 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine assume_wp (cellChk hw 2 (by omega) h72 ((ext_eq _ 2 slices_S16_o2_S1).trans (h2 2 (by omega))) ((ext_eq _ 10 slices_S16_o10_S1).trans (h2 10 (by omega)))) ?_
    have hc := (cellChk hw 2 (by omega) h72 ((ext_eq _ 2 slices_S16_o2_S1).trans (h2 2 (by omega))) ((ext_eq _ 10 slices_S16_o10_S1).trans (h2 10 (by omega))))
    refine pw_wp halfSet_half (by omega) hw 2 (by omega) h72 ((ext_eq _ 2 slices_S16_o2_S1).trans (h2 2 (by omega))) ((ext_eq _ 10 slices_S16_o10_S1).trans (h2 10 (by omega))) (floor_eq ((ext_eq _ 10 slices_S16_o10_S1).trans (h2 10 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine assume_wp (cellChk hw 3 (by omega) h72 ((ext_eq _ 3 slices_S16_o3_S1).trans (h2 3 (by omega))) ((ext_eq _ 11 slices_S16_o11_S1).trans (h2 11 (by omega)))) ?_
    have hc := (cellChk hw 3 (by omega) h72 ((ext_eq _ 3 slices_S16_o3_S1).trans (h2 3 (by omega))) ((ext_eq _ 11 slices_S16_o11_S1).trans (h2 11 (by omega))))
    refine pw_wp halfSet_half (by omega) hw 3 (by omega) h72 ((ext_eq _ 3 slices_S16_o3_S1).trans (h2 3 (by omega))) ((ext_eq _ 11 slices_S16_o11_S1).trans (h2 11 (by omega))) (floor_eq ((ext_eq _ 11 slices_S16_o11_S1).trans (h2 11 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine assume_wp (cellChk hw 4 (by omega) h72 ((ext_eq _ 4 slices_S16_o4_S1).trans (h2 4 (by omega))) ((ext_eq _ 12 slices_S16_o12_S1).trans (h2 12 (by omega)))) ?_
    have hc := (cellChk hw 4 (by omega) h72 ((ext_eq _ 4 slices_S16_o4_S1).trans (h2 4 (by omega))) ((ext_eq _ 12 slices_S16_o12_S1).trans (h2 12 (by omega))))
    refine pw_wp halfSet_half (by omega) hw 4 (by omega) h72 ((ext_eq _ 4 slices_S16_o4_S1).trans (h2 4 (by omega))) ((ext_eq _ 12 slices_S16_o12_S1).trans (h2 12 (by omega))) (floor_eq ((ext_eq _ 12 slices_S16_o12_S1).trans (h2 12 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine assume_wp (cellChk hw 5 (by omega) h72 ((ext_eq _ 5 slices_S16_o5_S1).trans (h2 5 (by omega))) ((ext_eq _ 13 slices_S16_o13_S1).trans (h2 13 (by omega)))) ?_
    have hc := (cellChk hw 5 (by omega) h72 ((ext_eq _ 5 slices_S16_o5_S1).trans (h2 5 (by omega))) ((ext_eq _ 13 slices_S16_o13_S1).trans (h2 13 (by omega))))
    refine pw_wp halfSet_half (by omega) hw 5 (by omega) h72 ((ext_eq _ 5 slices_S16_o5_S1).trans (h2 5 (by omega))) ((ext_eq _ 13 slices_S16_o13_S1).trans (h2 13 (by omega))) (floor_eq ((ext_eq _ 13 slices_S16_o13_S1).trans (h2 13 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine assume_wp (cellChk hw 6 (by omega) h72 ((ext_eq _ 6 slices_S16_o6_S1).trans (h2 6 (by omega))) ((ext_eq _ 14 slices_S16_o14_S1).trans (h2 14 (by omega)))) ?_
    have hc := (cellChk hw 6 (by omega) h72 ((ext_eq _ 6 slices_S16_o6_S1).trans (h2 6 (by omega))) ((ext_eq _ 14 slices_S16_o14_S1).trans (h2 14 (by omega))))
    refine pw_wp halfSet_half (by omega) hw 6 (by omega) h72 ((ext_eq _ 6 slices_S16_o6_S1).trans (h2 6 (by omega))) ((ext_eq _ 14 slices_S16_o14_S1).trans (h2 14 (by omega))) (floor_eq ((ext_eq _ 14 slices_S16_o14_S1).trans (h2 14 (by omega)))) (i0 := hc.1) (i1 := hc.2.1) (i2 := hc.2.2.1) (i3 := hc.2.2.2.1) (i4 := hc.2.2.2.2.1) (i5 := hc.2.2.2.2.2.1) (i6 := hc.2.2.2.2.2.2) (by omega) ?_
    refine (show _ ⊢ iprop(outP d i (halfSet 1) T (liOf i (wOf m (2 * t.val + 1))) (wOf m (2 * t.val + 1)) 1 49 ∗ (∃ f, rowPt d i (2 * t.val + 1) f) ∗ semP d i cc0_scratch5.sem ∗
      stripP d i 7 ∗ tabP d i T ∗ doneN d i T m (cnt 2 t.val) ∗ oweP d i O W ∗ metaP d i m ∗ flyP d i T m 0 cc0_scratch4.sem (2 * t.val) ∗ restN d i (2 * (t.val + 1)) ∗ R) from ?_).trans ?_
    · refine (sep_mono_left rows_strip).trans ?_
      iintro ⟨H1, H2, H3, H4, H5, H6, H7, H8, H9⟩; iframe
    refine start_wp (r := 2 * t.val + 1) (b := 1) rfl (off248_eq t) ?_
    refine ret_wp ?_
    show _ ⊢ iprop((stripP d i 7 ∗ tabP d i T ∗ metaP d i m ∗ flyP d i T m 0 cc0_scratch4.sem (2 * t.val) ∗ flyP d i T m 1 cc0_scratch5.sem (2 * t.val + 1) ∗ oweP d i O W ∗
      doneN d i T m (cnt 0 (t.val + 1)) ∗ restN d i (2 * (t.val + 1))) ∗ R)
    rw [← cnt_two]
    iintro ⟨H1, H2, H3, H4, H5, H6, H7, H8, H9⟩; iframe

  · rw [t1_trips]
    refine (show _ ⊢ iprop(flyP d i T m 0 cc0_scratch4.sem 510 ∗ oweP d i O W ∗ doneN d i T m 510 ∗ stripP d i 7 ∗ tabP d i T ∗ metaP d i m ∗
      bufP d i T m 1 cc0_scratch5.sem 256 ∗ R) from ?_).trans ?_
    · show iprop((stripP d i 7 ∗ tabP d i T ∗ metaP d i m ∗ flyP d i T m 0 cc0_scratch4.sem 510 ∗ bufP d i T m 1 cc0_scratch5.sem 256 ∗ oweP d i O W ∗
        doneN d i T m 510 ∗ restN d i 512) ∗ R) ⊢ _
      iintro ⟨⟨H1, H2, H3, H4, H5, H6, H7, H8⟩, H9⟩
      iframe
    refine wait_wp rfl (.trans ?_ hK)
    rw [show doneN (F := F) d i T m 511 = iprop(doneP d i T m 510 ∗ doneN d i T m 510) from bigSep_range_succ ..]
    iintro ⟨⟨H1, H2⟩, H3, H4, H5, H6, H7, H8, H9, H10⟩
    iframe

end Cert.Proof.Roi

end
-- ==== Proof.Roi.Tile.lean ====
/-
  One tile's whole run: the copies of its channels' feature words and of its ROIs' meta words, the strip, the loop and the
  last wait; and what the tile leaves of the result, from what it was handed.
-/
module

public import proofs.«01_k».proof.Proof.Roi.Body

@[expose] public section

noncomputable section

namespace Cert.Proof.Roi

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {i : grid0.Coords}
variable {T : tabM.view.ty.Contents (Elt F)} {m : metaM.view.ty.Contents (Elt F)} {R : SP F} {α : Type}
  {O : CellTallies nD τ sig (HIx 1)} {W : Waits sig (HIx 1)}

/-! ## What the tile reads -/

theorem posFeat : ∀ a : Fin S16x160000.rank, 0 < S16x160000.size a := by decide
theorem posMeta : ∀ a : Fin S32768.rank, 0 < S32768.size a := by decide

/-- Word `b` of the feature words of the channel group `a`; word `n` of the meta words. -/
def fvw (f : featM.view.ty.Contents (Elt F)) (a b : ℕ) : F .f32 := featM.view.read (Elt F) f (at0 posFeat ![a, b])
def mvw (f : metaH.view.ty.Contents (Elt F)) (n : ℕ) : BitVec 32 := metaH.view.read (Elt F) f (at0 posMeta ![n])

/-- The tile's table holds its channel group's words of its SparseCore's two images; its meta buffer its ROIs' words. -/
def TabIs (i : grid0.Coords) (fv : featM.view.ty.Contents (Elt F)) (T : tabM.view.ty.Contents (Elt F)) : Prop :=
  ∀ n < 80000, tv T n = fvw fv (i 1).val (80000 * (i 0).val + n)
def MetaIs (i : grid0.Coords) (fm : metaH.view.ty.Contents (Elt F)) (m : metaM.view.ty.Contents (Elt F)) : Prop :=
  ∀ n < 16384, mv m n = mvw fm (16384 * (i 0).val + n)

theorem off1_eq : k0_off1 i = ![(i 1).val, 80000 * (i 0).val] := by
  have h0 : (i 0).val < 2 := (i 0).isLt
  have h1 : (i 1).val < 16 := (i 1).isLt
  show ![(BitVec.ofNat 32 (i 1).val).toNat, (BitVec.ofNat 32 (i 0).val * 80000#32).toNat] = _
  have e0 : (BitVec.ofNat 32 (i 0).val * 80000#32).toNat = 80000 * (i 0).val := by
    simp only [BitVec.toNat_mul, BitVec.toNat_ofNat]; omega
  have e1 : (BitVec.ofNat 32 (i 1).val).toNat = (i 1).val := by
    simp only [BitVec.toNat_ofNat]; omega
  rw [e0, e1]

theorem off2_eq : k0_off2 i = ![16384 * (i 0).val] := by
  have h0 : (i 0).val < 2 := (i 0).isLt
  show ![(BitVec.ofNat 32 (i 0).val * 16384#32).toNat] = _
  have e0 : (BitVec.ofNat 32 (i 0).val * 16384#32).toNat = 16384 * (i 0).val := by
    simp only [BitVec.toNat_mul, BitVec.toNat_ofNat]; omega
  rw [e0]

abbrev fSrc (off : Fin 2 → ℕ) (inb : ∀ a, off a + S1x80000.size a ≤ S16x160000.size a) : Memref sig .scVector .hbm S80000 .f32 :=
  (featM.slice (Rect.unit (s := S16x160000) off S1x80000.size inb) (fun _ => rfl)).squeeze S80000 squeezes_S1x80000_S80000
abbrev fDst (inb : ∀ a, (![0] : Fin 1 → ℕ) a + S80000.size a ≤ S80896.size a) : Memref sig .scVector .vmem S80000 .f32 :=
  tabM.slice (Rect.unit (s := S80896) ![0] S80000.size inb) (fun _ => rfl)
abbrev mSrc (off : Fin 1 → ℕ) (inb : ∀ a, off a + S16384.size a ≤ S32768.size a) : Memref sig .scVector .hbm S16384 .i32 :=
  metaH.slice (Rect.unit (s := S32768) off S16384.size inb) (fun _ => rfl)

theorem pos80000 : ∀ a : Fin S80000.rank, 0 < S80000.size a := by decide

theorem tab_is {off : Fin 2 → ℕ} {inb} {inb'} (hoff : off = ![(i 1).val, 80000 * (i 0).val]) (fv : featM.view.ty.Contents (Elt F)) (fd : tabM.view.ty.Contents (Elt F)) :
    TabIs i fv ((fDst inb').view.write (Elt F) fd ((fSrc off inb).view.read (Elt F) fv) Finset.univ) := by
  subst hoff
  intro n hn
  have e : ∀ f : tabM.view.ty.Contents (Elt F), tv f n = (fDst inb').view.read (Elt F) f (at0 pos80000 ![n]) := by
    intro f
    show tabM.view.read (Elt F) f _ = tabM.view.read (Elt F) f _
    refine congrArg _ (at0_eq _ _ _ ?_)
    intro a
    match a with
    | 0 =>
      show 0 + 1 * (n % 80000) = n
      rw [Nat.mod_eq_of_lt hn]; omega
  rw [e, View.read_write_univ]
  rw [show (fSrc ![(i 1).val, 80000 * (i 0).val] inb).view.read (Elt F) fv = _ from
    Memref.read_squeeze_slice featM _ (fun _ => rfl) _ (show S1x80000.ShapeCasts S80000 by decide) fv]
  have h0 : (i 0).val < 2 := (i 0).isLt
  refine .trans (shapeCast_apply _ _ _ (at0 (s := S1x80000) (by decide) ![0, n]) ?_) ?_
  · rw [Shape.rowMajor_val_two, Shape.rowMajor_val_one, at0_val _ _ _ (by decide : (0 : ℕ) < 1), at0_val _ _ _ (by exact hn), at0_val _ _ _ (by exact hn)]
    show 0 * _ + n = n
    omega
  · rw [View.readAt_apply, fvw]
    refine congrArg _ (at0_eq _ _ _ ?_).symm
    intro a
    match a with
    | 0 => show (i 1).val + 1 * 0 = _; rfl
    | 1 => show 80000 * (i 0).val + 1 * (n % 80000) = 80000 * (i 0).val + n; rw [Nat.mod_eq_of_lt hn, Nat.one_mul]

theorem meta_is {off : Fin 1 → ℕ} {inb} (hoff : off = ![16384 * (i 0).val]) (fm : metaH.view.ty.Contents (Elt F)) (fd : metaM.view.ty.Contents (Elt F)) :
    MetaIs i fm (metaM.view.write (Elt F) fd ((mSrc off inb).view.read (Elt F) fm) Finset.univ) := by
  subst hoff
  intro n hn
  rw [mv, View.read_write_univ]
  show metaH.view.read (Elt F) fm _ = metaH.view.read (Elt F) fm _
  refine congrArg _ (at0_eq _ _ _ ?_).symm
  intro a
  match a with
  | 0 =>
    show 16384 * (i 0).val + 1 * (n % 16384) = 16384 * (i 0).val + n
    rw [Nat.mod_eq_of_lt hn, Nat.one_mul]

/-! ## The two copies in -/

abbrev featP (d : Dev nD) (i : grid0.Coords) (q : PosShare TreeShare) (fv : featM.view.ty.Contents (Elt F)) : SP F :=
  featM.view.loc (thr d i) ↦{q} (fv : Buf (Elt F) (featM.view.loc (thr d i)))
abbrev mwP (d : Dev nD) (i : grid0.Coords) (q : PosShare TreeShare) (fm : metaH.view.ty.Contents (Elt F)) : SP F :=
  metaH.view.loc (thr d i) ↦{q} (fm : Buf (Elt F) (metaH.view.loc (thr d i)))

/-- The amounts the two copies are counted by. -/
abbrev amtF : ℕ := (fDst (by decide)).view.dmaCredit
abbrev amtM : ℕ := metaM.view.dmaCredit

abbrev tabAny (d : Dev nD) (i : grid0.Coords) (fv : featM.view.ty.Contents (Elt F)) : SP F := iprop(∃ T, ⌜TabIs i fv T⌝ ∗ tabP d i T)
abbrev metaAny (d : Dev nD) (i : grid0.Coords) (fm : metaH.view.ty.Contents (Elt F)) : SP F := iprop(∃ m, ⌜MetaIs i fm m⌝ ∗ metaP d i m)

theorem startF_wp {q : PosShare TreeShare} {fv : featM.view.ty.Contents (Elt F)} {off : Fin 2 → ℕ} {inb} {inb'} {sem : DmaSem sig}
    (hoff : off = ![(i 1).val, 80000 * (i 0).val]) {hx} {hy} {hz} {k : PUnit → PT F i α} {Q : α → SP F}
    (hK : iprop(Transfers.Flight countersEmb (thr d i) (.dma sem) (default : HIx 1) amtF (tabAny d i fv) ∗ R) ⊢ wpT d i (k ⟨⟩) Q) :
    iprop(featP d i q fv ∗ (∃ T, tabP d i T) ∗ semP d i sem ∗ R) ⊢ wpT d i
      (Prog.op (.enqueueDma (fSrc off inb) (.here (fDst inb')) (.dma sem) hx hy hz) k) Q := by
  iintro ⟨Hs, ⟨%fd, Hd⟩, Hv, HR⟩
  ihave Hs' := (pointsTo_split_subset (q := q) (f := (fv : Buf (Elt F) (featM.view.loc (thr d i)))) (S := Finset.univ) (Finset.subset_univ (fSrc off inb).view.set)).1 $$ Hs
  icases Hs' with ⟨Hs, -⟩
  iapply (Transfers.wp_dmaLocal countersEmb 𝒱₀ (thr d i) none (src := fSrc off inb) (dst := fDst inb') (q := q) (fs := fv) (fd := fd)
    (Sd := Finset.univ) (default : HIx 1) amtF rfl (View.dmaCredit_pos _ (by decide)) (Finset.subset_univ _)) $$ [Hs Hd Hv]
  · isplitl [Hs]; · iexact Hs
    isplitl [Hd]; · iexact Hd
    iexact Hv
  iintro Hfl
  iapply hK
  isplitl [Hfl]
  · iapply (Transfers.Flight_mono countersEmb (thr d i) ?_) $$ Hfl
    iintro ⟨Hd, -⟩
    iexists _
    isplitr
    swap; · iexact Hd
    ipureintro
    exact tab_is hoff fv fd
  · iexact HR

theorem startM_wp {q : PosShare TreeShare} {fm : metaH.view.ty.Contents (Elt F)} {off : Fin 1 → ℕ} {inb} {sem : DmaSem sig}
    (hoff : off = ![16384 * (i 0).val]) {hx} {hy} {hz} {k : PUnit → PT F i α} {Q : α → SP F}
    (hK : iprop(Transfers.Flight countersEmb (thr d i) (.dma sem) (default : HIx 1) amtM (metaAny d i fm) ∗ R) ⊢ wpT d i (k ⟨⟩) Q) :
    iprop(mwP d i q fm ∗ (∃ m, metaP d i m) ∗ semP d i sem ∗ R) ⊢ wpT d i
      (Prog.op (.enqueueDma (mSrc off inb) (.here metaM) (.dma sem) hx hy hz) k) Q := by
  iintro ⟨Hs, ⟨%fd, Hd⟩, Hv, HR⟩
  ihave Hs' := (pointsTo_split_subset (q := q) (f := (fm : Buf (Elt F) (metaH.view.loc (thr d i)))) (S := Finset.univ) (Finset.subset_univ (mSrc off inb).view.set)).1 $$ Hs
  icases Hs' with ⟨Hs, -⟩
  iapply (Transfers.wp_dmaLocal countersEmb 𝒱₀ (thr d i) none (src := mSrc off inb) (dst := metaM) (q := q) (fs := fm) (fd := fd)
    (Sd := Finset.univ) (default : HIx 1) amtM rfl (View.dmaCredit_pos _ (by decide)) (Finset.subset_univ _)) $$ [Hs Hd Hv]
  · isplitl [Hs]; · iexact Hs
    isplitl [Hd]; · iexact Hd
    iexact Hv
  iintro Hfl
  iapply hK
  isplitl [Hfl]
  · iapply (Transfers.Flight_mono countersEmb (thr d i) ?_) $$ Hfl
    iintro ⟨Hd, -⟩
    iexists _
    isplitr
    swap; · iexact Hd
    ipureintro
    exact meta_is hoff fm fd
  · iexact HR

end Cert.Proof.Roi

end
-- ==== Proof.Roi.TileRun.lean ====
/-
  The tile's program as a whole.
-/
module

public import proofs.«01_k».proof.Proof.Roi.Tile

@[expose] public section

noncomputable section

namespace Cert.Proof.Roi

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {i : grid0.Coords}
variable {T : tabM.view.ty.Contents (Elt F)} {m : metaM.view.ty.Contents (Elt F)} {R : SP F} {α : Type}
  {O : CellTallies nD τ sig (HIx 1)} {W : Waits sig (HIx 1)}

/-! ## The output buffer's halves -/

theorem halves_disjoint : ∀ a ∈ Finset.range 2, ∀ b ∈ Finset.range 2, a ≠ b → Disjoint (halfSet a) (halfSet b) := by
  intro a _ b _ hab
  rw [Finset.disjoint_left]
  intro x hx hy
  have h1 := (Finset.mem_filter.mp hx).2
  have h2 := (Finset.mem_filter.mp hy).2
  omega

theorem halves_cover : (Finset.range 2).biUnion halfSet = Finset.univ := by
  ext x
  simp only [Finset.mem_biUnion, Finset.mem_range, Finset.mem_univ, iff_true]
  have hx : (x 0).val < 1792 := (x 0).isLt
  by_cases h : (x 0).val < 896
  · exact ⟨0, by omega, Finset.mem_filter.mpr ⟨Finset.mem_univ _, by omega, by omega⟩⟩
  · exact ⟨1, by omega, Finset.mem_filter.mpr ⟨Finset.mem_univ _, by omega, by omega⟩⟩

abbrev outAny (d : Dev nD) (i : grid0.Coords) : SP F := iprop(∃ g : Buf (Elt F) (outM.view.loc (thr d i)), outM.view.loc (thr d i) ↦{fullShare} g)

theorem two_range (Φ : ℕ → SP F) : bigSep (Finset.range 2) Φ = iprop(Φ 1 ∗ Φ 0 ∗ emp) := by
  rw [bigSep_range_succ, bigSep_range_succ, Finset.range_zero, bigSep_empty]; rfl

theorem out_split : outAny (F := F) d i ⊢ iprop(halfP d i 0 ∗ halfP d i 1) := by
  iintro ⟨%g, H⟩
  ihave H' := (Entails.of_eq (show (outM.view.loc (thr d i) ↦{fullShare} g : SP F) = bigSep (Finset.range 2) fun b => outM.view.loc (thr d i) ↦[halfSet b]{fullShare} g by
    rw [← pointsTo_biUnion (Finset.range 2) (ℓ := outM.view.loc (thr d i)) halfSet halves_disjoint, halves_cover]; try rfl)) $$ H
  ihave H'' := (Entails.of_eq (two_range (F := F) fun b => outM.view.loc (thr d i) ↦[halfSet b]{fullShare} g)) $$ H'
  icases H'' with ⟨H1, H0, -⟩
  isplitl [H0]
  · iexists g; iexact H0
  · iexists g; iexact H1

theorem halves_union : halfSet 0 ∪ halfSet 1 = Finset.univ := by
  rw [← halves_cover, Finset.range_add_one, Finset.biUnion_insert, Finset.range_one, Finset.singleton_biUnion, Finset.union_comm]

theorem out_join : iprop(halfP (F := F) d i 0 ∗ halfP d i 1) ⊢ outAny d i := by
  iintro ⟨⟨%g0, H0⟩, ⟨%g1, H1⟩⟩
  ihave H := (pointsTo_join (ℓ := outM.view.loc (thr d i)) (q := fullShare) (f := g0) (g := g1)
    (halves_disjoint 0 (by decide) 1 (by decide) (by decide))) $$ [H0 H1]
  · isplitl [H0] <;> iassumption
  rw [halves_union]
  iexists _; iexact H

/-! ## The run -/

abbrev rowAny (d : Dev nD) (i : grid0.Coords) : SP F := iprop(∃ f, rowP d i f)

theorem strip0 : rowAny (F := F) d i ⊢ stripP d i 0 := by
  iintro ⟨%f, H⟩
  iexists f
  isplitr
  · ipureintro; exact fun _ h => absurd h (Nat.not_lt_zero _)
  · iexact H

/-- What the tile leaves of the result: its ROIs' rows, each from a table and meta words that are what it was handed. -/
abbrev tileDone (d : Dev nD) (i : grid0.Coords) (fv : featM.view.ty.Contents (Elt F)) (fm : metaH.view.ty.Contents (Elt F)) : SP F :=
  iprop(∃ T m, ⌜TabIs i fv T ∧ MetaIs i fm m⌝ ∗ doneN d i T m 512)

/-- The tile's scratch, at any contents, its semaphores at zero. -/
abbrev scr (d : Dev nD) (i : grid0.Coords) : SP F :=
  iprop((∃ T, tabP d i T) ∗ (∃ m, metaP d i m) ∗ rowAny d i ∗ outAny d i)

abbrev sems (d : Dev nD) (i : grid0.Coords) : SP F :=
  iprop(semP d i cc0_scratch4.sem ∗ semP d i cc0_scratch5.sem ∗ semP d i cc0_scoped0.sem ∗ semP d i cc0_scoped1.sem)

theorem ex2_elim {ι : Type} {φ : ι → Prop} {A : ι → SP F} {Q : SP F} (h : ∀ f, φ f → iprop(A f ∗ R) ⊢ Q) : iprop((∃ f, ⌜φ f⌝ ∗ A f) ∗ R) ⊢ Q := ex_elim h

set_option maxHeartbeats 4000000 in
theorem sc_body_wp {q q' : PosShare TreeShare} {fv : featM.view.ty.Contents (Elt F)} {fm : metaH.view.ty.Contents (Elt F)}
    (hM : ∀ m, MetaIs i fm m → ∀ r < 512, MetaOK i (liOf i (wOf m r)) (wOf m r)) :
    iprop((featP d i q fv ∗ mwP d i q' fm ∗ restN d i 0) ∗ scr d i ∗ sems d i ∗ oweP d i O W) ⊢
      wpT d i (cc0__sc_body (F := F) i featM (Memref.isWhole_whole _) metaH (Memref.isWhole_whole _) outH (Memref.isWhole_whole _) tabM (Memref.isWhole_whole _) metaM (Memref.isWhole_whole _) rowM (Memref.isWhole_whole _) outM (Memref.isWhole_whole _) cc0_scratch4 cc0_scratch5 cc0_scoped0 cc0_scoped1)
        fun _ => iprop(tileDone d i fv fm ∗ scr d i ∗ sems d i ∗ oweP d i O W) := by
  unfold cc0__sc_body k0_part162
  refine (show _ ⊢ iprop(featP d i q fv ∗ (∃ T, tabP d i T) ∗ semP d i cc0_scoped0.sem ∗ oweP d i O W ∗ mwP d i q' fm ∗ (∃ m, metaP d i m) ∗ semP d i cc0_scoped1.sem ∗
    rowAny d i ∗ halfP d i 0 ∗ halfP d i 1 ∗ semP d i cc0_scratch4.sem ∗ semP d i cc0_scratch5.sem ∗ restN d i 0) from ?_).trans ?_
  · iintro ⟨⟨H1, H2, H3⟩, ⟨H4, H5, H6, H7⟩, ⟨H8, H9, H10, H11⟩, H12⟩
    ihave H7 := out_split $$ H7
    icases H7 with ⟨H7, H13⟩
    iframe
  refine assoc_wp ?_
  refine startF_wp off1_eq ?_
  refine wait_wp rfl ?_
  refine (show _ ⊢ iprop(mwP d i q' fm ∗ (∃ m, metaP d i m) ∗ semP d i cc0_scoped1.sem ∗ oweP d i O W ∗ tabAny d i fv ∗ semP d i cc0_scoped0.sem ∗
    rowAny d i ∗ halfP d i 0 ∗ halfP d i 1 ∗ semP d i cc0_scratch4.sem ∗ semP d i cc0_scratch5.sem ∗ restN d i 0) from ?_).trans ?_
  · iintro ⟨H1, H2, H3, H4, H5, H6, H7⟩
    iframe
  refine startM_wp off2_eq ?_
  refine wait_wp rfl ?_
  refine (show _ ⊢ iprop((∃ T, ⌜TabIs i fv T⌝ ∗ tabP d i T) ∗ metaAny d i fm ∗ stripP d i 0 ∗ oweP d i O W ∗ semP d i cc0_scoped0.sem ∗ semP d i cc0_scoped1.sem ∗
    halfP d i 0 ∗ halfP d i 1 ∗ semP d i cc0_scratch4.sem ∗ semP d i cc0_scratch5.sem ∗ restN d i 0) from ?_).trans ?_
  · iintro ⟨H1, H2, H3, H4, H5, H6, H7⟩
    ihave H6 := strip0 $$ H6
    iframe
  refine ex_elim fun T hT => ?_
  refine (show _ ⊢ iprop((∃ m, ⌜MetaIs i fm m⌝ ∗ metaP d i m) ∗ tabP d i T ∗ stripP d i 0 ∗ oweP d i O W ∗ semP d i cc0_scoped0.sem ∗ semP d i cc0_scoped1.sem ∗
    halfP d i 0 ∗ halfP d i 1 ∗ semP d i cc0_scratch4.sem ∗ semP d i cc0_scratch5.sem ∗ restN d i 0) from ?_).trans ?_
  · iintro ⟨H1, H2, H3⟩
    iframe
  refine ex_elim fun m hm => ?_
  refine (show _ ⊢ iprop(stripP d i 0 ∗ metaP d i m ∗ tabP d i T ∗ oweP d i O W ∗ semP d i cc0_scoped0.sem ∗ semP d i cc0_scoped1.sem ∗
    halfP d i 0 ∗ halfP d i 1 ∗ semP d i cc0_scratch4.sem ∗ semP d i cc0_scratch5.sem ∗ restN d i 0) from ?_).trans ?_
  · iintro ⟨H1, H2, H3, H4⟩
    iframe
  refine stripL_wp fun _ => ?_
  refine stripS_wp 0 (by omega) (fun _ _ => rfl) ?_
  refine stripL_wp fun _ => ?_
  refine stripS_wp 1 (by omega) (fun _ _ => rfl) ?_
  refine stripL_wp fun _ => ?_
  refine stripS_wp 2 (by omega) (fun _ _ => rfl) ?_
  refine stripL_wp fun _ => ?_
  refine (show _ ⊢ iprop(stripP d i 3 ∗ tabP d i T ∗ metaP d i m ∗ bufP d i T m 0 cc0_scratch4.sem 0 ∗ bufP d i T m 1 cc0_scratch5.sem 0 ∗ oweP d i O W ∗ doneN d i T m (cnt 0 0) ∗ restN d i (2 * 0) ∗
    semP d i cc0_scoped0.sem ∗ semP d i cc0_scoped1.sem) from ?_).trans ?_
  · show _ ⊢ iprop(_ ∗ _ ∗ _ ∗ (halfP d i 0 ∗ semP d i cc0_scratch4.sem) ∗ (halfP d i 1 ∗ semP d i cc0_scratch5.sem) ∗ _ ∗ bigSep (Finset.range 0) _ ∗ restN d i 0 ∗ _)
    rw [Finset.range_zero, bigSep_empty]
    iintro ⟨H1, H2, H3, H4, H5, H6, H7, H8, H9, H10, H11⟩
    iframe
    iempintro
  refine part163_wp (fun _ _ => rfl) (fun _ _ => rfl) (hM m hm) ?_
  refine (show _ ⊢ iprop(flyP d i T m 1 cc0_scratch5.sem 511 ∗ oweP d i O W ∗ stripP d i 7 ∗ tabP d i T ∗ metaP d i m ∗ halfP d i 0 ∗ semP d i cc0_scratch4.sem ∗
    doneN d i T m 511 ∗ semP d i cc0_scoped0.sem ∗ semP d i cc0_scoped1.sem) from ?_).trans ?_
  · show iprop(_ ∗ _ ∗ _ ∗ _ ∗ _ ∗ flyP d i T m 1 cc0_scratch5.sem 511 ∗ _) ⊢ _
    iintro ⟨H1, H2, H3, H4, H5, H6, H7, H8, H9⟩
    iframe
  refine wait_wp rfl ?_
  refine ret_wp ?_
  iintro ⟨⟨H1, H2⟩, H3, H4, ⟨%f, %hf, H5⟩, H6, H7, H8, H9, H10, H11, H12⟩
  isplitl [H1 H10]
  · iexists T, m
    isplitr
    · ipureintro; exact ⟨hT, hm⟩
    · rw [show doneN (F := F) d i T m 512 = iprop(doneP d i T m 511 ∗ doneN d i T m 511) from bigSep_range_succ ..]
      isplitl [H1]; · iexact H1
      iexact H10
  isplitl [H2 H5 H6 H7 H8]
  · isplitl [H6]; · iexists T; iexact H6
    isplitl [H7]; · iexists m; iexact H7
    isplitl [H5]; · iexists f; iexact H5
    iapply out_join
    isplitl [H8]; · iexact H8
    iexact H2
  isplitr [H4]
  · isplitl [H9]; · iexact H9
    isplitl [H3]; · iexact H3
    isplitl [H11]; · iexact H11
    iexact H12
  · iexact H4

end Cert.Proof.Roi

end
-- ==== Proof.Roi.Host.lean ====
/-
  The host's part of the program: its operations before the tiles run and after, as lists, with what each list writes;
  the program as those lists around the tiles' call; and what the lists compute — the image laid out channel by channel,
  the table of bins, and the result laid out as the caller wants it — as functions of the arguments.
-/
module

public import proofs.«01_k».proof.Proof.Roi.TileRun

@[expose] public section

set_option Elab.async false

noncomputable section

namespace Cert.Proof.Roi

open Cert.KernelIdeal Cert.KernelIdeal.Gen
open Idealize.ShloMosaic Idealize.ShloMosaic.TcCoe Idealize.SL.Sem Idealize.ShloMosaic.StableHlo

variable {F : FTy → Type} [FloatOps F]

/-! ## What the host computes -/

/-- A rounded corner: a column of the regions' corners divided by sixteen, rounded. -/
def cornerOf (x : FVec F S1024x1 .f32) : IVec S1024 32 :=
  fptosi 32 (Host.roundeven (mulf (shapeCast S1024 x shapeCasts_S1024x1_S1024) (broadcastInDim S1024 ![] bcast_S_S1024 (constant S_ .f32 0x3D800000#32))))

def flatRois (rois : FVec F S4x256x4 .f32) : FVec F S1024x4 .f32 := shapeCast S1024x4 rois shapeCasts_S4x256x4_S1024x4
def xsOf (rois : FVec F S4x256x4 .f32) : IVec S1024 32 := cornerOf (extractStridedSlice S1024x1 ![0, 0] (flatRois rois) slices_S1024x4_S1024x1_0_0)
def ysOf (rois : FVec F S4x256x4 .f32) : IVec S1024 32 := cornerOf (extractStridedSlice S1024x1 ![0, 1] (flatRois rois) slices_S1024x4_S1024x1_0_1)
def xeOf (rois : FVec F S4x256x4 .f32) : IVec S1024 32 := cornerOf (extractStridedSlice S1024x1 ![0, 2] (flatRois rois) slices_S1024x4_S1024x1_0_2)
def yeOf (rois : FVec F S4x256x4 .f32) : IVec S1024 32 := cornerOf (extractStridedSlice S1024x1 ![0, 3] (flatRois rois) slices_S1024x4_S1024x1_0_3)

/-- A region's extent, at least one, over seven. -/
def binOf (lo hi : IVec S1024 32) : FVec F S1024 .f32 :=
  Host.divf (sitofp .f32 (maxsi (addi (subi hi lo) (broadcastInDim S1024 ![] bcast_S_S1024 (constantI S_ 32 1#32))) (broadcastInDim S1024 ![] bcast_S_S1024 (constantI S_ 32 1#32))))
    (broadcastInDim S1024 ![] bcast_S_S1024 (constant S_ .f32 0x40E00000#32))

def binNo : FVec F S7 .f32 := sitofp .f32 (iotaInDim S7 32 0)
/-- The bins' numbers, and one more than each. -/
def lowOf (n : FVec F S7 .f32) : FVec F S1x7 .f32 := broadcastInDim S1x7 ![1] bcast_S7_S1x7_1 n
def highOf (n : FVec F S7 .f32) : FVec F S1x7 .f32 := addf (lowOf n) (broadcastInDim S1x7 ![] bcast_S_S1x7 (constant S_ .f32 0x3F800000#32))

/-- A bin's edge: its number times the bin's size. -/
def edgeOf (p : FVec F S1x7 .f32) (b : FVec F S1024 .f32) : FVec F S1024x7 .f32 :=
  mulf (broadcastInDim S1024x7 ![0, 1] bcast_S1x7_S1024x7_0_1 p) (broadcastInDim S1024x7 ![0, 1] bcast_S1024x1_S1024x7_0_1 (broadcastInDim S1024x1 ![0] bcast_S1024_S1024x1_0 b))

/-- An edge moved to its region and kept within the image. -/
def placeOf (t : IVec S1024x7 32) (o : IVec S1024 32) : IVec S1024x7 32 :=
  minsi (broadcastInDim S1024x7 ![] bcast_S_S1024x7 (constantI S_ 32 50#32))
    (maxsi (broadcastInDim S1024x7 ![] bcast_S_S1024x7 (constantI S_ 32 0#32))
      (addi t (broadcastInDim S1024x7 ![0, 1] bcast_S1024x1_S1024x7_0_1 (broadcastInDim S1024x1 ![0] bcast_S1024_S1024x1_0 o))))

def startOf (n : FVec F S7 .f32) (b : FVec F S1024 .f32) (o : IVec S1024 32) : IVec S1024x7 32 := placeOf (fptosi 32 (Host.floor (edgeOf (lowOf n) b))) o
def stopOf (n : FVec F S7 .f32) (b : FVec F S1024 .f32) (o : IVec S1024 32) : IVec S1024x7 32 := placeOf (fptosi 32 (Host.ceil (edgeOf (highOf n) b))) o

def imgOf (ids : FVec F S4 .f32) : IVec S1024 32 := shapeCast S1024 (broadcastInDim S4x256 ![0] bcast_S4_S4x256_0 (fptosi 32 ids)) shapeCasts_S4x256_S1024

/-- Eight columns side by side: a region's row of the table. -/
def packOf (a : IVec S1024x7 32) (b : IVec S1024x1 32) (c : IVec S1024x7 32) (d : IVec S1024x1 32) (e : IVec S1024x7 32) (f : IVec S1024x1 32)
    (g : IVec S1024x7 32) (h : IVec S1024x1 32) : IVec S1024x32 32 :=
  concatenate S1024x32 1 [⟨S1024x7, a⟩, ⟨S1024x1, b⟩, ⟨S1024x7, c⟩, ⟨S1024x1, d⟩, ⟨S1024x7, e⟩, ⟨S1024x1, f⟩, ⟨S1024x7, g⟩, ⟨S1024x1, h⟩]
    concatenates_S1024x7_S1024x1_S1024x7_S1024x1_S1024x7_S1024x1_S1024x7_S1024x1_S1024x32_d1

def zeroCol : IVec S1024x1 32 := broadcastInDim S1024x1 ![] bcast_S_S1024x1 (constantI S_ 32 0#32)

/-- The table of bins, from the four edges and the image numbers. -/
def tableOf (hs hl ws wl : IVec S1024x7 32) (img : IVec S1024 32) : IVec S32768 32 :=
  shapeCast S32768 (packOf hs zeroCol hl zeroCol ws zeroCol wl (broadcastInDim S1024x1 ![0] bcast_S1024_S1024x1_0 img)) shapeCasts_S1024x32_S32768

/-- The four edges of every bin of every region. -/
def hsOf (rois : FVec F S4x256x4 .f32) : IVec S1024x7 32 := startOf binNo (binOf (F := F) (ysOf rois) (yeOf rois)) (ysOf rois)
def heOf (rois : FVec F S4x256x4 .f32) : IVec S1024x7 32 := stopOf binNo (binOf (F := F) (ysOf rois) (yeOf rois)) (ysOf rois)
def wsOf (rois : FVec F S4x256x4 .f32) : IVec S1024x7 32 := startOf binNo (binOf (F := F) (xsOf rois) (xeOf rois)) (xsOf rois)
def weOf (rois : FVec F S4x256x4 .f32) : IVec S1024x7 32 := stopOf binNo (binOf (F := F) (xsOf rois) (xeOf rois)) (xsOf rois)

def metaFn (ids : FVec F S4 .f32) (rois : FVec F S4x256x4 .f32) : IVec S32768 32 :=
  tableOf (hsOf rois) (subi (heOf rois) (hsOf rois)) (wsOf rois) (subi (weOf rois) (wsOf rois)) (imgOf ids)

/-- The image laid out channel by channel: groups of sixteen channels, each pixel's sixteen side by side. -/
def featFn (x : FVec F S4x256x50x50 .f32) : FVec F S16x160000 .f32 :=
  shapeCast S16x160000 (transpose S16x4x50x50x16 [0, 2, 3, 4, 1]
    (shapeCast S16x16x4x50x50 (transpose S256x4x50x50 [1, 0, 2, 3] x transposes_S4x256x50x50_S256x4x50x50_1_0_2_3) shapeCasts_S256x4x50x50_S16x16x4x50x50)
    transposes_S16x16x4x50x50_S16x4x50x50x16_0_2_3_4_1) shapeCasts_S16x4x50x50x16_S16x160000

/-- The result laid out as the caller wants it. -/
def backFn (o : FVec F S1024x16x896 .f32) : FVec F S1024x256x7x7 .f32 :=
  shapeCast S1024x256x7x7 (transpose S1024x16x16x49 [0, 1, 3, 2]
    (shapeCast S1024x16x49x16 (extractStridedSlice S1024x16x784 ![0, 0, 0] o slices_S1024x16x896_S1024x16x784_0_0_0) shapeCasts_S1024x16x784_S1024x16x49x16)
    transposes_S1024x16x49x16_S1024x16x16x49_0_1_3_2) shapeCasts_S1024x16x16x49_S1024x256x7x7

/-! ## The operations -/

/-- The host's operations for the image laid out channel by channel. -/
abbrev opsFeat : List (HloOp τ sig (Elt F)) :=
  [ unary main_arg0 main_v0 ((transpose S256x4x50x50 [1, 0, 2, 3] · transposes_S4x256x50x50_S256x4x50x50_1_0_2_3) : (⟨S4x256x50x50, .f32⟩ : BufTy).Contents (Elt F) → (⟨S256x4x50x50, .f32⟩ : BufTy).Contents (Elt F)),
    reshape main_v0 main_v1 (rfl : (.f32 : EltTy) = .f32) shapeCasts_S256x4x50x50_S16x16x4x50x50,
    unary main_v1 main_v2 ((transpose S16x4x50x50x16 [0, 2, 3, 4, 1] · transposes_S16x16x4x50x50_S16x4x50x50x16_0_2_3_4_1) : (⟨S16x16x4x50x50, .f32⟩ : BufTy).Contents (Elt F) → (⟨S16x4x50x50x16, .f32⟩ : BufTy).Contents (Elt F)),
    reshape main_v2 main_v3 (rfl : (.f32 : EltTy) = .f32) shapeCasts_S16x4x50x50x16_S16x160000 ]

/-- What they write. -/
abbrev outsFeat : List (Ref sig .tc) := [main_v0, main_v1, main_v2, main_v3]

set_option maxRecDepth 8192 in
theorem opsFeat_writes : (opsFeat : List (HloOp τ sig (Elt F))).Forall fun op => op.writes ⊆ (outsFeat.map (Proc.devRef (τ := τ) .tc)).toFinset := by
  simp only [List.Forall]
  refine ⟨?_, ?_, ?_, ?_⟩ <;>
    (simp only [nullary_writes, unary_writes, binary_writes, reshape_writes, nary_writes, TRef.unary, TRef.binary, Finset.singleton_subset_iff, List.mem_toFinset]
     exact List.mem_map_of_mem (by decide))

set_option maxRecDepth 8192 in
theorem opsFeat_sub : (opsFeat : List (HloOp τ sig (Elt F))).Forall fun op => op.bufs ⊆ tcRefs τ sig :=
  ⟨unary_bufs_sub .., reshape_bufs_sub .., unary_bufs_sub .., reshape_bufs_sub ..⟩

set_option maxRecDepth 8192 in
theorem opsFeat_fresh : (opsFeat : List (HloOp τ sig (Elt F))).Forall fun op => op.fresh = ∅ :=
  ⟨rfl, rfl, rfl, rfl⟩

/-- The host's operations for the four rounded corners. -/
abbrev opsCoord : List (HloOp τ sig (Elt F)) :=
  [ reshape main_arg2 main_v4 (rfl : (.f32 : EltTy) = .f32) shapeCasts_S4x256x4_S1024x4,
    unary main_v4 main_v5 ((extractStridedSlice S1024x1 ![0, 0] · slices_S1024x4_S1024x1_0_0) : (⟨S1024x4, .f32⟩ : BufTy).Contents (Elt F) → (⟨S1024x1, .f32⟩ : BufTy).Contents (Elt F)),
    reshape main_v5 main_v6 (rfl : (.f32 : EltTy) = .f32) shapeCasts_S1024x1_S1024,
    nullary main_cst (constant S_ .f32 0x3D800000#32),
    unary main_cst main_v7 (broadcastInDim S1024 ![] bcast_S_S1024 : (⟨S_, .f32⟩ : BufTy).Contents (Elt F) → (⟨S1024, .f32⟩ : BufTy).Contents (Elt F)),
    binary main_v6 main_v7 main_v8 (mulf : (⟨S1024, .f32⟩ : BufTy).Contents (Elt F) → (⟨S1024, .f32⟩ : BufTy).Contents (Elt F) → (⟨S1024, .f32⟩ : BufTy).Contents (Elt F)),
    TRef.unary (TRef.of (T := ⟨S1024, .f32⟩) main_v8) (TRef.of (T := ⟨S1024, .f32⟩) main_v9) Host.roundeven,
    unary main_v9 main_v10 (fptosi 32 : (⟨S1024, .f32⟩ : BufTy).Contents (Elt F) → (⟨S1024, .i32⟩ : BufTy).Contents (Elt F)),
    unary main_v4 main_v11 ((extractStridedSlice S1024x1 ![0, 1] · slices_S1024x4_S1024x1_0_1) : (⟨S1024x4, .f32⟩ : BufTy).Contents (Elt F) → (⟨S1024x1, .f32⟩ : BufTy).Contents (Elt F)),
    reshape main_v11 main_v12 (rfl : (.f32 : EltTy) = .f32) shapeCasts_S1024x1_S1024,
    nullary main_cst_0 (constant S_ .f32 0x3D800000#32),
    unary main_cst_0 main_v13 (broadcastInDim S1024 ![] bcast_S_S1024 : (⟨S_, .f32⟩ : BufTy).Contents (Elt F) → (⟨S1024, .f32⟩ : BufTy).Contents (Elt F)),
    binary main_v12 main_v13 main_v14 (mulf : (⟨S1024, .f32⟩ : BufTy).Contents (Elt F) → (⟨S1024, .f32⟩ : BufTy).Contents (Elt F) → (⟨S1024, .f32⟩ : BufTy).Contents (Elt F)),
    TRef.unary (TRef.of (T := ⟨S1024, .f32⟩) main_v14) (TRef.of (T := ⟨S1024, .f32⟩) main_v15) Host.roundeven,
    unary main_v15 main_v16 (fptosi 32 : (⟨S1024, .f32⟩ : BufTy).Contents (Elt F) → (⟨S1024, .i32⟩ : BufTy).Contents (Elt F)),
    unary main_v4 main_v17 ((extractStridedSlice S1024x1 ![0, 2] · slices_S1024x4_S1024x1_0_2) : (⟨S1024x4, .f32⟩ : BufTy).Contents (Elt F) → (⟨S1024x1, .f32⟩ : BufTy).Contents (Elt F)),
    reshape main_v17 main_v18 (rfl : (.f32 : EltTy) = .f32) shapeCasts_S1024x1_S1024,
    nullary main_cst_1 (constant S_ .f32 0x3D800000#32),
    unary main_cst_1 main_v19 (broadcastInDim S1024 ![] bcast_S_S1024 : (⟨S_, .f32⟩ : BufTy).Contents (Elt F) → (⟨S1024, .f32⟩ : BufTy).Contents (Elt F)),
    binary main_v18 main_v19 main_v20 (mulf : (⟨S1024, .f32⟩ : BufTy).Contents (Elt F) → (⟨S1024, .f32⟩ : BufTy).Contents (Elt F) → (⟨S1024, .f32⟩ : BufTy).Contents (Elt F)),
    TRef.unary (TRef.of (T := ⟨S1024, .f32⟩) main_v20) (TRef.of (T := ⟨S1024, .f32⟩) main_v21) Host.roundeven,
    unary main_v21 main_v22 (fptosi 32 : (⟨S1024, .f32⟩ : BufTy).Contents (Elt F) → (⟨S1024, .i32⟩ : BufTy).Contents (Elt F)),
    unary main_v4 main_v23 ((extractStridedSlice S1024x1 ![0, 3] · slices_S1024x4_S1024x1_0_3) : (⟨S1024x4, .f32⟩ : BufTy).Contents (Elt F) → (⟨S1024x1, .f32⟩ : BufTy).Contents (Elt F)),
    reshape main_v23 main_v24 (rfl : (.f32 : EltTy) = .f32) shapeCasts_S1024x1_S1024,
    nullary main_cst_2 (constant S_ .f32 0x3D800000#32),
    unary main_cst_2 main_v25 (broadcastInDim S1024 ![] bcast_S_S1024 : (⟨S_, .f32⟩ : BufTy).Contents (Elt F) → (⟨S1024, .f32⟩ : BufTy).Contents (Elt F)),
    binary main_v24 main_v25 main_v26 (mulf : (⟨S1024, .f32⟩ : BufTy).Contents (Elt F) → (⟨S1024, .f32⟩ : BufTy).Contents (Elt F) → (⟨S1024, .f32⟩ : BufTy).Contents (Elt F)),
    TRef.unary (TRef.of (T := ⟨S1024, .f32⟩) main_v26) (TRef.of (T := ⟨S1024, .f32⟩) main_v27) Host.roundeven,
    unary main_v27 main_v28 (fptosi 32 : (⟨S1024, .f32⟩ : BufTy).Contents (Elt F) → (⟨S1024, .i32⟩ : BufTy).Contents (Elt F)) ]

/-- What they write. -/
abbrev outsCoord : List (Ref sig .tc) := [main_v4, main_v5, main_v6, main_cst, main_v7, main_v8, main_v9, main_v10, main_v11, main_v12, main_cst_0, main_v13, main_v14, main_v15, main_v16, main_v17, main_v18, main_cst_1, main_v19, main_v20, main_v21, main_v22, main_v23, main_v24, main_cst_2, main_v25, main_v26, main_v27, main_v28]

set_option maxRecDepth 8192 in
theorem opsCoord_writes : (opsCoord : List (HloOp τ sig (Elt F))).Forall fun op => op.writes ⊆ (outsCoord.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, nary_writes, TRef.unary, TRef.binary, Finset.singleton_subset_iff, List.mem_toFinset]
     exact List.mem_map_of_mem (by decide))

set_option maxRecDepth 8192 in
theorem opsCoord_sub : (opsCoord : List (HloOp τ sig (Elt F))).Forall fun op => op.bufs ⊆ tcRefs τ sig :=
  ⟨reshape_bufs_sub .., unary_bufs_sub .., reshape_bufs_sub .., nullary_bufs_sub .., unary_bufs_sub .., binary_bufs_sub .., unary_bufs_sub .., unary_bufs_sub .., unary_bufs_sub .., reshape_bufs_sub .., nullary_bufs_sub .., unary_bufs_sub .., binary_bufs_sub .., unary_bufs_sub .., unary_bufs_sub .., unary_bufs_sub .., reshape_bufs_sub .., nullary_bufs_sub .., unary_bufs_sub .., binary_bufs_sub .., unary_bufs_sub .., unary_bufs_sub .., unary_bufs_sub .., reshape_bufs_sub .., nullary_bufs_sub .., unary_bufs_sub .., binary_bufs_sub .., unary_bufs_sub .., unary_bufs_sub ..⟩

set_option maxRecDepth 8192 in
theorem opsCoord_fresh : (opsCoord : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The host's operations for the two bin sizes and the bins' numbers. -/
abbrev opsBin : List (HloOp τ sig (Elt F)) :=
  [ binary main_v22 main_v10 main_v29 (subi : (⟨S1024, .i32⟩ : BufTy).Contents (Elt F) → (⟨S1024, .i32⟩ : BufTy).Contents (Elt F) → (⟨S1024, .i32⟩ : BufTy).Contents (Elt F)),
    nullary main_c (constantI S_ 32 1#32),
    unary main_c main_v30 (broadcastInDim S1024 ![] bcast_S_S1024 : (⟨S_, .i32⟩ : BufTy).Contents (Elt F) → (⟨S1024, .i32⟩ : BufTy).Contents (Elt F)),
    binary main_v29 main_v30 main_v31 (addi : (⟨S1024, .i32⟩ : BufTy).Contents (Elt F) → (⟨S1024, .i32⟩ : BufTy).Contents (Elt F) → (⟨S1024, .i32⟩ : BufTy).Contents (Elt F)),
    nullary main_c_3 (constantI S_ 32 1#32),
    unary main_c_3 main_v32 (broadcastInDim S1024 ![] bcast_S_S1024 : (⟨S_, .i32⟩ : BufTy).Contents (Elt F) → (⟨S1024, .i32⟩ : BufTy).Contents (Elt F)),
    binary main_v31 main_v32 main_v33 (maxsi : (⟨S1024, .i32⟩ : BufTy).Contents (Elt F) → (⟨S1024, .i32⟩ : BufTy).Contents (Elt F) → (⟨S1024, .i32⟩ : BufTy).Contents (Elt F)),
    unary main_v33 main_v34 (sitofp .f32 : (⟨S1024, .i32⟩ : BufTy).Contents (Elt F) → (⟨S1024, .f32⟩ : BufTy).Contents (Elt F)),
    binary main_v28 main_v16 main_v35 (subi : (⟨S1024, .i32⟩ : BufTy).Contents (Elt F) → (⟨S1024, .i32⟩ : BufTy).Contents (Elt F) → (⟨S1024, .i32⟩ : BufTy).Contents (Elt F)),
    nullary main_c_4 (constantI S_ 32 1#32),
    unary main_c_4 main_v36 (broadcastInDim S1024 ![] bcast_S_S1024 : (⟨S_, .i32⟩ : BufTy).Contents (Elt F) → (⟨S1024, .i32⟩ : BufTy).Contents (Elt F)),
    binary main_v35 main_v36 main_v37 (addi : (⟨S1024, .i32⟩ : BufTy).Contents (Elt F) → (⟨S1024, .i32⟩ : BufTy).Contents (Elt F) → (⟨S1024, .i32⟩ : BufTy).Contents (Elt F)),
    nullary main_c_5 (constantI S_ 32 1#32),
    unary main_c_5 main_v38 (broadcastInDim S1024 ![] bcast_S_S1024 : (⟨S_, .i32⟩ : BufTy).Contents (Elt F) → (⟨S1024, .i32⟩ : BufTy).Contents (Elt F)),
    binary main_v37 main_v38 main_v39 (maxsi : (⟨S1024, .i32⟩ : BufTy).Contents (Elt F) → (⟨S1024, .i32⟩ : BufTy).Contents (Elt F) → (⟨S1024, .i32⟩ : BufTy).Contents (Elt F)),
    unary main_v39 main_v40 (sitofp .f32 : (⟨S1024, .i32⟩ : BufTy).Contents (Elt F) → (⟨S1024, .f32⟩ : BufTy).Contents (Elt F)),
    nullary main_cst_6 (constant S_ .f32 0x40E00000#32),
    unary main_cst_6 main_v41 (broadcastInDim S1024 ![] bcast_S_S1024 : (⟨S_, .f32⟩ : BufTy).Contents (Elt F) → (⟨S1024, .f32⟩ : BufTy).Contents (Elt F)),
    binary main_v40 main_v41 main_v42 (Host.divf : (⟨S1024, .f32⟩ : BufTy).Contents (Elt F) → (⟨S1024, .f32⟩ : BufTy).Contents (Elt F) → (⟨S1024, .f32⟩ : BufTy).Contents (Elt F)),
    nullary main_cst_7 (constant S_ .f32 0x40E00000#32),
    unary main_cst_7 main_v43 (broadcastInDim S1024 ![] bcast_S_S1024 : (⟨S_, .f32⟩ : BufTy).Contents (Elt F) → (⟨S1024, .f32⟩ : BufTy).Contents (Elt F)),
    binary main_v34 main_v43 main_v44 (Host.divf : (⟨S1024, .f32⟩ : BufTy).Contents (Elt F) → (⟨S1024, .f32⟩ : BufTy).Contents (Elt F) → (⟨S1024, .f32⟩ : BufTy).Contents (Elt F)),
    nullary main_v45 (sitofp .f32 (iotaInDim S7 32 0)),
    unary main_v45 main_v46 (broadcastInDim S1x7 ![1] bcast_S7_S1x7_1 : (⟨S7, .f32⟩ : BufTy).Contents (Elt F) → (⟨S1x7, .f32⟩ : BufTy).Contents (Elt F)),
    unary main_v42 main_v47 (broadcastInDim S1024x1 ![0] bcast_S1024_S1024x1_0 : (⟨S1024, .f32⟩ : BufTy).Contents (Elt F) → (⟨S1024x1, .f32⟩ : BufTy).Contents (Elt F)),
    unary main_v46 main_v48 (broadcastInDim S1024x7 ![0, 1] bcast_S1x7_S1024x7_0_1 : (⟨S1x7, .f32⟩ : BufTy).Contents (Elt F) → (⟨S1024x7, .f32⟩ : BufTy).Contents (Elt F)),
    unary main_v47 main_v49 (broadcastInDim S1024x7 ![0, 1] bcast_S1024x1_S1024x7_0_1 : (⟨S1024x1, .f32⟩ : BufTy).Contents (Elt F) → (⟨S1024x7, .f32⟩ : BufTy).Contents (Elt F)) ]

/-- What they write. -/
abbrev outsBin : List (Ref sig .tc) := [main_v29, main_c, main_v30, main_v31, main_c_3, main_v32, main_v33, main_v34, main_v35, main_c_4, main_v36, main_v37, main_c_5, main_v38, main_v39, main_v40, main_cst_6, main_v41, main_v42, main_cst_7, main_v43, main_v44, main_v45, main_v46, main_v47, main_v48, main_v49]

set_option maxRecDepth 8192 in
theorem opsBin_writes : (opsBin : List (HloOp τ sig (Elt F))).Forall fun op => op.writes ⊆ (outsBin.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, nary_writes, TRef.unary, TRef.binary, Finset.singleton_subset_iff, List.mem_toFinset]
     exact List.mem_map_of_mem (by decide))

set_option maxRecDepth 8192 in
theorem opsBin_sub : (opsBin : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub ..⟩

set_option maxRecDepth 8192 in
theorem opsBin_fresh : (opsBin : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- The host's operations for the first rows. -/
abbrev opsHs : List (HloOp τ sig (Elt F)) :=
  [ binary main_v48 main_v49 main_v50 (mulf : (⟨S1024x7, .f32⟩ : BufTy).Contents (Elt F) → (⟨S1024x7, .f32⟩ : BufTy).Contents (Elt F) → (⟨S1024x7, .f32⟩ : BufTy).Contents (Elt F)),
    unary main_v50 main_v51 (Host.floor : (⟨S1024x7, .f32⟩ : BufTy).Contents (Elt F) → (⟨S1024x7, .f32⟩ : BufTy).Contents (Elt F)),
    unary main_v51 main_v52 (fptosi 32 : (⟨S1024x7, .f32⟩ : BufTy).Contents (Elt F) → (⟨S1024x7, .i32⟩ : BufTy).Contents (Elt F)),
    unary main_v16 main_v53 (broadcastInDim S1024x1 ![0] bcast_S1024_S1024x1_0 : (⟨S1024, .i32⟩ : BufTy).Contents (Elt F) → (⟨S1024x1, .i32⟩ : BufTy).Contents (Elt F)),
    unary main_v53 main_v54 (broadcastInDim S1024x7 ![0, 1] bcast_S1024x1_S1024x7_0_1 : (⟨S1024x1, .i32⟩ : BufTy).Contents (Elt F) → (⟨S1024x7, .i32⟩ : BufTy).Contents (Elt F)),
    binary main_v52 main_v54 main_v55 (addi : (⟨S1024x7, .i32⟩ : BufTy).Contents (Elt F) → (⟨S1024x7, .i32⟩ : BufTy).Contents (Elt F) → (⟨S1024x7, .i32⟩ : BufTy).Contents (Elt F)),
    nullary main_c_8 (constantI S_ 32 0#32),
    nullary main_c_9 (constantI S_ 32 50#32),
    TRef.unary (TRef.of (T := ⟨S_, .i32⟩) main_c_8) (TRef.of (T := ⟨S_, .i32⟩) main_call4_v0) id,
    TRef.unary (TRef.of (T := ⟨S_, .i32⟩) main_call4_v0) (TRef.of (T := ⟨S1024x7, .i32⟩) main_call4_v1) (broadcastInDim S1024x7 ![] bcast_S_S1024x7),
    TRef.binary (TRef.of (T := ⟨S1024x7, .i32⟩) main_call4_v1) (TRef.of (T := ⟨S1024x7, .i32⟩) main_v55) (TRef.of (T := ⟨S1024x7, .i32⟩) main_call4_v2) maxsi,
    TRef.unary (TRef.of (T := ⟨S_, .i32⟩) main_c_9) (TRef.of (T := ⟨S_, .i32⟩) main_call4_v3) id,
    TRef.unary (TRef.of (T := ⟨S_, .i32⟩) main_call4_v3) (TRef.of (T := ⟨S1024x7, .i32⟩) main_call4_v4) (broadcastInDim S1024x7 ![] bcast_S_S1024x7),
    TRef.binary (TRef.of (T := ⟨S1024x7, .i32⟩) main_call4_v4) (TRef.of (T := ⟨S1024x7, .i32⟩) main_call4_v2) (TRef.of (T := ⟨S1024x7, .i32⟩) main_v56) minsi ]

/-- What they write. -/
abbrev outsHs : List (Ref sig .tc) := [main_v50, main_v51, main_v52, main_v53, main_v54, main_v55, main_c_8, main_c_9, main_call4_v0, main_call4_v1, main_call4_v2, main_call4_v3, main_call4_v4, main_v56]

set_option maxRecDepth 8192 in
theorem opsHs_writes : (opsHs : List (HloOp τ sig (Elt F))).Forall fun op => op.writes ⊆ (outsHs.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, reshape_writes, nary_writes, TRef.unary, TRef.binary, Finset.singleton_subset_iff, List.mem_toFinset]
     exact List.mem_map_of_mem (by decide))

set_option maxRecDepth 8192 in
theorem opsHs_sub : (opsHs : List (HloOp τ sig (Elt F))).Forall fun op => op.bufs ⊆ tcRefs τ sig :=
  ⟨binary_bufs_sub .., unary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

set_option maxRecDepth 8192 in
theorem opsHs_fresh : (opsHs : List (HloOp τ sig (Elt F))).Forall fun op => op.fresh = ∅ :=
  ⟨rfl, rfl, rfl, rfl, rfl, rfl, rfl, rfl, rfl, rfl, rfl, rfl, rfl, rfl⟩

/-- The host's operations for the last rows. -/
abbrev opsHe : List (HloOp τ sig (Elt F)) :=
  [ unary main_v45 main_v57 (broadcastInDim S1x7 ![1] bcast_S7_S1x7_1 : (⟨S7, .f32⟩ : BufTy).Contents (Elt F) → (⟨S1x7, .f32⟩ : BufTy).Contents (Elt F)),
    nullary main_cst_10 (constant S_ .f32 0x3F800000#32),
    unary main_cst_10 main_v58 (broadcastInDim S1x7 ![] bcast_S_S1x7 : (⟨S_, .f32⟩ : BufTy).Contents (Elt F) → (⟨S1x7, .f32⟩ : BufTy).Contents (Elt F)),
    binary main_v57 main_v58 main_v59 (addf : (⟨S1x7, .f32⟩ : BufTy).Contents (Elt F) → (⟨S1x7, .f32⟩ : BufTy).Contents (Elt F) → (⟨S1x7, .f32⟩ : BufTy).Contents (Elt F)),
    unary main_v42 main_v60 (broadcastInDim S1024x1 ![0] bcast_S1024_S1024x1_0 : (⟨S1024, .f32⟩ : BufTy).Contents (Elt F) → (⟨S1024x1, .f32⟩ : BufTy).Contents (Elt F)),
    unary main_v59 main_v61 (broadcastInDim S1024x7 ![0, 1] bcast_S1x7_S1024x7_0_1 : (⟨S1x7, .f32⟩ : BufTy).Contents (Elt F) → (⟨S1024x7, .f32⟩ : BufTy).Contents (Elt F)),
    unary main_v60 main_v62 (broadcastInDim S1024x7 ![0, 1] bcast_S1024x1_S1024x7_0_1 : (⟨S1024x1, .f32⟩ : BufTy).Contents (Elt F) → (⟨S1024x7, .f32⟩ : BufTy).Contents (Elt F)),
    binary main_v61 main_v62 main_v63 (mulf : (⟨S1024x7, .f32⟩ : BufTy).Contents (Elt F) → (⟨S1024x7, .f32⟩ : BufTy).Contents (Elt F) → (⟨S1024x7, .f32⟩ : BufTy).Contents (Elt F)),
    unary main_v63 main_v64 (Host.ceil : (⟨S1024x7, .f32⟩ : BufTy).Contents (Elt F) → (⟨S1024x7, .f32⟩ : BufTy).Contents (Elt F)),
    unary main_v64 main_v65 (fptosi 32 : (⟨S1024x7, .f32⟩ : BufTy).Contents (Elt F) → (⟨S1024x7, .i32⟩ : BufTy).Contents (Elt F)),
    unary main_v16 main_v66 (broadcastInDim S1024x1 ![0] bcast_S1024_S1024x1_0 : (⟨S1024, .i32⟩ : BufTy).Contents (Elt F) → (⟨S1024x1, .i32⟩ : BufTy).Contents (Elt F)),
    unary main_v66 main_v67 (broadcastInDim S1024x7 ![0, 1] bcast_S1024x1_S1024x7_0_1 : (⟨S1024x1, .i32⟩ : BufTy).Contents (Elt F) → (⟨S1024x7, .i32⟩ : BufTy).Contents (Elt F)),
    binary main_v65 main_v67 main_v68 (addi : (⟨S1024x7, .i32⟩ : BufTy).Contents (Elt F) → (⟨S1024x7, .i32⟩ : BufTy).Contents (Elt F) → (⟨S1024x7, .i32⟩ : BufTy).Contents (Elt F)),
    nullary main_c_11 (constantI S_ 32 0#32),
    nullary main_c_12 (constantI S_ 32 50#32),
    TRef.unary (TRef.of (T := ⟨S_, .i32⟩) main_c_11) (TRef.of (T := ⟨S_, .i32⟩) main_call5_v0) id,
    TRef.unary (TRef.of (T := ⟨S_, .i32⟩) main_call5_v0) (TRef.of (T := ⟨S1024x7, .i32⟩) main_call5_v1) (broadcastInDim S1024x7 ![] bcast_S_S1024x7),
    TRef.binary (TRef.of (T := ⟨S1024x7, .i32⟩) main_call5_v1) (TRef.of (T := ⟨S1024x7, .i32⟩) main_v68) (TRef.of (T := ⟨S1024x7, .i32⟩) main_call5_v2) maxsi,
    TRef.unary (TRef.of (T := ⟨S_, .i32⟩) main_c_12) (TRef.of (T := ⟨S_, .i32⟩) main_call5_v3) id,
    TRef.unary (TRef.of (T := ⟨S_, .i32⟩) main_call5_v3) (TRef.of (T := ⟨S1024x7, .i32⟩) main_call5_v4) (broadcastInDim S1024x7 ![] bcast_S_S1024x7),
    TRef.binary (TRef.of (T := ⟨S1024x7, .i32⟩) main_call5_v4) (TRef.of (T := ⟨S1024x7, .i32⟩) main_call5_v2) (TRef.of (T := ⟨S1024x7, .i32⟩) main_v69) minsi ]

/-- What they write. -/
abbrev outsHe : List (Ref sig .tc) := [main_v57, main_cst_10, main_v58, main_v59, main_v60, main_v61, main_v62, main_v63, main_v64, main_v65, main_v66, main_v67, main_v68, main_c_11, main_c_12, main_call5_v0, main_call5_v1, main_call5_v2, main_call5_v3, main_call5_v4, main_v69]

set_option maxRecDepth 8192 in
theorem opsHe_writes : (opsHe : List (HloOp τ sig (Elt F))).Forall fun op => op.writes ⊆ (outsHe.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, reshape_writes, nary_writes, TRef.unary, TRef.binary, Finset.singleton_subset_iff, List.mem_toFinset]
     exact List.mem_map_of_mem (by decide))

set_option maxRecDepth 8192 in
theorem opsHe_sub : (opsHe : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., binary_bufs_sub .., unary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

set_option maxRecDepth 8192 in
theorem opsHe_fresh : (opsHe : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The host's operations for the first columns. -/
abbrev opsWs : List (HloOp τ sig (Elt F)) :=
  [ unary main_v45 main_v70 (broadcastInDim S1x7 ![1] bcast_S7_S1x7_1 : (⟨S7, .f32⟩ : BufTy).Contents (Elt F) → (⟨S1x7, .f32⟩ : BufTy).Contents (Elt F)),
    unary main_v44 main_v71 (broadcastInDim S1024x1 ![0] bcast_S1024_S1024x1_0 : (⟨S1024, .f32⟩ : BufTy).Contents (Elt F) → (⟨S1024x1, .f32⟩ : BufTy).Contents (Elt F)),
    unary main_v70 main_v72 (broadcastInDim S1024x7 ![0, 1] bcast_S1x7_S1024x7_0_1 : (⟨S1x7, .f32⟩ : BufTy).Contents (Elt F) → (⟨S1024x7, .f32⟩ : BufTy).Contents (Elt F)),
    unary main_v71 main_v73 (broadcastInDim S1024x7 ![0, 1] bcast_S1024x1_S1024x7_0_1 : (⟨S1024x1, .f32⟩ : BufTy).Contents (Elt F) → (⟨S1024x7, .f32⟩ : BufTy).Contents (Elt F)),
    binary main_v72 main_v73 main_v74 (mulf : (⟨S1024x7, .f32⟩ : BufTy).Contents (Elt F) → (⟨S1024x7, .f32⟩ : BufTy).Contents (Elt F) → (⟨S1024x7, .f32⟩ : BufTy).Contents (Elt F)),
    unary main_v74 main_v75 (Host.floor : (⟨S1024x7, .f32⟩ : BufTy).Contents (Elt F) → (⟨S1024x7, .f32⟩ : BufTy).Contents (Elt F)),
    unary main_v75 main_v76 (fptosi 32 : (⟨S1024x7, .f32⟩ : BufTy).Contents (Elt F) → (⟨S1024x7, .i32⟩ : BufTy).Contents (Elt F)),
    unary main_v10 main_v77 (broadcastInDim S1024x1 ![0] bcast_S1024_S1024x1_0 : (⟨S1024, .i32⟩ : BufTy).Contents (Elt F) → (⟨S1024x1, .i32⟩ : BufTy).Contents (Elt F)),
    unary main_v77 main_v78 (broadcastInDim S1024x7 ![0, 1] bcast_S1024x1_S1024x7_0_1 : (⟨S1024x1, .i32⟩ : BufTy).Contents (Elt F) → (⟨S1024x7, .i32⟩ : BufTy).Contents (Elt F)),
    binary main_v76 main_v78 main_v79 (addi : (⟨S1024x7, .i32⟩ : BufTy).Contents (Elt F) → (⟨S1024x7, .i32⟩ : BufTy).Contents (Elt F) → (⟨S1024x7, .i32⟩ : BufTy).Contents (Elt F)),
    nullary main_c_13 (constantI S_ 32 0#32),
    nullary main_c_14 (constantI S_ 32 50#32),
    TRef.unary (TRef.of (T := ⟨S_, .i32⟩) main_c_13) (TRef.of (T := ⟨S_, .i32⟩) main_call6_v0) id,
    TRef.unary (TRef.of (T := ⟨S_, .i32⟩) main_call6_v0) (TRef.of (T := ⟨S1024x7, .i32⟩) main_call6_v1) (broadcastInDim S1024x7 ![] bcast_S_S1024x7),
    TRef.binary (TRef.of (T := ⟨S1024x7, .i32⟩) main_call6_v1) (TRef.of (T := ⟨S1024x7, .i32⟩) main_v79) (TRef.of (T := ⟨S1024x7, .i32⟩) main_call6_v2) maxsi,
    TRef.unary (TRef.of (T := ⟨S_, .i32⟩) main_c_14) (TRef.of (T := ⟨S_, .i32⟩) main_call6_v3) id,
    TRef.unary (TRef.of (T := ⟨S_, .i32⟩) main_call6_v3) (TRef.of (T := ⟨S1024x7, .i32⟩) main_call6_v4) (broadcastInDim S1024x7 ![] bcast_S_S1024x7),
    TRef.binary (TRef.of (T := ⟨S1024x7, .i32⟩) main_call6_v4) (TRef.of (T := ⟨S1024x7, .i32⟩) main_call6_v2) (TRef.of (T := ⟨S1024x7, .i32⟩) main_v80) minsi ]

/-- What they write. -/
abbrev outsWs : List (Ref sig .tc) := [main_v70, main_v71, main_v72, main_v73, main_v74, main_v75, main_v76, main_v77, main_v78, main_v79, main_c_13, main_c_14, main_call6_v0, main_call6_v1, main_call6_v2, main_call6_v3, main_call6_v4, main_v80]

set_option maxRecDepth 8192 in
theorem opsWs_writes : (opsWs : List (HloOp τ sig (Elt F))).Forall fun op => op.writes ⊆ (outsWs.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [nullary_writes, unary_writes, binary_writes, reshape_writes, nary_writes, TRef.unary, TRef.binary, Finset.singleton_subset_iff, List.mem_toFinset]
     exact List.mem_map_of_mem (by decide))

set_option maxRecDepth 8192 in
theorem opsWs_sub : (opsWs : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

set_option maxRecDepth 8192 in
theorem opsWs_fresh : (opsWs : List (HloOp τ sig (Elt F))).Forall fun op => op.fresh = ∅ :=
  ⟨rfl, rfl, rfl, rfl, rfl, rfl, rfl, rfl, rfl, rfl, rfl, rfl, rfl, rfl, rfl, rfl, rfl, rfl⟩

/-- The host's operations for the last columns. -/
abbrev opsWe : List (HloOp τ sig (Elt F)) :=
  [ unary main_v45 main_v81 (broadcastInDim S1x7 ![1] bcast_S7_S1x7_1 : (⟨S7, .f32⟩ : BufTy).Contents (Elt F) → (⟨S1x7, .f32⟩ : BufTy).Contents (Elt F)),
    nullary main_cst_15 (constant S_ .f32 0x3F800000#32),
    unary main_cst_15 main_v82 (broadcastInDim S1x7 ![] bcast_S_S1x7 : (⟨S_, .f32⟩ : BufTy).Contents (Elt F) → (⟨S1x7, .f32⟩ : BufTy).Contents (Elt F)),
    binary main_v81 main_v82 main_v83 (addf : (⟨S1x7, .f32⟩ : BufTy).Contents (Elt F) → (⟨S1x7, .f32⟩ : BufTy).Contents (Elt F) → (⟨S1x7, .f32⟩ : BufTy).Contents (Elt F)),
    unary main_v44 main_v84 (broadcastInDim S1024x1 ![0] bcast_S1024_S1024x1_0 : (⟨S1024, .f32⟩ : BufTy).Contents (Elt F) → (⟨S1024x1, .f32⟩ : BufTy).Contents (Elt F)),
    unary main_v83 main_v85 (broadcastInDim S1024x7 ![0, 1] bcast_S1x7_S1024x7_0_1 : (⟨S1x7, .f32⟩ : BufTy).Contents (Elt F) → (⟨S1024x7, .f32⟩ : BufTy).Contents (Elt F)),
    unary main_v84 main_v86 (broadcastInDim S1024x7 ![0, 1] bcast_S1024x1_S1024x7_0_1 : (⟨S1024x1, .f32⟩ : BufTy).Contents (Elt F) → (⟨S1024x7, .f32⟩ : BufTy).Contents (Elt F)),
    binary main_v85 main_v86 main_v87 (mulf : (⟨S1024x7, .f32⟩ : BufTy).Contents (Elt F) → (⟨S1024x7, .f32⟩ : BufTy).Contents (Elt F) → (⟨S1024x7, .f32⟩ : BufTy).Contents (Elt F)),
    unary main_v87 main_v88 (Host.ceil : (⟨S1024x7, .f32⟩ : BufTy).Contents (Elt F) → (⟨S1024x7, .f32⟩ : BufTy).Contents (Elt F)),
    unary main_v88 main_v89 (fptosi 32 : (⟨S1024x7, .f32⟩ : BufTy).Contents (Elt F) → (⟨S1024x7, .i32⟩ : BufTy).Contents (Elt F)),
    unary main_v10 main_v90 (broadcastInDim S1024x1 ![0] bcast_S1024_S1024x1_0 : (⟨S1024, .i32⟩ : BufTy).Contents (Elt F) → (⟨S1024x1, .i32⟩ : BufTy).Contents (Elt F)),
    unary main_v90 main_v91 (broadcastInDim S1024x7 ![0, 1] bcast_S1024x1_S1024x7_0_1 : (⟨S1024x1, .i32⟩ : BufTy).Contents (Elt F) → (⟨S1024x7, .i32⟩ : BufTy).Contents (Elt F)),
    binary main_v89 main_v91 main_v92 (addi : (⟨S1024x7, .i32⟩ : BufTy).Contents (Elt F) → (⟨S1024x7, .i32⟩ : BufTy).Contents (Elt F) → (⟨S1024x7, .i32⟩ : BufTy).Contents (Elt F)),
    nullary main_c_16 (constantI S_ 32 0#32),
    nullary main_c_17 (constantI S_ 32 50#32),
    TRef.unary (TRef.of (T := ⟨S_, .i32⟩) main_c_16) (TRef.of (T := ⟨S_, .i32⟩) main_call7_v0) id,
    TRef.unary (TRef.of (T := ⟨S_, .i32⟩) main_call7_v0) (TRef.of (T := ⟨S1024x7, .i32⟩) main_call7_v1) (broadcastInDim S1024x7 ![] bcast_S_S1024x7),
    TRef.binary (TRef.of (T := ⟨S1024x7, .i32⟩) main_call7_v1) (TRef.of (T := ⟨S1024x7, .i32⟩) main_v92) (TRef.of (T := ⟨S1024x7, .i32⟩) main_call7_v2) maxsi,
    TRef.unary (TRef.of (T := ⟨S_, .i32⟩) main_c_17) (TRef.of (T := ⟨S_, .i32⟩) main_call7_v3) id,
    TRef.unary (TRef.of (T := ⟨S_, .i32⟩) main_call7_v3) (TRef.of (T := ⟨S1024x7, .i32⟩) main_call7_v4) (broadcastInDim S1024x7 ![] bcast_S_S1024x7),
    TRef.binary (TRef.of (T := ⟨S1024x7, .i32⟩) main_call7_v4) (TRef.of (T := ⟨S1024x7, .i32⟩) main_call7_v2) (TRef.of (T := ⟨S1024x7, .i32⟩) main_v93) minsi ]

/-- What they write. -/
abbrev outsWe : List (Ref sig .tc) := [main_v81, main_cst_15, main_v82, main_v83, main_v84, main_v85, main_v86, main_v87, main_v88, main_v89, main_v90, main_v91, main_v92, main_c_16, main_c_17, main_call7_v0, main_call7_v1, main_call7_v2, main_call7_v3, main_call7_v4, main_v93]

set_option maxRecDepth 8192 in
theorem opsWe_writes : (opsWe : List (HloOp τ sig (Elt F))).Forall fun op => op.writes ⊆ (outsWe.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, reshape_writes, nary_writes, TRef.unary, TRef.binary, Finset.singleton_subset_iff, List.mem_toFinset]
     exact List.mem_map_of_mem (by decide))

set_option maxRecDepth 8192 in
theorem opsWe_sub : (opsWe : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., binary_bufs_sub .., unary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

set_option maxRecDepth 8192 in
theorem opsWe_fresh : (opsWe : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The host's operations for the extents and the image numbers. -/
abbrev opsImg : List (HloOp τ sig (Elt F)) :=
  [ binary main_v69 main_v56 main_v94 (subi : (⟨S1024x7, .i32⟩ : BufTy).Contents (Elt F) → (⟨S1024x7, .i32⟩ : BufTy).Contents (Elt F) → (⟨S1024x7, .i32⟩ : BufTy).Contents (Elt F)),
    binary main_v93 main_v80 main_v95 (subi : (⟨S1024x7, .i32⟩ : BufTy).Contents (Elt F) → (⟨S1024x7, .i32⟩ : BufTy).Contents (Elt F) → (⟨S1024x7, .i32⟩ : BufTy).Contents (Elt F)),
    unary main_arg1 main_v96 (fptosi 32 : (⟨S4, .f32⟩ : BufTy).Contents (Elt F) → (⟨S4, .i32⟩ : BufTy).Contents (Elt F)),
    unary main_v96 main_v97 (broadcastInDim S4x256 ![0] bcast_S4_S4x256_0 : (⟨S4, .i32⟩ : BufTy).Contents (Elt F) → (⟨S4x256, .i32⟩ : BufTy).Contents (Elt F)),
    reshape main_v97 main_v98 (rfl : (.i32 : EltTy) = .i32) shapeCasts_S4x256_S1024,
    nullary main_c_18 (constantI S_ 32 0#32) ]

/-- What they write. -/
abbrev outsImg : List (Ref sig .tc) := [main_v94, main_v95, main_v96, main_v97, main_v98, main_c_18]

set_option maxRecDepth 8192 in
theorem opsImg_writes : (opsImg : List (HloOp τ sig (Elt F))).Forall fun op => op.writes ⊆ (outsImg.map (Proc.devRef (τ := τ) .tc)).toFinset := by
  simp only [List.Forall]
  refine ⟨?_, ?_, ?_, ?_, ?_, ?_⟩ <;>
    (simp only [nullary_writes, unary_writes, binary_writes, reshape_writes, nary_writes, TRef.unary, TRef.binary, Finset.singleton_subset_iff, List.mem_toFinset]
     exact List.mem_map_of_mem (by decide))

set_option maxRecDepth 8192 in
theorem opsImg_sub : (opsImg : List (HloOp τ sig (Elt F))).Forall fun op => op.bufs ⊆ tcRefs τ sig :=
  ⟨binary_bufs_sub .., binary_bufs_sub .., unary_bufs_sub .., unary_bufs_sub .., reshape_bufs_sub .., nullary_bufs_sub ..⟩

set_option maxRecDepth 8192 in
theorem opsImg_fresh : (opsImg : List (HloOp τ sig (Elt F))).Forall fun op => op.fresh = ∅ :=
  ⟨rfl, rfl, rfl, rfl, rfl, rfl⟩

/-- The host's operations for the table of bins. -/
abbrev opsPack : List (HloOp τ sig (Elt F)) :=
  [ unary main_c_18 main_v99 (broadcastInDim S1024x1 ![] bcast_S_S1024x1 : (⟨S_, .i32⟩ : BufTy).Contents (Elt F) → (⟨S1024x1, .i32⟩ : BufTy).Contents (Elt F)),
    unary main_v98 main_v100 (broadcastInDim S1024x1 ![0] bcast_S1024_S1024x1_0 : (⟨S1024, .i32⟩ : BufTy).Contents (Elt F) → (⟨S1024x1, .i32⟩ : BufTy).Contents (Elt F)),
    nary ![main_v56, main_v99, main_v94, main_v99, main_v80, main_v99, main_v95, main_v100] main_v101 (fun u => packOf (u 0) (u 1) (u 2) (u 3) (u 4) (u 5) (u 6) (u 7)),
    reshape main_v101 main_v102 (rfl : (.i32 : EltTy) = .i32) shapeCasts_S1024x32_S32768 ]

/-- What they write. -/
abbrev outsPack : List (Ref sig .tc) := [main_v99, main_v100, main_v101, main_v102]

set_option maxRecDepth 8192 in
theorem opsPack_writes : (opsPack : List (HloOp τ sig (Elt F))).Forall fun op => op.writes ⊆ (outsPack.map (Proc.devRef (τ := τ) .tc)).toFinset := by
  simp only [List.Forall]
  refine ⟨?_, ?_, ?_, ?_⟩ <;>
    (simp only [nullary_writes, unary_writes, binary_writes, reshape_writes, nary_writes, TRef.unary, TRef.binary, Finset.singleton_subset_iff, List.mem_toFinset]
     exact List.mem_map_of_mem (by decide))

set_option maxRecDepth 8192 in
theorem opsPack_sub : (opsPack : List (HloOp τ sig (Elt F))).Forall fun op => op.bufs ⊆ tcRefs τ sig :=
  ⟨unary_bufs_sub .., unary_bufs_sub .., nary_bufs_sub .., reshape_bufs_sub ..⟩

set_option maxRecDepth 8192 in
theorem opsPack_fresh : (opsPack : List (HloOp τ sig (Elt F))).Forall fun op => op.fresh = ∅ :=
  ⟨rfl, rfl, rfl, rfl⟩

/-- The host's operations for the result laid out as the caller wants it. -/
abbrev opsBack : List (HloOp τ sig (Elt F)) :=
  [ unary main_v103 main_v104 ((extractStridedSlice S1024x16x784 ![0, 0, 0] · slices_S1024x16x896_S1024x16x784_0_0_0) : (⟨S1024x16x896, .f32⟩ : BufTy).Contents (Elt F) → (⟨S1024x16x784, .f32⟩ : BufTy).Contents (Elt F)),
    reshape main_v104 main_v105 (rfl : (.f32 : EltTy) = .f32) shapeCasts_S1024x16x784_S1024x16x49x16,
    unary main_v105 main_v106 ((transpose S1024x16x16x49 [0, 1, 3, 2] · transposes_S1024x16x49x16_S1024x16x16x49_0_1_3_2) : (⟨S1024x16x49x16, .f32⟩ : BufTy).Contents (Elt F) → (⟨S1024x16x16x49, .f32⟩ : BufTy).Contents (Elt F)),
    reshape main_v106 main_v107 (rfl : (.f32 : EltTy) = .f32) shapeCasts_S1024x16x16x49_S1024x256x7x7 ]

/-- What they write. -/
abbrev outsBack : List (Ref sig .tc) := [main_v104, main_v105, main_v106, main_v107]

set_option maxRecDepth 8192 in
theorem opsBack_writes : (opsBack : List (HloOp τ sig (Elt F))).Forall fun op => op.writes ⊆ (outsBack.map (Proc.devRef (τ := τ) .tc)).toFinset := by
  simp only [List.Forall]
  refine ⟨?_, ?_, ?_, ?_⟩ <;>
    (simp only [nullary_writes, unary_writes, binary_writes, reshape_writes, nary_writes, TRef.unary, TRef.binary, Finset.singleton_subset_iff, List.mem_toFinset]
     exact List.mem_map_of_mem (by decide))

set_option maxRecDepth 8192 in
theorem opsBack_sub : (opsBack : List (HloOp τ sig (Elt F))).Forall fun op => op.bufs ⊆ tcRefs τ sig :=
  ⟨unary_bufs_sub .., reshape_bufs_sub .., unary_bufs_sub .., reshape_bufs_sub ..⟩

set_option maxRecDepth 8192 in
theorem opsBack_fresh : (opsBack : List (HloOp τ sig (Elt F))).Forall fun op => op.fresh = ∅ :=
  ⟨rfl, rfl, rfl, rfl⟩

/-! ## The program as these lists around the tiles' call -/

/-- Everything the host does before the tiles run. -/
def opsPre : List (HloOp τ sig (Elt F)) :=
  (opsFeat ++ (opsCoord ++ opsBin)) ++ ((opsHs ++ (opsHe ++ (opsWs ++ (opsWe ++ opsImg)))) ++ opsPack)

set_option maxRecDepth 8192 in
theorem main_part0_eq (d : Dev nD) : main_part0 (F := F) d = seq (opsFeat ++ (opsCoord ++ opsBin)) := rfl
set_option maxRecDepth 8192 in
set_option maxHeartbeats 4000000 in
theorem main_part1_eq (d : Dev nD) : main_part1 (F := F) d = seq (opsHs ++ (opsHe ++ (opsWs ++ (opsWe ++ opsImg)))) := rfl
set_option maxRecDepth 8192 in
theorem main_part2_eq (d : Dev nD) : main_part2 (F := F) d = seq opsPack >>= fun _ => sc.run d 0 >>= fun _ => seq opsBack := rfl

theorem main_eq (d : Dev nD) : main (F := F) d = seq opsPre >>= fun _ => sc.run d 0 >>= fun _ => seq opsBack := by
  unfold main opsPre
  rw [main_part0_eq, main_part1_eq, main_part2_eq]
  simp only [seq_append, bind_assoc]

theorem opsPre_all {p : HloOp τ sig (Elt F) → Prop} (h : (opsFeat : List (HloOp τ sig (Elt F))).Forall p) (h₁ : (opsCoord : List (HloOp τ sig (Elt F))).Forall p)
    (h₂ : (opsBin : List (HloOp τ sig (Elt F))).Forall p) (h₃ : (opsHs : List (HloOp τ sig (Elt F))).Forall p) (h₄ : (opsHe : List (HloOp τ sig (Elt F))).Forall p)
    (h₅ : (opsWs : List (HloOp τ sig (Elt F))).Forall p) (h₆ : (opsWe : List (HloOp τ sig (Elt F))).Forall p) (h₇ : (opsImg : List (HloOp τ sig (Elt F))).Forall p)
    (h₈ : (opsPack : List (HloOp τ sig (Elt F))).Forall p) : ∀ op ∈ (opsPre : List (HloOp τ sig (Elt F))), p op := by
  intro op ho
  simp only [opsPre, List.mem_append] at ho
  rw [List.forall_iff_forall_mem] at h h₁ h₂ h₃ h₄ h₅ h₆ h₇ h₈
  rcases ho with ((ho | ho | ho) | (ho | ho | ho | ho | ho) | ho)
  exacts [h op ho, h₁ op ho, h₂ op ho, h₃ op ho, h₄ op ho, h₅ op ho, h₆ op ho, h₇ op ho, h₈ op ho]

theorem opsPre_sub : ∀ op ∈ (opsPre : List (HloOp τ sig (Elt F))), op.bufs ⊆ tcRefs τ sig :=
  opsPre_all opsFeat_sub opsCoord_sub opsBin_sub opsHs_sub opsHe_sub opsWs_sub opsWe_sub opsImg_sub opsPack_sub
theorem opsPre_fresh : ∀ op ∈ (opsPre : List (HloOp τ sig (Elt F))), op.fresh = ∅ :=
  opsPre_all opsFeat_fresh opsCoord_fresh opsBin_fresh opsHs_fresh opsHe_fresh opsWs_fresh opsWe_fresh opsImg_fresh opsPack_fresh

/-! ## What the lists compute -/

/-- A TensorCore buffer, as the device's. -/
abbrev dv (r : Ref sig .tc) : DevRef τ sig := Proc.devRef .tc r

theorem feat_val (V : Valuation τ sig (Elt F)) : after opsFeat V (dv main_v3) = featFn (V (dv main_arg0)) := by
  after_results_simp
  all_goals rfl

set_option maxRecDepth 8192 in
set_option maxHeartbeats 2000000 in
theorem xs_val (V : Valuation τ sig (Elt F)) : after opsCoord V (dv main_v10) = xsOf (V (dv main_arg2)) := by
  simp only [opsCoord, TRef.unary, TRef.toBuf, TRef.ofBuf, cast_eq]
  after_results_simp
  all_goals rfl
set_option maxRecDepth 8192 in
set_option maxHeartbeats 2000000 in
theorem ys_val (V : Valuation τ sig (Elt F)) : after opsCoord V (dv main_v16) = ysOf (V (dv main_arg2)) := by
  simp only [opsCoord, TRef.unary, TRef.toBuf, TRef.ofBuf, cast_eq]
  after_results_simp
  all_goals rfl
set_option maxRecDepth 8192 in
set_option maxHeartbeats 2000000 in
theorem xe_val (V : Valuation τ sig (Elt F)) : after opsCoord V (dv main_v22) = xeOf (V (dv main_arg2)) := by
  simp only [opsCoord, TRef.unary, TRef.toBuf, TRef.ofBuf, cast_eq]
  after_results_simp
  all_goals rfl
set_option maxRecDepth 8192 in
set_option maxHeartbeats 2000000 in
theorem ye_val (V : Valuation τ sig (Elt F)) : after opsCoord V (dv main_v28) = yeOf (V (dv main_arg2)) := by
  simp only [opsCoord, TRef.unary, TRef.toBuf, TRef.ofBuf, cast_eq]
  after_results_simp
  all_goals rfl

/-- The heights' bin size, the widths', the bins' numbers, and the first edges' product laid out. -/
theorem bin_val (V : Valuation τ sig (Elt F)) :
    after opsBin V (dv main_v42) = binOf (V (dv main_v16)) (V (dv main_v28)) ∧ after opsBin V (dv main_v44) = binOf (V (dv main_v10)) (V (dv main_v22))
      ∧ after opsBin V (dv main_v45) = binNo
      ∧ after opsBin V (dv main_v48) = broadcastInDim S1024x7 ![0, 1] bcast_S1x7_S1024x7_0_1 (lowOf binNo)
      ∧ after opsBin V (dv main_v49) = broadcastInDim S1024x7 ![0, 1] bcast_S1024x1_S1024x7_0_1 (broadcastInDim S1024x1 ![0] bcast_S1024_S1024x1_0 (binOf (V (dv main_v16)) (V (dv main_v28)))) := by
  refine ⟨?_, ?_, ?_, ?_, ?_⟩ <;>
    (after_results_simp
     all_goals rfl)

set_option maxHeartbeats 2000000 in
theorem hs_val (V : Valuation τ sig (Elt F)) : after opsHs V (dv main_v56) = placeOf (fptosi 32 (Host.floor (mulf (V (dv main_v48)) (V (dv main_v49))))) (V (dv main_v16)) := by
  simp only [opsHs, TRef.unary, TRef.binary, TRef.toBuf, TRef.ofBuf, cast_eq]
  after_results_simp
  all_goals rfl
set_option maxHeartbeats 2000000 in
theorem he_val (V : Valuation τ sig (Elt F)) : after opsHe V (dv main_v69) = stopOf (V (dv main_v45)) (V (dv main_v42)) (V (dv main_v16)) := by
  simp only [opsHe, TRef.unary, TRef.binary, TRef.toBuf, TRef.ofBuf, cast_eq]
  after_results_simp
  all_goals rfl
set_option maxHeartbeats 2000000 in
theorem ws_val (V : Valuation τ sig (Elt F)) : after opsWs V (dv main_v80) = startOf (V (dv main_v45)) (V (dv main_v44)) (V (dv main_v10)) := by
  simp only [opsWs, TRef.unary, TRef.binary, TRef.toBuf, TRef.ofBuf, cast_eq]
  after_results_simp
  all_goals rfl
set_option maxHeartbeats 2000000 in
theorem we_val (V : Valuation τ sig (Elt F)) : after opsWe V (dv main_v93) = stopOf (V (dv main_v45)) (V (dv main_v44)) (V (dv main_v10)) := by
  simp only [opsWe, TRef.unary, TRef.binary, TRef.toBuf, TRef.ofBuf, cast_eq]
  after_results_simp
  all_goals rfl
theorem img_val (V : Valuation τ sig (Elt F)) :
    after opsImg V (dv main_v94) = subi (V (dv main_v69)) (V (dv main_v56)) ∧ after opsImg V (dv main_v95) = subi (V (dv main_v93)) (V (dv main_v80))
      ∧ after opsImg V (dv main_v98) = imgOf (V (dv main_arg1)) ∧ after opsImg V (dv main_c_18) = constantI S_ 32 0#32 := by
  refine ⟨?_, ?_, ?_, ?_⟩ <;>
    (after_results_simp
     all_goals rfl)
/-- The eight columns side by side, flattened. -/
theorem pack_flat (V : Valuation τ sig (Elt F)) :
    after (opsPack.drop 2) V (dv main_v102)
      = shapeCast S32768 (packOf (V (dv main_v56)) (V (dv main_v99)) (V (dv main_v94)) (V (dv main_v99)) (V (dv main_v80)) (V (dv main_v99)) (V (dv main_v95)) (V (dv main_v100)))
          shapeCasts_S1024x32_S32768 := by
  simp only [opsPack, List.drop_succ_cons, List.drop_zero]
  after_results_simp
  all_goals rfl
theorem pack_cols (V : Valuation τ sig (Elt F)) :
    after (opsPack.take 2) V (dv main_v99) = broadcastInDim S1024x1 ![] bcast_S_S1024x1 (V (dv main_c_18))
      ∧ after (opsPack.take 2) V (dv main_v100) = broadcastInDim S1024x1 ![0] bcast_S1024_S1024x1_0 (V (dv main_v98))
      ∧ after (opsPack.take 2) V (dv main_v56) = V (dv main_v56) ∧ after (opsPack.take 2) V (dv main_v94) = V (dv main_v94)
      ∧ after (opsPack.take 2) V (dv main_v80) = V (dv main_v80) ∧ after (opsPack.take 2) V (dv main_v95) = V (dv main_v95) := by
  simp only [opsPack, List.take_succ_cons, List.take_zero]
  refine ⟨?_, ?_, ?_, ?_, ?_, ?_⟩ <;>
    (after_results_simp
     all_goals rfl)
theorem pack_val (V : Valuation τ sig (Elt F)) (h : V (dv main_c_18) = constantI S_ 32 0#32) :
    after opsPack V (dv main_v102) = tableOf (V (dv main_v56)) (V (dv main_v94)) (V (dv main_v80)) (V (dv main_v95)) (V (dv main_v98)) := by
  obtain ⟨h₁, h₂, h₃, h₄, h₅, h₆⟩ := pack_cols V
  refine (pack_flat (after (opsPack.take 2) V)).trans ?_
  rw [h₁, h₂, h₃, h₄, h₅, h₆, h]
  rfl
theorem back_val (V : Valuation τ sig (Elt F)) : after opsBack V (dv main_v107) = backFn (V (dv main_v103)) := by
  after_results_simp
  all_goals rfl

end Cert.Proof.Roi

end
-- ==== Proof.Roi.HostRun.lean ====
/-
  What the host has computed when the tiles start: the image laid out channel by channel, the table of bins, and every
  other buffer the run looks at again as it was.
-/
module

public import proofs.«01_k».proof.Proof.Roi.Host

@[expose] public section

noncomputable section

namespace Cert.Proof.Roi

open Cert.KernelIdeal Cert.KernelIdeal.Gen
open Idealize.ShloMosaic Idealize.ShloMosaic.TcCoe Idealize.SL.Sem Idealize.ShloMosaic.StableHlo

variable {F : FTy → Type} [FloatOps F]

theorem after_two (a b : List (HloOp τ sig (Elt F))) (V : Valuation τ sig (Elt F)) : after (a ++ b) V = after b (after a V) := by
  induction a generalizing V with
  | nil => rfl
  | cons op a ih => exact ih (op.result V)

/-- A buffer none of the lists writes is as it was. -/
theorem pre_keep (V : Valuation τ sig (Elt F)) (r : Ref sig .tc) (h : r ∉ outsFeat) (h₁ : r ∉ outsCoord) (h₂ : r ∉ outsBin) (h₃ : r ∉ outsHs) (h₄ : r ∉ outsHe)
    (h₅ : r ∉ outsWs) (h₆ : r ∉ outsWe) (h₇ : r ∉ outsImg) (h₈ : r ∉ outsPack) : after opsPre V (dv r) = V (dv r) := by
  simp only [opsPre, after_two]
  rw [after_of_writes_sub opsPack _ opsPack_writes h₈, after_of_writes_sub opsImg _ opsImg_writes h₇, after_of_writes_sub opsWe _ opsWe_writes h₆,
    after_of_writes_sub opsWs _ opsWs_writes h₅, after_of_writes_sub opsHe _ opsHe_writes h₄, after_of_writes_sub opsHs _ opsHs_writes h₃,
    after_of_writes_sub opsBin _ opsBin_writes h₂, after_of_writes_sub opsCoord _ opsCoord_writes h₁, after_of_writes_sub opsFeat _ opsFeat_writes h]

theorem pre_feat (V : Valuation τ sig (Elt F)) : after opsPre V (dv main_v3) = featFn (V (dv main_arg0)) := by
  simp only [opsPre, after_two]
  rw [after_of_writes_sub opsPack _ opsPack_writes (by decide), after_of_writes_sub opsImg _ opsImg_writes (by decide), after_of_writes_sub opsWe _ opsWe_writes (by decide),
    after_of_writes_sub opsWs _ opsWs_writes (by decide), after_of_writes_sub opsHe _ opsHe_writes (by decide), after_of_writes_sub opsHs _ opsHs_writes (by decide),
    after_of_writes_sub opsBin _ opsBin_writes (by decide), after_of_writes_sub opsCoord _ opsCoord_writes (by decide), feat_val]

theorem pre_meta (V : Valuation τ sig (Elt F)) : after opsPre V (dv main_v102) = metaFn (V (dv main_arg1)) (V (dv main_arg2)) := by
  simp only [opsPre, after_two]
  -- the contents after each list, last to first
  generalize e₀ : after opsFeat V = V₀
  generalize e₁ : after opsCoord V₀ = V₁
  generalize e₂ : after opsBin V₁ = V₂
  generalize e₃ : after opsHs V₂ = V₃
  generalize e₄ : after opsHe V₃ = V₄
  generalize e₅ : after opsWs V₄ = V₅
  generalize e₆ : after opsWe V₅ = V₆
  generalize e₇ : after opsImg V₆ = V₇
  have k₀ : ∀ r : Ref sig .tc, r ∉ outsFeat → V₀ (dv r) = V (dv r) := fun r h => e₀ ▸ after_of_writes_sub opsFeat _ opsFeat_writes h
  have k₁ : ∀ r : Ref sig .tc, r ∉ outsCoord → V₁ (dv r) = V₀ (dv r) := fun r h => e₁ ▸ after_of_writes_sub opsCoord _ opsCoord_writes h
  have k₂ : ∀ r : Ref sig .tc, r ∉ outsBin → V₂ (dv r) = V₁ (dv r) := fun r h => e₂ ▸ after_of_writes_sub opsBin _ opsBin_writes h
  have k₃ : ∀ r : Ref sig .tc, r ∉ outsHs → V₃ (dv r) = V₂ (dv r) := fun r h => e₃ ▸ after_of_writes_sub opsHs _ opsHs_writes h
  have k₄ : ∀ r : Ref sig .tc, r ∉ outsHe → V₄ (dv r) = V₃ (dv r) := fun r h => e₄ ▸ after_of_writes_sub opsHe _ opsHe_writes h
  have k₅ : ∀ r : Ref sig .tc, r ∉ outsWs → V₅ (dv r) = V₄ (dv r) := fun r h => e₅ ▸ after_of_writes_sub opsWs _ opsWs_writes h
  have k₆ : ∀ r : Ref sig .tc, r ∉ outsWe → V₆ (dv r) = V₅ (dv r) := fun r h => e₆ ▸ after_of_writes_sub opsWe _ opsWe_writes h
  have k₇ : ∀ r : Ref sig .tc, r ∉ outsImg → V₇ (dv r) = V₆ (dv r) := fun r h => e₇ ▸ after_of_writes_sub opsImg _ opsImg_writes h
  -- the arguments reach each list
  have a₁ : V₆ (dv main_arg1) = V (dv main_arg1) := by
    rw [k₆ _ (by decide), k₅ _ (by decide), k₄ _ (by decide), k₃ _ (by decide), k₂ _ (by decide), k₁ _ (by decide), k₀ _ (by decide)]
  have a₂ : V₀ (dv main_arg2) = V (dv main_arg2) := k₀ _ (by decide)
  -- the corners
  have xs : V₁ (dv main_v10) = xsOf (V (dv main_arg2)) := by rw [← e₁, xs_val, a₂]
  have ys : V₁ (dv main_v16) = ysOf (V (dv main_arg2)) := by rw [← e₁, ys_val, a₂]
  have xe : V₁ (dv main_v22) = xeOf (V (dv main_arg2)) := by rw [← e₁, xe_val, a₂]
  have ye : V₁ (dv main_v28) = yeOf (V (dv main_arg2)) := by rw [← e₁, ye_val, a₂]
  -- the bins
  obtain ⟨b₁, b₂, b₃, b₄, b₅⟩ := bin_val V₁
  rw [e₂, ys, ye] at b₁
  rw [e₂, xs, xe] at b₂
  rw [e₂] at b₃ b₄
  rw [e₂, ys, ye] at b₅
  -- the four edges
  have hs : V₃ (dv main_v56) = hsOf (V (dv main_arg2)) := by
    rw [← e₃, hs_val, b₄, b₅, k₂ main_v16 (by decide), ys]; rfl
  have he : V₄ (dv main_v69) = heOf (V (dv main_arg2)) := by
    rw [← e₄, he_val, k₃ main_v45 (by decide), b₃, k₃ main_v42 (by decide), b₁, k₃ main_v16 (by decide), k₂ main_v16 (by decide), ys]; rfl
  have ws : V₅ (dv main_v80) = wsOf (V (dv main_arg2)) := by
    rw [← e₅, ws_val, k₄ main_v45 (by decide), k₃ main_v45 (by decide), b₃, k₄ main_v44 (by decide), k₃ main_v44 (by decide), b₂, k₄ main_v10 (by decide),
      k₃ main_v10 (by decide), k₂ main_v10 (by decide), xs]; rfl
  have we : V₆ (dv main_v93) = weOf (V (dv main_arg2)) := by
    rw [← e₆, we_val, k₅ main_v45 (by decide), k₄ main_v45 (by decide), k₃ main_v45 (by decide), b₃, k₅ main_v44 (by decide), k₄ main_v44 (by decide),
      k₃ main_v44 (by decide), b₂, k₅ main_v10 (by decide), k₄ main_v10 (by decide), k₃ main_v10 (by decide), k₂ main_v10 (by decide), xs]; rfl
  have hs₆ : V₆ (dv main_v56) = hsOf (V (dv main_arg2)) := by rw [k₆ _ (by decide), k₅ _ (by decide), k₄ _ (by decide), hs]
  have ws₆ : V₆ (dv main_v80) = wsOf (V (dv main_arg2)) := by rw [k₆ _ (by decide), ws]
  have he₆ : V₆ (dv main_v69) = heOf (V (dv main_arg2)) := by rw [k₆ _ (by decide), k₅ _ (by decide), he]
  obtain ⟨i₁, i₂, i₃, i₄⟩ := img_val V₆
  rw [e₇] at i₁ i₂ i₃ i₄
  rw [pack_val V₇ i₄, i₁, i₂, i₃, k₇ main_v56 (by decide), k₇ main_v80 (by decide), hs₆, ws₆, he₆, we, a₁]
  rfl

end Cert.Proof.Roi

end
-- ==== Proof.Roi.Obl.lean ====
/-
  A tile's run as the launch wants it: what each tile is handed (a share of the image and of the table of bins, its own
  rows of the result), what it gives back (those rows written), and its run from the first to the second.
-/
module

public import proofs.«01_k».proof.Proof.Roi.HostRun

@[expose] public section

noncomputable section

namespace Cert.Proof.Roi

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the left factor. -/
abbrev EH : Emb UH (MT nD τ sig (HIx 1) (Elt F) ℕ UU ℕ) := embL

variable [FloatOps F]

section Tile

variable (d : Dev nD) (L : grid0.Coords)

abbrev cell (sem : DmaSem sig) : GSem nD τ sig := (thr d L, .dma sem)

omit [FloatOps F] in
theorem mem_cell (sem : DmaSem sig) (h : (SemLoc.dma sem : SemLoc sig).isScoped .scVector = true) : cell d L sem ∈ ownCells (thr d L) :=
  (mem_ownCells (g := cell d L sem)).mpr ⟨rfl, h⟩

omit [FloatOps F] in
theorem cell_ne {a b : DmaSem sig} (h : a ≠ b) : cell d L a ≠ cell d L b := fun e => h (by injection e with _ e; injection e)

/-- The four semaphores are among the tile's own. -/
theorem ownSems0_tile :
    (ownSems0 (thr d L) : SP F)
      = iprop(semP d L cc0_scratch4.sem ∗ semP d L cc0_scratch5.sem ∗ semP d L cc0_scoped0.sem ∗ semP d L cc0_scoped1.sem
          ∗ bigSep (((((ownCells (thr d L)).erase (cell d L cc0_scratch4.sem)).erase (cell d L cc0_scratch5.sem)).erase (cell d L cc0_scoped0.sem)).erase (cell d L cc0_scoped1.sem)) fun g => semVal g 0) := by
  unfold SparseCore.Cfg.ownSems0
  rw [SparseCore.bigSep_erase' (mem_cell d L cc0_scratch4.sem (by decide)),
    SparseCore.bigSep_erase' (Finset.mem_erase.mpr ⟨cell_ne d L (by decide), mem_cell d L cc0_scratch5.sem (by decide)⟩),
    SparseCore.bigSep_erase' (Finset.mem_erase.mpr ⟨cell_ne d L (by decide), Finset.mem_erase.mpr ⟨cell_ne d L (by decide), mem_cell d L cc0_scoped0.sem (by decide)⟩⟩),
    SparseCore.bigSep_erase' (Finset.mem_erase.mpr ⟨cell_ne d L (by decide), Finset.mem_erase.mpr ⟨cell_ne d L (by decide),
      Finset.mem_erase.mpr ⟨cell_ne d L (by decide), mem_cell d L cc0_scoped1.sem (by decide)⟩⟩⟩)]

abbrev own (b : Ref sig .scVector) : DevRef τ sig := (Proc.scVector (cV L) (jV L)).devRef b

theorem own_ne {a b : Ref sig .scVector} (h : a ≠ b) : own L a ≠ own L b := fun e => h (Proc.devRef_injective _ e)

abbrev restSems : SP F :=
  bigSep (((((ownCells (thr d L)).erase (cell d L cc0_scratch4.sem)).erase (cell d L cc0_scratch5.sem)).erase (cell d L cc0_scoped0.sem)).erase (cell d L cc0_scoped1.sem)) fun g => semVal g 0

abbrev restBufs : SP F :=
  bigSep (((((ownRefs (τ := τ) (.scVector (cV L) (jV L))).erase (own L cc0_scratch0)).erase (own L cc0_scratch1)).erase (own L cc0_scratch2)).erase (own L cc0_scratch3))
    fun b => iprop(∃ f, ((d, b) : Loc nD τ sig) ↦{fullShare} f)

/-- The four scratch buffers are among the tile's own. -/
theorem ownBufs_tile :
    (ownBufs (thr d L) : SP F)
      = iprop((∃ T, tabP d L T) ∗ (∃ m, metaP d L m) ∗ rowAny d L ∗ outAny d L ∗ restBufs d L) := by
  unfold SparseCore.Cfg.ownBufs
  refine (SparseCore.bigSep_erase' (SparseCore.Cfg.mem_ownRefs_of_owner (p := Proc.scVector (cV L) (jV L)) (b := own L cc0_scratch0) rfl)).trans ?_
  rw [SparseCore.bigSep_erase' (Finset.mem_erase.mpr ⟨own_ne L (show (cc0_scratch1 : Ref sig .scVector) ≠ cc0_scratch0 by decide), SparseCore.Cfg.mem_ownRefs_of_owner (p := Proc.scVector (cV L) (jV L)) (b := own L cc0_scratch1) rfl⟩),
    SparseCore.bigSep_erase' (Finset.mem_erase.mpr ⟨own_ne L (show (cc0_scratch2 : Ref sig .scVector) ≠ cc0_scratch1 by decide),
      Finset.mem_erase.mpr ⟨own_ne L (show (cc0_scratch2 : Ref sig .scVector) ≠ cc0_scratch0 by decide), SparseCore.Cfg.mem_ownRefs_of_owner (p := Proc.scVector (cV L) (jV L)) (b := own L cc0_scratch2) rfl⟩⟩),
    SparseCore.bigSep_erase' (Finset.mem_erase.mpr ⟨own_ne L (show (cc0_scratch3 : Ref sig .scVector) ≠ cc0_scratch2 by decide),
      Finset.mem_erase.mpr ⟨own_ne L (show (cc0_scratch3 : Ref sig .scVector) ≠ cc0_scratch1 by decide),
      Finset.mem_erase.mpr ⟨own_ne L (show (cc0_scratch3 : Ref sig .scVector) ≠ cc0_scratch0 by decide), SparseCore.Cfg.mem_ownRefs_of_owner (p := Proc.scVector (cV L) (jV L)) (b := own L cc0_scratch3) rfl⟩⟩⟩)]

theorem tile_body (hF : (K (F := F)).Facts) {q q' : PosShare TreeShare} {fv : featM.view.ty.Contents (Elt F)} {fm : metaH.view.ty.Contents (Elt F)}
    (hM : ∀ m, MetaIs L fm m → ∀ r < 512, MetaOK L (liOf L (wOf m r)) (wOf m r)) (O : CellTallies nD τ sig (HIx 1)) (W : Waits sig (HIx 1)) (hO : ∀ g, O g none = 0) :
    iprop(levAts (K (F := F)).L (K (F := F)).lev ∗ emp ∗ (featP d L q fv ∗ mwP d L q' fm ∗ restN d L 0)
        ∗ scopedBufs (thr d L) ∗ scopedSems0 (thr d L) ∗ owes (thr d L) O W)
      ⊢ wpT d L (cc0__sc_body (F := F) L featM (Memref.isWhole_whole _) metaH (Memref.isWhole_whole _) outH (Memref.isWhole_whole _) tabM (Memref.isWhole_whole _) metaM (Memref.isWhole_whole _) rowM (Memref.isWhole_whole _) outM (Memref.isWhole_whole _) cc0_scratch4 cc0_scratch5 cc0_scoped0 cc0_scoped1)
          fun _ => iprop(tileDone d L fv fm ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L),
    show (ownSems0 (V d (cV L) (jV L)) : SP F) = _ from ownSems0_tile d L, show (ownBufs (V d (cV L) (jV L)) : SP F) = _ from ownBufs_tile d L]
  refine (show _ ⊢ iprop(((featP d L q fv ∗ mwP d L q' fm ∗ restN d L 0) ∗ scr d L ∗ sems d L ∗ oweP d L O W) ∗ restBufs d L ∗ restSems d L) from ?_).trans
    ((BIClass.sep_mono (sc_body_wp hM) .rfl).trans ((wp_frame_r _ _ _).trans (wp_mono _ _ _ fun _ => ?_)))
  · iintro ⟨#Hlv, -, Hgo, ⟨B0, B1, B2, B3, Hbufs⟩, ⟨S0, S1, S2, S3, Hsems⟩, HO⟩
    ihave Hmw := (show levAts (K (F := F)).L (K (F := F)).lev ⊢ Transfers.MayWaits (thr d L) (default : HIx 1) O from
      (K (F := F)).mayWaits_none (thr := thr d L) hO) $$ Hlv
    iframe
    unfold scr sems oweP
    iframe
    isplitl [Hmw]; · iexact Hmw
    iexists W; isplitr; · ipureintro; exact fun p hp => .inl hp
    iexact HO
  · unfold scr sems oweP
    iintro ⟨⟨Hd, ⟨B0, B1, B2, B3⟩, ⟨S0, S1, S2, S3⟩, -, HO⟩, Hbufs, Hsems⟩
    iframe

end Tile

end Cert.Proof.Roi

end
-- ==== Proof.Roi.Launch.lean ====
/-
  What the handshakes of the tiles' call carry, and the two facts the launch asks about the tiles: each runs from what it
  is handed to what it gives back, and a SparseCore's share is its sixteen tiles' shares.
-/
module

public import proofs.«01_k».proof.Proof.Roi.Obl
public import Idealize.ShloMosaic.Lib.SparseCore.Quiescent
public import Idealize.ShloMosaic.Lib.Pipeline.Frame
public import Idealize.ShloMosaic.Lib.ShareLeaves

@[expose] public section

noncomputable section

namespace Cert.Proof.Roi

open Cert.KernelIdeal Cert.KernelIdeal.Gen
open Idealize.ShloMosaic Idealize.ShloMosaic.StableHlo Idealize.ShloMosaic.ShareLeaves
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The grid point of a SparseCore's number and a subcore's. -/
def coordsV (c : Fin (grid0.bound 0)) (s : Fin (grid0.bound 1)) : grid0.Coords :=
  fun | 0 => c | 1 => s | ⟨_ + 2, h⟩ => absurd h (Nat.not_lt.2 (Nat.le_add_left _ _))

/-- A tile's share of the image and of the table of bins. -/
abbrev shareOf (c : Fin 2) (s : Fin 16) : PosShare TreeShare := leaf 4 (leaf 1 fullShare c) s

variable (fv : Dev nD → featM.view.ty.Contents (Elt F)) (fm : Dev nD → metaH.view.ty.Contents (Elt F))

/-- What a tile is handed. -/
abbrev goP (d : Dev nD) (c : Fin 2) (s : Fin 16) : SP F :=
  iprop(featP d (coordsV c s) (shareOf c s) (fv d) ∗ mwP d (coordsV c s) (shareOf c s) (fm d) ∗ restN d (coordsV c s) 0)

/-- What a tile gives back. -/
abbrev tdP (d : Dev nD) (c : Fin 2) (s : Fin 16) : SP F := tileDone d (coordsV c s) (fv d) (fm d)

def P : (K (F := F)).Pay (nD := nD) (Val := Elt F) (Name := ℕ) (U := UU) where
  st := fun q d c => match q with | 0 => bigSep Finset.univ fun s : Fin 16 => goP fv fm d c s
  dn := fun q d c => match q with | 0 => bigSep Finset.univ fun s : Fin 16 => tdP fv fm d c s
  go := fun q d c s => match q with | 0 => goP fv fm d c s
  td := fun q d c s => match q with | 0 => tdP fv fm d c s
  x := fun _ _ => iprop(emp)

/-- What may be kept in an invariant. -/
abbrev Keep (A : SP F) : Prop := BI.Storable (upEmb : UEmb _ (MT nD τ sig (HIx 1) (Elt F) ℕ UU ℕ)) A

omit [FloatOps F] in
theorem keep_rowPt (d : Dev nD) (i : grid0.Coords) (r : ℕ) (f : Buf (Elt F) (outH.view.loc (thr d i))) : Keep (F := F) (rowPt d i r f) := inferInstance

theorem keep_doneP (d : Dev nD) (i : grid0.Coords) (T : tabM.view.ty.Contents (Elt F)) (m : metaM.view.ty.Contents (Elt F)) (r : ℕ) :
    Keep (F := F) (doneP d i T m r) := by
  have := keep_rowPt (F := F) d i r
  unfold doneP
  infer_instance

theorem keep_td (d : Dev nD) (c : Fin 2) (s : Fin 16) : Keep (tdP fv fm d c s) := by
  have := keep_doneP (F := F) d (coordsV c s)
  unfold tdP tileDone doneN
  infer_instance

omit [FloatOps F] in
theorem keep_go (d : Dev nD) (c : Fin 2) (s : Fin 16) : Keep (goP fv fm d c s) := by
  have := keep_rowPt (F := F) d (coordsV c s)
  unfold goP restN featP mwP
  infer_instance

instance P_storable : (P (F := F) fv fm).IsStorable where
  st q d c := match q with
    | 0 => by have := keep_go fv fm d c; exact (inferInstance : Keep (bigSep Finset.univ fun s : Fin 16 => goP fv fm d c s))
  dn q d c := match q with
    | 0 => by have := keep_td fv fm d c; exact (inferInstance : Keep (bigSep Finset.univ fun s : Fin 16 => tdP fv fm d c s))
  go q d c s := match q with | 0 => keep_go fv fm d c s
  td q d c s := match q with | 0 => keep_td fv fm d c s

theorem defs₀_vector (c : Fin τ.nSC) (s : Fin τ.nSub) :
    defs₀ (F := F) (.scVector c s) 0 ()
      = SparseCore.onTile hcore0 hsub0 (fun c s => cc0__sc_body (coordsV c s)
          featM (Memref.isWhole_whole _) metaH (Memref.isWhole_whole _) outH (Memref.isWhole_whole _) tabM (Memref.isWhole_whole _) metaM (Memref.isWhole_whole _) rowM (Memref.isWhole_whole _) outM (Memref.isWhole_whole _) cc0_scratch4 cc0_scratch5 cc0_scoped0 cc0_scoped1) ⟨⟩ c s := rfl

omit [FloatOps F] in
theorem obl_post {thr : Thread nD τ} {A B C : SP F} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe
  iexists W'; isplitr
  · ipureintro; exact fun p hp => (hW' p hp).imp_right Or.inl
  · iexact HO

/-- The rows every tile's table asks for lie in the image. -/
def TablesOK (fm : Dev nD → metaH.view.ty.Contents (Elt F)) : Prop :=
  ∀ d i m, MetaIs (F := F) i (fm d) m → ∀ r < 512, MetaOK i (liOf i (wOf m r)) (wOf m r)

set_option maxRecDepth 16384 in
theorem tileObl (hF : (K (F := F)).Facts) (hM : TablesOK fm) : (K (F := F)).TileObl (D (F := F)) 𝒱 (P fv fm) v₀ 0 := by
  intro d c i O W hO _ _
  simp only [show (P fv fm).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (hM d _) O W hO).trans (wp_mono frame _ _ fun _ => obl_post)

theorem vecSplit : (K (F := F)).VecSplit' (P fv fm) 0 := by
  intro d c
  show (bigSep Finset.univ fun s : Fin 16 => goP fv fm d c s) ⊢ |={Set.univ}=> iprop(
      (bigSep Finset.univ fun s : Fin 16 => goP fv fm d c s)
      ∗ ((bigSep Finset.univ fun s : Fin 16 => tdP fv fm d c s) -∗ bigSep Finset.univ fun s : Fin 16 => tdP fv fm d c s))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : SP F) := bigSep_emp_const s

theorem hu₀ : (ownU (u₀ (F := F)) : SP F)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fv fm).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) fv fm).x q thr) = bigSep Finset.univ fun _ => iprop(emp) from
    bigSep_congr fun _ _ => bigSep_univ_of_subsingleton (0 : Fin 1), bigSep_emp']
  iempintro

end Cert.Proof.Roi

end
-- ==== Proof.Roi.Split.lean ====
/-
  The result dealt out to the tiles, row by row, and gathered from them again with what each row holds; the image and the
  table dealt out by shares.
-/
module

public import proofs.«01_k».proof.Proof.Roi.Launch

@[expose] public section

noncomputable section

namespace Cert.Proof.Roi

open Cert.KernelIdeal Cert.KernelIdeal.Gen
open Idealize.ShloMosaic Idealize.ShloMosaic.StableHlo Idealize.ShloMosaic.ShareLeaves
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Pieces each with some contents of which something is known: contents for all at once. -/
theorem all_out {J A : Type} [DecidableEq J] [Nonempty A] (s : Finset J) (Q : J → A → Prop) (Φ : J → A → SP F) :
    (bigSep s fun j => iprop(∃ f, ⌜Q j f⌝ ∗ Φ j f)) ⊢ iprop(∃ fs : J → A, ⌜∀ j ∈ s, Q j (fs j)⌝ ∗ bigSep s fun j => Φ j (fs j)) := by
  induction s using Finset.induction_on with
  | empty =>
    rw [BI.bigSep_empty]
    iintro H
    iexists fun _ => Classical.arbitrary A
    isplitr
    · ipureintro; intro j hj; exact absurd hj (Finset.notMem_empty j)
    · rw [BI.bigSep_empty]; iexact H
  | insert a s ha ih =>
    rw [SparseCore.bigSep_insert' ha]
    iintro ⟨⟨%f, %hf, Hf⟩, Hs⟩
    ihave H := ih $$ Hs
    icases H with ⟨%fs, %hfs, Hs⟩
    iexists Function.update fs a f
    isplitr
    · ipureintro
      intro j hj
      rcases Finset.mem_insert.mp hj with rfl | hj
      · rw [Function.update_self]; exact hf
      · have hne : j ≠ a := fun e => ha (by rw [← e]; exact hj)
        rw [Function.update_of_ne hne]; exact hfs j hj
    · rw [SparseCore.bigSep_insert' ha, Function.update_self]
      isplitl [Hf]; · iexact Hf
      rw [show (bigSep s fun j => Φ j (Function.update fs a f j)) = bigSep s fun j => Φ j (fs j) from
        bigSep_congr fun j hj => by
          have hne : j ≠ a := fun e => ha (by rw [← e]; exact hj)
          rw [Function.update_of_ne hne]]
      iexact Hs

/-! ## The result's rows -/

abbrev outL (d : Dev nD) : Loc nD τ sig := (SparseCore.T d).loc main_v103
abbrev featL (d : Dev nD) : Loc nD τ sig := (SparseCore.T d).loc main_v3
abbrev metaL (d : Dev nD) : Loc nD τ sig := (SparseCore.T d).loc main_v102

/-- A row's number: the tile's, and its number among the tile's. -/
abbrev RowNo : Type := (Fin 2 × Fin 16) × ℕ
abbrev rowNos : Finset RowNo := (Finset.univ ×ˢ Finset.univ) ×ˢ Finset.range 512
/-- A row's positions in the result. -/
abbrev rowK (p : RowNo) : Finset S1024x16x896.Idx := rowSet (coordsV p.1.1 p.1.2) p.2

theorem mem_rowK (p : RowNo) (x : S1024x16x896.Idx) : x ∈ rowK p ↔ (x 0).val = 512 * p.1.1.val + p.2 ∧ (x 1).val = p.1.2.val := by
  unfold rowK rowSet
  rw [Finset.mem_filter]
  exact ⟨fun h => h.2, fun h => ⟨Finset.mem_univ _, h⟩⟩

theorem rows_disjoint : ∀ a ∈ rowNos, ∀ b ∈ rowNos, a ≠ b → Disjoint (rowK a) (rowK b) := by
  rintro ⟨⟨c, s⟩, r⟩ ha ⟨⟨c', s'⟩, r'⟩ hb hab
  rw [Finset.disjoint_left]
  intro x hx hy
  obtain ⟨h0, h1⟩ := (mem_rowK _ x).mp hx
  obtain ⟨k0, k1⟩ := (mem_rowK _ x).mp hy
  have hr := Finset.mem_range.mp (Finset.mem_product.mp ha).2
  have hr' := Finset.mem_range.mp (Finset.mem_product.mp hb).2
  simp only at h0 h1 k0 k1 hr hr'
  have e1 : c = c' := Fin.ext (by omega)
  have e2 : s = s' := Fin.ext (by omega)
  have e3 : r = r' := by subst e1; omega
  exact hab (by subst e1; subst e2; subst e3; rfl)

theorem rows_cover : rowNos.biUnion rowK = (Finset.univ : Finset S1024x16x896.Idx) := by
  ext x
  simp only [Finset.mem_biUnion, Finset.mem_univ, iff_true]
  have h0 : (x 0).val < 1024 := (x 0).isLt
  have h1 : (x 1).val < 16 := (x 1).isLt
  refine ⟨((⟨(x 0).val / 512, by omega⟩, ⟨(x 1).val, h1⟩), (x 0).val % 512), ?_, (mem_rowK _ x).mpr ⟨?_, rfl⟩⟩
  · exact Finset.mem_product.mpr ⟨Finset.mem_product.mpr ⟨Finset.mem_univ _, Finset.mem_univ _⟩, Finset.mem_range.mpr (Nat.mod_lt _ (by omega))⟩
  · simp only; omega

theorem rows_deal (d : Dev nD) (Φ : RowNo → SP F) :
    (bigSep rowNos Φ) = bigSep Finset.univ fun c : Fin 2 => bigSep Finset.univ fun s : Fin 16 => bigSep (Finset.range 512) fun r => Φ ((c, s), r) := by
  rw [SparseCore.bigSep_product, SparseCore.bigSep_product]

theorem out_deal (d : Dev nD) (f : Buf (Elt F) (outL d)) :
    (outL d ↦{fullShare} f : SP F) ⊢ bigSep Finset.univ fun c : Fin 2 => bigSep Finset.univ fun s : Fin 16 => restN d (coordsV c s) 0 := by
  refine (Entails.of_eq (show (outL d ↦{fullShare} f : SP F) = bigSep rowNos fun p : RowNo => outL d ↦[(rowK p : Finset (Idx (outL d)))]{fullShare} f by
    rw [← pointsTo_biUnion rowNos (ℓ := outL d) rowK rows_disjoint, rows_cover]; try rfl)).trans ?_
  rw [rows_deal (F := F) d]
  refine BI.bigSep_mono fun c _ => BI.bigSep_mono fun s _ => ?_
  unfold restN
  rw [← Finset.range_eq_Ico]
  refine BI.bigSep_mono fun r _ => (show iprop(outL d ↦[(rowK ((c, s), r) : Finset (Idx (outL d)))]{fullShare} f) ⊢ iprop(∃ f, rowPt (F := F) d (coordsV c s) r f) from ?_)
  iintro H
  iexists f
  iexact H

variable (fv : Dev nD → featM.view.ty.Contents (Elt F)) (fm : Dev nD → metaH.view.ty.Contents (Elt F))

/-- What a tile's row `r` holds at the end. -/
def RowFact (d : Dev nD) (i : grid0.Coords) (r : ℕ) (f : outH.view.ty.Contents (Elt F)) : Prop :=
  ∃ T m, TabIs i (fv d) T ∧ MetaIs (F := F) i (fm d) m ∧ RowDone i T m r f

/-- What the result holds at the end: every tile's rows. -/
def OutIs (d : Dev nD) (g : outH.view.ty.Contents (Elt F)) : Prop :=
  ∀ (c : Fin 2) (s : Fin 16), ∀ r < 512, RowFact fv fm d (coordsV c s) r g

/-- A row's facts look at the row only. -/
theorem RowFact_congr {d : Dev nD} {i : grid0.Coords} {r : ℕ} (hr : r < 512) {f g : outH.view.ty.Contents (Elt F)} (h : ∀ x ∈ rowSet i r, g x = f x)
    (H : RowFact fv fm d i r f) : RowFact fv fm d i r g := by
  obtain ⟨T, m, hT, hm, hR⟩ := H
  refine ⟨T, m, hT, hm, fun hG pw hpw ph hph l hl => (Eq.trans ?_ (hR hG pw hpw ph hph l hl))⟩
  unfold hv
  have h0 : (i 0).val < 2 := (i 0).isLt
  have h1 : (i 1).val < 16 := (i 1).isLt
  show g (at0 pos1024 ![512 * (i 0).val + r, (i 1).val, (ph * 7 + pw) * 16 + l]) = f (at0 pos1024 ![512 * (i 0).val + r, (i 1).val, (ph * 7 + pw) * 16 + l])
  refine h _ (Finset.mem_filter.mpr ⟨Finset.mem_univ _, ?_, ?_⟩)
  · exact at0_val pos1024 _ 0 (show 512 * (i 0).val + r < 1024 by omega)
  · exact at0_val pos1024 _ 1 (show (i 1).val < 16 by omega)

theorem tile_rows (d : Dev nD) (c : Fin 2) (s : Fin 16) :
    tdP fv fm d c s ⊢ bigSep (Finset.range 512) fun r => iprop(∃ f, ⌜RowFact fv fm d (coordsV c s) r f⌝ ∗ rowPt d (coordsV c s) r f) := by
  unfold tdP tileDone
  iintro ⟨%T, %m, %h, H⟩
  istop
  unfold doneN
  refine BI.bigSep_mono fun r _ => (show iprop(∃ f, ⌜RowDone (coordsV c s) T m r f⌝ ∗ rowPt d (coordsV c s) r f)
    ⊢ iprop(∃ f, ⌜RowFact fv fm d (coordsV c s) r f⌝ ∗ rowPt d (coordsV c s) r f) from ?_)
  iintro ⟨%f, %hf, H⟩
  iexists f
  isplitr
  · ipureintro; exact ⟨T, m, h.1, h.2, hf⟩
  · iexact H

/-- The rows the tiles gave back, as the whole result. -/
theorem out_gather [Nonempty (F .f32)] (d : Dev nD) :
    (bigSep Finset.univ fun c : Fin 2 => bigSep Finset.univ fun s : Fin 16 => tdP fv fm d c s)
      ⊢ iprop(∃ g : Buf (Elt F) (outL d), ⌜OutIs fv fm d g⌝ ∗ outL d ↦{fullShare} g) := by
  have : Nonempty (Buf (Elt F) (outL d)) := ⟨fun _ => Classical.arbitrary (F .f32)⟩
  refine (BI.bigSep_mono fun c _ => BI.bigSep_mono fun s _ => tile_rows fv fm d c s).trans ?_
  refine (Entails.of_eq (rows_deal (F := F) d fun p => iprop(∃ f : Buf (Elt F) (outL d), ⌜RowFact fv fm d (coordsV p.1.1 p.1.2) p.2 f⌝ ∗ outL d ↦[(rowK p : Finset (Idx (outL d)))]{fullShare} f)).symm).trans ?_
  refine (all_out rowNos (fun p (f : Buf (Elt F) (outL d)) => RowFact fv fm d (coordsV p.1.1 p.1.2) p.2 f) (fun p f => (outL d ↦[(rowK p : Finset (Idx (outL d)))]{fullShare} f : SP F))).trans ?_
  iintro ⟨%fs, %hfs, H⟩
  ihave H' := (pointsTo_biUnion_join (ℓ := outL d) (q := fullShare) (Val := Elt F) rowNos rowK fs (Classical.arbitrary _) rows_disjoint) $$ H
  icases H' with ⟨%g, %hg, Hg⟩
  iexists g
  isplitr
  · ipureintro
    intro c s r hr
    have hm : ((c, s), r) ∈ rowNos := Finset.mem_product.mpr ⟨Finset.mem_product.mpr ⟨Finset.mem_univ _, Finset.mem_univ _⟩, Finset.mem_range.mpr hr⟩
    exact RowFact_congr fv fm hr (hg _ hm) (hfs _ hm)
  · ihave Hg' := (Entails.of_eq (show (outL d ↦[rowNos.biUnion rowK]{fullShare} g : SP F) = outL d ↦{fullShare} g by rw [rows_cover]; try rfl)) $$ Hg
    iexact Hg'

/-! ## The shares of what the tiles only read -/

omit [FloatOps F] in
theorem shares (ℓ : Loc nD τ sig) (f : Buf (Elt F) ℓ) :
    (ℓ ↦{fullShare} f : SP F) = bigSep Finset.univ fun c : Fin 2 => bigSep Finset.univ fun s : Fin 16 => ℓ ↦{shareOf c s} f := by
  refine (pointsTo_leaves Finset.univ f 1 fullShare).trans ?_
  exact bigSep_congr fun c _ => pointsTo_leaves Finset.univ f 4 _

/-- The tiles' call handed what it takes. -/
theorem st_deal (d : Dev nD) (f : Buf (Elt F) (outL d)) :
    iprop((featL d ↦{fullShare} (fv d : Buf (Elt F) (featL d))) ∗ (metaL d ↦{fullShare} (fm d : Buf (Elt F) (metaL d))) ∗ outL d ↦{fullShare} f)
      ⊢ (bigSep Finset.univ fun c : Fin ((K (F := F)).nCore 0) => (P fv fm).st 0 d c : SP F) := by
  show _ ⊢ bigSep Finset.univ fun c : Fin 2 => bigSep Finset.univ fun s : Fin 16 => goP fv fm d c s
  unfold goP
  simp only [bigSep_sep']
  refine BIClass.sep_mono (Entails.of_eq (shares (featL d) _)) (BIClass.sep_mono (Entails.of_eq (shares (metaL d) _)) (out_deal d f))

end Cert.Proof.Roi

end
-- ==== Proof.Roi.Run.lean ====
/-
  The whole program's run: the host lays out the image and computes the table of bins, the tiles fill the result, the host
  lays the result out; the arguments stay.
-/
module

public import proofs.«01_k».proof.Proof.Roi.Split

@[expose] public section

noncomputable section

namespace Cert.Proof.Roi

open Cert.KernelIdeal Cert.KernelIdeal.Gen
open Idealize.ShloMosaic Idealize.ShloMosaic.StableHlo Idealize.ShloMosaic.ShareLeaves
open Idealize.ShloMosaic.TcCoe
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The arguments at the launch. -/
abbrev argImage (d : Dev nD) : FVec F S4x256x50x50 .f32 := m ((SparseCore.T d).loc main_arg0)
abbrev argIds (d : Dev nD) : FVec F S4 .f32 := m ((SparseCore.T d).loc main_arg1)
abbrev argRois (d : Dev nD) : FVec F S4x256x4 .f32 := m ((SparseCore.T d).loc main_arg2)

/-- The image and the table of bins as the tiles find them. -/
abbrev fvOf (d : Dev nD) : featM.view.ty.Contents (Elt F) := featFn (argImage m d)
abbrev fmOf (d : Dev nD) : metaH.view.ty.Contents (Elt F) := metaFn (argIds m d) (argRois m d)

/-- The buffers the host's lines hold, and those they still hold after the tiles' call. -/
abbrev held₁ : Finset (DevRef τ sig) := Pipeline.ucRefs τ sig
abbrev held₂ : Finset (DevRef τ sig) := (held₁.erase (dv main_v3)).erase (dv main_v102)

theorem mem_held₁ (r : Ref sig .tc) (h : ¬ (dv r).isScoped) : dv r ∈ held₁ :=
  Finset.mem_filter.mpr ⟨devRef_mem_tcRefs r, h⟩

theorem dv_ne {r r' : Ref sig .tc} (h : r ≠ r') : dv r ≠ dv r' := fun e => h (Proc.devRef_injective _ e)

theorem mem_held₂ (r : Ref sig .tc) (h : ¬ (dv r).isScoped) (h₁ : r ≠ main_v3) (h₂ : r ≠ main_v102) : dv r ∈ held₂ :=
  Finset.mem_erase.mpr ⟨dv_ne h₂, Finset.mem_erase.mpr ⟨dv_ne h₁, mem_held₁ r h⟩⟩

theorem opsPre_in : ∀ op ∈ (opsPre : List (HloOp τ sig (Elt F))), op.bufs ⊆ held₁ := fun op h => Pipeline.sub_ucRefs op (opsPre_sub op h)

theorem opsBack_in : ∀ op ∈ (opsBack : List (HloOp τ sig (Elt F))), op.bufs ⊆ held₂ := by
  intro op h
  simp only [List.mem_cons, List.not_mem_nil, or_false] at h
  have hm : ∀ r : Ref sig .tc, r ∈ ([main_v103, main_v104, main_v105, main_v106, main_v107] : List (Ref sig .tc)) → dv r ∈ held₂ := by
    intro r hr
    refine mem_held₂ r ?_ ?_ ?_ <;> (revert r; decide)
  rcases h with rfl | rfl | rfl | rfl
  · exact Finset.insert_subset (hm _ (by decide)) (Finset.singleton_subset_iff.mpr (hm _ (by decide)))
  · exact Finset.insert_subset (hm _ (by decide)) (Finset.singleton_subset_iff.mpr (hm _ (by decide)))
  · exact Finset.insert_subset (hm _ (by decide)) (Finset.singleton_subset_iff.mpr (hm _ (by decide)))
  · exact Finset.insert_subset (hm _ (by decide)) (Finset.singleton_subset_iff.mpr (hm _ (by decide)))

theorem opsBack_fresh' : ∀ op ∈ (opsBack : List (HloOp τ sig (Elt F))), op.fresh = ∅ := List.forall_iff_forall_mem.mp opsBack_fresh

/-- The contents after the host's first lines, and with the tiles' result. -/
abbrev V₁ (d : Dev nD) : Valuation τ sig (Elt F) := after opsPre (launchContents m d)
def V₂ (d : Dev nD) (g : Buf (Elt F) (outL d)) : Valuation τ sig (Elt F) := Function.update (V₁ m d) (dv main_v103) g

theorem V₂_out (d : Dev nD) (g : Buf (Elt F) (outL d)) : V₂ m d g (dv main_v103) = g := Function.update_self ..

theorem V₂_other (d : Dev nD) (g : Buf (Elt F) (outL d)) (b : DevRef τ sig) (h : b ≠ dv main_v103) : V₂ m d g b = V₁ m d b := Function.update_of_ne h ..

/-- The arguments are as they were. -/
theorem arg_stays (d : Dev nD) (g : Buf (Elt F) (outL d)) (r : Ref sig .tc) (hr : r ∈ ([main_arg0, main_arg1, main_arg2] : List (Ref sig .tc))) :
    after opsBack (V₂ m d g) (dv r) = m ((SparseCore.T d).loc r) := by
  have hb : r ∉ outsBack := by revert r; decide
  have hn : r ≠ main_v103 := by revert r; decide
  rw [after_of_writes_sub opsBack _ opsBack_writes hb, V₂_other m d g _ (dv_ne hn)]
  refine (pre_keep _ r ?_ ?_ ?_ ?_ ?_ ?_ ?_ ?_ ?_).trans rfl <;> (clear hb hn; revert r; decide)

theorem res_is (d : Dev nD) (g : Buf (Elt F) (outL d)) : after opsBack (V₂ m d g) (dv main_v107) = backFn g := by
  rw [back_val, V₂_out]

/-- The host's buffers with the call's three taken out. -/
theorem held_out (d : Dev nD) :
    (held (d.tc : Thread nD τ) held₁ (V₁ m d) : SP F)
      ⊢ iprop((featL d ↦{fullShare} (fvOf m d : Buf (Elt F) (featL d))) ∗ (metaL d ↦{fullShare} (fmOf m d : Buf (Elt F) (metaL d)))
          ∗ (∃ f, outL d ↦{fullShare} f) ∗ bigSep (held₂.erase (dv main_v103)) fun b => ((d, b) : Loc nD τ sig) ↦{fullShare} V₁ m d b) := by
  unfold held
  rw [SparseCore.bigSep_erase' (mem_held₁ main_v3 (by decide)), SparseCore.bigSep_erase' (Finset.mem_erase.mpr ⟨dv_ne (by decide), mem_held₁ main_v102 (by decide)⟩),
    SparseCore.bigSep_erase' (mem_held₂ main_v103 (by decide) (by decide) (by decide)),
    show V₁ m d (dv main_v3) = fvOf m d from pre_feat _, show V₁ m d (dv main_v102) = fmOf m d from pre_meta _]
  iintro ⟨H1, H2, H3, H4⟩
  isplitl [H1]; · iexact H1
  isplitl [H2]; · iexact H2
  isplitl [H3]; · iexists _; iexact H3
  iexact H4

/-- And with the result back. -/
theorem held_in (d : Dev nD) (g : Buf (Elt F) (outL d)) :
    iprop((outL d ↦{fullShare} g) ∗ bigSep (held₂.erase (dv main_v103)) fun b => ((d, b) : Loc nD τ sig) ↦{fullShare} V₁ m d b)
      ⊢ (held (d.tc : Thread nD τ) held₂ (V₂ m d g) : SP F) := by
  unfold held
  rw [SparseCore.bigSep_erase' (mem_held₂ main_v103 (by decide) (by decide) (by decide)), V₂_out,
    show (bigSep (held₂.erase (dv main_v103)) fun b => (((d.tc : Thread nD τ).1, b) : Loc nD τ sig) ↦{fullShare} V₂ m d g b : SP F)
      = bigSep (held₂.erase (dv main_v103)) fun b => ((d, b) : Loc nD τ sig) ↦{fullShare} V₁ m d b from
      bigSep_congr fun b hb => by rw [V₂_other m d g b (Finset.ne_of_mem_erase hb)]]

/-- What the host keeps to the end. -/
abbrev FIN (d : Dev nD) : SP F :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2))
    ∗ ∃ g, ⌜OutIs (fvOf m) (fmOf m) d g⌝ ∗ (SparseCore.T d).loc main_v107 ↦{fullShare} (backFn g : Buf (Elt F) ((SparseCore.T d).loc main_v107)))

theorem held_fin (d : Dev nD) (g : Buf (Elt F) (outL d)) (hg : OutIs (fvOf m) (fmOf m) d g) :
    (held (d.tc : Thread nD τ) held₂ (after opsBack (V₂ m d g)) : SP F) ⊢ FIN m d := by
  unfold held
  rw [SparseCore.bigSep_erase' (mem_held₂ main_arg0 (by decide) (by decide) (by decide)),
    SparseCore.bigSep_erase' (Finset.mem_erase.mpr ⟨dv_ne (by decide), mem_held₂ main_arg1 (by decide) (by decide) (by decide)⟩),
    SparseCore.bigSep_erase' (Finset.mem_erase.mpr ⟨dv_ne (by decide), Finset.mem_erase.mpr ⟨dv_ne (by decide), mem_held₂ main_arg2 (by decide) (by decide) (by decide)⟩⟩),
    SparseCore.bigSep_erase' (Finset.mem_erase.mpr ⟨dv_ne (by decide), Finset.mem_erase.mpr ⟨dv_ne (by decide),
      Finset.mem_erase.mpr ⟨dv_ne (by decide), mem_held₂ main_v107 (by decide) (by decide) (by decide)⟩⟩⟩),
    arg_stays m d g main_arg0 (by decide), arg_stays m d g main_arg1 (by decide), arg_stays m d g main_arg2 (by decide), res_is]
  iintro ⟨H0, H1, H2, H3, -⟩
  isplitl [H0]; · iexact H0
  isplitl [H1]; · iexact H1
  isplitl [H2]; · iexact H2
  iexists g; isplitr
  · ipureintro; exact hg
  · iexact H3

/-- What the tiles' call gives back, gathered. -/
theorem dn_gather [Nonempty (F .f32)] (d : Dev nD) :
    (bigSep Finset.univ fun c : Fin ((K (F := F)).nCore 0) => (P (fvOf m) (fmOf m)).dn 0 d c : SP F)
      ⊢ iprop(∃ g : Buf (Elt F) (outL d), ⌜OutIs (fvOf m) (fmOf m) d g⌝ ∗ outL d ↦{fullShare} g) :=
  out_gather (fvOf m) (fmOf m) d

theorem unscoped_held (d : Dev nD) :
    (unscopedBufs d (fun b => m ((SparseCore.T d).loc b)) : SP F) = held (d.tc : Thread nD τ) held₁ (launchContents m d) :=
  Pipeline.unscopedBufs_held d (launchContents m d)

set_option backward.isDefEq.respectTransparency.types false in
theorem hmain [Nonempty (F .f32)] (κ : GSem nD τ sig → ℕ) (d : Dev nD) :
    iprop((K (F := F)).ctx EH (P (fvOf m) (fmOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hbufs, Hts, -⟩, -⟩
  iapply (wp_seq 𝒱 none Set.univ d held₁ (fun _ => sc.run d 0 >>= fun _ => seq opsBack) opsPre opsPre_in opsPre_fresh (launchContents m d)) $$ [Hb Hbufs]
  · isplitl [Hb] <;> iassumption
  iintro ⟨Hb, Hheld⟩
  ihave Hh := (held_out m d) $$ Hheld
  icases Hh with ⟨Hf, Hm, ⟨%f, Ho⟩, Hrest⟩
  rw [wp_bind]
  iapply ((K (F := F)).wp_run (D (F := F)) 𝒱 (EH := EH) (P := P (fvOf m) (fmOf m)) κ d 0) $$ [Hst Hf Hm Ho Hb Hts Hrest]
  isplitr; · iexact Hctx
  isplitl [Hst]; · iexact Hst
  isplitl [Hf Hm Ho]
  · iapply (st_deal (fvOf m) (fmOf m) d f)
    isplitl [Hf]; · iexact Hf
    isplitl [Hm]; · iexact Hm
    iexact Ho
  iintro ⟨Hst, Hdn⟩
  ihave Hg := (dn_gather m d) $$ Hdn
  icases Hg with ⟨%g, %hg, Hg⟩
  ihave Hheld := (held_in m d g) $$ [Hg Hrest]
  · isplitl [Hg] <;> iassumption
  rw [show seq (opsBack : List (HloOp τ sig (Elt F))) = (seq opsBack >>= fun u => Pure.pure u) from (bind_pure _).symm]
  iapply (wp_seq 𝒱 none Set.univ d held₂ (fun u => Pure.pure u) opsBack opsBack_in opsBack_fresh' (V₂ m d g)) $$ [Hb Hheld]
  · isplitl [Hb] <;> iassumption
  iintro ⟨Hb, Hheld⟩
  ihave HF := (held_fin m d g hg) $$ Hheld
  rw [wp_pure]; imodintro
  isplitl [Hst]; · iexact Hst
  isplitl [HF]; · iexact HF
  isplitl [Hb] <;> iassumption

def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2))
  ∧ ∃ g, OutIs (fvOf m) (fmOf m) d g ∧ s'.mem.mem ((SparseCore.T d).loc main_v107) = (backFn g : Buf (Elt F) ((SparseCore.T d).loc main_v107))

/-- A whole buffer held is what the memory has, and stays held. -/
theorem read_off (s' : Phys nD τ sig (Elt F)) (ℓ : Loc nD τ sig) (f : Buf (Elt F) ℓ) :
    iprop(SI s' ∗ ℓ ↦{fullShare} f) ⊢ (iprop(⌜s'.mem.mem ℓ = f⌝ ∗ SI s') : SP F) := by
  refine (persistent_entails_right (SI_pointsTo_agree (st := s') (ℓ := ℓ) (I := Finset.univ) (q := fullShare) (f := f))).trans ?_
  iintro ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : SP F) := by
  iintro ⟨⟨H0, H1, H2, %g, %hg, H3⟩, HSI⟩
  ihave H := (read_off s' _ _) $$ [HSI H0]
  · isplitl [HSI] <;> iassumption
  icases H with ⟨%h0, HSI⟩
  ihave H := (read_off s' _ _) $$ [HSI H1]
  · isplitl [HSI] <;> iassumption
  icases H with ⟨%h1, HSI⟩
  ihave H := (read_off s' _ _) $$ [HSI H2]
  · isplitl [HSI] <;> iassumption
  icases H with ⟨%h2, HSI⟩
  ihave H := (read_off s' _ _) $$ [HSI H3]
  · isplitl [HSI] <;> iassumption
  icases H with ⟨%h3, -⟩
  ipureintro; exact ⟨⟨h0, h1, h2⟩, g, hg, h3⟩

def QC : PUnit × MemSt nD τ sig (Elt F) → Prop := fun r =>
  (∀ d : Dev nD, (r.2.mem ((SparseCore.T d).loc main_arg0) = m ((SparseCore.T d).loc main_arg0) ∧ r.2.mem ((SparseCore.T d).loc main_arg1) = m ((SparseCore.T d).loc main_arg1)
      ∧ r.2.mem ((SparseCore.T d).loc main_arg2) = m ((SparseCore.T d).loc main_arg2))
    ∧ ∃ g, OutIs (fvOf m) (fmOf m) d g ∧ r.2.mem ((SparseCore.T d).loc main_v107) = (backFn g : Buf (Elt F) ((SparseCore.T d).loc main_v107)))
  ∧ r.2.sem = fun _ => 0

/-- From a launch whose table of bins asks only for rows of the image, the program runs to its end without fault, every
    semaphore back at zero, the arguments as they were, and the result holding the ROIs' bins. -/
theorem run_main [∀ e, Nonempty (Elt F e)] (hM : TablesOK (fmOf m)) :
    θ_run (Cert.KernelIdeal.defs (F := F)) (Cert.KernelIdeal.threads (F := F)) ⟨m, fun _ => 0, ρ⟩ (QC m) :=
  have : Nonempty (F .f32) := (inferInstance : Nonempty (Elt F .f32))
  SparseCore.Cfg.θ_run_sc_quiescent (K := K (F := F)) (D := D (F := F)) (𝒱 := 𝒱) (EH := EH) (P := P (fvOf m) (fmOf m)) (A := ∅) facts v₀
    (fun q hq => match q with | 0 => nomatch hq)
    (fun q _ => match q with | 0 => tileObl (fvOf m) (fmOf m) facts hM)
    (fun q _ => match q with | 0 => SparseCore.Cfg.VecSplit.of_plain (vecSplit (fvOf m) (fmOf m)))
    m ρ main (fun _ => iprop(emp)) (FIN m) (u₀ (F := F)) (sep_elim_left.trans (hu₀ (fvOf m) (fmOf m))) (hmain m ρ) (fq m) (hfin m) (QC m) (fun _ h hz => ⟨h, hz⟩)

end Cert.Proof.Roi

end
-- ==== Proof.Roi.Words.lean ====
/-
  The table of bins read word by word: region `R`'s words are at 32 R, its bins' row starts, row counts, column starts and
  column counts, seven of each, and its image.
-/
module

public import proofs.«01_k».proof.Proof.Roi.Run
public import Idealize.ShloMosaic.Lib.Pointwise
public import Idealize.ShloMosaic.Lib.ReduceAll

@[expose] public section

noncomputable section

namespace Cert.Proof.Roi

open Cert.KernelIdeal Cert.KernelIdeal.Gen
open Idealize.ShloMosaic Idealize.ShloMosaic.TcCoe

variable {F : FTy → Type} [FloatOps F]

theorem pos1024x7 : ∀ a : Fin S1024x7.rank, 0 < S1024x7.size a := by decide
theorem pos1024x32 : ∀ a : Fin S1024x32.rank, 0 < S1024x32.size a := by decide
theorem pos1024x1 : ∀ a : Fin S1024x1.rank, 0 < S1024x1.size a := by decide
theorem posS1024 : ∀ a : Fin S1024.rank, 0 < S1024.size a := by decide

abbrev at7 (R p : ℕ) : S1024x7.Idx := at0 pos1024x7 ![R, p]
abbrev at32 (R j : ℕ) : S1024x32.Idx := at0 pos1024x32 ![R, j]
abbrev at1 (R : ℕ) : S1024.Idx := at0 posS1024 ![R]

theorem col_eq (R j q : ℕ) (hR : R < 1024) (hq : q < 7) {x : Fin 7} (hx : x.val = q) : (ValueIdx.ix2 (at32 R j 0) x : S1024x7.Idx) = at7 R q := by
  refine (at0_eq pos1024x7 _ _ ?_).symm
  intro a
  match a with
  | 0 => exact at0_val pos1024x32 _ 0 (show R < 1024 from hR)
  | 1 => exact hx

section Pack

variable (a : IVec S1024x7 32) (b : IVec S1024x1 32) (c : IVec S1024x7 32) (d : IVec S1024x1 32) (e : IVec S1024x7 32) (f : IVec S1024x1 32)
  (g : IVec S1024x7 32) (h : IVec S1024x1 32)

theorem pack_a (R p : ℕ) (hR : R < 1024) (hp : p < 7) : packOf a b c d e f g h (at32 R p) = a (at7 R p) := by
  unfold packOf
  have h1 : (at32 R p 1).val = p := at0_val _ _ 1 (show p < 32 by omega)
  pointwise [h1]
  split_ifs <;> first | (exfalso; omega) | exact congrArg a (col_eq R _ p hR hp (by first | rfl | (dsimp only; omega)))

theorem pack_c (R p : ℕ) (hR : R < 1024) (hp : p < 7) : packOf a b c d e f g h (at32 R (8 + p)) = c (at7 R p) := by
  unfold packOf
  have h1 : (at32 R (8 + p) 1).val = 8 + p := at0_val _ _ 1 (show 8 + p < 32 by omega)
  pointwise [h1]
  split_ifs <;> first | (exfalso; omega) | exact congrArg c (col_eq R _ p hR hp (by first | rfl | (dsimp only; omega)))

theorem pack_e (R p : ℕ) (hR : R < 1024) (hp : p < 7) : packOf a b c d e f g h (at32 R (16 + p)) = e (at7 R p) := by
  unfold packOf
  have h1 : (at32 R (16 + p) 1).val = 16 + p := at0_val _ _ 1 (show 16 + p < 32 by omega)
  pointwise [h1]
  split_ifs <;> first | (exfalso; omega) | exact congrArg e (col_eq R _ p hR hp (by first | rfl | (dsimp only; omega)))

theorem pack_g (R p : ℕ) (hR : R < 1024) (hp : p < 7) : packOf a b c d e f g h (at32 R (24 + p)) = g (at7 R p) := by
  unfold packOf
  have h1 : (at32 R (24 + p) 1).val = 24 + p := at0_val _ _ 1 (show 24 + p < 32 by omega)
  pointwise [h1]
  split_ifs <;> first | (exfalso; omega) | exact congrArg g (col_eq R _ p hR hp (by first | rfl | (dsimp only; omega)))

theorem pack_h (R : ℕ) (hR : R < 1024) : packOf a b c d e f g h (at32 R 31) = h (at0 pos1024x1 ![R, 0]) := by
  unfold packOf
  have h1 : (at32 R 31 1).val = 31 := at0_val _ _ 1 (show 31 < 32 by omega)
  pointwise [h1]
  refine congrArg h (at0_eq pos1024x1 _ _ ?_).symm
  intro a
  match a with
  | 0 => exact at0_val pos1024x32 _ 0 (show R < 1024 from hR)
  | 1 => rfl

end Pack

/-- Word `j` of region `R`'s row of the table. -/
theorem table_at (hs hl ws wl : IVec S1024x7 32) (img : IVec S1024 32) (R j : ℕ) (hR : R < 1024) (hj : j < 32) :
    mvw (F := F) (tableOf hs hl ws wl img) (32 * R + j)
      = packOf hs zeroCol hl zeroCol ws zeroCol wl (broadcastInDim S1024x1 ![0] bcast_S1024_S1024x1_0 img) (at32 R j) := by
  show tableOf hs hl ws wl img (at0 posMeta ![32 * R + j]) = _
  unfold tableOf
  refine shapeCast_apply _ _ _ _ ?_
  rw [Shape.rowMajor_val_two, Shape.rowMajor_val_one]
  rw [show (at32 R j 0).val = R from at0_val pos1024x32 _ 0 hR, show (at32 R j 1).val = j from at0_val pos1024x32 _ 1 hj,
    show (at0 posMeta ![32 * R + j] 0).val = 32 * R + j from at0_val posMeta _ 0 (show 32 * R + j < 32768 by omega)]
  show R * 32 + j = _
  omega

section Meta

variable (ids : FVec F S4 .f32) (rois : FVec F S4x256x4 .f32) (R p : ℕ) (hR : R < 1024) (hp : p < 7)

include hR hp in
theorem meta_hs : mvw (F := F) (metaFn ids rois) (32 * R + p) = hsOf rois (at7 R p) := by
  unfold metaFn; rw [table_at _ _ _ _ _ R p hR (by omega), pack_a _ _ _ _ _ _ _ _ R p hR hp]
include hR hp in
theorem meta_hl : mvw (F := F) (metaFn ids rois) (32 * R + (8 + p)) = heOf rois (at7 R p) - hsOf rois (at7 R p) := by
  unfold metaFn; rw [table_at _ _ _ _ _ R (8 + p) hR (by omega), pack_c _ _ _ _ _ _ _ _ R p hR hp]; rfl
include hR hp in
theorem meta_ws : mvw (F := F) (metaFn ids rois) (32 * R + (16 + p)) = wsOf rois (at7 R p) := by
  unfold metaFn; rw [table_at _ _ _ _ _ R (16 + p) hR (by omega), pack_e _ _ _ _ _ _ _ _ R p hR hp]
include hR hp in
theorem meta_wl : mvw (F := F) (metaFn ids rois) (32 * R + (24 + p)) = weOf rois (at7 R p) - wsOf rois (at7 R p) := by
  unfold metaFn; rw [table_at _ _ _ _ _ R (24 + p) hR (by omega), pack_g _ _ _ _ _ _ _ _ R p hR hp]; rfl

theorem posS4 : ∀ a : Fin S4.rank, 0 < S4.size a := by decide

/-- The image number of the batch entry `n`. -/
abbrev idOf (n : ℕ) : BitVec 32 := FloatOps.fptosi 32 (ids (at0 posS4 ![n]))

include hR in
theorem meta_img : mvw (F := F) (metaFn ids rois) (32 * R + 31) = idOf ids (R / 256) := by
  unfold metaFn; rw [table_at _ _ _ _ _ R 31 hR (by omega), pack_h _ _ _ _ _ _ _ _ R hR]
  unfold imgOf
  have h0 : (at0 pos1024x1 ![R, 0] 0).val = R := at0_val pos1024x1 _ 0 hR
  pointwise [h0]
  refine congrArg (fun x => FloatOps.fptosi 32 (ids x)) (at0_eq posS4 _ _ ?_).symm
  intro a
  match a with
  | 0 => rfl

end Meta

/-! ## Clamped edges are between 0 and 50 -/

theorem clamp_int (v : BitVec 32) : (IntOp.minsi 50#32 (IntOp.maxsi 0#32 v)).toInt = min 50 (max 0 v.toInt) := by
  have h0 : (0#32).toInt = 0 := rfl
  have h50 : (50#32).toInt = 50 := rfl
  unfold IntOp.minsi IntOp.maxsi
  simp only [BitVec.slt_eq_decide, decide_eq_true_eq, h0, h50]
  by_cases h : v.toInt < 0
  · rw [if_pos h, h0, if_neg (by omega), h0]; omega
  · rw [if_neg h]
    by_cases h' : 50 < v.toInt
    · rw [if_pos h', h50]; omega
    · rw [if_neg h']; omega

theorem toNat_of_int (v : BitVec 32) (h : 0 ≤ v.toInt) : (v.toNat : ℤ) = v.toInt := by
  have := v.isLt
  rw [BitVec.toInt_eq_toNat_cond] at h ⊢
  split_ifs at h ⊢ <;> omega

theorem place_int (t : IVec S1024x7 32) (o : IVec S1024 32) (R p : ℕ) (hR : R < 1024) (hp : p < 7) :
    (placeOf t o (at7 R p)).toInt = min 50 (max 0 (t (at7 R p) + o (at1 R)).toInt) := by
  unfold placeOf
  pointwise
  rw [clamp_int]
  show min 50 (max 0 (t (at7 R p) + o (ValueIdx.ix1 (at7 R p 0))).toInt) = _
  refine congrArg (fun x => min 50 (max 0 (t (at7 R p) + o x).toInt)) (at0_eq posS1024 _ _ ?_).symm
  intro a
  match a with
  | 0 => exact at0_val pos1024x7 _ 0 (show R < 1024 from hR)

theorem place_nat (t : IVec S1024x7 32) (o : IVec S1024 32) (R p : ℕ) (hR : R < 1024) (hp : p < 7) :
    ((placeOf t o (at7 R p)).toNat : ℤ) = min 50 (max 0 (t (at7 R p) + o (at1 R)).toInt) := by
  have h := place_int t o R p hR hp
  rw [toNat_of_int _ (by omega), h]

theorem place_le (t : IVec S1024x7 32) (o : IVec S1024 32) (R p : ℕ) (hR : R < 1024) (hp : p < 7) : (placeOf t o (at7 R p)).toNat ≤ 50 := by
  have := place_nat t o R p hR hp
  omega

/-! ## What the table must be like for every row asked for to lie in the image -/

/-- Every batch entry's image is one of its SparseCore's two. -/
def OwnImages (ids : FVec F S4 .f32) : Prop := ∀ n < 4, 2 * (n / 2) ≤ (idOf ids n).toNat ∧ (idOf ids n).toNat < 2 * (n / 2) + 2

/-- No bin's columns start before the first bin's. -/
def InOrder (rois : FVec F S4x256x4 .f32) : Prop := ∀ R < 1024, ∀ p < 7, (wsOf rois (at7 R 0)).toNat ≤ (wsOf rois (at7 R p)).toNat

section OK

variable (ids : FVec F S4 .f32) (rois : FVec F S4x256x4 .f32) {i : grid0.Coords} {m : metaM.view.ty.Contents (Elt F)}

/-- A tile's word is the table's. -/
theorem word_is (h : MetaIs (F := F) i (metaFn ids rois) m) (r j : ℕ) (hr : r < 512) (hj : j < 32) :
    wOf m r j = mvw (F := F) (metaFn ids rois) (32 * (512 * (i 0).val + r) + j) := by
  unfold wOf
  rw [h _ (by omega)]
  congr 1
  omega

/-- A region's row of words: its bins' edges and its image. -/
theorem row_words (h : MetaIs (F := F) i (metaFn ids rois) m) (r : ℕ) (hr : r < 512) :
    wOf m r 31 = idOf ids ((512 * (i 0).val + r) / 256)
    ∧ (∀ p < 7, wOf m r p = hsOf rois (at7 (512 * (i 0).val + r) p))
    ∧ (∀ p < 7, wOf m r (8 + p) = heOf rois (at7 (512 * (i 0).val + r) p) - hsOf rois (at7 (512 * (i 0).val + r) p))
    ∧ (∀ p < 7, wOf m r (16 + p) = wsOf rois (at7 (512 * (i 0).val + r) p))
    ∧ (∀ p < 7, wOf m r (24 + p) = weOf rois (at7 (512 * (i 0).val + r) p) - wsOf rois (at7 (512 * (i 0).val + r) p)) := by
  have hi : (i 0).val < 2 := (i 0).isLt
  have hR : 512 * (i 0).val + r < 1024 := by omega
  refine ⟨?_, fun p hp => ?_, fun p hp => ?_, fun p hp => ?_, fun p hp => ?_⟩
  · rw [word_is ids rois h r 31 hr (by omega), meta_img ids rois _ hR]
  · rw [word_is ids rois h r p hr (by omega), meta_hs ids rois _ p hR hp]
  · rw [word_is ids rois h r (8 + p) hr (by omega), meta_hl ids rois _ p hR hp]
  · rw [word_is ids rois h r (16 + p) hr (by omega), meta_ws ids rois _ p hR hp]
  · rw [word_is ids rois h r (24 + p) hr (by omega), meta_wl ids rois _ p hR hp]

theorem row_ok (hI : OwnImages ids) (hW : InOrder rois) (h : MetaIs (F := F) i (metaFn ids rois) m) (r : ℕ) (hr : r < 512) :
    MetaOK i (liOf i (wOf m r)) (wOf m r) := by
  have hi : (i 0).val < 2 := (i 0).isLt
  have hR : 512 * (i 0).val + r < 1024 := by omega
  obtain ⟨eimg, ehs, ehl, ews, ewl⟩ := row_words ids rois h r hr
  obtain ⟨h1, h2⟩ := hI ((512 * (i 0).val + r) / 256) (by omega)
  rw [← eimg] at h1 h2
  refine ⟨?_, ?_, fun p hp => ?_, fun p hp => ?_, fun p hp => ?_, fun p hp => ?_, fun p hp => ?_⟩
  · unfold liOf; omega
  · unfold liOf; omega
  · rw [ehs p hp]; exact place_le _ _ _ _ hR hp
  · rw [ehs p hp, ehl p hp, add_sub_cancel]; exact place_le _ _ _ _ hR hp
  · rw [ews p hp]; exact place_le _ _ _ _ hR hp
  · rw [ews p hp, ewl p hp, add_sub_cancel]; exact place_le _ _ _ _ hR hp
  · rw [ews p hp, show wOf m r 16 = _ from ews 0 (by omega)]; exact hW _ hR p hp

end OK

theorem tables_ok (m : (ℓ : Loc nD τ sig) → Buf (Elt F) ℓ) (hI : ∀ d, OwnImages (argIds m d)) (hW : ∀ d, InOrder (argRois m d)) : TablesOK (fmOf m) :=
  fun d _ _ h r hr => row_ok (argIds m d) (argRois m d) (hI d) (hW d) h r hr

end Cert.Proof.Roi

end
-- ==== Proof.Roi.Pre.lean ====
/-
  What the two preconditions say of the arguments.
-/
module

public import proofs.«01_k».proof.Proof.Roi.Words
public import proofs.«01_k».proof.Defs
public import proofs.«01_k».proof.Proof.Gen.Pre_in_range
public import proofs.«01_k».proof.Proof.Gen.Pre_bins_in_order

@[expose] public section

noncomputable section

namespace Cert.Proof.Roi

open Cert.KernelIdeal Cert.KernelIdeal.Gen
open Idealize.ShloMosaic Idealize.ShloMosaic.TcCoe

variable {F : FTy → Type} [FloatOps F]

theorem one_and {a b : BitVec 1} (h : IntOp.andi a b = 1#1) : a = 1#1 ∧ b = 1#1 := by
  revert a b; decide

/-- The smallest image of each batch entry's pair. -/
def ownLow : IVec S4 32 := fun i => Cert.Pre_bins_in_order.lit0 (S4.rowMajor i)

abbrev ownLowOf (ids : FVec F S4 .f32) : IVec S_ 1 :=
  Host.reduce IntOp.andi (cmpi .sge (fptosi 32 ids) ownLow) (constantI S_ 1 1#1) Cert.Pre_bins_in_order.Facts.reducesTo_S4_S_d0 Cert.Pre_bins_in_order.Facts.h_S_
abbrev ownHighOf (ids : FVec F S4 .f32) : IVec S_ 1 :=
  Host.reduce IntOp.andi (cmpi .sle (fptosi 32 ids) (addi ownLow (broadcastInDim S4 ![] Cert.Pre_bins_in_order.Facts.bcast_S_S4 (constantI S_ 32 1#32))))
    (constantI S_ 1 1#1) Cert.Pre_bins_in_order.Facts.reducesTo_S4_S_d0 Cert.Pre_bins_in_order.Facts.h_S_

theorem own_of (ids : FVec F S4 .f32) (j : S_.Idx) (hl : ownLowOf ids j = 1#1) (hh : ownHighOf ids j = 1#1) : OwnImages ids := by
  intro n hn
  have : Subsingleton S_.Idx := ⟨fun a b => funext fun x => x.elim0⟩
  have h1 := Host.reduce_andi_all _ _ _ _ j hl (at0 posS4 ![n])
  have h2 := Host.reduce_andi_all _ _ _ _ j hh (at0 posS4 ![n])
  change IntOp.cmpi .sge (idOf ids n) (ownLow (at0 posS4 ![n])) = 1#1 at h1
  change IntOp.cmpi .sle (idOf ids n) (ownLow (at0 posS4 ![n]) + 1#32) = 1#1 at h2
  have e : ownLow (at0 posS4 ![n]) = if n < 2 then 0#32 else 2#32 := by
    clear h1 h2
    interval_cases n <;> rfl
  rw [e] at h1 h2
  have ofBool_one (p : Bool) : (BitVec.ofBool p = 1#1) ↔ p = true := by cases p <;> decide
  have hlt := (idOf ids n).isLt
  generalize idOf ids n = v at h1 h2 hlt ⊢
  simp only [IntOp.cmpi, ofBool_one, BitVec.sle_eq_decide, decide_eq_true_eq, BitVec.toInt_eq_toNat_cond] at h1 h2
  split_ifs at h1 h2 <;> simp at * <;> omega

abbrev colsOf (ids : FVec F S4 .f32) (rois : FVec F S4x256x4 .f32) : IVec S1024x7 32 :=
  extractStridedSlice S1024x7 ![0, 16]
    (packOf (hsOf rois) zeroCol (subi (heOf rois) (hsOf rois)) zeroCol (wsOf rois) zeroCol (subi (weOf rois) (wsOf rois)) (broadcastInDim S1024x1 ![0] bcast_S1024_S1024x1_0 (imgOf ids)))
    Cert.Pre_bins_in_order.Facts.slices_S1024x32_S1024x7_0_16

abbrev orderOf (ids : FVec F S4 .f32) (rois : FVec F S4x256x4 .f32) : IVec S_ 1 :=
  Host.reduce IntOp.andi (cmpi .sge (colsOf ids rois) (broadcastInDim S1024x7 ![0, 1] bcast_S1024x1_S1024x7_0_1
      (extractStridedSlice S1024x1 ![0, 0] (colsOf ids rois) Cert.Pre_bins_in_order.Facts.slices_S1024x7_S1024x1_0_0)))
    (constantI S_ 1 1#1) Cert.Pre_bins_in_order.Facts.reducesTo_S1024x7_S_d0_1 Cert.Pre_bins_in_order.Facts.h_S_

set_option maxRecDepth 8192 in
theorem bins_eq (x : FVec F S4x256x50x50 .f32) (ids : FVec F S4 .f32) (rois : FVec F S4x256x4 .f32) :
    Cert.Pre_bins_in_order.fn x ids rois = andi (andi (ownLowOf ids) (ownHighOf ids)) (orderOf ids rois) := rfl

theorem cols_at (ids : FVec F S4 .f32) (rois : FVec F S4x256x4 .f32) (R p : ℕ) (hR : R < 1024) (hp : p < 7) :
    colsOf ids rois (at7 R p) = wsOf rois (at7 R p) := by
  unfold colsOf
  refine (extractStridedSlice_apply _ _ _ _ (at32 R (16 + p)) ?_).trans (pack_e _ _ _ _ _ _ _ _ R p hR hp)
  intro a
  match a with
  | 0 =>
    have e1 : (at32 R (16 + p) 0).val = R := at0_val pos1024x32 _ 0 hR
    have e2 : (at7 R p 0).val = R := at0_val pos1024x7 _ 0 hR
    exact e1.trans (e2.symm.trans (Nat.zero_add _).symm)
  | 1 =>
    have e1 : (at32 R (16 + p) 1).val = 16 + p := at0_val pos1024x32 _ 1 (show 16 + p < 32 by omega)
    have e2 : (at7 R p 1).val = p := at0_val pos1024x7 _ 1 (show p < 7 from hp)
    exact e1.trans (congrArg (16 + ·) e2.symm)

theorem first_col (x : IVec S1024x7 32) (R p : ℕ) (hR : R < 1024) :
    broadcastInDim S1024x7 ![0, 1] bcast_S1024x1_S1024x7_0_1
      (extractStridedSlice S1024x1 ![0, 0] x Cert.Pre_bins_in_order.Facts.slices_S1024x7_S1024x1_0_0) (at7 R p) = x (at7 R 0) := by
  pointwise
  refine congrArg x (at0_eq pos1024x7 _ _ ?_).symm
  intro a
  match a with
  | 0 => exact at0_val pos1024x7 _ 0 (show R < 1024 from hR)
  | 1 => rfl

theorem order_of (ids : FVec F S4 .f32) (rois : FVec F S4x256x4 .f32) (j : S_.Idx) (h : orderOf ids rois j = 1#1) : InOrder rois := by
  intro R hR p hp
  have : Subsingleton S_.Idx := ⟨fun a b => funext fun x => x.elim0⟩
  have h1 := Host.reduce_andi_all _ _ _ _ j h (at7 R p)
  have e0 : broadcastInDim S1024x7 ![0, 1] bcast_S1024x1_S1024x7_0_1
      (extractStridedSlice S1024x1 ![0, 0] (colsOf ids rois) Cert.Pre_bins_in_order.Facts.slices_S1024x7_S1024x1_0_0) (at7 R p) = wsOf rois (at7 R 0) := by
    rw [first_col _ R p hR, cols_at ids rois R 0 hR (by omega)]
  change IntOp.cmpi .sge (colsOf ids rois (at7 R p)) _ = 1#1 at h1
  rw [e0, cols_at ids rois R p hR hp] at h1
  have ofBool_one (p : Bool) : (BitVec.ofBool p = 1#1) ↔ p = true := by cases p <;> decide
  simp only [IntOp.cmpi, ofBool_one, BitVec.sle_eq_decide, decide_eq_true_eq] at h1
  have a1 : ((wsOf rois (at7 R p)).toNat : ℤ) = _ := place_nat _ _ R p hR hp
  have a2 : ((wsOf rois (at7 R 0)).toNat : ℤ) = _ := place_nat _ _ R 0 hR (by omega)
  have b1 : (wsOf rois (at7 R p)).toInt = _ := place_int _ _ R p hR hp
  have b2 : (wsOf rois (at7 R 0)).toInt = _ := place_int _ _ R 0 hR (by omega)
  omega

theorem of_bins_in_order (x : FVec F S4x256x50x50 .f32) (ids : FVec F S4 .f32) (rois : FVec F S4x256x4 .f32)
    (h : Cert.Pre_bins_in_order.fn x ids rois = fun _ => 1#1) : OwnImages ids ∧ InOrder rois := by
  have e := congrFun h (fun a => a.elim0)
  rw [bins_eq] at e
  obtain ⟨e1, e2⟩ := one_and e
  obtain ⟨e3, e4⟩ := one_and e1
  exact ⟨own_of ids _ e3 e4, order_of ids rois _ e2⟩

end Cert.Proof.Roi

end
-- ==== Proof.Roi.Real.lean ====
/-
  The bins' edges as integers, when the floats are the extended reals and the regions' corners lie between 0 and 800.
-/
module

public import proofs.«01_k».proof.Proof.Roi.Pre
public import Idealize.ShloMosaic.Lib.IdealHost

@[expose] public section

noncomputable section

namespace Cert.Proof.Roi

open Cert.KernelIdeal Cert.KernelIdeal.Gen
open Idealize.ShloMosaic Idealize.ShloMosaic.TcCoe

/-! ## Scalars -/

theorem lit_sixteenth : Ideal.ofBits .f32 0x3D800000#32 = (((1 : ℝ) / 16 : ℝ) : EReal) := by
  simp [Ideal.ofBits, Ideal.ieee, -EReal.coe_mul]; norm_num
theorem lit_seven : Ideal.ofBits .f32 0x40E00000#32 = ((7 : ℝ) : EReal) := by
  simp [Ideal.ofBits, Ideal.ieee, -EReal.coe_mul]; norm_num
theorem lit_eight_hundred : Ideal.ofBits .f32 0x44480000#32 = ((800 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]
theorem lit_one : Ideal.ofBits .f32 0x3F800000#32 = ((1 : ℝ) : EReal) := by
  simp

theorem toInt_small (n : ℤ) (h1 : -2147483648 ≤ n) (h2 : n ≤ 2147483647) : (BitVec.ofInt 32 n).toInt = n := by
  rw [BitVec.toInt_ofInt]
  exact Int.bmod_eq_of_le_mul_two (by norm_num; omega) (by norm_num; omega)

/-- An integer read back from the extended real it is. -/
theorem fptosi_int (n : ℤ) (h1 : -2147483648 ≤ n) (h2 : n ≤ 2147483647) : (Ideal.fptosi 32 ((n : ℝ) : EReal)).toInt = n := by
  unfold Ideal.fptosi
  rw [Ideal.toIntClamped_coe, Int.floor_intCast, Int.ceil_intCast, ite_self]
  rw [show max (-((2 ^ (32 - 1) : ℕ) : ℤ)) (min (((2 ^ (32 - 1) : ℕ) : ℤ) - 1) n) = n by norm_num; omega]
  exact toInt_small _ h1 h2

theorem even_bounds (r : ℝ) (h1 : 0 ≤ r) (h2 : r ≤ 50) : 0 ≤ Ideal.roundHalfEven r ∧ Ideal.roundHalfEven r ≤ 50 := by
  have f0 : 0 ≤ ⌊r⌋ := Int.floor_nonneg.2 h1
  have f1 : ⌊r⌋ ≤ 50 := by
    have : ⌊r⌋ ≤ ⌊(50 : ℝ)⌋ := Int.floor_le_floor h2
    simpa using this
  have f2 : ⌊r⌋ = 50 → r - ⌊r⌋ < 1 / 2 := fun h => by rw [h]; push_cast; linarith
  unfold Ideal.roundHalfEven
  dsimp only
  split_ifs with a b c
  · omega
  · have : ⌊r⌋ ≠ 50 := fun h => a (f2 h)
    omega
  · omega
  · have : ⌊r⌋ ≠ 50 := fun h => a (f2 h)
    omega

theorem corner_scalar (x : EReal) (h1 : 0 ≤ x) (h2 : x ≤ ((800 : ℝ) : EReal)) :
    0 ≤ (Ideal.fptosi 32 (Ideal.liftRound Ideal.roundHalfEven (x * (((1 : ℝ) / 16 : ℝ) : EReal)))).toInt
    ∧ (Ideal.fptosi 32 (Ideal.liftRound Ideal.roundHalfEven (x * (((1 : ℝ) / 16 : ℝ) : EReal)))).toInt ≤ 50 := by
  lift x to ℝ using ⟨fun h => by rw [h] at h2; simp at h2, fun h => by rw [h] at h1; simp at h1⟩
  have g1 : (0 : ℝ) ≤ x := by exact_mod_cast h1
  have g2 : x ≤ 800 := by exact_mod_cast h2
  rw [← EReal.coe_mul, Ideal.liftRound_coe]
  obtain ⟨e1, e2⟩ := even_bounds (x * (1 / 16)) (by positivity) (by linarith)
  rw [fptosi_int _ (by omega) (by omega)]
  exact ⟨e1, e2⟩

theorem floor_int (p w : ℤ) : ⌊(p : ℝ) * ((w : ℝ) * (1 / 7))⌋ = p * w / 7 := by
  rw [Int.floor_eq_iff]
  have h : (((p * w / 7 * 7 + p * w % 7 : ℤ)) : ℝ) = ((p * w : ℤ) : ℝ) := by rw [Int.ediv_mul_add_emod]
  have h1 : (0 : ℝ) ≤ ((p * w % 7 : ℤ) : ℝ) := by exact_mod_cast Int.emod_nonneg _ (by norm_num)
  have h2 : ((p * w % 7 : ℤ) : ℝ) < 7 := by exact_mod_cast Int.emod_lt_of_pos _ (by norm_num)
  push_cast at h ⊢
  constructor <;> linarith

theorem ceil_int (p w : ℤ) : ⌈(p : ℝ) * ((w : ℝ) * (1 / 7))⌉ = (p * w + 6) / 7 := by
  have h := floor_int (-p) w
  have e : ((-p : ℤ) : ℝ) * ((w : ℝ) * (1 / 7)) = -((p : ℝ) * ((w : ℝ) * (1 / 7))) := by push_cast; ring
  rw [e, Int.floor_neg] at h
  have : -p * w = -(p * w) := by ring
  rw [this] at h
  omega

/-! ## The corners -/

/-- Every coordinate of every region is between 0 and 800. -/
def Bounded (rois : FVec Ideal S4x256x4 .f32) : Prop := ∀ k, (0 : EReal) ≤ rois k ∧ rois k ≤ ((800 : ℝ) : EReal)

def Corner (o : IVec S1024 32) : Prop := ∀ k, 0 ≤ (o k).toInt ∧ (o k).toInt ≤ 50

theorem corner_of (x : FVec Ideal S1024x1 .f32) (h : ∀ k, (0 : EReal) ≤ x k ∧ x k ≤ ((800 : ℝ) : EReal)) : Corner (cornerOf x) := by
  intro k
  have e : cornerOf x k = Ideal.fptosi 32 (Ideal.liftRound Ideal.roundHalfEven ((shapeCast S1024 x shapeCasts_S1024x1_S1024 k : EReal) * (((1 : ℝ) / 16 : ℝ) : EReal))) := by
    rw [← lit_sixteenth]; rfl
  rw [e]
  exact corner_scalar _ (h _).1 (h _).2

section Corners
variable (rois : FVec Ideal S4x256x4 .f32) (h : Bounded rois)
include h
theorem xs_corner : Corner (xsOf rois) := corner_of _ fun _ => h _
theorem ys_corner : Corner (ysOf rois) := corner_of _ fun _ => h _
theorem xe_corner : Corner (xeOf rois) := corner_of _ fun _ => h _
theorem ye_corner : Corner (yeOf rois) := corner_of _ fun _ => h _
end Corners

/-- A region's extent. -/
theorem extent (a b : BitVec 32) (ha : 0 ≤ a.toInt ∧ a.toInt ≤ 50) (hb : 0 ≤ b.toInt ∧ b.toInt ≤ 50) :
    1 ≤ (IntOp.maxsi (b - a + 1#32) 1#32).toInt ∧ (IntOp.maxsi (b - a + 1#32) 1#32).toInt ≤ 51 := by
  have ea := toNat_of_int a ha.1
  have eb := toNat_of_int b hb.1
  have h1 : (1#32).toInt = 1 := rfl
  have e : (b - a + 1#32).toInt = b.toInt - a.toInt + 1 := by
    have e1 : (b - a).toInt = b.toInt - a.toInt := by
      rw [BitVec.toInt_sub]
      exact Int.bmod_eq_of_le_mul_two (by norm_num; omega) (by norm_num; omega)
    rw [BitVec.toInt_add, e1, h1]
    exact Int.bmod_eq_of_le_mul_two (by norm_num; omega) (by norm_num; omega)
  unfold IntOp.maxsi
  simp only [BitVec.slt_eq_decide, decide_eq_true_eq, e, h1]
  split_ifs with c
  · rw [e]; omega
  · rw [h1]; omega

/-- The edges of a region's bins along one axis: `w` its extent, `o` its corner. -/
theorem edges (lo hi : IVec S1024 32) (hlo : Corner lo) (hhi : Corner hi) (R : ℕ) (hR : R < 1024) :
    ∃ w o : ℤ, 1 ≤ w ∧ w ≤ 51 ∧ 0 ≤ o ∧ o ≤ 50 ∧ ∀ p < 7,
      ((startOf binNo (binOf (F := Ideal) lo hi) lo (at7 R p)).toNat : ℤ) = min 50 (max 0 ((p : ℤ) * w / 7 + o))
      ∧ ((stopOf binNo (binOf (F := Ideal) lo hi) lo (at7 R p)).toNat : ℤ) = min 50 (max 0 ((((p : ℤ) + 1) * w + 6) / 7 + o)) := by
  obtain ⟨w1, w2⟩ := extent (lo (at1 R)) (hi (at1 R)) (hlo _) (hhi _)
  have eb : binOf (F := Ideal) lo hi (at1 R) = (((IntOp.maxsi (hi (at1 R) - lo (at1 R) + 1#32) 1#32).toInt * (1 / 7) : ℝ) : EReal) := by
    rw [EReal.coe_mul, ← Ideal.div_coe (by norm_num), ← lit_seven]; rfl
  generalize (IntOp.maxsi (hi (at1 R) - lo (at1 R) + 1#32) 1#32).toInt = w at w1 w2 eb
  obtain ⟨o1, o2⟩ := hlo (at1 R)
  refine ⟨w, (lo (at1 R)).toInt, w1, w2, o1, o2, fun p hp => ?_⟩
  have er : (ValueIdx.ix1 (at7 R p 0) : S1024.Idx) = at1 R := (at0_eq posS1024 _ _ (fun a => by
    match a with
    | 0 => exact at0_val pos1024x7 _ 0 (show R < 1024 from hR))).symm
  have hn : (binNo (F := Ideal) (ValueIdx.ix1 (at7 R p 1)) : EReal) = (((p : ℤ) : ℝ) : EReal) := by
    have e1 : (at7 R p 1).val = p := at0_val pos1024x7 _ 1 (show p < 7 from hp)
    have e2 : binNo (F := Ideal) (ValueIdx.ix1 (at7 R p 1)) = (((BitVec.ofNat 32 (at7 R p 1).val).toInt : ℝ) : EReal) := rfl
    have e3 : (BitVec.ofNat 32 p).toInt = (p : ℤ) := toInt_small p (by omega) (by omega)
    rw [e2, e1, e3]
  have e1 : edgeOf (lowOf (F := Ideal) binNo) (binOf (F := Ideal) lo hi) (at7 R p) = (((p : ℤ) : ℝ) * ((w : ℝ) * (1 / 7)) : ℝ) := by
    unfold edgeOf lowOf
    pointwise
    show binNo (F := Ideal) (ValueIdx.ix1 (at7 R p 1)) * binOf (F := Ideal) lo hi (ValueIdx.ix1 (at7 R p 0)) = _
    rw [hn, er, eb, ← EReal.coe_mul]
  have e2 : edgeOf (highOf (F := Ideal) binNo) (binOf (F := Ideal) lo hi) (at7 R p) = ((((p : ℤ) + 1 : ℤ) : ℝ) * ((w : ℝ) * (1 / 7)) : ℝ) := by
    unfold edgeOf highOf lowOf
    pointwise
    show (binNo (F := Ideal) (ValueIdx.ix1 (at7 R p 1)) + 1) * binOf (F := Ideal) lo hi (ValueIdx.ix1 (at7 R p 0)) = _
    rw [hn, er, eb, EReal.coe_mul]
    push_cast
    rfl
  have b1 : 0 ≤ (p : ℤ) * w ∧ (p : ℤ) * w ≤ 400 := ⟨by positivity, by nlinarith⟩
  have b2 : 0 ≤ ((p : ℤ) + 1) * w ∧ ((p : ℤ) + 1) * w ≤ 400 := ⟨by positivity, by nlinarith⟩
  have wrap (t : BitVec 32) (n : ℤ) (ht : t.toInt = n) (h1 : 0 ≤ n) (h2 : n ≤ 100) : (t + lo (at1 R)).toInt = n + (lo (at1 R)).toInt := by
    have : t + lo (at1 R) = BitVec.ofInt 32 (t.toInt + (lo (at1 R)).toInt) := by
      simp [BitVec.ofInt_add, BitVec.ofInt_toInt]
    rw [this, ht, toInt_small _ (by omega) (by omega)]
  constructor
  · unfold startOf
    rw [place_nat _ _ R p hR hp]
    have : (fptosi 32 (Host.floor (edgeOf (lowOf (F := Ideal) binNo) (binOf (F := Ideal) lo hi))) (at7 R p)).toInt = (p : ℤ) * w / 7 := by
      show (Ideal.fptosi 32 (Ideal.liftRound Int.floor (edgeOf (lowOf (F := Ideal) binNo) (binOf (F := Ideal) lo hi) (at7 R p)))).toInt = _
      rw [e1, Ideal.liftRound_coe, floor_int, fptosi_int _ (by omega) (by omega)]
    rw [wrap _ _ this (by omega) (by omega)]
  · unfold stopOf
    rw [place_nat _ _ R p hR hp]
    have : (fptosi 32 (Host.ceil (edgeOf (highOf (F := Ideal) binNo) (binOf (F := Ideal) lo hi))) (at7 R p)).toInt = (((p : ℤ) + 1) * w + 6) / 7 := by
      show (Ideal.fptosi 32 (Ideal.liftRound Int.ceil (edgeOf (highOf (F := Ideal) binNo) (binOf (F := Ideal) lo hi) (at7 R p)))).toInt = _
      rw [e2, Ideal.liftRound_coe, ceil_int, fptosi_int _ (by omega) (by omega)]
    rw [wrap _ _ this (by omega) (by omega)]

/-- One axis's edges of a region's bins: in order, and less than ten apart. -/
theorem edges_order (lo hi : IVec S1024 32) (hlo : Corner lo) (hhi : Corner hi) (R : ℕ) (hR : R < 1024) (p : ℕ) (hp : p < 7) :
    (startOf binNo (binOf (F := Ideal) lo hi) lo (at7 R 0)).toNat ≤ (startOf binNo (binOf (F := Ideal) lo hi) lo (at7 R p)).toNat
    ∧ (startOf binNo (binOf (F := Ideal) lo hi) lo (at7 R p)).toNat ≤ (stopOf binNo (binOf (F := Ideal) lo hi) lo (at7 R p)).toNat
    ∧ (stopOf binNo (binOf (F := Ideal) lo hi) lo (at7 R p)).toNat ≤ (stopOf binNo (binOf (F := Ideal) lo hi) lo (at7 R 6)).toNat
    ∧ (stopOf binNo (binOf (F := Ideal) lo hi) lo (at7 R p)).toNat ≤ (startOf binNo (binOf (F := Ideal) lo hi) lo (at7 R p)).toNat + 9
    ∧ (stopOf binNo (binOf (F := Ideal) lo hi) lo (at7 R p)).toNat ≤ 50 := by
  obtain ⟨w, o, w1, w2, o1, o2, h⟩ := edges lo hi hlo hhi R hR
  obtain ⟨a0, -⟩ := h 0 (by omega)
  obtain ⟨ap, bp⟩ := h p hp
  obtain ⟨-, b6⟩ := h 6 (by omega)
  clear h
  interval_cases p <;> push_cast at * <;> omega

section Region
variable (rois : FVec Ideal S4x256x4 .f32) (h : Bounded rois)
include h

theorem rows_order (R : ℕ) (hR : R < 1024) (p : ℕ) (hp : p < 7) : (hsOf rois (at7 R 0)).toNat ≤ (hsOf rois (at7 R p)).toNat
    ∧ (hsOf rois (at7 R p)).toNat ≤ (heOf rois (at7 R p)).toNat ∧ (heOf rois (at7 R p)).toNat ≤ (heOf rois (at7 R 6)).toNat
    ∧ (heOf rois (at7 R p)).toNat ≤ (hsOf rois (at7 R p)).toNat + 9 ∧ (heOf rois (at7 R p)).toNat ≤ 50 :=
  edges_order _ _ (ys_corner rois h) (ye_corner rois h) R hR p hp

theorem cols_order (R : ℕ) (hR : R < 1024) (p : ℕ) (hp : p < 7) : (wsOf rois (at7 R 0)).toNat ≤ (wsOf rois (at7 R p)).toNat
    ∧ (wsOf rois (at7 R p)).toNat ≤ (weOf rois (at7 R p)).toNat ∧ (weOf rois (at7 R p)).toNat ≤ (weOf rois (at7 R 6)).toNat
    ∧ (weOf rois (at7 R p)).toNat ≤ (wsOf rois (at7 R p)).toNat + 9 ∧ (weOf rois (at7 R p)).toNat ≤ 50 :=
  edges_order _ _ (xs_corner rois h) (xe_corner rois h) R hR p hp

theorem in_order : InOrder rois := fun R hR p hp => (cols_order rois h R hR p hp).1

end Region

/-! ## What the precondition says -/

theorem range_eq (x : FVec Ideal S4x256x50x50 .f32) (ids : FVec Ideal S4 .f32) (rois : FVec Ideal S4x256x4 .f32) :
    Cert.Pre_in_range.fn x ids rois = andi (andi (andi (ownLowOf ids) (ownHighOf ids))
      (Host.reduce IntOp.andi (cmpf .oge rois (broadcastInDim S4x256x4 ![] Cert.Pre_in_range.Facts.bcast_S_S4x256x4 (constant S_ .f32 0x00000000#32)))
        (constantI S_ 1 1#1) Cert.Pre_in_range.Facts.reducesTo_S4x256x4_S_d0_1_2 Cert.Pre_in_range.Facts.h_S_))
      (Host.reduce IntOp.andi (cmpf .ole rois (broadcastInDim S4x256x4 ![] Cert.Pre_in_range.Facts.bcast_S_S4x256x4 (constant S_ .f32 0x44480000#32)))
        (constantI S_ 1 1#1) Cert.Pre_in_range.Facts.reducesTo_S4x256x4_S_d0_1_2 Cert.Pre_in_range.Facts.h_S_) := rfl

theorem of_in_range (x : FVec Ideal S4x256x50x50 .f32) (ids : FVec Ideal S4 .f32) (rois : FVec Ideal S4x256x4 .f32)
    (h : Cert.Pre_in_range.fn x ids rois = fun _ => 1#1) : OwnImages ids ∧ Bounded rois := by
  have : Subsingleton S_.Idx := ⟨fun a b => funext fun x => x.elim0⟩
  have e := congrFun h (fun a => a.elim0)
  rw [range_eq] at e
  obtain ⟨e1, hi⟩ := one_and e
  obtain ⟨e2, lo⟩ := one_and e1
  obtain ⟨e3, e4⟩ := one_and e2
  refine ⟨own_of ids _ e3 e4, fun k => ?_⟩
  have g1 : Ideal.cmp .oge (rois k) (Ideal.ofBits .f32 0x00000000#32) = 1#1 := Host.reduce_andi_all _ _ _ _ _ lo k
  have g2 : Ideal.cmp .ole (rois k) (Ideal.ofBits .f32 0x44480000#32) = 1#1 := Host.reduce_andi_all _ _ _ _ _ hi k
  have ofBool_one (p : Bool) : (BitVec.ofBool p = 1#1) ↔ p = true := by cases p <;> decide
  rw [lit_zero] at g1
  rw [lit_eight_hundred] at g2
  simp only [Ideal.cmp, ofBool_one, decide_eq_true_eq] at g1 g2
  exact ⟨g1, g2⟩

/-! ## The table's rows for regions in range -/

theorem sub_small (a b : BitVec 32) (h : b.toNat ≤ a.toNat) : (a - b).toNat = a.toNat - b.toNat := BitVec.toNat_sub_of_le h

theorem sub_pos (a b : BitVec 32) (h : b.toNat ≤ a.toNat) (h' : a.toNat ≤ 50) : 0 ≤ (a - b).toInt := by
  have := sub_small a b h
  rw [BitVec.toInt_eq_toNat_of_lt (by omega)]
  omega

theorem good_of (ids : FVec Ideal S4 .f32) (rois : FVec Ideal S4x256x4 .f32) (hB : Bounded rois) {i : grid0.Coords} {m : metaM.view.ty.Contents (Elt Ideal)}
    (h : MetaIs (F := Ideal) i (metaFn ids rois) m) (r : ℕ) (hr : r < 512) : Good (wOf m r) := by
  have hi : (i 0).val < 2 := (i 0).isLt
  have hR : 512 * (i 0).val + r < 1024 := by omega
  obtain ⟨-, -, ehl, ews, ewl⟩ := row_words ids rois h r hr
  refine ⟨fun p hp => ?_, fun p hp => ?_, fun p hp => ?_⟩
  · obtain ⟨-, h1, -, -, h2⟩ := rows_order rois hB _ hR p hp
    rw [ehl p hp]; exact sub_pos _ _ h1 h2
  · obtain ⟨-, h1, -, -, h2⟩ := cols_order rois hB _ hR p hp
    rw [ewl p hp]; exact sub_pos _ _ h1 h2
  · obtain ⟨-, -, h1, -⟩ := cols_order rois hB _ hR p hp
    rw [ewl p hp, ews p hp, show wOf m r 22 = _ from ews 6 (by omega), show wOf m r 30 = _ from ewl 6 (by omega), add_sub_cancel, add_sub_cancel]
    exact h1

end Cert.Proof.Roi

end
-- ==== Proof.Roi.Frames.lean ====
/-
  The three programs run, leave their arguments as they were, and leave every semaphore at zero.
-/
module

public import proofs.«01_k».proof.Proof.Roi.Real
public import proofs.«01_k».proof.Proof.Gen.Kernel
public import proofs.«01_k».proof.Proof.Gen.ReferenceIdeal
public import proofs.«01_k».proof.Proof.Gen.ReferenceIdeal.Run

@[expose] public section

noncomputable section

namespace Cert.Proof.Roi

open Cert.KernelIdeal Cert.KernelIdeal.Gen
open Idealize.ShloMosaic Idealize.ShloMosaic.TcCoe Idealize.SL.Sem

theorem tables_bins {F : FTy → Type} [FloatOps F] (m : (ℓ : Loc nD τ sig) → Buf (Elt F) ℓ)
    (h : ∀ c : Dev nD, Cert.Pre_bins_in_order.fn (F := F) (argImage m c) (argIds m c) (argRois m c) = fun _ => 1#1) : TablesOK (fmOf m) :=
  tables_ok m (fun d => (of_bins_in_order _ _ _ (h d)).1) (fun d => (of_bins_in_order _ _ _ (h d)).2)

theorem tables_range (m : (ℓ : Loc nD τ sig) → Buf (Elt Ideal) ℓ)
    (h : ∀ c : Dev nD, Cert.Pre_in_range.fn (F := Ideal) (argImage m c) (argIds m c) (argRois m c) = fun _ => 1#1) : TablesOK (fmOf m) :=
  tables_ok m (fun d => (of_in_range _ _ _ (h d)).1) (fun d => in_order _ (of_in_range _ _ _ (h d)).2)

set_option maxHeartbeats 8000000 in
/-- The printed program's text is its idealization's: the two are compared definition by definition here. -/
theorem frame_kernel : Cert.quiescent_Kernel := by
  intro m ρ hp
  have hT : TablesOK (fmOf (F := Bits) m) := tables_bins (F := Bits) m (fun c => hp c)
  have h1 := run_main (F := Bits) m ρ hT
  have h2 := (θ_run (Cert.KernelIdeal.defs (F := Bits)) (Cert.KernelIdeal.threads (F := Bits)) ⟨m, fun _ => 0, ρ⟩).mono (fun _ h => (⟨fun c => (h.1 c).1, h.2⟩ : _ ∧ _)) h1
  exact h2

theorem frame_ideal : Cert.quiescent_KernelIdeal := fun m ρ hp =>
  (θ_run (Cert.KernelIdeal.defs (F := Ideal)) _ _).mono (fun _ h => ⟨fun c => (h.1 c).1, h.2⟩) (run_main (F := Ideal) m ρ (tables_range m hp))

theorem frame_ideal_bins : Cert.quiescent_KernelIdeal_pre_bins_in_order := fun m ρ hp =>
  (θ_run (Cert.KernelIdeal.defs (F := Ideal)) _ _).mono (fun _ h => ⟨fun c => (h.1 c).1, h.2⟩) (run_main (F := Ideal) m ρ (tables_bins m hp))

theorem frame_reference : Cert.quiescent_ReferenceIdeal := fun m ρ _ =>
  (θ_run (Cert.ReferenceIdeal.defs (F := Ideal)) _ _).mono (fun _ h => ⟨fun c => (h c).2, sem_eq_zero_of_no_sems (by decide) _⟩) (Cert.ReferenceIdeal.Value.run m ρ)

end Cert.Proof.Roi

end
-- ==== Proof.Roi.RefWords.lean ====
/-
  The reference's table of edges: its rounded corners, bin sizes, and each bin's positions and their ends are the
  functions of the regions that the kernel's host computes.
-/
module

public import proofs.«01_k».proof.Proof.Roi.Real
public import proofs.«01_k».proof.Proof.Gen.ReferenceIdeal.Run

@[expose] public section

noncomputable section

namespace Cert.Proof.Roi

open Cert.ReferenceIdeal Cert.ReferenceIdeal.Gen Cert.ReferenceIdeal.Value
open Idealize.ShloMosaic Idealize.ShloMosaic.TcCoe

variable {F : FTy → Type} [FloatOps F]

section Cols

variable (a : FVec F S1024x1 .f32) (b : FVec F S1024x4 .f32)

abbrev fiveOf : FVec F S1024x5 .f32 := concatenate S1024x5 1 [⟨S1024x1, a⟩, ⟨S1024x4, b⟩] concatenates_S1024x1_S1024x4_S1024x5_d1

/-- The reference's columns one to four are the regions' columns. -/
theorem five_0 : extractStridedSlice S1024x1 ![0, 0] (fiveOf a b) slices_S1024x5_S1024x1_0_0 = a := by
  funext j; unfold fiveOf; pointwise
  refine congrArg a (funext fun q => ?_)
  match q with
  | 0 => rfl
  | 1 => exact Subsingleton.elim (α := Fin 1) _ _
theorem five_1 : extractStridedSlice S1024x1 ![0, 1] (fiveOf a b) slices_S1024x5_S1024x1_0_1 = extractStridedSlice S1024x1 ![0, 0] b Cert.KernelIdeal.Gen.slices_S1024x4_S1024x1_0_0 := by
  funext j; unfold fiveOf; pointwise
theorem five_2 : extractStridedSlice S1024x1 ![0, 2] (fiveOf a b) slices_S1024x5_S1024x1_0_2 = extractStridedSlice S1024x1 ![0, 1] b Cert.KernelIdeal.Gen.slices_S1024x4_S1024x1_0_1 := by
  funext j; unfold fiveOf; pointwise
theorem five_3 : extractStridedSlice S1024x1 ![0, 3] (fiveOf a b) slices_S1024x5_S1024x1_0_3 = extractStridedSlice S1024x1 ![0, 2] b Cert.KernelIdeal.Gen.slices_S1024x4_S1024x1_0_2 := by
  funext j; unfold fiveOf; pointwise
theorem five_4 : extractStridedSlice S1024x1 ![0, 4] (fiveOf a b) slices_S1024x5_S1024x1_0_4 = extractStridedSlice S1024x1 ![0, 3] b Cert.KernelIdeal.Gen.slices_S1024x4_S1024x1_0_3 := by
  funext j; unfold fiveOf; pointwise

end Cols

section Words

variable (V : Valuation τ sig (Elt F))

abbrev refImage : FVec F S4x256x50x50 .f32 := V (Proc.devRef .tc main_arg0)
abbrev refIds : FVec F S4 .f32 := V (Proc.devRef .tc main_arg1)
abbrev refRois : FVec F S4x256x4 .f32 := V (Proc.devRef .tc main_arg2)

theorem ref_xs : res_main_v18 V = xsOf (refRois V) := by
  unfold res_main_v18 xsOf cornerOf
  rw [← five_1 _ _]; rfl
theorem ref_ys : res_main_v24 V = ysOf (refRois V) := by
  unfold res_main_v24 ysOf cornerOf
  rw [← five_2 _ _]; rfl

theorem ref_bin_h : res_main_v50 V = binOf (F := F) (ysOf (refRois V)) (yeOf (refRois V)) := by
  unfold res_main_v50 binOf yeOf cornerOf
  rw [← five_4 _ _, ref_ys]; rfl
theorem ref_bin_w : res_main_v52 V = binOf (F := F) (xsOf (refRois V)) (xeOf (refRois V)) := by
  unfold res_main_v52 binOf xeOf cornerOf
  rw [← five_3 _ _, ref_xs]; rfl

/-- A bin's ten positions along an axis, from its start. -/
def spreadOf (s : IVec S1024x7 32) : IVec S1024x7x10 32 :=
  addi (broadcastInDim S1024x7x10 ![0, 1, 2] bcast_S1024x7x1_S1024x7x10_0_1_2 (broadcastInDim S1024x7x1 ![0, 1] bcast_S1024x7_S1024x7x1_0_1 s))
    (broadcastInDim S1024x7x10 ![0, 1, 2] bcast_S1x1x10_S1024x7x10_0_1_2 (broadcastInDim S1x1x10 ![1, 2] bcast_S1x10_S1x1x10_1_2 (broadcastInDim S1x10 ![1] bcast_S10_S1x10_1 (iotaInDim S10 32 0))))

/-- Which of them come before the bin's end. -/
def beforeOf (s e : IVec S1024x7 32) : IVec S1024x7x10 1 :=
  cmpi .slt (spreadOf s) (broadcastInDim S1024x7x10 ![0, 1, 2] bcast_S1024x7x1_S1024x7x10_0_1_2 (broadcastInDim S1024x7x1 ![0, 1] bcast_S1024x7_S1024x7x1_0_1 e))

theorem ref_h : res_main_v106 V = spreadOf (hsOf (refRois V)) := by
  unfold res_main_v106
  rw [ref_bin_h, ref_ys]; rfl
theorem ref_w : res_main_v112 V = spreadOf (wsOf (refRois V)) := by
  unfold res_main_v112
  rw [ref_bin_w, ref_xs]; rfl

/-- The positions of a bin that are in it. -/
def maskOf (rois : FVec F S4x256x4 .f32) : IVec S1024x7x7x100 1 :=
  shapeCast S1024x7x7x100 (andi
    (broadcastInDim S1024x7x7x10x10 ![0, 1, 2, 3, 4] bcast_S1024x7x1x10x1_S1024x7x7x10x10_0_1_2_3_4 (broadcastInDim S1024x7x1x10x1 ![0, 1, 3] bcast_S1024x7x10_S1024x7x1x10x1_0_1_3 (beforeOf (hsOf rois) (heOf rois))))
    (broadcastInDim S1024x7x7x10x10 ![0, 1, 2, 3, 4] bcast_S1024x1x7x1x10_S1024x7x7x10x10_0_1_2_3_4 (broadcastInDim S1024x1x7x1x10 ![0, 2, 4] bcast_S1024x7x10_S1024x1x7x1x10_0_2_4 (beforeOf (wsOf rois) (weOf rois)))))
    shapeCasts_S1024x7x7x10x10_S1024x7x7x100

theorem ref_mask : res_main_v169 V = maskOf (refRois V) := by
  unfold res_main_v169
  rw [ref_bin_w, ref_xs, ref_bin_h, ref_ys, ref_h, ref_w]; rfl

theorem ref_img : res_main_v12 V = imgOf (refIds V) := by
  unfold res_main_v12 imgOf
  unfold res_main_v4
  rw [five_0 _ _]
  funext j
  pointwise

end Words

end Cert.Proof.Roi

end
-- ==== Proof.Roi.Layout.lean ====
/-
  The host's two changes of layout read element by element: the image laid out channel by channel, and the result laid
  out as the caller wants it.
-/
module

public import proofs.«01_k».proof.Proof.Roi.Real

@[expose] public section

noncomputable section

namespace Cert.Proof.Roi

open Cert.KernelIdeal Cert.KernelIdeal.Gen
open Idealize.ShloMosaic Idealize.ShloMosaic.TcCoe

variable {F : FTy → Type} [FloatOps F]

theorem posImage : ∀ a : Fin S4x256x50x50.rank, 0 < S4x256x50x50.size a := by decide

/-- Pixel `(h, w)` of channel `C` of image `b`. -/
abbrev atImage (b C h w : ℕ) : S4x256x50x50.Idx := at0 posImage ![b, C, h, w]

/-- The laid-out image at a pixel's lane. -/
theorem feat_at (x : FVec F S4x256x50x50 .f32) (b cc l h w : ℕ) (hb : b < 4) (hc : cc < 16) (hl : l < 16) (hh : h < 50) (hw : w < 50) :
    fvw (featFn x) cc (((b * 50 + h) * 50 + w) * 16 + l) = x (atImage b (16 * cc + l) h w) := by
  show featFn x (at0 posFeat ![cc, ((b * 50 + h) * 50 + w) * 16 + l]) = _
  unfold featFn
  rw [shapeCast_apply (t := S16x160000) _ _ _ (ValueIdx.ix5 ⟨cc, hc⟩ ⟨b, hb⟩ ⟨h, hh⟩ ⟨w, hw⟩ ⟨l, hl⟩ : S16x4x50x50x16.Idx) ?_]
  · pointwise
    refine congrArg x (at0_eq posImage _ _ ?_).symm
    intro a
    match a with
    | 0 => rfl
    | 1 => exact (by omega : cc * 16 + l = 16 * cc + l)
    | 2 => rfl
    | 3 => rfl
  · rw [Shape.rowMajor_val_two, Shape.rowMajor_val_five, show (at0 posFeat ![cc, ((b * 50 + h) * 50 + w) * 16 + l] 0).val = cc from at0_val posFeat _ 0 hc,
      show (at0 posFeat ![cc, ((b * 50 + h) * 50 + w) * 16 + l] 1).val = ((b * 50 + h) * 50 + w) * 16 + l from at0_val posFeat _ 1 (show ((b * 50 + h) * 50 + w) * 16 + l < 160000 by omega)]
    show (((cc * 4 + b) * 50 + h) * 50 + w) * 16 + l = cc * 160000 + (((b * 50 + h) * 50 + w) * 16 + l)
    omega

/-- The result at a region, channel and bin, from the tiles' output. -/
theorem back_at (o : FVec F S1024x16x896 .f32) (j : S1024x256x7x7.Idx) :
    backFn o j = hv o (j 0).val ((j 1).val / 16) (((j 2).val * 7 + (j 3).val) * 16 + (j 1).val % 16) := by
  have h0 : (j 0).val < 1024 := (j 0).isLt
  have h1 : (j 1).val < 256 := (j 1).isLt
  have h2 : (j 2).val < 7 := (j 2).isLt
  have h3 : (j 3).val < 7 := (j 3).isLt
  unfold backFn
  pointwise
  refine congrArg o (at0_eq pos1024 _ _ ?_).symm
  intro a
  match a with
  | 0 => rfl
  | 1 => rfl
  | 2 => rfl

end Cert.Proof.Roi

end
-- ==== Proof.Roi.RefRead.lean ====
/-
  The reference's result read element by element: its gathers read the image at a bin's positions, its mask keeps the
  positions that are in the bin.
-/
module

public import proofs.«01_k».proof.Proof.Roi.RefWords
public import proofs.«01_k».proof.Proof.Roi.Layout

@[expose] public section

noncomputable section

namespace Cert.Proof.Roi

open Cert.ReferenceIdeal Cert.ReferenceIdeal.Gen Cert.ReferenceIdeal.Value
open Idealize.ShloMosaic Idealize.ShloMosaic.TcCoe

theorem pos1024x4 : ∀ a : Fin S1024x4.rank, 0 < S1024x4.size a := by decide

abbrev G1 := gather_S4x256x50x50_S1024x4_S1024x1x256x50x50_1234_n_n_n_0123_1_12565050
abbrev G2 := gather_S1024x256x50x50_S1024x7x10x7x10x2_S1024x256x7x10x7x10_1_23_0_0_23_5_125611

/-- The image of each region. -/
theorem take_image (x : FVec Ideal S4x256x50x50 .f32) (idx : IVec S1024x4 32) (j : S1024x1x256x50x50.Idx) :
    Host.gather G1 x idx j = x (atImage (min (idx (at0 pos1024x4 ![(j 0).val, 0])).toInt.toNat 3) (j 2).val (j 3).val (j 4).val) := by
  have h1 : (j 1).val = 0 := by have : (j 1).val < 1 := (j 1).isLt; omega
  have hsi (c) : G1.siIdx j c = at0 pos1024x4 ![(j 0).val, c.val] := by
    refine (at0_eq pos1024x4 _ _ ?_).symm
    intro b
    match b with
    | 0 => rfl
    | 1 => rfl
  have hs0 : G1.start j idx 0 = min (idx (at0 pos1024x4 ![(j 0).val, 0])).toInt.toNat 3 := by
    unfold GatherDims.start
    rw [dif_pos (by decide), hsi]; rfl
  have hs (a : Fin 4) (ha : a ≠ 0) : G1.start j idx a = 0 := by
    have := G1.start_le j idx a
    have e : S4x256x50x50.size a - G1.sliceSizes a = 0 := by
      match a with
      | 0 => exact absurd rfl ha
      | 1 => rfl
      | 2 => rfl
      | 3 => rfl
    omega
  unfold Host.gather
  refine congrArg x (at0_eq posImage _ _ ?_).symm
  intro a
  show G1.start j idx a + G1.batchCoord j a + G1.offCoord j a = _
  rw [GatherDims.batchCoord_eq_zero _ _ _ List.not_mem_nil]
  match a with
  | 0 =>
    rw [hs0, show G1.offCoord j 0 = (j 1).val from rfl, h1]; rfl
  | 1 => rw [hs 1 (by decide), show G1.offCoord j 1 = (j 2).val from rfl]; exact Nat.zero_add _
  | 2 => rw [hs 2 (by decide), show G1.offCoord j 2 = (j 3).val from rfl]; exact Nat.zero_add _
  | 3 => rw [hs 3 (by decide), show G1.offCoord j 3 = (j 4).val from rfl]; exact Nat.zero_add _

theorem posSix : ∀ a : Fin S1024x7x10x7x10x2.rank, 0 < S1024x7x10x7x10x2.size a := by decide
theorem posFour : ∀ a : Fin S1024x256x50x50.rank, 0 < S1024x256x50x50.size a := by decide
abbrev atSix (j : S1024x256x7x10x7x10.Idx) (c : ℕ) : S1024x7x10x7x10x2.Idx := at0 posSix ![(j 0).val, (j 2).val, (j 3).val, (j 4).val, (j 5).val, c]

/-- The pixels of each bin. -/
theorem take_pixels (x : FVec Ideal S1024x256x50x50 .f32) (idx : IVec S1024x7x10x7x10x2 32) (j : S1024x256x7x10x7x10.Idx) :
    Host.gather G2 x idx j = x (at0 posFour ![(j 0).val, (j 1).val, min (idx (atSix j 0)).toInt.toNat 49, min (idx (atSix j 1)).toInt.toNat 49]) := by
  have hsi (c) : G2.siIdx j c = atSix j c.val := by
    refine (at0_eq posSix _ _ ?_).symm
    intro b
    match b with
    | 0 => rfl
    | 1 => rfl
    | 2 => rfl
    | 3 => rfl
    | 4 => rfl
    | 5 => rfl
  unfold Host.gather
  refine congrArg x (at0_eq posFour _ _ ?_).symm
  intro a
  show G2.start j idx a + G2.batchCoord j a + G2.offCoord j a = _
  match a with
  | 0 =>
    rw [show G2.start j idx 0 = 0 from rfl, show G2.batchCoord j 0 = (j 0).val from rfl, show G2.offCoord j 0 = 0 from rfl, Nat.zero_add]; rfl
  | 1 =>
    rw [show G2.start j idx 1 = 0 from rfl, show G2.batchCoord j 1 = 0 from rfl, show G2.offCoord j 1 = (j 1).val from rfl, Nat.zero_add]; rfl
  | 2 =>
    rw [show G2.start j idx 2 = min (idx (atSix j 0)).toInt.toNat 49 from by unfold GatherDims.start; rw [dif_pos (by decide), hsi]; rfl,
      show G2.batchCoord j 2 = 0 from rfl, show G2.offCoord j 2 = 0 from rfl]; rfl
  | 3 =>
    rw [show G2.start j idx 3 = min (idx (atSix j 1)).toInt.toNat 49 from by unfold GatherDims.start; rw [dif_pos (by decide), hsi]; rfl,
      show G2.batchCoord j 3 = 0 from rfl, show G2.offCoord j 3 = 0 from rfl]; rfl

/-- The mask at a bin's position. -/
theorem mask_at (rois : FVec Ideal S4x256x4 .f32) (R : Fin 1024) (ph pw : Fin 7) (k : Fin 100) :
    maskOf rois (ValueIdx.ix4 R ph pw k : S1024x7x7x100.Idx) = IntOp.andi
      (IntOp.cmpi .slt (hsOf rois (at7 R.val ph.val) + BitVec.ofNat 32 (k.val / 10)) (heOf rois (at7 R.val ph.val)))
      (IntOp.cmpi .slt (wsOf rois (at7 R.val pw.val) + BitVec.ofNat 32 (k.val % 10)) (weOf rois (at7 R.val pw.val))) := by
  have e (q : Fin 7) : (at7 R.val q.val : S1024x7.Idx) = ValueIdx.ix2 R q := by
    refine at0_eq pos1024x7 _ _ ?_
    intro a
    match a with
    | 0 => rfl
    | 1 => rfl
  rw [e, e]
  unfold maskOf beforeOf spreadOf
  pointwise
  rfl

/-- Where the reference reads a region's image. -/
def imageIdx (img : IVec S1024 32) : IVec S1024x4 32 :=
  concatenate S1024x4 1 [⟨S1024x1, ((broadcastInDim S1024x1 ![0] bcast_S1024_S1024x1_0 (select (cmpi .slt img (broadcastInDim S1024 ![] bcast_S_S1024 (constantI S_ 32 0#32))) (addi img (broadcastInDim S1024 ![] bcast_S_S1024 (constantI S_ 32 4#32))) img)) : IVec S1024x1 32)⟩, ⟨S1024x1, ((broadcastInDim S1024x1 ![] bcast_S_S1024x1 (select (cmpi .slt (constantI S_ 32 0#32) (constantI S_ 32 0#32)) (addi (constantI S_ 32 0#32) (constantI S_ 32 256#32)) (constantI S_ 32 0#32))) : IVec S1024x1 32)⟩, ⟨S1024x1, ((broadcastInDim S1024x1 ![] bcast_S_S1024x1 (select (cmpi .slt (constantI S_ 32 0#32) (constantI S_ 32 0#32)) (addi (constantI S_ 32 0#32) (constantI S_ 32 50#32)) (constantI S_ 32 0#32))) : IVec S1024x1 32)⟩, ⟨S1024x1, ((broadcastInDim S1024x1 ![] bcast_S_S1024x1 (select (cmpi .slt (constantI S_ 32 0#32) (constantI S_ 32 0#32)) (addi (constantI S_ 32 0#32) (constantI S_ 32 50#32)) (constantI S_ 32 0#32))) : IVec S1024x1 32)⟩] concatenates_S1024x1_S1024x1_S1024x1_S1024x1_S1024x4_d1

/-- A word below zero is moved up by `n`. -/
abbrev wrapTo (n v : BitVec 32) : BitVec 32 := Scalar.select (IntOp.cmpi .slt v 0#32) (IntOp.addi v n) v

theorem image_idx (img : IVec S1024 32) (R : ℕ) (hR : R < 1024) : imageIdx img (at0 pos1024x4 ![R, 0]) = wrapTo 4#32 (img (at1 R)) := by
  have h0 : (at0 pos1024x4 ![R, 0] 0).val = R := at0_val pos1024x4 _ 0 hR
  have h1 : (at0 pos1024x4 ![R, 0] 1).val = 0 := at0_val pos1024x4 _ 1 (show 0 < 4 by decide)
  unfold imageIdx wrapTo
  pointwise [h0, h1]
  rw [show (at1 R : S1024.Idx) = ValueIdx.ix1 (⟨R, hR⟩ : Fin 1024) from at0_eq posS1024 _ _ fun a => match a with | 0 => rfl]
  rfl

/-- The positions along one axis, kept within the image. -/
abbrev keptOf (p : IVec S1024x7x10 32) : IVec S1024x7x10 32 := minsi p (broadcastInDim S1024x7x10 ![] bcast_S_S1024x7x10 (constantI S_ 32 49#32))
abbrev keptH (p : IVec S1024x7x10 32) : IVec S1024x7x10x1x1 32 := broadcastInDim S1024x7x10x1x1 ![0, 1, 2] bcast_S1024x7x10_S1024x7x10x1x1_0_1_2 (keptOf p)
abbrev keptW (p : IVec S1024x7x10 32) : IVec S1024x1x1x7x10 32 := broadcastInDim S1024x1x1x7x10 ![0, 3, 4] bcast_S1024x7x10_S1024x1x1x7x10_0_3_4 (keptOf p)

/-- Where the reference reads each bin's pixels. -/
def pixelIdx (p q : IVec S1024x7x10 32) : IVec S1024x7x10x7x10x2 32 :=
  concatenate S1024x7x10x7x10x2 5 [⟨S1024x7x10x7x10x1, (broadcastInDim S1024x7x10x7x10x1 ![0, 1, 2, 3, 4] bcast_S1024x7x10x7x10_S1024x7x10x7x10x1_0_1_2_3_4 (broadcastInDim S1024x7x10x7x10 ![0, 1, 2, 3, 4] bcast_S1024x7x10x1x1_S1024x7x10x7x10_0_1_2_3_4 (select (cmpi .slt (keptH p) (broadcastInDim S1024x7x10x1x1 ![] bcast_S_S1024x7x10x1x1 (constantI S_ 32 0#32))) (addi (keptH p) (broadcastInDim S1024x7x10x1x1 ![] bcast_S_S1024x7x10x1x1 (constantI S_ 32 50#32))) (keptH p))))⟩, ⟨S1024x7x10x7x10x1, (broadcastInDim S1024x7x10x7x10x1 ![0, 1, 2, 3, 4] bcast_S1024x7x10x7x10_S1024x7x10x7x10x1_0_1_2_3_4 (broadcastInDim S1024x7x10x7x10 ![0, 1, 2, 3, 4] bcast_S1024x1x1x7x10_S1024x7x10x7x10_0_1_2_3_4 (select (cmpi .slt (keptW q) (broadcastInDim S1024x1x1x7x10 ![] bcast_S_S1024x1x1x7x10 (constantI S_ 32 0#32))) (addi (keptW q) (broadcastInDim S1024x1x1x7x10 ![] bcast_S_S1024x1x1x7x10 (constantI S_ 32 50#32))) (keptW q))))⟩] concatenates_S1024x7x10x7x10x1_S1024x7x10x7x10x1_S1024x7x10x7x10x2_d5

theorem pixel_row (p q : IVec S1024x7x10 32) (j : S1024x256x7x10x7x10.Idx) :
    pixelIdx p q (atSix j 0) = wrapTo 50#32 (IntOp.minsi (p (ValueIdx.ix3 (j 0) (j 2) (j 3))) 49#32) := by
  have h0 : (atSix j 0 0).val = (j 0).val := at0_val posSix _ 0 (j 0).isLt
  have h1 : (atSix j 0 1).val = (j 2).val := at0_val posSix _ 1 (j 2).isLt
  have h2 : (atSix j 0 2).val = (j 3).val := at0_val posSix _ 2 (j 3).isLt
  have h5 : (atSix j 0 5).val = 0 := at0_val posSix _ 5 (show 0 < 2 by decide)
  unfold pixelIdx wrapTo
  pointwise [h0, h1, h2, h5]
  rfl

theorem pixel_col (p q : IVec S1024x7x10 32) (j : S1024x256x7x10x7x10.Idx) :
    pixelIdx p q (atSix j 1) = wrapTo 50#32 (IntOp.minsi (q (ValueIdx.ix3 (j 0) (j 4) (j 5))) 49#32) := by
  have h0 : (atSix j 1 0).val = (j 0).val := at0_val posSix _ 0 (j 0).isLt
  have h3 : (atSix j 1 3).val = (j 4).val := at0_val posSix _ 3 (j 4).isLt
  have h4 : (atSix j 1 4).val = (j 5).val := at0_val posSix _ 4 (j 5).isLt
  have h5 : (atSix j 1 5).val = 1 := at0_val posSix _ 5 (show 1 < 2 by decide)
  unfold pixelIdx wrapTo
  pointwise [h0, h3, h4, h5]
  rfl

/-- The reference's result from the image and the regions' images, positions and mask. -/
def resultOf (x : FVec Ideal S4x256x50x50 .f32) (img : IVec S1024 32) (p q : IVec S1024x7x10 32) (mk : IVec S1024x7x7x100 1) : FVec Ideal S1024x256x7x7 .f32 :=
  select (broadcastInDim S1024x256x7x7 ![0, 1, 2, 3] bcast_S1024x1x7x7_S1024x256x7x7_0_1_2_3 (broadcastInDim S1024x1x7x7 ![0, 2, 3] bcast_S1024x7x7_S1024x1x7x7_0_2_3 (noti (Host.reduce IntOp.ori mk (constantI S_ 1 0#1) reducesTo_S1024x7x7x100_S1024x7x7_d3 h_S_)))) (broadcastInDim S1024x256x7x7 ![1, 2, 3] bcast_S256x7x7_S1024x256x7x7_1_2_3 (broadcastInDim S256x7x7 ![] bcast_S_S256x7x7 (id (constant S_ .f32 0x00000000#32)))) (Host.reduce FloatOps.maximumf (select (broadcastInDim S1024x256x7x7x100 ![0, 1, 2, 3, 4] bcast_S1024x1x7x7x100_S1024x256x7x7x100_0_1_2_3_4 (broadcastInDim S1024x1x7x7x100 ![0, 2, 3, 4] bcast_S1024x7x7x100_S1024x1x7x7x100_0_2_3_4 mk)) (shapeCast _ (transpose S1024x256x7x7x10x10 [0, 1, 2, 4, 3, 5] (Host.gather G2 (shapeCast _ (Host.gather G1 x (imageIdx img)) shapeCasts_S1024x1x256x50x50_S1024x256x50x50) (pixelIdx p q)) transposes_S1024x256x7x10x7x10_S1024x256x7x7x10x10_0_1_2_4_3_5) shapeCasts_S1024x256x7x7x10x10_S1024x256x7x7x100) (broadcastInDim S1024x256x7x7x100 ![1, 2, 3, 4] bcast_S256x7x7x100_S1024x256x7x7x100_1_2_3_4 (broadcastInDim S256x7x7x100 ![] bcast_S_S256x7x7x100 (constant S_ .f32 0xFF7FFFFF#32)))) (constant S_ .f32 0xFF800000#32) reducesTo_S1024x256x7x7x100_S1024x256x7x7_d4 h_S_)

theorem take_region (x : FVec Ideal S4x256x50x50 .f32) (idx : IVec S1024x4 32) (R C h w : ℕ) (hR : R < 1024) (hC : C < 256) (hh : h < 50) (hw : w < 50) :
    shapeCast S1024x256x50x50 (Host.gather G1 x idx) shapeCasts_S1024x1x256x50x50_S1024x256x50x50 (at0 posFour ![R, C, h, w])
      = x (atImage (min (idx (at0 pos1024x4 ![R, 0])).toInt.toNat 3) C h w) := by
  rw [shapeCast_apply (t := S1024x256x50x50) _ _ _ (ValueIdx.ix5 ⟨R, hR⟩ 0 ⟨C, hC⟩ ⟨h, hh⟩ ⟨w, hw⟩ : S1024x1x256x50x50.Idx) ?_]
  · exact take_image x idx _
  · rw [Shape.rowMajor_val_four, Shape.rowMajor_val_five, show (at0 posFour ![R, C, h, w] 0).val = R from at0_val posFour _ 0 hR,
      show (at0 posFour ![R, C, h, w] 1).val = C from at0_val posFour _ 1 hC, show (at0 posFour ![R, C, h, w] 2).val = h from at0_val posFour _ 2 hh,
      show (at0 posFour ![R, C, h, w] 3).val = w from at0_val posFour _ 3 hw]
    show (((R * 1 + 0) * 256 + C) * 50 + h) * 50 + w = ((R * 256 + C) * 50 + h) * 50 + w
    omega

/-- The coordinate the reference reads for a position. -/
abbrev coordOf (v : BitVec 32) : ℕ := min (wrapTo 50#32 (IntOp.minsi v 49#32)).toInt.toNat 49

theorem coordOf_lt (v : BitVec 32) : coordOf v < 50 := by unfold coordOf; omega

/-- The reference's result at an index: the greatest of a hundred, each a pixel or the least float. -/
theorem result_at (x : FVec Ideal S4x256x50x50 .f32) (img : IVec S1024 32) (p q : IVec S1024x7x10 32) (mk : IVec S1024x7x7x100 1) (j : S1024x256x7x7.Idx) :
    resultOf x img p q mk j = Scalar.select (~~~(Finset.univ : Finset (Fin 100)).fold IntOp.ori 0#1 fun k => mk (ValueIdx.ix4 (j 0) (j 2) (j 3) k))
      (fzero : Ideal .f32)
      ((Finset.univ : Finset (Fin 100)).fold max (Ideal.ofBits .f32 0xFF800000#32) fun k => Scalar.select (mk (ValueIdx.ix4 (j 0) (j 2) (j 3) k))
        (x (atImage (min (wrapTo 4#32 (img (at1 (j 0).val))).toInt.toNat 3) (j 1).val
          (coordOf (p (ValueIdx.ix3 (j 0) (j 2) ⟨k.val / 10, by omega⟩))) (coordOf (q (ValueIdx.ix3 (j 0) (j 3) ⟨k.val % 10, by omega⟩)))))
        (Ideal.ofBits .f32 0xFF7FFFFF#32)) := by
  unfold resultOf
  pointwise
  simp only [take_pixels, pixel_row, pixel_col]
  refine congr (congrArg (Scalar.select _) (show Ideal.ofBits .f32 0x00000000#32 = (0 : EReal) by rw [lit_zero]; rfl)) ?_
  refine congrArg (fun f => Finset.fold max _ f Finset.univ) (funext fun k => ?_)
  refine congrFun (congrArg (Scalar.select _) ?_) _
  exact (take_region x (imageIdx img) (j 0).val (j 1).val _ _ (j 0).isLt (j 1).isLt (coordOf_lt _) (coordOf_lt _)).trans
    (congrArg (fun v : BitVec 32 => x (atImage (min v.toInt.toNat 3) (j 1).val _ _)) (image_idx img (j 0).val (j 0).isLt))

end Cert.Proof.Roi

end
-- ==== Proof.Roi.Max.lean ====
/-
  A bin's value by what bounds it from above, and the kernel's value of a bin so: the greatest of the bin's pixels and the
  least float, zero if the bin has no pixel.
-/
module

public import proofs.«01_k».proof.Proof.Roi.Layout

@[expose] public section

noncomputable section

namespace Cert.Proof.Roi

open Cert.KernelIdeal Cert.KernelIdeal.Gen
open Idealize.ShloMosaic Idealize.ShloMosaic.TcCoe

theorem neg_le_zero : (fneg : Ideal .f32) ≤ (fzero : Ideal .f32) := by
  show Ideal.ofBits .f32 0xFF7FFFFF#32 ≤ Ideal.ofBits .f32 0x00000000#32
  rw [lit_zero]
  simp [Ideal.ofBits, Ideal.ieee, -EReal.coe_mul]

/-- `v` is a bin's value: the rows from `hs` to `he` and columns from `ws` to `we` of channel `C` of image `b`. -/
def CellIs (x : FVec Ideal S4x256x50x50 .f32) (b C hs he ws we : ℕ) (v : Ideal .f32) : Prop :=
  if hs < he ∧ ws < we then
    ∀ z : EReal, v ≤ z ↔ (fneg : Ideal .f32) ≤ z ∧ ∀ h, hs ≤ h → h < he → ∀ w, ws ≤ w → w < we → x (atImage b C h w) ≤ z
  else v = (fzero : Ideal .f32)

theorem CellIs.unique {x : FVec Ideal S4x256x50x50 .f32} {b C hs he ws we : ℕ} {v v' : Ideal .f32} (h : CellIs x b C hs he ws we v)
    (h' : CellIs x b C hs he ws we v') : v = v' := by
  unfold CellIs at h h'
  split_ifs at h h'
  · exact eq_of_forall_ge_iff (α := EReal) fun z => (h z).trans (h' z).symm
  · rw [h, h']

theorem mchain_le (f : ℕ → Ideal .f32) (n : ℕ) (z : EReal) : (mchain f n : EReal) ≤ z ↔ ∀ k ≤ n, (f k : EReal) ≤ z := by
  induction n with
  | zero => exact ⟨fun h k hk => by rw [Nat.le_zero.mp hk]; exact h, fun h => h 0 le_rfl⟩
  | succ n ih =>
    show max (α := EReal) (mchain f n) (f (n + 1)) ≤ z ↔ _
    rw [max_le_iff, ih]
    exact ⟨fun h k hk => (Nat.lt_or_ge n k).elim (fun hk' => by rw [show k = n + 1 by omega]; exact h.2) (h.1 k),
      fun h => ⟨fun k hk => h k (by omega), h _ le_rfl⟩⟩

theorem mchain_const (c : Ideal .f32) (n : ℕ) : mchain (fun _ => c) n = c :=
  eq_of_forall_ge_iff (α := EReal) fun z => (mchain_le _ n z).trans ⟨fun h => h 0 (Nat.zero_le n), fun h _ _ => h⟩

/-- The kernel's value of a bin. -/
theorem cell_is (x : FVec Ideal S4x256x50x50 .f32) (T : tabM.view.ty.Contents (Elt Ideal)) (w : ℕ → BitVec 32)
    (g cc li pw ph l hs he ws we : ℕ) (hg : g < 2) (hcc : cc < 16) (hli : li < 2) (hl : l < 16)
    (hT : ∀ n < 80000, tv T n = fvw (featFn x) cc (80000 * g + n))
    (ehs : (w ph).toNat = hs) (ehl : (w (8 + ph)).toNat = he - hs) (ews : (w (16 + pw)).toNat = ws) (ewl : (w (24 + pw)).toNat = we - ws)
    (e0 : (w 16).toNat ≤ ws) (hhe : he ≤ 50) (hwe : we ≤ 50) (hw9 : we ≤ ws + 9) :
    CellIs x (2 * g + li) (16 * cc + l) hs he ws we (cellSpec T li w pw ph l) := by
  have zero_iff (v : BitVec 32) : v = 0#32 ↔ v.toNat = 0 := ⟨fun h => by rw [h]; rfl, fun h => BitVec.eq_of_toNat_eq h⟩
  have hz : max (α := EReal) (fneg : Ideal .f32) (fzero : Ideal .f32) = (fzero : Ideal .f32) := max_eq_right neg_le_zero
  unfold CellIs cellSpec
  by_cases hw : ws < we
  · rw [if_neg (show ¬ w (24 + pw) = 0#32 by rw [zero_iff]; omega)]
    by_cases hh : hs < he
    · rw [if_pos ⟨hh, hw⟩]
      intro z
      show max (α := EReal) (mchain (F := Ideal) _ 9) (fneg : Ideal .f32) ≤ z ↔ _
      rw [max_le_iff, mchain_le, and_comm]
      refine and_congr_right fun _ => ?_
      have hrow (c : ℕ) : (rowSpec T li w ph c : EReal) ≤ z ↔ ∀ k ≤ he - hs - 1, (tv T (rowB li (w 16) (w ph) + c + 800 * k) : EReal) ≤ z := by
        unfold rowSpec
        rw [if_neg (show ¬ w (8 + ph) = 0#32 by rw [zero_iff]; omega), ehl]
        exact mchain_le _ _ z
      have hcell (k n : ℕ) (hk : k ≤ he - hs - 1) (hn : n < we - ws) :
          tv T (rowB li (w 16) (w ph) + ((ws - (w 16).toNat + n) * 16 + l) + 800 * k) = x (atImage (2 * g + li) (16 * cc + l) (hs + k) (ws + n)) := by
        rw [← feat_at x (2 * g + li) cc l (hs + k) (ws + n) (by omega) hcc hl (by omega) (by omega)]
        have e : rowB li (w 16) (w ph) + ((ws - (w 16).toNat + n) * 16 + l) + 800 * k = ((li * 50 + (hs + k)) * 50 + (ws + n)) * 16 + l := by
          unfold rowB; rw [ehs]; omega
        rw [e, hT _ (by omega)]
        congr 1
        omega
      rw [ews, ewl]
      constructor
      · intro H h h1 h2 v v1 v2
        have := (hrow _).mp (H (v - ws) (by omega)) (h - hs) (by omega)
        rw [Nat.min_eq_left (by omega), hcell _ _ (by omega) (by omega), show hs + (h - hs) = h by omega, show ws + (v - ws) = v by omega] at this
        exact this
      · intro H k _
        refine (hrow _).mpr fun k' hk' => ?_
        rw [hcell k' _ hk' (by omega)]
        exact H _ (by omega) (by omega) _ (by omega) (by omega)
    · rw [if_neg (fun h => hh h.1)]
      have e : (fun k => rowSpec T li w ph (((w (16 + pw)).toNat - (w 16).toNat + min k ((w (24 + pw)).toNat - 1)) * 16 + l)) = fun _ => (fzero : Ideal .f32) := by
        funext k; unfold rowSpec
        rw [if_pos (show w (8 + ph) = 0#32 by rw [zero_iff]; omega)]
      rw [e, mchain_const]
      show max (α := EReal) (fzero : Ideal .f32) (fneg : Ideal .f32) = _
      rw [max_comm]; exact hz
  · rw [if_pos (show w (24 + pw) = 0#32 by rw [zero_iff]; omega), if_neg (fun h => hw h.2), mchain_const]
    exact hz

end Cert.Proof.Roi

end
-- ==== Proof.Roi.RefCell.lean ====
/-
  The reference's value of a bin: the greatest of the bin's pixels and the least float, zero if the bin has no pixel.
-/
module

public import proofs.«01_k».proof.Proof.Roi.RefRead
public import proofs.«01_k».proof.Proof.Roi.Max

@[expose] public section

noncomputable section

namespace Cert.Proof.Roi

open Cert.ReferenceIdeal Cert.ReferenceIdeal.Gen Cert.ReferenceIdeal.Value
open Idealize.ShloMosaic Idealize.ShloMosaic.TcCoe

theorem slt_small (a b : BitVec 32) (ha : a.toNat ≤ 100) (hb : b.toNat ≤ 100) : IntOp.cmpi .slt a b = 1#1 ↔ a.toNat < b.toNat := by
  have ofBool_one (p : Bool) : (BitVec.ofBool p = 1#1) ↔ p = true := by cases p <;> decide
  show BitVec.ofBool (a.slt b) = 1#1 ↔ _
  rw [ofBool_one, BitVec.slt_eq_decide, decide_eq_true_eq, BitVec.toInt_eq_toNat_of_lt (by omega), BitVec.toInt_eq_toNat_of_lt (by omega)]
  omega

theorem one_or_zero (v : BitVec 1) : v = 1#1 ∨ v = 0#1 := by revert v; decide

theorem wrap_small (n v : BitVec 32) (h : v.toNat ≤ 100) : wrapTo n v = v := by
  unfold wrapTo
  have h0 : ¬ IntOp.cmpi .slt v 0#32 = 1#1 := by
    rw [slt_small v 0#32 h (by decide)]; exact Nat.not_lt_zero _
  exact if_neg h0

theorem coord_small (v : BitVec 32) (h : v.toNat ≤ 49) : coordOf v = v.toNat := by
  unfold coordOf
  have e : IntOp.minsi v 49#32 = v := by
    have h49 : (49#32).toInt = 49 := rfl
    have hv : v.toInt = v.toNat := BitVec.toInt_eq_toNat_of_lt (by omega)
    unfold IntOp.minsi
    simp only [BitVec.slt_eq_decide, decide_eq_true_eq, h49, hv]
    split_ifs with hc
    · rfl
    · exact BitVec.eq_of_toNat_eq (by show 49 = v.toNat; omega)
  rw [e, wrap_small _ _ (by omega), BitVec.toInt_eq_toNat_of_lt (by omega)]
  omega

theorem spread_at (s : IVec S1024x7 32) (R : Fin 1024) (p : Fin 7) (k : Fin 10) :
    spreadOf s (ValueIdx.ix3 R p k) = s (at7 R.val p.val) + BitVec.ofNat 32 k.val := by
  have e : (at7 R.val p.val : S1024x7.Idx) = ValueIdx.ix2 R p := by
    refine at0_eq pos1024x7 _ _ ?_
    intro a
    match a with
    | 0 => rfl
    | 1 => rfl
  rw [e]
  unfold spreadOf
  pointwise
  rfl

theorem add_small (a : BitVec 32) (k : ℕ) (ha : a.toNat ≤ 50) (hk : k < 10) : (a + BitVec.ofNat 32 k).toNat = a.toNat + k := by
  rw [BitVec.toNat_add, BitVec.toNat_ofNat, Nat.mod_eq_of_lt (show k < 2 ^ 32 by omega), Nat.mod_eq_of_lt (by omega)]

theorem img_at (ids : FVec Ideal S4 .f32) (R : ℕ) (hR : R < 1024) : imgOf ids (at1 R) = idOf ids (R / 256) := by
  have h0 : (at1 R 0).val = R := at0_val posS1024 _ 0 hR
  unfold imgOf
  pointwise [h0]
  refine congrArg (fun x => FloatOps.fptosi 32 (ids x)) (at0_eq posS4 _ _ ?_).symm
  intro a
  match a with
  | 0 => rfl

/-- Some position is in the bin. -/
theorem fold_or (f : Fin 100 → BitVec 1) : (Finset.univ : Finset (Fin 100)).fold IntOp.ori 0#1 f = 1#1 ↔ ∃ k, f k = 1#1 := by
  have h (s : Finset (Fin 100)) : s.fold IntOp.ori 0#1 f = 1#1 ↔ ∃ k ∈ s, f k = 1#1 := by
    induction s using Finset.induction_on with
    | empty => simp
    | insert a s ha ih =>
      rw [Finset.fold_insert ha]
      have e (u v : BitVec 1) : IntOp.ori u v = 1#1 ↔ u = 1#1 ∨ v = 1#1 := by revert u v; decide
      rw [e, ih, Finset.exists_mem_insert]
  rw [h]; simp

theorem lit_bot : Ideal.ofBits .f32 0xFF800000#32 = (⊥ : EReal) := by
  simp [Ideal.ofBits, Ideal.ieee]

section Cell

variable (x : FVec Ideal S4x256x50x50 .f32) (ids : FVec Ideal S4 .f32) (rois : FVec Ideal S4x256x4 .f32)

/-- The reference's result as a function of its arguments. -/
abbrev refOf : FVec Ideal S1024x256x7x7 .f32 := resultOf x (imgOf ids) (spreadOf (hsOf rois)) (spreadOf (wsOf rois)) (maskOf rois)

theorem mask_iff (hB : Bounded rois) (R : Fin 1024) (ph pw : Fin 7) (k : Fin 100) : maskOf rois (ValueIdx.ix4 R ph pw k : S1024x7x7x100.Idx) = 1#1
    ↔ (hsOf rois (at7 R.val ph.val)).toNat + k.val / 10 < (heOf rois (at7 R.val ph.val)).toNat
      ∧ (wsOf rois (at7 R.val pw.val)).toNat + k.val % 10 < (weOf rois (at7 R.val pw.val)).toNat := by
  obtain ⟨-, h1, -, h3, h4⟩ := rows_order rois hB R.val R.isLt ph.val ph.isLt
  obtain ⟨-, w1, -, w3, w4⟩ := cols_order rois hB R.val R.isLt pw.val pw.isLt
  have hk := k.isLt
  have e (u v : BitVec 1) : IntOp.andi u v = 1#1 ↔ u = 1#1 ∧ v = 1#1 := by revert u v; decide
  have a1 := add_small (hsOf rois (at7 R.val ph.val)) (k.val / 10) (by omega) (by omega)
  have a2 := add_small (wsOf rois (at7 R.val pw.val)) (k.val % 10) (by omega) (by omega)
  rw [mask_at, e, slt_small _ _ (by omega) (by omega), slt_small _ _ (by omega) (by omega), a1, a2]

theorem ref_cell (hI : OwnImages ids) (hB : Bounded rois) (j : S1024x256x7x7.Idx) :
    CellIs x (idOf ids ((j 0).val / 256)).toNat (j 1).val (hsOf rois (at7 (j 0).val (j 2).val)).toNat (heOf rois (at7 (j 0).val (j 2).val)).toNat
      (wsOf rois (at7 (j 0).val (j 3).val)).toNat (weOf rois (at7 (j 0).val (j 3).val)).toNat (refOf x ids rois j) := by
  have hR : (j 0).val < 1024 := (j 0).isLt
  have hph : (j 2).val < 7 := (j 2).isLt
  have hpw : (j 3).val < 7 := (j 3).isLt
  obtain ⟨-, h1, -, h3, h4⟩ := rows_order rois hB (j 0).val hR (j 2).val hph
  obtain ⟨-, w1, -, w3, w4⟩ := cols_order rois hB (j 0).val hR (j 3).val hpw
  obtain ⟨i1, i2⟩ := hI ((j 0).val / 256) (by omega)
  have hm := mask_iff rois hB (j 0) (j 2) (j 3)
  rw [refOf, result_at]
  unfold CellIs
  by_cases hc : (hsOf rois (at7 (j 0).val (j 2).val)).toNat < (heOf rois (at7 (j 0).val (j 2).val)).toNat
      ∧ (wsOf rois (at7 (j 0).val (j 3).val)).toNat < (weOf rois (at7 (j 0).val (j 3).val)).toNat
  · rw [if_pos hc, (fold_or _).mpr ⟨0, (hm 0).mpr (by simpa using hc)⟩]
    intro z
    have e0 (a b : EReal) : Scalar.select (~~~(1#1)) a b = b := rfl
    rw [e0, Finset.fold_max_le, lit_bot]
    have hcell (k : Fin 100) (hk : maskOf rois (ValueIdx.ix4 (j 0) (j 2) (j 3) k : S1024x7x7x100.Idx) = 1#1) :
        x (atImage (min (wrapTo 4#32 (imgOf ids (at1 (j 0).val))).toInt.toNat 3) (j 1).val
          (coordOf (spreadOf (hsOf rois) (ValueIdx.ix3 (j 0) (j 2) ⟨k.val / 10, by omega⟩))) (coordOf (spreadOf (wsOf rois) (ValueIdx.ix3 (j 0) (j 3) ⟨k.val % 10, by omega⟩))))
        = x (atImage (idOf ids ((j 0).val / 256)).toNat (j 1).val ((hsOf rois (at7 (j 0).val (j 2).val)).toNat + k.val / 10) ((wsOf rois (at7 (j 0).val (j 3).val)).toNat + k.val % 10)) := by
      obtain ⟨m1, m2⟩ := (hm k).mp hk
      have hk100 := k.isLt
      have a1 := add_small (hsOf rois (at7 (j 0).val (j 2).val)) (k.val / 10) (by omega) (by omega)
      have a2 := add_small (wsOf rois (at7 (j 0).val (j 3).val)) (k.val % 10) (by omega) (by omega)
      have cb : min (wrapTo 4#32 (imgOf ids (at1 (j 0).val))).toInt.toNat 3 = (idOf ids ((j 0).val / 256)).toNat := by
        rw [img_at ids _ hR, wrap_small _ _ (by omega), BitVec.toInt_eq_toNat_of_lt (by omega), Int.toNat_natCast, Nat.min_eq_left (by omega)]
      have c1 := ((congrArg coordOf (spread_at (hsOf rois) (j 0) (j 2) ⟨k.val / 10, by omega⟩)).trans (coord_small _ (a1.trans_le (by omega)))).trans a1
      have c2 := ((congrArg coordOf (spread_at (wsOf rois) (j 0) (j 3) ⟨k.val % 10, by omega⟩)).trans (coord_small _ (a2.trans_le (by omega)))).trans a2
      exact congrArg x (congr (congr (congrArg (fun b => atImage b (j 1).val) cb) c1) c2)
    constructor
    · rintro ⟨-, H⟩
      refine ⟨?_, fun h g1 g2 w v1 v2 => ?_⟩
      · have := H 99 (Finset.mem_univ _)
        have h99 : maskOf rois (ValueIdx.ix4 (j 0) (j 2) (j 3) 99 : S1024x7x7x100.Idx) = 0#1 :=
          (one_or_zero _).resolve_left fun h => by
            have := ((hm 99).mp h).1
            have e99 : (99 : Fin 100).val / 10 = 9 := rfl
            omega
        rw [h99] at this
        exact this
      · have hlt : (h - (hsOf rois (at7 (j 0).val (j 2).val)).toNat) * 10 + (w - (wsOf rois (at7 (j 0).val (j 3).val)).toNat) < 100 := by omega
        have hk := (hm ⟨_, hlt⟩).mpr (by dsimp only; omega)
        have := H ⟨_, hlt⟩ (Finset.mem_univ _)
        rw [hcell _ hk, hk] at this
        have ea : (hsOf rois (at7 (j 0).val (j 2).val)).toNat + ((h - (hsOf rois (at7 (j 0).val (j 2).val)).toNat) * 10 + (w - (wsOf rois (at7 (j 0).val (j 3).val)).toNat)) / 10 = h := by omega
        have eb : (wsOf rois (at7 (j 0).val (j 3).val)).toNat + ((h - (hsOf rois (at7 (j 0).val (j 2).val)).toNat) * 10 + (w - (wsOf rois (at7 (j 0).val (j 3).val)).toNat)) % 10 = w := by omega
        dsimp only at this
        rw [ea, eb] at this
        exact this
    · rintro ⟨hn, H⟩
      refine ⟨bot_le, fun k _ => ?_⟩
      rcases one_or_zero (maskOf rois (ValueIdx.ix4 (j 0) (j 2) (j 3) k : S1024x7x7x100.Idx)) with hk | hk
      · rw [hcell k hk, hk]
        obtain ⟨m1, m2⟩ := (hm k).mp hk
        exact H _ (by omega) m1 _ (by omega) m2
      · rw [hk]; exact hn
  · have h0 : ((Finset.univ : Finset (Fin 100)).fold IntOp.ori 0#1 fun k => maskOf rois (ValueIdx.ix4 (j 0) (j 2) (j 3) k : S1024x7x7x100.Idx)) = 0#1 :=
      (one_or_zero _).resolve_left fun h => by
        obtain ⟨k, hk⟩ := (fold_or _).mp h
        have := (hm k).mp hk
        omega
    rw [if_neg hc, h0]
    rfl

end Cell

end Cert.Proof.Roi

end
-- ==== Proof.Roi.Alg.lean ====
/-
  The kernel's result is the reference's on every launch in range: both hold each bin's value.
-/
module

public import proofs.«01_k».proof.Defs
public import proofs.«01_k».proof.Proof.Roi.RefCell

@[expose] public section

noncomputable section

namespace Cert.Proof.Roi

open Cert.KernelIdeal Cert.KernelIdeal.Gen
open Idealize.ShloMosaic Idealize.ShloMosaic.TcCoe Idealize.SL.Sem Idealize.ShloMosaic.StableHlo

/-- The kernel's result at an index. -/
theorem kernel_cell (m : (ℓ : Loc nD τ sig) → Buf (Elt Ideal) ℓ) (d : Dev nD) (hI : OwnImages (argIds m d)) (hB : Bounded (argRois m d))
    (g : outH.view.ty.Contents (Elt Ideal)) (hg : OutIs (fvOf m) (fmOf m) d g) (j : S1024x256x7x7.Idx) :
    CellIs (argImage m d) (idOf (argIds m d) ((j 0).val / 256)).toNat (j 1).val
      (hsOf (argRois m d) (at7 (j 0).val (j 2).val)).toNat (heOf (argRois m d) (at7 (j 0).val (j 2).val)).toNat
      (wsOf (argRois m d) (at7 (j 0).val (j 3).val)).toNat (weOf (argRois m d) (at7 (j 0).val (j 3).val)).toNat (backFn g j) := by
  have hR : (j 0).val < 1024 := (j 0).isLt
  have hC : (j 1).val < 256 := (j 1).isLt
  have hph : (j 2).val < 7 := (j 2).isLt
  have hpw : (j 3).val < 7 := (j 3).isLt
  have hc : (j 0).val / 512 < 2 := by omega
  have hs : (j 1).val / 16 < 16 := by omega
  have hr : (j 0).val % 512 < 512 := by omega
  obtain ⟨i, ei0, ei1, T, w, hT, hM, hD⟩ : ∃ i : grid0.Coords, (i 0).val = (j 0).val / 512 ∧ (i 1).val = (j 1).val / 16
      ∧ RowFact (fvOf m) (fmOf m) d i ((j 0).val % 512) g := ⟨coordsV ⟨_, hc⟩ ⟨_, hs⟩, rfl, rfl, hg ⟨_, hc⟩ ⟨_, hs⟩ _ hr⟩
  have hgood := good_of (argIds m d) (argRois m d) hB hM _ hr
  obtain ⟨e31, ehs, ehl, ews, ewl⟩ := row_words (argIds m d) (argRois m d) hM _ hr
  have hcell := hD hgood (j 3).val hpw (j 2).val hph ((j 1).val % 16) (by omega)
  have eR : 512 * ((j 0).val / 512) + (j 0).val % 512 = (j 0).val := by omega
  rw [ei0, eR] at e31 ehs ehl ews ewl hcell
  rw [ei1] at hcell
  obtain ⟨i1, i2⟩ := hI ((j 0).val / 256) (by omega)
  have hli : liOf i (wOf w ((j 0).val % 512)) = (idOf (argIds m d) ((j 0).val / 256)).toNat - 2 * ((j 0).val / 512) := by
    unfold liOf; rw [e31, ei0]
  have hT' : ∀ n < 80000, tv T n = fvw (featFn (argImage m d)) ((j 1).val / 16) (80000 * ((j 0).val / 512) + n) := fun n hn => by
    rw [hT n hn, ei0, ei1]
  obtain ⟨-, h1, -, h3, h4⟩ := rows_order _ hB (j 0).val hR (j 2).val hph
  obtain ⟨w0, w1, -, w3, w4⟩ := cols_order _ hB (j 0).val hR (j 3).val hpw
  have key := cell_is (argImage m d) T (wOf w ((j 0).val % 512)) ((j 0).val / 512) ((j 1).val / 16) ((idOf (argIds m d) ((j 0).val / 256)).toNat - 2 * ((j 0).val / 512))
    (j 3).val (j 2).val ((j 1).val % 16) _ _ _ _ hc hs (by omega) (by omega) hT'
    (by rw [ehs _ hph]) (by rw [ehl _ hph]; exact sub_small _ _ h1) (by rw [ews _ hpw]) (by rw [ewl _ hpw]; exact sub_small _ _ w1)
    (by rw [show wOf w ((j 0).val % 512) 16 = _ from ews 0 (by omega)]; exact w0) h4 w4 w3
  rw [back_at, hcell, hli]
  rw [show 2 * ((j 0).val / 512) + ((idOf (argIds m d) ((j 0).val / 256)).toNat - 2 * ((j 0).val / 512)) = (idOf (argIds m d) ((j 0).val / 256)).toNat by omega,
    show 16 * ((j 1).val / 16) + (j 1).val % 16 = (j 1).val by omega] at key
  exact key

/-- The two results are one. -/
theorem result_eq (m : (ℓ : Loc nD τ sig) → Buf (Elt Ideal) ℓ) (d : Dev nD) (hI : OwnImages (argIds m d)) (hB : Bounded (argRois m d))
    (g : outH.view.ty.Contents (Elt Ideal)) (hg : OutIs (fvOf m) (fmOf m) d g) : backFn g = refOf (argImage m d) (argIds m d) (argRois m d) :=
  funext fun j => (kernel_cell m d hI hB g hg j).unique (ref_cell _ _ _ hI hB j)

open Cert.ReferenceIdeal.Value in
/-- The reference's run leaves its result as the function of its arguments above. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v176)
          = refOf (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) := by
  refine (θ_run (Cert.ReferenceIdeal.defs (F := Ideal)) _ _).mono (fun r h c => ⟨?_, (h c).2⟩) (Cert.ReferenceIdeal.Value.run m ρ)
  refine (h c).1.trans ?_
  show _ = refOf (refImage (launchContents m c)) (refIds (launchContents m c)) (refRois (launchContents m c))
  unfold refOf resultOf
  rw [← ref_mask, ← ref_h, ← ref_w, ← ref_img]
  rfl

theorem algebraic : Cert.algebraic_KernelIdeal_ReferenceIdeal := by
  intro m g m' g' hp ha
  have hr : ∀ d, OwnImages (argIds m d) ∧ Bounded (argRois m d) := fun d => of_in_range _ _ _ (hp d)
  have hT : TablesOK (fmOf m) := tables_ok m (fun d => (hr d).1) (fun d => in_order _ (hr d).2)
  refine ⟨fun c => refOf (argImage m c) (argIds m c) (argRois m c), ?_, ?_⟩
  · refine (θ_run (Cert.KernelIdeal.defs (F := Ideal)) _ _).mono (fun r h c => ?_) (run_main (F := Ideal) m g hT)
    obtain ⟨hA, o, ho, hv⟩ := h.1 c
    exact ⟨hv.trans (result_eq m c (hr c).1 (hr c).2 o ho), hA⟩
  · refine (θ_run (Cert.ReferenceIdeal.defs (F := Ideal)) _ _).mono (fun r h c => ⟨(h c).1.trans ?_, (h c).2⟩) (ref_run m' g')
    obtain ⟨a0, a1, a2⟩ := ha c
    rw [a0, a1, a2]

end Cert.Proof.Roi

end
-- ==== Proof.lean ====
/- The certificate: each claim from the module which proves it. -/
module

public import proofs.«01_k».proof.Defs
public import proofs.«01_k».proof.Proof.Roi.Frames
public import proofs.«01_k».proof.Proof.Roi.Alg
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_bins_in_order

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_bins_in_order.Gen.facts, Cert.Pre_in_range.Gen.facts,
    Roi.frame_kernel, Roi.frame_ideal, Roi.frame_ideal_bins, Roi.frame_reference,
    fun m ρ _ => Roi.frame_reference m ρ trivial, trivial, Roi.algebraic⟩

end Cert.Proof

end
